-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2600x1x16x512 : Shape := ⟨4, ![2600, 1, 16, 512]⟩
abbrev S2600x1x16x64 : Shape := ⟨4, ![2600, 1, 16, 64]⟩
abbrev S2600x1x512 : Shape := ⟨3, ![2600, 1, 512]⟩
abbrev S2600x1x64 : Shape := ⟨3, ![2600, 1, 64]⟩
abbrev S2600x256x656 : Shape := ⟨3, ![2600, 256, 656]⟩
abbrev S2600 : Shape := ⟨1, ![2600]⟩
abbrev S2600x256x512 : Shape := ⟨3, ![2600, 256, 512]⟩
abbrev S2600x256x16 : Shape := ⟨3, ![2600, 256, 16]⟩
abbrev S2600x256x4x4 : Shape := ⟨4, ![2600, 256, 4, 4]⟩
abbrev S2600x256x4 : Shape := ⟨3, ![2600, 256, 4]⟩
abbrev S2600x256x128 : Shape := ⟨3, ![2600, 256, 128]⟩
abbrev S2600x256x64x2 : Shape := ⟨4, ![2600, 256, 64, 2]⟩
abbrev S2600x256x64 : Shape := ⟨3, ![2600, 256, 64]⟩
abbrev S_ : Shape := ⟨0, ![]⟩
abbrev S2600x1x1 : Shape := ⟨3, ![2600, 1, 1]⟩

class Facts : Prop where
  slices_S2600x256x656_S2600x256x512_0_0_0 : S2600x256x656.Slices ![0, 0, 0] S2600x256x512
  slices_S2600x256x656_S2600x256x16_0_0_512 : S2600x256x656.Slices ![0, 0, 512] S2600x256x16
  shapeCasts_S2600x256x16_S2600x256x4x4 : S2600x256x16.ShapeCasts S2600x256x4x4
  splits_S2600x256x4_w32_S2600x256x4x4_w8 : S2600x256x4.SplitsWords 32 S2600x256x4x4 8
  slices_S2600x256x656_S2600x256x128_0_0_528 : S2600x256x656.Slices ![0, 0, 528] S2600x256x128
  shapeCasts_S2600x256x128_S2600x256x64x2 : S2600x256x128.ShapeCasts S2600x256x64x2
  splits_S2600x256x64_w16_S2600x256x64x2_w8 : S2600x256x64.SplitsWords 16 S2600x256x64x2 8
  bcast_S_S2600x1x16x512 : S_.BroadcastsInDim S2600x1x16x512 (![] : Fin 0 → Fin S2600x1x16x512.rank)
  reducesTo_S2600x1x16x512_S_d0_1_2_3 : S2600x1x16x512.ReducesTo [0, 1, 2, 3] S_
  h_S_ : 0 < S_.numel
  bcast_S_S2600x1x16x64 : S_.BroadcastsInDim S2600x1x16x64 (![] : Fin 0 → Fin S2600x1x16x64.rank)
  reducesTo_S2600x1x16x64_S_d0_1_2_3 : S2600x1x16x64.ReducesTo [0, 1, 2, 3] S_
  bcast_S_S2600x1x512 : S_.BroadcastsInDim S2600x1x512 (![] : Fin 0 → Fin S2600x1x512.rank)
  reducesTo_S2600x1x512_S_d0_1_2 : S2600x1x512.ReducesTo [0, 1, 2] S_
  bcast_S_S2600x1x64 : S_.BroadcastsInDim S2600x1x64 (![] : Fin 0 → Fin S2600x1x64.rank)
  reducesTo_S2600x1x64_S_d0_1_2 : S2600x1x64.ReducesTo [0, 1, 2] S_
  bcast_S_S2600x256x512 : S_.BroadcastsInDim S2600x256x512 (![] : Fin 0 → Fin S2600x256x512.rank)
  bcast_S2600_S2600x1x1_0 : S2600.BroadcastsInDim S2600x1x1 (![0] : Fin 1 → Fin S2600x1x1.rank)
  bcast_S2600x1x1_S2600x256x512_0_1_2 : S2600x1x1.BroadcastsInDim S2600x256x512 (![0, 1, 2] : Fin 3 → Fin S2600x256x512.rank)
  reducesTo_S2600x256x512_S_d0_1_2 : S2600x256x512.ReducesTo [0, 1, 2] S_
  bcast_S_S2600x256x4 : S_.BroadcastsInDim S2600x256x4 (![] : Fin 0 → Fin S2600x256x4.rank)
  bcast_S2600x1x1_S2600x256x4_0_1_2 : S2600x1x1.BroadcastsInDim S2600x256x4 (![0, 1, 2] : Fin 3 → Fin S2600x256x4.rank)
  reducesTo_S2600x256x4_S_d0_1_2 : S2600x256x4.ReducesTo [0, 1, 2] S_
  bcast_S_S2600x256x64 : S_.BroadcastsInDim S2600x256x64 (![] : Fin 0 → Fin S2600x256x64.rank)
  bcast_S2600x1x1_S2600x256x64_0_1_2 : S2600x1x1.BroadcastsInDim S2600x256x64 (![0, 1, 2] : Fin 3 → Fin S2600x256x64.rank)
  reducesTo_S2600x256x64_S_d0_1_2 : S2600x256x64.ReducesTo [0, 1, 2] S_

variable [Facts]

def fn_part3 {F : FTy → Type} [FloatOps F] (main_v47 : IVec S_ 1) (main_v56 : IVec S_ 1) : IVec S_ 1 :=
  let main_v57 : IVec S_ 1 := andi main_v47 main_v56
  main_v57

def fn_part2 {F : FTy → Type} [FloatOps F] (main_arg5 : IVec S2600 32) (main_v3 : FVec F S2600x256x4 .f32) (main_v6 : FVec F S2600x256x64 .bf16) (main_v25 : IVec S_ 1) (main_v36 : IVec S_ 1) : IVec S_ 1 :=
  let main_v37 : IVec S_ 1 := andi main_v25 main_v36
  let main_v38 : FVec F S2600x256x4 .f32 := Host.absf main_v3
  let main_cst_9 : FVec F S_ .f32 := constant S_ .f32 0x7F800000#32
  let main_v39 : FVec F S2600x256x4 .f32 := broadcastInDim S2600x256x4 ![] bcast_S_S2600x256x4 main_cst_9
  let main_v40 : IVec S2600x256x4 1 := cmpf .olt main_v38 main_v39
  let main_v41 : IVec S2600x256x4 32 := iotaInDim S2600x256x4 32 1
  let main_v42 : IVec S2600x1x1 32 := broadcastInDim S2600x1x1 ![0] bcast_S2600_S2600x1x1_0 main_arg5
  let main_v43 : IVec S2600x256x4 32 := broadcastInDim S2600x256x4 ![0, 1, 2] bcast_S2600x1x1_S2600x256x4_0_1_2 main_v42
  let main_v44 : IVec S2600x256x4 1 := cmpi .sge main_v41 main_v43
  let main_v45 : IVec S2600x256x4 1 := ori main_v44 main_v40
  let main_c_10 : IVec S_ 1 := constantI S_ 1 1#1
  let main_v46 : IVec S_ 1 := (fun x v => Host.reduce IntOp.andi x v reducesTo_S2600x256x4_S_d0_1_2 h_S_) main_v45 main_c_10
  let main_v47 : IVec S_ 1 := andi main_v37 main_v46
  let main_v48 : FVec F S2600x256x64 .bf16 := Host.absf main_v6
  let main_cst_11 : FVec F S_ .bf16 := constant S_ .bf16 0x7F80#16
  let main_v49 : FVec F S2600x256x64 .bf16 := broadcastInDim S2600x256x64 ![] bcast_S_S2600x256x64 main_cst_11
  let main_v50 : IVec S2600x256x64 1 := cmpf .olt main_v48 main_v49
  let main_v51 : IVec S2600x256x64 32 := iotaInDim S2600x256x64 32 1
  let main_v52 : IVec S2600x1x1 32 := broadcastInDim S2600x1x1 ![0] bcast_S2600_S2600x1x1_0 main_arg5
  let main_v53 : IVec S2600x256x64 32 := broadcastInDim S2600x256x64 ![0, 1, 2] bcast_S2600x1x1_S2600x256x64_0_1_2 main_v52
  let main_v54 : IVec S2600x256x64 1 := cmpi .sge main_v51 main_v53
  let main_v55 : IVec S2600x256x64 1 := ori main_v54 main_v50
  let main_c_12 : IVec S_ 1 := constantI S_ 1 1#1
  let main_v56 : IVec S_ 1 := (fun x v => Host.reduce IntOp.andi x v reducesTo_S2600x256x64_S_d0_1_2 h_S_) main_v55 main_c_12
  fn_part3 (F := F) main_v47 main_v56

def fn_part1 {F : FTy → Type} [FloatOps F] (main_arg3 : FVec F S2600x1x64 .bf16) (main_arg5 : IVec S2600 32) (main_v0 : IVec S2600x256x512 8) (main_v3 : FVec F S2600x256x4 .f32) (main_v6 : FVec F S2600x256x64 .bf16) (main_v15 : IVec S_ 1) (main_v18 : IVec S2600x1x512 1) : IVec S_ 1 :=
  let main_c_3 : IVec S_ 1 := constantI S_ 1 1#1
  let main_v19 : IVec S_ 1 := (fun x v => Host.reduce IntOp.andi x v reducesTo_S2600x1x512_S_d0_1_2 h_S_) main_v18 main_c_3
  let main_v20 : IVec S_ 1 := andi main_v15 main_v19
  let main_v21 : FVec F S2600x1x64 .bf16 := Host.absf main_arg3
  let main_cst_4 : FVec F S_ .bf16 := constant S_ .bf16 0x7F80#16
  let main_v22 : FVec F S2600x1x64 .bf16 := broadcastInDim S2600x1x64 ![] bcast_S_S2600x1x64 main_cst_4
  let main_v23 : IVec S2600x1x64 1 := cmpf .olt main_v21 main_v22
  let main_c_5 : IVec S_ 1 := constantI S_ 1 1#1
  let main_v24 : IVec S_ 1 := (fun x v => Host.reduce IntOp.andi x v reducesTo_S2600x1x64_S_d0_1_2 h_S_) main_v23 main_c_5
  let main_v25 : IVec S_ 1 := andi main_v20 main_v24
  let main_c_6 : IVec S_ 8 := constantI S_ 8 127#8
  let main_v26 : IVec S2600x256x512 8 := broadcastInDim S2600x256x512 ![] bcast_S_S2600x256x512 main_c_6
  let main_v27 : IVec S2600x256x512 1 := cmpi .ne main_v0 main_v26
  let main_c_7 : IVec S_ 8 := constantI S_ 8 255#8
  let main_v28 : IVec S2600x256x512 8 := broadcastInDim S2600x256x512 ![] bcast_S_S2600x256x512 main_c_7
  let main_v29 : IVec S2600x256x512 1 := cmpi .ne main_v0 main_v28
  let main_v30 : IVec S2600x256x512 1 := andi main_v27 main_v29
  let main_v31 : IVec S2600x256x512 32 := iotaInDim S2600x256x512 32 1
  let main_v32 : IVec S2600x1x1 32 := broadcastInDim S2600x1x1 ![0] bcast_S2600_S2600x1x1_0 main_arg5
  let main_v33 : IVec S2600x256x512 32 := broadcastInDim S2600x256x512 ![0, 1, 2] bcast_S2600x1x1_S2600x256x512_0_1_2 main_v32
  let main_v34 : IVec S2600x256x512 1 := cmpi .sge main_v31 main_v33
  let main_v35 : IVec S2600x256x512 1 := ori main_v34 main_v30
  let main_c_8 : IVec S_ 1 := constantI S_ 1 1#1
  let main_v36 : IVec S_ 1 := (fun x v => Host.reduce IntOp.andi x v reducesTo_S2600x256x512_S_d0_1_2 h_S_) main_v35 main_c_8
  fn_part2 (F := F) main_arg5 main_v3 main_v6 main_v25 main_v36

def fn {F : FTy → Type} [FloatOps F] (main_arg0 : FVec F S2600x1x16x512 .bf16) (main_arg1 : FVec F S2600x1x16x64 .bf16) (main_arg2 : FVec F S2600x1x512 .bf16) (main_arg3 : FVec F S2600x1x64 .bf16) (main_arg4 : IVec S2600x256x656 8) (main_arg5 : IVec S2600 32) : IVec S_ 1 :=
  let main_v0 : IVec S2600x256x512 8 := (extractStridedSlice S2600x256x512 ![0, 0, 0] · slices_S2600x256x656_S2600x256x512_0_0_0) main_arg4
  let main_v1 : IVec S2600x256x16 8 := (extractStridedSlice S2600x256x16 ![0, 0, 512] · slices_S2600x256x656_S2600x256x16_0_0_512) main_arg4
  let main_v2 : IVec S2600x256x4x4 8 := shapeCast S2600x256x4x4 main_v1 shapeCasts_S2600x256x16_S2600x256x4x4
  let main_v3 : FVec F S2600x256x4 .f32 := (fun x => bitcastToFloat .f32 (Host.bitcastConvertWiden S2600x256x4 32 x splits_S2600x256x4_w32_S2600x256x4x4_w8)) main_v2
  let main_v4 : IVec S2600x256x128 8 := (extractStridedSlice S2600x256x128 ![0, 0, 528] · slices_S2600x256x656_S2600x256x128_0_0_528) main_arg4
  let main_v5 : IVec S2600x256x64x2 8 := shapeCast S2600x256x64x2 main_v4 shapeCasts_S2600x256x128_S2600x256x64x2
  let main_v6 : FVec F S2600x256x64 .bf16 := (fun x => bitcastToFloat .bf16 (Host.bitcastConvertWiden S2600x256x64 16 x splits_S2600x256x64_w16_S2600x256x64x2_w8)) main_v5
  let main_v7 : FVec F S2600x1x16x512 .bf16 := Host.absf main_arg0
  let main_cst : FVec F S_ .bf16 := constant S_ .bf16 0x7F80#16
  let main_v8 : FVec F S2600x1x16x512 .bf16 := broadcastInDim S2600x1x16x512 ![] bcast_S_S2600x1x16x512 main_cst
  let main_v9 : IVec S2600x1x16x512 1 := cmpf .olt main_v7 main_v8
  let main_c : IVec S_ 1 := constantI S_ 1 1#1
  let main_v10 : IVec S_ 1 := (fun x v => Host.reduce IntOp.andi x v reducesTo_S2600x1x16x512_S_d0_1_2_3 h_S_) main_v9 main_c
  let main_v11 : FVec F S2600x1x16x64 .bf16 := Host.absf main_arg1
  let main_cst_0 : FVec F S_ .bf16 := constant S_ .bf16 0x7F80#16
  let main_v12 : FVec F S2600x1x16x64 .bf16 := broadcastInDim S2600x1x16x64 ![] bcast_S_S2600x1x16x64 main_cst_0
  let main_v13 : IVec S2600x1x16x64 1 := cmpf .olt main_v11 main_v12
  let main_c_1 : IVec S_ 1 := constantI S_ 1 1#1
  let main_v14 : IVec S_ 1 := (fun x v => Host.reduce IntOp.andi x v reducesTo_S2600x1x16x64_S_d0_1_2_3 h_S_) main_v13 main_c_1
  let main_v15 : IVec S_ 1 := andi main_v10 main_v14
  let main_v16 : FVec F S2600x1x512 .bf16 := Host.absf main_arg2
  let main_cst_2 : FVec F S_ .bf16 := constant S_ .bf16 0x7F80#16
  let main_v17 : FVec F S2600x1x512 .bf16 := broadcastInDim S2600x1x512 ![] bcast_S_S2600x1x512 main_cst_2
  let main_v18 : IVec S2600x1x512 1 := cmpf .olt main_v16 main_v17
  fn_part1 (F := F) main_arg3 main_arg5 main_v0 main_v3 main_v6 main_v15 main_v18
-- ==== Kernel.lean ====
abbrev S2600x1x16x512 : Shape := ⟨4, ![2600, 1, 16, 512]⟩
abbrev S2600x1x16x64 : Shape := ⟨4, ![2600, 1, 16, 64]⟩
abbrev S2600x1x512 : Shape := ⟨3, ![2600, 1, 512]⟩
abbrev S2600x1x64 : Shape := ⟨3, ![2600, 1, 64]⟩
abbrev S2600x256x656 : Shape := ⟨3, ![2600, 256, 656]⟩
abbrev S2600 : Shape := ⟨1, ![2600]⟩
abbrev S2600x656x256 : Shape := ⟨3, ![2600, 656, 256]⟩
abbrev S2600x16x512 : Shape := ⟨3, ![2600, 16, 512]⟩
abbrev S1x16x64x2600 : Shape := ⟨4, ![1, 16, 64, 2600]⟩
abbrev S1024x2600 : Shape := ⟨2, ![1024, 2600]⟩
abbrev S2600x512 : Shape := ⟨2, ![2600, 512]⟩
abbrev S1x64x2600 : Shape := ⟨3, ![1, 64, 2600]⟩
abbrev S64x2600 : Shape := ⟨2, ![64, 2600]⟩
abbrev S4x32x656x128 : Shape := ⟨4, ![4, 32, 656, 128]⟩
abbrev S4x32x16x512 : Shape := ⟨4, ![4, 32, 16, 512]⟩
abbrev S21024x128 : Shape := ⟨2, ![21024, 128]⟩
abbrev S2600x128 : Shape := ⟨2, ![2600, 128]⟩
abbrev S4x2600x128 : Shape := ⟨3, ![4, 2600, 128]⟩
abbrev S2x32x16x512 : Shape := ⟨4, ![2, 32, 16, 512]⟩
abbrev S2680 : Shape := ⟨1, ![2680]⟩
abbrev S4 : Shape := ⟨1, ![4]⟩
abbrev S2 : Shape := ⟨1, ![2]⟩
abbrev S6 : Shape := ⟨1, ![6]⟩
abbrev S1 : Shape := ⟨1, ![1]⟩
abbrev S_ : Shape := ⟨0, ![]⟩
abbrev S1x2600x128 : Shape := ⟨3, ![1, 2600, 128]⟩
abbrev S1x1x656x128 : Shape := ⟨4, ![1, 1, 656, 128]⟩
abbrev S656x128 : Shape := ⟨2, ![656, 128]⟩
abbrev S1x656x128 : Shape := ⟨3, ![1, 656, 128]⟩
abbrev S1x1x16x512 : Shape := ⟨4, ![1, 1, 16, 512]⟩
abbrev S16x512 : Shape := ⟨2, ![16, 512]⟩
abbrev S1x16x512 : Shape := ⟨3, ![1, 16, 512]⟩
abbrev S64x128 : Shape := ⟨2, ![64, 128]⟩
abbrev S128x128 : Shape := ⟨2, ![128, 128]⟩
abbrev S64x40 : Shape := ⟨2, ![64, 40]⟩
abbrev S128x40 : Shape := ⟨2, ![128, 40]⟩
abbrev S40x128 : Shape := ⟨2, ![40, 128]⟩
abbrev S16x128 : Shape := ⟨2, ![16, 128]⟩
abbrev S164x128 : Shape := ⟨2, ![164, 128]⟩
abbrev S8x128 : Shape := ⟨2, ![8, 128]⟩
abbrev S1x128 : Shape := ⟨2, ![1, 128]⟩
abbrev S1x1x128 : Shape := ⟨3, ![1, 1, 128]⟩
abbrev S16x64 : Shape := ⟨2, ![16, 64]⟩
abbrev S16 : Shape := ⟨1, ![16]⟩
abbrev S16x1 : Shape := ⟨2, ![16, 1]⟩
abbrev S32x128 : Shape := ⟨2, ![32, 128]⟩
abbrev S64x256 : Shape := ⟨2, ![64, 256]⟩
abbrev S32x64 : Shape := ⟨2, ![32, 64]⟩
abbrev S32x256 : Shape := ⟨2, ![32, 256]⟩
abbrev S128x256 : Shape := ⟨2, ![128, 256]⟩
abbrev S16x256 : Shape := ⟨2, ![16, 256]⟩
abbrev S1x1x16x128 : Shape := ⟨4, ![1, 1, 16, 128]⟩

abbrev nBuf : Space → Nat
  | .hbm => 13
  | .vmem => 8
  | .smem => 2
  | _ => 0

abbrev bufTy : (tb : Table) → Fin (tcTables nBuf tb) → BufTy
  | .hbm, ⟨0, _⟩ => ⟨S2600x1x16x512, .bf16⟩
  | .hbm, ⟨1, _⟩ => ⟨S2600x1x16x64, .bf16⟩
  | .hbm, ⟨2, _⟩ => ⟨S2600x1x512, .bf16⟩
  | .hbm, ⟨3, _⟩ => ⟨S2600x1x64, .bf16⟩
  | .hbm, ⟨4, _⟩ => ⟨S2600x256x656, .i8⟩
  | .hbm, ⟨5, _⟩ => ⟨S2600x656x256, .i8⟩
  | .hbm, ⟨6, _⟩ => ⟨S2600x16x512, .bf16⟩
  | .hbm, ⟨7, _⟩ => ⟨S1x16x64x2600, .bf16⟩
  | .hbm, ⟨8, _⟩ => ⟨S1024x2600, .bf16⟩
  | .hbm, ⟨9, _⟩ => ⟨S2600x512, .bf16⟩
  | .hbm, ⟨10, _⟩ => ⟨S1x64x2600, .bf16⟩
  | .hbm, ⟨11, _⟩ => ⟨S64x2600, .bf16⟩
  | .hbm, ⟨12, _⟩ => ⟨S2600x16x512, .bf16⟩
  | .local _ .vmem, ⟨0, _⟩ => ⟨S4x32x656x128, .i8⟩
  | .local _ .vmem, ⟨1, _⟩ => ⟨S4x32x16x512, .bf16⟩
  | .local _ .vmem, ⟨2, _⟩ => ⟨S1024x2600, .bf16⟩
  | .local _ .vmem, ⟨3, _⟩ => ⟨S64x2600, .bf16⟩
  | .local _ .vmem, ⟨4, _⟩ => ⟨S21024x128, .f32⟩
  | .local _ .vmem, ⟨5, _⟩ => ⟨S2600x128, .f32⟩
  | .local _ .vmem, ⟨6, _⟩ => ⟨S4x2600x128, .bf16⟩
  | .local _ .vmem, ⟨7, _⟩ => ⟨S2x32x16x512, .bf16⟩
  | .local _ .smem, ⟨0, _⟩ => ⟨S2600, .i32⟩
  | .local _ .smem, ⟨1, _⟩ => ⟨S2680, .i32⟩
  | _, _ => ⟨S2600x1x16x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_arg5 : Ref sig .tc := ⟨.smem, 0, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.smem, 1, rfl⟩

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_18 : BitVec 32 := 0#32
  let c2600_i32 : BitVec 32 := 2600#32
  let v24 : BitVec 32 := Scalar.addi c0_i32_18 c2600_i32
  let c1_i32_19 : BitVec 32 := 1#32
  ⟨c0_i32_18, v24, c1_i32_19⟩
def k0_off1 (k0_t1 : Fin k0_t1_loop.trips) : Fin 1 → Nat :=
  let c0_i32_18 : BitVec 32 := 0#32
  let c1_i32_19 : BitVec 32 := 1#32
  let arg21 : BitVec 32 := Scf.iv c0_i32_18 c1_i32_19 k0_t1
  let v160 : Index := Scalar.indexCast arg21
  ![v160.toNat]
def k0_off2 (arg22 : BitVec 32) : Fin 1 → Nat :=
  let v171 : Index := Scalar.indexCast arg22
  ![v171.toNat]

def k0_chk1 (arg22 : BitVec 32) : Prop :=
  (∀ a, (k0_off2 arg22) a + S1.size a ≤ S2680.size a)
theorem k0_off2_inb : ∀ (arg22 : BitVec 32) (k0_hw1 : k0_chk1 arg22), ∀ a, (k0_off2 arg22) a + S1.size a ≤ S2680.size a := fun arg22 k0_hw1 => k0_hw1

def k0_off3 (v25_0 : BitVec 32) : Fin 1 → Nat :=
  let v29 : Index := Scalar.indexCast v25_0
  ![v29.toNat]

def k0_chk2 (v25_0 : BitVec 32) : Prop :=
  (∀ a, (k0_off3 v25_0) a + S1.size a ≤ S2680.size a)
theorem k0_off3_inb : ∀ (v25_0 : BitVec 32) (k0_hw2 : k0_chk2 v25_0), ∀ a, (k0_off3 v25_0) a + S1.size a ≤ S2680.size a := fun v25_0 k0_hw2 => k0_hw2

@[reducible] def k0_t2_loop : Scf.Loop 32 :=
  let c0_i32_27 : BitVec 32 := 0#32
  let c16_i32 : BitVec 32 := 16#32
  let v34 : BitVec 32 := Scalar.addi c0_i32_27 c16_i32
  let c1_i32_28 : BitVec 32 := 1#32
  ⟨c0_i32_27, v34, c1_i32_28⟩
def k0_off4 (v25_0 : BitVec 32) (v25_1 : BitVec 32) (k0_t2 : Fin k0_t2_loop.trips) : Fin 1 → Nat :=
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c0_i32_27 : BitVec 32 := 0#32
  let c1_i32_28 : BitVec 32 := 1#32
  let arg21 : BitVec 32 := Scf.iv c0_i32_27 c1_i32_28 k0_t2
  let v160 : BitVec 32 := Scalar.addi v33 arg21
  let v161 : Index := Scalar.indexCast v160
  ![v161.toNat]

@[reducible] def k0_t3_loop : Scf.Loop 32 :=
  let c0_i32_37 : BitVec 32 := 0#32
  let c3_i32_38 : BitVec 32 := 3#32
  let v53 : BitVec 32 := Scalar.addi c0_i32_37 c3_i32_38
  let c1_i32_39 : BitVec 32 := 1#32
  ⟨c0_i32_37, v53, c1_i32_39⟩
@[reducible] def k0_t4_loop : Scf.Loop 32 :=
  let c0_i32_108 : BitVec 32 := 0#32
  let c16_i32_109 : BitVec 32 := 16#32
  let v163 : BitVec 32 := Scalar.addi c0_i32_108 c16_i32_109
  let c1_i32_110 : BitVec 32 := 1#32
  ⟨c0_i32_108, v163, c1_i32_110⟩
def k0_off5 (k0_t3 : Fin k0_t3_loop.trips) (k0_t4 : Fin k0_t4_loop.trips) : Fin 1 → Nat :=
  let c0_i32_37 : BitVec 32 := 0#32
  let c1_i32_39 : BitVec 32 := 1#32
  let arg21 : BitVec 32 := Scf.iv c0_i32_37 c1_i32_39 k0_t3
  let c16_i32_112 : BitVec 32 := 16#32
  let v164 : BitVec 32 := Scalar.muli arg21 c16_i32_112
  let c0_i32_108 : BitVec 32 := 0#32
  let c1_i32_110 : BitVec 32 := 1#32
  let arg22 : BitVec 32 := Scf.iv c0_i32_108 c1_i32_110 k0_t4
  let v165 : BitVec 32 := Scalar.addi v164 arg22
  let v166 : Index := Scalar.indexCast v165
  ![v166.toNat]
def k0_mult1 (v167 : BitVec 32) : BitVec 32 :=
  let c24_i32 : BitVec 32 := 24#32
  let v171 : BitVec 32 := Scalar.shrsi v167 c24_i32
  let c2_i32_114 : BitVec 32 := 2#32
  let v172 : BitVec 1 := Scalar.cmpi .eq v171 c2_i32_114
  let c128_i32_115 : BitVec 32 := 128#32
  let c0_i32_116 : BitVec 32 := 0#32
  let v173 : BitVec 32 := Scalar.select v172 c128_i32_115 c0_i32_116
  v173
def k0_cond1 (v25_0 : BitVec 32) (v25_1 : BitVec 32) (k0_t3 : Fin k0_t3_loop.trips) : BitVec 1 :=
  let c0_i32_37 : BitVec 32 := 0#32
  let c1_i32_39 : BitVec 32 := 1#32
  let arg21 : BitVec 32 := Scf.iv c0_i32_37 c1_i32_39 k0_t3
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v160 : BitVec 1 := Scalar.cmpi .slt arg21 v52
  let v161 : BitVec 32 := Scalar.extui v160
  let c0_i32_107 : BitVec 32 := 0#32
  let v162 : BitVec 1 := Scalar.cmpi .ne v161 c0_i32_107
  v162

def k0_off6 (k0_t3 : Fin k0_t3_loop.trips) : Fin 1 → Nat :=
  let c0_i32_37 : BitVec 32 := 0#32
  let c1_i32_39 : BitVec 32 := 1#32
  let arg21 : BitVec 32 := Scf.iv c0_i32_37 c1_i32_39 k0_t3
  ![arg21.toNat]
def k0_off7 (k0_t3 : Fin k0_t3_loop.trips) (k0_t4 : Fin k0_t4_loop.trips) : Fin 4 → Nat :=
  let c0_i32_37 : BitVec 32 := 0#32
  let c1_i32_39 : BitVec 32 := 1#32
  let arg21 : BitVec 32 := Scf.iv c0_i32_37 c1_i32_39 k0_t3
  let c2_i32_117 : BitVec 32 := 2#32
  let c0_i32_108 : BitVec 32 := 0#32
  let c1_i32_110 : BitVec 32 := 1#32
  let arg22 : BitVec 32 := Scf.iv c0_i32_108 c1_i32_110 k0_t4
  let v175 : BitVec 32 := Scalar.muli c2_i32_117 arg22
  let c0_i32_123 : BitVec 32 := 0#32
  let c0_i32_124 : BitVec 32 := 0#32
  ![arg21.toNat, v175.toNat, 0, 0]
def k0_off8 (v167 : BitVec 32) : Fin 3 → Nat :=
  let c4095_i32 : BitVec 32 := 4095#32
  let v168 : BitVec 32 := Scalar.andi v167 c4095_i32
  let c0_i32_125 : BitVec 32 := 0#32
  let c0_i32_126 : BitVec 32 := 0#32
  ![v168.toNat, 0, 0]
def k0_off9 (k0_t3 : Fin k0_t3_loop.trips) (k0_t4 : Fin k0_t4_loop.trips) : Fin 4 → Nat :=
  let c0_i32_37 : BitVec 32 := 0#32
  let c1_i32_39 : BitVec 32 := 1#32
  let arg21 : BitVec 32 := Scf.iv c0_i32_37 c1_i32_39 k0_t3
  let c2_i32_118 : BitVec 32 := 2#32
  let c0_i32_108 : BitVec 32 := 0#32
  let c1_i32_110 : BitVec 32 := 1#32
  let arg22 : BitVec 32 := Scf.iv c0_i32_108 c1_i32_110 k0_t4
  let v176 : BitVec 32 := Scalar.muli c2_i32_118 arg22
  let c1_i32_119 : BitVec 32 := 1#32
  let v177 : BitVec 32 := Scalar.addi v176 c1_i32_119
  let c0_i32_127 : BitVec 32 := 0#32
  let c0_i32_128 : BitVec 32 := 0#32
  ![arg21.toNat, v177.toNat, 0, 0]
def k0_off10 (v167 : BitVec 32) : Fin 3 → Nat :=
  let c12_i32 : BitVec 32 := 12#32
  let v169 : BitVec 32 := Scalar.shrsi v167 c12_i32
  let c4095_i32_113 : BitVec 32 := 4095#32
  let v170 : BitVec 32 := Scalar.andi v169 c4095_i32_113
  let c0_i32_129 : BitVec 32 := 0#32
  let c24_i32 : BitVec 32 := 24#32
  let v171 : BitVec 32 := Scalar.shrsi v167 c24_i32
  let c2_i32_114 : BitVec 32 := 2#32
  let v172 : BitVec 1 := Scalar.cmpi .eq v171 c2_i32_114
  let c128_i32_115 : BitVec 32 := 128#32
  let c0_i32_116 : BitVec 32 := 0#32
  let v173 : BitVec 32 := Scalar.select v172 c128_i32_115 c0_i32_116
  let v174 : BitVec 32 := v173
  ![v170.toNat, 0, v174.toNat]
def k0_off11 (k0_t3 : Fin k0_t3_loop.trips) (k0_t4 : Fin k0_t4_loop.trips) : Fin 4 → Nat :=
  let c0_i32_37 : BitVec 32 := 0#32
  let c1_i32_39 : BitVec 32 := 1#32
  let arg21 : BitVec 32 := Scf.iv c0_i32_37 c1_i32_39 k0_t3
  let c2_i32_120 : BitVec 32 := 2#32
  let c0_i32_108 : BitVec 32 := 0#32
  let c1_i32_110 : BitVec 32 := 1#32
  let arg22 : BitVec 32 := Scf.iv c0_i32_108 c1_i32_110 k0_t4
  let v178 : BitVec 32 := Scalar.muli c2_i32_120 arg22
  let c0_i32_130 : BitVec 32 := 0#32
  let c0_i32_131 : BitVec 32 := 0#32
  ![arg21.toNat, v178.toNat, 0, 0]
def k0_off12 (v167 : BitVec 32) : Fin 3 → Nat :=
  let c4095_i32 : BitVec 32 := 4095#32
  let v168 : BitVec 32 := Scalar.andi v167 c4095_i32
  let c0_i32_132 : BitVec 32 := 0#32
  let c0_i32_133 : BitVec 32 := 0#32
  ![v168.toNat, 0, 0]
def k0_off13 (k0_t3 : Fin k0_t3_loop.trips) (k0_t4 : Fin k0_t4_loop.trips) : Fin 4 → Nat :=
  let c0_i32_37 : BitVec 32 := 0#32
  let c1_i32_39 : BitVec 32 := 1#32
  let arg21 : BitVec 32 := Scf.iv c0_i32_37 c1_i32_39 k0_t3
  let c2_i32_121 : BitVec 32 := 2#32
  let c0_i32_108 : BitVec 32 := 0#32
  let c1_i32_110 : BitVec 32 := 1#32
  let arg22 : BitVec 32 := Scf.iv c0_i32_108 c1_i32_110 k0_t4
  let v179 : BitVec 32 := Scalar.muli c2_i32_121 arg22
  let c1_i32_122 : BitVec 32 := 1#32
  let v180 : BitVec 32 := Scalar.addi v179 c1_i32_122
  let c0_i32_134 : BitVec 32 := 0#32
  let c0_i32_135 : BitVec 32 := 0#32
  ![arg21.toNat, v180.toNat, 0, 0]
def k0_off14 (v167 : BitVec 32) : Fin 3 → Nat :=
  let c12_i32 : BitVec 32 := 12#32
  let v169 : BitVec 32 := Scalar.shrsi v167 c12_i32
  let c4095_i32_113 : BitVec 32 := 4095#32
  let v170 : BitVec 32 := Scalar.andi v169 c4095_i32_113
  let c0_i32_136 : BitVec 32 := 0#32
  let c0_i32_137 : BitVec 32 := 0#32
  ![v170.toNat, 0, 0]

def k0_chk4 (v25_0 : BitVec 32) (v25_1 : BitVec 32) (k0_t3 : Fin k0_t3_loop.trips) (v167 : BitVec 32) : Prop :=
  (∀ (k0_h1 : k0_cond1 v25_0 v25_1 k0_t3 = 1#1), 128 ∣ (k0_mult1 v167).toNat) ∧
  (∀ (k0_h1 : k0_cond1 v25_0 v25_1 k0_t3 = 1#1), ∀ a, (k0_off8 v167) a + S1x656x128.size a ≤ S2600x656x256.size a) ∧
  (∀ (k0_h1 : k0_cond1 v25_0 v25_1 k0_t3 = 1#1), ∀ (hinb : ∀ a, (k0_off8 v167) a + S1x656x128.size a ≤ S2600x656x256.size a), (Rect.unit (s := S2600x656x256) (k0_off8 v167) S1x656x128.size hinb).WholeWords (EltTy.packing .i8)) ∧
  (∀ (k0_h1 : k0_cond1 v25_0 v25_1 k0_t3 = 1#1), ∀ a, (k0_off10 v167) a + S1x656x128.size a ≤ S2600x656x256.size a) ∧
  (∀ (k0_h1 : k0_cond1 v25_0 v25_1 k0_t3 = 1#1), ∀ (hinb : ∀ a, (k0_off10 v167) a + S1x656x128.size a ≤ S2600x656x256.size a), (Rect.unit (s := S2600x656x256) (k0_off10 v167) S1x656x128.size hinb).WholeWords (EltTy.packing .i8)) ∧
  (∀ (k0_h1 : k0_cond1 v25_0 v25_1 k0_t3 = 1#1), ∀ a, (k0_off12 v167) a + S1x16x512.size a ≤ S2600x16x512.size a) ∧
  (∀ (k0_h1 : k0_cond1 v25_0 v25_1 k0_t3 = 1#1), ∀ (hinb : ∀ a, (k0_off12 v167) a + S1x16x512.size a ≤ S2600x16x512.size a), (Rect.unit (s := S2600x16x512) (k0_off12 v167) S1x16x512.size hinb).WholeWords (EltTy.packing .bf16)) ∧
  (∀ (k0_h1 : k0_cond1 v25_0 v25_1 k0_t3 = 1#1), ∀ a, (k0_off14 v167) a + S1x16x512.size a ≤ S2600x16x512.size a) ∧
  (∀ (k0_h1 : k0_cond1 v25_0 v25_1 k0_t3 = 1#1), ∀ (hinb : ∀ a, (k0_off14 v167) a + S1x16x512.size a ≤ S2600x16x512.size a), (Rect.unit (s := S2600x16x512) (k0_off14 v167) S1x16x512.size hinb).WholeWords (EltTy.packing .bf16))
theorem k0_mult1_dvd : ∀ (v25_0 : BitVec 32) (v25_1 : BitVec 32) (k0_t3 : Fin k0_t3_loop.trips) (v167 : BitVec 32) (k0_hw4 : k0_chk4 v25_0 v25_1 k0_t3 v167), ∀ (k0_h1 : k0_cond1 v25_0 v25_1 k0_t3 = 1#1), 128 ∣ (k0_mult1 v167).toNat := fun v25_0 v25_1 k0_t3 v167 k0_hw4 k0_h1 => k0_hw4.1 k0_h1
theorem k0_off8_inb : ∀ (v25_0 : BitVec 32) (v25_1 : BitVec 32) (k0_t3 : Fin k0_t3_loop.trips) (v167 : BitVec 32) (k0_hw4 : k0_chk4 v25_0 v25_1 k0_t3 v167), ∀ (k0_h1 : k0_cond1 v25_0 v25_1 k0_t3 = 1#1), ∀ a, (k0_off8 v167) a + S1x656x128.size a ≤ S2600x656x256.size a := fun v25_0 v25_1 k0_t3 v167 k0_hw4 k0_h1 => k0_hw4.2.1 k0_h1
theorem k0_off8_wordsi8 : ∀ (v25_0 : BitVec 32) (v25_1 : BitVec 32) (k0_t3 : Fin k0_t3_loop.trips) (v167 : BitVec 32) (k0_hw4 : k0_chk4 v25_0 v25_1 k0_t3 v167), ∀ (k0_h1 : k0_cond1 v25_0 v25_1 k0_t3 = 1#1), (Rect.unit (s := S2600x656x256) (k0_off8 v167) S1x656x128.size (k0_off8_inb v25_0 v25_1 k0_t3 v167 k0_hw4 k0_h1)).WholeWords (EltTy.packing .i8) := fun v25_0 v25_1 k0_t3 v167 k0_hw4 k0_h1 => k0_hw4.2.2.1 k0_h1 (k0_off8_inb v25_0 v25_1 k0_t3 v167 k0_hw4 k0_h1)
theorem k0_off10_inb : ∀ (v25_0 : BitVec 32) (v25_1 : BitVec 32) (k0_t3 : Fin k0_t3_loop.trips) (v167 : BitVec 32) (k0_hw4 : k0_chk4 v25_0 v25_1 k0_t3 v167), ∀ (k0_h1 : k0_cond1 v25_0 v25_1 k0_t3 = 1#1), ∀ a, (k0_off10 v167) a + S1x656x128.size a ≤ S2600x656x256.size a := fun v25_0 v25_1 k0_t3 v167 k0_hw4 k0_h1 => k0_hw4.2.2.2.1 k0_h1
theorem k0_off10_wordsi8 : ∀ (v25_0 : BitVec 32) (v25_1 : BitVec 32) (k0_t3 : Fin k0_t3_loop.trips) (v167 : BitVec 32) (k0_hw4 : k0_chk4 v25_0 v25_1 k0_t3 v167), ∀ (k0_h1 : k0_cond1 v25_0 v25_1 k0_t3 = 1#1), (Rect.unit (s := S2600x656x256) (k0_off10 v167) S1x656x128.size (k0_off10_inb v25_0 v25_1 k0_t3 v167 k0_hw4 k0_h1)).WholeWords (EltTy.packing .i8) := fun v25_0 v25_1 k0_t3 v167 k0_hw4 k0_h1 => k0_hw4.2.2.2.2.1 k0_h1 (k0_off10_inb v25_0 v25_1 k0_t3 v167 k0_hw4 k0_h1)
theorem k0_off12_inb : ∀ (v25_0 : BitVec 32) (v25_1 : BitVec 32) (k0_t3 : Fin k0_t3_loop.trips) (v167 : BitVec 32) (k0_hw4 : k0_chk4 v25_0 v25_1 k0_t3 v167), ∀ (k0_h1 : k0_cond1 v25_0 v25_1 k0_t3 = 1#1), ∀ a, (k0_off12 v167) a + S1x16x512.size a ≤ S2600x16x512.size a := fun v25_0 v25_1 k0_t3 v167 k0_hw4 k0_h1 => k0_hw4.2.2.2.2.2.1 k0_h1
theorem k0_off12_wordsbf16 : ∀ (v25_0 : BitVec 32) (v25_1 : BitVec 32) (k0_t3 : Fin k0_t3_loop.trips) (v167 : BitVec 32) (k0_hw4 : k0_chk4 v25_0 v25_1 k0_t3 v167), ∀ (k0_h1 : k0_cond1 v25_0 v25_1 k0_t3 = 1#1), (Rect.unit (s := S2600x16x512) (k0_off12 v167) S1x16x512.size (k0_off12_inb v25_0 v25_1 k0_t3 v167 k0_hw4 k0_h1)).WholeWords (EltTy.packing .bf16) := fun v25_0 v25_1 k0_t3 v167 k0_hw4 k0_h1 => k0_hw4.2.2.2.2.2.2.1 k0_h1 (k0_off12_inb v25_0 v25_1 k0_t3 v167 k0_hw4 k0_h1)
theorem k0_off14_inb : ∀ (v25_0 : BitVec 32) (v25_1 : BitVec 32) (k0_t3 : Fin k0_t3_loop.trips) (v167 : BitVec 32) (k0_hw4 : k0_chk4 v25_0 v25_1 k0_t3 v167), ∀ (k0_h1 : k0_cond1 v25_0 v25_1 k0_t3 = 1#1), ∀ a, (k0_off14 v167) a + S1x16x512.size a ≤ S2600x16x512.size a := fun v25_0 v25_1 k0_t3 v167 k0_hw4 k0_h1 => k0_hw4.2.2.2.2.2.2.2.1 k0_h1
theorem k0_off14_wordsbf16 : ∀ (v25_0 : BitVec 32) (v25_1 : BitVec 32) (k0_t3 : Fin k0_t3_loop.trips) (v167 : BitVec 32) (k0_hw4 : k0_chk4 v25_0 v25_1 k0_t3 v167), ∀ (k0_h1 : k0_cond1 v25_0 v25_1 k0_t3 = 1#1), (Rect.unit (s := S2600x16x512) (k0_off14 v167) S1x16x512.size (k0_off14_inb v25_0 v25_1 k0_t3 v167 k0_hw4 k0_h1)).WholeWords (EltTy.packing .bf16) := fun v25_0 v25_1 k0_t3 v167 k0_hw4 k0_h1 => k0_hw4.2.2.2.2.2.2.2.2 k0_h1 (k0_off14_inb v25_0 v25_1 k0_t3 v167 k0_hw4 k0_h1)

@[reducible] def k0_t5_loop : Scf.Loop 32 :=
  let c0_i32_67 : BitVec 32 := 0#32
  let c20_i32 : BitVec 32 := 20#32
  let v78 : BitVec 32 := Scalar.addi c0_i32_67 c20_i32
  let c1_i32_68 : BitVec 32 := 1#32
  ⟨c0_i32_67, v78, c1_i32_68⟩
def k0_mult2 (k0_t5 : Fin k0_t5_loop.trips) : BitVec 32 :=
  let c0_i32_67 : BitVec 32 := 0#32
  let c1_i32_68 : BitVec 32 := 1#32
  let arg21 : BitVec 32 := Scf.iv c0_i32_67 c1_i32_68 k0_t5
  let c128_i32_107 : BitVec 32 := 128#32
  let v160 : BitVec 32 := Scalar.muli arg21 c128_i32_107
  v160
def k0_off15 (k0_t5 : Fin k0_t5_loop.trips) : Fin 2 → Nat :=
  let c0_108 : Index := 0#32
  let c0_i32_67 : BitVec 32 := 0#32
  let c1_i32_68 : BitVec 32 := 1#32
  let arg21 : BitVec 32 := Scf.iv c0_i32_67 c1_i32_68 k0_t5
  let c128_i32_107 : BitVec 32 := 128#32
  let v160 : BitVec 32 := Scalar.muli arg21 c128_i32_107
  let v161 : BitVec 32 := v160
  let v162 : Index := Scalar.indexCast v161
  ![0, v162.toNat]
def k0_off16 (k0_t5 : Fin k0_t5_loop.trips) : Fin 2 → Nat :=
  let c512_109 : Index := 512#32
  let c0_i32_67 : BitVec 32 := 0#32
  let c1_i32_68 : BitVec 32 := 1#32
  let arg21 : BitVec 32 := Scf.iv c0_i32_67 c1_i32_68 k0_t5
  let c128_i32_107 : BitVec 32 := 128#32
  let v160 : BitVec 32 := Scalar.muli arg21 c128_i32_107
  let v161 : BitVec 32 := v160
  let v164 : Index := Scalar.indexCast v161
  ![512, v164.toNat]
def k0_off17 (k0_t5 : Fin k0_t5_loop.trips) (c0_i32_110 : BitVec 32) : Fin 2 → Nat :=
  let c0_i32_67 : BitVec 32 := 0#32
  let c1_i32_68 : BitVec 32 := 1#32
  let arg21 : BitVec 32 := Scf.iv c0_i32_67 c1_i32_68 k0_t5
  let c128_i32_107 : BitVec 32 := 128#32
  let v160 : BitVec 32 := Scalar.muli arg21 c128_i32_107
  let v161 : BitVec 32 := v160
  let v169 : BitVec 32 := Scalar.addi c0_i32_110 v161
  let v170 : Index := Scalar.indexCast v169
  let c0_111 : Index := 0#32
  ![v170.toNat, 0]
def k0_off18 (k0_t5 : Fin k0_t5_loop.trips) : Fin 2 → Nat :=
  let c64_112 : Index := 64#32
  let c0_i32_67 : BitVec 32 := 0#32
  let c1_i32_68 : BitVec 32 := 1#32
  let arg21 : BitVec 32 := Scf.iv c0_i32_67 c1_i32_68 k0_t5
  let c128_i32_107 : BitVec 32 := 128#32
  let v160 : BitVec 32 := Scalar.muli arg21 c128_i32_107
  let v161 : BitVec 32 := v160
  let v174 : Index := Scalar.indexCast v161
  ![64, v174.toNat]
def k0_off19 (k0_t5 : Fin k0_t5_loop.trips) : Fin 2 → Nat :=
  let c576_113 : Index := 576#32
  let c0_i32_67 : BitVec 32 := 0#32
  let c1_i32_68 : BitVec 32 := 1#32
  let arg21 : BitVec 32 := Scf.iv c0_i32_67 c1_i32_68 k0_t5
  let c128_i32_107 : BitVec 32 := 128#32
  let v160 : BitVec 32 := Scalar.muli arg21 c128_i32_107
  let v161 : BitVec 32 := v160
  let v176 : Index := Scalar.indexCast v161
  ![576, v176.toNat]
def k0_off20 (k0_t5 : Fin k0_t5_loop.trips) : Fin 2 → Nat :=
  let c128_115 : Index := 128#32
  let c0_i32_67 : BitVec 32 := 0#32
  let c1_i32_68 : BitVec 32 := 1#32
  let arg21 : BitVec 32 := Scf.iv c0_i32_67 c1_i32_68 k0_t5
  let c128_i32_107 : BitVec 32 := 128#32
  let v160 : BitVec 32 := Scalar.muli arg21 c128_i32_107
  let v161 : BitVec 32 := v160
  let v186 : Index := Scalar.indexCast v161
  ![128, v186.toNat]
def k0_off21 (k0_t5 : Fin k0_t5_loop.trips) : Fin 2 → Nat :=
  let c640_116 : Index := 640#32
  let c0_i32_67 : BitVec 32 := 0#32
  let c1_i32_68 : BitVec 32 := 1#32
  let arg21 : BitVec 32 := Scf.iv c0_i32_67 c1_i32_68 k0_t5
  let c128_i32_107 : BitVec 32 := 128#32
  let v160 : BitVec 32 := Scalar.muli arg21 c128_i32_107
  let v161 : BitVec 32 := v160
  let v188 : Index := Scalar.indexCast v161
  ![640, v188.toNat]
def k0_off22 (k0_t5 : Fin k0_t5_loop.trips) : Fin 2 → Nat :=
  let c192_118 : Index := 192#32
  let c0_i32_67 : BitVec 32 := 0#32
  let c1_i32_68 : BitVec 32 := 1#32
  let arg21 : BitVec 32 := Scf.iv c0_i32_67 c1_i32_68 k0_t5
  let c128_i32_107 : BitVec 32 := 128#32
  let v160 : BitVec 32 := Scalar.muli arg21 c128_i32_107
  let v161 : BitVec 32 := v160
  let v198 : Index := Scalar.indexCast v161
  ![192, v198.toNat]
def k0_off23 (k0_t5 : Fin k0_t5_loop.trips) : Fin 2 → Nat :=
  let c704_119 : Index := 704#32
  let c0_i32_67 : BitVec 32 := 0#32
  let c1_i32_68 : BitVec 32 := 1#32
  let arg21 : BitVec 32 := Scf.iv c0_i32_67 c1_i32_68 k0_t5
  let c128_i32_107 : BitVec 32 := 128#32
  let v160 : BitVec 32 := Scalar.muli arg21 c128_i32_107
  let v161 : BitVec 32 := v160
  let v200 : Index := Scalar.indexCast v161
  ![704, v200.toNat]
def k0_off24 (k0_t5 : Fin k0_t5_loop.trips) : Fin 2 → Nat :=
  let c256_121 : Index := 256#32
  let c0_i32_67 : BitVec 32 := 0#32
  let c1_i32_68 : BitVec 32 := 1#32
  let arg21 : BitVec 32 := Scf.iv c0_i32_67 c1_i32_68 k0_t5
  let c128_i32_107 : BitVec 32 := 128#32
  let v160 : BitVec 32 := Scalar.muli arg21 c128_i32_107
  let v161 : BitVec 32 := v160
  let v210 : Index := Scalar.indexCast v161
  ![256, v210.toNat]
def k0_off25 (k0_t5 : Fin k0_t5_loop.trips) : Fin 2 → Nat :=
  let c768_122 : Index := 768#32
  let c0_i32_67 : BitVec 32 := 0#32
  let c1_i32_68 : BitVec 32 := 1#32
  let arg21 : BitVec 32 := Scf.iv c0_i32_67 c1_i32_68 k0_t5
  let c128_i32_107 : BitVec 32 := 128#32
  let v160 : BitVec 32 := Scalar.muli arg21 c128_i32_107
  let v161 : BitVec 32 := v160
  let v212 : Index := Scalar.indexCast v161
  ![768, v212.toNat]
def k0_off26 (k0_t5 : Fin k0_t5_loop.trips) : Fin 2 → Nat :=
  let c320_124 : Index := 320#32
  let c0_i32_67 : BitVec 32 := 0#32
  let c1_i32_68 : BitVec 32 := 1#32
  let arg21 : BitVec 32 := Scf.iv c0_i32_67 c1_i32_68 k0_t5
  let c128_i32_107 : BitVec 32 := 128#32
  let v160 : BitVec 32 := Scalar.muli arg21 c128_i32_107
  let v161 : BitVec 32 := v160
  let v222 : Index := Scalar.indexCast v161
  ![320, v222.toNat]
def k0_off27 (k0_t5 : Fin k0_t5_loop.trips) : Fin 2 → Nat :=
  let c832_125 : Index := 832#32
  let c0_i32_67 : BitVec 32 := 0#32
  let c1_i32_68 : BitVec 32 := 1#32
  let arg21 : BitVec 32 := Scf.iv c0_i32_67 c1_i32_68 k0_t5
  let c128_i32_107 : BitVec 32 := 128#32
  let v160 : BitVec 32 := Scalar.muli arg21 c128_i32_107
  let v161 : BitVec 32 := v160
  let v224 : Index := Scalar.indexCast v161
  ![832, v224.toNat]
def k0_off28 (k0_t5 : Fin k0_t5_loop.trips) : Fin 2 → Nat :=
  let c384_127 : Index := 384#32
  let c0_i32_67 : BitVec 32 := 0#32
  let c1_i32_68 : BitVec 32 := 1#32
  let arg21 : BitVec 32 := Scf.iv c0_i32_67 c1_i32_68 k0_t5
  let c128_i32_107 : BitVec 32 := 128#32
  let v160 : BitVec 32 := Scalar.muli arg21 c128_i32_107
  let v161 : BitVec 32 := v160
  let v234 : Index := Scalar.indexCast v161
  ![384, v234.toNat]
def k0_off29 (k0_t5 : Fin k0_t5_loop.trips) : Fin 2 → Nat :=
  let c896_128 : Index := 896#32
  let c0_i32_67 : BitVec 32 := 0#32
  let c1_i32_68 : BitVec 32 := 1#32
  let arg21 : BitVec 32 := Scf.iv c0_i32_67 c1_i32_68 k0_t5
  let c128_i32_107 : BitVec 32 := 128#32
  let v160 : BitVec 32 := Scalar.muli arg21 c128_i32_107
  let v161 : BitVec 32 := v160
  let v236 : Index := Scalar.indexCast v161
  ![896, v236.toNat]
def k0_off30 (k0_t5 : Fin k0_t5_loop.trips) : Fin 2 → Nat :=
  let c448_130 : Index := 448#32
  let c0_i32_67 : BitVec 32 := 0#32
  let c1_i32_68 : BitVec 32 := 1#32
  let arg21 : BitVec 32 := Scf.iv c0_i32_67 c1_i32_68 k0_t5
  let c128_i32_107 : BitVec 32 := 128#32
  let v160 : BitVec 32 := Scalar.muli arg21 c128_i32_107
  let v161 : BitVec 32 := v160
  let v246 : Index := Scalar.indexCast v161
  ![448, v246.toNat]
def k0_off31 (k0_t5 : Fin k0_t5_loop.trips) : Fin 2 → Nat :=
  let c960_131 : Index := 960#32
  let c0_i32_67 : BitVec 32 := 0#32
  let c1_i32_68 : BitVec 32 := 1#32
  let arg21 : BitVec 32 := Scf.iv c0_i32_67 c1_i32_68 k0_t5
  let c128_i32_107 : BitVec 32 := 128#32
  let v160 : BitVec 32 := Scalar.muli arg21 c128_i32_107
  let v161 : BitVec 32 := v160
  let v248 : Index := Scalar.indexCast v161
  ![960, v248.toNat]
def k0_off32 (k0_t5 : Fin k0_t5_loop.trips) : Fin 2 → Nat :=
  let c0_133 : Index := 0#32
  let c0_i32_67 : BitVec 32 := 0#32
  let c1_i32_68 : BitVec 32 := 1#32
  let arg21 : BitVec 32 := Scf.iv c0_i32_67 c1_i32_68 k0_t5
  let c128_i32_107 : BitVec 32 := 128#32
  let v160 : BitVec 32 := Scalar.muli arg21 c128_i32_107
  let v161 : BitVec 32 := v160
  let v258 : Index := Scalar.indexCast v161
  ![0, v258.toNat]
def k0_off33 (k0_t5 : Fin k0_t5_loop.trips) : Fin 2 → Nat :=
  let c0_i32_67 : BitVec 32 := 0#32
  let c1_i32_68 : BitVec 32 := 1#32
  let arg21 : BitVec 32 := Scf.iv c0_i32_67 c1_i32_68 k0_t5
  let c128_i32_107 : BitVec 32 := 128#32
  let v160 : BitVec 32 := Scalar.muli arg21 c128_i32_107
  let v161 : BitVec 32 := v160
  let v264 : Index := Scalar.indexCast v161
  let c0_135 : Index := 0#32
  ![v264.toNat, 0]
@[reducible] def k0_t6_loop (v25_0 : BitVec 32) (v25_1 : BitVec 32) : Scf.Loop 32 :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_101 : BitVec 32 := 1#32
  ⟨c0_i32_98, v156, c1_i32_101⟩
@[reducible] def k0_t7_loop : Scf.Loop 32 :=
  let c0_i32_110 : BitVec 32 := 0#32
  let c16_i32_111 : BitVec 32 := 16#32
  let v162 : BitVec 32 := Scalar.addi c0_i32_110 c16_i32_111
  let c1_i32_112 : BitVec 32 := 1#32
  ⟨c0_i32_110, v162, c1_i32_112⟩
def k0_off34 (v25_0 : BitVec 32) (v25_1 : BitVec 32) (k0_t6 : Fin (k0_t6_loop v25_0 v25_1).trips) (k0_t7 : Fin k0_t7_loop.trips) : Fin 1 → Nat :=
  let c0_i32_98 : BitVec 32 := 0#32
  let c1_i32_101 : BitVec 32 := 1#32
  let arg21 : BitVec 32 := Scf.iv c0_i32_98 c1_i32_101 k0_t6
  let c16_i32_129 : BitVec 32 := 16#32
  let v175 : BitVec 32 := Scalar.muli arg21 c16_i32_129
  let c0_i32_110 : BitVec 32 := 0#32
  let c1_i32_112 : BitVec 32 := 1#32
  let arg23 : BitVec 32 := Scf.iv c0_i32_110 c1_i32_112 k0_t7
  let v176 : BitVec 32 := Scalar.addi v175 arg23
  let v177 : Index := Scalar.indexCast v176
  ![v177.toNat]
def k0_mult3 (v178 : BitVec 32) : BitVec 32 :=
  let c24_i32 : BitVec 32 := 24#32
  let v182 : BitVec 32 := Scalar.shrsi v178 c24_i32
  let c2_i32_131 : BitVec 32 := 2#32
  let v183 : BitVec 1 := Scalar.cmpi .eq v182 c2_i32_131
  let c128_i32_132 : BitVec 32 := 128#32
  let c0_i32_133 : BitVec 32 := 0#32
  let v184 : BitVec 32 := Scalar.select v183 c128_i32_132 c0_i32_133
  v184

def k0_off35 (v25_0 : BitVec 32) (v25_1 : BitVec 32) (k0_t6 : Fin (k0_t6_loop v25_0 v25_1).trips) : Fin 1 → Nat :=
  let c0_i32_98 : BitVec 32 := 0#32
  let c1_i32_101 : BitVec 32 := 1#32
  let arg21 : BitVec 32 := Scf.iv c0_i32_98 c1_i32_101 k0_t6
  let c4_i32_107 : BitVec 32 := 4#32
  let v160 : BitVec 32 := Scalar.remsi arg21 c4_i32_107
  ![v160.toNat]
def k0_off36 (v25_0 : BitVec 32) (v25_1 : BitVec 32) (k0_t6 : Fin (k0_t6_loop v25_0 v25_1).trips) (k0_t7 : Fin k0_t7_loop.trips) : Fin 4 → Nat :=
  let c0_i32_98 : BitVec 32 := 0#32
  let c1_i32_101 : BitVec 32 := 1#32
  let arg21 : BitVec 32 := Scf.iv c0_i32_98 c1_i32_101 k0_t6
  let c4_i32_107 : BitVec 32 := 4#32
  let v160 : BitVec 32 := Scalar.remsi arg21 c4_i32_107
  let c2_i32_134 : BitVec 32 := 2#32
  let c0_i32_110 : BitVec 32 := 0#32
  let c1_i32_112 : BitVec 32 := 1#32
  let arg23 : BitVec 32 := Scf.iv c0_i32_110 c1_i32_112 k0_t7
  let v186 : BitVec 32 := Scalar.muli c2_i32_134 arg23
  let c0_i32_140 : BitVec 32 := 0#32
  let c0_i32_141 : BitVec 32 := 0#32
  ![v160.toNat, v186.toNat, 0, 0]
def k0_off37 (v178 : BitVec 32) : Fin 3 → Nat :=
  let c4095_i32 : BitVec 32 := 4095#32
  let v179 : BitVec 32 := Scalar.andi v178 c4095_i32
  let c0_i32_142 : BitVec 32 := 0#32
  let c0_i32_143 : BitVec 32 := 0#32
  ![v179.toNat, 0, 0]
def k0_off38 (v25_0 : BitVec 32) (v25_1 : BitVec 32) (k0_t6 : Fin (k0_t6_loop v25_0 v25_1).trips) (k0_t7 : Fin k0_t7_loop.trips) : Fin 4 → Nat :=
  let c0_i32_98 : BitVec 32 := 0#32
  let c1_i32_101 : BitVec 32 := 1#32
  let arg21 : BitVec 32 := Scf.iv c0_i32_98 c1_i32_101 k0_t6
  let c4_i32_107 : BitVec 32 := 4#32
  let v160 : BitVec 32 := Scalar.remsi arg21 c4_i32_107
  let c2_i32_135 : BitVec 32 := 2#32
  let c0_i32_110 : BitVec 32 := 0#32
  let c1_i32_112 : BitVec 32 := 1#32
  let arg23 : BitVec 32 := Scf.iv c0_i32_110 c1_i32_112 k0_t7
  let v187 : BitVec 32 := Scalar.muli c2_i32_135 arg23
  let c1_i32_136 : BitVec 32 := 1#32
  let v188 : BitVec 32 := Scalar.addi v187 c1_i32_136
  let c0_i32_144 : BitVec 32 := 0#32
  let c0_i32_145 : BitVec 32 := 0#32
  ![v160.toNat, v188.toNat, 0, 0]
def k0_off39 (v178 : BitVec 32) : Fin 3 → Nat :=
  let c12_i32 : BitVec 32 := 12#32
  let v180 : BitVec 32 := Scalar.shrsi v178 c12_i32
  let c4095_i32_130 : BitVec 32 := 4095#32
  let v181 : BitVec 32 := Scalar.andi v180 c4095_i32_130
  let c0_i32_146 : BitVec 32 := 0#32
  let c24_i32 : BitVec 32 := 24#32
  let v182 : BitVec 32 := Scalar.shrsi v178 c24_i32
  let c2_i32_131 : BitVec 32 := 2#32
  let v183 : BitVec 1 := Scalar.cmpi .eq v182 c2_i32_131
  let c128_i32_132 : BitVec 32 := 128#32
  let c0_i32_133 : BitVec 32 := 0#32
  let v184 : BitVec 32 := Scalar.select v183 c128_i32_132 c0_i32_133
  let v185 : BitVec 32 := v184
  ![v181.toNat, 0, v185.toNat]
def k0_off40 (v25_0 : BitVec 32) (v25_1 : BitVec 32) (k0_t6 : Fin (k0_t6_loop v25_0 v25_1).trips) (k0_t7 : Fin k0_t7_loop.trips) : Fin 4 → Nat :=
  let c0_i32_98 : BitVec 32 := 0#32
  let c1_i32_101 : BitVec 32 := 1#32
  let arg21 : BitVec 32 := Scf.iv c0_i32_98 c1_i32_101 k0_t6
  let c4_i32_107 : BitVec 32 := 4#32
  let v160 : BitVec 32 := Scalar.remsi arg21 c4_i32_107
  let c2_i32_137 : BitVec 32 := 2#32
  let c0_i32_110 : BitVec 32 := 0#32
  let c1_i32_112 : BitVec 32 := 1#32
  let arg23 : BitVec 32 := Scf.iv c0_i32_110 c1_i32_112 k0_t7
  let v189 : BitVec 32 := Scalar.muli c2_i32_137 arg23
  let c0_i32_147 : BitVec 32 := 0#32
  let c0_i32_148 : BitVec 32 := 0#32
  ![v160.toNat, v189.toNat, 0, 0]
def k0_off41 (v178 : BitVec 32) : Fin 3 → Nat :=
  let c4095_i32 : BitVec 32 := 4095#32
  let v179 : BitVec 32 := Scalar.andi v178 c4095_i32
  let c0_i32_149 : BitVec 32 := 0#32
  let c0_i32_150 : BitVec 32 := 0#32
  ![v179.toNat, 0, 0]
def k0_off42 (v25_0 : BitVec 32) (v25_1 : BitVec 32) (k0_t6 : Fin (k0_t6_loop v25_0 v25_1).trips) (k0_t7 : Fin k0_t7_loop.trips) : Fin 4 → Nat :=
  let c0_i32_98 : BitVec 32 := 0#32
  let c1_i32_101 : BitVec 32 := 1#32
  let arg21 : BitVec 32 := Scf.iv c0_i32_98 c1_i32_101 k0_t6
  let c4_i32_107 : BitVec 32 := 4#32
  let v160 : BitVec 32 := Scalar.remsi arg21 c4_i32_107
  let c2_i32_138 : BitVec 32 := 2#32
  let c0_i32_110 : BitVec 32 := 0#32
  let c1_i32_112 : BitVec 32 := 1#32
  let arg23 : BitVec 32 := Scf.iv c0_i32_110 c1_i32_112 k0_t7
  let v190 : BitVec 32 := Scalar.muli c2_i32_138 arg23
  let c1_i32_139 : BitVec 32 := 1#32
  let v191 : BitVec 32 := Scalar.addi v190 c1_i32_139
  let c0_i32_151 : BitVec 32 := 0#32
  let c0_i32_152 : BitVec 32 := 0#32
  ![v160.toNat, v191.toNat, 0, 0]
def k0_off43 (v178 : BitVec 32) : Fin 3 → Nat :=
  let c12_i32 : BitVec 32 := 12#32
  let v180 : BitVec 32 := Scalar.shrsi v178 c12_i32
  let c4095_i32_130 : BitVec 32 := 4095#32
  let v181 : BitVec 32 := Scalar.andi v180 c4095_i32_130
  let c0_i32_153 : BitVec 32 := 0#32
  let c0_i32_154 : BitVec 32 := 0#32
  ![v181.toNat, 0, 0]

def k0_chk5 (v178 : BitVec 32) : Prop :=
  (128 ∣ (k0_mult3 v178).toNat) ∧
  (∀ a, (k0_off37 v178) a + S1x656x128.size a ≤ S2600x656x256.size a) ∧
  (∀ (hinb : ∀ a, (k0_off37 v178) a + S1x656x128.size a ≤ S2600x656x256.size a), (Rect.unit (s := S2600x656x256) (k0_off37 v178) S1x656x128.size hinb).WholeWords (EltTy.packing .i8)) ∧
  (∀ a, (k0_off39 v178) a + S1x656x128.size a ≤ S2600x656x256.size a) ∧
  (∀ (hinb : ∀ a, (k0_off39 v178) a + S1x656x128.size a ≤ S2600x656x256.size a), (Rect.unit (s := S2600x656x256) (k0_off39 v178) S1x656x128.size hinb).WholeWords (EltTy.packing .i8)) ∧
  (∀ a, (k0_off41 v178) a + S1x16x512.size a ≤ S2600x16x512.size a) ∧
  (∀ (hinb : ∀ a, (k0_off41 v178) a + S1x16x512.size a ≤ S2600x16x512.size a), (Rect.unit (s := S2600x16x512) (k0_off41 v178) S1x16x512.size hinb).WholeWords (EltTy.packing .bf16)) ∧
  (∀ a, (k0_off43 v178) a + S1x16x512.size a ≤ S2600x16x512.size a) ∧
  (∀ (hinb : ∀ a, (k0_off43 v178) a + S1x16x512.size a ≤ S2600x16x512.size a), (Rect.unit (s := S2600x16x512) (k0_off43 v178) S1x16x512.size hinb).WholeWords (EltTy.packing .bf16))
theorem k0_mult3_dvd : ∀ (v178 : BitVec 32) (k0_hw5 : k0_chk5 v178), 128 ∣ (k0_mult3 v178).toNat := fun v178 k0_hw5 => k0_hw5.1
theorem k0_off37_inb : ∀ (v178 : BitVec 32) (k0_hw5 : k0_chk5 v178), ∀ a, (k0_off37 v178) a + S1x656x128.size a ≤ S2600x656x256.size a := fun v178 k0_hw5 => k0_hw5.2.1
theorem k0_off37_wordsi8 : ∀ (v178 : BitVec 32) (k0_hw5 : k0_chk5 v178), (Rect.unit (s := S2600x656x256) (k0_off37 v178) S1x656x128.size (k0_off37_inb v178 k0_hw5)).WholeWords (EltTy.packing .i8) := fun v178 k0_hw5 => k0_hw5.2.2.1 (k0_off37_inb v178 k0_hw5)
theorem k0_off39_inb : ∀ (v178 : BitVec 32) (k0_hw5 : k0_chk5 v178), ∀ a, (k0_off39 v178) a + S1x656x128.size a ≤ S2600x656x256.size a := fun v178 k0_hw5 => k0_hw5.2.2.2.1
theorem k0_off39_wordsi8 : ∀ (v178 : BitVec 32) (k0_hw5 : k0_chk5 v178), (Rect.unit (s := S2600x656x256) (k0_off39 v178) S1x656x128.size (k0_off39_inb v178 k0_hw5)).WholeWords (EltTy.packing .i8) := fun v178 k0_hw5 => k0_hw5.2.2.2.2.1 (k0_off39_inb v178 k0_hw5)
theorem k0_off41_inb : ∀ (v178 : BitVec 32) (k0_hw5 : k0_chk5 v178), ∀ a, (k0_off41 v178) a + S1x16x512.size a ≤ S2600x16x512.size a := fun v178 k0_hw5 => k0_hw5.2.2.2.2.2.1
theorem k0_off41_wordsbf16 : ∀ (v178 : BitVec 32) (k0_hw5 : k0_chk5 v178), (Rect.unit (s := S2600x16x512) (k0_off41 v178) S1x16x512.size (k0_off41_inb v178 k0_hw5)).WholeWords (EltTy.packing .bf16) := fun v178 k0_hw5 => k0_hw5.2.2.2.2.2.2.1 (k0_off41_inb v178 k0_hw5)
theorem k0_off43_inb : ∀ (v178 : BitVec 32) (k0_hw5 : k0_chk5 v178), ∀ a, (k0_off43 v178) a + S1x16x512.size a ≤ S2600x16x512.size a := fun v178 k0_hw5 => k0_hw5.2.2.2.2.2.2.2.1
theorem k0_off43_wordsbf16 : ∀ (v178 : BitVec 32) (k0_hw5 : k0_chk5 v178), (Rect.unit (s := S2600x16x512) (k0_off43 v178) S1x16x512.size (k0_off43_inb v178 k0_hw5)).WholeWords (EltTy.packing .bf16) := fun v178 k0_hw5 => k0_hw5.2.2.2.2.2.2.2.2 (k0_off43_inb v178 k0_hw5)

def k0_cond2 (v25_0 : BitVec 32) (v25_1 : BitVec 32) (k0_t6 : Fin (k0_t6_loop v25_0 v25_1).trips) : BitVec 1 :=
  let c0_i32_98 : BitVec 32 := 0#32
  let c1_i32_101 : BitVec 32 := 1#32
  let arg21 : BitVec 32 := Scf.iv c0_i32_98 c1_i32_101 k0_t6
  let c2_i32_114 : BitVec 32 := 2#32
  let v164 : BitVec 1 := Scalar.cmpi .sge arg21 c2_i32_114
  let v165 : BitVec 32 := Scalar.extui v164
  let c0_i32_115 : BitVec 32 := 0#32
  let v166 : BitVec 1 := Scalar.cmpi .ne v165 c0_i32_115
  v166

@[reducible] def k0_t8_loop : Scf.Loop 32 :=
  let c0_i32_131 : BitVec 32 := 0#32
  let c16_i32_132 : BitVec 32 := 16#32
  let v176 : BitVec 32 := Scalar.addi c0_i32_131 c16_i32_132
  let c1_i32_133 : BitVec 32 := 1#32
  ⟨c0_i32_131, v176, c1_i32_133⟩
def k0_off44 (v25_0 : BitVec 32) (v25_1 : BitVec 32) (k0_t6 : Fin (k0_t6_loop v25_0 v25_1).trips) (k0_t8 : Fin k0_t8_loop.trips) : Fin 1 → Nat :=
  let c0_i32_98 : BitVec 32 := 0#32
  let c1_i32_101 : BitVec 32 := 1#32
  let arg21 : BitVec 32 := Scf.iv c0_i32_98 c1_i32_101 k0_t6
  let c2_i32_129 : BitVec 32 := 2#32
  let v175 : BitVec 32 := Scalar.subi arg21 c2_i32_129
  let c16_i32_135 : BitVec 32 := 16#32
  let v178 : BitVec 32 := Scalar.muli v175 c16_i32_135
  let c0_i32_131 : BitVec 32 := 0#32
  let c1_i32_133 : BitVec 32 := 1#32
  let arg23 : BitVec 32 := Scf.iv c0_i32_131 c1_i32_133 k0_t8
  let v179 : BitVec 32 := Scalar.addi v178 arg23
  let v180 : Index := Scalar.indexCast v179
  ![v180.toNat]
def k0_off45 (v25_0 : BitVec 32) (v25_1 : BitVec 32) (k0_t6 : Fin (k0_t6_loop v25_0 v25_1).trips) : Fin 1 → Nat :=
  let c0_i32_98 : BitVec 32 := 0#32
  let c1_i32_101 : BitVec 32 := 1#32
  let arg21 : BitVec 32 := Scf.iv c0_i32_98 c1_i32_101 k0_t6
  let c2_i32_108 : BitVec 32 := 2#32
  let v161 : BitVec 32 := Scalar.remsi arg21 c2_i32_108
  ![v161.toNat]
def k0_cond3 (v181 : BitVec 32) : BitVec 1 :=
  let c24_i32 : BitVec 32 := 24#32
  let v182 : BitVec 32 := Scalar.shrsi v181 c24_i32
  let c3_i32_140 : BitVec 32 := 3#32
  let v189 : BitVec 1 := Scalar.cmpi .ne v182 c3_i32_140
  let v191 : BitVec 32 := Scalar.extui v189
  let c0_i32_142 : BitVec 32 := 0#32
  let v192 : BitVec 1 := Scalar.cmpi .ne v191 c0_i32_142
  v192

def k0_off46 (v181 : BitVec 32) : Fin 3 → Nat :=
  let c4095_i32 : BitVec 32 := 4095#32
  let v184 : BitVec 32 := Scalar.andi v181 c4095_i32
  let c0_i32_145 : BitVec 32 := 0#32
  let c0_i32_146 : BitVec 32 := 0#32
  ![v184.toNat, 0, 0]
def k0_off47 (v25_0 : BitVec 32) (v25_1 : BitVec 32) (k0_t6 : Fin (k0_t6_loop v25_0 v25_1).trips) (k0_t8 : Fin k0_t8_loop.trips) : Fin 4 → Nat :=
  let c0_i32_98 : BitVec 32 := 0#32
  let c1_i32_101 : BitVec 32 := 1#32
  let arg21 : BitVec 32 := Scf.iv c0_i32_98 c1_i32_101 k0_t6
  let c2_i32_108 : BitVec 32 := 2#32
  let v161 : BitVec 32 := Scalar.remsi arg21 c2_i32_108
  let c2_i32_136 : BitVec 32 := 2#32
  let c0_i32_131 : BitVec 32 := 0#32
  let c1_i32_133 : BitVec 32 := 1#32
  let arg23 : BitVec 32 := Scf.iv c0_i32_131 c1_i32_133 k0_t8
  let v183 : BitVec 32 := Scalar.muli c2_i32_136 arg23
  let c0_i32_147 : BitVec 32 := 0#32
  let c0_i32_148 : BitVec 32 := 0#32
  ![v161.toNat, v183.toNat, 0, 0]
def k0_off48 (v25_0 : BitVec 32) (v25_1 : BitVec 32) (k0_t6 : Fin (k0_t6_loop v25_0 v25_1).trips) : Fin 1 → Nat :=
  let c0_i32_98 : BitVec 32 := 0#32
  let c1_i32_101 : BitVec 32 := 1#32
  let arg21 : BitVec 32 := Scf.iv c0_i32_98 c1_i32_101 k0_t6
  let c2_i32_108 : BitVec 32 := 2#32
  let v161 : BitVec 32 := Scalar.remsi arg21 c2_i32_108
  ![v161.toNat]
def k0_cond4 (v181 : BitVec 32) : BitVec 1 :=
  let c24_i32 : BitVec 32 := 24#32
  let v182 : BitVec 32 := Scalar.shrsi v181 c24_i32
  let c1_i32_141 : BitVec 32 := 1#32
  let v190 : BitVec 1 := Scalar.cmpi .eq v182 c1_i32_141
  let v193 : BitVec 32 := Scalar.extui v190
  let c0_i32_143 : BitVec 32 := 0#32
  let v194 : BitVec 1 := Scalar.cmpi .ne v193 c0_i32_143
  v194

def k0_off49 (v181 : BitVec 32) : Fin 3 → Nat :=
  let c12_i32 : BitVec 32 := 12#32
  let v187 : BitVec 32 := Scalar.shrsi v181 c12_i32
  let c4095_i32_139 : BitVec 32 := 4095#32
  let v188 : BitVec 32 := Scalar.andi v187 c4095_i32_139
  let c0_i32_145 : BitVec 32 := 0#32
  let c0_i32_146 : BitVec 32 := 0#32
  ![v188.toNat, 0, 0]
def k0_off50 (v25_0 : BitVec 32) (v25_1 : BitVec 32) (k0_t6 : Fin (k0_t6_loop v25_0 v25_1).trips) (k0_t8 : Fin k0_t8_loop.trips) : Fin 4 → Nat :=
  let c0_i32_98 : BitVec 32 := 0#32
  let c1_i32_101 : BitVec 32 := 1#32
  let arg21 : BitVec 32 := Scf.iv c0_i32_98 c1_i32_101 k0_t6
  let c2_i32_108 : BitVec 32 := 2#32
  let v161 : BitVec 32 := Scalar.remsi arg21 c2_i32_108
  let c2_i32_137 : BitVec 32 := 2#32
  let c0_i32_131 : BitVec 32 := 0#32
  let c1_i32_133 : BitVec 32 := 1#32
  let arg23 : BitVec 32 := Scf.iv c0_i32_131 c1_i32_133 k0_t8
  let v185 : BitVec 32 := Scalar.muli c2_i32_137 arg23
  let c1_i32_138 : BitVec 32 := 1#32
  let v186 : BitVec 32 := Scalar.addi v185 c1_i32_138
  let c0_i32_147 : BitVec 32 := 0#32
  let c0_i32_148 : BitVec 32 := 0#32
  ![v161.toNat, v186.toNat, 0, 0]

def k0_chk6 (v25_0 : BitVec 32) (v25_1 : BitVec 32) (k0_t6 : Fin (k0_t6_loop v25_0 v25_1).trips) (k0_t8 : Fin k0_t8_loop.trips) (v181 : BitVec 32) : Prop :=
  (∀ (k0_h2 : k0_cond2 v25_0 v25_1 k0_t6 = 1#1), ∀ (k0_h3 : k0_cond3 v181 = 1#1), ∀ a, (k0_off45 v25_0 v25_1 k0_t6) a + S1.size a ≤ S2.size a) ∧
  (∀ (k0_h2 : k0_cond2 v25_0 v25_1 k0_t6 = 1#1), ∀ (k0_h3 : k0_cond3 v181 = 1#1), ∀ a, (k0_off46 v181) a + S1x16x512.size a ≤ S2600x16x512.size a) ∧
  (∀ (k0_h2 : k0_cond2 v25_0 v25_1 k0_t6 = 1#1), ∀ (k0_h3 : k0_cond3 v181 = 1#1), ∀ a, (k0_off47 v25_0 v25_1 k0_t6 k0_t8) a + S1x1x16x512.size a ≤ S2x32x16x512.size a) ∧
  (∀ (k0_h2 : k0_cond2 v25_0 v25_1 k0_t6 = 1#1), ∀ (k0_h3 : k0_cond3 v181 = 1#1), ∀ (hinb : ∀ a, (k0_off47 v25_0 v25_1 k0_t6 k0_t8) a + S1x1x16x512.size a ≤ S2x32x16x512.size a), (Rect.unit (s := S2x32x16x512) (k0_off47 v25_0 v25_1 k0_t6 k0_t8) S1x1x16x512.size hinb).WholeWords (EltTy.packing .bf16)) ∧
  (∀ (k0_h2 : k0_cond2 v25_0 v25_1 k0_t6 = 1#1), ∀ (k0_h3 : k0_cond3 v181 = 1#1), ∀ (hinb : ∀ a, (k0_off46 v181) a + S1x16x512.size a ≤ S2600x16x512.size a), (Rect.unit (s := S2600x16x512) (k0_off46 v181) S1x16x512.size hinb).WholeWords (EltTy.packing .bf16)) ∧
  (∀ (k0_h2 : k0_cond2 v25_0 v25_1 k0_t6 = 1#1), ∀ (k0_h4 : k0_cond4 v181 = 1#1), ∀ a, (k0_off48 v25_0 v25_1 k0_t6) a + S1.size a ≤ S2.size a) ∧
  (∀ (k0_h2 : k0_cond2 v25_0 v25_1 k0_t6 = 1#1), ∀ (k0_h4 : k0_cond4 v181 = 1#1), ∀ a, (k0_off49 v181) a + S1x16x512.size a ≤ S2600x16x512.size a) ∧
  (∀ (k0_h2 : k0_cond2 v25_0 v25_1 k0_t6 = 1#1), ∀ (k0_h4 : k0_cond4 v181 = 1#1), ∀ a, (k0_off50 v25_0 v25_1 k0_t6 k0_t8) a + S1x1x16x512.size a ≤ S2x32x16x512.size a) ∧
  (∀ (k0_h2 : k0_cond2 v25_0 v25_1 k0_t6 = 1#1), ∀ (k0_h4 : k0_cond4 v181 = 1#1), ∀ (hinb : ∀ a, (k0_off50 v25_0 v25_1 k0_t6 k0_t8) a + S1x1x16x512.size a ≤ S2x32x16x512.size a), (Rect.unit (s := S2x32x16x512) (k0_off50 v25_0 v25_1 k0_t6 k0_t8) S1x1x16x512.size hinb).WholeWords (EltTy.packing .bf16)) ∧
  (∀ (k0_h2 : k0_cond2 v25_0 v25_1 k0_t6 = 1#1), ∀ (k0_h4 : k0_cond4 v181 = 1#1), ∀ (hinb : ∀ a, (k0_off49 v181) a + S1x16x512.size a ≤ S2600x16x512.size a), (Rect.unit (s := S2600x16x512) (k0_off49 v181) S1x16x512.size hinb).WholeWords (EltTy.packing .bf16))
theorem k0_off45_inb : ∀ (v25_0 : BitVec 32) (v25_1 : BitVec 32) (k0_t6 : Fin (k0_t6_loop v25_0 v25_1).trips) (k0_t8 : Fin k0_t8_loop.trips) (v181 : BitVec 32) (k0_hw6 : k0_chk6 v25_0 v25_1 k0_t6 k0_t8 v181), ∀ (k0_h2 : k0_cond2 v25_0 v25_1 k0_t6 = 1#1), ∀ (k0_h3 : k0_cond3 v181 = 1#1), ∀ a, (k0_off45 v25_0 v25_1 k0_t6) a + S1.size a ≤ S2.size a := fun v25_0 v25_1 k0_t6 k0_t8 v181 k0_hw6 k0_h2 k0_h3 => k0_hw6.1 k0_h2 k0_h3
theorem k0_off46_inb : ∀ (v25_0 : BitVec 32) (v25_1 : BitVec 32) (k0_t6 : Fin (k0_t6_loop v25_0 v25_1).trips) (k0_t8 : Fin k0_t8_loop.trips) (v181 : BitVec 32) (k0_hw6 : k0_chk6 v25_0 v25_1 k0_t6 k0_t8 v181), ∀ (k0_h2 : k0_cond2 v25_0 v25_1 k0_t6 = 1#1), ∀ (k0_h3 : k0_cond3 v181 = 1#1), ∀ a, (k0_off46 v181) a + S1x16x512.size a ≤ S2600x16x512.size a := fun v25_0 v25_1 k0_t6 k0_t8 v181 k0_hw6 k0_h2 k0_h3 => k0_hw6.2.1 k0_h2 k0_h3
theorem k0_off47_inb : ∀ (v25_0 : BitVec 32) (v25_1 : BitVec 32) (k0_t6 : Fin (k0_t6_loop v25_0 v25_1).trips) (k0_t8 : Fin k0_t8_loop.trips) (v181 : BitVec 32) (k0_hw6 : k0_chk6 v25_0 v25_1 k0_t6 k0_t8 v181), ∀ (k0_h2 : k0_cond2 v25_0 v25_1 k0_t6 = 1#1), ∀ (k0_h3 : k0_cond3 v181 = 1#1), ∀ a, (k0_off47 v25_0 v25_1 k0_t6 k0_t8) a + S1x1x16x512.size a ≤ S2x32x16x512.size a := fun v25_0 v25_1 k0_t6 k0_t8 v181 k0_hw6 k0_h2 k0_h3 => k0_hw6.2.2.1 k0_h2 k0_h3
theorem k0_off47_wordsbf16 : ∀ (v25_0 : BitVec 32) (v25_1 : BitVec 32) (k0_t6 : Fin (k0_t6_loop v25_0 v25_1).trips) (k0_t8 : Fin k0_t8_loop.trips) (v181 : BitVec 32) (k0_hw6 : k0_chk6 v25_0 v25_1 k0_t6 k0_t8 v181), ∀ (k0_h2 : k0_cond2 v25_0 v25_1 k0_t6 = 1#1), ∀ (k0_h3 : k0_cond3 v181 = 1#1), (Rect.unit (s := S2x32x16x512) (k0_off47 v25_0 v25_1 k0_t6 k0_t8) S1x1x16x512.size (k0_off47_inb v25_0 v25_1 k0_t6 k0_t8 v181 k0_hw6 k0_h2 k0_h3)).WholeWords (EltTy.packing .bf16) := fun v25_0 v25_1 k0_t6 k0_t8 v181 k0_hw6 k0_h2 k0_h3 => k0_hw6.2.2.2.1 k0_h2 k0_h3 (k0_off47_inb v25_0 v25_1 k0_t6 k0_t8 v181 k0_hw6 k0_h2 k0_h3)
theorem k0_off46_wordsbf16 : ∀ (v25_0 : BitVec 32) (v25_1 : BitVec 32) (k0_t6 : Fin (k0_t6_loop v25_0 v25_1).trips) (k0_t8 : Fin k0_t8_loop.trips) (v181 : BitVec 32) (k0_hw6 : k0_chk6 v25_0 v25_1 k0_t6 k0_t8 v181), ∀ (k0_h2 : k0_cond2 v25_0 v25_1 k0_t6 = 1#1), ∀ (k0_h3 : k0_cond3 v181 = 1#1), (Rect.unit (s := S2600x16x512) (k0_off46 v181) S1x16x512.size (k0_off46_inb v25_0 v25_1 k0_t6 k0_t8 v181 k0_hw6 k0_h2 k0_h3)).WholeWords (EltTy.packing .bf16) := fun v25_0 v25_1 k0_t6 k0_t8 v181 k0_hw6 k0_h2 k0_h3 => k0_hw6.2.2.2.2.1 k0_h2 k0_h3 (k0_off46_inb v25_0 v25_1 k0_t6 k0_t8 v181 k0_hw6 k0_h2 k0_h3)
theorem k0_off48_inb : ∀ (v25_0 : BitVec 32) (v25_1 : BitVec 32) (k0_t6 : Fin (k0_t6_loop v25_0 v25_1).trips) (k0_t8 : Fin k0_t8_loop.trips) (v181 : BitVec 32) (k0_hw6 : k0_chk6 v25_0 v25_1 k0_t6 k0_t8 v181), ∀ (k0_h2 : k0_cond2 v25_0 v25_1 k0_t6 = 1#1), ∀ (k0_h4 : k0_cond4 v181 = 1#1), ∀ a, (k0_off48 v25_0 v25_1 k0_t6) a + S1.size a ≤ S2.size a := fun v25_0 v25_1 k0_t6 k0_t8 v181 k0_hw6 k0_h2 k0_h4 => k0_hw6.2.2.2.2.2.1 k0_h2 k0_h4
theorem k0_off49_inb : ∀ (v25_0 : BitVec 32) (v25_1 : BitVec 32) (k0_t6 : Fin (k0_t6_loop v25_0 v25_1).trips) (k0_t8 : Fin k0_t8_loop.trips) (v181 : BitVec 32) (k0_hw6 : k0_chk6 v25_0 v25_1 k0_t6 k0_t8 v181), ∀ (k0_h2 : k0_cond2 v25_0 v25_1 k0_t6 = 1#1), ∀ (k0_h4 : k0_cond4 v181 = 1#1), ∀ a, (k0_off49 v181) a + S1x16x512.size a ≤ S2600x16x512.size a := fun v25_0 v25_1 k0_t6 k0_t8 v181 k0_hw6 k0_h2 k0_h4 => k0_hw6.2.2.2.2.2.2.1 k0_h2 k0_h4
theorem k0_off50_inb : ∀ (v25_0 : BitVec 32) (v25_1 : BitVec 32) (k0_t6 : Fin (k0_t6_loop v25_0 v25_1).trips) (k0_t8 : Fin k0_t8_loop.trips) (v181 : BitVec 32) (k0_hw6 : k0_chk6 v25_0 v25_1 k0_t6 k0_t8 v181), ∀ (k0_h2 : k0_cond2 v25_0 v25_1 k0_t6 = 1#1), ∀ (k0_h4 : k0_cond4 v181 = 1#1), ∀ a, (k0_off50 v25_0 v25_1 k0_t6 k0_t8) a + S1x1x16x512.size a ≤ S2x32x16x512.size a := fun v25_0 v25_1 k0_t6 k0_t8 v181 k0_hw6 k0_h2 k0_h4 => k0_hw6.2.2.2.2.2.2.2.1 k0_h2 k0_h4
theorem k0_off50_wordsbf16 : ∀ (v25_0 : BitVec 32) (v25_1 : BitVec 32) (k0_t6 : Fin (k0_t6_loop v25_0 v25_1).trips) (k0_t8 : Fin k0_t8_loop.trips) (v181 : BitVec 32) (k0_hw6 : k0_chk6 v25_0 v25_1 k0_t6 k0_t8 v181), ∀ (k0_h2 : k0_cond2 v25_0 v25_1 k0_t6 = 1#1), ∀ (k0_h4 : k0_cond4 v181 = 1#1), (Rect.unit (s := S2x32x16x512) (k0_off50 v25_0 v25_1 k0_t6 k0_t8) S1x1x16x512.size (k0_off50_inb v25_0 v25_1 k0_t6 k0_t8 v181 k0_hw6 k0_h2 k0_h4)).WholeWords (EltTy.packing .bf16) := fun v25_0 v25_1 k0_t6 k0_t8 v181 k0_hw6 k0_h2 k0_h4 => k0_hw6.2.2.2.2.2.2.2.2.1 k0_h2 k0_h4 (k0_off50_inb v25_0 v25_1 k0_t6 k0_t8 v181 k0_hw6 k0_h2 k0_h4)
theorem k0_off49_wordsbf16 : ∀ (v25_0 : BitVec 32) (v25_1 : BitVec 32) (k0_t6 : Fin (k0_t6_loop v25_0 v25_1).trips) (k0_t8 : Fin k0_t8_loop.trips) (v181 : BitVec 32) (k0_hw6 : k0_chk6 v25_0 v25_1 k0_t6 k0_t8 v181), ∀ (k0_h2 : k0_cond2 v25_0 v25_1 k0_t6 = 1#1), ∀ (k0_h4 : k0_cond4 v181 = 1#1), (Rect.unit (s := S2600x16x512) (k0_off49 v181) S1x16x512.size (k0_off49_inb v25_0 v25_1 k0_t6 k0_t8 v181 k0_hw6 k0_h2 k0_h4)).WholeWords (EltTy.packing .bf16) := fun v25_0 v25_1 k0_t6 k0_t8 v181 k0_hw6 k0_h2 k0_h4 => k0_hw6.2.2.2.2.2.2.2.2.2 k0_h2 k0_h4 (k0_off49_inb v25_0 v25_1 k0_t6 k0_t8 v181 k0_hw6 k0_h2 k0_h4)

@[reducible] def k0_t9_loop : Scf.Loop 32 :=
  let c0_i32_117 : BitVec 32 := 0#32
  let c16_i32_118 : BitVec 32 := 16#32
  let v167 : BitVec 32 := Scalar.addi c0_i32_117 c16_i32_118
  let c1_i32_119 : BitVec 32 := 1#32
  ⟨c0_i32_117, v167, c1_i32_119⟩
def k0_off51 (v25_0 : BitVec 32) (v25_1 : BitVec 32) (k0_t6 : Fin (k0_t6_loop v25_0 v25_1).trips) (k0_t9 : Fin k0_t9_loop.trips) : Fin 1 → Nat :=
  let c0_i32_98 : BitVec 32 := 0#32
  let c1_i32_101 : BitVec 32 := 1#32
  let arg21 : BitVec 32 := Scf.iv c0_i32_98 c1_i32_101 k0_t6
  let c16_i32_129 : BitVec 32 := 16#32
  let v175 : BitVec 32 := Scalar.muli arg21 c16_i32_129
  let c0_i32_117 : BitVec 32 := 0#32
  let c1_i32_119 : BitVec 32 := 1#32
  let arg23 : BitVec 32 := Scf.iv c0_i32_117 c1_i32_119 k0_t9
  let v176 : BitVec 32 := Scalar.addi v175 arg23
  let v177 : Index := Scalar.indexCast v176
  ![v177.toNat]
def k0_off52 (v178 : BitVec 32) : Fin 1 → Nat :=
  let c4095_i32 : BitVec 32 := 4095#32
  let v179 : BitVec 32 := Scalar.andi v178 c4095_i32
  let v184 : Index := Scalar.indexCast v179
  ![v184.toNat]

def k0_off53 (v178 : BitVec 32) : Fin 1 → Nat :=
  let c12_i32 : BitVec 32 := 12#32
  let v180 : BitVec 32 := Scalar.shrsi v178 c12_i32
  let c4095_i32_130 : BitVec 32 := 4095#32
  let v181 : BitVec 32 := Scalar.andi v180 c4095_i32_130
  let v188 : Index := Scalar.indexCast v181
  ![v188.toNat]
def k0_off54 (v25_0 : BitVec 32) (v25_1 : BitVec 32) (k0_t6 : Fin (k0_t6_loop v25_0 v25_1).trips) (k0_t9 : Fin k0_t9_loop.trips) (c0_i32_135 : BitVec 32) : Fin 4 → Nat :=
  let c0_i32_98 : BitVec 32 := 0#32
  let c1_i32_101 : BitVec 32 := 1#32
  let arg21 : BitVec 32 := Scf.iv c0_i32_98 c1_i32_101 k0_t6
  let c4_i32_107 : BitVec 32 := 4#32
  let v160 : BitVec 32 := Scalar.remsi arg21 c4_i32_107
  let v193 : Index := Scalar.indexCast v160
  let c2_i32_134 : BitVec 32 := 2#32
  let c0_i32_117 : BitVec 32 := 0#32
  let c1_i32_119 : BitVec 32 := 1#32
  let arg23 : BitVec 32 := Scf.iv c0_i32_117 c1_i32_119 k0_t9
  let v191 : BitVec 32 := Scalar.muli c2_i32_134 arg23
  let v192 : BitVec 32 := Scalar.addi v191 c0_i32_135
  let v194 : Index := Scalar.indexCast v192
  let c0_136 : Index := 0#32
  let c0_137 : Index := 0#32
  ![v193.toNat, v194.toNat, 0, 0]
def k0_off55 (v25_0 : BitVec 32) (v25_1 : BitVec 32) (k0_t6 : Fin (k0_t6_loop v25_0 v25_1).trips) (k0_t9 : Fin k0_t9_loop.trips) (c0_i32_143 : BitVec 32) : Fin 4 → Nat :=
  let c0_i32_98 : BitVec 32 := 0#32
  let c1_i32_101 : BitVec 32 := 1#32
  let arg21 : BitVec 32 := Scf.iv c0_i32_98 c1_i32_101 k0_t6
  let c4_i32_107 : BitVec 32 := 4#32
  let v160 : BitVec 32 := Scalar.remsi arg21 c4_i32_107
  let v207 : Index := Scalar.indexCast v160
  let c2_i32_142 : BitVec 32 := 2#32
  let c0_i32_117 : BitVec 32 := 0#32
  let c1_i32_119 : BitVec 32 := 1#32
  let arg23 : BitVec 32 := Scf.iv c0_i32_117 c1_i32_119 k0_t9
  let v205 : BitVec 32 := Scalar.muli c2_i32_142 arg23
  let v206 : BitVec 32 := Scalar.addi v205 c0_i32_143
  let v208 : Index := Scalar.indexCast v206
  let c0_144 : Index := 0#32
  let c0_145 : Index := 0#32
  ![v207.toNat, v208.toNat, 0, 0]
def k0_off56 (v178 : BitVec 32) : Fin 2 → Nat :=
  let c4095_i32 : BitVec 32 := 4095#32
  let v179 : BitVec 32 := Scalar.andi v178 c4095_i32
  let v218 : Index := Scalar.indexCast v179
  let c0_150 : Index := 0#32
  ![v218.toNat, 0]
def k0_off57 (v178 : BitVec 32) : Fin 2 → Nat :=
  let c4095_i32 : BitVec 32 := 4095#32
  let v179 : BitVec 32 := Scalar.andi v178 c4095_i32
  let v222 : Index := Scalar.indexCast v179
  let c0_151 : Index := 0#32
  ![v222.toNat, 0]
def k0_off58 (v178 : BitVec 32) : Fin 3 → Nat :=
  let c0_152 : Index := 0#32
  let c4095_i32 : BitVec 32 := 4095#32
  let v179 : BitVec 32 := Scalar.andi v178 c4095_i32
  let v226 : Index := Scalar.indexCast v179
  let c0_153 : Index := 0#32
  ![0, v226.toNat, 0]
def k0_off59 (v178 : BitVec 32) : Fin 3 → Nat :=
  let c1 : Index := 1#32
  let c4095_i32 : BitVec 32 := 4095#32
  let v179 : BitVec 32 := Scalar.andi v178 c4095_i32
  let v230 : Index := Scalar.indexCast v179
  let c0_154 : Index := 0#32
  ![1, v230.toNat, 0]
def k0_off60 (v178 : BitVec 32) : Fin 3 → Nat :=
  let c2 : Index := 2#32
  let c4095_i32 : BitVec 32 := 4095#32
  let v179 : BitVec 32 := Scalar.andi v178 c4095_i32
  let v234 : Index := Scalar.indexCast v179
  let c0_155 : Index := 0#32
  ![2, v234.toNat, 0]
def k0_off61 (v178 : BitVec 32) : Fin 3 → Nat :=
  let c3 : Index := 3#32
  let c4095_i32 : BitVec 32 := 4095#32
  let v179 : BitVec 32 := Scalar.andi v178 c4095_i32
  let v238 : Index := Scalar.indexCast v179
  let c0_156 : Index := 0#32
  ![3, v238.toNat, 0]
def k0_off62 (v178 : BitVec 32) : Fin 2 → Nat :=
  let c12_i32 : BitVec 32 := 12#32
  let v180 : BitVec 32 := Scalar.shrsi v178 c12_i32
  let c4095_i32_130 : BitVec 32 := 4095#32
  let v181 : BitVec 32 := Scalar.andi v180 c4095_i32_130
  let v265 : Index := Scalar.indexCast v181
  let c0_159 : Index := 0#32
  ![v265.toNat, 0]
def k0_off63 (v178 : BitVec 32) : Fin 2 → Nat :=
  let c12_i32 : BitVec 32 := 12#32
  let v180 : BitVec 32 := Scalar.shrsi v178 c12_i32
  let c4095_i32_130 : BitVec 32 := 4095#32
  let v181 : BitVec 32 := Scalar.andi v180 c4095_i32_130
  let v269 : Index := Scalar.indexCast v181
  let c0_161 : Index := 0#32
  ![v269.toNat, 0]
def k0_off64 (v178 : BitVec 32) : Fin 3 → Nat :=
  let c0_162 : Index := 0#32
  let c12_i32 : BitVec 32 := 12#32
  let v180 : BitVec 32 := Scalar.shrsi v178 c12_i32
  let c4095_i32_130 : BitVec 32 := 4095#32
  let v181 : BitVec 32 := Scalar.andi v180 c4095_i32_130
  let v273 : Index := Scalar.indexCast v181
  let c0_163 : Index := 0#32
  ![0, v273.toNat, 0]
def k0_off65 (v178 : BitVec 32) : Fin 3 → Nat :=
  let c1_164 : Index := 1#32
  let c12_i32 : BitVec 32 := 12#32
  let v180 : BitVec 32 := Scalar.shrsi v178 c12_i32
  let c4095_i32_130 : BitVec 32 := 4095#32
  let v181 : BitVec 32 := Scalar.andi v180 c4095_i32_130
  let v277 : Index := Scalar.indexCast v181
  let c0_165 : Index := 0#32
  ![1, v277.toNat, 0]
def k0_off66 (v178 : BitVec 32) : Fin 3 → Nat :=
  let c2_166 : Index := 2#32
  let c12_i32 : BitVec 32 := 12#32
  let v180 : BitVec 32 := Scalar.shrsi v178 c12_i32
  let c4095_i32_130 : BitVec 32 := 4095#32
  let v181 : BitVec 32 := Scalar.andi v180 c4095_i32_130
  let v281 : Index := Scalar.indexCast v181
  let c0_167 : Index := 0#32
  ![2, v281.toNat, 0]
def k0_off67 (v178 : BitVec 32) : Fin 3 → Nat :=
  let c3_168 : Index := 3#32
  let c12_i32 : BitVec 32 := 12#32
  let v180 : BitVec 32 := Scalar.shrsi v178 c12_i32
  let c4095_i32_130 : BitVec 32 := 4095#32
  let v181 : BitVec 32 := Scalar.andi v180 c4095_i32_130
  let v285 : Index := Scalar.indexCast v181
  let c0_169 : Index := 0#32
  ![3, v285.toNat, 0]

def k0_chk7 (v178 : BitVec 32) : Prop :=
  (∀ a, (k0_off52 v178) a + S1.size a ≤ S2600.size a) ∧
  (∀ a, (k0_off53 v178) a + S1.size a ≤ S2600.size a) ∧
  (∀ a, S8x128.size a = 0 ∨ (k0_off56 v178) a + (![2628, 1] : Fin 2 → Nat) a * (S8x128.size a - 1) < S21024x128.size a) ∧
  (∀ a, (k0_off57 v178) a + S1x128.size a ≤ S2600x128.size a) ∧
  (∀ a, (k0_off58 v178) a + S1x1x128.size a ≤ S4x2600x128.size a) ∧
  (∀ a, (k0_off59 v178) a + S1x1x128.size a ≤ S4x2600x128.size a) ∧
  (∀ a, (k0_off60 v178) a + S1x1x128.size a ≤ S4x2600x128.size a) ∧
  (∀ a, (k0_off61 v178) a + S1x1x128.size a ≤ S4x2600x128.size a) ∧
  (∀ a, S8x128.size a = 0 ∨ (k0_off62 v178) a + (![2628, 1] : Fin 2 → Nat) a * (S8x128.size a - 1) < S21024x128.size a) ∧
  (∀ a, (k0_off63 v178) a + S1x128.size a ≤ S2600x128.size a) ∧
  (∀ a, (k0_off64 v178) a + S1x1x128.size a ≤ S4x2600x128.size a) ∧
  (∀ a, (k0_off65 v178) a + S1x1x128.size a ≤ S4x2600x128.size a) ∧
  (∀ a, (k0_off66 v178) a + S1x1x128.size a ≤ S4x2600x128.size a) ∧
  (∀ a, (k0_off67 v178) a + S1x1x128.size a ≤ S4x2600x128.size a)
theorem k0_off52_inb : ∀ (v178 : BitVec 32) (k0_hw7 : k0_chk7 v178), ∀ a, (k0_off52 v178) a + S1.size a ≤ S2600.size a := fun v178 k0_hw7 => k0_hw7.1
theorem k0_off53_inb : ∀ (v178 : BitVec 32) (k0_hw7 : k0_chk7 v178), ∀ a, (k0_off53 v178) a + S1.size a ≤ S2600.size a := fun v178 k0_hw7 => k0_hw7.2.1
theorem k0_off56_inb : ∀ (v178 : BitVec 32) (k0_hw7 : k0_chk7 v178), ∀ a, S8x128.size a = 0 ∨ (k0_off56 v178) a + (![2628, 1] : Fin 2 → Nat) a * (S8x128.size a - 1) < S21024x128.size a := fun v178 k0_hw7 => k0_hw7.2.2.1
theorem k0_off57_inb : ∀ (v178 : BitVec 32) (k0_hw7 : k0_chk7 v178), ∀ a, (k0_off57 v178) a + S1x128.size a ≤ S2600x128.size a := fun v178 k0_hw7 => k0_hw7.2.2.2.1
theorem k0_off58_inb : ∀ (v178 : BitVec 32) (k0_hw7 : k0_chk7 v178), ∀ a, (k0_off58 v178) a + S1x1x128.size a ≤ S4x2600x128.size a := fun v178 k0_hw7 => k0_hw7.2.2.2.2.1
theorem k0_off59_inb : ∀ (v178 : BitVec 32) (k0_hw7 : k0_chk7 v178), ∀ a, (k0_off59 v178) a + S1x1x128.size a ≤ S4x2600x128.size a := fun v178 k0_hw7 => k0_hw7.2.2.2.2.2.1
theorem k0_off60_inb : ∀ (v178 : BitVec 32) (k0_hw7 : k0_chk7 v178), ∀ a, (k0_off60 v178) a + S1x1x128.size a ≤ S4x2600x128.size a := fun v178 k0_hw7 => k0_hw7.2.2.2.2.2.2.1
theorem k0_off61_inb : ∀ (v178 : BitVec 32) (k0_hw7 : k0_chk7 v178), ∀ a, (k0_off61 v178) a + S1x1x128.size a ≤ S4x2600x128.size a := fun v178 k0_hw7 => k0_hw7.2.2.2.2.2.2.2.1
theorem k0_off62_inb : ∀ (v178 : BitVec 32) (k0_hw7 : k0_chk7 v178), ∀ a, S8x128.size a = 0 ∨ (k0_off62 v178) a + (![2628, 1] : Fin 2 → Nat) a * (S8x128.size a - 1) < S21024x128.size a := fun v178 k0_hw7 => k0_hw7.2.2.2.2.2.2.2.2.1
theorem k0_off63_inb : ∀ (v178 : BitVec 32) (k0_hw7 : k0_chk7 v178), ∀ a, (k0_off63 v178) a + S1x128.size a ≤ S2600x128.size a := fun v178 k0_hw7 => k0_hw7.2.2.2.2.2.2.2.2.2.1
theorem k0_off64_inb : ∀ (v178 : BitVec 32) (k0_hw7 : k0_chk7 v178), ∀ a, (k0_off64 v178) a + S1x1x128.size a ≤ S4x2600x128.size a := fun v178 k0_hw7 => k0_hw7.2.2.2.2.2.2.2.2.2.2.1
theorem k0_off65_inb : ∀ (v178 : BitVec 32) (k0_hw7 : k0_chk7 v178), ∀ a, (k0_off65 v178) a + S1x1x128.size a ≤ S4x2600x128.size a := fun v178 k0_hw7 => k0_hw7.2.2.2.2.2.2.2.2.2.2.2.1
theorem k0_off66_inb : ∀ (v178 : BitVec 32) (k0_hw7 : k0_chk7 v178), ∀ a, (k0_off66 v178) a + S1x1x128.size a ≤ S4x2600x128.size a := fun v178 k0_hw7 => k0_hw7.2.2.2.2.2.2.2.2.2.2.2.2.1
theorem k0_off67_inb : ∀ (v178 : BitVec 32) (k0_hw7 : k0_chk7 v178), ∀ a, (k0_off67 v178) a + S1x1x128.size a ≤ S4x2600x128.size a := fun v178 k0_hw7 => k0_hw7.2.2.2.2.2.2.2.2.2.2.2.2.2

def k0_off68 (v25_0 : BitVec 32) (v25_1 : BitVec 32) (k0_t6 : Fin (k0_t6_loop v25_0 v25_1).trips) (k0_t9 : Fin k0_t9_loop.trips) (c0_i32_202 : BitVec 32) : Fin 4 → Nat :=
  let c0_i32_98 : BitVec 32 := 0#32
  let c1_i32_101 : BitVec 32 := 1#32
  let arg21 : BitVec 32 := Scf.iv c0_i32_98 c1_i32_101 k0_t6
  let c2_i32_108 : BitVec 32 := 2#32
  let v161 : BitVec 32 := Scalar.remsi arg21 c2_i32_108
  let v620 : Index := Scalar.indexCast v161
  let c2_i32_201 : BitVec 32 := 2#32
  let c0_i32_117 : BitVec 32 := 0#32
  let c1_i32_119 : BitVec 32 := 1#32
  let arg23 : BitVec 32 := Scf.iv c0_i32_117 c1_i32_119 k0_t9
  let v618 : BitVec 32 := Scalar.muli c2_i32_201 arg23
  let v619 : BitVec 32 := Scalar.addi v618 c0_i32_202
  let v621 : Index := Scalar.indexCast v619
  let c0_203 : Index := 0#32
  let c0_204 : Index := 0#32
  ![v620.toNat, v621.toNat, 0, 0]
def k0_off69 (v25_0 : BitVec 32) (v25_1 : BitVec 32) (k0_t6 : Fin (k0_t6_loop v25_0 v25_1).trips) (k0_t9 : Fin k0_t9_loop.trips) (c0_i32_206 : BitVec 32) : Fin 4 → Nat :=
  let c0_i32_98 : BitVec 32 := 0#32
  let c1_i32_101 : BitVec 32 := 1#32
  let arg21 : BitVec 32 := Scf.iv c0_i32_98 c1_i32_101 k0_t6
  let c2_i32_108 : BitVec 32 := 2#32
  let v161 : BitVec 32 := Scalar.remsi arg21 c2_i32_108
  let v633 : Index := Scalar.indexCast v161
  let c2_i32_205 : BitVec 32 := 2#32
  let c0_i32_117 : BitVec 32 := 0#32
  let c1_i32_119 : BitVec 32 := 1#32
  let arg23 : BitVec 32 := Scf.iv c0_i32_117 c1_i32_119 k0_t9
  let v631 : BitVec 32 := Scalar.muli c2_i32_205 arg23
  let v632 : BitVec 32 := Scalar.addi v631 c0_i32_206
  let v634 : Index := Scalar.indexCast v632
  let c0_207 : Index := 0#32
  let c128_208 : Index := 128#32
  ![v633.toNat, v634.toNat, 0, 128]
def k0_off70 (v25_0 : BitVec 32) (v25_1 : BitVec 32) (k0_t6 : Fin (k0_t6_loop v25_0 v25_1).trips) (k0_t9 : Fin k0_t9_loop.trips) (c0_i32_210 : BitVec 32) : Fin 4 → Nat :=
  let c0_i32_98 : BitVec 32 := 0#32
  let c1_i32_101 : BitVec 32 := 1#32
  let arg21 : BitVec 32 := Scf.iv c0_i32_98 c1_i32_101 k0_t6
  let c2_i32_108 : BitVec 32 := 2#32
  let v161 : BitVec 32 := Scalar.remsi arg21 c2_i32_108
  let v646 : Index := Scalar.indexCast v161
  let c2_i32_209 : BitVec 32 := 2#32
  let c0_i32_117 : BitVec 32 := 0#32
  let c1_i32_119 : BitVec 32 := 1#32
  let arg23 : BitVec 32 := Scf.iv c0_i32_117 c1_i32_119 k0_t9
  let v644 : BitVec 32 := Scalar.muli c2_i32_209 arg23
  let v645 : BitVec 32 := Scalar.addi v644 c0_i32_210
  let v647 : Index := Scalar.indexCast v645
  let c0_211 : Index := 0#32
  let c256_212 : Index := 256#32
  ![v646.toNat, v647.toNat, 0, 256]
def k0_off71 (v25_0 : BitVec 32) (v25_1 : BitVec 32) (k0_t6 : Fin (k0_t6_loop v25_0 v25_1).trips) (k0_t9 : Fin k0_t9_loop.trips) (c0_i32_214 : BitVec 32) : Fin 4 → Nat :=
  let c0_i32_98 : BitVec 32 := 0#32
  let c1_i32_101 : BitVec 32 := 1#32
  let arg21 : BitVec 32 := Scf.iv c0_i32_98 c1_i32_101 k0_t6
  let c2_i32_108 : BitVec 32 := 2#32
  let v161 : BitVec 32 := Scalar.remsi arg21 c2_i32_108
  let v659 : Index := Scalar.indexCast v161
  let c2_i32_213 : BitVec 32 := 2#32
  let c0_i32_117 : BitVec 32 := 0#32
  let c1_i32_119 : BitVec 32 := 1#32
  let arg23 : BitVec 32 := Scf.iv c0_i32_117 c1_i32_119 k0_t9
  let v657 : BitVec 32 := Scalar.muli c2_i32_213 arg23
  let v658 : BitVec 32 := Scalar.addi v657 c0_i32_214
  let v660 : Index := Scalar.indexCast v658
  let c0_215 : Index := 0#32
  let c384_216 : Index := 384#32
  ![v659.toNat, v660.toNat, 0, 384]
@[reducible] def k0_t10_loop : Scf.Loop 32 :=
  let c0_i32_133 : BitVec 32 := 0#32
  let c16_i32_134 : BitVec 32 := 16#32
  let v178 : BitVec 32 := Scalar.addi c0_i32_133 c16_i32_134
  let c1_i32_135 : BitVec 32 := 1#32
  ⟨c0_i32_133, v178, c1_i32_135⟩
def k0_off72 (v25_0 : BitVec 32) (v25_1 : BitVec 32) (k0_t6 : Fin (k0_t6_loop v25_0 v25_1).trips) (k0_t10 : Fin k0_t10_loop.trips) : Fin 1 → Nat :=
  let c0_i32_98 : BitVec 32 := 0#32
  let c1_i32_101 : BitVec 32 := 1#32
  let arg21 : BitVec 32 := Scf.iv c0_i32_98 c1_i32_101 k0_t6
  let c3_i32_129 : BitVec 32 := 3#32
  let v175 : BitVec 32 := Scalar.addi arg21 c3_i32_129
  let c16_i32_137 : BitVec 32 := 16#32
  let v180 : BitVec 32 := Scalar.muli v175 c16_i32_137
  let c0_i32_133 : BitVec 32 := 0#32
  let c1_i32_135 : BitVec 32 := 1#32
  let arg23 : BitVec 32 := Scf.iv c0_i32_133 c1_i32_135 k0_t10
  let v181 : BitVec 32 := Scalar.addi v180 arg23
  let v182 : Index := Scalar.indexCast v181
  ![v182.toNat]
def k0_cond5 (v25_0 : BitVec 32) (v25_1 : BitVec 32) (k0_t6 : Fin (k0_t6_loop v25_0 v25_1).trips) : BitVec 1 :=
  let c0_i32_98 : BitVec 32 := 0#32
  let c1_i32_101 : BitVec 32 := 1#32
  let arg21 : BitVec 32 := Scf.iv c0_i32_98 c1_i32_101 k0_t6
  let c3_i32_121 : BitVec 32 := 3#32
  let v169 : BitVec 32 := Scalar.addi arg21 c3_i32_121
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v170 : BitVec 1 := Scalar.cmpi .slt v169 v52
  let v171 : BitVec 32 := Scalar.extui v170
  let c0_i32_122 : BitVec 32 := 0#32
  let v172 : BitVec 1 := Scalar.cmpi .ne v171 c0_i32_122
  v172

def k0_mult4 (v183 : BitVec 32) : BitVec 32 :=
  let c24_i32 : BitVec 32 := 24#32
  let v187 : BitVec 32 := Scalar.shrsi v183 c24_i32
  let c2_i32_139 : BitVec 32 := 2#32
  let v188 : BitVec 1 := Scalar.cmpi .eq v187 c2_i32_139
  let c128_i32_140 : BitVec 32 := 128#32
  let c0_i32_141 : BitVec 32 := 0#32
  let v189 : BitVec 32 := Scalar.select v188 c128_i32_140 c0_i32_141
  v189

def k0_off73 (v25_0 : BitVec 32) (v25_1 : BitVec 32) (k0_t6 : Fin (k0_t6_loop v25_0 v25_1).trips) : Fin 1 → Nat :=
  let c0_i32_98 : BitVec 32 := 0#32
  let c1_i32_101 : BitVec 32 := 1#32
  let arg21 : BitVec 32 := Scf.iv c0_i32_98 c1_i32_101 k0_t6
  let c3_i32_130 : BitVec 32 := 3#32
  let v176 : BitVec 32 := Scalar.addi arg21 c3_i32_130
  let c4_i32_131 : BitVec 32 := 4#32
  let v177 : BitVec 32 := Scalar.remsi v176 c4_i32_131
  ![v177.toNat]
def k0_off74 (v25_0 : BitVec 32) (v25_1 : BitVec 32) (k0_t6 : Fin (k0_t6_loop v25_0 v25_1).trips) (k0_t10 : Fin k0_t10_loop.trips) : Fin 4 → Nat :=
  let c0_i32_98 : BitVec 32 := 0#32
  let c1_i32_101 : BitVec 32 := 1#32
  let arg21 : BitVec 32 := Scf.iv c0_i32_98 c1_i32_101 k0_t6
  let c3_i32_130 : BitVec 32 := 3#32
  let v176 : BitVec 32 := Scalar.addi arg21 c3_i32_130
  let c4_i32_131 : BitVec 32 := 4#32
  let v177 : BitVec 32 := Scalar.remsi v176 c4_i32_131
  let c2_i32_142 : BitVec 32 := 2#32
  let c0_i32_133 : BitVec 32 := 0#32
  let c1_i32_135 : BitVec 32 := 1#32
  let arg23 : BitVec 32 := Scf.iv c0_i32_133 c1_i32_135 k0_t10
  let v191 : BitVec 32 := Scalar.muli c2_i32_142 arg23
  let c0_i32_148 : BitVec 32 := 0#32
  let c0_i32_149 : BitVec 32 := 0#32
  ![v177.toNat, v191.toNat, 0, 0]
def k0_off75 (v183 : BitVec 32) : Fin 3 → Nat :=
  let c4095_i32 : BitVec 32 := 4095#32
  let v184 : BitVec 32 := Scalar.andi v183 c4095_i32
  let c0_i32_150 : BitVec 32 := 0#32
  let c0_i32_151 : BitVec 32 := 0#32
  ![v184.toNat, 0, 0]
def k0_off76 (v25_0 : BitVec 32) (v25_1 : BitVec 32) (k0_t6 : Fin (k0_t6_loop v25_0 v25_1).trips) (k0_t10 : Fin k0_t10_loop.trips) : Fin 4 → Nat :=
  let c0_i32_98 : BitVec 32 := 0#32
  let c1_i32_101 : BitVec 32 := 1#32
  let arg21 : BitVec 32 := Scf.iv c0_i32_98 c1_i32_101 k0_t6
  let c3_i32_130 : BitVec 32 := 3#32
  let v176 : BitVec 32 := Scalar.addi arg21 c3_i32_130
  let c4_i32_131 : BitVec 32 := 4#32
  let v177 : BitVec 32 := Scalar.remsi v176 c4_i32_131
  let c2_i32_143 : BitVec 32 := 2#32
  let c0_i32_133 : BitVec 32 := 0#32
  let c1_i32_135 : BitVec 32 := 1#32
  let arg23 : BitVec 32 := Scf.iv c0_i32_133 c1_i32_135 k0_t10
  let v192 : BitVec 32 := Scalar.muli c2_i32_143 arg23
  let c1_i32_144 : BitVec 32 := 1#32
  let v193 : BitVec 32 := Scalar.addi v192 c1_i32_144
  let c0_i32_152 : BitVec 32 := 0#32
  let c0_i32_153 : BitVec 32 := 0#32
  ![v177.toNat, v193.toNat, 0, 0]
def k0_off77 (v183 : BitVec 32) : Fin 3 → Nat :=
  let c12_i32 : BitVec 32 := 12#32
  let v185 : BitVec 32 := Scalar.shrsi v183 c12_i32
  let c4095_i32_138 : BitVec 32 := 4095#32
  let v186 : BitVec 32 := Scalar.andi v185 c4095_i32_138
  let c0_i32_154 : BitVec 32 := 0#32
  let c24_i32 : BitVec 32 := 24#32
  let v187 : BitVec 32 := Scalar.shrsi v183 c24_i32
  let c2_i32_139 : BitVec 32 := 2#32
  let v188 : BitVec 1 := Scalar.cmpi .eq v187 c2_i32_139
  let c128_i32_140 : BitVec 32 := 128#32
  let c0_i32_141 : BitVec 32 := 0#32
  let v189 : BitVec 32 := Scalar.select v188 c128_i32_140 c0_i32_141
  let v190 : BitVec 32 := v189
  ![v186.toNat, 0, v190.toNat]
def k0_off78 (v25_0 : BitVec 32) (v25_1 : BitVec 32) (k0_t6 : Fin (k0_t6_loop v25_0 v25_1).trips) (k0_t10 : Fin k0_t10_loop.trips) : Fin 4 → Nat :=
  let c0_i32_98 : BitVec 32 := 0#32
  let c1_i32_101 : BitVec 32 := 1#32
  let arg21 : BitVec 32 := Scf.iv c0_i32_98 c1_i32_101 k0_t6
  let c3_i32_130 : BitVec 32 := 3#32
  let v176 : BitVec 32 := Scalar.addi arg21 c3_i32_130
  let c4_i32_131 : BitVec 32 := 4#32
  let v177 : BitVec 32 := Scalar.remsi v176 c4_i32_131
  let c2_i32_145 : BitVec 32 := 2#32
  let c0_i32_133 : BitVec 32 := 0#32
  let c1_i32_135 : BitVec 32 := 1#32
  let arg23 : BitVec 32 := Scf.iv c0_i32_133 c1_i32_135 k0_t10
  let v194 : BitVec 32 := Scalar.muli c2_i32_145 arg23
  let c0_i32_155 : BitVec 32 := 0#32
  let c0_i32_156 : BitVec 32 := 0#32
  ![v177.toNat, v194.toNat, 0, 0]
def k0_off79 (v183 : BitVec 32) : Fin 3 → Nat :=
  let c4095_i32 : BitVec 32 := 4095#32
  let v184 : BitVec 32 := Scalar.andi v183 c4095_i32
  let c0_i32_157 : BitVec 32 := 0#32
  let c0_i32_158 : BitVec 32 := 0#32
  ![v184.toNat, 0, 0]
def k0_off80 (v25_0 : BitVec 32) (v25_1 : BitVec 32) (k0_t6 : Fin (k0_t6_loop v25_0 v25_1).trips) (k0_t10 : Fin k0_t10_loop.trips) : Fin 4 → Nat :=
  let c0_i32_98 : BitVec 32 := 0#32
  let c1_i32_101 : BitVec 32 := 1#32
  let arg21 : BitVec 32 := Scf.iv c0_i32_98 c1_i32_101 k0_t6
  let c3_i32_130 : BitVec 32 := 3#32
  let v176 : BitVec 32 := Scalar.addi arg21 c3_i32_130
  let c4_i32_131 : BitVec 32 := 4#32
  let v177 : BitVec 32 := Scalar.remsi v176 c4_i32_131
  let c2_i32_146 : BitVec 32 := 2#32
  let c0_i32_133 : BitVec 32 := 0#32
  let c1_i32_135 : BitVec 32 := 1#32
  let arg23 : BitVec 32 := Scf.iv c0_i32_133 c1_i32_135 k0_t10
  let v195 : BitVec 32 := Scalar.muli c2_i32_146 arg23
  let c1_i32_147 : BitVec 32 := 1#32
  let v196 : BitVec 32 := Scalar.addi v195 c1_i32_147
  let c0_i32_159 : BitVec 32 := 0#32
  let c0_i32_160 : BitVec 32 := 0#32
  ![v177.toNat, v196.toNat, 0, 0]
def k0_off81 (v183 : BitVec 32) : Fin 3 → Nat :=
  let c12_i32 : BitVec 32 := 12#32
  let v185 : BitVec 32 := Scalar.shrsi v183 c12_i32
  let c4095_i32_138 : BitVec 32 := 4095#32
  let v186 : BitVec 32 := Scalar.andi v185 c4095_i32_138
  let c0_i32_161 : BitVec 32 := 0#32
  let c0_i32_162 : BitVec 32 := 0#32
  ![v186.toNat, 0, 0]

def k0_chk8 (v25_0 : BitVec 32) (v25_1 : BitVec 32) (k0_t6 : Fin (k0_t6_loop v25_0 v25_1).trips) (v183 : BitVec 32) : Prop :=
  (∀ (k0_h5 : k0_cond5 v25_0 v25_1 k0_t6 = 1#1), 128 ∣ (k0_mult4 v183).toNat) ∧
  (∀ (k0_h5 : k0_cond5 v25_0 v25_1 k0_t6 = 1#1), ∀ a, (k0_off75 v183) a + S1x656x128.size a ≤ S2600x656x256.size a) ∧
  (∀ (k0_h5 : k0_cond5 v25_0 v25_1 k0_t6 = 1#1), ∀ (hinb : ∀ a, (k0_off75 v183) a + S1x656x128.size a ≤ S2600x656x256.size a), (Rect.unit (s := S2600x656x256) (k0_off75 v183) S1x656x128.size hinb).WholeWords (EltTy.packing .i8)) ∧
  (∀ (k0_h5 : k0_cond5 v25_0 v25_1 k0_t6 = 1#1), ∀ a, (k0_off77 v183) a + S1x656x128.size a ≤ S2600x656x256.size a) ∧
  (∀ (k0_h5 : k0_cond5 v25_0 v25_1 k0_t6 = 1#1), ∀ (hinb : ∀ a, (k0_off77 v183) a + S1x656x128.size a ≤ S2600x656x256.size a), (Rect.unit (s := S2600x656x256) (k0_off77 v183) S1x656x128.size hinb).WholeWords (EltTy.packing .i8)) ∧
  (∀ (k0_h5 : k0_cond5 v25_0 v25_1 k0_t6 = 1#1), ∀ a, (k0_off79 v183) a + S1x16x512.size a ≤ S2600x16x512.size a) ∧
  (∀ (k0_h5 : k0_cond5 v25_0 v25_1 k0_t6 = 1#1), ∀ (hinb : ∀ a, (k0_off79 v183) a + S1x16x512.size a ≤ S2600x16x512.size a), (Rect.unit (s := S2600x16x512) (k0_off79 v183) S1x16x512.size hinb).WholeWords (EltTy.packing .bf16)) ∧
  (∀ (k0_h5 : k0_cond5 v25_0 v25_1 k0_t6 = 1#1), ∀ a, (k0_off81 v183) a + S1x16x512.size a ≤ S2600x16x512.size a) ∧
  (∀ (k0_h5 : k0_cond5 v25_0 v25_1 k0_t6 = 1#1), ∀ (hinb : ∀ a, (k0_off81 v183) a + S1x16x512.size a ≤ S2600x16x512.size a), (Rect.unit (s := S2600x16x512) (k0_off81 v183) S1x16x512.size hinb).WholeWords (EltTy.packing .bf16))
theorem k0_mult4_dvd : ∀ (v25_0 : BitVec 32) (v25_1 : BitVec 32) (k0_t6 : Fin (k0_t6_loop v25_0 v25_1).trips) (v183 : BitVec 32) (k0_hw8 : k0_chk8 v25_0 v25_1 k0_t6 v183), ∀ (k0_h5 : k0_cond5 v25_0 v25_1 k0_t6 = 1#1), 128 ∣ (k0_mult4 v183).toNat := fun v25_0 v25_1 k0_t6 v183 k0_hw8 k0_h5 => k0_hw8.1 k0_h5
theorem k0_off75_inb : ∀ (v25_0 : BitVec 32) (v25_1 : BitVec 32) (k0_t6 : Fin (k0_t6_loop v25_0 v25_1).trips) (v183 : BitVec 32) (k0_hw8 : k0_chk8 v25_0 v25_1 k0_t6 v183), ∀ (k0_h5 : k0_cond5 v25_0 v25_1 k0_t6 = 1#1), ∀ a, (k0_off75 v183) a + S1x656x128.size a ≤ S2600x656x256.size a := fun v25_0 v25_1 k0_t6 v183 k0_hw8 k0_h5 => k0_hw8.2.1 k0_h5
theorem k0_off75_wordsi8 : ∀ (v25_0 : BitVec 32) (v25_1 : BitVec 32) (k0_t6 : Fin (k0_t6_loop v25_0 v25_1).trips) (v183 : BitVec 32) (k0_hw8 : k0_chk8 v25_0 v25_1 k0_t6 v183), ∀ (k0_h5 : k0_cond5 v25_0 v25_1 k0_t6 = 1#1), (Rect.unit (s := S2600x656x256) (k0_off75 v183) S1x656x128.size (k0_off75_inb v25_0 v25_1 k0_t6 v183 k0_hw8 k0_h5)).WholeWords (EltTy.packing .i8) := fun v25_0 v25_1 k0_t6 v183 k0_hw8 k0_h5 => k0_hw8.2.2.1 k0_h5 (k0_off75_inb v25_0 v25_1 k0_t6 v183 k0_hw8 k0_h5)
theorem k0_off77_inb : ∀ (v25_0 : BitVec 32) (v25_1 : BitVec 32) (k0_t6 : Fin (k0_t6_loop v25_0 v25_1).trips) (v183 : BitVec 32) (k0_hw8 : k0_chk8 v25_0 v25_1 k0_t6 v183), ∀ (k0_h5 : k0_cond5 v25_0 v25_1 k0_t6 = 1#1), ∀ a, (k0_off77 v183) a + S1x656x128.size a ≤ S2600x656x256.size a := fun v25_0 v25_1 k0_t6 v183 k0_hw8 k0_h5 => k0_hw8.2.2.2.1 k0_h5
theorem k0_off77_wordsi8 : ∀ (v25_0 : BitVec 32) (v25_1 : BitVec 32) (k0_t6 : Fin (k0_t6_loop v25_0 v25_1).trips) (v183 : BitVec 32) (k0_hw8 : k0_chk8 v25_0 v25_1 k0_t6 v183), ∀ (k0_h5 : k0_cond5 v25_0 v25_1 k0_t6 = 1#1), (Rect.unit (s := S2600x656x256) (k0_off77 v183) S1x656x128.size (k0_off77_inb v25_0 v25_1 k0_t6 v183 k0_hw8 k0_h5)).WholeWords (EltTy.packing .i8) := fun v25_0 v25_1 k0_t6 v183 k0_hw8 k0_h5 => k0_hw8.2.2.2.2.1 k0_h5 (k0_off77_inb v25_0 v25_1 k0_t6 v183 k0_hw8 k0_h5)
theorem k0_off79_inb : ∀ (v25_0 : BitVec 32) (v25_1 : BitVec 32) (k0_t6 : Fin (k0_t6_loop v25_0 v25_1).trips) (v183 : BitVec 32) (k0_hw8 : k0_chk8 v25_0 v25_1 k0_t6 v183), ∀ (k0_h5 : k0_cond5 v25_0 v25_1 k0_t6 = 1#1), ∀ a, (k0_off79 v183) a + S1x16x512.size a ≤ S2600x16x512.size a := fun v25_0 v25_1 k0_t6 v183 k0_hw8 k0_h5 => k0_hw8.2.2.2.2.2.1 k0_h5
theorem k0_off79_wordsbf16 : ∀ (v25_0 : BitVec 32) (v25_1 : BitVec 32) (k0_t6 : Fin (k0_t6_loop v25_0 v25_1).trips) (v183 : BitVec 32) (k0_hw8 : k0_chk8 v25_0 v25_1 k0_t6 v183), ∀ (k0_h5 : k0_cond5 v25_0 v25_1 k0_t6 = 1#1), (Rect.unit (s := S2600x16x512) (k0_off79 v183) S1x16x512.size (k0_off79_inb v25_0 v25_1 k0_t6 v183 k0_hw8 k0_h5)).WholeWords (EltTy.packing .bf16) := fun v25_0 v25_1 k0_t6 v183 k0_hw8 k0_h5 => k0_hw8.2.2.2.2.2.2.1 k0_h5 (k0_off79_inb v25_0 v25_1 k0_t6 v183 k0_hw8 k0_h5)
theorem k0_off81_inb : ∀ (v25_0 : BitVec 32) (v25_1 : BitVec 32) (k0_t6 : Fin (k0_t6_loop v25_0 v25_1).trips) (v183 : BitVec 32) (k0_hw8 : k0_chk8 v25_0 v25_1 k0_t6 v183), ∀ (k0_h5 : k0_cond5 v25_0 v25_1 k0_t6 = 1#1), ∀ a, (k0_off81 v183) a + S1x16x512.size a ≤ S2600x16x512.size a := fun v25_0 v25_1 k0_t6 v183 k0_hw8 k0_h5 => k0_hw8.2.2.2.2.2.2.2.1 k0_h5
theorem k0_off81_wordsbf16 : ∀ (v25_0 : BitVec 32) (v25_1 : BitVec 32) (k0_t6 : Fin (k0_t6_loop v25_0 v25_1).trips) (v183 : BitVec 32) (k0_hw8 : k0_chk8 v25_0 v25_1 k0_t6 v183), ∀ (k0_h5 : k0_cond5 v25_0 v25_1 k0_t6 = 1#1), (Rect.unit (s := S2600x16x512) (k0_off81 v183) S1x16x512.size (k0_off81_inb v25_0 v25_1 k0_t6 v183 k0_hw8 k0_h5)).WholeWords (EltTy.packing .bf16) := fun v25_0 v25_1 k0_t6 v183 k0_hw8 k0_h5 => k0_hw8.2.2.2.2.2.2.2.2 k0_h5 (k0_off81_inb v25_0 v25_1 k0_t6 v183 k0_hw8 k0_h5)

@[reducible] def k0_t11_loop : Scf.Loop 32 :=
  let c0_i32_124 : BitVec 32 := 0#32
  let c16_i32_125 : BitVec 32 := 16#32
  let v173 : BitVec 32 := Scalar.addi c0_i32_124 c16_i32_125
  let c1_i32_126 : BitVec 32 := 1#32
  ⟨c0_i32_124, v173, c1_i32_126⟩
def k0_off82 (v25_0 : BitVec 32) (v25_1 : BitVec 32) (k0_t6 : Fin (k0_t6_loop v25_0 v25_1).trips) (k0_t11 : Fin k0_t11_loop.trips) : Fin 1 → Nat :=
  let c0_i32_98 : BitVec 32 := 0#32
  let c1_i32_101 : BitVec 32 := 1#32
  let arg21 : BitVec 32 := Scf.iv c0_i32_98 c1_i32_101 k0_t6
  let c16_i32_129 : BitVec 32 := 16#32
  let v175 : BitVec 32 := Scalar.muli arg21 c16_i32_129
  let c0_i32_124 : BitVec 32 := 0#32
  let c1_i32_126 : BitVec 32 := 1#32
  let arg23 : BitVec 32 := Scf.iv c0_i32_124 c1_i32_126 k0_t11
  let v176 : BitVec 32 := Scalar.addi v175 arg23
  let v177 : Index := Scalar.indexCast v176
  ![v177.toNat]
def k0_off83 (v25_0 : BitVec 32) (v25_1 : BitVec 32) (k0_t6 : Fin (k0_t6_loop v25_0 v25_1).trips) : Fin 1 → Nat :=
  let c0_i32_98 : BitVec 32 := 0#32
  let c1_i32_101 : BitVec 32 := 1#32
  let arg21 : BitVec 32 := Scf.iv c0_i32_98 c1_i32_101 k0_t6
  let c2_i32_108 : BitVec 32 := 2#32
  let v161 : BitVec 32 := Scalar.remsi arg21 c2_i32_108
  ![v161.toNat]
def k0_cond6 (v178 : BitVec 32) : BitVec 1 :=
  let c24_i32 : BitVec 32 := 24#32
  let v179 : BitVec 32 := Scalar.shrsi v178 c24_i32
  let c3_i32_134 : BitVec 32 := 3#32
  let v186 : BitVec 1 := Scalar.cmpi .ne v179 c3_i32_134
  let v188 : BitVec 32 := Scalar.extui v186
  let c0_i32_136 : BitVec 32 := 0#32
  let v189 : BitVec 1 := Scalar.cmpi .ne v188 c0_i32_136
  v189

def k0_off84 (v178 : BitVec 32) : Fin 3 → Nat :=
  let c4095_i32 : BitVec 32 := 4095#32
  let v181 : BitVec 32 := Scalar.andi v178 c4095_i32
  let c0_i32_139 : BitVec 32 := 0#32
  let c0_i32_140 : BitVec 32 := 0#32
  ![v181.toNat, 0, 0]
def k0_off85 (v25_0 : BitVec 32) (v25_1 : BitVec 32) (k0_t6 : Fin (k0_t6_loop v25_0 v25_1).trips) (k0_t11 : Fin k0_t11_loop.trips) : Fin 4 → Nat :=
  let c0_i32_98 : BitVec 32 := 0#32
  let c1_i32_101 : BitVec 32 := 1#32
  let arg21 : BitVec 32 := Scf.iv c0_i32_98 c1_i32_101 k0_t6
  let c2_i32_108 : BitVec 32 := 2#32
  let v161 : BitVec 32 := Scalar.remsi arg21 c2_i32_108
  let c2_i32_130 : BitVec 32 := 2#32
  let c0_i32_124 : BitVec 32 := 0#32
  let c1_i32_126 : BitVec 32 := 1#32
  let arg23 : BitVec 32 := Scf.iv c0_i32_124 c1_i32_126 k0_t11
  let v180 : BitVec 32 := Scalar.muli c2_i32_130 arg23
  let c0_i32_141 : BitVec 32 := 0#32
  let c0_i32_142 : BitVec 32 := 0#32
  ![v161.toNat, v180.toNat, 0, 0]
def k0_off86 (v25_0 : BitVec 32) (v25_1 : BitVec 32) (k0_t6 : Fin (k0_t6_loop v25_0 v25_1).trips) : Fin 1 → Nat :=
  let c0_i32_98 : BitVec 32 := 0#32
  let c1_i32_101 : BitVec 32 := 1#32
  let arg21 : BitVec 32 := Scf.iv c0_i32_98 c1_i32_101 k0_t6
  let c2_i32_108 : BitVec 32 := 2#32
  let v161 : BitVec 32 := Scalar.remsi arg21 c2_i32_108
  ![v161.toNat]
def k0_cond7 (v178 : BitVec 32) : BitVec 1 :=
  let c24_i32 : BitVec 32 := 24#32
  let v179 : BitVec 32 := Scalar.shrsi v178 c24_i32
  let c1_i32_135 : BitVec 32 := 1#32
  let v187 : BitVec 1 := Scalar.cmpi .eq v179 c1_i32_135
  let v190 : BitVec 32 := Scalar.extui v187
  let c0_i32_137 : BitVec 32 := 0#32
  let v191 : BitVec 1 := Scalar.cmpi .ne v190 c0_i32_137
  v191

def k0_off87 (v178 : BitVec 32) : Fin 3 → Nat :=
  let c12_i32 : BitVec 32 := 12#32
  let v184 : BitVec 32 := Scalar.shrsi v178 c12_i32
  let c4095_i32_133 : BitVec 32 := 4095#32
  let v185 : BitVec 32 := Scalar.andi v184 c4095_i32_133
  let c0_i32_139 : BitVec 32 := 0#32
  let c0_i32_140 : BitVec 32 := 0#32
  ![v185.toNat, 0, 0]
def k0_off88 (v25_0 : BitVec 32) (v25_1 : BitVec 32) (k0_t6 : Fin (k0_t6_loop v25_0 v25_1).trips) (k0_t11 : Fin k0_t11_loop.trips) : Fin 4 → Nat :=
  let c0_i32_98 : BitVec 32 := 0#32
  let c1_i32_101 : BitVec 32 := 1#32
  let arg21 : BitVec 32 := Scf.iv c0_i32_98 c1_i32_101 k0_t6
  let c2_i32_108 : BitVec 32 := 2#32
  let v161 : BitVec 32 := Scalar.remsi arg21 c2_i32_108
  let c2_i32_131 : BitVec 32 := 2#32
  let c0_i32_124 : BitVec 32 := 0#32
  let c1_i32_126 : BitVec 32 := 1#32
  let arg23 : BitVec 32 := Scf.iv c0_i32_124 c1_i32_126 k0_t11
  let v182 : BitVec 32 := Scalar.muli c2_i32_131 arg23
  let c1_i32_132 : BitVec 32 := 1#32
  let v183 : BitVec 32 := Scalar.addi v182 c1_i32_132
  let c0_i32_141 : BitVec 32 := 0#32
  let c0_i32_142 : BitVec 32 := 0#32
  ![v161.toNat, v183.toNat, 0, 0]

def k0_chk9 (v25_0 : BitVec 32) (v25_1 : BitVec 32) (k0_t6 : Fin (k0_t6_loop v25_0 v25_1).trips) (k0_t11 : Fin k0_t11_loop.trips) (v178 : BitVec 32) : Prop :=
  (∀ (k0_h6 : k0_cond6 v178 = 1#1), ∀ a, (k0_off83 v25_0 v25_1 k0_t6) a + S1.size a ≤ S2.size a) ∧
  (∀ (k0_h6 : k0_cond6 v178 = 1#1), ∀ a, (k0_off84 v178) a + S1x16x512.size a ≤ S2600x16x512.size a) ∧
  (∀ (k0_h6 : k0_cond6 v178 = 1#1), ∀ a, (k0_off85 v25_0 v25_1 k0_t6 k0_t11) a + S1x1x16x512.size a ≤ S2x32x16x512.size a) ∧
  (∀ (k0_h6 : k0_cond6 v178 = 1#1), ∀ (hinb : ∀ a, (k0_off85 v25_0 v25_1 k0_t6 k0_t11) a + S1x1x16x512.size a ≤ S2x32x16x512.size a), (Rect.unit (s := S2x32x16x512) (k0_off85 v25_0 v25_1 k0_t6 k0_t11) S1x1x16x512.size hinb).WholeWords (EltTy.packing .bf16)) ∧
  (∀ (k0_h6 : k0_cond6 v178 = 1#1), ∀ (hinb : ∀ a, (k0_off84 v178) a + S1x16x512.size a ≤ S2600x16x512.size a), (Rect.unit (s := S2600x16x512) (k0_off84 v178) S1x16x512.size hinb).WholeWords (EltTy.packing .bf16)) ∧
  (∀ (k0_h7 : k0_cond7 v178 = 1#1), ∀ a, (k0_off86 v25_0 v25_1 k0_t6) a + S1.size a ≤ S2.size a) ∧
  (∀ (k0_h7 : k0_cond7 v178 = 1#1), ∀ a, (k0_off87 v178) a + S1x16x512.size a ≤ S2600x16x512.size a) ∧
  (∀ (k0_h7 : k0_cond7 v178 = 1#1), ∀ a, (k0_off88 v25_0 v25_1 k0_t6 k0_t11) a + S1x1x16x512.size a ≤ S2x32x16x512.size a) ∧
  (∀ (k0_h7 : k0_cond7 v178 = 1#1), ∀ (hinb : ∀ a, (k0_off88 v25_0 v25_1 k0_t6 k0_t11) a + S1x1x16x512.size a ≤ S2x32x16x512.size a), (Rect.unit (s := S2x32x16x512) (k0_off88 v25_0 v25_1 k0_t6 k0_t11) S1x1x16x512.size hinb).WholeWords (EltTy.packing .bf16)) ∧
  (∀ (k0_h7 : k0_cond7 v178 = 1#1), ∀ (hinb : ∀ a, (k0_off87 v178) a + S1x16x512.size a ≤ S2600x16x512.size a), (Rect.unit (s := S2600x16x512) (k0_off87 v178) S1x16x512.size hinb).WholeWords (EltTy.packing .bf16))
theorem k0_off83_inb : ∀ (v25_0 : BitVec 32) (v25_1 : BitVec 32) (k0_t6 : Fin (k0_t6_loop v25_0 v25_1).trips) (k0_t11 : Fin k0_t11_loop.trips) (v178 : BitVec 32) (k0_hw9 : k0_chk9 v25_0 v25_1 k0_t6 k0_t11 v178), ∀ (k0_h6 : k0_cond6 v178 = 1#1), ∀ a, (k0_off83 v25_0 v25_1 k0_t6) a + S1.size a ≤ S2.size a := fun v25_0 v25_1 k0_t6 k0_t11 v178 k0_hw9 k0_h6 => k0_hw9.1 k0_h6
theorem k0_off84_inb : ∀ (v25_0 : BitVec 32) (v25_1 : BitVec 32) (k0_t6 : Fin (k0_t6_loop v25_0 v25_1).trips) (k0_t11 : Fin k0_t11_loop.trips) (v178 : BitVec 32) (k0_hw9 : k0_chk9 v25_0 v25_1 k0_t6 k0_t11 v178), ∀ (k0_h6 : k0_cond6 v178 = 1#1), ∀ a, (k0_off84 v178) a + S1x16x512.size a ≤ S2600x16x512.size a := fun v25_0 v25_1 k0_t6 k0_t11 v178 k0_hw9 k0_h6 => k0_hw9.2.1 k0_h6
theorem k0_off85_inb : ∀ (v25_0 : BitVec 32) (v25_1 : BitVec 32) (k0_t6 : Fin (k0_t6_loop v25_0 v25_1).trips) (k0_t11 : Fin k0_t11_loop.trips) (v178 : BitVec 32) (k0_hw9 : k0_chk9 v25_0 v25_1 k0_t6 k0_t11 v178), ∀ (k0_h6 : k0_cond6 v178 = 1#1), ∀ a, (k0_off85 v25_0 v25_1 k0_t6 k0_t11) a + S1x1x16x512.size a ≤ S2x32x16x512.size a := fun v25_0 v25_1 k0_t6 k0_t11 v178 k0_hw9 k0_h6 => k0_hw9.2.2.1 k0_h6
theorem k0_off85_wordsbf16 : ∀ (v25_0 : BitVec 32) (v25_1 : BitVec 32) (k0_t6 : Fin (k0_t6_loop v25_0 v25_1).trips) (k0_t11 : Fin k0_t11_loop.trips) (v178 : BitVec 32) (k0_hw9 : k0_chk9 v25_0 v25_1 k0_t6 k0_t11 v178), ∀ (k0_h6 : k0_cond6 v178 = 1#1), (Rect.unit (s := S2x32x16x512) (k0_off85 v25_0 v25_1 k0_t6 k0_t11) S1x1x16x512.size (k0_off85_inb v25_0 v25_1 k0_t6 k0_t11 v178 k0_hw9 k0_h6)).WholeWords (EltTy.packing .bf16) := fun v25_0 v25_1 k0_t6 k0_t11 v178 k0_hw9 k0_h6 => k0_hw9.2.2.2.1 k0_h6 (k0_off85_inb v25_0 v25_1 k0_t6 k0_t11 v178 k0_hw9 k0_h6)
theorem k0_off84_wordsbf16 : ∀ (v25_0 : BitVec 32) (v25_1 : BitVec 32) (k0_t6 : Fin (k0_t6_loop v25_0 v25_1).trips) (k0_t11 : Fin k0_t11_loop.trips) (v178 : BitVec 32) (k0_hw9 : k0_chk9 v25_0 v25_1 k0_t6 k0_t11 v178), ∀ (k0_h6 : k0_cond6 v178 = 1#1), (Rect.unit (s := S2600x16x512) (k0_off84 v178) S1x16x512.size (k0_off84_inb v25_0 v25_1 k0_t6 k0_t11 v178 k0_hw9 k0_h6)).WholeWords (EltTy.packing .bf16) := fun v25_0 v25_1 k0_t6 k0_t11 v178 k0_hw9 k0_h6 => k0_hw9.2.2.2.2.1 k0_h6 (k0_off84_inb v25_0 v25_1 k0_t6 k0_t11 v178 k0_hw9 k0_h6)
theorem k0_off86_inb : ∀ (v25_0 : BitVec 32) (v25_1 : BitVec 32) (k0_t6 : Fin (k0_t6_loop v25_0 v25_1).trips) (k0_t11 : Fin k0_t11_loop.trips) (v178 : BitVec 32) (k0_hw9 : k0_chk9 v25_0 v25_1 k0_t6 k0_t11 v178), ∀ (k0_h7 : k0_cond7 v178 = 1#1), ∀ a, (k0_off86 v25_0 v25_1 k0_t6) a + S1.size a ≤ S2.size a := fun v25_0 v25_1 k0_t6 k0_t11 v178 k0_hw9 k0_h7 => k0_hw9.2.2.2.2.2.1 k0_h7
theorem k0_off87_inb : ∀ (v25_0 : BitVec 32) (v25_1 : BitVec 32) (k0_t6 : Fin (k0_t6_loop v25_0 v25_1).trips) (k0_t11 : Fin k0_t11_loop.trips) (v178 : BitVec 32) (k0_hw9 : k0_chk9 v25_0 v25_1 k0_t6 k0_t11 v178), ∀ (k0_h7 : k0_cond7 v178 = 1#1), ∀ a, (k0_off87 v178) a + S1x16x512.size a ≤ S2600x16x512.size a := fun v25_0 v25_1 k0_t6 k0_t11 v178 k0_hw9 k0_h7 => k0_hw9.2.2.2.2.2.2.1 k0_h7
theorem k0_off88_inb : ∀ (v25_0 : BitVec 32) (v25_1 : BitVec 32) (k0_t6 : Fin (k0_t6_loop v25_0 v25_1).trips) (k0_t11 : Fin k0_t11_loop.trips) (v178 : BitVec 32) (k0_hw9 : k0_chk9 v25_0 v25_1 k0_t6 k0_t11 v178), ∀ (k0_h7 : k0_cond7 v178 = 1#1), ∀ a, (k0_off88 v25_0 v25_1 k0_t6 k0_t11) a + S1x1x16x512.size a ≤ S2x32x16x512.size a := fun v25_0 v25_1 k0_t6 k0_t11 v178 k0_hw9 k0_h7 => k0_hw9.2.2.2.2.2.2.2.1 k0_h7
theorem k0_off88_wordsbf16 : ∀ (v25_0 : BitVec 32) (v25_1 : BitVec 32) (k0_t6 : Fin (k0_t6_loop v25_0 v25_1).trips) (k0_t11 : Fin k0_t11_loop.trips) (v178 : BitVec 32) (k0_hw9 : k0_chk9 v25_0 v25_1 k0_t6 k0_t11 v178), ∀ (k0_h7 : k0_cond7 v178 = 1#1), (Rect.unit (s := S2x32x16x512) (k0_off88 v25_0 v25_1 k0_t6 k0_t11) S1x1x16x512.size (k0_off88_inb v25_0 v25_1 k0_t6 k0_t11 v178 k0_hw9 k0_h7)).WholeWords (EltTy.packing .bf16) := fun v25_0 v25_1 k0_t6 k0_t11 v178 k0_hw9 k0_h7 => k0_hw9.2.2.2.2.2.2.2.2.1 k0_h7 (k0_off88_inb v25_0 v25_1 k0_t6 k0_t11 v178 k0_hw9 k0_h7)
theorem k0_off87_wordsbf16 : ∀ (v25_0 : BitVec 32) (v25_1 : BitVec 32) (k0_t6 : Fin (k0_t6_loop v25_0 v25_1).trips) (k0_t11 : Fin k0_t11_loop.trips) (v178 : BitVec 32) (k0_hw9 : k0_chk9 v25_0 v25_1 k0_t6 k0_t11 v178), ∀ (k0_h7 : k0_cond7 v178 = 1#1), (Rect.unit (s := S2600x16x512) (k0_off87 v178) S1x16x512.size (k0_off87_inb v25_0 v25_1 k0_t6 k0_t11 v178 k0_hw9 k0_h7)).WholeWords (EltTy.packing .bf16) := fun v25_0 v25_1 k0_t6 k0_t11 v178 k0_hw9 k0_h7 => k0_hw9.2.2.2.2.2.2.2.2.2 k0_h7 (k0_off87_inb v25_0 v25_1 k0_t6 k0_t11 v178 k0_hw9 k0_h7)

@[reducible] def k0_t12_loop (v25_0 : BitVec 32) (v25_1 : BitVec 32) : Scf.Loop 32 :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let v153 : BitVec 32 := Scalar.addi c0_i32_98 v152
  let c1_i32_102 : BitVec 32 := 1#32
  ⟨v156, v153, c1_i32_102⟩
@[reducible] def k0_t13_loop : Scf.Loop 32 :=
  let c0_i32_110 : BitVec 32 := 0#32
  let c16_i32_111 : BitVec 32 := 16#32
  let v162 : BitVec 32 := Scalar.addi c0_i32_110 c16_i32_111
  let c1_i32_112 : BitVec 32 := 1#32
  ⟨c0_i32_110, v162, c1_i32_112⟩
def k0_off89 (v25_0 : BitVec 32) (v25_1 : BitVec 32) (k0_t12 : Fin (k0_t12_loop v25_0 v25_1).trips) (k0_t13 : Fin k0_t13_loop.trips) : Fin 1 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c16_i32_129 : BitVec 32 := 16#32
  let v175 : BitVec 32 := Scalar.muli arg21 c16_i32_129
  let c0_i32_110 : BitVec 32 := 0#32
  let c1_i32_112 : BitVec 32 := 1#32
  let arg23 : BitVec 32 := Scf.iv c0_i32_110 c1_i32_112 k0_t13
  let v176 : BitVec 32 := Scalar.addi v175 arg23
  let v177 : Index := Scalar.indexCast v176
  ![v177.toNat]
def k0_mult5 (v178 : BitVec 32) : BitVec 32 :=
  let c24_i32 : BitVec 32 := 24#32
  let v182 : BitVec 32 := Scalar.shrsi v178 c24_i32
  let c2_i32_131 : BitVec 32 := 2#32
  let v183 : BitVec 1 := Scalar.cmpi .eq v182 c2_i32_131
  let c128_i32_132 : BitVec 32 := 128#32
  let c0_i32_133 : BitVec 32 := 0#32
  let v184 : BitVec 32 := Scalar.select v183 c128_i32_132 c0_i32_133
  v184

def k0_off90 (v25_0 : BitVec 32) (v25_1 : BitVec 32) (k0_t12 : Fin (k0_t12_loop v25_0 v25_1).trips) : Fin 1 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c4_i32_107 : BitVec 32 := 4#32
  let v160 : BitVec 32 := Scalar.remsi arg21 c4_i32_107
  ![v160.toNat]
def k0_off91 (v25_0 : BitVec 32) (v25_1 : BitVec 32) (k0_t12 : Fin (k0_t12_loop v25_0 v25_1).trips) (k0_t13 : Fin k0_t13_loop.trips) : Fin 4 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c4_i32_107 : BitVec 32 := 4#32
  let v160 : BitVec 32 := Scalar.remsi arg21 c4_i32_107
  let c2_i32_134 : BitVec 32 := 2#32
  let c0_i32_110 : BitVec 32 := 0#32
  let c1_i32_112 : BitVec 32 := 1#32
  let arg23 : BitVec 32 := Scf.iv c0_i32_110 c1_i32_112 k0_t13
  let v186 : BitVec 32 := Scalar.muli c2_i32_134 arg23
  let c0_i32_140 : BitVec 32 := 0#32
  let c0_i32_141 : BitVec 32 := 0#32
  ![v160.toNat, v186.toNat, 0, 0]
def k0_off92 (v178 : BitVec 32) : Fin 3 → Nat :=
  let c4095_i32 : BitVec 32 := 4095#32
  let v179 : BitVec 32 := Scalar.andi v178 c4095_i32
  let c0_i32_142 : BitVec 32 := 0#32
  let c0_i32_143 : BitVec 32 := 0#32
  ![v179.toNat, 0, 0]
def k0_off93 (v25_0 : BitVec 32) (v25_1 : BitVec 32) (k0_t12 : Fin (k0_t12_loop v25_0 v25_1).trips) (k0_t13 : Fin k0_t13_loop.trips) : Fin 4 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c4_i32_107 : BitVec 32 := 4#32
  let v160 : BitVec 32 := Scalar.remsi arg21 c4_i32_107
  let c2_i32_135 : BitVec 32 := 2#32
  let c0_i32_110 : BitVec 32 := 0#32
  let c1_i32_112 : BitVec 32 := 1#32
  let arg23 : BitVec 32 := Scf.iv c0_i32_110 c1_i32_112 k0_t13
  let v187 : BitVec 32 := Scalar.muli c2_i32_135 arg23
  let c1_i32_136 : BitVec 32 := 1#32
  let v188 : BitVec 32 := Scalar.addi v187 c1_i32_136
  let c0_i32_144 : BitVec 32 := 0#32
  let c0_i32_145 : BitVec 32 := 0#32
  ![v160.toNat, v188.toNat, 0, 0]
def k0_off94 (v178 : BitVec 32) : Fin 3 → Nat :=
  let c12_i32 : BitVec 32 := 12#32
  let v180 : BitVec 32 := Scalar.shrsi v178 c12_i32
  let c4095_i32_130 : BitVec 32 := 4095#32
  let v181 : BitVec 32 := Scalar.andi v180 c4095_i32_130
  let c0_i32_146 : BitVec 32 := 0#32
  let c24_i32 : BitVec 32 := 24#32
  let v182 : BitVec 32 := Scalar.shrsi v178 c24_i32
  let c2_i32_131 : BitVec 32 := 2#32
  let v183 : BitVec 1 := Scalar.cmpi .eq v182 c2_i32_131
  let c128_i32_132 : BitVec 32 := 128#32
  let c0_i32_133 : BitVec 32 := 0#32
  let v184 : BitVec 32 := Scalar.select v183 c128_i32_132 c0_i32_133
  let v185 : BitVec 32 := v184
  ![v181.toNat, 0, v185.toNat]
def k0_off95 (v25_0 : BitVec 32) (v25_1 : BitVec 32) (k0_t12 : Fin (k0_t12_loop v25_0 v25_1).trips) (k0_t13 : Fin k0_t13_loop.trips) : Fin 4 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c4_i32_107 : BitVec 32 := 4#32
  let v160 : BitVec 32 := Scalar.remsi arg21 c4_i32_107
  let c2_i32_137 : BitVec 32 := 2#32
  let c0_i32_110 : BitVec 32 := 0#32
  let c1_i32_112 : BitVec 32 := 1#32
  let arg23 : BitVec 32 := Scf.iv c0_i32_110 c1_i32_112 k0_t13
  let v189 : BitVec 32 := Scalar.muli c2_i32_137 arg23
  let c0_i32_147 : BitVec 32 := 0#32
  let c0_i32_148 : BitVec 32 := 0#32
  ![v160.toNat, v189.toNat, 0, 0]
def k0_off96 (v178 : BitVec 32) : Fin 3 → Nat :=
  let c4095_i32 : BitVec 32 := 4095#32
  let v179 : BitVec 32 := Scalar.andi v178 c4095_i32
  let c0_i32_149 : BitVec 32 := 0#32
  let c0_i32_150 : BitVec 32 := 0#32
  ![v179.toNat, 0, 0]
def k0_off97 (v25_0 : BitVec 32) (v25_1 : BitVec 32) (k0_t12 : Fin (k0_t12_loop v25_0 v25_1).trips) (k0_t13 : Fin k0_t13_loop.trips) : Fin 4 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c4_i32_107 : BitVec 32 := 4#32
  let v160 : BitVec 32 := Scalar.remsi arg21 c4_i32_107
  let c2_i32_138 : BitVec 32 := 2#32
  let c0_i32_110 : BitVec 32 := 0#32
  let c1_i32_112 : BitVec 32 := 1#32
  let arg23 : BitVec 32 := Scf.iv c0_i32_110 c1_i32_112 k0_t13
  let v190 : BitVec 32 := Scalar.muli c2_i32_138 arg23
  let c1_i32_139 : BitVec 32 := 1#32
  let v191 : BitVec 32 := Scalar.addi v190 c1_i32_139
  let c0_i32_151 : BitVec 32 := 0#32
  let c0_i32_152 : BitVec 32 := 0#32
  ![v160.toNat, v191.toNat, 0, 0]
def k0_off98 (v178 : BitVec 32) : Fin 3 → Nat :=
  let c12_i32 : BitVec 32 := 12#32
  let v180 : BitVec 32 := Scalar.shrsi v178 c12_i32
  let c4095_i32_130 : BitVec 32 := 4095#32
  let v181 : BitVec 32 := Scalar.andi v180 c4095_i32_130
  let c0_i32_153 : BitVec 32 := 0#32
  let c0_i32_154 : BitVec 32 := 0#32
  ![v181.toNat, 0, 0]

def k0_chk10 (v178 : BitVec 32) : Prop :=
  (128 ∣ (k0_mult5 v178).toNat) ∧
  (∀ a, (k0_off92 v178) a + S1x656x128.size a ≤ S2600x656x256.size a) ∧
  (∀ (hinb : ∀ a, (k0_off92 v178) a + S1x656x128.size a ≤ S2600x656x256.size a), (Rect.unit (s := S2600x656x256) (k0_off92 v178) S1x656x128.size hinb).WholeWords (EltTy.packing .i8)) ∧
  (∀ a, (k0_off94 v178) a + S1x656x128.size a ≤ S2600x656x256.size a) ∧
  (∀ (hinb : ∀ a, (k0_off94 v178) a + S1x656x128.size a ≤ S2600x656x256.size a), (Rect.unit (s := S2600x656x256) (k0_off94 v178) S1x656x128.size hinb).WholeWords (EltTy.packing .i8)) ∧
  (∀ a, (k0_off96 v178) a + S1x16x512.size a ≤ S2600x16x512.size a) ∧
  (∀ (hinb : ∀ a, (k0_off96 v178) a + S1x16x512.size a ≤ S2600x16x512.size a), (Rect.unit (s := S2600x16x512) (k0_off96 v178) S1x16x512.size hinb).WholeWords (EltTy.packing .bf16)) ∧
  (∀ a, (k0_off98 v178) a + S1x16x512.size a ≤ S2600x16x512.size a) ∧
  (∀ (hinb : ∀ a, (k0_off98 v178) a + S1x16x512.size a ≤ S2600x16x512.size a), (Rect.unit (s := S2600x16x512) (k0_off98 v178) S1x16x512.size hinb).WholeWords (EltTy.packing .bf16))
theorem k0_mult5_dvd : ∀ (v178 : BitVec 32) (k0_hw10 : k0_chk10 v178), 128 ∣ (k0_mult5 v178).toNat := fun v178 k0_hw10 => k0_hw10.1
theorem k0_off92_inb : ∀ (v178 : BitVec 32) (k0_hw10 : k0_chk10 v178), ∀ a, (k0_off92 v178) a + S1x656x128.size a ≤ S2600x656x256.size a := fun v178 k0_hw10 => k0_hw10.2.1
theorem k0_off92_wordsi8 : ∀ (v178 : BitVec 32) (k0_hw10 : k0_chk10 v178), (Rect.unit (s := S2600x656x256) (k0_off92 v178) S1x656x128.size (k0_off92_inb v178 k0_hw10)).WholeWords (EltTy.packing .i8) := fun v178 k0_hw10 => k0_hw10.2.2.1 (k0_off92_inb v178 k0_hw10)
theorem k0_off94_inb : ∀ (v178 : BitVec 32) (k0_hw10 : k0_chk10 v178), ∀ a, (k0_off94 v178) a + S1x656x128.size a ≤ S2600x656x256.size a := fun v178 k0_hw10 => k0_hw10.2.2.2.1
theorem k0_off94_wordsi8 : ∀ (v178 : BitVec 32) (k0_hw10 : k0_chk10 v178), (Rect.unit (s := S2600x656x256) (k0_off94 v178) S1x656x128.size (k0_off94_inb v178 k0_hw10)).WholeWords (EltTy.packing .i8) := fun v178 k0_hw10 => k0_hw10.2.2.2.2.1 (k0_off94_inb v178 k0_hw10)
theorem k0_off96_inb : ∀ (v178 : BitVec 32) (k0_hw10 : k0_chk10 v178), ∀ a, (k0_off96 v178) a + S1x16x512.size a ≤ S2600x16x512.size a := fun v178 k0_hw10 => k0_hw10.2.2.2.2.2.1
theorem k0_off96_wordsbf16 : ∀ (v178 : BitVec 32) (k0_hw10 : k0_chk10 v178), (Rect.unit (s := S2600x16x512) (k0_off96 v178) S1x16x512.size (k0_off96_inb v178 k0_hw10)).WholeWords (EltTy.packing .bf16) := fun v178 k0_hw10 => k0_hw10.2.2.2.2.2.2.1 (k0_off96_inb v178 k0_hw10)
theorem k0_off98_inb : ∀ (v178 : BitVec 32) (k0_hw10 : k0_chk10 v178), ∀ a, (k0_off98 v178) a + S1x16x512.size a ≤ S2600x16x512.size a := fun v178 k0_hw10 => k0_hw10.2.2.2.2.2.2.2.1
theorem k0_off98_wordsbf16 : ∀ (v178 : BitVec 32) (k0_hw10 : k0_chk10 v178), (Rect.unit (s := S2600x16x512) (k0_off98 v178) S1x16x512.size (k0_off98_inb v178 k0_hw10)).WholeWords (EltTy.packing .bf16) := fun v178 k0_hw10 => k0_hw10.2.2.2.2.2.2.2.2 (k0_off98_inb v178 k0_hw10)

@[reducible] def k0_t14_loop : Scf.Loop 32 :=
  let c0_i32_131 : BitVec 32 := 0#32
  let c16_i32_132 : BitVec 32 := 16#32
  let v176 : BitVec 32 := Scalar.addi c0_i32_131 c16_i32_132
  let c1_i32_133 : BitVec 32 := 1#32
  ⟨c0_i32_131, v176, c1_i32_133⟩
def k0_off99 (v25_0 : BitVec 32) (v25_1 : BitVec 32) (k0_t12 : Fin (k0_t12_loop v25_0 v25_1).trips) (k0_t14 : Fin k0_t14_loop.trips) : Fin 1 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c2_i32_129 : BitVec 32 := 2#32
  let v175 : BitVec 32 := Scalar.subi arg21 c2_i32_129
  let c16_i32_135 : BitVec 32 := 16#32
  let v178 : BitVec 32 := Scalar.muli v175 c16_i32_135
  let c0_i32_131 : BitVec 32 := 0#32
  let c1_i32_133 : BitVec 32 := 1#32
  let arg23 : BitVec 32 := Scf.iv c0_i32_131 c1_i32_133 k0_t14
  let v179 : BitVec 32 := Scalar.addi v178 arg23
  let v180 : Index := Scalar.indexCast v179
  ![v180.toNat]
def k0_cond8 (v25_0 : BitVec 32) (v25_1 : BitVec 32) (k0_t12 : Fin (k0_t12_loop v25_0 v25_1).trips) : BitVec 1 :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c2_i32_114 : BitVec 32 := 2#32
  let v164 : BitVec 1 := Scalar.cmpi .sge arg21 c2_i32_114
  let v165 : BitVec 32 := Scalar.extui v164
  let c0_i32_115 : BitVec 32 := 0#32
  let v166 : BitVec 1 := Scalar.cmpi .ne v165 c0_i32_115
  v166

def k0_off100 (v25_0 : BitVec 32) (v25_1 : BitVec 32) (k0_t12 : Fin (k0_t12_loop v25_0 v25_1).trips) : Fin 1 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c2_i32_108 : BitVec 32 := 2#32
  let v161 : BitVec 32 := Scalar.remsi arg21 c2_i32_108
  ![v161.toNat]
def k0_cond9 (v181 : BitVec 32) : BitVec 1 :=
  let c24_i32 : BitVec 32 := 24#32
  let v182 : BitVec 32 := Scalar.shrsi v181 c24_i32
  let c3_i32_140 : BitVec 32 := 3#32
  let v189 : BitVec 1 := Scalar.cmpi .ne v182 c3_i32_140
  let v191 : BitVec 32 := Scalar.extui v189
  let c0_i32_142 : BitVec 32 := 0#32
  let v192 : BitVec 1 := Scalar.cmpi .ne v191 c0_i32_142
  v192

def k0_off101 (v181 : BitVec 32) : Fin 3 → Nat :=
  let c4095_i32 : BitVec 32 := 4095#32
  let v184 : BitVec 32 := Scalar.andi v181 c4095_i32
  let c0_i32_145 : BitVec 32 := 0#32
  let c0_i32_146 : BitVec 32 := 0#32
  ![v184.toNat, 0, 0]
def k0_off102 (v25_0 : BitVec 32) (v25_1 : BitVec 32) (k0_t12 : Fin (k0_t12_loop v25_0 v25_1).trips) (k0_t14 : Fin k0_t14_loop.trips) : Fin 4 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c2_i32_108 : BitVec 32 := 2#32
  let v161 : BitVec 32 := Scalar.remsi arg21 c2_i32_108
  let c2_i32_136 : BitVec 32 := 2#32
  let c0_i32_131 : BitVec 32 := 0#32
  let c1_i32_133 : BitVec 32 := 1#32
  let arg23 : BitVec 32 := Scf.iv c0_i32_131 c1_i32_133 k0_t14
  let v183 : BitVec 32 := Scalar.muli c2_i32_136 arg23
  let c0_i32_147 : BitVec 32 := 0#32
  let c0_i32_148 : BitVec 32 := 0#32
  ![v161.toNat, v183.toNat, 0, 0]
def k0_off103 (v25_0 : BitVec 32) (v25_1 : BitVec 32) (k0_t12 : Fin (k0_t12_loop v25_0 v25_1).trips) : Fin 1 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c2_i32_108 : BitVec 32 := 2#32
  let v161 : BitVec 32 := Scalar.remsi arg21 c2_i32_108
  ![v161.toNat]
def k0_cond10 (v181 : BitVec 32) : BitVec 1 :=
  let c24_i32 : BitVec 32 := 24#32
  let v182 : BitVec 32 := Scalar.shrsi v181 c24_i32
  let c1_i32_141 : BitVec 32 := 1#32
  let v190 : BitVec 1 := Scalar.cmpi .eq v182 c1_i32_141
  let v193 : BitVec 32 := Scalar.extui v190
  let c0_i32_143 : BitVec 32 := 0#32
  let v194 : BitVec 1 := Scalar.cmpi .ne v193 c0_i32_143
  v194

def k0_off104 (v181 : BitVec 32) : Fin 3 → Nat :=
  let c12_i32 : BitVec 32 := 12#32
  let v187 : BitVec 32 := Scalar.shrsi v181 c12_i32
  let c4095_i32_139 : BitVec 32 := 4095#32
  let v188 : BitVec 32 := Scalar.andi v187 c4095_i32_139
  let c0_i32_145 : BitVec 32 := 0#32
  let c0_i32_146 : BitVec 32 := 0#32
  ![v188.toNat, 0, 0]
def k0_off105 (v25_0 : BitVec 32) (v25_1 : BitVec 32) (k0_t12 : Fin (k0_t12_loop v25_0 v25_1).trips) (k0_t14 : Fin k0_t14_loop.trips) : Fin 4 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c2_i32_108 : BitVec 32 := 2#32
  let v161 : BitVec 32 := Scalar.remsi arg21 c2_i32_108
  let c2_i32_137 : BitVec 32 := 2#32
  let c0_i32_131 : BitVec 32 := 0#32
  let c1_i32_133 : BitVec 32 := 1#32
  let arg23 : BitVec 32 := Scf.iv c0_i32_131 c1_i32_133 k0_t14
  let v185 : BitVec 32 := Scalar.muli c2_i32_137 arg23
  let c1_i32_138 : BitVec 32 := 1#32
  let v186 : BitVec 32 := Scalar.addi v185 c1_i32_138
  let c0_i32_147 : BitVec 32 := 0#32
  let c0_i32_148 : BitVec 32 := 0#32
  ![v161.toNat, v186.toNat, 0, 0]

def k0_chk11 (v25_0 : BitVec 32) (v25_1 : BitVec 32) (k0_t12 : Fin (k0_t12_loop v25_0 v25_1).trips) (k0_t14 : Fin k0_t14_loop.trips) (v181 : BitVec 32) : Prop :=
  (∀ (k0_h8 : k0_cond8 v25_0 v25_1 k0_t12 = 1#1), ∀ (k0_h9 : k0_cond9 v181 = 1#1), ∀ a, (k0_off100 v25_0 v25_1 k0_t12) a + S1.size a ≤ S2.size a) ∧
  (∀ (k0_h8 : k0_cond8 v25_0 v25_1 k0_t12 = 1#1), ∀ (k0_h9 : k0_cond9 v181 = 1#1), ∀ a, (k0_off101 v181) a + S1x16x512.size a ≤ S2600x16x512.size a) ∧
  (∀ (k0_h8 : k0_cond8 v25_0 v25_1 k0_t12 = 1#1), ∀ (k0_h9 : k0_cond9 v181 = 1#1), ∀ a, (k0_off102 v25_0 v25_1 k0_t12 k0_t14) a + S1x1x16x512.size a ≤ S2x32x16x512.size a) ∧
  (∀ (k0_h8 : k0_cond8 v25_0 v25_1 k0_t12 = 1#1), ∀ (k0_h9 : k0_cond9 v181 = 1#1), ∀ (hinb : ∀ a, (k0_off102 v25_0 v25_1 k0_t12 k0_t14) a + S1x1x16x512.size a ≤ S2x32x16x512.size a), (Rect.unit (s := S2x32x16x512) (k0_off102 v25_0 v25_1 k0_t12 k0_t14) S1x1x16x512.size hinb).WholeWords (EltTy.packing .bf16)) ∧
  (∀ (k0_h8 : k0_cond8 v25_0 v25_1 k0_t12 = 1#1), ∀ (k0_h9 : k0_cond9 v181 = 1#1), ∀ (hinb : ∀ a, (k0_off101 v181) a + S1x16x512.size a ≤ S2600x16x512.size a), (Rect.unit (s := S2600x16x512) (k0_off101 v181) S1x16x512.size hinb).WholeWords (EltTy.packing .bf16)) ∧
  (∀ (k0_h8 : k0_cond8 v25_0 v25_1 k0_t12 = 1#1), ∀ (k0_h10 : k0_cond10 v181 = 1#1), ∀ a, (k0_off103 v25_0 v25_1 k0_t12) a + S1.size a ≤ S2.size a) ∧
  (∀ (k0_h8 : k0_cond8 v25_0 v25_1 k0_t12 = 1#1), ∀ (k0_h10 : k0_cond10 v181 = 1#1), ∀ a, (k0_off104 v181) a + S1x16x512.size a ≤ S2600x16x512.size a) ∧
  (∀ (k0_h8 : k0_cond8 v25_0 v25_1 k0_t12 = 1#1), ∀ (k0_h10 : k0_cond10 v181 = 1#1), ∀ a, (k0_off105 v25_0 v25_1 k0_t12 k0_t14) a + S1x1x16x512.size a ≤ S2x32x16x512.size a) ∧
  (∀ (k0_h8 : k0_cond8 v25_0 v25_1 k0_t12 = 1#1), ∀ (k0_h10 : k0_cond10 v181 = 1#1), ∀ (hinb : ∀ a, (k0_off105 v25_0 v25_1 k0_t12 k0_t14) a + S1x1x16x512.size a ≤ S2x32x16x512.size a), (Rect.unit (s := S2x32x16x512) (k0_off105 v25_0 v25_1 k0_t12 k0_t14) S1x1x16x512.size hinb).WholeWords (EltTy.packing .bf16)) ∧
  (∀ (k0_h8 : k0_cond8 v25_0 v25_1 k0_t12 = 1#1), ∀ (k0_h10 : k0_cond10 v181 = 1#1), ∀ (hinb : ∀ a, (k0_off104 v181) a + S1x16x512.size a ≤ S2600x16x512.size a), (Rect.unit (s := S2600x16x512) (k0_off104 v181) S1x16x512.size hinb).WholeWords (EltTy.packing .bf16))
theorem k0_off100_inb : ∀ (v25_0 : BitVec 32) (v25_1 : BitVec 32) (k0_t12 : Fin (k0_t12_loop v25_0 v25_1).trips) (k0_t14 : Fin k0_t14_loop.trips) (v181 : BitVec 32) (k0_hw11 : k0_chk11 v25_0 v25_1 k0_t12 k0_t14 v181), ∀ (k0_h8 : k0_cond8 v25_0 v25_1 k0_t12 = 1#1), ∀ (k0_h9 : k0_cond9 v181 = 1#1), ∀ a, (k0_off100 v25_0 v25_1 k0_t12) a + S1.size a ≤ S2.size a := fun v25_0 v25_1 k0_t12 k0_t14 v181 k0_hw11 k0_h8 k0_h9 => k0_hw11.1 k0_h8 k0_h9
theorem k0_off101_inb : ∀ (v25_0 : BitVec 32) (v25_1 : BitVec 32) (k0_t12 : Fin (k0_t12_loop v25_0 v25_1).trips) (k0_t14 : Fin k0_t14_loop.trips) (v181 : BitVec 32) (k0_hw11 : k0_chk11 v25_0 v25_1 k0_t12 k0_t14 v181), ∀ (k0_h8 : k0_cond8 v25_0 v25_1 k0_t12 = 1#1), ∀ (k0_h9 : k0_cond9 v181 = 1#1), ∀ a, (k0_off101 v181) a + S1x16x512.size a ≤ S2600x16x512.size a := fun v25_0 v25_1 k0_t12 k0_t14 v181 k0_hw11 k0_h8 k0_h9 => k0_hw11.2.1 k0_h8 k0_h9
theorem k0_off102_inb : ∀ (v25_0 : BitVec 32) (v25_1 : BitVec 32) (k0_t12 : Fin (k0_t12_loop v25_0 v25_1).trips) (k0_t14 : Fin k0_t14_loop.trips) (v181 : BitVec 32) (k0_hw11 : k0_chk11 v25_0 v25_1 k0_t12 k0_t14 v181), ∀ (k0_h8 : k0_cond8 v25_0 v25_1 k0_t12 = 1#1), ∀ (k0_h9 : k0_cond9 v181 = 1#1), ∀ a, (k0_off102 v25_0 v25_1 k0_t12 k0_t14) a + S1x1x16x512.size a ≤ S2x32x16x512.size a := fun v25_0 v25_1 k0_t12 k0_t14 v181 k0_hw11 k0_h8 k0_h9 => k0_hw11.2.2.1 k0_h8 k0_h9
theorem k0_off102_wordsbf16 : ∀ (v25_0 : BitVec 32) (v25_1 : BitVec 32) (k0_t12 : Fin (k0_t12_loop v25_0 v25_1).trips) (k0_t14 : Fin k0_t14_loop.trips) (v181 : BitVec 32) (k0_hw11 : k0_chk11 v25_0 v25_1 k0_t12 k0_t14 v181), ∀ (k0_h8 : k0_cond8 v25_0 v25_1 k0_t12 = 1#1), ∀ (k0_h9 : k0_cond9 v181 = 1#1), (Rect.unit (s := S2x32x16x512) (k0_off102 v25_0 v25_1 k0_t12 k0_t14) S1x1x16x512.size (k0_off102_inb v25_0 v25_1 k0_t12 k0_t14 v181 k0_hw11 k0_h8 k0_h9)).WholeWords (EltTy.packing .bf16) := fun v25_0 v25_1 k0_t12 k0_t14 v181 k0_hw11 k0_h8 k0_h9 => k0_hw11.2.2.2.1 k0_h8 k0_h9 (k0_off102_inb v25_0 v25_1 k0_t12 k0_t14 v181 k0_hw11 k0_h8 k0_h9)
theorem k0_off101_wordsbf16 : ∀ (v25_0 : BitVec 32) (v25_1 : BitVec 32) (k0_t12 : Fin (k0_t12_loop v25_0 v25_1).trips) (k0_t14 : Fin k0_t14_loop.trips) (v181 : BitVec 32) (k0_hw11 : k0_chk11 v25_0 v25_1 k0_t12 k0_t14 v181), ∀ (k0_h8 : k0_cond8 v25_0 v25_1 k0_t12 = 1#1), ∀ (k0_h9 : k0_cond9 v181 = 1#1), (Rect.unit (s := S2600x16x512) (k0_off101 v181) S1x16x512.size (k0_off101_inb v25_0 v25_1 k0_t12 k0_t14 v181 k0_hw11 k0_h8 k0_h9)).WholeWords (EltTy.packing .bf16) := fun v25_0 v25_1 k0_t12 k0_t14 v181 k0_hw11 k0_h8 k0_h9 => k0_hw11.2.2.2.2.1 k0_h8 k0_h9 (k0_off101_inb v25_0 v25_1 k0_t12 k0_t14 v181 k0_hw11 k0_h8 k0_h9)
theorem k0_off103_inb : ∀ (v25_0 : BitVec 32) (v25_1 : BitVec 32) (k0_t12 : Fin (k0_t12_loop v25_0 v25_1).trips) (k0_t14 : Fin k0_t14_loop.trips) (v181 : BitVec 32) (k0_hw11 : k0_chk11 v25_0 v25_1 k0_t12 k0_t14 v181), ∀ (k0_h8 : k0_cond8 v25_0 v25_1 k0_t12 = 1#1), ∀ (k0_h10 : k0_cond10 v181 = 1#1), ∀ a, (k0_off103 v25_0 v25_1 k0_t12) a + S1.size a ≤ S2.size a := fun v25_0 v25_1 k0_t12 k0_t14 v181 k0_hw11 k0_h8 k0_h10 => k0_hw11.2.2.2.2.2.1 k0_h8 k0_h10
theorem k0_off104_inb : ∀ (v25_0 : BitVec 32) (v25_1 : BitVec 32) (k0_t12 : Fin (k0_t12_loop v25_0 v25_1).trips) (k0_t14 : Fin k0_t14_loop.trips) (v181 : BitVec 32) (k0_hw11 : k0_chk11 v25_0 v25_1 k0_t12 k0_t14 v181), ∀ (k0_h8 : k0_cond8 v25_0 v25_1 k0_t12 = 1#1), ∀ (k0_h10 : k0_cond10 v181 = 1#1), ∀ a, (k0_off104 v181) a + S1x16x512.size a ≤ S2600x16x512.size a := fun v25_0 v25_1 k0_t12 k0_t14 v181 k0_hw11 k0_h8 k0_h10 => k0_hw11.2.2.2.2.2.2.1 k0_h8 k0_h10
theorem k0_off105_inb : ∀ (v25_0 : BitVec 32) (v25_1 : BitVec 32) (k0_t12 : Fin (k0_t12_loop v25_0 v25_1).trips) (k0_t14 : Fin k0_t14_loop.trips) (v181 : BitVec 32) (k0_hw11 : k0_chk11 v25_0 v25_1 k0_t12 k0_t14 v181), ∀ (k0_h8 : k0_cond8 v25_0 v25_1 k0_t12 = 1#1), ∀ (k0_h10 : k0_cond10 v181 = 1#1), ∀ a, (k0_off105 v25_0 v25_1 k0_t12 k0_t14) a + S1x1x16x512.size a ≤ S2x32x16x512.size a := fun v25_0 v25_1 k0_t12 k0_t14 v181 k0_hw11 k0_h8 k0_h10 => k0_hw11.2.2.2.2.2.2.2.1 k0_h8 k0_h10
theorem k0_off105_wordsbf16 : ∀ (v25_0 : BitVec 32) (v25_1 : BitVec 32) (k0_t12 : Fin (k0_t12_loop v25_0 v25_1).trips) (k0_t14 : Fin k0_t14_loop.trips) (v181 : BitVec 32) (k0_hw11 : k0_chk11 v25_0 v25_1 k0_t12 k0_t14 v181), ∀ (k0_h8 : k0_cond8 v25_0 v25_1 k0_t12 = 1#1), ∀ (k0_h10 : k0_cond10 v181 = 1#1), (Rect.unit (s := S2x32x16x512) (k0_off105 v25_0 v25_1 k0_t12 k0_t14) S1x1x16x512.size (k0_off105_inb v25_0 v25_1 k0_t12 k0_t14 v181 k0_hw11 k0_h8 k0_h10)).WholeWords (EltTy.packing .bf16) := fun v25_0 v25_1 k0_t12 k0_t14 v181 k0_hw11 k0_h8 k0_h10 => k0_hw11.2.2.2.2.2.2.2.2.1 k0_h8 k0_h10 (k0_off105_inb v25_0 v25_1 k0_t12 k0_t14 v181 k0_hw11 k0_h8 k0_h10)
theorem k0_off104_wordsbf16 : ∀ (v25_0 : BitVec 32) (v25_1 : BitVec 32) (k0_t12 : Fin (k0_t12_loop v25_0 v25_1).trips) (k0_t14 : Fin k0_t14_loop.trips) (v181 : BitVec 32) (k0_hw11 : k0_chk11 v25_0 v25_1 k0_t12 k0_t14 v181), ∀ (k0_h8 : k0_cond8 v25_0 v25_1 k0_t12 = 1#1), ∀ (k0_h10 : k0_cond10 v181 = 1#1), (Rect.unit (s := S2600x16x512) (k0_off104 v181) S1x16x512.size (k0_off104_inb v25_0 v25_1 k0_t12 k0_t14 v181 k0_hw11 k0_h8 k0_h10)).WholeWords (EltTy.packing .bf16) := fun v25_0 v25_1 k0_t12 k0_t14 v181 k0_hw11 k0_h8 k0_h10 => k0_hw11.2.2.2.2.2.2.2.2.2 k0_h8 k0_h10 (k0_off104_inb v25_0 v25_1 k0_t12 k0_t14 v181 k0_hw11 k0_h8 k0_h10)

@[reducible] def k0_t15_loop : Scf.Loop 32 :=
  let c0_i32_117 : BitVec 32 := 0#32
  let c16_i32_118 : BitVec 32 := 16#32
  let v167 : BitVec 32 := Scalar.addi c0_i32_117 c16_i32_118
  let c1_i32_119 : BitVec 32 := 1#32
  ⟨c0_i32_117, v167, c1_i32_119⟩
def k0_off106 (v25_0 : BitVec 32) (v25_1 : BitVec 32) (k0_t12 : Fin (k0_t12_loop v25_0 v25_1).trips) (k0_t15 : Fin k0_t15_loop.trips) : Fin 1 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c16_i32_129 : BitVec 32 := 16#32
  let v175 : BitVec 32 := Scalar.muli arg21 c16_i32_129
  let c0_i32_117 : BitVec 32 := 0#32
  let c1_i32_119 : BitVec 32 := 1#32
  let arg23 : BitVec 32 := Scf.iv c0_i32_117 c1_i32_119 k0_t15
  let v176 : BitVec 32 := Scalar.addi v175 arg23
  let v177 : Index := Scalar.indexCast v176
  ![v177.toNat]
def k0_off107 (v178 : BitVec 32) : Fin 1 → Nat :=
  let c4095_i32 : BitVec 32 := 4095#32
  let v179 : BitVec 32 := Scalar.andi v178 c4095_i32
  let v184 : Index := Scalar.indexCast v179
  ![v184.toNat]

def k0_off108 (v178 : BitVec 32) : Fin 1 → Nat :=
  let c12_i32 : BitVec 32 := 12#32
  let v180 : BitVec 32 := Scalar.shrsi v178 c12_i32
  let c4095_i32_130 : BitVec 32 := 4095#32
  let v181 : BitVec 32 := Scalar.andi v180 c4095_i32_130
  let v188 : Index := Scalar.indexCast v181
  ![v188.toNat]
def k0_off109 (v25_0 : BitVec 32) (v25_1 : BitVec 32) (k0_t12 : Fin (k0_t12_loop v25_0 v25_1).trips) (k0_t15 : Fin k0_t15_loop.trips) (c0_i32_135 : BitVec 32) : Fin 4 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c4_i32_107 : BitVec 32 := 4#32
  let v160 : BitVec 32 := Scalar.remsi arg21 c4_i32_107
  let v193 : Index := Scalar.indexCast v160
  let c2_i32_134 : BitVec 32 := 2#32
  let c0_i32_117 : BitVec 32 := 0#32
  let c1_i32_119 : BitVec 32 := 1#32
  let arg23 : BitVec 32 := Scf.iv c0_i32_117 c1_i32_119 k0_t15
  let v191 : BitVec 32 := Scalar.muli c2_i32_134 arg23
  let v192 : BitVec 32 := Scalar.addi v191 c0_i32_135
  let v194 : Index := Scalar.indexCast v192
  let c0_136 : Index := 0#32
  let c0_137 : Index := 0#32
  ![v193.toNat, v194.toNat, 0, 0]
def k0_off110 (v25_0 : BitVec 32) (v25_1 : BitVec 32) (k0_t12 : Fin (k0_t12_loop v25_0 v25_1).trips) (k0_t15 : Fin k0_t15_loop.trips) (c0_i32_143 : BitVec 32) : Fin 4 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c4_i32_107 : BitVec 32 := 4#32
  let v160 : BitVec 32 := Scalar.remsi arg21 c4_i32_107
  let v207 : Index := Scalar.indexCast v160
  let c2_i32_142 : BitVec 32 := 2#32
  let c0_i32_117 : BitVec 32 := 0#32
  let c1_i32_119 : BitVec 32 := 1#32
  let arg23 : BitVec 32 := Scf.iv c0_i32_117 c1_i32_119 k0_t15
  let v205 : BitVec 32 := Scalar.muli c2_i32_142 arg23
  let v206 : BitVec 32 := Scalar.addi v205 c0_i32_143
  let v208 : Index := Scalar.indexCast v206
  let c0_144 : Index := 0#32
  let c0_145 : Index := 0#32
  ![v207.toNat, v208.toNat, 0, 0]
def k0_off111 (v178 : BitVec 32) : Fin 2 → Nat :=
  let c4095_i32 : BitVec 32 := 4095#32
  let v179 : BitVec 32 := Scalar.andi v178 c4095_i32
  let v218 : Index := Scalar.indexCast v179
  let c0_150 : Index := 0#32
  ![v218.toNat, 0]
def k0_off112 (v178 : BitVec 32) : Fin 2 → Nat :=
  let c4095_i32 : BitVec 32 := 4095#32
  let v179 : BitVec 32 := Scalar.andi v178 c4095_i32
  let v222 : Index := Scalar.indexCast v179
  let c0_151 : Index := 0#32
  ![v222.toNat, 0]
def k0_off113 (v178 : BitVec 32) : Fin 3 → Nat :=
  let c0_152 : Index := 0#32
  let c4095_i32 : BitVec 32 := 4095#32
  let v179 : BitVec 32 := Scalar.andi v178 c4095_i32
  let v226 : Index := Scalar.indexCast v179
  let c0_153 : Index := 0#32
  ![0, v226.toNat, 0]
def k0_off114 (v178 : BitVec 32) : Fin 3 → Nat :=
  let c1 : Index := 1#32
  let c4095_i32 : BitVec 32 := 4095#32
  let v179 : BitVec 32 := Scalar.andi v178 c4095_i32
  let v230 : Index := Scalar.indexCast v179
  let c0_154 : Index := 0#32
  ![1, v230.toNat, 0]
def k0_off115 (v178 : BitVec 32) : Fin 3 → Nat :=
  let c2 : Index := 2#32
  let c4095_i32 : BitVec 32 := 4095#32
  let v179 : BitVec 32 := Scalar.andi v178 c4095_i32
  let v234 : Index := Scalar.indexCast v179
  let c0_155 : Index := 0#32
  ![2, v234.toNat, 0]
def k0_off116 (v178 : BitVec 32) : Fin 3 → Nat :=
  let c3 : Index := 3#32
  let c4095_i32 : BitVec 32 := 4095#32
  let v179 : BitVec 32 := Scalar.andi v178 c4095_i32
  let v238 : Index := Scalar.indexCast v179
  let c0_156 : Index := 0#32
  ![3, v238.toNat, 0]
def k0_off117 (v178 : BitVec 32) : Fin 2 → Nat :=
  let c12_i32 : BitVec 32 := 12#32
  let v180 : BitVec 32 := Scalar.shrsi v178 c12_i32
  let c4095_i32_130 : BitVec 32 := 4095#32
  let v181 : BitVec 32 := Scalar.andi v180 c4095_i32_130
  let v265 : Index := Scalar.indexCast v181
  let c0_159 : Index := 0#32
  ![v265.toNat, 0]
def k0_off118 (v178 : BitVec 32) : Fin 2 → Nat :=
  let c12_i32 : BitVec 32 := 12#32
  let v180 : BitVec 32 := Scalar.shrsi v178 c12_i32
  let c4095_i32_130 : BitVec 32 := 4095#32
  let v181 : BitVec 32 := Scalar.andi v180 c4095_i32_130
  let v269 : Index := Scalar.indexCast v181
  let c0_161 : Index := 0#32
  ![v269.toNat, 0]
def k0_off119 (v178 : BitVec 32) : Fin 3 → Nat :=
  let c0_162 : Index := 0#32
  let c12_i32 : BitVec 32 := 12#32
  let v180 : BitVec 32 := Scalar.shrsi v178 c12_i32
  let c4095_i32_130 : BitVec 32 := 4095#32
  let v181 : BitVec 32 := Scalar.andi v180 c4095_i32_130
  let v273 : Index := Scalar.indexCast v181
  let c0_163 : Index := 0#32
  ![0, v273.toNat, 0]
def k0_off120 (v178 : BitVec 32) : Fin 3 → Nat :=
  let c1_164 : Index := 1#32
  let c12_i32 : BitVec 32 := 12#32
  let v180 : BitVec 32 := Scalar.shrsi v178 c12_i32
  let c4095_i32_130 : BitVec 32 := 4095#32
  let v181 : BitVec 32 := Scalar.andi v180 c4095_i32_130
  let v277 : Index := Scalar.indexCast v181
  let c0_165 : Index := 0#32
  ![1, v277.toNat, 0]
def k0_off121 (v178 : BitVec 32) : Fin 3 → Nat :=
  let c2_166 : Index := 2#32
  let c12_i32 : BitVec 32 := 12#32
  let v180 : BitVec 32 := Scalar.shrsi v178 c12_i32
  let c4095_i32_130 : BitVec 32 := 4095#32
  let v181 : BitVec 32 := Scalar.andi v180 c4095_i32_130
  let v281 : Index := Scalar.indexCast v181
  let c0_167 : Index := 0#32
  ![2, v281.toNat, 0]
def k0_off122 (v178 : BitVec 32) : Fin 3 → Nat :=
  let c3_168 : Index := 3#32
  let c12_i32 : BitVec 32 := 12#32
  let v180 : BitVec 32 := Scalar.shrsi v178 c12_i32
  let c4095_i32_130 : BitVec 32 := 4095#32
  let v181 : BitVec 32 := Scalar.andi v180 c4095_i32_130
  let v285 : Index := Scalar.indexCast v181
  let c0_169 : Index := 0#32
  ![3, v285.toNat, 0]

def k0_chk12 (v178 : BitVec 32) : Prop :=
  (∀ a, (k0_off107 v178) a + S1.size a ≤ S2600.size a) ∧
  (∀ a, (k0_off108 v178) a + S1.size a ≤ S2600.size a) ∧
  (∀ a, S8x128.size a = 0 ∨ (k0_off111 v178) a + (![2628, 1] : Fin 2 → Nat) a * (S8x128.size a - 1) < S21024x128.size a) ∧
  (∀ a, (k0_off112 v178) a + S1x128.size a ≤ S2600x128.size a) ∧
  (∀ a, (k0_off113 v178) a + S1x1x128.size a ≤ S4x2600x128.size a) ∧
  (∀ a, (k0_off114 v178) a + S1x1x128.size a ≤ S4x2600x128.size a) ∧
  (∀ a, (k0_off115 v178) a + S1x1x128.size a ≤ S4x2600x128.size a) ∧
  (∀ a, (k0_off116 v178) a + S1x1x128.size a ≤ S4x2600x128.size a) ∧
  (∀ a, S8x128.size a = 0 ∨ (k0_off117 v178) a + (![2628, 1] : Fin 2 → Nat) a * (S8x128.size a - 1) < S21024x128.size a) ∧
  (∀ a, (k0_off118 v178) a + S1x128.size a ≤ S2600x128.size a) ∧
  (∀ a, (k0_off119 v178) a + S1x1x128.size a ≤ S4x2600x128.size a) ∧
  (∀ a, (k0_off120 v178) a + S1x1x128.size a ≤ S4x2600x128.size a) ∧
  (∀ a, (k0_off121 v178) a + S1x1x128.size a ≤ S4x2600x128.size a) ∧
  (∀ a, (k0_off122 v178) a + S1x1x128.size a ≤ S4x2600x128.size a)
theorem k0_off107_inb : ∀ (v178 : BitVec 32) (k0_hw12 : k0_chk12 v178), ∀ a, (k0_off107 v178) a + S1.size a ≤ S2600.size a := fun v178 k0_hw12 => k0_hw12.1
theorem k0_off108_inb : ∀ (v178 : BitVec 32) (k0_hw12 : k0_chk12 v178), ∀ a, (k0_off108 v178) a + S1.size a ≤ S2600.size a := fun v178 k0_hw12 => k0_hw12.2.1
theorem k0_off111_inb : ∀ (v178 : BitVec 32) (k0_hw12 : k0_chk12 v178), ∀ a, S8x128.size a = 0 ∨ (k0_off111 v178) a + (![2628, 1] : Fin 2 → Nat) a * (S8x128.size a - 1) < S21024x128.size a := fun v178 k0_hw12 => k0_hw12.2.2.1
theorem k0_off112_inb : ∀ (v178 : BitVec 32) (k0_hw12 : k0_chk12 v178), ∀ a, (k0_off112 v178) a + S1x128.size a ≤ S2600x128.size a := fun v178 k0_hw12 => k0_hw12.2.2.2.1
theorem k0_off113_inb : ∀ (v178 : BitVec 32) (k0_hw12 : k0_chk12 v178), ∀ a, (k0_off113 v178) a + S1x1x128.size a ≤ S4x2600x128.size a := fun v178 k0_hw12 => k0_hw12.2.2.2.2.1
theorem k0_off114_inb : ∀ (v178 : BitVec 32) (k0_hw12 : k0_chk12 v178), ∀ a, (k0_off114 v178) a + S1x1x128.size a ≤ S4x2600x128.size a := fun v178 k0_hw12 => k0_hw12.2.2.2.2.2.1
theorem k0_off115_inb : ∀ (v178 : BitVec 32) (k0_hw12 : k0_chk12 v178), ∀ a, (k0_off115 v178) a + S1x1x128.size a ≤ S4x2600x128.size a := fun v178 k0_hw12 => k0_hw12.2.2.2.2.2.2.1
theorem k0_off116_inb : ∀ (v178 : BitVec 32) (k0_hw12 : k0_chk12 v178), ∀ a, (k0_off116 v178) a + S1x1x128.size a ≤ S4x2600x128.size a := fun v178 k0_hw12 => k0_hw12.2.2.2.2.2.2.2.1
theorem k0_off117_inb : ∀ (v178 : BitVec 32) (k0_hw12 : k0_chk12 v178), ∀ a, S8x128.size a = 0 ∨ (k0_off117 v178) a + (![2628, 1] : Fin 2 → Nat) a * (S8x128.size a - 1) < S21024x128.size a := fun v178 k0_hw12 => k0_hw12.2.2.2.2.2.2.2.2.1
theorem k0_off118_inb : ∀ (v178 : BitVec 32) (k0_hw12 : k0_chk12 v178), ∀ a, (k0_off118 v178) a + S1x128.size a ≤ S2600x128.size a := fun v178 k0_hw12 => k0_hw12.2.2.2.2.2.2.2.2.2.1
theorem k0_off119_inb : ∀ (v178 : BitVec 32) (k0_hw12 : k0_chk12 v178), ∀ a, (k0_off119 v178) a + S1x1x128.size a ≤ S4x2600x128.size a := fun v178 k0_hw12 => k0_hw12.2.2.2.2.2.2.2.2.2.2.1
theorem k0_off120_inb : ∀ (v178 : BitVec 32) (k0_hw12 : k0_chk12 v178), ∀ a, (k0_off120 v178) a + S1x1x128.size a ≤ S4x2600x128.size a := fun v178 k0_hw12 => k0_hw12.2.2.2.2.2.2.2.2.2.2.2.1
theorem k0_off121_inb : ∀ (v178 : BitVec 32) (k0_hw12 : k0_chk12 v178), ∀ a, (k0_off121 v178) a + S1x1x128.size a ≤ S4x2600x128.size a := fun v178 k0_hw12 => k0_hw12.2.2.2.2.2.2.2.2.2.2.2.2.1
theorem k0_off122_inb : ∀ (v178 : BitVec 32) (k0_hw12 : k0_chk12 v178), ∀ a, (k0_off122 v178) a + S1x1x128.size a ≤ S4x2600x128.size a := fun v178 k0_hw12 => k0_hw12.2.2.2.2.2.2.2.2.2.2.2.2.2

def k0_off123 (v25_0 : BitVec 32) (v25_1 : BitVec 32) (k0_t12 : Fin (k0_t12_loop v25_0 v25_1).trips) (k0_t15 : Fin k0_t15_loop.trips) (c0_i32_202 : BitVec 32) : Fin 4 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c2_i32_108 : BitVec 32 := 2#32
  let v161 : BitVec 32 := Scalar.remsi arg21 c2_i32_108
  let v620 : Index := Scalar.indexCast v161
  let c2_i32_201 : BitVec 32 := 2#32
  let c0_i32_117 : BitVec 32 := 0#32
  let c1_i32_119 : BitVec 32 := 1#32
  let arg23 : BitVec 32 := Scf.iv c0_i32_117 c1_i32_119 k0_t15
  let v618 : BitVec 32 := Scalar.muli c2_i32_201 arg23
  let v619 : BitVec 32 := Scalar.addi v618 c0_i32_202
  let v621 : Index := Scalar.indexCast v619
  let c0_203 : Index := 0#32
  let c0_204 : Index := 0#32
  ![v620.toNat, v621.toNat, 0, 0]
def k0_off124 (v25_0 : BitVec 32) (v25_1 : BitVec 32) (k0_t12 : Fin (k0_t12_loop v25_0 v25_1).trips) (k0_t15 : Fin k0_t15_loop.trips) (c0_i32_206 : BitVec 32) : Fin 4 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c2_i32_108 : BitVec 32 := 2#32
  let v161 : BitVec 32 := Scalar.remsi arg21 c2_i32_108
  let v633 : Index := Scalar.indexCast v161
  let c2_i32_205 : BitVec 32 := 2#32
  let c0_i32_117 : BitVec 32 := 0#32
  let c1_i32_119 : BitVec 32 := 1#32
  let arg23 : BitVec 32 := Scf.iv c0_i32_117 c1_i32_119 k0_t15
  let v631 : BitVec 32 := Scalar.muli c2_i32_205 arg23
  let v632 : BitVec 32 := Scalar.addi v631 c0_i32_206
  let v634 : Index := Scalar.indexCast v632
  let c0_207 : Index := 0#32
  let c128_208 : Index := 128#32
  ![v633.toNat, v634.toNat, 0, 128]
def k0_off125 (v25_0 : BitVec 32) (v25_1 : BitVec 32) (k0_t12 : Fin (k0_t12_loop v25_0 v25_1).trips) (k0_t15 : Fin k0_t15_loop.trips) (c0_i32_210 : BitVec 32) : Fin 4 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c2_i32_108 : BitVec 32 := 2#32
  let v161 : BitVec 32 := Scalar.remsi arg21 c2_i32_108
  let v646 : Index := Scalar.indexCast v161
  let c2_i32_209 : BitVec 32 := 2#32
  let c0_i32_117 : BitVec 32 := 0#32
  let c1_i32_119 : BitVec 32 := 1#32
  let arg23 : BitVec 32 := Scf.iv c0_i32_117 c1_i32_119 k0_t15
  let v644 : BitVec 32 := Scalar.muli c2_i32_209 arg23
  let v645 : BitVec 32 := Scalar.addi v644 c0_i32_210
  let v647 : Index := Scalar.indexCast v645
  let c0_211 : Index := 0#32
  let c256_212 : Index := 256#32
  ![v646.toNat, v647.toNat, 0, 256]
def k0_off126 (v25_0 : BitVec 32) (v25_1 : BitVec 32) (k0_t12 : Fin (k0_t12_loop v25_0 v25_1).trips) (k0_t15 : Fin k0_t15_loop.trips) (c0_i32_214 : BitVec 32) : Fin 4 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c2_i32_108 : BitVec 32 := 2#32
  let v161 : BitVec 32 := Scalar.remsi arg21 c2_i32_108
  let v659 : Index := Scalar.indexCast v161
  let c2_i32_213 : BitVec 32 := 2#32
  let c0_i32_117 : BitVec 32 := 0#32
  let c1_i32_119 : BitVec 32 := 1#32
  let arg23 : BitVec 32 := Scf.iv c0_i32_117 c1_i32_119 k0_t15
  let v657 : BitVec 32 := Scalar.muli c2_i32_213 arg23
  let v658 : BitVec 32 := Scalar.addi v657 c0_i32_214
  let v660 : Index := Scalar.indexCast v658
  let c0_215 : Index := 0#32
  let c384_216 : Index := 384#32
  ![v659.toNat, v660.toNat, 0, 384]
@[reducible] def k0_t16_loop : Scf.Loop 32 :=
  let c0_i32_133 : BitVec 32 := 0#32
  let c16_i32_134 : BitVec 32 := 16#32
  let v178 : BitVec 32 := Scalar.addi c0_i32_133 c16_i32_134
  let c1_i32_135 : BitVec 32 := 1#32
  ⟨c0_i32_133, v178, c1_i32_135⟩
def k0_off127 (v25_0 : BitVec 32) (v25_1 : BitVec 32) (k0_t12 : Fin (k0_t12_loop v25_0 v25_1).trips) (k0_t16 : Fin k0_t16_loop.trips) : Fin 1 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c3_i32_129 : BitVec 32 := 3#32
  let v175 : BitVec 32 := Scalar.addi arg21 c3_i32_129
  let c16_i32_137 : BitVec 32 := 16#32
  let v180 : BitVec 32 := Scalar.muli v175 c16_i32_137
  let c0_i32_133 : BitVec 32 := 0#32
  let c1_i32_135 : BitVec 32 := 1#32
  let arg23 : BitVec 32 := Scf.iv c0_i32_133 c1_i32_135 k0_t16
  let v181 : BitVec 32 := Scalar.addi v180 arg23
  let v182 : Index := Scalar.indexCast v181
  ![v182.toNat]
def k0_cond11 (v25_0 : BitVec 32) (v25_1 : BitVec 32) (k0_t12 : Fin (k0_t12_loop v25_0 v25_1).trips) : BitVec 1 :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c3_i32_121 : BitVec 32 := 3#32
  let v169 : BitVec 32 := Scalar.addi arg21 c3_i32_121
  let v170 : BitVec 1 := Scalar.cmpi .slt v169 v52
  let v171 : BitVec 32 := Scalar.extui v170
  let c0_i32_122 : BitVec 32 := 0#32
  let v172 : BitVec 1 := Scalar.cmpi .ne v171 c0_i32_122
  v172

def k0_mult6 (v183 : BitVec 32) : BitVec 32 :=
  let c24_i32 : BitVec 32 := 24#32
  let v187 : BitVec 32 := Scalar.shrsi v183 c24_i32
  let c2_i32_139 : BitVec 32 := 2#32
  let v188 : BitVec 1 := Scalar.cmpi .eq v187 c2_i32_139
  let c128_i32_140 : BitVec 32 := 128#32
  let c0_i32_141 : BitVec 32 := 0#32
  let v189 : BitVec 32 := Scalar.select v188 c128_i32_140 c0_i32_141
  v189

def k0_off128 (v25_0 : BitVec 32) (v25_1 : BitVec 32) (k0_t12 : Fin (k0_t12_loop v25_0 v25_1).trips) : Fin 1 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c3_i32_130 : BitVec 32 := 3#32
  let v176 : BitVec 32 := Scalar.addi arg21 c3_i32_130
  let c4_i32_131 : BitVec 32 := 4#32
  let v177 : BitVec 32 := Scalar.remsi v176 c4_i32_131
  ![v177.toNat]
def k0_off129 (v25_0 : BitVec 32) (v25_1 : BitVec 32) (k0_t12 : Fin (k0_t12_loop v25_0 v25_1).trips) (k0_t16 : Fin k0_t16_loop.trips) : Fin 4 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c3_i32_130 : BitVec 32 := 3#32
  let v176 : BitVec 32 := Scalar.addi arg21 c3_i32_130
  let c4_i32_131 : BitVec 32 := 4#32
  let v177 : BitVec 32 := Scalar.remsi v176 c4_i32_131
  let c2_i32_142 : BitVec 32 := 2#32
  let c0_i32_133 : BitVec 32 := 0#32
  let c1_i32_135 : BitVec 32 := 1#32
  let arg23 : BitVec 32 := Scf.iv c0_i32_133 c1_i32_135 k0_t16
  let v191 : BitVec 32 := Scalar.muli c2_i32_142 arg23
  let c0_i32_148 : BitVec 32 := 0#32
  let c0_i32_149 : BitVec 32 := 0#32
  ![v177.toNat, v191.toNat, 0, 0]
def k0_off130 (v183 : BitVec 32) : Fin 3 → Nat :=
  let c4095_i32 : BitVec 32 := 4095#32
  let v184 : BitVec 32 := Scalar.andi v183 c4095_i32
  let c0_i32_150 : BitVec 32 := 0#32
  let c0_i32_151 : BitVec 32 := 0#32
  ![v184.toNat, 0, 0]
def k0_off131 (v25_0 : BitVec 32) (v25_1 : BitVec 32) (k0_t12 : Fin (k0_t12_loop v25_0 v25_1).trips) (k0_t16 : Fin k0_t16_loop.trips) : Fin 4 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c3_i32_130 : BitVec 32 := 3#32
  let v176 : BitVec 32 := Scalar.addi arg21 c3_i32_130
  let c4_i32_131 : BitVec 32 := 4#32
  let v177 : BitVec 32 := Scalar.remsi v176 c4_i32_131
  let c2_i32_143 : BitVec 32 := 2#32
  let c0_i32_133 : BitVec 32 := 0#32
  let c1_i32_135 : BitVec 32 := 1#32
  let arg23 : BitVec 32 := Scf.iv c0_i32_133 c1_i32_135 k0_t16
  let v192 : BitVec 32 := Scalar.muli c2_i32_143 arg23
  let c1_i32_144 : BitVec 32 := 1#32
  let v193 : BitVec 32 := Scalar.addi v192 c1_i32_144
  let c0_i32_152 : BitVec 32 := 0#32
  let c0_i32_153 : BitVec 32 := 0#32
  ![v177.toNat, v193.toNat, 0, 0]
def k0_off132 (v183 : BitVec 32) : Fin 3 → Nat :=
  let c12_i32 : BitVec 32 := 12#32
  let v185 : BitVec 32 := Scalar.shrsi v183 c12_i32
  let c4095_i32_138 : BitVec 32 := 4095#32
  let v186 : BitVec 32 := Scalar.andi v185 c4095_i32_138
  let c0_i32_154 : BitVec 32 := 0#32
  let c24_i32 : BitVec 32 := 24#32
  let v187 : BitVec 32 := Scalar.shrsi v183 c24_i32
  let c2_i32_139 : BitVec 32 := 2#32
  let v188 : BitVec 1 := Scalar.cmpi .eq v187 c2_i32_139
  let c128_i32_140 : BitVec 32 := 128#32
  let c0_i32_141 : BitVec 32 := 0#32
  let v189 : BitVec 32 := Scalar.select v188 c128_i32_140 c0_i32_141
  let v190 : BitVec 32 := v189
  ![v186.toNat, 0, v190.toNat]
def k0_off133 (v25_0 : BitVec 32) (v25_1 : BitVec 32) (k0_t12 : Fin (k0_t12_loop v25_0 v25_1).trips) (k0_t16 : Fin k0_t16_loop.trips) : Fin 4 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c3_i32_130 : BitVec 32 := 3#32
  let v176 : BitVec 32 := Scalar.addi arg21 c3_i32_130
  let c4_i32_131 : BitVec 32 := 4#32
  let v177 : BitVec 32 := Scalar.remsi v176 c4_i32_131
  let c2_i32_145 : BitVec 32 := 2#32
  let c0_i32_133 : BitVec 32 := 0#32
  let c1_i32_135 : BitVec 32 := 1#32
  let arg23 : BitVec 32 := Scf.iv c0_i32_133 c1_i32_135 k0_t16
  let v194 : BitVec 32 := Scalar.muli c2_i32_145 arg23
  let c0_i32_155 : BitVec 32 := 0#32
  let c0_i32_156 : BitVec 32 := 0#32
  ![v177.toNat, v194.toNat, 0, 0]
def k0_off134 (v183 : BitVec 32) : Fin 3 → Nat :=
  let c4095_i32 : BitVec 32 := 4095#32
  let v184 : BitVec 32 := Scalar.andi v183 c4095_i32
  let c0_i32_157 : BitVec 32 := 0#32
  let c0_i32_158 : BitVec 32 := 0#32
  ![v184.toNat, 0, 0]
def k0_off135 (v25_0 : BitVec 32) (v25_1 : BitVec 32) (k0_t12 : Fin (k0_t12_loop v25_0 v25_1).trips) (k0_t16 : Fin k0_t16_loop.trips) : Fin 4 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c3_i32_130 : BitVec 32 := 3#32
  let v176 : BitVec 32 := Scalar.addi arg21 c3_i32_130
  let c4_i32_131 : BitVec 32 := 4#32
  let v177 : BitVec 32 := Scalar.remsi v176 c4_i32_131
  let c2_i32_146 : BitVec 32 := 2#32
  let c0_i32_133 : BitVec 32 := 0#32
  let c1_i32_135 : BitVec 32 := 1#32
  let arg23 : BitVec 32 := Scf.iv c0_i32_133 c1_i32_135 k0_t16
  let v195 : BitVec 32 := Scalar.muli c2_i32_146 arg23
  let c1_i32_147 : BitVec 32 := 1#32
  let v196 : BitVec 32 := Scalar.addi v195 c1_i32_147
  let c0_i32_159 : BitVec 32 := 0#32
  let c0_i32_160 : BitVec 32 := 0#32
  ![v177.toNat, v196.toNat, 0, 0]
def k0_off136 (v183 : BitVec 32) : Fin 3 → Nat :=
  let c12_i32 : BitVec 32 := 12#32
  let v185 : BitVec 32 := Scalar.shrsi v183 c12_i32
  let c4095_i32_138 : BitVec 32 := 4095#32
  let v186 : BitVec 32 := Scalar.andi v185 c4095_i32_138
  let c0_i32_161 : BitVec 32 := 0#32
  let c0_i32_162 : BitVec 32 := 0#32
  ![v186.toNat, 0, 0]

def k0_chk13 (v25_0 : BitVec 32) (v25_1 : BitVec 32) (k0_t12 : Fin (k0_t12_loop v25_0 v25_1).trips) (v183 : BitVec 32) : Prop :=
  (∀ (k0_h11 : k0_cond11 v25_0 v25_1 k0_t12 = 1#1), 128 ∣ (k0_mult6 v183).toNat) ∧
  (∀ (k0_h11 : k0_cond11 v25_0 v25_1 k0_t12 = 1#1), ∀ a, (k0_off130 v183) a + S1x656x128.size a ≤ S2600x656x256.size a) ∧
  (∀ (k0_h11 : k0_cond11 v25_0 v25_1 k0_t12 = 1#1), ∀ (hinb : ∀ a, (k0_off130 v183) a + S1x656x128.size a ≤ S2600x656x256.size a), (Rect.unit (s := S2600x656x256) (k0_off130 v183) S1x656x128.size hinb).WholeWords (EltTy.packing .i8)) ∧
  (∀ (k0_h11 : k0_cond11 v25_0 v25_1 k0_t12 = 1#1), ∀ a, (k0_off132 v183) a + S1x656x128.size a ≤ S2600x656x256.size a) ∧
  (∀ (k0_h11 : k0_cond11 v25_0 v25_1 k0_t12 = 1#1), ∀ (hinb : ∀ a, (k0_off132 v183) a + S1x656x128.size a ≤ S2600x656x256.size a), (Rect.unit (s := S2600x656x256) (k0_off132 v183) S1x656x128.size hinb).WholeWords (EltTy.packing .i8)) ∧
  (∀ (k0_h11 : k0_cond11 v25_0 v25_1 k0_t12 = 1#1), ∀ a, (k0_off134 v183) a + S1x16x512.size a ≤ S2600x16x512.size a) ∧
  (∀ (k0_h11 : k0_cond11 v25_0 v25_1 k0_t12 = 1#1), ∀ (hinb : ∀ a, (k0_off134 v183) a + S1x16x512.size a ≤ S2600x16x512.size a), (Rect.unit (s := S2600x16x512) (k0_off134 v183) S1x16x512.size hinb).WholeWords (EltTy.packing .bf16)) ∧
  (∀ (k0_h11 : k0_cond11 v25_0 v25_1 k0_t12 = 1#1), ∀ a, (k0_off136 v183) a + S1x16x512.size a ≤ S2600x16x512.size a) ∧
  (∀ (k0_h11 : k0_cond11 v25_0 v25_1 k0_t12 = 1#1), ∀ (hinb : ∀ a, (k0_off136 v183) a + S1x16x512.size a ≤ S2600x16x512.size a), (Rect.unit (s := S2600x16x512) (k0_off136 v183) S1x16x512.size hinb).WholeWords (EltTy.packing .bf16))
theorem k0_mult6_dvd : ∀ (v25_0 : BitVec 32) (v25_1 : BitVec 32) (k0_t12 : Fin (k0_t12_loop v25_0 v25_1).trips) (v183 : BitVec 32) (k0_hw13 : k0_chk13 v25_0 v25_1 k0_t12 v183), ∀ (k0_h11 : k0_cond11 v25_0 v25_1 k0_t12 = 1#1), 128 ∣ (k0_mult6 v183).toNat := fun v25_0 v25_1 k0_t12 v183 k0_hw13 k0_h11 => k0_hw13.1 k0_h11
theorem k0_off130_inb : ∀ (v25_0 : BitVec 32) (v25_1 : BitVec 32) (k0_t12 : Fin (k0_t12_loop v25_0 v25_1).trips) (v183 : BitVec 32) (k0_hw13 : k0_chk13 v25_0 v25_1 k0_t12 v183), ∀ (k0_h11 : k0_cond11 v25_0 v25_1 k0_t12 = 1#1), ∀ a, (k0_off130 v183) a + S1x656x128.size a ≤ S2600x656x256.size a := fun v25_0 v25_1 k0_t12 v183 k0_hw13 k0_h11 => k0_hw13.2.1 k0_h11
theorem k0_off130_wordsi8 : ∀ (v25_0 : BitVec 32) (v25_1 : BitVec 32) (k0_t12 : Fin (k0_t12_loop v25_0 v25_1).trips) (v183 : BitVec 32) (k0_hw13 : k0_chk13 v25_0 v25_1 k0_t12 v183), ∀ (k0_h11 : k0_cond11 v25_0 v25_1 k0_t12 = 1#1), (Rect.unit (s := S2600x656x256) (k0_off130 v183) S1x656x128.size (k0_off130_inb v25_0 v25_1 k0_t12 v183 k0_hw13 k0_h11)).WholeWords (EltTy.packing .i8) := fun v25_0 v25_1 k0_t12 v183 k0_hw13 k0_h11 => k0_hw13.2.2.1 k0_h11 (k0_off130_inb v25_0 v25_1 k0_t12 v183 k0_hw13 k0_h11)
theorem k0_off132_inb : ∀ (v25_0 : BitVec 32) (v25_1 : BitVec 32) (k0_t12 : Fin (k0_t12_loop v25_0 v25_1).trips) (v183 : BitVec 32) (k0_hw13 : k0_chk13 v25_0 v25_1 k0_t12 v183), ∀ (k0_h11 : k0_cond11 v25_0 v25_1 k0_t12 = 1#1), ∀ a, (k0_off132 v183) a + S1x656x128.size a ≤ S2600x656x256.size a := fun v25_0 v25_1 k0_t12 v183 k0_hw13 k0_h11 => k0_hw13.2.2.2.1 k0_h11
theorem k0_off132_wordsi8 : ∀ (v25_0 : BitVec 32) (v25_1 : BitVec 32) (k0_t12 : Fin (k0_t12_loop v25_0 v25_1).trips) (v183 : BitVec 32) (k0_hw13 : k0_chk13 v25_0 v25_1 k0_t12 v183), ∀ (k0_h11 : k0_cond11 v25_0 v25_1 k0_t12 = 1#1), (Rect.unit (s := S2600x656x256) (k0_off132 v183) S1x656x128.size (k0_off132_inb v25_0 v25_1 k0_t12 v183 k0_hw13 k0_h11)).WholeWords (EltTy.packing .i8) := fun v25_0 v25_1 k0_t12 v183 k0_hw13 k0_h11 => k0_hw13.2.2.2.2.1 k0_h11 (k0_off132_inb v25_0 v25_1 k0_t12 v183 k0_hw13 k0_h11)
theorem k0_off134_inb : ∀ (v25_0 : BitVec 32) (v25_1 : BitVec 32) (k0_t12 : Fin (k0_t12_loop v25_0 v25_1).trips) (v183 : BitVec 32) (k0_hw13 : k0_chk13 v25_0 v25_1 k0_t12 v183), ∀ (k0_h11 : k0_cond11 v25_0 v25_1 k0_t12 = 1#1), ∀ a, (k0_off134 v183) a + S1x16x512.size a ≤ S2600x16x512.size a := fun v25_0 v25_1 k0_t12 v183 k0_hw13 k0_h11 => k0_hw13.2.2.2.2.2.1 k0_h11
theorem k0_off134_wordsbf16 : ∀ (v25_0 : BitVec 32) (v25_1 : BitVec 32) (k0_t12 : Fin (k0_t12_loop v25_0 v25_1).trips) (v183 : BitVec 32) (k0_hw13 : k0_chk13 v25_0 v25_1 k0_t12 v183), ∀ (k0_h11 : k0_cond11 v25_0 v25_1 k0_t12 = 1#1), (Rect.unit (s := S2600x16x512) (k0_off134 v183) S1x16x512.size (k0_off134_inb v25_0 v25_1 k0_t12 v183 k0_hw13 k0_h11)).WholeWords (EltTy.packing .bf16) := fun v25_0 v25_1 k0_t12 v183 k0_hw13 k0_h11 => k0_hw13.2.2.2.2.2.2.1 k0_h11 (k0_off134_inb v25_0 v25_1 k0_t12 v183 k0_hw13 k0_h11)
theorem k0_off136_inb : ∀ (v25_0 : BitVec 32) (v25_1 : BitVec 32) (k0_t12 : Fin (k0_t12_loop v25_0 v25_1).trips) (v183 : BitVec 32) (k0_hw13 : k0_chk13 v25_0 v25_1 k0_t12 v183), ∀ (k0_h11 : k0_cond11 v25_0 v25_1 k0_t12 = 1#1), ∀ a, (k0_off136 v183) a + S1x16x512.size a ≤ S2600x16x512.size a := fun v25_0 v25_1 k0_t12 v183 k0_hw13 k0_h11 => k0_hw13.2.2.2.2.2.2.2.1 k0_h11
theorem k0_off136_wordsbf16 : ∀ (v25_0 : BitVec 32) (v25_1 : BitVec 32) (k0_t12 : Fin (k0_t12_loop v25_0 v25_1).trips) (v183 : BitVec 32) (k0_hw13 : k0_chk13 v25_0 v25_1 k0_t12 v183), ∀ (k0_h11 : k0_cond11 v25_0 v25_1 k0_t12 = 1#1), (Rect.unit (s := S2600x16x512) (k0_off136 v183) S1x16x512.size (k0_off136_inb v25_0 v25_1 k0_t12 v183 k0_hw13 k0_h11)).WholeWords (EltTy.packing .bf16) := fun v25_0 v25_1 k0_t12 v183 k0_hw13 k0_h11 => k0_hw13.2.2.2.2.2.2.2.2 k0_h11 (k0_off136_inb v25_0 v25_1 k0_t12 v183 k0_hw13 k0_h11)

@[reducible] def k0_t17_loop : Scf.Loop 32 :=
  let c0_i32_124 : BitVec 32 := 0#32
  let c16_i32_125 : BitVec 32 := 16#32
  let v173 : BitVec 32 := Scalar.addi c0_i32_124 c16_i32_125
  let c1_i32_126 : BitVec 32 := 1#32
  ⟨c0_i32_124, v173, c1_i32_126⟩
def k0_off137 (v25_0 : BitVec 32) (v25_1 : BitVec 32) (k0_t12 : Fin (k0_t12_loop v25_0 v25_1).trips) (k0_t17 : Fin k0_t17_loop.trips) : Fin 1 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c16_i32_129 : BitVec 32 := 16#32
  let v175 : BitVec 32 := Scalar.muli arg21 c16_i32_129
  let c0_i32_124 : BitVec 32 := 0#32
  let c1_i32_126 : BitVec 32 := 1#32
  let arg23 : BitVec 32 := Scf.iv c0_i32_124 c1_i32_126 k0_t17
  let v176 : BitVec 32 := Scalar.addi v175 arg23
  let v177 : Index := Scalar.indexCast v176
  ![v177.toNat]
def k0_off138 (v25_0 : BitVec 32) (v25_1 : BitVec 32) (k0_t12 : Fin (k0_t12_loop v25_0 v25_1).trips) : Fin 1 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c2_i32_108 : BitVec 32 := 2#32
  let v161 : BitVec 32 := Scalar.remsi arg21 c2_i32_108
  ![v161.toNat]
def k0_cond12 (v178 : BitVec 32) : BitVec 1 :=
  let c24_i32 : BitVec 32 := 24#32
  let v179 : BitVec 32 := Scalar.shrsi v178 c24_i32
  let c3_i32_134 : BitVec 32 := 3#32
  let v186 : BitVec 1 := Scalar.cmpi .ne v179 c3_i32_134
  let v188 : BitVec 32 := Scalar.extui v186
  let c0_i32_136 : BitVec 32 := 0#32
  let v189 : BitVec 1 := Scalar.cmpi .ne v188 c0_i32_136
  v189

def k0_off139 (v178 : BitVec 32) : Fin 3 → Nat :=
  let c4095_i32 : BitVec 32 := 4095#32
  let v181 : BitVec 32 := Scalar.andi v178 c4095_i32
  let c0_i32_139 : BitVec 32 := 0#32
  let c0_i32_140 : BitVec 32 := 0#32
  ![v181.toNat, 0, 0]
def k0_off140 (v25_0 : BitVec 32) (v25_1 : BitVec 32) (k0_t12 : Fin (k0_t12_loop v25_0 v25_1).trips) (k0_t17 : Fin k0_t17_loop.trips) : Fin 4 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c2_i32_108 : BitVec 32 := 2#32
  let v161 : BitVec 32 := Scalar.remsi arg21 c2_i32_108
  let c2_i32_130 : BitVec 32 := 2#32
  let c0_i32_124 : BitVec 32 := 0#32
  let c1_i32_126 : BitVec 32 := 1#32
  let arg23 : BitVec 32 := Scf.iv c0_i32_124 c1_i32_126 k0_t17
  let v180 : BitVec 32 := Scalar.muli c2_i32_130 arg23
  let c0_i32_141 : BitVec 32 := 0#32
  let c0_i32_142 : BitVec 32 := 0#32
  ![v161.toNat, v180.toNat, 0, 0]
def k0_off141 (v25_0 : BitVec 32) (v25_1 : BitVec 32) (k0_t12 : Fin (k0_t12_loop v25_0 v25_1).trips) : Fin 1 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c2_i32_108 : BitVec 32 := 2#32
  let v161 : BitVec 32 := Scalar.remsi arg21 c2_i32_108
  ![v161.toNat]
def k0_cond13 (v178 : BitVec 32) : BitVec 1 :=
  let c24_i32 : BitVec 32 := 24#32
  let v179 : BitVec 32 := Scalar.shrsi v178 c24_i32
  let c1_i32_135 : BitVec 32 := 1#32
  let v187 : BitVec 1 := Scalar.cmpi .eq v179 c1_i32_135
  let v190 : BitVec 32 := Scalar.extui v187
  let c0_i32_137 : BitVec 32 := 0#32
  let v191 : BitVec 1 := Scalar.cmpi .ne v190 c0_i32_137
  v191

def k0_off142 (v178 : BitVec 32) : Fin 3 → Nat :=
  let c12_i32 : BitVec 32 := 12#32
  let v184 : BitVec 32 := Scalar.shrsi v178 c12_i32
  let c4095_i32_133 : BitVec 32 := 4095#32
  let v185 : BitVec 32 := Scalar.andi v184 c4095_i32_133
  let c0_i32_139 : BitVec 32 := 0#32
  let c0_i32_140 : BitVec 32 := 0#32
  ![v185.toNat, 0, 0]
def k0_off143 (v25_0 : BitVec 32) (v25_1 : BitVec 32) (k0_t12 : Fin (k0_t12_loop v25_0 v25_1).trips) (k0_t17 : Fin k0_t17_loop.trips) : Fin 4 → Nat :=
  let c0_i32_98 : BitVec 32 := 0#32
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let v152 : BitVec 32 := Scalar.subi v52 c0_i32_98
  let c1_i32_100 : BitVec 32 := 1#32
  let v154 : BitVec 32 := Scalar.divsi v152 c1_i32_100
  let v155 : BitVec 32 := Scalar.muli v154 c1_i32_100
  let v156 : BitVec 32 := Scalar.addi c0_i32_98 v155
  let c1_i32_102 : BitVec 32 := 1#32
  let arg21 : BitVec 32 := Scf.iv v156 c1_i32_102 k0_t12
  let c2_i32_108 : BitVec 32 := 2#32
  let v161 : BitVec 32 := Scalar.remsi arg21 c2_i32_108
  let c2_i32_131 : BitVec 32 := 2#32
  let c0_i32_124 : BitVec 32 := 0#32
  let c1_i32_126 : BitVec 32 := 1#32
  let arg23 : BitVec 32 := Scf.iv c0_i32_124 c1_i32_126 k0_t17
  let v182 : BitVec 32 := Scalar.muli c2_i32_131 arg23
  let c1_i32_132 : BitVec 32 := 1#32
  let v183 : BitVec 32 := Scalar.addi v182 c1_i32_132
  let c0_i32_141 : BitVec 32 := 0#32
  let c0_i32_142 : BitVec 32 := 0#32
  ![v161.toNat, v183.toNat, 0, 0]

def k0_chk14 (v25_0 : BitVec 32) (v25_1 : BitVec 32) (k0_t12 : Fin (k0_t12_loop v25_0 v25_1).trips) (k0_t17 : Fin k0_t17_loop.trips) (v178 : BitVec 32) : Prop :=
  (∀ (k0_h12 : k0_cond12 v178 = 1#1), ∀ a, (k0_off138 v25_0 v25_1 k0_t12) a + S1.size a ≤ S2.size a) ∧
  (∀ (k0_h12 : k0_cond12 v178 = 1#1), ∀ a, (k0_off139 v178) a + S1x16x512.size a ≤ S2600x16x512.size a) ∧
  (∀ (k0_h12 : k0_cond12 v178 = 1#1), ∀ a, (k0_off140 v25_0 v25_1 k0_t12 k0_t17) a + S1x1x16x512.size a ≤ S2x32x16x512.size a) ∧
  (∀ (k0_h12 : k0_cond12 v178 = 1#1), ∀ (hinb : ∀ a, (k0_off140 v25_0 v25_1 k0_t12 k0_t17) a + S1x1x16x512.size a ≤ S2x32x16x512.size a), (Rect.unit (s := S2x32x16x512) (k0_off140 v25_0 v25_1 k0_t12 k0_t17) S1x1x16x512.size hinb).WholeWords (EltTy.packing .bf16)) ∧
  (∀ (k0_h12 : k0_cond12 v178 = 1#1), ∀ (hinb : ∀ a, (k0_off139 v178) a + S1x16x512.size a ≤ S2600x16x512.size a), (Rect.unit (s := S2600x16x512) (k0_off139 v178) S1x16x512.size hinb).WholeWords (EltTy.packing .bf16)) ∧
  (∀ (k0_h13 : k0_cond13 v178 = 1#1), ∀ a, (k0_off141 v25_0 v25_1 k0_t12) a + S1.size a ≤ S2.size a) ∧
  (∀ (k0_h13 : k0_cond13 v178 = 1#1), ∀ a, (k0_off142 v178) a + S1x16x512.size a ≤ S2600x16x512.size a) ∧
  (∀ (k0_h13 : k0_cond13 v178 = 1#1), ∀ a, (k0_off143 v25_0 v25_1 k0_t12 k0_t17) a + S1x1x16x512.size a ≤ S2x32x16x512.size a) ∧
  (∀ (k0_h13 : k0_cond13 v178 = 1#1), ∀ (hinb : ∀ a, (k0_off143 v25_0 v25_1 k0_t12 k0_t17) a + S1x1x16x512.size a ≤ S2x32x16x512.size a), (Rect.unit (s := S2x32x16x512) (k0_off143 v25_0 v25_1 k0_t12 k0_t17) S1x1x16x512.size hinb).WholeWords (EltTy.packing .bf16)) ∧
  (∀ (k0_h13 : k0_cond13 v178 = 1#1), ∀ (hinb : ∀ a, (k0_off142 v178) a + S1x16x512.size a ≤ S2600x16x512.size a), (Rect.unit (s := S2600x16x512) (k0_off142 v178) S1x16x512.size hinb).WholeWords (EltTy.packing .bf16))
theorem k0_off138_inb : ∀ (v25_0 : BitVec 32) (v25_1 : BitVec 32) (k0_t12 : Fin (k0_t12_loop v25_0 v25_1).trips) (k0_t17 : Fin k0_t17_loop.trips) (v178 : BitVec 32) (k0_hw14 : k0_chk14 v25_0 v25_1 k0_t12 k0_t17 v178), ∀ (k0_h12 : k0_cond12 v178 = 1#1), ∀ a, (k0_off138 v25_0 v25_1 k0_t12) a + S1.size a ≤ S2.size a := fun v25_0 v25_1 k0_t12 k0_t17 v178 k0_hw14 k0_h12 => k0_hw14.1 k0_h12
theorem k0_off139_inb : ∀ (v25_0 : BitVec 32) (v25_1 : BitVec 32) (k0_t12 : Fin (k0_t12_loop v25_0 v25_1).trips) (k0_t17 : Fin k0_t17_loop.trips) (v178 : BitVec 32) (k0_hw14 : k0_chk14 v25_0 v25_1 k0_t12 k0_t17 v178), ∀ (k0_h12 : k0_cond12 v178 = 1#1), ∀ a, (k0_off139 v178) a + S1x16x512.size a ≤ S2600x16x512.size a := fun v25_0 v25_1 k0_t12 k0_t17 v178 k0_hw14 k0_h12 => k0_hw14.2.1 k0_h12
theorem k0_off140_inb : ∀ (v25_0 : BitVec 32) (v25_1 : BitVec 32) (k0_t12 : Fin (k0_t12_loop v25_0 v25_1).trips) (k0_t17 : Fin k0_t17_loop.trips) (v178 : BitVec 32) (k0_hw14 : k0_chk14 v25_0 v25_1 k0_t12 k0_t17 v178), ∀ (k0_h12 : k0_cond12 v178 = 1#1), ∀ a, (k0_off140 v25_0 v25_1 k0_t12 k0_t17) a + S1x1x16x512.size a ≤ S2x32x16x512.size a := fun v25_0 v25_1 k0_t12 k0_t17 v178 k0_hw14 k0_h12 => k0_hw14.2.2.1 k0_h12
theorem k0_off140_wordsbf16 : ∀ (v25_0 : BitVec 32) (v25_1 : BitVec 32) (k0_t12 : Fin (k0_t12_loop v25_0 v25_1).trips) (k0_t17 : Fin k0_t17_loop.trips) (v178 : BitVec 32) (k0_hw14 : k0_chk14 v25_0 v25_1 k0_t12 k0_t17 v178), ∀ (k0_h12 : k0_cond12 v178 = 1#1), (Rect.unit (s := S2x32x16x512) (k0_off140 v25_0 v25_1 k0_t12 k0_t17) S1x1x16x512.size (k0_off140_inb v25_0 v25_1 k0_t12 k0_t17 v178 k0_hw14 k0_h12)).WholeWords (EltTy.packing .bf16) := fun v25_0 v25_1 k0_t12 k0_t17 v178 k0_hw14 k0_h12 => k0_hw14.2.2.2.1 k0_h12 (k0_off140_inb v25_0 v25_1 k0_t12 k0_t17 v178 k0_hw14 k0_h12)
theorem k0_off139_wordsbf16 : ∀ (v25_0 : BitVec 32) (v25_1 : BitVec 32) (k0_t12 : Fin (k0_t12_loop v25_0 v25_1).trips) (k0_t17 : Fin k0_t17_loop.trips) (v178 : BitVec 32) (k0_hw14 : k0_chk14 v25_0 v25_1 k0_t12 k0_t17 v178), ∀ (k0_h12 : k0_cond12 v178 = 1#1), (Rect.unit (s := S2600x16x512) (k0_off139 v178) S1x16x512.size (k0_off139_inb v25_0 v25_1 k0_t12 k0_t17 v178 k0_hw14 k0_h12)).WholeWords (EltTy.packing .bf16) := fun v25_0 v25_1 k0_t12 k0_t17 v178 k0_hw14 k0_h12 => k0_hw14.2.2.2.2.1 k0_h12 (k0_off139_inb v25_0 v25_1 k0_t12 k0_t17 v178 k0_hw14 k0_h12)
theorem k0_off141_inb : ∀ (v25_0 : BitVec 32) (v25_1 : BitVec 32) (k0_t12 : Fin (k0_t12_loop v25_0 v25_1).trips) (k0_t17 : Fin k0_t17_loop.trips) (v178 : BitVec 32) (k0_hw14 : k0_chk14 v25_0 v25_1 k0_t12 k0_t17 v178), ∀ (k0_h13 : k0_cond13 v178 = 1#1), ∀ a, (k0_off141 v25_0 v25_1 k0_t12) a + S1.size a ≤ S2.size a := fun v25_0 v25_1 k0_t12 k0_t17 v178 k0_hw14 k0_h13 => k0_hw14.2.2.2.2.2.1 k0_h13
theorem k0_off142_inb : ∀ (v25_0 : BitVec 32) (v25_1 : BitVec 32) (k0_t12 : Fin (k0_t12_loop v25_0 v25_1).trips) (k0_t17 : Fin k0_t17_loop.trips) (v178 : BitVec 32) (k0_hw14 : k0_chk14 v25_0 v25_1 k0_t12 k0_t17 v178), ∀ (k0_h13 : k0_cond13 v178 = 1#1), ∀ a, (k0_off142 v178) a + S1x16x512.size a ≤ S2600x16x512.size a := fun v25_0 v25_1 k0_t12 k0_t17 v178 k0_hw14 k0_h13 => k0_hw14.2.2.2.2.2.2.1 k0_h13
theorem k0_off143_inb : ∀ (v25_0 : BitVec 32) (v25_1 : BitVec 32) (k0_t12 : Fin (k0_t12_loop v25_0 v25_1).trips) (k0_t17 : Fin k0_t17_loop.trips) (v178 : BitVec 32) (k0_hw14 : k0_chk14 v25_0 v25_1 k0_t12 k0_t17 v178), ∀ (k0_h13 : k0_cond13 v178 = 1#1), ∀ a, (k0_off143 v25_0 v25_1 k0_t12 k0_t17) a + S1x1x16x512.size a ≤ S2x32x16x512.size a := fun v25_0 v25_1 k0_t12 k0_t17 v178 k0_hw14 k0_h13 => k0_hw14.2.2.2.2.2.2.2.1 k0_h13
theorem k0_off143_wordsbf16 : ∀ (v25_0 : BitVec 32) (v25_1 : BitVec 32) (k0_t12 : Fin (k0_t12_loop v25_0 v25_1).trips) (k0_t17 : Fin k0_t17_loop.trips) (v178 : BitVec 32) (k0_hw14 : k0_chk14 v25_0 v25_1 k0_t12 k0_t17 v178), ∀ (k0_h13 : k0_cond13 v178 = 1#1), (Rect.unit (s := S2x32x16x512) (k0_off143 v25_0 v25_1 k0_t12 k0_t17) S1x1x16x512.size (k0_off143_inb v25_0 v25_1 k0_t12 k0_t17 v178 k0_hw14 k0_h13)).WholeWords (EltTy.packing .bf16) := fun v25_0 v25_1 k0_t12 k0_t17 v178 k0_hw14 k0_h13 => k0_hw14.2.2.2.2.2.2.2.2.1 k0_h13 (k0_off143_inb v25_0 v25_1 k0_t12 k0_t17 v178 k0_hw14 k0_h13)
theorem k0_off142_wordsbf16 : ∀ (v25_0 : BitVec 32) (v25_1 : BitVec 32) (k0_t12 : Fin (k0_t12_loop v25_0 v25_1).trips) (k0_t17 : Fin k0_t17_loop.trips) (v178 : BitVec 32) (k0_hw14 : k0_chk14 v25_0 v25_1 k0_t12 k0_t17 v178), ∀ (k0_h13 : k0_cond13 v178 = 1#1), (Rect.unit (s := S2600x16x512) (k0_off142 v178) S1x16x512.size (k0_off142_inb v25_0 v25_1 k0_t12 k0_t17 v178 k0_hw14 k0_h13)).WholeWords (EltTy.packing .bf16) := fun v25_0 v25_1 k0_t12 k0_t17 v178 k0_hw14 k0_h13 => k0_hw14.2.2.2.2.2.2.2.2.2 k0_h13 (k0_off142_inb v25_0 v25_1 k0_t12 k0_t17 v178 k0_hw14 k0_h13)

@[reducible] def k0_t18_loop : Scf.Loop 32 :=
  let c0_i32_103 : BitVec 32 := 0#32
  let c2_i32_104 : BitVec 32 := 2#32
  let v159 : BitVec 32 := Scalar.addi c0_i32_103 c2_i32_104
  let c1_i32_105 : BitVec 32 := 1#32
  ⟨c0_i32_103, v159, c1_i32_105⟩
@[reducible] def k0_t19_loop : Scf.Loop 32 :=
  let c0_i32_110 : BitVec 32 := 0#32
  let c16_i32_111 : BitVec 32 := 16#32
  let v167 : BitVec 32 := Scalar.addi c0_i32_110 c16_i32_111
  let c1_i32_112 : BitVec 32 := 1#32
  ⟨c0_i32_110, v167, c1_i32_112⟩
def k0_off144 (v25_0 : BitVec 32) (v25_1 : BitVec 32) (k0_t18 : Fin k0_t18_loop.trips) (k0_t19 : Fin k0_t19_loop.trips) : Fin 1 → Nat :=
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let c2_i32_107 : BitVec 32 := 2#32
  let c0_i32_103 : BitVec 32 := 0#32
  let c1_i32_105 : BitVec 32 := 1#32
  let arg21 : BitVec 32 := Scf.iv c0_i32_103 c1_i32_105 k0_t18
  let v160 : BitVec 32 := Scalar.subi c2_i32_107 arg21
  let v164 : BitVec 32 := Scalar.subi v52 v160
  let c16_i32_114 : BitVec 32 := 16#32
  let v168 : BitVec 32 := Scalar.muli v164 c16_i32_114
  let c0_i32_110 : BitVec 32 := 0#32
  let c1_i32_112 : BitVec 32 := 1#32
  let arg22 : BitVec 32 := Scf.iv c0_i32_110 c1_i32_112 k0_t19
  let v169 : BitVec 32 := Scalar.addi v168 arg22
  let v170 : Index := Scalar.indexCast v169
  ![v170.toNat]
def k0_cond14 (v25_0 : BitVec 32) (v25_1 : BitVec 32) (k0_t18 : Fin k0_t18_loop.trips) : BitVec 1 :=
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let c2_i32_107 : BitVec 32 := 2#32
  let c0_i32_103 : BitVec 32 := 0#32
  let c1_i32_105 : BitVec 32 := 1#32
  let arg21 : BitVec 32 := Scf.iv c0_i32_103 c1_i32_105 k0_t18
  let v160 : BitVec 32 := Scalar.subi c2_i32_107 arg21
  let v161 : BitVec 1 := Scalar.cmpi .sge v52 v160
  let v162 : BitVec 32 := Scalar.extui v161
  let c0_i32_108 : BitVec 32 := 0#32
  let v163 : BitVec 1 := Scalar.cmpi .ne v162 c0_i32_108
  v163

def k0_chk3_0 (v25_0 : BitVec 32) (v25_1 : BitVec 32) : Prop :=
  (∀ k0_t2 : Fin k0_t2_loop.trips, ∀ a, (k0_off4 v25_0 v25_1 k0_t2) a + S1.size a ≤ S2680.size a) ∧
  ((k0_t6_loop v25_0 v25_1).OK) ∧
  (∀ (k0_t6 : Fin (k0_t6_loop v25_0 v25_1).trips) (k0_t7 : Fin k0_t7_loop.trips), ∀ a, (k0_off34 v25_0 v25_1 k0_t6 k0_t7) a + S1.size a ≤ S2680.size a) ∧
  (∀ k0_t6 : Fin (k0_t6_loop v25_0 v25_1).trips, ∀ a, (k0_off35 v25_0 v25_1 k0_t6) a + S1.size a ≤ S4.size a) ∧
  (∀ (k0_t6 : Fin (k0_t6_loop v25_0 v25_1).trips) (k0_t7 : Fin k0_t7_loop.trips), ∀ a, (k0_off36 v25_0 v25_1 k0_t6 k0_t7) a + S1x1x656x128.size a ≤ S4x32x656x128.size a) ∧
  (∀ (k0_t6 : Fin (k0_t6_loop v25_0 v25_1).trips) (k0_t7 : Fin k0_t7_loop.trips), ∀ (hinb : ∀ a, (k0_off36 v25_0 v25_1 k0_t6 k0_t7) a + S1x1x656x128.size a ≤ S4x32x656x128.size a), (Rect.unit (s := S4x32x656x128) (k0_off36 v25_0 v25_1 k0_t6 k0_t7) S1x1x656x128.size hinb).WholeWords (EltTy.packing .i8)) ∧
  (∀ (k0_t6 : Fin (k0_t6_loop v25_0 v25_1).trips) (k0_t7 : Fin k0_t7_loop.trips), ∀ a, (k0_off38 v25_0 v25_1 k0_t6 k0_t7) a + S1x1x656x128.size a ≤ S4x32x656x128.size a) ∧
  (∀ (k0_t6 : Fin (k0_t6_loop v25_0 v25_1).trips) (k0_t7 : Fin k0_t7_loop.trips), ∀ (hinb : ∀ a, (k0_off38 v25_0 v25_1 k0_t6 k0_t7) a + S1x1x656x128.size a ≤ S4x32x656x128.size a), (Rect.unit (s := S4x32x656x128) (k0_off38 v25_0 v25_1 k0_t6 k0_t7) S1x1x656x128.size hinb).WholeWords (EltTy.packing .i8)) ∧
  (∀ (k0_t6 : Fin (k0_t6_loop v25_0 v25_1).trips) (k0_t7 : Fin k0_t7_loop.trips), ∀ a, (k0_off40 v25_0 v25_1 k0_t6 k0_t7) a + S1x1x16x512.size a ≤ S4x32x16x512.size a) ∧
  (∀ (k0_t6 : Fin (k0_t6_loop v25_0 v25_1).trips) (k0_t7 : Fin k0_t7_loop.trips), ∀ (hinb : ∀ a, (k0_off40 v25_0 v25_1 k0_t6 k0_t7) a + S1x1x16x512.size a ≤ S4x32x16x512.size a), (Rect.unit (s := S4x32x16x512) (k0_off40 v25_0 v25_1 k0_t6 k0_t7) S1x1x16x512.size hinb).WholeWords (EltTy.packing .bf16)) ∧
  (∀ (k0_t6 : Fin (k0_t6_loop v25_0 v25_1).trips) (k0_t7 : Fin k0_t7_loop.trips), ∀ a, (k0_off42 v25_0 v25_1 k0_t6 k0_t7) a + S1x1x16x512.size a ≤ S4x32x16x512.size a) ∧
  (∀ (k0_t6 : Fin (k0_t6_loop v25_0 v25_1).trips) (k0_t7 : Fin k0_t7_loop.trips), ∀ (hinb : ∀ a, (k0_off42 v25_0 v25_1 k0_t6 k0_t7) a + S1x1x16x512.size a ≤ S4x32x16x512.size a), (Rect.unit (s := S4x32x16x512) (k0_off42 v25_0 v25_1 k0_t6 k0_t7) S1x1x16x512.size hinb).WholeWords (EltTy.packing .bf16)) ∧
  (∀ k0_t6 : Fin (k0_t6_loop v25_0 v25_1).trips, ∀ (k0_h2 : k0_cond2 v25_0 v25_1 k0_t6 = 1#1), k0_t8_loop.OK) ∧
  (∀ (k0_t6 : Fin (k0_t6_loop v25_0 v25_1).trips) (k0_t8 : Fin k0_t8_loop.trips), ∀ (k0_h2 : k0_cond2 v25_0 v25_1 k0_t6 = 1#1), ∀ a, (k0_off44 v25_0 v25_1 k0_t6 k0_t8) a + S1.size a ≤ S2680.size a) ∧
  (∀ (k0_t6 : Fin (k0_t6_loop v25_0 v25_1).trips) (k0_t9 : Fin k0_t9_loop.trips), ∀ a, (k0_off51 v25_0 v25_1 k0_t6 k0_t9) a + S1.size a ≤ S2680.size a) ∧
  (∀ (k0_t6 : Fin (k0_t6_loop v25_0 v25_1).trips) (k0_t9 : Fin k0_t9_loop.trips), ∀ (r : Fin 2), ∀ a, (k0_off54 v25_0 v25_1 k0_t6 k0_t9 (BitVec.ofNat 32 r.val)) a + S1x1x656x128.size a ≤ S4x32x656x128.size a) ∧
  (∀ (k0_t6 : Fin (k0_t6_loop v25_0 v25_1).trips) (k0_t9 : Fin k0_t9_loop.trips), ∀ (r : Fin 2), ∀ a, (k0_off55 v25_0 v25_1 k0_t6 k0_t9 (BitVec.ofNat 32 r.val)) a + S1x1x16x512.size a ≤ S4x32x16x512.size a) ∧
  (∀ (k0_t6 : Fin (k0_t6_loop v25_0 v25_1).trips) (k0_t9 : Fin k0_t9_loop.trips), ∀ (r : Fin 2), ∀ a, (k0_off68 v25_0 v25_1 k0_t6 k0_t9 (BitVec.ofNat 32 r.val)) a + S1x1x16x128.size a ≤ S2x32x16x512.size a) ∧
  (∀ (k0_t6 : Fin (k0_t6_loop v25_0 v25_1).trips) (k0_t9 : Fin k0_t9_loop.trips), ∀ (r : Fin 2), ∀ (hinb : ∀ a, (k0_off68 v25_0 v25_1 k0_t6 k0_t9 (BitVec.ofNat 32 r.val)) a + S1x1x16x128.size a ≤ S2x32x16x512.size a), (Rect.unit (s := S2x32x16x512) (k0_off68 v25_0 v25_1 k0_t6 k0_t9 (BitVec.ofNat 32 r.val)) S1x1x16x128.size hinb).PackedRows (EltTy.packing .bf16)) ∧
  (∀ (k0_t6 : Fin (k0_t6_loop v25_0 v25_1).trips) (k0_t9 : Fin k0_t9_loop.trips), ∀ (r : Fin 2), ∀ a, (k0_off69 v25_0 v25_1 k0_t6 k0_t9 (BitVec.ofNat 32 r.val)) a + S1x1x16x128.size a ≤ S2x32x16x512.size a) ∧
  (∀ (k0_t6 : Fin (k0_t6_loop v25_0 v25_1).trips) (k0_t9 : Fin k0_t9_loop.trips), ∀ (r : Fin 2), ∀ (hinb : ∀ a, (k0_off69 v25_0 v25_1 k0_t6 k0_t9 (BitVec.ofNat 32 r.val)) a + S1x1x16x128.size a ≤ S2x32x16x512.size a), (Rect.unit (s := S2x32x16x512) (k0_off69 v25_0 v25_1 k0_t6 k0_t9 (BitVec.ofNat 32 r.val)) S1x1x16x128.size hinb).PackedRows (EltTy.packing .bf16)) ∧
  (∀ (k0_t6 : Fin (k0_t6_loop v25_0 v25_1).trips) (k0_t9 : Fin k0_t9_loop.trips), ∀ (r : Fin 2), ∀ a, (k0_off70 v25_0 v25_1 k0_t6 k0_t9 (BitVec.ofNat 32 r.val)) a + S1x1x16x128.size a ≤ S2x32x16x512.size a) ∧
  (∀ (k0_t6 : Fin (k0_t6_loop v25_0 v25_1).trips) (k0_t9 : Fin k0_t9_loop.trips), ∀ (r : Fin 2), ∀ (hinb : ∀ a, (k0_off70 v25_0 v25_1 k0_t6 k0_t9 (BitVec.ofNat 32 r.val)) a + S1x1x16x128.size a ≤ S2x32x16x512.size a), (Rect.unit (s := S2x32x16x512) (k0_off70 v25_0 v25_1 k0_t6 k0_t9 (BitVec.ofNat 32 r.val)) S1x1x16x128.size hinb).PackedRows (EltTy.packing .bf16)) ∧
  (∀ (k0_t6 : Fin (k0_t6_loop v25_0 v25_1).trips) (k0_t9 : Fin k0_t9_loop.trips), ∀ (r : Fin 2), ∀ a, (k0_off71 v25_0 v25_1 k0_t6 k0_t9 (BitVec.ofNat 32 r.val)) a + S1x1x16x128.size a ≤ S2x32x16x512.size a) ∧
  (∀ (k0_t6 : Fin (k0_t6_loop v25_0 v25_1).trips) (k0_t9 : Fin k0_t9_loop.trips), ∀ (r : Fin 2), ∀ (hinb : ∀ a, (k0_off71 v25_0 v25_1 k0_t6 k0_t9 (BitVec.ofNat 32 r.val)) a + S1x1x16x128.size a ≤ S2x32x16x512.size a), (Rect.unit (s := S2x32x16x512) (k0_off71 v25_0 v25_1 k0_t6 k0_t9 (BitVec.ofNat 32 r.val)) S1x1x16x128.size hinb).PackedRows (EltTy.packing .bf16)) ∧
  (∀ (k0_t6 : Fin (k0_t6_loop v25_0 v25_1).trips) (k0_t10 : Fin k0_t10_loop.trips), ∀ (k0_h5 : k0_cond5 v25_0 v25_1 k0_t6 = 1#1), ∀ a, (k0_off72 v25_0 v25_1 k0_t6 k0_t10) a + S1.size a ≤ S2680.size a) ∧
  (∀ k0_t6 : Fin (k0_t6_loop v25_0 v25_1).trips, ∀ (k0_h5 : k0_cond5 v25_0 v25_1 k0_t6 = 1#1), ∀ a, (k0_off73 v25_0 v25_1 k0_t6) a + S1.size a ≤ S4.size a) ∧
  (∀ (k0_t6 : Fin (k0_t6_loop v25_0 v25_1).trips) (k0_t10 : Fin k0_t10_loop.trips), ∀ (k0_h5 : k0_cond5 v25_0 v25_1 k0_t6 = 1#1), ∀ a, (k0_off74 v25_0 v25_1 k0_t6 k0_t10) a + S1x1x656x128.size a ≤ S4x32x656x128.size a) ∧
  (∀ (k0_t6 : Fin (k0_t6_loop v25_0 v25_1).trips) (k0_t10 : Fin k0_t10_loop.trips), ∀ (k0_h5 : k0_cond5 v25_0 v25_1 k0_t6 = 1#1), ∀ (hinb : ∀ a, (k0_off74 v25_0 v25_1 k0_t6 k0_t10) a + S1x1x656x128.size a ≤ S4x32x656x128.size a), (Rect.unit (s := S4x32x656x128) (k0_off74 v25_0 v25_1 k0_t6 k0_t10) S1x1x656x128.size hinb).WholeWords (EltTy.packing .i8)) ∧
  (∀ (k0_t6 : Fin (k0_t6_loop v25_0 v25_1).trips) (k0_t10 : Fin k0_t10_loop.trips), ∀ (k0_h5 : k0_cond5 v25_0 v25_1 k0_t6 = 1#1), ∀ a, (k0_off76 v25_0 v25_1 k0_t6 k0_t10) a + S1x1x656x128.size a ≤ S4x32x656x128.size a) ∧
  (∀ (k0_t6 : Fin (k0_t6_loop v25_0 v25_1).trips) (k0_t10 : Fin k0_t10_loop.trips), ∀ (k0_h5 : k0_cond5 v25_0 v25_1 k0_t6 = 1#1), ∀ (hinb : ∀ a, (k0_off76 v25_0 v25_1 k0_t6 k0_t10) a + S1x1x656x128.size a ≤ S4x32x656x128.size a), (Rect.unit (s := S4x32x656x128) (k0_off76 v25_0 v25_1 k0_t6 k0_t10) S1x1x656x128.size hinb).WholeWords (EltTy.packing .i8)) ∧
  (∀ (k0_t6 : Fin (k0_t6_loop v25_0 v25_1).trips) (k0_t10 : Fin k0_t10_loop.trips), ∀ (k0_h5 : k0_cond5 v25_0 v25_1 k0_t6 = 1#1), ∀ a, (k0_off78 v25_0 v25_1 k0_t6 k0_t10) a + S1x1x16x512.size a ≤ S4x32x16x512.size a)
def k0_chk3_1 (v25_0 : BitVec 32) (v25_1 : BitVec 32) : Prop :=
  (∀ (k0_t6 : Fin (k0_t6_loop v25_0 v25_1).trips) (k0_t10 : Fin k0_t10_loop.trips), ∀ (k0_h5 : k0_cond5 v25_0 v25_1 k0_t6 = 1#1), ∀ (hinb : ∀ a, (k0_off78 v25_0 v25_1 k0_t6 k0_t10) a + S1x1x16x512.size a ≤ S4x32x16x512.size a), (Rect.unit (s := S4x32x16x512) (k0_off78 v25_0 v25_1 k0_t6 k0_t10) S1x1x16x512.size hinb).WholeWords (EltTy.packing .bf16)) ∧
  (∀ (k0_t6 : Fin (k0_t6_loop v25_0 v25_1).trips) (k0_t10 : Fin k0_t10_loop.trips), ∀ (k0_h5 : k0_cond5 v25_0 v25_1 k0_t6 = 1#1), ∀ a, (k0_off80 v25_0 v25_1 k0_t6 k0_t10) a + S1x1x16x512.size a ≤ S4x32x16x512.size a) ∧
  (∀ (k0_t6 : Fin (k0_t6_loop v25_0 v25_1).trips) (k0_t10 : Fin k0_t10_loop.trips), ∀ (k0_h5 : k0_cond5 v25_0 v25_1 k0_t6 = 1#1), ∀ (hinb : ∀ a, (k0_off80 v25_0 v25_1 k0_t6 k0_t10) a + S1x1x16x512.size a ≤ S4x32x16x512.size a), (Rect.unit (s := S4x32x16x512) (k0_off80 v25_0 v25_1 k0_t6 k0_t10) S1x1x16x512.size hinb).WholeWords (EltTy.packing .bf16)) ∧
  (∀ (k0_t6 : Fin (k0_t6_loop v25_0 v25_1).trips) (k0_t11 : Fin k0_t11_loop.trips), ∀ a, (k0_off82 v25_0 v25_1 k0_t6 k0_t11) a + S1.size a ≤ S2680.size a) ∧
  ((k0_t12_loop v25_0 v25_1).OK) ∧
  (∀ (k0_t12 : Fin (k0_t12_loop v25_0 v25_1).trips) (k0_t13 : Fin k0_t13_loop.trips), ∀ a, (k0_off89 v25_0 v25_1 k0_t12 k0_t13) a + S1.size a ≤ S2680.size a) ∧
  (∀ k0_t12 : Fin (k0_t12_loop v25_0 v25_1).trips, ∀ a, (k0_off90 v25_0 v25_1 k0_t12) a + S1.size a ≤ S4.size a) ∧
  (∀ (k0_t12 : Fin (k0_t12_loop v25_0 v25_1).trips) (k0_t13 : Fin k0_t13_loop.trips), ∀ a, (k0_off91 v25_0 v25_1 k0_t12 k0_t13) a + S1x1x656x128.size a ≤ S4x32x656x128.size a) ∧
  (∀ (k0_t12 : Fin (k0_t12_loop v25_0 v25_1).trips) (k0_t13 : Fin k0_t13_loop.trips), ∀ (hinb : ∀ a, (k0_off91 v25_0 v25_1 k0_t12 k0_t13) a + S1x1x656x128.size a ≤ S4x32x656x128.size a), (Rect.unit (s := S4x32x656x128) (k0_off91 v25_0 v25_1 k0_t12 k0_t13) S1x1x656x128.size hinb).WholeWords (EltTy.packing .i8)) ∧
  (∀ (k0_t12 : Fin (k0_t12_loop v25_0 v25_1).trips) (k0_t13 : Fin k0_t13_loop.trips), ∀ a, (k0_off93 v25_0 v25_1 k0_t12 k0_t13) a + S1x1x656x128.size a ≤ S4x32x656x128.size a) ∧
  (∀ (k0_t12 : Fin (k0_t12_loop v25_0 v25_1).trips) (k0_t13 : Fin k0_t13_loop.trips), ∀ (hinb : ∀ a, (k0_off93 v25_0 v25_1 k0_t12 k0_t13) a + S1x1x656x128.size a ≤ S4x32x656x128.size a), (Rect.unit (s := S4x32x656x128) (k0_off93 v25_0 v25_1 k0_t12 k0_t13) S1x1x656x128.size hinb).WholeWords (EltTy.packing .i8)) ∧
  (∀ (k0_t12 : Fin (k0_t12_loop v25_0 v25_1).trips) (k0_t13 : Fin k0_t13_loop.trips), ∀ a, (k0_off95 v25_0 v25_1 k0_t12 k0_t13) a + S1x1x16x512.size a ≤ S4x32x16x512.size a) ∧
  (∀ (k0_t12 : Fin (k0_t12_loop v25_0 v25_1).trips) (k0_t13 : Fin k0_t13_loop.trips), ∀ (hinb : ∀ a, (k0_off95 v25_0 v25_1 k0_t12 k0_t13) a + S1x1x16x512.size a ≤ S4x32x16x512.size a), (Rect.unit (s := S4x32x16x512) (k0_off95 v25_0 v25_1 k0_t12 k0_t13) S1x1x16x512.size hinb).WholeWords (EltTy.packing .bf16)) ∧
  (∀ (k0_t12 : Fin (k0_t12_loop v25_0 v25_1).trips) (k0_t13 : Fin k0_t13_loop.trips), ∀ a, (k0_off97 v25_0 v25_1 k0_t12 k0_t13) a + S1x1x16x512.size a ≤ S4x32x16x512.size a) ∧
  (∀ (k0_t12 : Fin (k0_t12_loop v25_0 v25_1).trips) (k0_t13 : Fin k0_t13_loop.trips), ∀ (hinb : ∀ a, (k0_off97 v25_0 v25_1 k0_t12 k0_t13) a + S1x1x16x512.size a ≤ S4x32x16x512.size a), (Rect.unit (s := S4x32x16x512) (k0_off97 v25_0 v25_1 k0_t12 k0_t13) S1x1x16x512.size hinb).WholeWords (EltTy.packing .bf16)) ∧
  (∀ (k0_t12 : Fin (k0_t12_loop v25_0 v25_1).trips) (k0_t14 : Fin k0_t14_loop.trips), ∀ (k0_h8 : k0_cond8 v25_0 v25_1 k0_t12 = 1#1), ∀ a, (k0_off99 v25_0 v25_1 k0_t12 k0_t14) a + S1.size a ≤ S2680.size a) ∧
  (∀ (k0_t12 : Fin (k0_t12_loop v25_0 v25_1).trips) (k0_t15 : Fin k0_t15_loop.trips), ∀ a, (k0_off106 v25_0 v25_1 k0_t12 k0_t15) a + S1.size a ≤ S2680.size a) ∧
  (∀ (k0_t12 : Fin (k0_t12_loop v25_0 v25_1).trips) (k0_t15 : Fin k0_t15_loop.trips), ∀ (r : Fin 2), ∀ a, (k0_off109 v25_0 v25_1 k0_t12 k0_t15 (BitVec.ofNat 32 r.val)) a + S1x1x656x128.size a ≤ S4x32x656x128.size a) ∧
  (∀ (k0_t12 : Fin (k0_t12_loop v25_0 v25_1).trips) (k0_t15 : Fin k0_t15_loop.trips), ∀ (r : Fin 2), ∀ a, (k0_off110 v25_0 v25_1 k0_t12 k0_t15 (BitVec.ofNat 32 r.val)) a + S1x1x16x512.size a ≤ S4x32x16x512.size a) ∧
  (∀ (k0_t12 : Fin (k0_t12_loop v25_0 v25_1).trips) (k0_t15 : Fin k0_t15_loop.trips), ∀ (r : Fin 2), ∀ a, (k0_off123 v25_0 v25_1 k0_t12 k0_t15 (BitVec.ofNat 32 r.val)) a + S1x1x16x128.size a ≤ S2x32x16x512.size a) ∧
  (∀ (k0_t12 : Fin (k0_t12_loop v25_0 v25_1).trips) (k0_t15 : Fin k0_t15_loop.trips), ∀ (r : Fin 2), ∀ (hinb : ∀ a, (k0_off123 v25_0 v25_1 k0_t12 k0_t15 (BitVec.ofNat 32 r.val)) a + S1x1x16x128.size a ≤ S2x32x16x512.size a), (Rect.unit (s := S2x32x16x512) (k0_off123 v25_0 v25_1 k0_t12 k0_t15 (BitVec.ofNat 32 r.val)) S1x1x16x128.size hinb).PackedRows (EltTy.packing .bf16)) ∧
  (∀ (k0_t12 : Fin (k0_t12_loop v25_0 v25_1).trips) (k0_t15 : Fin k0_t15_loop.trips), ∀ (r : Fin 2), ∀ a, (k0_off124 v25_0 v25_1 k0_t12 k0_t15 (BitVec.ofNat 32 r.val)) a + S1x1x16x128.size a ≤ S2x32x16x512.size a) ∧
  (∀ (k0_t12 : Fin (k0_t12_loop v25_0 v25_1).trips) (k0_t15 : Fin k0_t15_loop.trips), ∀ (r : Fin 2), ∀ (hinb : ∀ a, (k0_off124 v25_0 v25_1 k0_t12 k0_t15 (BitVec.ofNat 32 r.val)) a + S1x1x16x128.size a ≤ S2x32x16x512.size a), (Rect.unit (s := S2x32x16x512) (k0_off124 v25_0 v25_1 k0_t12 k0_t15 (BitVec.ofNat 32 r.val)) S1x1x16x128.size hinb).PackedRows (EltTy.packing .bf16)) ∧
  (∀ (k0_t12 : Fin (k0_t12_loop v25_0 v25_1).trips) (k0_t15 : Fin k0_t15_loop.trips), ∀ (r : Fin 2), ∀ a, (k0_off125 v25_0 v25_1 k0_t12 k0_t15 (BitVec.ofNat 32 r.val)) a + S1x1x16x128.size a ≤ S2x32x16x512.size a) ∧
  (∀ (k0_t12 : Fin (k0_t12_loop v25_0 v25_1).trips) (k0_t15 : Fin k0_t15_loop.trips), ∀ (r : Fin 2), ∀ (hinb : ∀ a, (k0_off125 v25_0 v25_1 k0_t12 k0_t15 (BitVec.ofNat 32 r.val)) a + S1x1x16x128.size a ≤ S2x32x16x512.size a), (Rect.unit (s := S2x32x16x512) (k0_off125 v25_0 v25_1 k0_t12 k0_t15 (BitVec.ofNat 32 r.val)) S1x1x16x128.size hinb).PackedRows (EltTy.packing .bf16)) ∧
  (∀ (k0_t12 : Fin (k0_t12_loop v25_0 v25_1).trips) (k0_t15 : Fin k0_t15_loop.trips), ∀ (r : Fin 2), ∀ a, (k0_off126 v25_0 v25_1 k0_t12 k0_t15 (BitVec.ofNat 32 r.val)) a + S1x1x16x128.size a ≤ S2x32x16x512.size a) ∧
  (∀ (k0_t12 : Fin (k0_t12_loop v25_0 v25_1).trips) (k0_t15 : Fin k0_t15_loop.trips), ∀ (r : Fin 2), ∀ (hinb : ∀ a, (k0_off126 v25_0 v25_1 k0_t12 k0_t15 (BitVec.ofNat 32 r.val)) a + S1x1x16x128.size a ≤ S2x32x16x512.size a), (Rect.unit (s := S2x32x16x512) (k0_off126 v25_0 v25_1 k0_t12 k0_t15 (BitVec.ofNat 32 r.val)) S1x1x16x128.size hinb).PackedRows (EltTy.packing .bf16)) ∧
  (∀ (k0_t12 : Fin (k0_t12_loop v25_0 v25_1).trips) (k0_t16 : Fin k0_t16_loop.trips), ∀ (k0_h11 : k0_cond11 v25_0 v25_1 k0_t12 = 1#1), ∀ a, (k0_off127 v25_0 v25_1 k0_t12 k0_t16) a + S1.size a ≤ S2680.size a) ∧
  (∀ k0_t12 : Fin (k0_t12_loop v25_0 v25_1).trips, ∀ (k0_h11 : k0_cond11 v25_0 v25_1 k0_t12 = 1#1), ∀ a, (k0_off128 v25_0 v25_1 k0_t12) a + S1.size a ≤ S4.size a) ∧
  (∀ (k0_t12 : Fin (k0_t12_loop v25_0 v25_1).trips) (k0_t16 : Fin k0_t16_loop.trips), ∀ (k0_h11 : k0_cond11 v25_0 v25_1 k0_t12 = 1#1), ∀ a, (k0_off129 v25_0 v25_1 k0_t12 k0_t16) a + S1x1x656x128.size a ≤ S4x32x656x128.size a) ∧
  (∀ (k0_t12 : Fin (k0_t12_loop v25_0 v25_1).trips) (k0_t16 : Fin k0_t16_loop.trips), ∀ (k0_h11 : k0_cond11 v25_0 v25_1 k0_t12 = 1#1), ∀ (hinb : ∀ a, (k0_off129 v25_0 v25_1 k0_t12 k0_t16) a + S1x1x656x128.size a ≤ S4x32x656x128.size a), (Rect.unit (s := S4x32x656x128) (k0_off129 v25_0 v25_1 k0_t12 k0_t16) S1x1x656x128.size hinb).WholeWords (EltTy.packing .i8)) ∧
  (∀ (k0_t12 : Fin (k0_t12_loop v25_0 v25_1).trips) (k0_t16 : Fin k0_t16_loop.trips), ∀ (k0_h11 : k0_cond11 v25_0 v25_1 k0_t12 = 1#1), ∀ a, (k0_off131 v25_0 v25_1 k0_t12 k0_t16) a + S1x1x656x128.size a ≤ S4x32x656x128.size a)
def k0_chk3_2 (v25_0 : BitVec 32) (v25_1 : BitVec 32) : Prop :=
  (∀ (k0_t12 : Fin (k0_t12_loop v25_0 v25_1).trips) (k0_t16 : Fin k0_t16_loop.trips), ∀ (k0_h11 : k0_cond11 v25_0 v25_1 k0_t12 = 1#1), ∀ (hinb : ∀ a, (k0_off131 v25_0 v25_1 k0_t12 k0_t16) a + S1x1x656x128.size a ≤ S4x32x656x128.size a), (Rect.unit (s := S4x32x656x128) (k0_off131 v25_0 v25_1 k0_t12 k0_t16) S1x1x656x128.size hinb).WholeWords (EltTy.packing .i8)) ∧
  (∀ (k0_t12 : Fin (k0_t12_loop v25_0 v25_1).trips) (k0_t16 : Fin k0_t16_loop.trips), ∀ (k0_h11 : k0_cond11 v25_0 v25_1 k0_t12 = 1#1), ∀ a, (k0_off133 v25_0 v25_1 k0_t12 k0_t16) a + S1x1x16x512.size a ≤ S4x32x16x512.size a) ∧
  (∀ (k0_t12 : Fin (k0_t12_loop v25_0 v25_1).trips) (k0_t16 : Fin k0_t16_loop.trips), ∀ (k0_h11 : k0_cond11 v25_0 v25_1 k0_t12 = 1#1), ∀ (hinb : ∀ a, (k0_off133 v25_0 v25_1 k0_t12 k0_t16) a + S1x1x16x512.size a ≤ S4x32x16x512.size a), (Rect.unit (s := S4x32x16x512) (k0_off133 v25_0 v25_1 k0_t12 k0_t16) S1x1x16x512.size hinb).WholeWords (EltTy.packing .bf16)) ∧
  (∀ (k0_t12 : Fin (k0_t12_loop v25_0 v25_1).trips) (k0_t16 : Fin k0_t16_loop.trips), ∀ (k0_h11 : k0_cond11 v25_0 v25_1 k0_t12 = 1#1), ∀ a, (k0_off135 v25_0 v25_1 k0_t12 k0_t16) a + S1x1x16x512.size a ≤ S4x32x16x512.size a) ∧
  (∀ (k0_t12 : Fin (k0_t12_loop v25_0 v25_1).trips) (k0_t16 : Fin k0_t16_loop.trips), ∀ (k0_h11 : k0_cond11 v25_0 v25_1 k0_t12 = 1#1), ∀ (hinb : ∀ a, (k0_off135 v25_0 v25_1 k0_t12 k0_t16) a + S1x1x16x512.size a ≤ S4x32x16x512.size a), (Rect.unit (s := S4x32x16x512) (k0_off135 v25_0 v25_1 k0_t12 k0_t16) S1x1x16x512.size hinb).WholeWords (EltTy.packing .bf16)) ∧
  (∀ (k0_t12 : Fin (k0_t12_loop v25_0 v25_1).trips) (k0_t17 : Fin k0_t17_loop.trips), ∀ a, (k0_off137 v25_0 v25_1 k0_t12 k0_t17) a + S1.size a ≤ S2680.size a) ∧
  (∀ (k0_t18 : Fin k0_t18_loop.trips) (k0_t19 : Fin k0_t19_loop.trips), ∀ (k0_h14 : k0_cond14 v25_0 v25_1 k0_t18 = 1#1), ∀ a, (k0_off144 v25_0 v25_1 k0_t18 k0_t19) a + S1.size a ≤ S2680.size a)
def k0_chk3 (v25_0 : BitVec 32) (v25_1 : BitVec 32) : Prop :=
  k0_chk3_0 v25_0 v25_1 ∧
  k0_chk3_1 v25_0 v25_1 ∧
  k0_chk3_2 v25_0 v25_1
theorem k0_off4_inb : ∀ (v25_0 : BitVec 32) (v25_1 : BitVec 32) (k0_hw3 : k0_chk3 v25_0 v25_1) (k0_t2 : Fin k0_t2_loop.trips), ∀ a, (k0_off4 v25_0 v25_1 k0_t2) a + S1.size a ≤ S2680.size a := fun v25_0 v25_1 k0_hw3 k0_t2 => k0_hw3.1.1 k0_t2
theorem k0_t6_ok : ∀ (v25_0 : BitVec 32) (v25_1 : BitVec 32) (k0_hw3 : k0_chk3 v25_0 v25_1), (k0_t6_loop v25_0 v25_1).OK := fun v25_0 v25_1 k0_hw3 => k0_hw3.1.2.1
theorem k0_off34_inb : ∀ (v25_0 : BitVec 32) (v25_1 : BitVec 32) (k0_hw3 : k0_chk3 v25_0 v25_1) (k0_t6 : Fin (k0_t6_loop v25_0 v25_1).trips) (k0_t7 : Fin k0_t7_loop.trips), ∀ a, (k0_off34 v25_0 v25_1 k0_t6 k0_t7) a + S1.size a ≤ S2680.size a := fun v25_0 v25_1 k0_hw3 k0_t6 k0_t7 => k0_hw3.1.2.2.1 k0_t6 k0_t7
theorem k0_off35_inb : ∀ (v25_0 : BitVec 32) (v25_1 : BitVec 32) (k0_hw3 : k0_chk3 v25_0 v25_1) (k0_t6 : Fin (k0_t6_loop v25_0 v25_1).trips), ∀ a, (k0_off35 v25_0 v25_1 k0_t6) a + S1.size a ≤ S4.size a := fun v25_0 v25_1 k0_hw3 k0_t6 => k0_hw3.1.2.2.2.1 k0_t6
theorem k0_off36_inb : ∀ (v25_0 : BitVec 32) (v25_1 : BitVec 32) (k0_hw3 : k0_chk3 v25_0 v25_1) (k0_t6 : Fin (k0_t6_loop v25_0 v25_1).trips) (k0_t7 : Fin k0_t7_loop.trips), ∀ a, (k0_off36 v25_0 v25_1 k0_t6 k0_t7) a + S1x1x656x128.size a ≤ S4x32x656x128.size a := fun v25_0 v25_1 k0_hw3 k0_t6 k0_t7 => k0_hw3.1.2.2.2.2.1 k0_t6 k0_t7
theorem k0_off36_wordsi8 : ∀ (v25_0 : BitVec 32) (v25_1 : BitVec 32) (k0_hw3 : k0_chk3 v25_0 v25_1) (k0_t6 : Fin (k0_t6_loop v25_0 v25_1).trips) (k0_t7 : Fin k0_t7_loop.trips), (Rect.unit (s := S4x32x656x128) (k0_off36 v25_0 v25_1 k0_t6 k0_t7) S1x1x656x128.size (k0_off36_inb v25_0 v25_1 k0_hw3 k0_t6 k0_t7)).WholeWords (EltTy.packing .i8) := fun v25_0 v25_1 k0_hw3 k0_t6 k0_t7 => k0_hw3.1.2.2.2.2.2.1 k0_t6 k0_t7 (k0_off36_inb v25_0 v25_1 k0_hw3 k0_t6 k0_t7)
theorem k0_off38_inb : ∀ (v25_0 : BitVec 32) (v25_1 : BitVec 32) (k0_hw3 : k0_chk3 v25_0 v25_1) (k0_t6 : Fin (k0_t6_loop v25_0 v25_1).trips) (k0_t7 : Fin k0_t7_loop.trips), ∀ a, (k0_off38 v25_0 v25_1 k0_t6 k0_t7) a + S1x1x656x128.size a ≤ S4x32x656x128.size a := fun v25_0 v25_1 k0_hw3 k0_t6 k0_t7 => k0_hw3.1.2.2.2.2.2.2.1 k0_t6 k0_t7
theorem k0_off38_wordsi8 : ∀ (v25_0 : BitVec 32) (v25_1 : BitVec 32) (k0_hw3 : k0_chk3 v25_0 v25_1) (k0_t6 : Fin (k0_t6_loop v25_0 v25_1).trips) (k0_t7 : Fin k0_t7_loop.trips), (Rect.unit (s := S4x32x656x128) (k0_off38 v25_0 v25_1 k0_t6 k0_t7) S1x1x656x128.size (k0_off38_inb v25_0 v25_1 k0_hw3 k0_t6 k0_t7)).WholeWords (EltTy.packing .i8) := fun v25_0 v25_1 k0_hw3 k0_t6 k0_t7 => k0_hw3.1.2.2.2.2.2.2.2.1 k0_t6 k0_t7 (k0_off38_inb v25_0 v25_1 k0_hw3 k0_t6 k0_t7)
theorem k0_off40_inb : ∀ (v25_0 : BitVec 32) (v25_1 : BitVec 32) (k0_hw3 : k0_chk3 v25_0 v25_1) (k0_t6 : Fin (k0_t6_loop v25_0 v25_1).trips) (k0_t7 : Fin k0_t7_loop.trips), ∀ a, (k0_off40 v25_0 v25_1 k0_t6 k0_t7) a + S1x1x16x512.size a ≤ S4x32x16x512.size a := fun v25_0 v25_1 k0_hw3 k0_t6 k0_t7 => k0_hw3.1.2.2.2.2.2.2.2.2.1 k0_t6 k0_t7
theorem k0_off40_wordsbf16 : ∀ (v25_0 : BitVec 32) (v25_1 : BitVec 32) (k0_hw3 : k0_chk3 v25_0 v25_1) (k0_t6 : Fin (k0_t6_loop v25_0 v25_1).trips) (k0_t7 : Fin k0_t7_loop.trips), (Rect.unit (s := S4x32x16x512) (k0_off40 v25_0 v25_1 k0_t6 k0_t7) S1x1x16x512.size (k0_off40_inb v25_0 v25_1 k0_hw3 k0_t6 k0_t7)).WholeWords (EltTy.packing .bf16) := fun v25_0 v25_1 k0_hw3 k0_t6 k0_t7 => k0_hw3.1.2.2.2.2.2.2.2.2.2.1 k0_t6 k0_t7 (k0_off40_inb v25_0 v25_1 k0_hw3 k0_t6 k0_t7)
theorem k0_off42_inb : ∀ (v25_0 : BitVec 32) (v25_1 : BitVec 32) (k0_hw3 : k0_chk3 v25_0 v25_1) (k0_t6 : Fin (k0_t6_loop v25_0 v25_1).trips) (k0_t7 : Fin k0_t7_loop.trips), ∀ a, (k0_off42 v25_0 v25_1 k0_t6 k0_t7) a + S1x1x16x512.size a ≤ S4x32x16x512.size a := fun v25_0 v25_1 k0_hw3 k0_t6 k0_t7 => k0_hw3.1.2.2.2.2.2.2.2.2.2.2.1 k0_t6 k0_t7
theorem k0_off42_wordsbf16 : ∀ (v25_0 : BitVec 32) (v25_1 : BitVec 32) (k0_hw3 : k0_chk3 v25_0 v25_1) (k0_t6 : Fin (k0_t6_loop v25_0 v25_1).trips) (k0_t7 : Fin k0_t7_loop.trips), (Rect.unit (s := S4x32x16x512) (k0_off42 v25_0 v25_1 k0_t6 k0_t7) S1x1x16x512.size (k0_off42_inb v25_0 v25_1 k0_hw3 k0_t6 k0_t7)).WholeWords (EltTy.packing .bf16) := fun v25_0 v25_1 k0_hw3 k0_t6 k0_t7 => k0_hw3.1.2.2.2.2.2.2.2.2.2.2.2.1 k0_t6 k0_t7 (k0_off42_inb v25_0 v25_1 k0_hw3 k0_t6 k0_t7)
theorem k0_t8_ok : ∀ (v25_0 : BitVec 32) (v25_1 : BitVec 32) (k0_hw3 : k0_chk3 v25_0 v25_1) (k0_t6 : Fin (k0_t6_loop v25_0 v25_1).trips), ∀ (k0_h2 : k0_cond2 v25_0 v25_1 k0_t6 = 1#1), k0_t8_loop.OK := fun v25_0 v25_1 k0_hw3 k0_t6 k0_h2 => k0_hw3.1.2.2.2.2.2.2.2.2.2.2.2.2.1 k0_t6 k0_h2
theorem k0_off44_inb : ∀ (v25_0 : BitVec 32) (v25_1 : BitVec 32) (k0_hw3 : k0_chk3 v25_0 v25_1) (k0_t6 : Fin (k0_t6_loop v25_0 v25_1).trips) (k0_t8 : Fin k0_t8_loop.trips), ∀ (k0_h2 : k0_cond2 v25_0 v25_1 k0_t6 = 1#1), ∀ a, (k0_off44 v25_0 v25_1 k0_t6 k0_t8) a + S1.size a ≤ S2680.size a := fun v25_0 v25_1 k0_hw3 k0_t6 k0_t8 k0_h2 => k0_hw3.1.2.2.2.2.2.2.2.2.2.2.2.2.2.1 k0_t6 k0_t8 k0_h2
theorem k0_off51_inb : ∀ (v25_0 : BitVec 32) (v25_1 : BitVec 32) (k0_hw3 : k0_chk3 v25_0 v25_1) (k0_t6 : Fin (k0_t6_loop v25_0 v25_1).trips) (k0_t9 : Fin k0_t9_loop.trips), ∀ a, (k0_off51 v25_0 v25_1 k0_t6 k0_t9) a + S1.size a ≤ S2680.size a := fun v25_0 v25_1 k0_hw3 k0_t6 k0_t9 => k0_hw3.1.2.2.2.2.2.2.2.2.2.2.2.2.2.2.1 k0_t6 k0_t9
theorem k0_off54_inb : ∀ (v25_0 : BitVec 32) (v25_1 : BitVec 32) (k0_hw3 : k0_chk3 v25_0 v25_1) (k0_t6 : Fin (k0_t6_loop v25_0 v25_1).trips) (k0_t9 : Fin k0_t9_loop.trips), ∀ (r : Fin 2), ∀ a, (k0_off54 v25_0 v25_1 k0_t6 k0_t9 (BitVec.ofNat 32 r.val)) a + S1x1x656x128.size a ≤ S4x32x656x128.size a := fun v25_0 v25_1 k0_hw3 k0_t6 k0_t9 r => k0_hw3.1.2.2.2.2.2.2.2.2.2.2.2.2.2.2.2.1 k0_t6 k0_t9 r
theorem k0_off55_inb : ∀ (v25_0 : BitVec 32) (v25_1 : BitVec 32) (k0_hw3 : k0_chk3 v25_0 v25_1) (k0_t6 : Fin (k0_t6_loop v25_0 v25_1).trips) (k0_t9 : Fin k0_t9_loop.trips), ∀ (r : Fin 2), ∀ a, (k0_off55 v25_0 v25_1 k0_t6 k0_t9 (BitVec.ofNat 32 r.val)) a + S1x1x16x512.size a ≤ S4x32x16x512.size a := fun v25_0 v25_1 k0_hw3 k0_t6 k0_t9 r => k0_hw3.1.2.2.2.2.2.2.2.2.2.2.2.2.2.2.2.2.1 k0_t6 k0_t9 r
theorem k0_off68_inb : ∀ (v25_0 : BitVec 32) (v25_1 : BitVec 32) (k0_hw3 : k0_chk3 v25_0 v25_1) (k0_t6 : Fin (k0_t6_loop v25_0 v25_1).trips) (k0_t9 : Fin k0_t9_loop.trips), ∀ (r : Fin 2), ∀ a, (k0_off68 v25_0 v25_1 k0_t6 k0_t9 (BitVec.ofNat 32 r.val)) a + S1x1x16x128.size a ≤ S2x32x16x512.size a := fun v25_0 v25_1 k0_hw3 k0_t6 k0_t9 r => k0_hw3.1.2.2.2.2.2.2.2.2.2.2.2.2.2.2.2.2.2.1 k0_t6 k0_t9 r
theorem k0_off68_packedbf16 : ∀ (v25_0 : BitVec 32) (v25_1 : BitVec 32) (k0_hw3 : k0_chk3 v25_0 v25_1) (k0_t6 : Fin (k0_t6_loop v25_0 v25_1).trips) (k0_t9 : Fin k0_t9_loop.trips), ∀ (r : Fin 2), (Rect.unit (s := S2x32x16x512) (k0_off68 v25_0 v25_1 k0_t6 k0_t9 (BitVec.ofNat 32 r.val)) S1x1x16x128.size (k0_off68_inb v25_0 v25_1 k0_hw3 k0_t6 k0_t9 r)).PackedRows (EltTy.packing .bf16) := fun v25_0 v25_1 k0_hw3 k0_t6 k0_t9 r => k0_hw3.1.2.2.2.2.2.2.2.2.2.2.2.2.2.2.2.2.2.2.1 k0_t6 k0_t9 r (k0_off68_inb v25_0 v25_1 k0_hw3 k0_t6 k0_t9 r)
theorem k0_off69_inb : ∀ (v25_0 : BitVec 32) (v25_1 : BitVec 32) (k0_hw3 : k0_chk3 v25_0 v25_1) (k0_t6 : Fin (k0_t6_loop v25_0 v25_1).trips) (k0_t9 : Fin k0_t9_loop.trips), ∀ (r : Fin 2), ∀ a, (k0_off69 v25_0 v25_1 k0_t6 k0_t9 (BitVec.ofNat 32 r.val)) a + S1x1x16x128.size a ≤ S2x32x16x512.size a := fun v25_0 v25_1 k0_hw3 k0_t6 k0_t9 r => k0_hw3.1.2.2.2.2.2.2.2.2.2.2.2.2.2.2.2.2.2.2.2.1 k0_t6 k0_t9 r
theorem k0_off69_packedbf16 : ∀ (v25_0 : BitVec 32) (v25_1 : BitVec 32) (k0_hw3 : k0_chk3 v25_0 v25_1) (k0_t6 : Fin (k0_t6_loop v25_0 v25_1).trips) (k0_t9 : Fin k0_t9_loop.trips), ∀ (r : Fin 2), (Rect.unit (s := S2x32x16x512) (k0_off69 v25_0 v25_1 k0_t6 k0_t9 (BitVec.ofNat 32 r.val)) S1x1x16x128.size (k0_off69_inb v25_0 v25_1 k0_hw3 k0_t6 k0_t9 r)).PackedRows (EltTy.packing .bf16) := fun v25_0 v25_1 k0_hw3 k0_t6 k0_t9 r => k0_hw3.1.2.2.2.2.2.2.2.2.2.2.2.2.2.2.2.2.2.2.2.2.1 k0_t6 k0_t9 r (k0_off69_inb v25_0 v25_1 k0_hw3 k0_t6 k0_t9 r)
theorem k0_off70_inb : ∀ (v25_0 : BitVec 32) (v25_1 : BitVec 32) (k0_hw3 : k0_chk3 v25_0 v25_1) (k0_t6 : Fin (k0_t6_loop v25_0 v25_1).trips) (k0_t9 : Fin k0_t9_loop.trips), ∀ (r : Fin 2), ∀ a, (k0_off70 v25_0 v25_1 k0_t6 k0_t9 (BitVec.ofNat 32 r.val)) a + S1x1x16x128.size a ≤ S2x32x16x512.size a := fun v25_0 v25_1 k0_hw3 k0_t6 k0_t9 r => k0_hw3.1.2.2.2.2.2.2.2.2.2.2.2.2.2.2.2.2.2.2.2.2.2.1 k0_t6 k0_t9 r
theorem k0_off70_packedbf16 : ∀ (v25_0 : BitVec 32) (v25_1 : BitVec 32) (k0_hw3 : k0_chk3 v25_0 v25_1) (k0_t6 : Fin (k0_t6_loop v25_0 v25_1).trips) (k0_t9 : Fin k0_t9_loop.trips), ∀ (r : Fin 2), (Rect.unit (s := S2x32x16x512) (k0_off70 v25_0 v25_1 k0_t6 k0_t9 (BitVec.ofNat 32 r.val)) S1x1x16x128.size (k0_off70_inb v25_0 v25_1 k0_hw3 k0_t6 k0_t9 r)).PackedRows (EltTy.packing .bf16) := fun v25_0 v25_1 k0_hw3 k0_t6 k0_t9 r => k0_hw3.1.2.2.2.2.2.2.2.2.2.2.2.2.2.2.2.2.2.2.2.2.2.2.1 k0_t6 k0_t9 r (k0_off70_inb v25_0 v25_1 k0_hw3 k0_t6 k0_t9 r)
theorem k0_off71_inb : ∀ (v25_0 : BitVec 32) (v25_1 : BitVec 32) (k0_hw3 : k0_chk3 v25_0 v25_1) (k0_t6 : Fin (k0_t6_loop v25_0 v25_1).trips) (k0_t9 : Fin k0_t9_loop.trips), ∀ (r : Fin 2), ∀ a, (k0_off71 v25_0 v25_1 k0_t6 k0_t9 (BitVec.ofNat 32 r.val)) a + S1x1x16x128.size a ≤ S2x32x16x512.size a := fun v25_0 v25_1 k0_hw3 k0_t6 k0_t9 r => k0_hw3.1.2.2.2.2.2.2.2.2.2.2.2.2.2.2.2.2.2.2.2.2.2.2.2.1 k0_t6 k0_t9 r
theorem k0_off71_packedbf16 : ∀ (v25_0 : BitVec 32) (v25_1 : BitVec 32) (k0_hw3 : k0_chk3 v25_0 v25_1) (k0_t6 : Fin (k0_t6_loop v25_0 v25_1).trips) (k0_t9 : Fin k0_t9_loop.trips), ∀ (r : Fin 2), (Rect.unit (s := S2x32x16x512) (k0_off71 v25_0 v25_1 k0_t6 k0_t9 (BitVec.ofNat 32 r.val)) S1x1x16x128.size (k0_off71_inb v25_0 v25_1 k0_hw3 k0_t6 k0_t9 r)).PackedRows (EltTy.packing .bf16) := fun v25_0 v25_1 k0_hw3 k0_t6 k0_t9 r => k0_hw3.1.2.2.2.2.2.2.2.2.2.2.2.2.2.2.2.2.2.2.2.2.2.2.2.2.1 k0_t6 k0_t9 r (k0_off71_inb v25_0 v25_1 k0_hw3 k0_t6 k0_t9 r)
theorem k0_off72_inb : ∀ (v25_0 : BitVec 32) (v25_1 : BitVec 32) (k0_hw3 : k0_chk3 v25_0 v25_1) (k0_t6 : Fin (k0_t6_loop v25_0 v25_1).trips) (k0_t10 : Fin k0_t10_loop.trips), ∀ (k0_h5 : k0_cond5 v25_0 v25_1 k0_t6 = 1#1), ∀ a, (k0_off72 v25_0 v25_1 k0_t6 k0_t10) a + S1.size a ≤ S2680.size a := fun v25_0 v25_1 k0_hw3 k0_t6 k0_t10 k0_h5 => k0_hw3.1.2.2.2.2.2.2.2.2.2.2.2.2.2.2.2.2.2.2.2.2.2.2.2.2.2.1 k0_t6 k0_t10 k0_h5
theorem k0_off73_inb : ∀ (v25_0 : BitVec 32) (v25_1 : BitVec 32) (k0_hw3 : k0_chk3 v25_0 v25_1) (k0_t6 : Fin (k0_t6_loop v25_0 v25_1).trips), ∀ (k0_h5 : k0_cond5 v25_0 v25_1 k0_t6 = 1#1), ∀ a, (k0_off73 v25_0 v25_1 k0_t6) a + S1.size a ≤ S4.size a := fun v25_0 v25_1 k0_hw3 k0_t6 k0_h5 => k0_hw3.1.2.2.2.2.2.2.2.2.2.2.2.2.2.2.2.2.2.2.2.2.2.2.2.2.2.2.1 k0_t6 k0_h5
theorem k0_off74_inb : ∀ (v25_0 : BitVec 32) (v25_1 : BitVec 32) (k0_hw3 : k0_chk3 v25_0 v25_1) (k0_t6 : Fin (k0_t6_loop v25_0 v25_1).trips) (k0_t10 : Fin k0_t10_loop.trips), ∀ (k0_h5 : k0_cond5 v25_0 v25_1 k0_t6 = 1#1), ∀ a, (k0_off74 v25_0 v25_1 k0_t6 k0_t10) a + S1x1x656x128.size a ≤ S4x32x656x128.size a := fun v25_0 v25_1 k0_hw3 k0_t6 k0_t10 k0_h5 => k0_hw3.1.2.2.2.2.2.2.2.2.2.2.2.2.2.2.2.2.2.2.2.2.2.2.2.2.2.2.2.1 k0_t6 k0_t10 k0_h5
theorem k0_off74_wordsi8 : ∀ (v25_0 : BitVec 32) (v25_1 : BitVec 32) (k0_hw3 : k0_chk3 v25_0 v25_1) (k0_t6 : Fin (k0_t6_loop v25_0 v25_1).trips) (k0_t10 : Fin k0_t10_loop.trips), ∀ (k0_h5 : k0_cond5 v25_0 v25_1 k0_t6 = 1#1), (Rect.unit (s := S4x32x656x128) (k0_off74 v25_0 v25_1 k0_t6 k0_t10) S1x1x656x128.size (k0_off74_inb v25_0 v25_1 k0_hw3 k0_t6 k0_t10 k0_h5)).WholeWords (EltTy.packing .i8) := fun v25_0 v25_1 k0_hw3 k0_t6 k0_t10 k0_h5 => k0_hw3.1.2.2.2.2.2.2.2.2.2.2.2.2.2.2.2.2.2.2.2.2.2.2.2.2.2.2.2.2.1 k0_t6 k0_t10 k0_h5 (k0_off74_inb v25_0 v25_1 k0_hw3 k0_t6 k0_t10 k0_h5)
theorem k0_off76_inb : ∀ (v25_0 : BitVec 32) (v25_1 : BitVec 32) (k0_hw3 : k0_chk3 v25_0 v25_1) (k0_t6 : Fin (k0_t6_loop v25_0 v25_1).trips) (k0_t10 : Fin k0_t10_loop.trips), ∀ (k0_h5 : k0_cond5 v25_0 v25_1 k0_t6 = 1#1), ∀ a, (k0_off76 v25_0 v25_1 k0_t6 k0_t10) a + S1x1x656x128.size a ≤ S4x32x656x128.size a := fun v25_0 v25_1 k0_hw3 k0_t6 k0_t10 k0_h5 => k0_hw3.1.2.2.2.2.2.2.2.2.2.2.2.2.2.2.2.2.2.2.2.2.2.2.2.2.2.2.2.2.2.1 k0_t6 k0_t10 k0_h5
theorem k0_off76_wordsi8 : ∀ (v25_0 : BitVec 32) (v25_1 : BitVec 32) (k0_hw3 : k0_chk3 v25_0 v25_1) (k0_t6 : Fin (k0_t6_loop v25_0 v25_1).trips) (k0_t10 : Fin k0_t10_loop.trips), ∀ (k0_h5 : k0_cond5 v25_0 v25_1 k0_t6 = 1#1), (Rect.unit (s := S4x32x656x128) (k0_off76 v25_0 v25_1 k0_t6 k0_t10) S1x1x656x128.size (k0_off76_inb v25_0 v25_1 k0_hw3 k0_t6 k0_t10 k0_h5)).WholeWords (EltTy.packing .i8) := fun v25_0 v25_1 k0_hw3 k0_t6 k0_t10 k0_h5 => k0_hw3.1.2.2.2.2.2.2.2.2.2.2.2.2.2.2.2.2.2.2.2.2.2.2.2.2.2.2.2.2.2.2.1 k0_t6 k0_t10 k0_h5 (k0_off76_inb v25_0 v25_1 k0_hw3 k0_t6 k0_t10 k0_h5)
theorem k0_off78_inb : ∀ (v25_0 : BitVec 32) (v25_1 : BitVec 32) (k0_hw3 : k0_chk3 v25_0 v25_1) (k0_t6 : Fin (k0_t6_loop v25_0 v25_1).trips) (k0_t10 : Fin k0_t10_loop.trips), ∀ (k0_h5 : k0_cond5 v25_0 v25_1 k0_t6 = 1#1), ∀ a, (k0_off78 v25_0 v25_1 k0_t6 k0_t10) a + S1x1x16x512.size a ≤ S4x32x16x512.size a := fun v25_0 v25_1 k0_hw3 k0_t6 k0_t10 k0_h5 => k0_hw3.1.2.2.2.2.2.2.2.2.2.2.2.2.2.2.2.2.2.2.2.2.2.2.2.2.2.2.2.2.2.2.2 k0_t6 k0_t10 k0_h5
theorem k0_off78_wordsbf16 : ∀ (v25_0 : BitVec 32) (v25_1 : BitVec 32) (k0_hw3 : k0_chk3 v25_0 v25_1) (k0_t6 : Fin (k0_t6_loop v25_0 v25_1).trips) (k0_t10 : Fin k0_t10_loop.trips), ∀ (k0_h5 : k0_cond5 v25_0 v25_1 k0_t6 = 1#1), (Rect.unit (s := S4x32x16x512) (k0_off78 v25_0 v25_1 k0_t6 k0_t10) S1x1x16x512.size (k0_off78_inb v25_0 v25_1 k0_hw3 k0_t6 k0_t10 k0_h5)).WholeWords (EltTy.packing .bf16) := fun v25_0 v25_1 k0_hw3 k0_t6 k0_t10 k0_h5 => k0_hw3.2.1.1 k0_t6 k0_t10 k0_h5 (k0_off78_inb v25_0 v25_1 k0_hw3 k0_t6 k0_t10 k0_h5)
theorem k0_off80_inb : ∀ (v25_0 : BitVec 32) (v25_1 : BitVec 32) (k0_hw3 : k0_chk3 v25_0 v25_1) (k0_t6 : Fin (k0_t6_loop v25_0 v25_1).trips) (k0_t10 : Fin k0_t10_loop.trips), ∀ (k0_h5 : k0_cond5 v25_0 v25_1 k0_t6 = 1#1), ∀ a, (k0_off80 v25_0 v25_1 k0_t6 k0_t10) a + S1x1x16x512.size a ≤ S4x32x16x512.size a := fun v25_0 v25_1 k0_hw3 k0_t6 k0_t10 k0_h5 => k0_hw3.2.1.2.1 k0_t6 k0_t10 k0_h5
theorem k0_off80_wordsbf16 : ∀ (v25_0 : BitVec 32) (v25_1 : BitVec 32) (k0_hw3 : k0_chk3 v25_0 v25_1) (k0_t6 : Fin (k0_t6_loop v25_0 v25_1).trips) (k0_t10 : Fin k0_t10_loop.trips), ∀ (k0_h5 : k0_cond5 v25_0 v25_1 k0_t6 = 1#1), (Rect.unit (s := S4x32x16x512) (k0_off80 v25_0 v25_1 k0_t6 k0_t10) S1x1x16x512.size (k0_off80_inb v25_0 v25_1 k0_hw3 k0_t6 k0_t10 k0_h5)).WholeWords (EltTy.packing .bf16) := fun v25_0 v25_1 k0_hw3 k0_t6 k0_t10 k0_h5 => k0_hw3.2.1.2.2.1 k0_t6 k0_t10 k0_h5 (k0_off80_inb v25_0 v25_1 k0_hw3 k0_t6 k0_t10 k0_h5)
theorem k0_off82_inb : ∀ (v25_0 : BitVec 32) (v25_1 : BitVec 32) (k0_hw3 : k0_chk3 v25_0 v25_1) (k0_t6 : Fin (k0_t6_loop v25_0 v25_1).trips) (k0_t11 : Fin k0_t11_loop.trips), ∀ a, (k0_off82 v25_0 v25_1 k0_t6 k0_t11) a + S1.size a ≤ S2680.size a := fun v25_0 v25_1 k0_hw3 k0_t6 k0_t11 => k0_hw3.2.1.2.2.2.1 k0_t6 k0_t11
theorem k0_t12_ok : ∀ (v25_0 : BitVec 32) (v25_1 : BitVec 32) (k0_hw3 : k0_chk3 v25_0 v25_1), (k0_t12_loop v25_0 v25_1).OK := fun v25_0 v25_1 k0_hw3 => k0_hw3.2.1.2.2.2.2.1
theorem k0_off89_inb : ∀ (v25_0 : BitVec 32) (v25_1 : BitVec 32) (k0_hw3 : k0_chk3 v25_0 v25_1) (k0_t12 : Fin (k0_t12_loop v25_0 v25_1).trips) (k0_t13 : Fin k0_t13_loop.trips), ∀ a, (k0_off89 v25_0 v25_1 k0_t12 k0_t13) a + S1.size a ≤ S2680.size a := fun v25_0 v25_1 k0_hw3 k0_t12 k0_t13 => k0_hw3.2.1.2.2.2.2.2.1 k0_t12 k0_t13
theorem k0_off90_inb : ∀ (v25_0 : BitVec 32) (v25_1 : BitVec 32) (k0_hw3 : k0_chk3 v25_0 v25_1) (k0_t12 : Fin (k0_t12_loop v25_0 v25_1).trips), ∀ a, (k0_off90 v25_0 v25_1 k0_t12) a + S1.size a ≤ S4.size a := fun v25_0 v25_1 k0_hw3 k0_t12 => k0_hw3.2.1.2.2.2.2.2.2.1 k0_t12
theorem k0_off91_inb : ∀ (v25_0 : BitVec 32) (v25_1 : BitVec 32) (k0_hw3 : k0_chk3 v25_0 v25_1) (k0_t12 : Fin (k0_t12_loop v25_0 v25_1).trips) (k0_t13 : Fin k0_t13_loop.trips), ∀ a, (k0_off91 v25_0 v25_1 k0_t12 k0_t13) a + S1x1x656x128.size a ≤ S4x32x656x128.size a := fun v25_0 v25_1 k0_hw3 k0_t12 k0_t13 => k0_hw3.2.1.2.2.2.2.2.2.2.1 k0_t12 k0_t13
theorem k0_off91_wordsi8 : ∀ (v25_0 : BitVec 32) (v25_1 : BitVec 32) (k0_hw3 : k0_chk3 v25_0 v25_1) (k0_t12 : Fin (k0_t12_loop v25_0 v25_1).trips) (k0_t13 : Fin k0_t13_loop.trips), (Rect.unit (s := S4x32x656x128) (k0_off91 v25_0 v25_1 k0_t12 k0_t13) S1x1x656x128.size (k0_off91_inb v25_0 v25_1 k0_hw3 k0_t12 k0_t13)).WholeWords (EltTy.packing .i8) := fun v25_0 v25_1 k0_hw3 k0_t12 k0_t13 => k0_hw3.2.1.2.2.2.2.2.2.2.2.1 k0_t12 k0_t13 (k0_off91_inb v25_0 v25_1 k0_hw3 k0_t12 k0_t13)
theorem k0_off93_inb : ∀ (v25_0 : BitVec 32) (v25_1 : BitVec 32) (k0_hw3 : k0_chk3 v25_0 v25_1) (k0_t12 : Fin (k0_t12_loop v25_0 v25_1).trips) (k0_t13 : Fin k0_t13_loop.trips), ∀ a, (k0_off93 v25_0 v25_1 k0_t12 k0_t13) a + S1x1x656x128.size a ≤ S4x32x656x128.size a := fun v25_0 v25_1 k0_hw3 k0_t12 k0_t13 => k0_hw3.2.1.2.2.2.2.2.2.2.2.2.1 k0_t12 k0_t13
theorem k0_off93_wordsi8 : ∀ (v25_0 : BitVec 32) (v25_1 : BitVec 32) (k0_hw3 : k0_chk3 v25_0 v25_1) (k0_t12 : Fin (k0_t12_loop v25_0 v25_1).trips) (k0_t13 : Fin k0_t13_loop.trips), (Rect.unit (s := S4x32x656x128) (k0_off93 v25_0 v25_1 k0_t12 k0_t13) S1x1x656x128.size (k0_off93_inb v25_0 v25_1 k0_hw3 k0_t12 k0_t13)).WholeWords (EltTy.packing .i8) := fun v25_0 v25_1 k0_hw3 k0_t12 k0_t13 => k0_hw3.2.1.2.2.2.2.2.2.2.2.2.2.1 k0_t12 k0_t13 (k0_off93_inb v25_0 v25_1 k0_hw3 k0_t12 k0_t13)
theorem k0_off95_inb : ∀ (v25_0 : BitVec 32) (v25_1 : BitVec 32) (k0_hw3 : k0_chk3 v25_0 v25_1) (k0_t12 : Fin (k0_t12_loop v25_0 v25_1).trips) (k0_t13 : Fin k0_t13_loop.trips), ∀ a, (k0_off95 v25_0 v25_1 k0_t12 k0_t13) a + S1x1x16x512.size a ≤ S4x32x16x512.size a := fun v25_0 v25_1 k0_hw3 k0_t12 k0_t13 => k0_hw3.2.1.2.2.2.2.2.2.2.2.2.2.2.1 k0_t12 k0_t13
theorem k0_off95_wordsbf16 : ∀ (v25_0 : BitVec 32) (v25_1 : BitVec 32) (k0_hw3 : k0_chk3 v25_0 v25_1) (k0_t12 : Fin (k0_t12_loop v25_0 v25_1).trips) (k0_t13 : Fin k0_t13_loop.trips), (Rect.unit (s := S4x32x16x512) (k0_off95 v25_0 v25_1 k0_t12 k0_t13) S1x1x16x512.size (k0_off95_inb v25_0 v25_1 k0_hw3 k0_t12 k0_t13)).WholeWords (EltTy.packing .bf16) := fun v25_0 v25_1 k0_hw3 k0_t12 k0_t13 => k0_hw3.2.1.2.2.2.2.2.2.2.2.2.2.2.2.1 k0_t12 k0_t13 (k0_off95_inb v25_0 v25_1 k0_hw3 k0_t12 k0_t13)
theorem k0_off97_inb : ∀ (v25_0 : BitVec 32) (v25_1 : BitVec 32) (k0_hw3 : k0_chk3 v25_0 v25_1) (k0_t12 : Fin (k0_t12_loop v25_0 v25_1).trips) (k0_t13 : Fin k0_t13_loop.trips), ∀ a, (k0_off97 v25_0 v25_1 k0_t12 k0_t13) a + S1x1x16x512.size a ≤ S4x32x16x512.size a := fun v25_0 v25_1 k0_hw3 k0_t12 k0_t13 => k0_hw3.2.1.2.2.2.2.2.2.2.2.2.2.2.2.2.1 k0_t12 k0_t13
theorem k0_off97_wordsbf16 : ∀ (v25_0 : BitVec 32) (v25_1 : BitVec 32) (k0_hw3 : k0_chk3 v25_0 v25_1) (k0_t12 : Fin (k0_t12_loop v25_0 v25_1).trips) (k0_t13 : Fin k0_t13_loop.trips), (Rect.unit (s := S4x32x16x512) (k0_off97 v25_0 v25_1 k0_t12 k0_t13) S1x1x16x512.size (k0_off97_inb v25_0 v25_1 k0_hw3 k0_t12 k0_t13)).WholeWords (EltTy.packing .bf16) := fun v25_0 v25_1 k0_hw3 k0_t12 k0_t13 => k0_hw3.2.1.2.2.2.2.2.2.2.2.2.2.2.2.2.2.1 k0_t12 k0_t13 (k0_off97_inb v25_0 v25_1 k0_hw3 k0_t12 k0_t13)
theorem k0_off99_inb : ∀ (v25_0 : BitVec 32) (v25_1 : BitVec 32) (k0_hw3 : k0_chk3 v25_0 v25_1) (k0_t12 : Fin (k0_t12_loop v25_0 v25_1).trips) (k0_t14 : Fin k0_t14_loop.trips), ∀ (k0_h8 : k0_cond8 v25_0 v25_1 k0_t12 = 1#1), ∀ a, (k0_off99 v25_0 v25_1 k0_t12 k0_t14) a + S1.size a ≤ S2680.size a := fun v25_0 v25_1 k0_hw3 k0_t12 k0_t14 k0_h8 => k0_hw3.2.1.2.2.2.2.2.2.2.2.2.2.2.2.2.2.2.1 k0_t12 k0_t14 k0_h8
theorem k0_off106_inb : ∀ (v25_0 : BitVec 32) (v25_1 : BitVec 32) (k0_hw3 : k0_chk3 v25_0 v25_1) (k0_t12 : Fin (k0_t12_loop v25_0 v25_1).trips) (k0_t15 : Fin k0_t15_loop.trips), ∀ a, (k0_off106 v25_0 v25_1 k0_t12 k0_t15) a + S1.size a ≤ S2680.size a := fun v25_0 v25_1 k0_hw3 k0_t12 k0_t15 => k0_hw3.2.1.2.2.2.2.2.2.2.2.2.2.2.2.2.2.2.2.1 k0_t12 k0_t15
theorem k0_off109_inb : ∀ (v25_0 : BitVec 32) (v25_1 : BitVec 32) (k0_hw3 : k0_chk3 v25_0 v25_1) (k0_t12 : Fin (k0_t12_loop v25_0 v25_1).trips) (k0_t15 : Fin k0_t15_loop.trips), ∀ (r : Fin 2), ∀ a, (k0_off109 v25_0 v25_1 k0_t12 k0_t15 (BitVec.ofNat 32 r.val)) a + S1x1x656x128.size a ≤ S4x32x656x128.size a := fun v25_0 v25_1 k0_hw3 k0_t12 k0_t15 r => k0_hw3.2.1.2.2.2.2.2.2.2.2.2.2.2.2.2.2.2.2.2.1 k0_t12 k0_t15 r
theorem k0_off110_inb : ∀ (v25_0 : BitVec 32) (v25_1 : BitVec 32) (k0_hw3 : k0_chk3 v25_0 v25_1) (k0_t12 : Fin (k0_t12_loop v25_0 v25_1).trips) (k0_t15 : Fin k0_t15_loop.trips), ∀ (r : Fin 2), ∀ a, (k0_off110 v25_0 v25_1 k0_t12 k0_t15 (BitVec.ofNat 32 r.val)) a + S1x1x16x512.size a ≤ S4x32x16x512.size a := fun v25_0 v25_1 k0_hw3 k0_t12 k0_t15 r => k0_hw3.2.1.2.2.2.2.2.2.2.2.2.2.2.2.2.2.2.2.2.2.1 k0_t12 k0_t15 r
theorem k0_off123_inb : ∀ (v25_0 : BitVec 32) (v25_1 : BitVec 32) (k0_hw3 : k0_chk3 v25_0 v25_1) (k0_t12 : Fin (k0_t12_loop v25_0 v25_1).trips) (k0_t15 : Fin k0_t15_loop.trips), ∀ (r : Fin 2), ∀ a, (k0_off123 v25_0 v25_1 k0_t12 k0_t15 (BitVec.ofNat 32 r.val)) a + S1x1x16x128.size a ≤ S2x32x16x512.size a := fun v25_0 v25_1 k0_hw3 k0_t12 k0_t15 r => k0_hw3.2.1.2.2.2.2.2.2.2.2.2.2.2.2.2.2.2.2.2.2.2.1 k0_t12 k0_t15 r
theorem k0_off123_packedbf16 : ∀ (v25_0 : BitVec 32) (v25_1 : BitVec 32) (k0_hw3 : k0_chk3 v25_0 v25_1) (k0_t12 : Fin (k0_t12_loop v25_0 v25_1).trips) (k0_t15 : Fin k0_t15_loop.trips), ∀ (r : Fin 2), (Rect.unit (s := S2x32x16x512) (k0_off123 v25_0 v25_1 k0_t12 k0_t15 (BitVec.ofNat 32 r.val)) S1x1x16x128.size (k0_off123_inb v25_0 v25_1 k0_hw3 k0_t12 k0_t15 r)).PackedRows (EltTy.packing .bf16) := fun v25_0 v25_1 k0_hw3 k0_t12 k0_t15 r => k0_hw3.2.1.2.2.2.2.2.2.2.2.2.2.2.2.2.2.2.2.2.2.2.2.1 k0_t12 k0_t15 r (k0_off123_inb v25_0 v25_1 k0_hw3 k0_t12 k0_t15 r)
theorem k0_off124_inb : ∀ (v25_0 : BitVec 32) (v25_1 : BitVec 32) (k0_hw3 : k0_chk3 v25_0 v25_1) (k0_t12 : Fin (k0_t12_loop v25_0 v25_1).trips) (k0_t15 : Fin k0_t15_loop.trips), ∀ (r : Fin 2), ∀ a, (k0_off124 v25_0 v25_1 k0_t12 k0_t15 (BitVec.ofNat 32 r.val)) a + S1x1x16x128.size a ≤ S2x32x16x512.size a := fun v25_0 v25_1 k0_hw3 k0_t12 k0_t15 r => k0_hw3.2.1.2.2.2.2.2.2.2.2.2.2.2.2.2.2.2.2.2.2.2.2.2.1 k0_t12 k0_t15 r
theorem k0_off124_packedbf16 : ∀ (v25_0 : BitVec 32) (v25_1 : BitVec 32) (k0_hw3 : k0_chk3 v25_0 v25_1) (k0_t12 : Fin (k0_t12_loop v25_0 v25_1).trips) (k0_t15 : Fin k0_t15_loop.trips), ∀ (r : Fin 2), (Rect.unit (s := S2x32x16x512) (k0_off124 v25_0 v25_1 k0_t12 k0_t15 (BitVec.ofNat 32 r.val)) S1x1x16x128.size (k0_off124_inb v25_0 v25_1 k0_hw3 k0_t12 k0_t15 r)).PackedRows (EltTy.packing .bf16) := fun v25_0 v25_1 k0_hw3 k0_t12 k0_t15 r => k0_hw3.2.1.2.2.2.2.2.2.2.2.2.2.2.2.2.2.2.2.2.2.2.2.2.2.1 k0_t12 k0_t15 r (k0_off124_inb v25_0 v25_1 k0_hw3 k0_t12 k0_t15 r)
theorem k0_off125_inb : ∀ (v25_0 : BitVec 32) (v25_1 : BitVec 32) (k0_hw3 : k0_chk3 v25_0 v25_1) (k0_t12 : Fin (k0_t12_loop v25_0 v25_1).trips) (k0_t15 : Fin k0_t15_loop.trips), ∀ (r : Fin 2), ∀ a, (k0_off125 v25_0 v25_1 k0_t12 k0_t15 (BitVec.ofNat 32 r.val)) a + S1x1x16x128.size a ≤ S2x32x16x512.size a := fun v25_0 v25_1 k0_hw3 k0_t12 k0_t15 r => k0_hw3.2.1.2.2.2.2.2.2.2.2.2.2.2.2.2.2.2.2.2.2.2.2.2.2.2.1 k0_t12 k0_t15 r
theorem k0_off125_packedbf16 : ∀ (v25_0 : BitVec 32) (v25_1 : BitVec 32) (k0_hw3 : k0_chk3 v25_0 v25_1) (k0_t12 : Fin (k0_t12_loop v25_0 v25_1).trips) (k0_t15 : Fin k0_t15_loop.trips), ∀ (r : Fin 2), (Rect.unit (s := S2x32x16x512) (k0_off125 v25_0 v25_1 k0_t12 k0_t15 (BitVec.ofNat 32 r.val)) S1x1x16x128.size (k0_off125_inb v25_0 v25_1 k0_hw3 k0_t12 k0_t15 r)).PackedRows (EltTy.packing .bf16) := fun v25_0 v25_1 k0_hw3 k0_t12 k0_t15 r => k0_hw3.2.1.2.2.2.2.2.2.2.2.2.2.2.2.2.2.2.2.2.2.2.2.2.2.2.2.1 k0_t12 k0_t15 r (k0_off125_inb v25_0 v25_1 k0_hw3 k0_t12 k0_t15 r)
theorem k0_off126_inb : ∀ (v25_0 : BitVec 32) (v25_1 : BitVec 32) (k0_hw3 : k0_chk3 v25_0 v25_1) (k0_t12 : Fin (k0_t12_loop v25_0 v25_1).trips) (k0_t15 : Fin k0_t15_loop.trips), ∀ (r : Fin 2), ∀ a, (k0_off126 v25_0 v25_1 k0_t12 k0_t15 (BitVec.ofNat 32 r.val)) a + S1x1x16x128.size a ≤ S2x32x16x512.size a := fun v25_0 v25_1 k0_hw3 k0_t12 k0_t15 r => k0_hw3.2.1.2.2.2.2.2.2.2.2.2.2.2.2.2.2.2.2.2.2.2.2.2.2.2.2.2.1 k0_t12 k0_t15 r
theorem k0_off126_packedbf16 : ∀ (v25_0 : BitVec 32) (v25_1 : BitVec 32) (k0_hw3 : k0_chk3 v25_0 v25_1) (k0_t12 : Fin (k0_t12_loop v25_0 v25_1).trips) (k0_t15 : Fin k0_t15_loop.trips), ∀ (r : Fin 2), (Rect.unit (s := S2x32x16x512) (k0_off126 v25_0 v25_1 k0_t12 k0_t15 (BitVec.ofNat 32 r.val)) S1x1x16x128.size (k0_off126_inb v25_0 v25_1 k0_hw3 k0_t12 k0_t15 r)).PackedRows (EltTy.packing .bf16) := fun v25_0 v25_1 k0_hw3 k0_t12 k0_t15 r => k0_hw3.2.1.2.2.2.2.2.2.2.2.2.2.2.2.2.2.2.2.2.2.2.2.2.2.2.2.2.2.1 k0_t12 k0_t15 r (k0_off126_inb v25_0 v25_1 k0_hw3 k0_t12 k0_t15 r)
theorem k0_off127_inb : ∀ (v25_0 : BitVec 32) (v25_1 : BitVec 32) (k0_hw3 : k0_chk3 v25_0 v25_1) (k0_t12 : Fin (k0_t12_loop v25_0 v25_1).trips) (k0_t16 : Fin k0_t16_loop.trips), ∀ (k0_h11 : k0_cond11 v25_0 v25_1 k0_t12 = 1#1), ∀ a, (k0_off127 v25_0 v25_1 k0_t12 k0_t16) a + S1.size a ≤ S2680.size a := fun v25_0 v25_1 k0_hw3 k0_t12 k0_t16 k0_h11 => k0_hw3.2.1.2.2.2.2.2.2.2.2.2.2.2.2.2.2.2.2.2.2.2.2.2.2.2.2.2.2.2.1 k0_t12 k0_t16 k0_h11
theorem k0_off128_inb : ∀ (v25_0 : BitVec 32) (v25_1 : BitVec 32) (k0_hw3 : k0_chk3 v25_0 v25_1) (k0_t12 : Fin (k0_t12_loop v25_0 v25_1).trips), ∀ (k0_h11 : k0_cond11 v25_0 v25_1 k0_t12 = 1#1), ∀ a, (k0_off128 v25_0 v25_1 k0_t12) a + S1.size a ≤ S4.size a := fun v25_0 v25_1 k0_hw3 k0_t12 k0_h11 => k0_hw3.2.1.2.2.2.2.2.2.2.2.2.2.2.2.2.2.2.2.2.2.2.2.2.2.2.2.2.2.2.2.1 k0_t12 k0_h11
theorem k0_off129_inb : ∀ (v25_0 : BitVec 32) (v25_1 : BitVec 32) (k0_hw3 : k0_chk3 v25_0 v25_1) (k0_t12 : Fin (k0_t12_loop v25_0 v25_1).trips) (k0_t16 : Fin k0_t16_loop.trips), ∀ (k0_h11 : k0_cond11 v25_0 v25_1 k0_t12 = 1#1), ∀ a, (k0_off129 v25_0 v25_1 k0_t12 k0_t16) a + S1x1x656x128.size a ≤ S4x32x656x128.size a := fun v25_0 v25_1 k0_hw3 k0_t12 k0_t16 k0_h11 => k0_hw3.2.1.2.2.2.2.2.2.2.2.2.2.2.2.2.2.2.2.2.2.2.2.2.2.2.2.2.2.2.2.2.1 k0_t12 k0_t16 k0_h11
theorem k0_off129_wordsi8 : ∀ (v25_0 : BitVec 32) (v25_1 : BitVec 32) (k0_hw3 : k0_chk3 v25_0 v25_1) (k0_t12 : Fin (k0_t12_loop v25_0 v25_1).trips) (k0_t16 : Fin k0_t16_loop.trips), ∀ (k0_h11 : k0_cond11 v25_0 v25_1 k0_t12 = 1#1), (Rect.unit (s := S4x32x656x128) (k0_off129 v25_0 v25_1 k0_t12 k0_t16) S1x1x656x128.size (k0_off129_inb v25_0 v25_1 k0_hw3 k0_t12 k0_t16 k0_h11)).WholeWords (EltTy.packing .i8) := fun v25_0 v25_1 k0_hw3 k0_t12 k0_t16 k0_h11 => k0_hw3.2.1.2.2.2.2.2.2.2.2.2.2.2.2.2.2.2.2.2.2.2.2.2.2.2.2.2.2.2.2.2.2.1 k0_t12 k0_t16 k0_h11 (k0_off129_inb v25_0 v25_1 k0_hw3 k0_t12 k0_t16 k0_h11)
theorem k0_off131_inb : ∀ (v25_0 : BitVec 32) (v25_1 : BitVec 32) (k0_hw3 : k0_chk3 v25_0 v25_1) (k0_t12 : Fin (k0_t12_loop v25_0 v25_1).trips) (k0_t16 : Fin k0_t16_loop.trips), ∀ (k0_h11 : k0_cond11 v25_0 v25_1 k0_t12 = 1#1), ∀ a, (k0_off131 v25_0 v25_1 k0_t12 k0_t16) a + S1x1x656x128.size a ≤ S4x32x656x128.size a := fun v25_0 v25_1 k0_hw3 k0_t12 k0_t16 k0_h11 => k0_hw3.2.1.2.2.2.2.2.2.2.2.2.2.2.2.2.2.2.2.2.2.2.2.2.2.2.2.2.2.2.2.2.2.2 k0_t12 k0_t16 k0_h11
theorem k0_off131_wordsi8 : ∀ (v25_0 : BitVec 32) (v25_1 : BitVec 32) (k0_hw3 : k0_chk3 v25_0 v25_1) (k0_t12 : Fin (k0_t12_loop v25_0 v25_1).trips) (k0_t16 : Fin k0_t16_loop.trips), ∀ (k0_h11 : k0_cond11 v25_0 v25_1 k0_t12 = 1#1), (Rect.unit (s := S4x32x656x128) (k0_off131 v25_0 v25_1 k0_t12 k0_t16) S1x1x656x128.size (k0_off131_inb v25_0 v25_1 k0_hw3 k0_t12 k0_t16 k0_h11)).WholeWords (EltTy.packing .i8) := fun v25_0 v25_1 k0_hw3 k0_t12 k0_t16 k0_h11 => k0_hw3.2.2.1 k0_t12 k0_t16 k0_h11 (k0_off131_inb v25_0 v25_1 k0_hw3 k0_t12 k0_t16 k0_h11)
theorem k0_off133_inb : ∀ (v25_0 : BitVec 32) (v25_1 : BitVec 32) (k0_hw3 : k0_chk3 v25_0 v25_1) (k0_t12 : Fin (k0_t12_loop v25_0 v25_1).trips) (k0_t16 : Fin k0_t16_loop.trips), ∀ (k0_h11 : k0_cond11 v25_0 v25_1 k0_t12 = 1#1), ∀ a, (k0_off133 v25_0 v25_1 k0_t12 k0_t16) a + S1x1x16x512.size a ≤ S4x32x16x512.size a := fun v25_0 v25_1 k0_hw3 k0_t12 k0_t16 k0_h11 => k0_hw3.2.2.2.1 k0_t12 k0_t16 k0_h11
theorem k0_off133_wordsbf16 : ∀ (v25_0 : BitVec 32) (v25_1 : BitVec 32) (k0_hw3 : k0_chk3 v25_0 v25_1) (k0_t12 : Fin (k0_t12_loop v25_0 v25_1).trips) (k0_t16 : Fin k0_t16_loop.trips), ∀ (k0_h11 : k0_cond11 v25_0 v25_1 k0_t12 = 1#1), (Rect.unit (s := S4x32x16x512) (k0_off133 v25_0 v25_1 k0_t12 k0_t16) S1x1x16x512.size (k0_off133_inb v25_0 v25_1 k0_hw3 k0_t12 k0_t16 k0_h11)).WholeWords (EltTy.packing .bf16) := fun v25_0 v25_1 k0_hw3 k0_t12 k0_t16 k0_h11 => k0_hw3.2.2.2.2.1 k0_t12 k0_t16 k0_h11 (k0_off133_inb v25_0 v25_1 k0_hw3 k0_t12 k0_t16 k0_h11)
theorem k0_off135_inb : ∀ (v25_0 : BitVec 32) (v25_1 : BitVec 32) (k0_hw3 : k0_chk3 v25_0 v25_1) (k0_t12 : Fin (k0_t12_loop v25_0 v25_1).trips) (k0_t16 : Fin k0_t16_loop.trips), ∀ (k0_h11 : k0_cond11 v25_0 v25_1 k0_t12 = 1#1), ∀ a, (k0_off135 v25_0 v25_1 k0_t12 k0_t16) a + S1x1x16x512.size a ≤ S4x32x16x512.size a := fun v25_0 v25_1 k0_hw3 k0_t12 k0_t16 k0_h11 => k0_hw3.2.2.2.2.2.1 k0_t12 k0_t16 k0_h11
theorem k0_off135_wordsbf16 : ∀ (v25_0 : BitVec 32) (v25_1 : BitVec 32) (k0_hw3 : k0_chk3 v25_0 v25_1) (k0_t12 : Fin (k0_t12_loop v25_0 v25_1).trips) (k0_t16 : Fin k0_t16_loop.trips), ∀ (k0_h11 : k0_cond11 v25_0 v25_1 k0_t12 = 1#1), (Rect.unit (s := S4x32x16x512) (k0_off135 v25_0 v25_1 k0_t12 k0_t16) S1x1x16x512.size (k0_off135_inb v25_0 v25_1 k0_hw3 k0_t12 k0_t16 k0_h11)).WholeWords (EltTy.packing .bf16) := fun v25_0 v25_1 k0_hw3 k0_t12 k0_t16 k0_h11 => k0_hw3.2.2.2.2.2.2.1 k0_t12 k0_t16 k0_h11 (k0_off135_inb v25_0 v25_1 k0_hw3 k0_t12 k0_t16 k0_h11)
theorem k0_off137_inb : ∀ (v25_0 : BitVec 32) (v25_1 : BitVec 32) (k0_hw3 : k0_chk3 v25_0 v25_1) (k0_t12 : Fin (k0_t12_loop v25_0 v25_1).trips) (k0_t17 : Fin k0_t17_loop.trips), ∀ a, (k0_off137 v25_0 v25_1 k0_t12 k0_t17) a + S1.size a ≤ S2680.size a := fun v25_0 v25_1 k0_hw3 k0_t12 k0_t17 => k0_hw3.2.2.2.2.2.2.2.1 k0_t12 k0_t17
theorem k0_off144_inb : ∀ (v25_0 : BitVec 32) (v25_1 : BitVec 32) (k0_hw3 : k0_chk3 v25_0 v25_1) (k0_t18 : Fin k0_t18_loop.trips) (k0_t19 : Fin k0_t19_loop.trips), ∀ (k0_h14 : k0_cond14 v25_0 v25_1 k0_t18 = 1#1), ∀ a, (k0_off144 v25_0 v25_1 k0_t18 k0_t19) a + S1.size a ≤ S2680.size a := fun v25_0 v25_1 k0_hw3 k0_t18 k0_t19 k0_h14 => k0_hw3.2.2.2.2.2.2.2.2 k0_t18 k0_t19 k0_h14

def k0_off145 (v25_0 : BitVec 32) (v25_1 : BitVec 32) (k0_t18 : Fin k0_t18_loop.trips) : Fin 1 → Nat :=
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let c2_i32_107 : BitVec 32 := 2#32
  let c0_i32_103 : BitVec 32 := 0#32
  let c1_i32_105 : BitVec 32 := 1#32
  let arg21 : BitVec 32 := Scf.iv c0_i32_103 c1_i32_105 k0_t18
  let v160 : BitVec 32 := Scalar.subi c2_i32_107 arg21
  let v165 : BitVec 32 := Scalar.subi v52 v160
  let c2_i32_109 : BitVec 32 := 2#32
  let v166 : BitVec 32 := Scalar.remsi v165 c2_i32_109
  ![v166.toNat]
def k0_cond15 (v171 : BitVec 32) : BitVec 1 :=
  let c24_i32 : BitVec 32 := 24#32
  let v172 : BitVec 32 := Scalar.shrsi v171 c24_i32
  let c3_i32_119 : BitVec 32 := 3#32
  let v179 : BitVec 1 := Scalar.cmpi .ne v172 c3_i32_119
  let v181 : BitVec 32 := Scalar.extui v179
  let c0_i32_121 : BitVec 32 := 0#32
  let v182 : BitVec 1 := Scalar.cmpi .ne v181 c0_i32_121
  v182

def k0_off146 (v171 : BitVec 32) : Fin 3 → Nat :=
  let c4095_i32 : BitVec 32 := 4095#32
  let v174 : BitVec 32 := Scalar.andi v171 c4095_i32
  let c0_i32_123 : BitVec 32 := 0#32
  let c0_i32_124 : BitVec 32 := 0#32
  ![v174.toNat, 0, 0]
def k0_off147 (v25_0 : BitVec 32) (v25_1 : BitVec 32) (k0_t18 : Fin k0_t18_loop.trips) (k0_t19 : Fin k0_t19_loop.trips) : Fin 4 → Nat :=
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let c2_i32_107 : BitVec 32 := 2#32
  let c0_i32_103 : BitVec 32 := 0#32
  let c1_i32_105 : BitVec 32 := 1#32
  let arg21 : BitVec 32 := Scf.iv c0_i32_103 c1_i32_105 k0_t18
  let v160 : BitVec 32 := Scalar.subi c2_i32_107 arg21
  let v165 : BitVec 32 := Scalar.subi v52 v160
  let c2_i32_109 : BitVec 32 := 2#32
  let v166 : BitVec 32 := Scalar.remsi v165 c2_i32_109
  let c2_i32_115 : BitVec 32 := 2#32
  let c0_i32_110 : BitVec 32 := 0#32
  let c1_i32_112 : BitVec 32 := 1#32
  let arg22 : BitVec 32 := Scf.iv c0_i32_110 c1_i32_112 k0_t19
  let v173 : BitVec 32 := Scalar.muli c2_i32_115 arg22
  let c0_i32_125 : BitVec 32 := 0#32
  let c0_i32_126 : BitVec 32 := 0#32
  ![v166.toNat, v173.toNat, 0, 0]
def k0_off148 (v25_0 : BitVec 32) (v25_1 : BitVec 32) (k0_t18 : Fin k0_t18_loop.trips) : Fin 1 → Nat :=
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let c2_i32_107 : BitVec 32 := 2#32
  let c0_i32_103 : BitVec 32 := 0#32
  let c1_i32_105 : BitVec 32 := 1#32
  let arg21 : BitVec 32 := Scf.iv c0_i32_103 c1_i32_105 k0_t18
  let v160 : BitVec 32 := Scalar.subi c2_i32_107 arg21
  let v165 : BitVec 32 := Scalar.subi v52 v160
  let c2_i32_109 : BitVec 32 := 2#32
  let v166 : BitVec 32 := Scalar.remsi v165 c2_i32_109
  ![v166.toNat]
def k0_cond16 (v171 : BitVec 32) : BitVec 1 :=
  let c24_i32 : BitVec 32 := 24#32
  let v172 : BitVec 32 := Scalar.shrsi v171 c24_i32
  let c1_i32_120 : BitVec 32 := 1#32
  let v180 : BitVec 1 := Scalar.cmpi .eq v172 c1_i32_120
  let v183 : BitVec 32 := Scalar.extui v180
  let c0_i32_122 : BitVec 32 := 0#32
  let v184 : BitVec 1 := Scalar.cmpi .ne v183 c0_i32_122
  v184

def k0_off149 (v171 : BitVec 32) : Fin 3 → Nat :=
  let c12_i32 : BitVec 32 := 12#32
  let v177 : BitVec 32 := Scalar.shrsi v171 c12_i32
  let c4095_i32_118 : BitVec 32 := 4095#32
  let v178 : BitVec 32 := Scalar.andi v177 c4095_i32_118
  let c0_i32_123 : BitVec 32 := 0#32
  let c0_i32_124 : BitVec 32 := 0#32
  ![v178.toNat, 0, 0]
def k0_off150 (v25_0 : BitVec 32) (v25_1 : BitVec 32) (k0_t18 : Fin k0_t18_loop.trips) (k0_t19 : Fin k0_t19_loop.trips) : Fin 4 → Nat :=
  let c0_i32_24 : BitVec 32 := 0#32
  let v31 : BitVec 1 := Scalar.cmpi .sge v25_1 c0_i32_24
  let c1_i32_25 : BitVec 32 := 1#32
  let c0_i32_26 : BitVec 32 := 0#32
  let v32 : BitVec 32 := Scalar.select v31 c1_i32_25 c0_i32_26
  let v33 : BitVec 32 := Scalar.addi v25_0 v32
  let c15_i32 : BitVec 32 := 15#32
  let v35 : BitVec 32 := Scalar.addi v33 c15_i32
  let c0_i32_31 : BitVec 32 := 0#32
  let v37 : BitVec 1 := Scalar.cmpi .sgt v35 c0_i32_31
  let v38 : BitVec 32 := Scalar.extui v37
  let c0_i32_32 : BitVec 32 := 0#32
  let v39 : BitVec 1 := Scalar.cmpi .slt v35 c0_i32_32
  let v40 : BitVec 32 := Scalar.extui v39
  let v41 : BitVec 32 := Scalar.subi v38 v40
  let c16_i32_30 : BitVec 32 := 16#32
  let c0_i32_33 : BitVec 32 := 0#32
  let v42 : BitVec 1 := Scalar.cmpi .sgt c16_i32_30 c0_i32_33
  let v43 : BitVec 32 := Scalar.extui v42
  let c0_i32_34 : BitVec 32 := 0#32
  let v44 : BitVec 1 := Scalar.cmpi .slt c16_i32_30 c0_i32_34
  let v45 : BitVec 32 := Scalar.extui v44
  let v46 : BitVec 32 := Scalar.subi v43 v45
  let v47 : BitVec 1 := Scalar.cmpi .ne v41 v46
  let v48 : BitVec 32 := Scalar.remsi v35 c16_i32_30
  let c0_i32_35 : BitVec 32 := 0#32
  let v49 : BitVec 1 := Scalar.cmpi .ne v48 c0_i32_35
  let v50 : BitVec 1 := Scalar.andi v47 v49
  let v36 : BitVec 32 := Scalar.divsi v35 c16_i32_30
  let c1_i32_36 : BitVec 32 := 1#32
  let v51 : BitVec 32 := Scalar.subi v36 c1_i32_36
  let v52 : BitVec 32 := Scalar.select v50 v51 v36
  let c2_i32_107 : BitVec 32 := 2#32
  let c0_i32_103 : BitVec 32 := 0#32
  let c1_i32_105 : BitVec 32 := 1#32
  let arg21 : BitVec 32 := Scf.iv c0_i32_103 c1_i32_105 k0_t18
  let v160 : BitVec 32 := Scalar.subi c2_i32_107 arg21
  let v165 : BitVec 32 := Scalar.subi v52 v160
  let c2_i32_109 : BitVec 32 := 2#32
  let v166 : BitVec 32 := Scalar.remsi v165 c2_i32_109
  let c2_i32_116 : BitVec 32 := 2#32
  let c0_i32_110 : BitVec 32 := 0#32
  let c1_i32_112 : BitVec 32 := 1#32
  let arg22 : BitVec 32 := Scf.iv c0_i32_110 c1_i32_112 k0_t19
  let v175 : BitVec 32 := Scalar.muli c2_i32_116 arg22
  let c1_i32_117 : BitVec 32 := 1#32
  let v176 : BitVec 32 := Scalar.addi v175 c1_i32_117
  let c0_i32_125 : BitVec 32 := 0#32
  let c0_i32_126 : BitVec 32 := 0#32
  ![v166.toNat, v176.toNat, 0, 0]

def k0_chk15 (v25_0 : BitVec 32) (v25_1 : BitVec 32) (k0_t18 : Fin k0_t18_loop.trips) (k0_t19 : Fin k0_t19_loop.trips) (v171 : BitVec 32) : Prop :=
  (∀ (k0_h14 : k0_cond14 v25_0 v25_1 k0_t18 = 1#1), ∀ (k0_h15 : k0_cond15 v171 = 1#1), ∀ a, (k0_off145 v25_0 v25_1 k0_t18) a + S1.size a ≤ S2.size a) ∧
  (∀ (k0_h14 : k0_cond14 v25_0 v25_1 k0_t18 = 1#1), ∀ (k0_h15 : k0_cond15 v171 = 1#1), ∀ a, (k0_off146 v171) a + S1x16x512.size a ≤ S2600x16x512.size a) ∧
  (∀ (k0_h14 : k0_cond14 v25_0 v25_1 k0_t18 = 1#1), ∀ (k0_h15 : k0_cond15 v171 = 1#1), ∀ a, (k0_off147 v25_0 v25_1 k0_t18 k0_t19) a + S1x1x16x512.size a ≤ S2x32x16x512.size a) ∧
  (∀ (k0_h14 : k0_cond14 v25_0 v25_1 k0_t18 = 1#1), ∀ (k0_h15 : k0_cond15 v171 = 1#1), ∀ (hinb : ∀ a, (k0_off147 v25_0 v25_1 k0_t18 k0_t19) a + S1x1x16x512.size a ≤ S2x32x16x512.size a), (Rect.unit (s := S2x32x16x512) (k0_off147 v25_0 v25_1 k0_t18 k0_t19) S1x1x16x512.size hinb).WholeWords (EltTy.packing .bf16)) ∧
  (∀ (k0_h14 : k0_cond14 v25_0 v25_1 k0_t18 = 1#1), ∀ (k0_h15 : k0_cond15 v171 = 1#1), ∀ (hinb : ∀ a, (k0_off146 v171) a + S1x16x512.size a ≤ S2600x16x512.size a), (Rect.unit (s := S2600x16x512) (k0_off146 v171) S1x16x512.size hinb).WholeWords (EltTy.packing .bf16)) ∧
  (∀ (k0_h14 : k0_cond14 v25_0 v25_1 k0_t18 = 1#1), ∀ (k0_h16 : k0_cond16 v171 = 1#1), ∀ a, (k0_off148 v25_0 v25_1 k0_t18) a + S1.size a ≤ S2.size a) ∧
  (∀ (k0_h14 : k0_cond14 v25_0 v25_1 k0_t18 = 1#1), ∀ (k0_h16 : k0_cond16 v171 = 1#1), ∀ a, (k0_off149 v171) a + S1x16x512.size a ≤ S2600x16x512.size a) ∧
  (∀ (k0_h14 : k0_cond14 v25_0 v25_1 k0_t18 = 1#1), ∀ (k0_h16 : k0_cond16 v171 = 1#1), ∀ a, (k0_off150 v25_0 v25_1 k0_t18 k0_t19) a + S1x1x16x512.size a ≤ S2x32x16x512.size a) ∧
  (∀ (k0_h14 : k0_cond14 v25_0 v25_1 k0_t18 = 1#1), ∀ (k0_h16 : k0_cond16 v171 = 1#1), ∀ (hinb : ∀ a, (k0_off150 v25_0 v25_1 k0_t18 k0_t19) a + S1x1x16x512.size a ≤ S2x32x16x512.size a), (Rect.unit (s := S2x32x16x512) (k0_off150 v25_0 v25_1 k0_t18 k0_t19) S1x1x16x512.size hinb).WholeWords (EltTy.packing .bf16)) ∧
  (∀ (k0_h14 : k0_cond14 v25_0 v25_1 k0_t18 = 1#1), ∀ (k0_h16 : k0_cond16 v171 = 1#1), ∀ (hinb : ∀ a, (k0_off149 v171) a + S1x16x512.size a ≤ S2600x16x512.size a), (Rect.unit (s := S2600x16x512) (k0_off149 v171) S1x16x512.size hinb).WholeWords (EltTy.packing .bf16))
theorem k0_off145_inb : ∀ (v25_0 : BitVec 32) (v25_1 : BitVec 32) (k0_t18 : Fin k0_t18_loop.trips) (k0_t19 : Fin k0_t19_loop.trips) (v171 : BitVec 32) (k0_hw15 : k0_chk15 v25_0 v25_1 k0_t18 k0_t19 v171), ∀ (k0_h14 : k0_cond14 v25_0 v25_1 k0_t18 = 1#1), ∀ (k0_h15 : k0_cond15 v171 = 1#1), ∀ a, (k0_off145 v25_0 v25_1 k0_t18) a + S1.size a ≤ S2.size a := fun v25_0 v25_1 k0_t18 k0_t19 v171 k0_hw15 k0_h14 k0_h15 => k0_hw15.1 k0_h14 k0_h15
theorem k0_off146_inb : ∀ (v25_0 : BitVec 32) (v25_1 : BitVec 32) (k0_t18 : Fin k0_t18_loop.trips) (k0_t19 : Fin k0_t19_loop.trips) (v171 : BitVec 32) (k0_hw15 : k0_chk15 v25_0 v25_1 k0_t18 k0_t19 v171), ∀ (k0_h14 : k0_cond14 v25_0 v25_1 k0_t18 = 1#1), ∀ (k0_h15 : k0_cond15 v171 = 1#1), ∀ a, (k0_off146 v171) a + S1x16x512.size a ≤ S2600x16x512.size a := fun v25_0 v25_1 k0_t18 k0_t19 v171 k0_hw15 k0_h14 k0_h15 => k0_hw15.2.1 k0_h14 k0_h15
theorem k0_off147_inb : ∀ (v25_0 : BitVec 32) (v25_1 : BitVec 32) (k0_t18 : Fin k0_t18_loop.trips) (k0_t19 : Fin k0_t19_loop.trips) (v171 : BitVec 32) (k0_hw15 : k0_chk15 v25_0 v25_1 k0_t18 k0_t19 v171), ∀ (k0_h14 : k0_cond14 v25_0 v25_1 k0_t18 = 1#1), ∀ (k0_h15 : k0_cond15 v171 = 1#1), ∀ a, (k0_off147 v25_0 v25_1 k0_t18 k0_t19) a + S1x1x16x512.size a ≤ S2x32x16x512.size a := fun v25_0 v25_1 k0_t18 k0_t19 v171 k0_hw15 k0_h14 k0_h15 => k0_hw15.2.2.1 k0_h14 k0_h15
theorem k0_off147_wordsbf16 : ∀ (v25_0 : BitVec 32) (v25_1 : BitVec 32) (k0_t18 : Fin k0_t18_loop.trips) (k0_t19 : Fin k0_t19_loop.trips) (v171 : BitVec 32) (k0_hw15 : k0_chk15 v25_0 v25_1 k0_t18 k0_t19 v171), ∀ (k0_h14 : k0_cond14 v25_0 v25_1 k0_t18 = 1#1), ∀ (k0_h15 : k0_cond15 v171 = 1#1), (Rect.unit (s := S2x32x16x512) (k0_off147 v25_0 v25_1 k0_t18 k0_t19) S1x1x16x512.size (k0_off147_inb v25_0 v25_1 k0_t18 k0_t19 v171 k0_hw15 k0_h14 k0_h15)).WholeWords (EltTy.packing .bf16) := fun v25_0 v25_1 k0_t18 k0_t19 v171 k0_hw15 k0_h14 k0_h15 => k0_hw15.2.2.2.1 k0_h14 k0_h15 (k0_off147_inb v25_0 v25_1 k0_t18 k0_t19 v171 k0_hw15 k0_h14 k0_h15)
theorem k0_off146_wordsbf16 : ∀ (v25_0 : BitVec 32) (v25_1 : BitVec 32) (k0_t18 : Fin k0_t18_loop.trips) (k0_t19 : Fin k0_t19_loop.trips) (v171 : BitVec 32) (k0_hw15 : k0_chk15 v25_0 v25_1 k0_t18 k0_t19 v171), ∀ (k0_h14 : k0_cond14 v25_0 v25_1 k0_t18 = 1#1), ∀ (k0_h15 : k0_cond15 v171 = 1#1), (Rect.unit (s := S2600x16x512) (k0_off146 v171) S1x16x512.size (k0_off146_inb v25_0 v25_1 k0_t18 k0_t19 v171 k0_hw15 k0_h14 k0_h15)).WholeWords (EltTy.packing .bf16) := fun v25_0 v25_1 k0_t18 k0_t19 v171 k0_hw15 k0_h14 k0_h15 => k0_hw15.2.2.2.2.1 k0_h14 k0_h15 (k0_off146_inb v25_0 v25_1 k0_t18 k0_t19 v171 k0_hw15 k0_h14 k0_h15)
theorem k0_off148_inb : ∀ (v25_0 : BitVec 32) (v25_1 : BitVec 32) (k0_t18 : Fin k0_t18_loop.trips) (k0_t19 : Fin k0_t19_loop.trips) (v171 : BitVec 32) (k0_hw15 : k0_chk15 v25_0 v25_1 k0_t18 k0_t19 v171), ∀ (k0_h14 : k0_cond14 v25_0 v25_1 k0_t18 = 1#1), ∀ (k0_h16 : k0_cond16 v171 = 1#1), ∀ a, (k0_off148 v25_0 v25_1 k0_t18) a + S1.size a ≤ S2.size a := fun v25_0 v25_1 k0_t18 k0_t19 v171 k0_hw15 k0_h14 k0_h16 => k0_hw15.2.2.2.2.2.1 k0_h14 k0_h16
theorem k0_off149_inb : ∀ (v25_0 : BitVec 32) (v25_1 : BitVec 32) (k0_t18 : Fin k0_t18_loop.trips) (k0_t19 : Fin k0_t19_loop.trips) (v171 : BitVec 32) (k0_hw15 : k0_chk15 v25_0 v25_1 k0_t18 k0_t19 v171), ∀ (k0_h14 : k0_cond14 v25_0 v25_1 k0_t18 = 1#1), ∀ (k0_h16 : k0_cond16 v171 = 1#1), ∀ a, (k0_off149 v171) a + S1x16x512.size a ≤ S2600x16x512.size a := fun v25_0 v25_1 k0_t18 k0_t19 v171 k0_hw15 k0_h14 k0_h16 => k0_hw15.2.2.2.2.2.2.1 k0_h14 k0_h16
theorem k0_off150_inb : ∀ (v25_0 : BitVec 32) (v25_1 : BitVec 32) (k0_t18 : Fin k0_t18_loop.trips) (k0_t19 : Fin k0_t19_loop.trips) (v171 : BitVec 32) (k0_hw15 : k0_chk15 v25_0 v25_1 k0_t18 k0_t19 v171), ∀ (k0_h14 : k0_cond14 v25_0 v25_1 k0_t18 = 1#1), ∀ (k0_h16 : k0_cond16 v171 = 1#1), ∀ a, (k0_off150 v25_0 v25_1 k0_t18 k0_t19) a + S1x1x16x512.size a ≤ S2x32x16x512.size a := fun v25_0 v25_1 k0_t18 k0_t19 v171 k0_hw15 k0_h14 k0_h16 => k0_hw15.2.2.2.2.2.2.2.1 k0_h14 k0_h16
theorem k0_off150_wordsbf16 : ∀ (v25_0 : BitVec 32) (v25_1 : BitVec 32) (k0_t18 : Fin k0_t18_loop.trips) (k0_t19 : Fin k0_t19_loop.trips) (v171 : BitVec 32) (k0_hw15 : k0_chk15 v25_0 v25_1 k0_t18 k0_t19 v171), ∀ (k0_h14 : k0_cond14 v25_0 v25_1 k0_t18 = 1#1), ∀ (k0_h16 : k0_cond16 v171 = 1#1), (Rect.unit (s := S2x32x16x512) (k0_off150 v25_0 v25_1 k0_t18 k0_t19) S1x1x16x512.size (k0_off150_inb v25_0 v25_1 k0_t18 k0_t19 v171 k0_hw15 k0_h14 k0_h16)).WholeWords (EltTy.packing .bf16) := fun v25_0 v25_1 k0_t18 k0_t19 v171 k0_hw15 k0_h14 k0_h16 => k0_hw15.2.2.2.2.2.2.2.2.1 k0_h14 k0_h16 (k0_off150_inb v25_0 v25_1 k0_t18 k0_t19 v171 k0_hw15 k0_h14 k0_h16)
theorem k0_off149_wordsbf16 : ∀ (v25_0 : BitVec 32) (v25_1 : BitVec 32) (k0_t18 : Fin k0_t18_loop.trips) (k0_t19 : Fin k0_t19_loop.trips) (v171 : BitVec 32) (k0_hw15 : k0_chk15 v25_0 v25_1 k0_t18 k0_t19 v171), ∀ (k0_h14 : k0_cond14 v25_0 v25_1 k0_t18 = 1#1), ∀ (k0_h16 : k0_cond16 v171 = 1#1), (Rect.unit (s := S2600x16x512) (k0_off149 v171) S1x16x512.size (k0_off149_inb v25_0 v25_1 k0_t18 k0_t19 v171 k0_hw15 k0_h14 k0_h16)).WholeWords (EltTy.packing .bf16) := fun v25_0 v25_1 k0_t18 k0_t19 v171 k0_hw15 k0_h14 k0_h16 => k0_hw15.2.2.2.2.2.2.2.2.2 k0_h14 k0_h16 (k0_off149_inb v25_0 v25_1 k0_t18 k0_t19 v171 k0_hw15 k0_h14 k0_h16)
-- ==== ReferenceIdeal.lean ====
abbrev S2600x1x16x512 : Shape := ⟨4, ![2600, 1, 16, 512]⟩
abbrev S2600x1x16x64 : Shape := ⟨4, ![2600, 1, 16, 64]⟩
abbrev S2600x1x512 : Shape := ⟨3, ![2600, 1, 512]⟩
abbrev S2600x1x64 : Shape := ⟨3, ![2600, 1, 64]⟩
abbrev S2600x256x656 : Shape := ⟨3, ![2600, 256, 656]⟩
abbrev S2600 : Shape := ⟨1, ![2600]⟩
abbrev S2600x256x16 : Shape := ⟨3, ![2600, 256, 16]⟩
abbrev S2600x256x4x4 : Shape := ⟨4, ![2600, 256, 4, 4]⟩
abbrev S2600x256x4 : Shape := ⟨3, ![2600, 256, 4]⟩
abbrev S2600x256x128 : Shape := ⟨3, ![2600, 256, 128]⟩
abbrev S2600x256x64x2 : Shape := ⟨4, ![2600, 256, 64, 2]⟩
abbrev S2600x256x64 : Shape := ⟨3, ![2600, 256, 64]⟩
abbrev S2600x256x512 : Shape := ⟨3, ![2600, 256, 512]⟩
abbrev S2600x16x512 : Shape := ⟨3, ![2600, 16, 512]⟩
abbrev S2600x16x64 : Shape := ⟨3, ![2600, 16, 64]⟩
abbrev S2600x256x4x128 : Shape := ⟨4, ![2600, 256, 4, 128]⟩
abbrev S2600x256x4x1 : Shape := ⟨4, ![2600, 256, 4, 1]⟩
abbrev S2600x16x256 : Shape := ⟨3, ![2600, 16, 256]⟩
abbrev S2600x16x1 : Shape := ⟨3, ![2600, 16, 1]⟩
abbrev S2600x1x1 : Shape := ⟨3, ![2600, 1, 1]⟩
abbrev S2600x16 : Shape := ⟨2, ![2600, 16]⟩

abbrev nBuf : Space → Nat
  | .hbm => 16
  | .vmem => 9
  | .smem => 0
  | _ => 0

abbrev bufTy : (tb : Table) → Fin (tcTables nBuf tb) → BufTy
  | .hbm, ⟨0, _⟩ => ⟨S2600x1x16x512, .bf16⟩
  | .hbm, ⟨1, _⟩ => ⟨S2600x1x16x64, .bf16⟩
  | .hbm, ⟨2, _⟩ => ⟨S2600x1x512, .bf16⟩
  | .hbm, ⟨3, _⟩ => ⟨S2600x1x64, .bf16⟩
  | .hbm, ⟨4, _⟩ => ⟨S2600x256x656, .i8⟩
  | .hbm, ⟨5, _⟩ => ⟨S2600, .i32⟩
  | .hbm, ⟨6, _⟩ => ⟨S2600x256x16, .i8⟩
  | .hbm, ⟨7, _⟩ => ⟨S2600x256x4x4, .i8⟩
  | .hbm, ⟨8, _⟩ => ⟨S2600x256x4, .f32⟩
  | .hbm, ⟨9, _⟩ => ⟨S2600x256x128, .i8⟩
  | .hbm, ⟨10, _⟩ => ⟨S2600x256x64x2, .i8⟩
  | .hbm, ⟨11, _⟩ => ⟨S2600x256x64, .bf16⟩
  | .hbm, ⟨12, _⟩ => ⟨S2600x256x512, .i8⟩
  | .hbm, ⟨13, _⟩ => ⟨S2600x16x512, .bf16⟩
  | .hbm, ⟨14, _⟩ => ⟨S2600x16x64, .bf16⟩
  | .hbm, ⟨15, _⟩ => ⟨S2600x16x512, .bf16⟩
  | .local _ .vmem, ⟨0, _⟩ => ⟨S2600x256x512, .i8⟩
  | .local _ .vmem, ⟨1, _⟩ => ⟨S2600x256x4, .f32⟩
  | .local _ .vmem, ⟨2, _⟩ => ⟨S2600x256x64, .bf16⟩
  | .local _ .vmem, ⟨3, _⟩ => ⟨S2600x16x512, .bf16⟩
  | .local _ .vmem, ⟨4, _⟩ => ⟨S2600x16x64, .bf16⟩
  | .local _ .vmem, ⟨5, _⟩ => ⟨S2600x1x512, .bf16⟩
  | .local _ .vmem, ⟨6, _⟩ => ⟨S2600x1x64, .bf16⟩
  | .local _ .vmem, ⟨7, _⟩ => ⟨S2600, .i32⟩
  | .local _ .vmem, ⟨8, _⟩ => ⟨S2600x16x512, .bf16⟩
  | _, _ => ⟨S2600x1x16x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2600x256x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2600x256x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2600x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2600x16x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2600x16x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2600x1x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2600x1x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2600 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2600x16x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Bits.lean ====
/- Machine words of small natural numbers, and the words of the slot table.

   The kernel's loop counters, offsets and slot words are 32-bit words; this module reads each scalar operation the
   kernel uses as the natural-number operation it is on small numbers, and gives the three fields of a slot word. -/
module

public import Idealize.ShloMosaic.Lib.Scf
public import Idealize.ShloMosaic.PureOps

@[expose] public section

namespace Cert.Mla

open Idealize.ShloMosaic

/-- The word of a natural number. -/
abbrev nat (n : ℕ) : BitVec 32 := BitVec.ofNat 32 n

theorem toNat_nat {n : ℕ} (h : n < 2 ^ 32) : (nat n).toNat = n := by
  simp only [nat, BitVec.toNat_ofNat]; exact Nat.mod_eq_of_lt h

theorem toInt_nat {n : ℕ} (h : n < 2 ^ 31) : (nat n).toInt = n := by
  rw [BitVec.toInt_eq_toNat_of_lt (by rw [toNat_nat (by omega)]; omega), toNat_nat (by omega)]

theorem nat_inj {a b : ℕ} (ha : a < 2 ^ 32) (hb : b < 2 ^ 32) (h : nat a = nat b) : a = b := by
  rw [← toNat_nat ha, ← toNat_nat hb, h]

theorem msb_nat {n : ℕ} (h : n < 2 ^ 31) : (nat n).msb = false := by
  rw [BitVec.msb_eq_decide, toNat_nat (by omega)]; simpa using h

theorem iv01 (k : ℕ) : Scf.iv 0#32 1#32 k = nat k := by simp [Scf.iv, nat]

theorem addi_nat (a b : ℕ) : Scalar.addi (nat a) (nat b) = nat (a + b) := by
  simp [Scalar.addi, IntOp.addi, nat, BitVec.ofNat_add]

theorem muli_nat (a b : ℕ) : Scalar.muli (nat a) (nat b) = nat (a * b) := by
  simp [Scalar.muli, IntOp.muli, nat, BitVec.ofNat_mul]

theorem subi_nat {a b : ℕ} (h : b ≤ a) (ha : a < 2 ^ 32) : Scalar.subi (nat a) (nat b) = nat (a - b) := by
  apply BitVec.eq_of_toNat_eq
  simp only [Scalar.subi, IntOp.subi, BitVec.toNat_sub, toNat_nat ha, toNat_nat (show b < 2 ^ 32 by omega), toNat_nat (show a - b < 2 ^ 32 by omega)]
  omega

theorem not_corner {a b : ℕ} (ha : a < 2 ^ 31) (hb : 0 < b) (hb' : b < 2 ^ 31) : ¬ IntOp.SDivCorner (nat a) (nat b) := by
  rintro (h | ⟨h, -⟩)
  · have := congrArg BitVec.toNat h; rw [toNat_nat (by omega)] at this; simp at this; omega
  · have := congrArg BitVec.toNat h; rw [toNat_nat (by omega)] at this; simp at this; omega

theorem remsi_nat {a b : ℕ} (ha : a < 2 ^ 31) (hb : 0 < b) (hb' : b < 2 ^ 31) : Scalar.remsi (nat a) (nat b) = nat (a % b) := by
  have hm : a % b < b := Nat.mod_lt _ hb
  unfold Scalar.remsi IntOp.remsi
  rw [if_neg (not_corner ha hb hb')]
  apply BitVec.eq_of_toNat_eq
  rw [BitVec.srem_eq, msb_nat ha, msb_nat hb']
  show (nat a % nat b).toNat = _
  rw [BitVec.toNat_umod, toNat_nat (by omega), toNat_nat (by omega), toNat_nat (by omega)]

theorem divsi_nat {a b : ℕ} (ha : a < 2 ^ 31) (hb : 0 < b) (hb' : b < 2 ^ 31) : Scalar.divsi (nat a) (nat b) = nat (a / b) := by
  have hm : a / b ≤ a := Nat.div_le_self _ _
  unfold Scalar.divsi IntOp.divsi
  rw [if_neg (not_corner ha hb hb')]
  apply BitVec.eq_of_toNat_eq
  rw [BitVec.sdiv_eq, msb_nat ha, msb_nat hb']
  show (nat a / nat b).toNat = _
  rw [BitVec.toNat_udiv, toNat_nat (by omega), toNat_nat (by omega), toNat_nat (by omega)]

theorem cmpi_slt_nat {a b : ℕ} (ha : a < 2 ^ 31) (hb : b < 2 ^ 31) : Scalar.cmpi .slt (nat a) (nat b) = BitVec.ofBool (decide (a < b)) := by
  simp only [Scalar.cmpi, IntOp.cmpi, BitVec.slt, toInt_nat ha, toInt_nat hb, Int.ofNat_lt]

theorem cmpi_sgt_nat {a b : ℕ} (ha : a < 2 ^ 31) (hb : b < 2 ^ 31) : Scalar.cmpi .sgt (nat a) (nat b) = BitVec.ofBool (decide (b < a)) := by
  simp only [Scalar.cmpi, IntOp.cmpi, BitVec.slt, toInt_nat ha, toInt_nat hb, Int.ofNat_lt]

theorem cmpi_sge_nat {a b : ℕ} (ha : a < 2 ^ 31) (hb : b < 2 ^ 31) : Scalar.cmpi .sge (nat a) (nat b) = BitVec.ofBool (decide (b ≤ a)) := by
  simp only [Scalar.cmpi, IntOp.cmpi, BitVec.sle, toInt_nat ha, toInt_nat hb, Int.ofNat_le]

theorem cmpi_eq_nat {a b : ℕ} (ha : a < 2 ^ 32) (hb : b < 2 ^ 32) : Scalar.cmpi .eq (nat a) (nat b) = BitVec.ofBool (decide (a = b)) := by
  simp only [Scalar.cmpi, IntOp.cmpi]
  congr 1
  by_cases h : a = b
  · subst h; simp
  · have : nat a ≠ nat b := fun e => h (nat_inj ha hb e)
    simp only [h, decide_false]; simpa using this

theorem cmpi_ne_nat {a b : ℕ} (ha : a < 2 ^ 32) (hb : b < 2 ^ 32) : Scalar.cmpi .ne (nat a) (nat b) = BitVec.ofBool (decide (a ≠ b)) := by
  simp only [Scalar.cmpi, IntOp.cmpi]
  congr 1
  by_cases h : a = b
  · subst h; simp
  · have : nat a ≠ nat b := fun e => h (nat_inj ha hb e)
    simp only [ne_eq, h, not_false_eq_true, decide_true]; simpa using this

/-- A flag widened and compared with zero is the flag. -/
theorem flag (x : BitVec 1) : Scalar.cmpi .ne (Scalar.extui x) 0#32 = x := by
  revert x; decide

theorem maxsi_nat_zero {a : ℕ} (ha : a < 2 ^ 31) : Scalar.maxsi (nat a) 0#32 = nat a := by
  show IntOp.maxsi (nat a) (nat 0) = _
  unfold IntOp.maxsi
  by_cases h : (nat 0).slt (nat a)
  · rw [if_pos h]
  · rw [if_neg h]
    simp only [BitVec.slt, toInt_nat ha, toInt_nat (show 0 < 2 ^ 31 by omega), Int.ofNat_lt, decide_eq_true_eq] at h
    congr 1; omega

/-- The number of steps the kernel computes from the number `N` of slots: `N / 16` rounded up, through the signed
    floor division the compiler writes out. -/
theorem steps_nat {N : ℕ} (hN : N < 2 ^ 30) (v : BitVec 32) (hv : v = nat N) :
    (let v35 : BitVec 32 := Scalar.addi v 15#32
     let v36 : BitVec 32 := Scalar.divsi v35 16#32
     let v41 : BitVec 32 := Scalar.subi (Scalar.extui (Scalar.cmpi .sgt v35 0#32)) (Scalar.extui (Scalar.cmpi .slt v35 0#32))
     let v46 : BitVec 32 := Scalar.subi (Scalar.extui (Scalar.cmpi .sgt 16#32 0#32)) (Scalar.extui (Scalar.cmpi .slt 16#32 0#32))
     let v50 : BitVec 1 := Scalar.andi (Scalar.cmpi .ne v41 v46) (Scalar.cmpi .ne (Scalar.remsi v35 16#32) 0#32)
     Scalar.select v50 (Scalar.subi v36 1#32) v36) = nat ((N + 15) / 16) := by
  subst hv
  have e : Scalar.addi (nat N) 15#32 = nat (N + 15) := addi_nat N 15
  simp only [e]
  have h1 : Scalar.cmpi .sgt (nat (N + 15)) 0#32 = 1#1 := by
    rw [show (0#32) = nat 0 from rfl, cmpi_sgt_nat (by omega) (by omega)]; simp
  have h2 : Scalar.cmpi .slt (nat (N + 15)) 0#32 = 0#1 := by
    rw [show (0#32) = nat 0 from rfl, cmpi_slt_nat (by omega) (by omega)]; simp
  rw [h1, h2, show Scalar.andi (Scalar.cmpi .ne (Scalar.subi (Scalar.extui 1#1) (Scalar.extui 0#1)) (Scalar.subi (Scalar.extui (Scalar.cmpi .sgt 16#32 0#32)) (Scalar.extui (Scalar.cmpi .slt 16#32 0#32)))) (Scalar.cmpi .ne (Scalar.remsi (nat (N + 15)) 16#32) 0#32) = 0#1 from ?_]
  · show Scalar.divsi (nat (N + 15)) (nat 16) = _
    exact divsi_nat (by omega) (by omega) (by omega)
  · generalize Scalar.cmpi .ne (Scalar.remsi (nat (N + 15)) 16#32) 0#32 = x
    revert x; decide

/-! ## Slot words -/

/-- A slot word: the first row `a`, the second row `b`, and the slot's kind. -/
abbrev word (a b k : ℕ) : BitVec 32 := nat (a + 4096 * b + 16777216 * k)

/-- The fields of a slot word: first row, second row, kind, and the position in the cache of the second half. -/
def wa (w : BitVec 32) : ℕ := (Scalar.andi w 4095#32).toNat
def wb (w : BitVec 32) : ℕ := (Scalar.andi (Scalar.shrsi w 12#32) 4095#32).toNat
def wo (w : BitVec 32) : ℕ := (Scalar.select (Scalar.cmpi .eq (Scalar.shrsi w 24#32) 2#32) 128#32 0#32).toNat
/-- Whether the slot's first, respectively second, half computes a row of the result. -/
def enA (w : BitVec 32) : Prop := Scalar.cmpi .ne (Scalar.extui (Scalar.cmpi .ne (Scalar.shrsi w 24#32) 3#32)) 0#32 = 1#1
def enB (w : BitVec 32) : Prop := Scalar.cmpi .ne (Scalar.extui (Scalar.cmpi .eq (Scalar.shrsi w 24#32) 1#32)) 0#32 = 1#1

instance (w : BitVec 32) : Decidable (enA w) := inferInstanceAs (Decidable (_ = _))
instance (w : BitVec 32) : Decidable (enB w) := inferInstanceAs (Decidable (_ = _))

theorem andi_4095 (w : BitVec 32) : (Scalar.andi w 4095#32).toNat = w.toNat % 4096 := by
  simp only [Scalar.andi, IntOp.andi, BitVec.toNat_and]
  exact Nat.and_two_pow_sub_one_eq_mod w.toNat 12

theorem shrsi_nat {n s : ℕ} (hn : n < 2 ^ 31) (hs : s < 32) : Scalar.shrsi (nat n) (nat s) = nat (n / 2 ^ s) := by
  have hd : n / 2 ^ s ≤ n := Nat.div_le_self _ _
  unfold Scalar.shrsi IntOp.shrsi
  rw [if_pos (by rw [toNat_nat (by omega)]; exact hs)]
  rw [show (nat n).sshiftRight' (nat s) = (nat n).sshiftRight (nat s).toNat from rfl, BitVec.sshiftRight_eq_of_msb_false (msb_nat hn), toNat_nat (n := s) (by omega)]
  apply BitVec.eq_of_toNat_eq
  rw [BitVec.toNat_ushiftRight, toNat_nat (by omega), toNat_nat (by omega), Nat.shiftRight_eq_div_pow]

section
variable {a b k : ℕ} (ha : a < 4096) (hb : b < 4096) (hk : k < 4)
include ha hb hk

theorem wa_word : wa (word a b k) = a := by
  unfold wa; rw [andi_4095, toNat_nat (by omega)]; omega

theorem wb_word : wb (word a b k) = b := by
  unfold wb
  rw [andi_4095, show Scalar.shrsi (word a b k) 12#32 = _ from shrsi_nat (s := 12) (by omega) (by omega), toNat_nat (by omega)]; omega

theorem kind_word : Scalar.shrsi (word a b k) 24#32 = nat k := by
  rw [show Scalar.shrsi (word a b k) 24#32 = _ from shrsi_nat (s := 24) (by omega) (by omega)]
  congr 1; omega

theorem enA_word : enA (word a b k) ↔ k ≠ 3 := by
  unfold enA; rw [flag, kind_word ha hb hk]
  rw [show Scalar.cmpi .ne (nat k) 3#32 = _ from cmpi_ne_nat (b := 3) (by omega) (by omega)]
  by_cases h : k = 3 <;> simp [h]

theorem enB_word : enB (word a b k) ↔ k = 1 := by
  unfold enB; rw [flag, kind_word ha hb hk]
  rw [show Scalar.cmpi .eq (nat k) 1#32 = _ from cmpi_eq_nat (b := 1) (by omega) (by omega)]
  by_cases h : k = 1 <;> simp [h]

theorem wo_word : wo (word a b k) = if k = 2 then 128 else 0 := by
  unfold wo; rw [kind_word ha hb hk]
  rw [show Scalar.cmpi .eq (nat k) 2#32 = _ from cmpi_eq_nat (b := 2) (by omega) (by omega)]
  by_cases h : k = 2 <;> simp [h, Scalar.select]

omit ha hb hk in
theorem or_shl {x y i : ℕ} (hx : x < 2 ^ i) : x ||| (y * 2 ^ i) = x + 2 ^ i * y := by
  rw [Nat.mul_comm, Nat.or_comm, Nat.add_comm, Nat.two_pow_add_eq_or_of_lt hx]

theorem word_eq : Scalar.ori (Scalar.ori (nat a) (Scalar.shli (nat b) 12#32)) (nat (16777216 * k)) = word a b k := by
  have h1 : Scalar.shli (nat b) 12#32 = nat (b * 2 ^ 12) := by
    unfold Scalar.shli IntOp.shli
    rw [if_pos (by decide)]
    apply BitVec.eq_of_toNat_eq
    rw [BitVec.shiftLeft_eq', BitVec.toNat_shiftLeft, toNat_nat (by omega), toNat_nat (by omega), Nat.shiftLeft_eq]
    simp
  rw [h1]
  apply BitVec.eq_of_toNat_eq
  simp only [Scalar.ori, IntOp.ori, BitVec.toNat_or]
  rw [toNat_nat (by omega), toNat_nat (by omega), toNat_nat (by omega), toNat_nat (by omega)]
  rw [or_shl (i := 12) (by omega), show 16777216 * k = k * 2 ^ 24 by omega, or_shl (i := 24) (by omega)]
  omega
end

theorem wo_cases (w : BitVec 32) : wo w = 0 ∨ wo w = 128 := by
  unfold wo
  generalize Scalar.cmpi .eq (Scalar.shrsi w 24#32) 2#32 = x
  revert x; decide

end Cert.Mla

end
-- ==== Proof.Table.lean ====
/- The slot table.

   The kernel lays the 2600 rows out in slots: a long row (more than 128 cached positions) takes a slot of its own,
   two short rows share one, and a short row left over takes the last one. This module is the table's construction
   as a sequence of small steps over natural numbers, and what the finished table says: the rows computed by the
   slots are all the rows, each exactly once. -/
module

public import proofs.«01_k».proof.Proof.Bits

@[expose] public section

namespace Cert.Mla

open Idealize.ShloMosaic

/-- Position `p` of the table is the first half of slot `p / 2` for `p` even and its second half for `p` odd: whether
    it computes a row, and which. -/
def en (T : ℕ → BitVec 32) (p : ℕ) : Prop := if p % 2 = 0 then enA (T (p / 2)) else enB (T (p / 2))
def rowAt (T : ℕ → BitVec 32) (p : ℕ) : ℕ := if p % 2 = 0 then wa (T (p / 2)) else wb (T (p / 2))

instance (T : ℕ → BitVec 32) (p : ℕ) : Decidable (en T p) := by unfold en; infer_instance

theorem en_congr {T T' : ℕ → BitVec 32} {p : ℕ} (h : T (p / 2) = T' (p / 2)) : en T p ↔ en T' p := by unfold en; rw [h]
theorem rowAt_congr {T T' : ℕ → BitVec 32} {p : ℕ} (h : T (p / 2) = T' (p / 2)) : rowAt T p = rowAt T' p := by unfold rowAt; rw [h]

/-- What a slot in use holds: a single short row, two different short rows, or the two halves of one long row. -/
def SlotOK (long : ℕ → Prop) (i : ℕ) (w : BitVec 32) : Prop :=
  ∃ a b k : ℕ, w = word a b k ∧ a < i ∧ b < i ∧ ((k = 0 ∧ b = 0 ∧ ¬ long a) ∨ (k = 1 ∧ a ≠ b ∧ ¬ long a ∧ ¬ long b) ∨ (k = 2 ∧ b = a ∧ long a))

theorem SlotOK.mono {long : ℕ → Prop} {i j : ℕ} {w : BitVec 32} (h : SlotOK long i w) (hij : i ≤ j) : SlotOK long j w := by
  obtain ⟨a, b, k, h1, h2, h3, h4⟩ := h
  exact ⟨a, b, k, h1, by omega, by omega, h4⟩

/-- The table after the first `i` rows: `n` slots in use, at most one short row `pend` waiting for a partner. -/
structure Built (long : ℕ → Prop) (T : ℕ → BitVec 32) (i n : ℕ) (pend : Option ℕ) : Prop where
  hi : i ≤ 2600
  le : n + pend.toList.length ≤ i
  ge : i ≤ 2 * n + pend.toList.length
  hp : ∀ p, pend = some p → p < i ∧ ¬ long p
  slot : ∀ σ < n, SlotOK long i (T σ)
  surj : ∀ b < i, pend ≠ some b → ∃ p < 2 * n, en T p ∧ rowAt T p = b
  inj : ∀ p q, p < 2 * n → q < 2 * n → en T p → en T q → rowAt T p = rowAt T q → p = q
  mem : ∀ p < 2 * n, en T p → rowAt T p < i ∧ pend ≠ some (rowAt T p)

theorem Built.zero (long : ℕ → Prop) (T : ℕ → BitVec 32) : Built long T 0 0 none :=
  ⟨by omega, by simp, by simp, by simp, by omega, by omega, by omega, by omega⟩

theorem en_even {T : ℕ → BitVec 32} {n : ℕ} : en T (2 * n) ↔ enA (T n) := by
  unfold en; rw [if_pos (by omega), show 2 * n / 2 = n by omega]
theorem en_odd {T : ℕ → BitVec 32} {n : ℕ} : en T (2 * n + 1) ↔ enB (T n) := by
  unfold en; rw [if_neg (by omega), show (2 * n + 1) / 2 = n by omega]
theorem rowAt_even {T : ℕ → BitVec 32} {n : ℕ} : rowAt T (2 * n) = wa (T n) := by
  unfold rowAt; rw [if_pos (by omega), show 2 * n / 2 = n by omega]
theorem rowAt_odd {T : ℕ → BitVec 32} {n : ℕ} : rowAt T (2 * n + 1) = wb (T n) := by
  unfold rowAt; rw [if_neg (by omega), show (2 * n + 1) / 2 = n by omega]

section
variable {long : ℕ → Prop} {T T' : ℕ → BitVec 32} {i n : ℕ} {pend : Option ℕ}

/-- Adding one slot: the rows it computes leave the waiting row and the rows not seen yet, and join the rows placed. -/
theorem Built.push (h : Built long T i n pend) (hT : ∀ σ < n, T' σ = T σ) {a b k i' : ℕ} {pend' : Option ℕ}
    (hw : T' n = word a b k) (hs : SlotOK long i' (T' n)) (hi' : i' ≤ 2600) (hii : i ≤ i') (hk : k < 3)
    (ha : a < 4096) (hb : b < 4096)
    (hle : n + 1 + pend'.toList.length ≤ i') (hge : i' ≤ 2 * (n + 1) + pend'.toList.length)
    (hp' : ∀ p, pend' = some p → p < i' ∧ ¬ long p)
    (hab : k = 1 → a ≠ b)
    (hnewa : a < i' ∧ pend' ≠ some a ∧ (a < i → pend = some a))
    (hnewb : k = 1 → b < i' ∧ pend' ≠ some b ∧ (b < i → pend = some b))
    (hold : ∀ r < i, pend ≠ some r → pend' ≠ some r)
    (hcov : ∀ r < i', pend' ≠ some r → r = a ∨ (k = 1 ∧ r = b) ∨ (r < i ∧ pend ≠ some r)) :
    Built long T' i' (n + 1) pend' := by
  have hA : enA (T' n) := by rw [hw]; exact (enA_word ha hb (by omega)).2 (by omega)
  have hB : enB (T' n) ↔ k = 1 := by rw [hw]; exact enB_word ha hb (by omega)
  have hwa : wa (T' n) = a := by rw [hw]; exact wa_word ha hb (by omega)
  have hwb : wb (T' n) = b := by rw [hw]; exact wb_word ha hb (by omega)
  have e1 : ∀ p < 2 * n, (en T' p ↔ en T p) := fun p hp => en_congr (hT _ (by omega))
  have e2 : ∀ p < 2 * n, rowAt T' p = rowAt T p := fun p hp => rowAt_congr (hT _ (by omega))
  -- every position of the longer table is an old one, the new slot's first half, or its second half
  have cases : ∀ p < 2 * (n + 1), en T' p → (p < 2 * n ∧ en T p ∧ rowAt T' p = rowAt T p) ∨ (p = 2 * n ∧ rowAt T' p = a) ∨ (p = 2 * n + 1 ∧ k = 1 ∧ rowAt T' p = b) := by
    intro p hp he
    rcases lt_trichotomy p (2 * n) with h1 | h1 | h1
    · exact .inl ⟨h1, (e1 p h1).1 he, e2 p h1⟩
    · subst h1; exact .inr (.inl ⟨rfl, by rw [rowAt_even, hwa]⟩)
    · have : p = 2 * n + 1 := by omega
      subst this
      exact .inr (.inr ⟨rfl, hB.1 (en_odd.1 he), by rw [rowAt_odd, hwb]⟩)
  refine ⟨hi', hle, hge, hp', ?_, ?_, ?_, ?_⟩
  · intro σ hσ
    rcases Nat.lt_or_ge σ n with h1 | h1
    · rw [hT σ h1]; exact (h.slot σ h1).mono hii
    · have : σ = n := by omega
      subst this; exact hs
  · intro r hr hpr
    rcases hcov r hr hpr with h1 | ⟨h1, h2⟩ | ⟨h1, h2⟩
    · exact ⟨2 * n, by omega, en_even.2 hA, by rw [rowAt_even, hwa, h1]⟩
    · exact ⟨2 * n + 1, by omega, en_odd.2 (hB.2 h1), by rw [rowAt_odd, hwb, h2]⟩
    · obtain ⟨p, hp, hep, hrp⟩ := h.surj r h1 h2
      exact ⟨p, by omega, (e1 p hp).2 hep, by rw [e2 p hp, hrp]⟩
  · intro p q hp hq hep heq hrow
    rcases cases p hp hep with ⟨p1, p2, p3⟩ | ⟨p1, p3⟩ | ⟨p1, pk, p3⟩ <;>
      rcases cases q hq heq with ⟨q1, q2, q3⟩ | ⟨q1, q3⟩ | ⟨q1, qk, q3⟩
    · exact h.inj p q p1 q1 p2 q2 (by rw [← p3, ← q3, hrow])
    · exact absurd (hnewa.2.2 (by have := (h.mem p p1 p2).1; rw [← p3, hrow, q3] at this; exact this)) (by have := (h.mem p p1 p2).2; rw [← p3, hrow, q3] at this; exact this)
    · exact absurd ((hnewb qk).2.2 (by have := (h.mem p p1 p2).1; rw [← p3, hrow, q3] at this; exact this)) (by have := (h.mem p p1 p2).2; rw [← p3, hrow, q3] at this; exact this)
    · exact absurd (hnewa.2.2 (by have := (h.mem q q1 q2).1; rw [← q3, ← hrow, p3] at this; exact this)) (by have := (h.mem q q1 q2).2; rw [← q3, ← hrow, p3] at this; exact this)
    · rw [p1, q1]
    · exact absurd (by rw [← p3, hrow, q3]) (hab qk)
    · exact absurd ((hnewb pk).2.2 (by have := (h.mem q q1 q2).1; rw [← q3, ← hrow, p3] at this; exact this)) (by have := (h.mem q q1 q2).2; rw [← q3, ← hrow, p3] at this; exact this)
    · exact absurd (by rw [← q3, ← hrow, p3]) (hab pk)
    · rw [p1, q1]
  · intro p hp hep
    rcases cases p hp hep with ⟨p1, p2, p3⟩ | ⟨p1, p3⟩ | ⟨p1, pk, p3⟩
    · rw [p3]; obtain ⟨h1, h2⟩ := h.mem p p1 p2
      exact ⟨by omega, hold _ h1 h2⟩
    · rw [p3]; exact ⟨hnewa.1, hnewa.2.1⟩
    · rw [p3]; exact ⟨(hnewb pk).1, (hnewb pk).2.1⟩

/-- A table that differs beyond its slots is the same table. -/
theorem Built.congr (h : Built long T i n pend) (hT : ∀ σ < n, T' σ = T σ) : Built long T' i n pend := by
  have e1 : ∀ p < 2 * n, (en T' p ↔ en T p) := fun p hp => en_congr (hT _ (by omega))
  have e2 : ∀ p < 2 * n, rowAt T' p = rowAt T p := fun p hp => rowAt_congr (hT _ (by omega))
  refine ⟨h.hi, h.le, h.ge, h.hp, fun σ hσ => by rw [hT σ hσ]; exact h.slot σ hσ, ?_, ?_, ?_⟩
  · intro b hb hpb
    obtain ⟨p, hp, hep, hrp⟩ := h.surj b hb hpb
    exact ⟨p, hp, (e1 p hp).2 hep, by rw [e2 p hp, hrp]⟩
  · intro p q hp hq hep heq hr
    exact h.inj p q hp hq ((e1 p hp).1 hep) ((e1 q hq).1 heq) (by rw [← e2 p hp, ← e2 q hq, hr])
  · intro p hp hep
    rw [e2 p hp]; exact h.mem p hp ((e1 p hp).1 hep)

/-- The next row is long: it takes a slot. -/
theorem Built.stepLong (h : Built long T i n pend) (hi : i < 2600) (hT : ∀ σ < n, T' σ = T σ) (hw : T' n = word i i 2) (hl : long i) :
    Built long T' (i + 1) (n + 1) pend := by
  have hpi : pend ≠ some i := fun e => absurd (h.hp i e).1 (by omega)
  have hle := h.le
  have hge := h.ge
  refine h.push hT hw ⟨i, i, 2, hw, by omega, by omega, .inr (.inr ⟨rfl, rfl, hl⟩)⟩ (by omega) (by omega) (by omega) (by omega) (by omega)
    (by omega) (by omega) (fun p hp => ⟨by have := (h.hp p hp).1; omega, (h.hp p hp).2⟩) (by omega) ⟨by omega, hpi, by omega⟩ (by omega) (fun _ _ h => h) ?_
  intro r hr hpr
  rcases Nat.lt_or_ge r i with h1 | h1
  · exact .inr (.inr ⟨h1, hpr⟩)
  · exact .inl (by omega)

/-- The next row is short and one is waiting: the two share a slot. -/
theorem Built.stepPair {p : ℕ} (h : Built long T i n (some p)) (hi : i < 2600) (hT : ∀ σ < n, T' σ = T σ) (hw : T' n = word p i 1) (hl : ¬ long i) :
    Built long T' (i + 1) (n + 1) none := by
  obtain ⟨hp, hpl⟩ := h.hp p rfl
  have hle := h.le
  have hge := h.ge
  simp only [Option.toList_some, List.length_singleton] at hle hge
  refine h.push hT hw ⟨p, i, 1, hw, by omega, by omega, .inr (.inl ⟨rfl, by omega, hpl, hl⟩)⟩ (by omega) (by omega) (by omega) (by omega) (by omega)
    (by simp; omega) (by simp; omega) (by simp) (by omega) ⟨by omega, by simp, fun _ => rfl⟩ (fun _ => ⟨by omega, by simp, by omega⟩) (by simp) ?_
  intro r hr _
  rcases Nat.lt_trichotomy r p with h1 | h1 | h1
  · exact .inr (.inr ⟨by omega, fun e => by cases e; omega⟩)
  · exact .inl h1
  · rcases Nat.lt_or_ge r i with h2 | h2
    · exact .inr (.inr ⟨by omega, fun e => by cases e; omega⟩)
    · exact .inr (.inl ⟨rfl, by omega⟩)

/-- The next row is short and none is waiting: it waits. -/
theorem Built.stepWait (h : Built long T i n none) (hi : i < 2600) (hT : ∀ σ < n, T' σ = T σ) (hl : ¬ long i) :
    Built long T' (i + 1) n (some i) := by
  have h' := h.congr hT
  have hle := h.le
  have hge := h.ge
  simp only [Option.toList_none, List.length_nil] at hle hge
  refine ⟨by omega, by simp; omega, by simp; omega, fun p hp => by cases hp; exact ⟨by omega, hl⟩, fun σ hσ => (h'.slot σ hσ).mono (by omega), ?_, h'.inj, ?_⟩
  · intro b hb hpb
    have : b ≠ i := fun e => hpb (by rw [e])
    exact h'.surj b (by omega) (by simp)
  · intro p hp hep
    have := (h'.mem p hp hep).1
    exact ⟨by omega, fun e => by cases e; omega⟩

/-- The row left waiting takes the last slot. -/
theorem Built.stepLast {p : ℕ} (h : Built long T i n (some p)) (hT : ∀ σ < n, T' σ = T σ) (hw : T' n = word p 0 0) :
    Built long T' i (n + 1) none := by
  obtain ⟨hp, hpl⟩ := h.hp p rfl
  have hle := h.le
  have hge := h.ge
  have hi := h.hi
  simp only [Option.toList_some, List.length_singleton] at hle hge
  refine h.push hT hw ⟨p, 0, 0, hw, by omega, by omega, .inl ⟨rfl, rfl, hpl⟩⟩ (by omega) (by omega) (by omega) (by omega) (by omega)
    (by simp; omega) (by simp; omega) (by simp) (by omega) ⟨by omega, by simp, fun _ => rfl⟩ (by omega) (by simp) ?_
  intro r hr _
  by_cases h1 : r = p
  · exact .inl h1
  · exact .inr (.inr ⟨by omega, fun e => by cases e; omega⟩)
end

/-- THE FINISHED TABLE: `N` slots in use, each as `SlotOK` says, the next 16 empty; and the rows the positions compute
    are all 2600 rows, each once. -/
structure Table (long : ℕ → Prop) (T : ℕ → BitVec 32) (N : ℕ) : Prop where
  le : N ≤ 2600
  ge : 1300 ≤ N
  slot : ∀ σ < N, SlotOK long 2600 (T σ)
  empty : ∀ σ, N ≤ σ → σ < N + 16 → T σ = word 0 0 3
  surj : ∀ b < 2600, ∃ p < 2 * N, en T p ∧ rowAt T p = b
  inj : ∀ p q, p < 2 * N → q < 2 * N → en T p → en T q → rowAt T p = rowAt T q → p = q

theorem Built.table {long : ℕ → Prop} {T T' : ℕ → BitVec 32} {N : ℕ} (h : Built long T 2600 N none) (hT : ∀ σ < N, T' σ = T σ)
    (he : ∀ σ, N ≤ σ → σ < N + 16 → T' σ = word 0 0 3) : Table long T' N := by
  have h' := h.congr hT
  have hle := h.le
  have hge := h.ge
  simp only [Option.toList_none, List.length_nil] at hle hge
  exact ⟨by omega, by omega, h'.slot, he, fun b hb => h'.surj b hb (by simp), h'.inj⟩

/-- The number of steps of 16 slots. -/
def stepsOf (N : ℕ) : ℕ := (N + 15) / 16

section
variable {long : ℕ → Prop} {T : ℕ → BitVec 32} {N : ℕ} (h : Table long T N)
include h

theorem Table.steps_ge : 82 ≤ stepsOf N := by have := h.ge; unfold stepsOf; omega
theorem Table.steps_le : stepsOf N ≤ 163 := by have := h.le; unfold stepsOf; omega
omit h in
theorem steps_slots (N : ℕ) : 16 * stepsOf N ≤ N + 15 ∧ N ≤ 16 * stepsOf N := by unfold stepsOf; omega

/-- Both halves of every slot up to the last step name a row. -/
theorem Table.wa_lt {σ : ℕ} (hσ : σ < 16 * stepsOf N) : wa (T σ) < 2600 := by
  have := (steps_slots N).1
  rcases Nat.lt_or_ge σ N with h1 | h1
  · obtain ⟨a, b, k, hw, ha, hb, hk⟩ := h.slot σ h1
    rw [hw, wa_word (by omega) (by omega) (by omega)]; exact ha
  · rw [h.empty σ h1 (by omega), wa_word (by omega) (by omega) (by omega)]; omega
theorem Table.wb_lt {σ : ℕ} (hσ : σ < 16 * stepsOf N) : wb (T σ) < 2600 := by
  have := (steps_slots N).1
  rcases Nat.lt_or_ge σ N with h1 | h1
  · obtain ⟨a, b, k, hw, ha, hb, hk⟩ := h.slot σ h1
    rw [hw, wb_word (by omega) (by omega) (by omega)]; exact hb
  · rw [h.empty σ h1 (by omega), wb_word (by omega) (by omega) (by omega)]; omega
theorem Table.rowAt_lt {p : ℕ} (hp : p < 32 * stepsOf N) : rowAt T p < 2600 := by
  unfold rowAt; split
  · exact h.wa_lt (by omega)
  · exact h.wb_lt (by omega)

/-- A position that computes a row lies in a slot in use. -/
theorem Table.en_lt {p : ℕ} (hp : p < 32 * stepsOf N) (he : en T p) : p < 2 * N := by
  have := (steps_slots N).1
  by_contra hc
  have hT := h.empty (p / 2) (by omega) (by omega)
  unfold en at he
  rw [hT] at he
  split at he
  · exact (enA_word (by omega) (by omega) (by omega)).1 he rfl
  · exact absurd ((enB_word (by omega) (by omega) (by omega)).1 he) (by omega)

theorem Table.inj' {p q : ℕ} (hp : p < 32 * stepsOf N) (hq : q < 32 * stepsOf N) (ep : en T p) (eq : en T q) (hr : rowAt T p = rowAt T q) : p = q :=
  h.inj p q (h.en_lt hp ep) (h.en_lt hq eq) ep eq hr

/-- The position that computes row `b`. -/
noncomputable def Table.pos (b : Fin 2600) : ℕ := (h.surj b.val b.isLt).choose
theorem Table.pos_lt (b : Fin 2600) : h.pos b < 32 * stepsOf N := by
  have := (h.surj b.val b.isLt).choose_spec.1
  have := (steps_slots N).2
  unfold Table.pos; omega
theorem Table.en_pos (b : Fin 2600) : en T (h.pos b) := (h.surj b.val b.isLt).choose_spec.2.1
theorem Table.rowAt_pos (b : Fin 2600) : rowAt T (h.pos b) = b.val := (h.surj b.val b.isLt).choose_spec.2.2
/-- The row a position computes, and that its position is that one. -/
theorem Table.pos_rowAt {p : ℕ} (hp : p < 32 * stepsOf N) (he : en T p) : h.pos ⟨rowAt T p, h.rowAt_lt hp⟩ = p :=
  h.inj' (h.pos_lt _) hp (h.en_pos _) he (h.rowAt_pos _)
theorem Table.pos_eq_iff {p : ℕ} (hp : p < 32 * stepsOf N) (he : en T p) (b : Fin 2600) : h.pos b = p ↔ b = ⟨rowAt T p, h.rowAt_lt hp⟩ := by
  constructor
  · intro e; ext; rw [← h.rowAt_pos b, e]
  · rintro rfl; exact h.pos_rowAt hp he
end

end Cert.Mla

end
-- ==== Proof.Offs.lean ====
module

public import proofs.«01_k».proof.KernelIdeal
public import proofs.«01_k».proof.Proof.Table
public import Idealize.ShloMosaic.Lib.Affine

/-!
The offsets, conditions and side conditions of the kernel as plain numbers: which word of the slot table, which
ring place and which row every access of the body names.
-/

@[expose] public section

namespace Cert.KernelIdeal

open Idealize.ShloMosaic Cert.Mla

/-- The number of steps, as the body computes it from the number of full slots and the waiting row. -/
def stepsW (v0 v1 : BitVec 32) : BitVec 32 :=
  let v33 := Scalar.addi v0 (Scalar.select (Scalar.cmpi .sge v1 0#32) 1#32 0#32)
  let v35 := Scalar.addi v33 15#32
  let v36 := Scalar.divsi v35 16#32
  let v41 := Scalar.subi (Scalar.extui (Scalar.cmpi .sgt v35 0#32)) (Scalar.extui (Scalar.cmpi .slt v35 0#32))
  let v46 := Scalar.subi (Scalar.extui (Scalar.cmpi .sgt 16#32 0#32)) (Scalar.extui (Scalar.cmpi .slt 16#32 0#32))
  Scalar.select (Scalar.andi (Scalar.cmpi .ne v41 v46) (Scalar.cmpi .ne (Scalar.remsi v35 16#32) 0#32)) (Scalar.subi v36 1#32) v36

/-- What the two carried words of the building loop stand for: `N` slots in all, and so `K` steps. -/
structure Built' (v0 v1 : BitVec 32) (N K : ℕ) : Prop where
  n : Scalar.addi v0 (Scalar.select (Scalar.cmpi .sge v1 0#32) 1#32 0#32) = nat N
  k : K = stepsOf N
  lo : 82 ≤ K
  hi : K ≤ 163
  hn : N ≤ 2600

variable {v0 v1 : BitVec 32} {N K : ℕ}

theorem Built'.steps (h : Built' v0 v1 N K) : stepsW v0 v1 = nat K := by
  have := steps_nat (N := N) (by have := h.hn; omega) _ h.n
  rw [h.k]; exact this

theorem trips1 : k0_t1_loop.trips = 2600 := by decide
theorem trips2 : k0_t2_loop.trips = 16 := by decide
theorem trips3 : k0_t3_loop.trips = 3 := by decide
theorem trips4 : k0_t4_loop.trips = 16 := by decide
theorem trips5 : k0_t5_loop.trips = 20 := by decide
theorem trips7 : k0_t7_loop.trips = 16 := by decide
theorem trips8 : k0_t8_loop.trips = 16 := by decide
theorem trips9 : k0_t9_loop.trips = 16 := by decide
theorem trips10 : k0_t10_loop.trips = 16 := by decide
theorem trips11 : k0_t11_loop.trips = 16 := by decide
theorem trips18 : k0_t18_loop.trips = 2 := by decide
theorem trips19 : k0_t19_loop.trips = 16 := by decide

theorem trips_upto (K : ℕ) (hK : K < 1000) : Scf.trips 0#32 (nat K) 1#32 = K := by
  unfold Scf.trips; rw [toInt_nat (by omega)]; simp
theorem ok_upto (K : ℕ) (hK : K < 1000) : Scf.OK 0#32 (nat K) 1#32 := by
  refine ⟨by decide, ?_⟩; rw [trips_upto K hK]; simp; omega
theorem t6_eq (h : Built' v0 v1 N K) : k0_t6_loop v0 v1 = ⟨0#32, nat K, 1#32⟩ := by
  have hi := h.hi
  show (⟨0#32, Scalar.addi 0#32 (Scalar.muli (Scalar.divsi (Scalar.subi (stepsW v0 v1) 0#32) 1#32) 1#32), 1#32⟩ : Scf.Loop 32) = _
  rw [h.steps]
  simp (disch := omega) only [subi_nat, divsi_nat, muli_nat, addi_nat, Nat.sub_zero, Nat.div_one, Nat.mul_one, Nat.zero_add]
theorem trips6 (h : Built' v0 v1 N K) : (k0_t6_loop v0 v1).trips = K := by
  rw [t6_eq h]; exact trips_upto K (by have := h.hi; omega)
theorem t12_eq (h : Built' v0 v1 N K) : k0_t12_loop v0 v1 = ⟨nat K, nat K, 1#32⟩ := by
  have hi := h.hi
  show (⟨Scalar.addi 0#32 (Scalar.muli (Scalar.divsi (Scalar.subi (stepsW v0 v1) 0#32) 1#32) 1#32), Scalar.addi 0#32 (Scalar.subi (stepsW v0 v1) 0#32), 1#32⟩ : Scf.Loop 32) = _
  rw [h.steps]
  simp (disch := omega) only [subi_nat, divsi_nat, muli_nat, addi_nat, Nat.sub_zero, Nat.div_one, Nat.mul_one, Nat.zero_add]
theorem trips_none (K : ℕ) : Scf.trips (nat K) (nat K) 1#32 = 0 := by unfold Scf.trips; simp
theorem trips12 (h : Built' v0 v1 N K) : (k0_t12_loop v0 v1).trips = 0 := by
  rw [t12_eq h]; exact trips_none K
theorem none12 (h : Built' v0 v1 N K) (t12 : Fin (k0_t12_loop v0 v1).trips) : False := by
  have := t12.isLt.trans_eq (trips12 h); omega
theorem ok12 (h : Built' v0 v1 N K) : (k0_t12_loop v0 v1).OK := by
  have hi := h.hi
  rw [t12_eq h]; refine ⟨(by decide : (0 : ℤ) < (1#32).toInt), ?_⟩
  show (nat K).toInt + ((Scf.trips (nat K) (nat K) 1#32 : ℕ) : ℤ) * _ < _
  rw [trips_none, toInt_nat (by omega)]; simp; omega
theorem ok6 (h : Built' v0 v1 N K) : (k0_t6_loop v0 v1).OK := by
  rw [t6_eq h]; exact ok_upto K (by have := h.hi; omega)

theorem off1_eq (t1 : Fin k0_t1_loop.trips) : k0_off1 t1 = ![t1.val] := by
  have h1 : t1.val < 2600 := t1.isLt.trans_eq trips1
  simp (disch := omega) only [k0_off1, Scalar.indexCast, iv01, subi_nat, muli_nat, addi_nat, remsi_nat, toNat_nat]
theorem off5_eq (t3 : Fin k0_t3_loop.trips) (t4 : Fin k0_t4_loop.trips) : k0_off5 t3 t4 = ![t3.val * 16 + t4.val] := by
  have h3 : t3.val < 3 := t3.isLt.trans_eq trips3
  have h4 : t4.val < 16 := t4.isLt.trans_eq trips4
  simp (disch := omega) only [k0_off5, Scalar.indexCast, iv01, subi_nat, muli_nat, addi_nat, remsi_nat, toNat_nat]
theorem off6_eq (t3 : Fin k0_t3_loop.trips) : k0_off6 t3 = ![t3.val] := by
  have h3 : t3.val < 3 := t3.isLt.trans_eq trips3
  simp (disch := omega) only [k0_off6, Scalar.indexCast, iv01, subi_nat, muli_nat, addi_nat, remsi_nat, toNat_nat]
theorem off7_eq (t3 : Fin k0_t3_loop.trips) (t4 : Fin k0_t4_loop.trips) : k0_off7 t3 t4 = ![t3.val, 2 * t4.val, 0, 0] := by
  have h3 : t3.val < 3 := t3.isLt.trans_eq trips3
  have h4 : t4.val < 16 := t4.isLt.trans_eq trips4
  simp (disch := omega) only [k0_off7, Scalar.indexCast, iv01, subi_nat, muli_nat, addi_nat, remsi_nat, toNat_nat]
theorem off11_eq (t3 : Fin k0_t3_loop.trips) (t4 : Fin k0_t4_loop.trips) : k0_off11 t3 t4 = ![t3.val, 2 * t4.val, 0, 0] := by
  have h3 : t3.val < 3 := t3.isLt.trans_eq trips3
  have h4 : t4.val < 16 := t4.isLt.trans_eq trips4
  simp (disch := omega) only [k0_off11, Scalar.indexCast, iv01, subi_nat, muli_nat, addi_nat, remsi_nat, toNat_nat]
theorem off9_eq (t3 : Fin k0_t3_loop.trips) (t4 : Fin k0_t4_loop.trips) : k0_off9 t3 t4 = ![t3.val, 2 * t4.val + 1, 0, 0] := by
  have h3 : t3.val < 3 := t3.isLt.trans_eq trips3
  have h4 : t4.val < 16 := t4.isLt.trans_eq trips4
  simp (disch := omega) only [k0_off9, Scalar.indexCast, iv01, subi_nat, muli_nat, addi_nat, remsi_nat, toNat_nat]
theorem off13_eq (t3 : Fin k0_t3_loop.trips) (t4 : Fin k0_t4_loop.trips) : k0_off13 t3 t4 = ![t3.val, 2 * t4.val + 1, 0, 0] := by
  have h3 : t3.val < 3 := t3.isLt.trans_eq trips3
  have h4 : t4.val < 16 := t4.isLt.trans_eq trips4
  simp (disch := omega) only [k0_off13, Scalar.indexCast, iv01, subi_nat, muli_nat, addi_nat, remsi_nat, toNat_nat]
theorem off15_eq (t5 : Fin k0_t5_loop.trips) : k0_off15 t5 = ![0, t5.val * 128] := by
  have h5 : t5.val < 20 := t5.isLt.trans_eq trips5
  simp (disch := omega) only [k0_off15, Scalar.indexCast, iv01, subi_nat, muli_nat, addi_nat, remsi_nat, toNat_nat]
theorem off18_eq (t5 : Fin k0_t5_loop.trips) : k0_off18 t5 = ![64, t5.val * 128] := by
  have h5 : t5.val < 20 := t5.isLt.trans_eq trips5
  simp (disch := omega) only [k0_off18, Scalar.indexCast, iv01, subi_nat, muli_nat, addi_nat, remsi_nat, toNat_nat]
theorem off20_eq (t5 : Fin k0_t5_loop.trips) : k0_off20 t5 = ![128, t5.val * 128] := by
  have h5 : t5.val < 20 := t5.isLt.trans_eq trips5
  simp (disch := omega) only [k0_off20, Scalar.indexCast, iv01, subi_nat, muli_nat, addi_nat, remsi_nat, toNat_nat]
theorem off22_eq (t5 : Fin k0_t5_loop.trips) : k0_off22 t5 = ![192, t5.val * 128] := by
  have h5 : t5.val < 20 := t5.isLt.trans_eq trips5
  simp (disch := omega) only [k0_off22, Scalar.indexCast, iv01, subi_nat, muli_nat, addi_nat, remsi_nat, toNat_nat]
theorem off24_eq (t5 : Fin k0_t5_loop.trips) : k0_off24 t5 = ![256, t5.val * 128] := by
  have h5 : t5.val < 20 := t5.isLt.trans_eq trips5
  simp (disch := omega) only [k0_off24, Scalar.indexCast, iv01, subi_nat, muli_nat, addi_nat, remsi_nat, toNat_nat]
theorem off26_eq (t5 : Fin k0_t5_loop.trips) : k0_off26 t5 = ![320, t5.val * 128] := by
  have h5 : t5.val < 20 := t5.isLt.trans_eq trips5
  simp (disch := omega) only [k0_off26, Scalar.indexCast, iv01, subi_nat, muli_nat, addi_nat, remsi_nat, toNat_nat]
theorem off28_eq (t5 : Fin k0_t5_loop.trips) : k0_off28 t5 = ![384, t5.val * 128] := by
  have h5 : t5.val < 20 := t5.isLt.trans_eq trips5
  simp (disch := omega) only [k0_off28, Scalar.indexCast, iv01, subi_nat, muli_nat, addi_nat, remsi_nat, toNat_nat]
theorem off30_eq (t5 : Fin k0_t5_loop.trips) : k0_off30 t5 = ![448, t5.val * 128] := by
  have h5 : t5.val < 20 := t5.isLt.trans_eq trips5
  simp (disch := omega) only [k0_off30, Scalar.indexCast, iv01, subi_nat, muli_nat, addi_nat, remsi_nat, toNat_nat]
theorem off16_eq (t5 : Fin k0_t5_loop.trips) : k0_off16 t5 = ![512, t5.val * 128] := by
  have h5 : t5.val < 20 := t5.isLt.trans_eq trips5
  simp (disch := omega) only [k0_off16, Scalar.indexCast, iv01, subi_nat, muli_nat, addi_nat, remsi_nat, toNat_nat]
theorem off19_eq (t5 : Fin k0_t5_loop.trips) : k0_off19 t5 = ![576, t5.val * 128] := by
  have h5 : t5.val < 20 := t5.isLt.trans_eq trips5
  simp (disch := omega) only [k0_off19, Scalar.indexCast, iv01, subi_nat, muli_nat, addi_nat, remsi_nat, toNat_nat]
theorem off21_eq (t5 : Fin k0_t5_loop.trips) : k0_off21 t5 = ![640, t5.val * 128] := by
  have h5 : t5.val < 20 := t5.isLt.trans_eq trips5
  simp (disch := omega) only [k0_off21, Scalar.indexCast, iv01, subi_nat, muli_nat, addi_nat, remsi_nat, toNat_nat]
theorem off23_eq (t5 : Fin k0_t5_loop.trips) : k0_off23 t5 = ![704, t5.val * 128] := by
  have h5 : t5.val < 20 := t5.isLt.trans_eq trips5
  simp (disch := omega) only [k0_off23, Scalar.indexCast, iv01, subi_nat, muli_nat, addi_nat, remsi_nat, toNat_nat]
theorem off25_eq (t5 : Fin k0_t5_loop.trips) : k0_off25 t5 = ![768, t5.val * 128] := by
  have h5 : t5.val < 20 := t5.isLt.trans_eq trips5
  simp (disch := omega) only [k0_off25, Scalar.indexCast, iv01, subi_nat, muli_nat, addi_nat, remsi_nat, toNat_nat]
theorem off27_eq (t5 : Fin k0_t5_loop.trips) : k0_off27 t5 = ![832, t5.val * 128] := by
  have h5 : t5.val < 20 := t5.isLt.trans_eq trips5
  simp (disch := omega) only [k0_off27, Scalar.indexCast, iv01, subi_nat, muli_nat, addi_nat, remsi_nat, toNat_nat]
theorem off29_eq (t5 : Fin k0_t5_loop.trips) : k0_off29 t5 = ![896, t5.val * 128] := by
  have h5 : t5.val < 20 := t5.isLt.trans_eq trips5
  simp (disch := omega) only [k0_off29, Scalar.indexCast, iv01, subi_nat, muli_nat, addi_nat, remsi_nat, toNat_nat]
theorem off31_eq (t5 : Fin k0_t5_loop.trips) : k0_off31 t5 = ![960, t5.val * 128] := by
  have h5 : t5.val < 20 := t5.isLt.trans_eq trips5
  simp (disch := omega) only [k0_off31, Scalar.indexCast, iv01, subi_nat, muli_nat, addi_nat, remsi_nat, toNat_nat]
theorem off17_eq (t5 : Fin k0_t5_loop.trips) (c : ℕ) (hc : c < 20000) : k0_off17 t5 (nat c) = ![c + t5.val * 128, 0] := by
  have h5 : t5.val < 20 := t5.isLt.trans_eq trips5
  simp (disch := omega) only [k0_off17, Scalar.indexCast, iv01, subi_nat, muli_nat, addi_nat, remsi_nat, toNat_nat]
theorem off32_eq (t5 : Fin k0_t5_loop.trips) : k0_off32 t5 = ![0, t5.val * 128] := by
  have h5 : t5.val < 20 := t5.isLt.trans_eq trips5
  simp (disch := omega) only [k0_off32, Scalar.indexCast, iv01, subi_nat, muli_nat, addi_nat, remsi_nat, toNat_nat]
theorem off33_eq (t5 : Fin k0_t5_loop.trips) : k0_off33 t5 = ![t5.val * 128, 0] := by
  have h5 : t5.val < 20 := t5.isLt.trans_eq trips5
  simp (disch := omega) only [k0_off33, Scalar.indexCast, iv01, subi_nat, muli_nat, addi_nat, remsi_nat, toNat_nat]
theorem off34_eq (H : Built' v0 v1 N K) (t6 : Fin (k0_t6_loop v0 v1).trips) (t7 : Fin k0_t7_loop.trips) : k0_off34 v0 v1 t6 t7 = ![t6.val * 16 + t7.val] := by
  have h6 : t6.val < K := t6.isLt.trans_eq (trips6 H)
  have h7 : t7.val < 16 := t7.isLt.trans_eq trips7
  have hK := H.hi; have hlo := H.lo
  simp (disch := omega) only [k0_off34, Scalar.indexCast, iv01, subi_nat, muli_nat, addi_nat, remsi_nat, toNat_nat]
theorem off35_eq (H : Built' v0 v1 N K) (t6 : Fin (k0_t6_loop v0 v1).trips) : k0_off35 v0 v1 t6 = ![t6.val % 4] := by
  have h6 : t6.val < K := t6.isLt.trans_eq (trips6 H)
  have hK := H.hi; have hlo := H.lo
  simp (disch := omega) only [k0_off35, Scalar.indexCast, iv01, subi_nat, muli_nat, addi_nat, remsi_nat, toNat_nat]
theorem off36_eq (H : Built' v0 v1 N K) (t6 : Fin (k0_t6_loop v0 v1).trips) (t7 : Fin k0_t7_loop.trips) : k0_off36 v0 v1 t6 t7 = ![t6.val % 4, 2 * t7.val, 0, 0] := by
  have h6 : t6.val < K := t6.isLt.trans_eq (trips6 H)
  have h7 : t7.val < 16 := t7.isLt.trans_eq trips7
  have hK := H.hi; have hlo := H.lo
  simp (disch := omega) only [k0_off36, Scalar.indexCast, iv01, subi_nat, muli_nat, addi_nat, remsi_nat, toNat_nat]
theorem off40_eq (H : Built' v0 v1 N K) (t6 : Fin (k0_t6_loop v0 v1).trips) (t7 : Fin k0_t7_loop.trips) : k0_off40 v0 v1 t6 t7 = ![t6.val % 4, 2 * t7.val, 0, 0] := by
  have h6 : t6.val < K := t6.isLt.trans_eq (trips6 H)
  have h7 : t7.val < 16 := t7.isLt.trans_eq trips7
  have hK := H.hi; have hlo := H.lo
  simp (disch := omega) only [k0_off40, Scalar.indexCast, iv01, subi_nat, muli_nat, addi_nat, remsi_nat, toNat_nat]
theorem off38_eq (H : Built' v0 v1 N K) (t6 : Fin (k0_t6_loop v0 v1).trips) (t7 : Fin k0_t7_loop.trips) : k0_off38 v0 v1 t6 t7 = ![t6.val % 4, 2 * t7.val + 1, 0, 0] := by
  have h6 : t6.val < K := t6.isLt.trans_eq (trips6 H)
  have h7 : t7.val < 16 := t7.isLt.trans_eq trips7
  have hK := H.hi; have hlo := H.lo
  simp (disch := omega) only [k0_off38, Scalar.indexCast, iv01, subi_nat, muli_nat, addi_nat, remsi_nat, toNat_nat]
theorem off42_eq (H : Built' v0 v1 N K) (t6 : Fin (k0_t6_loop v0 v1).trips) (t7 : Fin k0_t7_loop.trips) : k0_off42 v0 v1 t6 t7 = ![t6.val % 4, 2 * t7.val + 1, 0, 0] := by
  have h6 : t6.val < K := t6.isLt.trans_eq (trips6 H)
  have h7 : t7.val < 16 := t7.isLt.trans_eq trips7
  have hK := H.hi; have hlo := H.lo
  simp (disch := omega) only [k0_off42, Scalar.indexCast, iv01, subi_nat, muli_nat, addi_nat, remsi_nat, toNat_nat]
theorem off44_eq (H : Built' v0 v1 N K) (t6 : Fin (k0_t6_loop v0 v1).trips) (t8 : Fin k0_t8_loop.trips) (h2 : 2 ≤ t6.val) : k0_off44 v0 v1 t6 t8 = ![(t6.val - 2) * 16 + t8.val] := by
  have h6 : t6.val < K := t6.isLt.trans_eq (trips6 H)
  have h8 : t8.val < 16 := t8.isLt.trans_eq trips8
  have hK := H.hi; have hlo := H.lo
  simp (disch := omega) only [k0_off44, Scalar.indexCast, iv01, subi_nat, muli_nat, addi_nat, remsi_nat, toNat_nat]
theorem off45_eq (H : Built' v0 v1 N K) (t6 : Fin (k0_t6_loop v0 v1).trips) : k0_off45 v0 v1 t6 = ![t6.val % 2] := by
  have h6 : t6.val < K := t6.isLt.trans_eq (trips6 H)
  have hK := H.hi; have hlo := H.lo
  simp (disch := omega) only [k0_off45, Scalar.indexCast, iv01, subi_nat, muli_nat, addi_nat, remsi_nat, toNat_nat]
theorem off48_eq (H : Built' v0 v1 N K) (t6 : Fin (k0_t6_loop v0 v1).trips) : k0_off48 v0 v1 t6 = ![t6.val % 2] := by
  have h6 : t6.val < K := t6.isLt.trans_eq (trips6 H)
  have hK := H.hi; have hlo := H.lo
  simp (disch := omega) only [k0_off48, Scalar.indexCast, iv01, subi_nat, muli_nat, addi_nat, remsi_nat, toNat_nat]
theorem off47_eq (H : Built' v0 v1 N K) (t6 : Fin (k0_t6_loop v0 v1).trips) (t8 : Fin k0_t8_loop.trips) : k0_off47 v0 v1 t6 t8 = ![t6.val % 2, 2 * t8.val, 0, 0] := by
  have h6 : t6.val < K := t6.isLt.trans_eq (trips6 H)
  have h8 : t8.val < 16 := t8.isLt.trans_eq trips8
  have hK := H.hi; have hlo := H.lo
  simp (disch := omega) only [k0_off47, Scalar.indexCast, iv01, subi_nat, muli_nat, addi_nat, remsi_nat, toNat_nat]
theorem off50_eq (H : Built' v0 v1 N K) (t6 : Fin (k0_t6_loop v0 v1).trips) (t8 : Fin k0_t8_loop.trips) : k0_off50 v0 v1 t6 t8 = ![t6.val % 2, 2 * t8.val + 1, 0, 0] := by
  have h6 : t6.val < K := t6.isLt.trans_eq (trips6 H)
  have h8 : t8.val < 16 := t8.isLt.trans_eq trips8
  have hK := H.hi; have hlo := H.lo
  simp (disch := omega) only [k0_off50, Scalar.indexCast, iv01, subi_nat, muli_nat, addi_nat, remsi_nat, toNat_nat]
theorem off51_eq (H : Built' v0 v1 N K) (t6 : Fin (k0_t6_loop v0 v1).trips) (t9 : Fin k0_t9_loop.trips) : k0_off51 v0 v1 t6 t9 = ![t6.val * 16 + t9.val] := by
  have h6 : t6.val < K := t6.isLt.trans_eq (trips6 H)
  have h9 : t9.val < 16 := t9.isLt.trans_eq trips9
  have hK := H.hi; have hlo := H.lo
  simp (disch := omega) only [k0_off51, Scalar.indexCast, iv01, subi_nat, muli_nat, addi_nat, remsi_nat, toNat_nat]
theorem off54_eq (H : Built' v0 v1 N K) (t6 : Fin (k0_t6_loop v0 v1).trips) (t9 : Fin k0_t9_loop.trips) (c : ℕ) (hc : c < 2) : k0_off54 v0 v1 t6 t9 (nat c) = ![t6.val % 4, 2 * t9.val + c, 0, 0] := by
  have h6 : t6.val < K := t6.isLt.trans_eq (trips6 H)
  have h9 : t9.val < 16 := t9.isLt.trans_eq trips9
  have hK := H.hi; have hlo := H.lo
  simp (disch := omega) only [k0_off54, Scalar.indexCast, iv01, subi_nat, muli_nat, addi_nat, remsi_nat, toNat_nat]
theorem off55_eq (H : Built' v0 v1 N K) (t6 : Fin (k0_t6_loop v0 v1).trips) (t9 : Fin k0_t9_loop.trips) (c : ℕ) (hc : c < 2) : k0_off55 v0 v1 t6 t9 (nat c) = ![t6.val % 4, 2 * t9.val + c, 0, 0] := by
  have h6 : t6.val < K := t6.isLt.trans_eq (trips6 H)
  have h9 : t9.val < 16 := t9.isLt.trans_eq trips9
  have hK := H.hi; have hlo := H.lo
  simp (disch := omega) only [k0_off55, Scalar.indexCast, iv01, subi_nat, muli_nat, addi_nat, remsi_nat, toNat_nat]
theorem off68_eq (H : Built' v0 v1 N K) (t6 : Fin (k0_t6_loop v0 v1).trips) (t9 : Fin k0_t9_loop.trips) (c : ℕ) (hc : c < 2) : k0_off68 v0 v1 t6 t9 (nat c) = ![t6.val % 2, 2 * t9.val + c, 0, 0] := by
  have h6 : t6.val < K := t6.isLt.trans_eq (trips6 H)
  have h9 : t9.val < 16 := t9.isLt.trans_eq trips9
  have hK := H.hi; have hlo := H.lo
  simp (disch := omega) only [k0_off68, Scalar.indexCast, iv01, subi_nat, muli_nat, addi_nat, remsi_nat, toNat_nat]
theorem off69_eq (H : Built' v0 v1 N K) (t6 : Fin (k0_t6_loop v0 v1).trips) (t9 : Fin k0_t9_loop.trips) (c : ℕ) (hc : c < 2) : k0_off69 v0 v1 t6 t9 (nat c) = ![t6.val % 2, 2 * t9.val + c, 0, 128] := by
  have h6 : t6.val < K := t6.isLt.trans_eq (trips6 H)
  have h9 : t9.val < 16 := t9.isLt.trans_eq trips9
  have hK := H.hi; have hlo := H.lo
  simp (disch := omega) only [k0_off69, Scalar.indexCast, iv01, subi_nat, muli_nat, addi_nat, remsi_nat, toNat_nat]
theorem off70_eq (H : Built' v0 v1 N K) (t6 : Fin (k0_t6_loop v0 v1).trips) (t9 : Fin k0_t9_loop.trips) (c : ℕ) (hc : c < 2) : k0_off70 v0 v1 t6 t9 (nat c) = ![t6.val % 2, 2 * t9.val + c, 0, 256] := by
  have h6 : t6.val < K := t6.isLt.trans_eq (trips6 H)
  have h9 : t9.val < 16 := t9.isLt.trans_eq trips9
  have hK := H.hi; have hlo := H.lo
  simp (disch := omega) only [k0_off70, Scalar.indexCast, iv01, subi_nat, muli_nat, addi_nat, remsi_nat, toNat_nat]
theorem off71_eq (H : Built' v0 v1 N K) (t6 : Fin (k0_t6_loop v0 v1).trips) (t9 : Fin k0_t9_loop.trips) (c : ℕ) (hc : c < 2) : k0_off71 v0 v1 t6 t9 (nat c) = ![t6.val % 2, 2 * t9.val + c, 0, 384] := by
  have h6 : t6.val < K := t6.isLt.trans_eq (trips6 H)
  have h9 : t9.val < 16 := t9.isLt.trans_eq trips9
  have hK := H.hi; have hlo := H.lo
  simp (disch := omega) only [k0_off71, Scalar.indexCast, iv01, subi_nat, muli_nat, addi_nat, remsi_nat, toNat_nat]
theorem off72_eq (H : Built' v0 v1 N K) (t6 : Fin (k0_t6_loop v0 v1).trips) (t10 : Fin k0_t10_loop.trips) : k0_off72 v0 v1 t6 t10 = ![(t6.val + 3) * 16 + t10.val] := by
  have h6 : t6.val < K := t6.isLt.trans_eq (trips6 H)
  have h10 : t10.val < 16 := t10.isLt.trans_eq trips10
  have hK := H.hi; have hlo := H.lo
  simp (disch := omega) only [k0_off72, Scalar.indexCast, iv01, subi_nat, muli_nat, addi_nat, remsi_nat, toNat_nat]
theorem off73_eq (H : Built' v0 v1 N K) (t6 : Fin (k0_t6_loop v0 v1).trips) : k0_off73 v0 v1 t6 = ![(t6.val + 3) % 4] := by
  have h6 : t6.val < K := t6.isLt.trans_eq (trips6 H)
  have hK := H.hi; have hlo := H.lo
  simp (disch := omega) only [k0_off73, Scalar.indexCast, iv01, subi_nat, muli_nat, addi_nat, remsi_nat, toNat_nat]
theorem off74_eq (H : Built' v0 v1 N K) (t6 : Fin (k0_t6_loop v0 v1).trips) (t10 : Fin k0_t10_loop.trips) : k0_off74 v0 v1 t6 t10 = ![(t6.val + 3) % 4, 2 * t10.val, 0, 0] := by
  have h6 : t6.val < K := t6.isLt.trans_eq (trips6 H)
  have h10 : t10.val < 16 := t10.isLt.trans_eq trips10
  have hK := H.hi; have hlo := H.lo
  simp (disch := omega) only [k0_off74, Scalar.indexCast, iv01, subi_nat, muli_nat, addi_nat, remsi_nat, toNat_nat]
theorem off78_eq (H : Built' v0 v1 N K) (t6 : Fin (k0_t6_loop v0 v1).trips) (t10 : Fin k0_t10_loop.trips) : k0_off78 v0 v1 t6 t10 = ![(t6.val + 3) % 4, 2 * t10.val, 0, 0] := by
  have h6 : t6.val < K := t6.isLt.trans_eq (trips6 H)
  have h10 : t10.val < 16 := t10.isLt.trans_eq trips10
  have hK := H.hi; have hlo := H.lo
  simp (disch := omega) only [k0_off78, Scalar.indexCast, iv01, subi_nat, muli_nat, addi_nat, remsi_nat, toNat_nat]
theorem off76_eq (H : Built' v0 v1 N K) (t6 : Fin (k0_t6_loop v0 v1).trips) (t10 : Fin k0_t10_loop.trips) : k0_off76 v0 v1 t6 t10 = ![(t6.val + 3) % 4, 2 * t10.val + 1, 0, 0] := by
  have h6 : t6.val < K := t6.isLt.trans_eq (trips6 H)
  have h10 : t10.val < 16 := t10.isLt.trans_eq trips10
  have hK := H.hi; have hlo := H.lo
  simp (disch := omega) only [k0_off76, Scalar.indexCast, iv01, subi_nat, muli_nat, addi_nat, remsi_nat, toNat_nat]
theorem off80_eq (H : Built' v0 v1 N K) (t6 : Fin (k0_t6_loop v0 v1).trips) (t10 : Fin k0_t10_loop.trips) : k0_off80 v0 v1 t6 t10 = ![(t6.val + 3) % 4, 2 * t10.val + 1, 0, 0] := by
  have h6 : t6.val < K := t6.isLt.trans_eq (trips6 H)
  have h10 : t10.val < 16 := t10.isLt.trans_eq trips10
  have hK := H.hi; have hlo := H.lo
  simp (disch := omega) only [k0_off80, Scalar.indexCast, iv01, subi_nat, muli_nat, addi_nat, remsi_nat, toNat_nat]
theorem off82_eq (H : Built' v0 v1 N K) (t6 : Fin (k0_t6_loop v0 v1).trips) (t11 : Fin k0_t11_loop.trips) : k0_off82 v0 v1 t6 t11 = ![t6.val * 16 + t11.val] := by
  have h6 : t6.val < K := t6.isLt.trans_eq (trips6 H)
  have h11 : t11.val < 16 := t11.isLt.trans_eq trips11
  have hK := H.hi; have hlo := H.lo
  simp (disch := omega) only [k0_off82, Scalar.indexCast, iv01, subi_nat, muli_nat, addi_nat, remsi_nat, toNat_nat]
theorem off83_eq (H : Built' v0 v1 N K) (t6 : Fin (k0_t6_loop v0 v1).trips) : k0_off83 v0 v1 t6 = ![t6.val % 2] := by
  have h6 : t6.val < K := t6.isLt.trans_eq (trips6 H)
  have hK := H.hi; have hlo := H.lo
  simp (disch := omega) only [k0_off83, Scalar.indexCast, iv01, subi_nat, muli_nat, addi_nat, remsi_nat, toNat_nat]
theorem off86_eq (H : Built' v0 v1 N K) (t6 : Fin (k0_t6_loop v0 v1).trips) : k0_off86 v0 v1 t6 = ![t6.val % 2] := by
  have h6 : t6.val < K := t6.isLt.trans_eq (trips6 H)
  have hK := H.hi; have hlo := H.lo
  simp (disch := omega) only [k0_off86, Scalar.indexCast, iv01, subi_nat, muli_nat, addi_nat, remsi_nat, toNat_nat]
theorem off85_eq (H : Built' v0 v1 N K) (t6 : Fin (k0_t6_loop v0 v1).trips) (t11 : Fin k0_t11_loop.trips) : k0_off85 v0 v1 t6 t11 = ![t6.val % 2, 2 * t11.val, 0, 0] := by
  have h6 : t6.val < K := t6.isLt.trans_eq (trips6 H)
  have h11 : t11.val < 16 := t11.isLt.trans_eq trips11
  have hK := H.hi; have hlo := H.lo
  simp (disch := omega) only [k0_off85, Scalar.indexCast, iv01, subi_nat, muli_nat, addi_nat, remsi_nat, toNat_nat]
theorem off88_eq (H : Built' v0 v1 N K) (t6 : Fin (k0_t6_loop v0 v1).trips) (t11 : Fin k0_t11_loop.trips) : k0_off88 v0 v1 t6 t11 = ![t6.val % 2, 2 * t11.val + 1, 0, 0] := by
  have h6 : t6.val < K := t6.isLt.trans_eq (trips6 H)
  have h11 : t11.val < 16 := t11.isLt.trans_eq trips11
  have hK := H.hi; have hlo := H.lo
  simp (disch := omega) only [k0_off88, Scalar.indexCast, iv01, subi_nat, muli_nat, addi_nat, remsi_nat, toNat_nat]
theorem off4_eq (H : Built' v0 v1 N K) (t2 : Fin k0_t2_loop.trips) : k0_off4 v0 v1 t2 = ![N + t2.val] := by
  have h2 : t2.val < 16 := t2.isLt.trans_eq trips2
  have hn := H.hn
  show ![(Scalar.indexCast (Scalar.addi (Scalar.addi v0 (Scalar.select (Scalar.cmpi .sge v1 0#32) 1#32 0#32)) (Scf.iv 0#32 1#32 t2.val)) : BitVec 32).toNat] = _
  rw [H.n]
  simp (disch := omega) only [Scalar.indexCast, iv01, addi_nat, toNat_nat]
theorem off144_eq (H : Built' v0 v1 N K) (t18 : Fin k0_t18_loop.trips) (t19 : Fin k0_t19_loop.trips) : k0_off144 v0 v1 t18 t19 = ![(K - (2 - t18.val)) * 16 + t19.val] := by
  have h18 : t18.val < 2 := t18.isLt.trans_eq trips18
  have h19 : t19.val < 16 := t19.isLt.trans_eq trips19
  have hK := H.hi; have hlo := H.lo
  show ![(Scalar.indexCast (Scalar.addi (Scalar.muli (Scalar.subi (stepsW v0 v1) (Scalar.subi 2#32 (Scf.iv 0#32 1#32 t18.val))) 16#32) (Scf.iv 0#32 1#32 t19.val)) : BitVec 32).toNat] = _
  rw [H.steps]
  simp (disch := omega) only [Scalar.indexCast, iv01, subi_nat, muli_nat, addi_nat, remsi_nat, toNat_nat]
theorem off145_eq (H : Built' v0 v1 N K) (t18 : Fin k0_t18_loop.trips) : k0_off145 v0 v1 t18 = ![(K - (2 - t18.val)) % 2] := by
  have h18 : t18.val < 2 := t18.isLt.trans_eq trips18
  have hK := H.hi; have hlo := H.lo
  show ![(Scalar.remsi (Scalar.subi (stepsW v0 v1) (Scalar.subi 2#32 (Scf.iv 0#32 1#32 t18.val))) 2#32).toNat] = _
  rw [H.steps]
  simp (disch := omega) only [Scalar.indexCast, iv01, subi_nat, muli_nat, addi_nat, remsi_nat, toNat_nat]
theorem off148_eq (H : Built' v0 v1 N K) (t18 : Fin k0_t18_loop.trips) : k0_off148 v0 v1 t18 = ![(K - (2 - t18.val)) % 2] := by
  have h18 : t18.val < 2 := t18.isLt.trans_eq trips18
  have hK := H.hi; have hlo := H.lo
  show ![(Scalar.remsi (Scalar.subi (stepsW v0 v1) (Scalar.subi 2#32 (Scf.iv 0#32 1#32 t18.val))) 2#32).toNat] = _
  rw [H.steps]
  simp (disch := omega) only [Scalar.indexCast, iv01, subi_nat, muli_nat, addi_nat, remsi_nat, toNat_nat]
theorem off147_eq (H : Built' v0 v1 N K) (t18 : Fin k0_t18_loop.trips) (t19 : Fin k0_t19_loop.trips) : k0_off147 v0 v1 t18 t19 = ![(K - (2 - t18.val)) % 2, 2 * t19.val, 0, 0] := by
  have h18 : t18.val < 2 := t18.isLt.trans_eq trips18
  have h19 : t19.val < 16 := t19.isLt.trans_eq trips19
  have hK := H.hi; have hlo := H.lo
  show ![(Scalar.remsi (Scalar.subi (stepsW v0 v1) (Scalar.subi 2#32 (Scf.iv 0#32 1#32 t18.val))) 2#32).toNat, (Scalar.muli 2#32 (Scf.iv 0#32 1#32 t19.val)).toNat, 0, 0] = _
  rw [H.steps]
  simp (disch := omega) only [Scalar.indexCast, iv01, subi_nat, muli_nat, addi_nat, remsi_nat, toNat_nat]
theorem off150_eq (H : Built' v0 v1 N K) (t18 : Fin k0_t18_loop.trips) (t19 : Fin k0_t19_loop.trips) : k0_off150 v0 v1 t18 t19 = ![(K - (2 - t18.val)) % 2, 2 * t19.val + 1, 0, 0] := by
  have h18 : t18.val < 2 := t18.isLt.trans_eq trips18
  have h19 : t19.val < 16 := t19.isLt.trans_eq trips19
  have hK := H.hi; have hlo := H.lo
  show ![(Scalar.remsi (Scalar.subi (stepsW v0 v1) (Scalar.subi 2#32 (Scf.iv 0#32 1#32 t18.val))) 2#32).toNat, (Scalar.addi (Scalar.muli 2#32 (Scf.iv 0#32 1#32 t19.val)) 1#32).toNat, 0, 0] = _
  rw [H.steps]
  simp (disch := omega) only [Scalar.indexCast, iv01, subi_nat, muli_nat, addi_nat, remsi_nat, toNat_nat]
theorem off8_eq (w : BitVec 32) : k0_off8 w = ![wa w, 0, 0] := rfl
theorem off10_eq (w : BitVec 32) : k0_off10 w = ![wb w, 0, wo w] := rfl
theorem off12_eq (w : BitVec 32) : k0_off12 w = ![wa w, 0, 0] := rfl
theorem off14_eq (w : BitVec 32) : k0_off14 w = ![wb w, 0, 0] := rfl
theorem off37_eq (w : BitVec 32) : k0_off37 w = ![wa w, 0, 0] := rfl
theorem off39_eq (w : BitVec 32) : k0_off39 w = ![wb w, 0, wo w] := rfl
theorem off41_eq (w : BitVec 32) : k0_off41 w = ![wa w, 0, 0] := rfl
theorem off43_eq (w : BitVec 32) : k0_off43 w = ![wb w, 0, 0] := rfl
theorem off46_eq (w : BitVec 32) : k0_off46 w = ![wa w, 0, 0] := rfl
theorem off49_eq (w : BitVec 32) : k0_off49 w = ![wb w, 0, 0] := rfl
theorem off52_eq (w : BitVec 32) : k0_off52 w = ![wa w] := rfl
theorem off53_eq (w : BitVec 32) : k0_off53 w = ![wb w] := rfl
theorem off56_eq (w : BitVec 32) : k0_off56 w = ![wa w, 0] := rfl
theorem off57_eq (w : BitVec 32) : k0_off57 w = ![wa w, 0] := rfl
theorem off58_eq (w : BitVec 32) : k0_off58 w = ![0, wa w, 0] := rfl
theorem off59_eq (w : BitVec 32) : k0_off59 w = ![1, wa w, 0] := rfl
theorem off60_eq (w : BitVec 32) : k0_off60 w = ![2, wa w, 0] := rfl
theorem off61_eq (w : BitVec 32) : k0_off61 w = ![3, wa w, 0] := rfl
theorem off62_eq (w : BitVec 32) : k0_off62 w = ![wb w, 0] := rfl
theorem off63_eq (w : BitVec 32) : k0_off63 w = ![wb w, 0] := rfl
theorem off64_eq (w : BitVec 32) : k0_off64 w = ![0, wb w, 0] := rfl
theorem off65_eq (w : BitVec 32) : k0_off65 w = ![1, wb w, 0] := rfl
theorem off66_eq (w : BitVec 32) : k0_off66 w = ![2, wb w, 0] := rfl
theorem off67_eq (w : BitVec 32) : k0_off67 w = ![3, wb w, 0] := rfl
theorem off75_eq (w : BitVec 32) : k0_off75 w = ![wa w, 0, 0] := rfl
theorem off77_eq (w : BitVec 32) : k0_off77 w = ![wb w, 0, wo w] := rfl
theorem off79_eq (w : BitVec 32) : k0_off79 w = ![wa w, 0, 0] := rfl
theorem off81_eq (w : BitVec 32) : k0_off81 w = ![wb w, 0, 0] := rfl
theorem off84_eq (w : BitVec 32) : k0_off84 w = ![wa w, 0, 0] := rfl
theorem off87_eq (w : BitVec 32) : k0_off87 w = ![wb w, 0, 0] := rfl
theorem off146_eq (w : BitVec 32) : k0_off146 w = ![wa w, 0, 0] := rfl
theorem off149_eq (w : BitVec 32) : k0_off149 w = ![wb w, 0, 0] := rfl
theorem cond3_iff (w : BitVec 32) : k0_cond3 w = 1#1 ↔ enA w := Iff.rfl
theorem cond6_iff (w : BitVec 32) : k0_cond6 w = 1#1 ↔ enA w := Iff.rfl
theorem cond15_iff (w : BitVec 32) : k0_cond15 w = 1#1 ↔ enA w := Iff.rfl
theorem cond4_iff (w : BitVec 32) : k0_cond4 w = 1#1 ↔ enB w := Iff.rfl
theorem cond7_iff (w : BitVec 32) : k0_cond7 w = 1#1 ↔ enB w := Iff.rfl
theorem cond16_iff (w : BitVec 32) : k0_cond16 w = 1#1 ↔ enB w := Iff.rfl

theorem ofBool_one (b : Bool) : BitVec.ofBool b = 1#1 ↔ b = true := by cases b <;> simp
theorem cond2_iff (H : Built' v0 v1 N K) (t6 : Fin (k0_t6_loop v0 v1).trips) : k0_cond2 v0 v1 t6 = 1#1 ↔ 2 ≤ t6.val := by
  have h6 : t6.val < K := t6.isLt.trans_eq (trips6 H)
  have hK := H.hi
  simp (disch := omega) only [k0_cond2, iv01, flag, cmpi_sge_nat]
  rw [ofBool_one, decide_eq_true_iff]
theorem cond1_iff (H : Built' v0 v1 N K) (t3 : Fin k0_t3_loop.trips) : k0_cond1 v0 v1 t3 = 1#1 ↔ t3.val < K := by
  have h3 : t3.val < 3 := t3.isLt.trans_eq trips3
  have hK := H.hi
  show Scalar.cmpi .ne (Scalar.extui (Scalar.cmpi .slt (Scf.iv 0#32 1#32 t3.val) (stepsW v0 v1))) 0#32 = 1#1 ↔ _
  rw [H.steps]
  simp (disch := omega) only [iv01, flag, cmpi_slt_nat]
  rw [ofBool_one, decide_eq_true_iff]
theorem cond5_iff (H : Built' v0 v1 N K) (t6 : Fin (k0_t6_loop v0 v1).trips) : k0_cond5 v0 v1 t6 = 1#1 ↔ t6.val + 3 < K := by
  have h6 : t6.val < K := t6.isLt.trans_eq (trips6 H)
  have hK := H.hi
  show Scalar.cmpi .ne (Scalar.extui (Scalar.cmpi .slt (Scalar.addi (Scf.iv 0#32 1#32 t6.val) 3#32) (stepsW v0 v1))) 0#32 = 1#1 ↔ _
  rw [H.steps]
  simp (disch := omega) only [iv01, flag, addi_nat, cmpi_slt_nat]
  rw [ofBool_one, decide_eq_true_iff]
theorem cond14_eq (H : Built' v0 v1 N K) (t18 : Fin k0_t18_loop.trips) : k0_cond14 v0 v1 t18 = 1#1 := by
  have h18 : t18.val < 2 := t18.isLt.trans_eq trips18
  have hK := H.hi; have hlo := H.lo
  show Scalar.cmpi .ne (Scalar.extui (Scalar.cmpi .sge (stepsW v0 v1) (Scalar.subi 2#32 (Scf.iv 0#32 1#32 t18.val)))) 0#32 = 1#1
  rw [H.steps]
  simp (disch := omega) only [iv01, flag, subi_nat, cmpi_sge_nat]
  rw [ofBool_one, decide_eq_true_iff]; omega

/-- A window of rank 1 lies inside its buffer when it does on every axis. -/
theorem inb1 {x0 s0 b0 : ℕ} {o : Fin 1 → ℕ} (e : o = ![x0]) (h0 : x0 + s0 ≤ b0) : ∀ a : Fin 1, o a + (![s0] : Fin 1 → ℕ) a ≤ (![b0] : Fin 1 → ℕ) a := by
  subst e; intro a; match a with
  | 0 => exact h0
/-- A window of rank 2 lies inside its buffer when it does on every axis. -/
theorem inb2 {x0 x1 s0 s1 b0 b1 : ℕ} {o : Fin 2 → ℕ} (e : o = ![x0, x1]) (h0 : x0 + s0 ≤ b0) (h1 : x1 + s1 ≤ b1) : ∀ a : Fin 2, o a + (![s0, s1] : Fin 2 → ℕ) a ≤ (![b0, b1] : Fin 2 → ℕ) a := by
  subst e; intro a; match a with
  | 0 => exact h0
  | 1 => exact h1
/-- A window of rank 3 lies inside its buffer when it does on every axis. -/
theorem inb3 {x0 x1 x2 s0 s1 s2 b0 b1 b2 : ℕ} {o : Fin 3 → ℕ} (e : o = ![x0, x1, x2]) (h0 : x0 + s0 ≤ b0) (h1 : x1 + s1 ≤ b1) (h2 : x2 + s2 ≤ b2) : ∀ a : Fin 3, o a + (![s0, s1, s2] : Fin 3 → ℕ) a ≤ (![b0, b1, b2] : Fin 3 → ℕ) a := by
  subst e; intro a; match a with
  | 0 => exact h0
  | 1 => exact h1
  | 2 => exact h2
/-- A window of rank 4 lies inside its buffer when it does on every axis. -/
theorem inb4 {x0 x1 x2 x3 s0 s1 s2 s3 b0 b1 b2 b3 : ℕ} {o : Fin 4 → ℕ} (e : o = ![x0, x1, x2, x3]) (h0 : x0 + s0 ≤ b0) (h1 : x1 + s1 ≤ b1) (h2 : x2 + s2 ≤ b2) (h3 : x3 + s3 ≤ b3) : ∀ a : Fin 4, o a + (![s0, s1, s2, s3] : Fin 4 → ℕ) a ≤ (![b0, b1, b2, b3] : Fin 4 → ℕ) a := by
  subst e; intro a; match a with
  | 0 => exact h0
  | 1 => exact h1
  | 2 => exact h2
  | 3 => exact h3

theorem mult_dvd (w : BitVec 32) : 128 ∣ wo w := by rcases wo_cases w with h | h <;> rw [h] <;> decide

/-- The row a slot's second copy of codes starts at, plus its width, stays inside the two halves. -/
theorem wo_le (w : BitVec 32) : wo w + 128 ≤ 256 := by rcases wo_cases w with h | h <;> omega

theorem chk1_ok {n : ℕ} (h : n < 2600) : k0_chk1 (nat n) := by
  exact inb1 (x0 := n) (by show ![(nat n).toNat] = _; rw [toNat_nat (by omega)]) (by omega)
theorem chk2_ok {n : ℕ} (h : n < 2601) : k0_chk2 (nat n) := by
  exact inb1 (x0 := n) (by show ![(nat n).toNat] = _; rw [toNat_nat (by omega)]) (by omega)
theorem chk3_0_ok (H : Built' v0 v1 N K) : k0_chk3_0 v0 v1 := by
  have hn := H.hn; have hK := H.hi; have hlo := H.lo; have hk := H.k; have hs := steps_slots N; rw [← hk] at hs
  unfold k0_chk3_0
  refine ⟨?_,
    ok6 H,
    ?_,
    ?_,
    ?_,
    ?_,
    ?_,
    ?_,
    ?_,
    ?_,
    ?_,
    ?_,
    fun _ _ => by decide,
    ?_,
    ?_,
    ?_,
    ?_,
    ?_,
    ?_,
    ?_,
    ?_,
    ?_,
    ?_,
    ?_,
    ?_,
    ?_,
    ?_,
    ?_,
    ?_,
    ?_,
    ?_,
    ?_⟩
  · intro t2
    have h2' : t2.val < 16 := t2.isLt.trans_eq trips2
    exact inb1 (off4_eq H t2) (by omega)
  · intro t6 t7
    have h6 : t6.val < K := t6.isLt.trans_eq (trips6 H)
    have h7' : t7.val < 16 := t7.isLt.trans_eq trips7
    exact inb1 (off34_eq H t6 t7) (by omega)
  · intro t6
    have h6 : t6.val < K := t6.isLt.trans_eq (trips6 H)
    exact inb1 (off35_eq H t6) (by omega)
  · intro t6 t7
    have h6 : t6.val < K := t6.isLt.trans_eq (trips6 H)
    have h7' : t7.val < 16 := t7.isLt.trans_eq trips7
    exact inb4 (off36_eq H t6 t7) (by omega) (by omega) (by omega) (by omega)
  · intro t6 t7 hinb
    have h6 : t6.val < K := t6.isLt.trans_eq (trips6 H)
    have h7' : t7.val < 16 := t7.isLt.trans_eq trips7
    exact Affine.words_rows (by decide) (by show k0_off36 _ _ _ _ _ = 0; rw [off36_eq H t6 t7]; rfl) rfl
  · intro t6 t7
    have h6 : t6.val < K := t6.isLt.trans_eq (trips6 H)
    have h7' : t7.val < 16 := t7.isLt.trans_eq trips7
    exact inb4 (off38_eq H t6 t7) (by omega) (by omega) (by omega) (by omega)
  · intro t6 t7 hinb
    have h6 : t6.val < K := t6.isLt.trans_eq (trips6 H)
    have h7' : t7.val < 16 := t7.isLt.trans_eq trips7
    exact Affine.words_rows (by decide) (by show k0_off38 _ _ _ _ _ = 0; rw [off38_eq H t6 t7]; rfl) rfl
  · intro t6 t7
    have h6 : t6.val < K := t6.isLt.trans_eq (trips6 H)
    have h7' : t7.val < 16 := t7.isLt.trans_eq trips7
    exact inb4 (off40_eq H t6 t7) (by omega) (by omega) (by omega) (by omega)
  · intro t6 t7 hinb
    have h6 : t6.val < K := t6.isLt.trans_eq (trips6 H)
    have h7' : t7.val < 16 := t7.isLt.trans_eq trips7
    exact Affine.words_rows (by decide) (by show k0_off40 _ _ _ _ _ = 0; rw [off40_eq H t6 t7]; rfl) rfl
  · intro t6 t7
    have h6 : t6.val < K := t6.isLt.trans_eq (trips6 H)
    have h7' : t7.val < 16 := t7.isLt.trans_eq trips7
    exact inb4 (off42_eq H t6 t7) (by omega) (by omega) (by omega) (by omega)
  · intro t6 t7 hinb
    have h6 : t6.val < K := t6.isLt.trans_eq (trips6 H)
    have h7' : t7.val < 16 := t7.isLt.trans_eq trips7
    exact Affine.words_rows (by decide) (by show k0_off42 _ _ _ _ _ = 0; rw [off42_eq H t6 t7]; rfl) rfl
  · intro t6 t8 h2
    have h6 : t6.val < K := t6.isLt.trans_eq (trips6 H)
    have h8' : t8.val < 16 := t8.isLt.trans_eq trips8
    have g2 := (cond2_iff H t6).1 h2
    exact inb1 (off44_eq H t6 t8 g2) (by omega)
  · intro t6 t9
    have h6 : t6.val < K := t6.isLt.trans_eq (trips6 H)
    have h9' : t9.val < 16 := t9.isLt.trans_eq trips9
    exact inb1 (off51_eq H t6 t9) (by omega)
  · intro t6 t9 r
    have h6 : t6.val < K := t6.isLt.trans_eq (trips6 H)
    have h9' : t9.val < 16 := t9.isLt.trans_eq trips9
    have hr := r.isLt
    exact inb4 (off54_eq H t6 t9 r.val hr) (by omega) (by omega) (by omega) (by omega)
  · intro t6 t9 r
    have h6 : t6.val < K := t6.isLt.trans_eq (trips6 H)
    have h9' : t9.val < 16 := t9.isLt.trans_eq trips9
    have hr := r.isLt
    exact inb4 (off55_eq H t6 t9 r.val hr) (by omega) (by omega) (by omega) (by omega)
  · intro t6 t9 r
    have h6 : t6.val < K := t6.isLt.trans_eq (trips6 H)
    have h9' : t9.val < 16 := t9.isLt.trans_eq trips9
    have hr := r.isLt
    exact inb4 (off68_eq H t6 t9 r.val hr) (by omega) (by omega) (by omega) (by omega)
  · intro t6 t9 r hinb
    have h6 : t6.val < K := t6.isLt.trans_eq (trips6 H)
    have h9' : t9.val < 16 := t9.isLt.trans_eq trips9
    have hr := r.isLt
    exact Affine.packed_dvd (by decide) (by show 2 ∣ k0_off68 _ _ _ _ _ _; rw [off68_eq H t6 t9 r.val hr]; exact (by decide : 2 ∣ 0)) (by exact (by decide : 2 ∣ 16))
  · intro t6 t9 r
    have h6 : t6.val < K := t6.isLt.trans_eq (trips6 H)
    have h9' : t9.val < 16 := t9.isLt.trans_eq trips9
    have hr := r.isLt
    exact inb4 (off69_eq H t6 t9 r.val hr) (by omega) (by omega) (by omega) (by omega)
  · intro t6 t9 r hinb
    have h6 : t6.val < K := t6.isLt.trans_eq (trips6 H)
    have h9' : t9.val < 16 := t9.isLt.trans_eq trips9
    have hr := r.isLt
    exact Affine.packed_dvd (by decide) (by show 2 ∣ k0_off69 _ _ _ _ _ _; rw [off69_eq H t6 t9 r.val hr]; exact (by decide : 2 ∣ 0)) (by exact (by decide : 2 ∣ 16))
  · intro t6 t9 r
    have h6 : t6.val < K := t6.isLt.trans_eq (trips6 H)
    have h9' : t9.val < 16 := t9.isLt.trans_eq trips9
    have hr := r.isLt
    exact inb4 (off70_eq H t6 t9 r.val hr) (by omega) (by omega) (by omega) (by omega)
  · intro t6 t9 r hinb
    have h6 : t6.val < K := t6.isLt.trans_eq (trips6 H)
    have h9' : t9.val < 16 := t9.isLt.trans_eq trips9
    have hr := r.isLt
    exact Affine.packed_dvd (by decide) (by show 2 ∣ k0_off70 _ _ _ _ _ _; rw [off70_eq H t6 t9 r.val hr]; exact (by decide : 2 ∣ 0)) (by exact (by decide : 2 ∣ 16))
  · intro t6 t9 r
    have h6 : t6.val < K := t6.isLt.trans_eq (trips6 H)
    have h9' : t9.val < 16 := t9.isLt.trans_eq trips9
    have hr := r.isLt
    exact inb4 (off71_eq H t6 t9 r.val hr) (by omega) (by omega) (by omega) (by omega)
  · intro t6 t9 r hinb
    have h6 : t6.val < K := t6.isLt.trans_eq (trips6 H)
    have h9' : t9.val < 16 := t9.isLt.trans_eq trips9
    have hr := r.isLt
    exact Affine.packed_dvd (by decide) (by show 2 ∣ k0_off71 _ _ _ _ _ _; rw [off71_eq H t6 t9 r.val hr]; exact (by decide : 2 ∣ 0)) (by exact (by decide : 2 ∣ 16))
  · intro t6 t10 h5
    have h6 : t6.val < K := t6.isLt.trans_eq (trips6 H)
    have h10' : t10.val < 16 := t10.isLt.trans_eq trips10
    have g5 := (cond5_iff H t6).1 h5
    exact inb1 (off72_eq H t6 t10) (by omega)
  · intro t6 h5
    have h6 : t6.val < K := t6.isLt.trans_eq (trips6 H)
    have g5 := (cond5_iff H t6).1 h5
    exact inb1 (off73_eq H t6) (by omega)
  · intro t6 t10 h5
    have h6 : t6.val < K := t6.isLt.trans_eq (trips6 H)
    have h10' : t10.val < 16 := t10.isLt.trans_eq trips10
    have g5 := (cond5_iff H t6).1 h5
    exact inb4 (off74_eq H t6 t10) (by omega) (by omega) (by omega) (by omega)
  · intro t6 t10 h5 hinb
    have h6 : t6.val < K := t6.isLt.trans_eq (trips6 H)
    have h10' : t10.val < 16 := t10.isLt.trans_eq trips10
    have g5 := (cond5_iff H t6).1 h5
    exact Affine.words_rows (by decide) (by show k0_off74 _ _ _ _ _ = 0; rw [off74_eq H t6 t10]; rfl) rfl
  · intro t6 t10 h5
    have h6 : t6.val < K := t6.isLt.trans_eq (trips6 H)
    have h10' : t10.val < 16 := t10.isLt.trans_eq trips10
    have g5 := (cond5_iff H t6).1 h5
    exact inb4 (off76_eq H t6 t10) (by omega) (by omega) (by omega) (by omega)
  · intro t6 t10 h5 hinb
    have h6 : t6.val < K := t6.isLt.trans_eq (trips6 H)
    have h10' : t10.val < 16 := t10.isLt.trans_eq trips10
    have g5 := (cond5_iff H t6).1 h5
    exact Affine.words_rows (by decide) (by show k0_off76 _ _ _ _ _ = 0; rw [off76_eq H t6 t10]; rfl) rfl
  · intro t6 t10 h5
    have h6 : t6.val < K := t6.isLt.trans_eq (trips6 H)
    have h10' : t10.val < 16 := t10.isLt.trans_eq trips10
    have g5 := (cond5_iff H t6).1 h5
    exact inb4 (off78_eq H t6 t10) (by omega) (by omega) (by omega) (by omega)
theorem chk3_1_ok (H : Built' v0 v1 N K) : k0_chk3_1 v0 v1 := by
  have hn := H.hn; have hK := H.hi; have hlo := H.lo; have hk := H.k; have hs := steps_slots N; rw [← hk] at hs
  unfold k0_chk3_1
  refine ⟨?_,
    ?_,
    ?_,
    ?_,
    ok12 H,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim,
    fun t12 => (none12 H t12).elim⟩
  · intro t6 t10 h5 hinb
    have h6 : t6.val < K := t6.isLt.trans_eq (trips6 H)
    have h10' : t10.val < 16 := t10.isLt.trans_eq trips10
    have g5 := (cond5_iff H t6).1 h5
    exact Affine.words_rows (by decide) (by show k0_off78 _ _ _ _ _ = 0; rw [off78_eq H t6 t10]; rfl) rfl
  · intro t6 t10 h5
    have h6 : t6.val < K := t6.isLt.trans_eq (trips6 H)
    have h10' : t10.val < 16 := t10.isLt.trans_eq trips10
    have g5 := (cond5_iff H t6).1 h5
    exact inb4 (off80_eq H t6 t10) (by omega) (by omega) (by omega) (by omega)
  · intro t6 t10 h5 hinb
    have h6 : t6.val < K := t6.isLt.trans_eq (trips6 H)
    have h10' : t10.val < 16 := t10.isLt.trans_eq trips10
    have g5 := (cond5_iff H t6).1 h5
    exact Affine.words_rows (by decide) (by show k0_off80 _ _ _ _ _ = 0; rw [off80_eq H t6 t10]; rfl) rfl
  · intro t6 t11
    have h6 : t6.val < K := t6.isLt.trans_eq (trips6 H)
    have h11' : t11.val < 16 := t11.isLt.trans_eq trips11
    exact inb1 (off82_eq H t6 t11) (by omega)
theorem chk3_2_ok (H : Built' v0 v1 N K) : k0_chk3_2 v0 v1 := by
  have hn := H.hn; have hK := H.hi; have hlo := H.lo; have hk := H.k; have hs := steps_slots N; rw [← hk] at hs
  unfold k0_chk3_2
  refine ⟨fun t12 => (none12 H t12).elim,
    fun t12 => (none12 H t12).elim,
    fun t12 => (none12 H t12).elim,
    fun t12 => (none12 H t12).elim,
    fun t12 => (none12 H t12).elim,
    fun t12 => (none12 H t12).elim,
    ?_⟩
  · intro t18 t19 h14
    have h18' : t18.val < 2 := t18.isLt.trans_eq trips18
    have h19' : t19.val < 16 := t19.isLt.trans_eq trips19
    exact inb1 (off144_eq H t18 t19) (by omega)
theorem chk3_ok (H : Built' v0 v1 N K) : k0_chk3 v0 v1 := ⟨chk3_0_ok H, chk3_1_ok H, chk3_2_ok H⟩
theorem chk4_ok {w : BitVec 32} (ha : wa w < 2600) (hb : wb w < 2600) {t3 : Fin k0_t3_loop.trips} : k0_chk4 v0 v1 t3 w := by
  have hw := wo_le w
  unfold k0_chk4
  refine ⟨fun _ => mult_dvd _,
    ?_,
    ?_,
    ?_,
    ?_,
    ?_,
    ?_,
    ?_,
    ?_⟩
  · intro h1
    exact inb3 (off8_eq _) (by omega) (by omega) (by omega)
  · intro h1 hinb
    exact Affine.words_rows (by decide) (by show k0_off8 _ _ = 0; rw [off8_eq _]; rfl) rfl
  · intro h1
    exact inb3 (off10_eq _) (by omega) (by omega) (by omega)
  · intro h1 hinb
    exact Affine.words_rows (by decide) (by show k0_off10 _ _ = 0; rw [off10_eq _]; rfl) rfl
  · intro h1
    exact inb3 (off12_eq _) (by omega) (by omega) (by omega)
  · intro h1 hinb
    exact Affine.words_rows (by decide) (by show k0_off12 _ _ = 0; rw [off12_eq _]; rfl) rfl
  · intro h1
    exact inb3 (off14_eq _) (by omega) (by omega) (by omega)
  · intro h1 hinb
    exact Affine.words_rows (by decide) (by show k0_off14 _ _ = 0; rw [off14_eq _]; rfl) rfl
theorem chk5_ok {w : BitVec 32} (ha : wa w < 2600) (hb : wb w < 2600) : k0_chk5 w := by
  have hw := wo_le w
  unfold k0_chk5
  refine ⟨mult_dvd _,
    ?_,
    ?_,
    ?_,
    ?_,
    ?_,
    ?_,
    ?_,
    ?_⟩
  · exact inb3 (off37_eq _) (by omega) (by omega) (by omega)
  · intro hinb
    exact Affine.words_rows (by decide) (by show k0_off37 _ _ = 0; rw [off37_eq _]; rfl) rfl
  · exact inb3 (off39_eq _) (by omega) (by omega) (by omega)
  · intro hinb
    exact Affine.words_rows (by decide) (by show k0_off39 _ _ = 0; rw [off39_eq _]; rfl) rfl
  · exact inb3 (off41_eq _) (by omega) (by omega) (by omega)
  · intro hinb
    exact Affine.words_rows (by decide) (by show k0_off41 _ _ = 0; rw [off41_eq _]; rfl) rfl
  · exact inb3 (off43_eq _) (by omega) (by omega) (by omega)
  · intro hinb
    exact Affine.words_rows (by decide) (by show k0_off43 _ _ = 0; rw [off43_eq _]; rfl) rfl
theorem chk6_ok (H : Built' v0 v1 N K) {w : BitVec 32} (ha : wa w < 2600) (hb : wb w < 2600) (t6 : Fin (k0_t6_loop v0 v1).trips) (t8 : Fin k0_t8_loop.trips) : k0_chk6 v0 v1 t6 t8 w := by
  have h8' := t8.isLt.trans_eq trips8
  unfold k0_chk6
  refine ⟨?_,
    ?_,
    ?_,
    ?_,
    ?_,
    ?_,
    ?_,
    ?_,
    ?_,
    ?_⟩
  · intro h2 h3
    have g2 := (cond2_iff H t6).1 h2
    exact inb1 (off45_eq H t6) (by omega)
  · intro h2 h3
    have g2 := (cond2_iff H t6).1 h2
    exact inb3 (off46_eq _) (by omega) (by omega) (by omega)
  · intro h2 h3
    have g2 := (cond2_iff H t6).1 h2
    exact inb4 (off47_eq H t6 t8) (by omega) (by omega) (by omega) (by omega)
  · intro h2 h3 hinb
    have g2 := (cond2_iff H t6).1 h2
    exact Affine.words_rows (by decide) (by show k0_off47 _ _ _ _ _ = 0; rw [off47_eq H t6 t8]; rfl) rfl
  · intro h2 h3 hinb
    have g2 := (cond2_iff H t6).1 h2
    exact Affine.words_rows (by decide) (by show k0_off46 _ _ = 0; rw [off46_eq _]; rfl) rfl
  · intro h2 h4
    have g2 := (cond2_iff H t6).1 h2
    exact inb1 (off48_eq H t6) (by omega)
  · intro h2 h4
    have g2 := (cond2_iff H t6).1 h2
    exact inb3 (off49_eq _) (by omega) (by omega) (by omega)
  · intro h2 h4
    have g2 := (cond2_iff H t6).1 h2
    exact inb4 (off50_eq H t6 t8) (by omega) (by omega) (by omega) (by omega)
  · intro h2 h4 hinb
    have g2 := (cond2_iff H t6).1 h2
    exact Affine.words_rows (by decide) (by show k0_off50 _ _ _ _ _ = 0; rw [off50_eq H t6 t8]; rfl) rfl
  · intro h2 h4 hinb
    have g2 := (cond2_iff H t6).1 h2
    exact Affine.words_rows (by decide) (by show k0_off49 _ _ = 0; rw [off49_eq _]; rfl) rfl
theorem chk7_ok {w : BitVec 32} (ha : wa w < 2600) (hb : wb w < 2600) : k0_chk7 w := by
  have hw := wo_le w
  unfold k0_chk7
  refine ⟨?_,
    ?_,
    ?_,
    ?_,
    ?_,
    ?_,
    ?_,
    ?_,
    ?_,
    ?_,
    ?_,
    ?_,
    ?_,
    ?_⟩
  · exact inb1 (off52_eq _) (by omega)
  · exact inb1 (off53_eq _) (by omega)
  · rw [off56_eq]; intro a; right; match a with | 0 => exact (show wa w + 2628 * (8 - 1) < 21024 by omega) | 1 => exact (by decide : 0 + 1 * (128 - 1) < 128)
  · exact inb2 (off57_eq _) (by omega) (by omega)
  · exact inb3 (off58_eq _) (by omega) (by omega) (by omega)
  · exact inb3 (off59_eq _) (by omega) (by omega) (by omega)
  · exact inb3 (off60_eq _) (by omega) (by omega) (by omega)
  · exact inb3 (off61_eq _) (by omega) (by omega) (by omega)
  · rw [off62_eq]; intro a; right; match a with | 0 => exact (show wb w + 2628 * (8 - 1) < 21024 by omega) | 1 => exact (by decide : 0 + 1 * (128 - 1) < 128)
  · exact inb2 (off63_eq _) (by omega) (by omega)
  · exact inb3 (off64_eq _) (by omega) (by omega) (by omega)
  · exact inb3 (off65_eq _) (by omega) (by omega) (by omega)
  · exact inb3 (off66_eq _) (by omega) (by omega) (by omega)
  · exact inb3 (off67_eq _) (by omega) (by omega) (by omega)
theorem chk8_ok {w : BitVec 32} (ha : wa w < 2600) (hb : wb w < 2600) (t6 : Fin (k0_t6_loop v0 v1).trips) : k0_chk8 v0 v1 t6 w := by
  have hw := wo_le w
  unfold k0_chk8
  refine ⟨fun _ => mult_dvd _,
    ?_,
    ?_,
    ?_,
    ?_,
    ?_,
    ?_,
    ?_,
    ?_⟩
  · intro h5
    exact inb3 (off75_eq _) (by omega) (by omega) (by omega)
  · intro h5 hinb
    exact Affine.words_rows (by decide) (by show k0_off75 _ _ = 0; rw [off75_eq _]; rfl) rfl
  · intro h5
    exact inb3 (off77_eq _) (by omega) (by omega) (by omega)
  · intro h5 hinb
    exact Affine.words_rows (by decide) (by show k0_off77 _ _ = 0; rw [off77_eq _]; rfl) rfl
  · intro h5
    exact inb3 (off79_eq _) (by omega) (by omega) (by omega)
  · intro h5 hinb
    exact Affine.words_rows (by decide) (by show k0_off79 _ _ = 0; rw [off79_eq _]; rfl) rfl
  · intro h5
    exact inb3 (off81_eq _) (by omega) (by omega) (by omega)
  · intro h5 hinb
    exact Affine.words_rows (by decide) (by show k0_off81 _ _ = 0; rw [off81_eq _]; rfl) rfl
theorem chk9_ok (H : Built' v0 v1 N K) {w : BitVec 32} (ha : wa w < 2600) (hb : wb w < 2600) (t6 : Fin (k0_t6_loop v0 v1).trips) (t11 : Fin k0_t11_loop.trips) : k0_chk9 v0 v1 t6 t11 w := by
  have h11' := t11.isLt.trans_eq trips11
  unfold k0_chk9
  refine ⟨?_,
    ?_,
    ?_,
    ?_,
    ?_,
    ?_,
    ?_,
    ?_,
    ?_,
    ?_⟩
  · intro h6
    exact inb1 (off83_eq H t6) (by omega)
  · intro h6
    exact inb3 (off84_eq _) (by omega) (by omega) (by omega)
  · intro h6
    exact inb4 (off85_eq H t6 t11) (by omega) (by omega) (by omega) (by omega)
  · intro h6 hinb
    exact Affine.words_rows (by decide) (by show k0_off85 _ _ _ _ _ = 0; rw [off85_eq H t6 t11]; rfl) rfl
  · intro h6 hinb
    exact Affine.words_rows (by decide) (by show k0_off84 _ _ = 0; rw [off84_eq _]; rfl) rfl
  · intro h7
    exact inb1 (off86_eq H t6) (by omega)
  · intro h7
    exact inb3 (off87_eq _) (by omega) (by omega) (by omega)
  · intro h7
    exact inb4 (off88_eq H t6 t11) (by omega) (by omega) (by omega) (by omega)
  · intro h7 hinb
    exact Affine.words_rows (by decide) (by show k0_off88 _ _ _ _ _ = 0; rw [off88_eq H t6 t11]; rfl) rfl
  · intro h7 hinb
    exact Affine.words_rows (by decide) (by show k0_off87 _ _ = 0; rw [off87_eq _]; rfl) rfl
theorem chk15_ok (H : Built' v0 v1 N K) {w : BitVec 32} (ha : wa w < 2600) (hb : wb w < 2600) (t18 : Fin k0_t18_loop.trips) (t19 : Fin k0_t19_loop.trips) : k0_chk15 v0 v1 t18 t19 w := by
  have h19' := t19.isLt.trans_eq trips19
  unfold k0_chk15
  refine ⟨?_,
    ?_,
    ?_,
    ?_,
    ?_,
    ?_,
    ?_,
    ?_,
    ?_,
    ?_⟩
  · intro h14 h15
    exact inb1 (off145_eq H t18) (by omega)
  · intro h14 h15
    exact inb3 (off146_eq _) (by omega) (by omega) (by omega)
  · intro h14 h15
    exact inb4 (off147_eq H t18 t19) (by omega) (by omega) (by omega) (by omega)
  · intro h14 h15 hinb
    exact Affine.words_rows (by decide) (by show k0_off147 _ _ _ _ _ = 0; rw [off147_eq H t18 t19]; rfl) rfl
  · intro h14 h15 hinb
    exact Affine.words_rows (by decide) (by show k0_off146 _ _ = 0; rw [off146_eq _]; rfl) rfl
  · intro h14 h16
    exact inb1 (off148_eq H t18) (by omega)
  · intro h14 h16
    exact inb3 (off149_eq _) (by omega) (by omega) (by omega)
  · intro h14 h16
    exact inb4 (off150_eq H t18 t19) (by omega) (by omega) (by omega) (by omega)
  · intro h14 h16 hinb
    exact Affine.words_rows (by decide) (by show k0_off150 _ _ _ _ _ = 0; rw [off150_eq H t18 t19]; rfl) rfl
  · intro h14 h16 hinb
    exact Affine.words_rows (by decide) (by show k0_off149 _ _ = 0; rw [off149_eq _]; rfl) rfl

end Cert.KernelIdeal
end
-- ==== Proof.Slots.lean ====
/-
  The ring slots of the kernel as memrefs, and the copy and wait rules stated over them: a copy
  into a slot hands the slot to its batch at what the source reads, whatever the slot held.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.Tactic
public import proofs.«01_k».proof.Proof.Offs

@[expose] public section

noncomputable section

namespace Cert.KernelIdeal.Hand

open Cert.KernelIdeal Cert.KernelIdeal.Gen Cert.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A finished step bound to its continuation is the continuation. -/
theorem ret_bind' {E : Type → Type} {α β : Type} (a : α) (k : α → Prog E β) : (Prog.ret a).bind k = k a := rfl

/-! ## The slots -/

theorem kvSlot_inb (r : Fin 4) (t : Fin 32) : ∀ a, (![r.val, t.val, 0, 0] : Fin 4 → ℕ) a + S1x1x656x128.size a ≤ S4x32x656x128.size a := by
  have := r.isLt; have := t.isLt
  intro a; fin_cases a <;> simp [Shape.ofList] <;> omega
theorem xSlot_inb (r : Fin 4) (t : Fin 32) : ∀ a, (![r.val, t.val, 0, 0] : Fin 4 → ℕ) a + S1x1x16x512.size a ≤ S4x32x16x512.size a := by
  have := r.isLt; have := t.isLt
  intro a; fin_cases a <;> simp [Shape.ofList] <;> omega
theorem oSlot_inb (r : Fin 2) (t : Fin 32) : ∀ a, (![r.val, t.val, 0, 0] : Fin 4 → ℕ) a + S1x1x16x512.size a ≤ S2x32x16x512.size a := by
  have := r.isLt; have := t.isLt
  intro a; fin_cases a <;> simp [Shape.ofList] <;> omega
theorem kvRow_inb (a o : ℕ) : ∀ i, (![a % 2600, 0, o % 129] : Fin 3 → ℕ) i + S1x656x128.size i ≤ S2600x656x256.size i := by
  have := Nat.mod_lt a (show 2600 > 0 by omega); have := Nat.mod_lt o (show 129 > 0 by omega)
  intro i; fin_cases i <;> simp [Shape.ofList] <;> omega
theorem xRow_inb (a : ℕ) : ∀ i, (![a % 2600, 0, 0] : Fin 3 → ℕ) i + S1x16x512.size i ≤ S2600x16x512.size i := by
  have := Nat.mod_lt a (show 2600 > 0 by omega)
  intro i; fin_cases i <;> simp [Shape.ofList] <;> omega

/-- A slot of the cache ring. -/
abbrev kvSlot (r : Fin 4) (t : Fin 32) : Memref sig .tc .vmem S656x128 .i8 :=
  ((Memref.whole cc0_scratch0).slice (Rect.unit (s := S4x32x656x128) ![r.val, t.val, 0, 0] S1x1x656x128.size (kvSlot_inb r t)) (fun _ => rfl)).squeeze
    S656x128 squeezes_S1x1x656x128_S656x128
/-- A slot of the query ring. -/
abbrev xSlot (r : Fin 4) (t : Fin 32) : Memref sig .tc .vmem S16x512 .bf16 :=
  ((Memref.whole cc0_scratch1).slice (Rect.unit (s := S4x32x16x512) ![r.val, t.val, 0, 0] S1x1x16x512.size (xSlot_inb r t)) (fun _ => rfl)).squeeze
    S16x512 squeezes_S1x1x16x512_S16x512
/-- A slot of the output ring. -/
abbrev oSlot (r : Fin 2) (t : Fin 32) : Memref sig .tc .vmem S16x512 .bf16 :=
  ((Memref.whole cc0_scratch7).slice (Rect.unit (s := S2x32x16x512) ![r.val, t.val, 0, 0] S1x1x16x512.size (oSlot_inb r t)) (fun _ => rfl)).squeeze
    S16x512 squeezes_S1x1x16x512_S16x512
/-- Half a row of the transposed cache. -/
abbrev kvRow (a o : ℕ) : Memref sig .tc .hbm S656x128 .i8 :=
  ((Memref.whole main_v0).slice (Rect.unit (s := S2600x656x256) ![a % 2600, 0, o % 129] S1x656x128.size (kvRow_inb a o)) (fun _ => rfl)).squeeze
    S656x128 squeezes_S1x656x128_S656x128
/-- A row of the queries. -/
abbrev xRow (a : ℕ) : Memref sig .tc .hbm S16x512 .bf16 :=
  ((Memref.whole main_v1).slice (Rect.unit (s := S2600x16x512) ![a % 2600, 0, 0] S1x16x512.size (xRow_inb a)) (fun _ => rfl)).squeeze
    S16x512 squeezes_S1x16x512_S16x512
/-- A row of the result. -/
abbrev outRow (a : ℕ) : Memref sig .tc .hbm S16x512 .bf16 :=
  ((Memref.whole main_v7).slice (Rect.unit (s := S2600x16x512) ![a % 2600, 0, 0] S1x16x512.size (xRow_inb a)) (fun _ => rfl)).squeeze
    S16x512 squeezes_S1x16x512_S16x512

theorem kvSlot_eq {off : Fin 4 → ℕ} (inb) {r : Fin 4} {t : Fin 32} (h : off = ![r.val, t.val, 0, 0]) :
    ((Memref.whole cc0_scratch0).slice (Rect.unit (s := S4x32x656x128) off S1x1x656x128.size inb) (fun _ => rfl)).squeeze
      S656x128 squeezes_S1x1x656x128_S656x128 = kvSlot r t := by subst h; rfl
theorem xSlot_eq {off : Fin 4 → ℕ} (inb) {r : Fin 4} {t : Fin 32} (h : off = ![r.val, t.val, 0, 0]) :
    ((Memref.whole cc0_scratch1).slice (Rect.unit (s := S4x32x16x512) off S1x1x16x512.size inb) (fun _ => rfl)).squeeze
      S16x512 squeezes_S1x1x16x512_S16x512 = xSlot r t := by subst h; rfl
theorem oSlot_eq {off : Fin 4 → ℕ} (inb) {r : Fin 2} {t : Fin 32} (h : off = ![r.val, t.val, 0, 0]) :
    ((Memref.whole cc0_scratch7).slice (Rect.unit (s := S2x32x16x512) off S1x1x16x512.size inb) (fun _ => rfl)).squeeze
      S16x512 squeezes_S1x1x16x512_S16x512 = oSlot r t := by subst h; rfl
theorem kvRow_eq {off : Fin 3 → ℕ} (inb) {a o : ℕ} (h : off = ![a, 0, o]) (ha : a < 2600) (ho : o ≤ 128) :
    ((Memref.whole main_v0).slice (Rect.unit (s := S2600x656x256) off S1x656x128.size inb) (fun _ => rfl)).squeeze
      S656x128 squeezes_S1x656x128_S656x128 = kvRow a o := by
  have h' : off = ![a % 2600, 0, o % 129] := by rw [h, Nat.mod_eq_of_lt ha, Nat.mod_eq_of_lt (show o < 129 by omega)]
  subst h'; rfl
theorem xRow_eq {off : Fin 3 → ℕ} (inb) {a : ℕ} (h : off = ![a, 0, 0]) (ha : a < 2600) :
    ((Memref.whole main_v1).slice (Rect.unit (s := S2600x16x512) off S1x16x512.size inb) (fun _ => rfl)).squeeze
      S16x512 squeezes_S1x16x512_S16x512 = xRow a := by
  have h' : off = ![a % 2600, 0, 0] := by rw [h, Nat.mod_eq_of_lt ha]
  subst h'; rfl
theorem outRow_eq {off : Fin 3 → ℕ} (inb) {a : ℕ} (h : off = ![a, 0, 0]) (ha : a < 2600) :
    ((Memref.whole main_v7).slice (Rect.unit (s := S2600x16x512) off S1x16x512.size inb) (fun _ => rfl)).squeeze
      S16x512 squeezes_S1x16x512_S16x512 = outRow a := by
  have h' : off = ![a % 2600, 0, 0] := by rw [h, Nat.mod_eq_of_lt ha]
  subst h'; rfl

/-! ## The semaphore cells -/

abbrev kvSem (r : Fin 4) : DmaSem sig := ⟨r.val, by have := r.isLt; show _ < 16; omega⟩
abbrev xSem (r : Fin 4) : DmaSem sig := ⟨4 + r.val, by have := r.isLt; show _ < 16; omega⟩
abbrev oSem (r : Fin 2) : DmaSem sig := ⟨8 + r.val, by have := r.isLt; show _ < 16; omega⟩

theorem cell_idx {n : ℕ} (s : Shape) (hs : s = ⟨1, ![n]⟩) {off : Fin 1 → ℕ} {r : ℕ} (inb : ∀ a, off a + S1.size a ≤ (⟨1, ![n]⟩ : Shape).size a) (h : off = ![r])
    (x : (Rect.unit (s := ⟨1, ![n]⟩) off S1.size inb).shape.Idx) :
    ((⟨1, ![n]⟩ : Shape).rowMajor ((Rect.unit (s := ⟨1, ![n]⟩) off S1.size inb).emb x)).val = r := by
  subst h
  have hx : (x 0).val = 0 := by have := (x 0).isLt; exact Nat.lt_one_iff.1 this
  simp [Shape.rowMajor_val_one, Rect.emb_apply, hx]

theorem kvSem_eq {off : Fin 1 → ℕ} (inb) {r : Fin 4} (h : off = ![r.val]) :
    ((cc0_scratch9.slice (Rect.unit (s := S4) off S1.size inb)).squeeze S_ squeezes_S1_S_).sem = kvSem r :=
  Fin.ext (congrArg (0 + ·) (cell_idx _ rfl inb h _) |>.trans (Nat.zero_add _))
theorem xSem_eq {off : Fin 1 → ℕ} (inb) {r : Fin 4} (h : off = ![r.val]) :
    ((cc0_scratch10.slice (Rect.unit (s := S4) off S1.size inb)).squeeze S_ squeezes_S1_S_).sem = xSem r :=
  Fin.ext (congrArg (4 + ·) (cell_idx _ rfl inb h _))
theorem oSem_eq {off : Fin 1 → ℕ} (inb) {r : Fin 2} (h : off = ![r.val]) :
    ((cc0_scratch11.slice (Rect.unit (s := S2) off S1.size inb)).squeeze S_ squeezes_S1_S_).sem = oSem r :=
  Fin.ext (congrArg (8 + ·) (cell_idx _ rfl inb h _))

/-! ## Copy and wait -/

/-- A copy between memrefs: the destination goes to its batch at what the source reads. -/
theorem wp_copy (c : Dev nD) {sp sp' : Space} {s : Shape} {e : EltTy} {α : Type}
    {src' src : Memref sig .tc sp s e} {dst' dst : Memref sig .tc sp' s e} {sem' sem : DmaSem sig}
    (hs : src' = src) (hd : dst' = dst) (hm : sem' = sem)
    {hsrc : src'.view.WordExact} {hdst : dst'.view.WordExact}
    {hsem : DmaTarget.Typed (nD := nD) (τ := τ) sp (SemLoc.dma sem') (.here (p := .tc) dst')}
    {k : PUnit → Prog (TpuEff nD τ sig (Elt F) Λ₀ .tc) α} {Q : α → sProp 𝕄}
    {q : PosShare TreeShare} {fs : Buf (Elt F) (src.view.loc (c : Thread nD τ))} {S : Finset (Idx (src.view.loc (c : Thread nD τ)))}
    {n : ℕ} {D : Fin n → sProp 𝕄} {j u : ℕ} (N : ℕ) (hN : dst.view.dmaCredit = N) (hS : src.view.set ⊆ S) (hj : j < n) (hu : u ≤ j * N)
    (hD : iprop(owns (c : Thread nD τ) dst fullShare (src.view.read (Elt F) fs) ∗ (src.view.loc (c : Thread nD τ) ↦[src.view.set]{q} fs)) ⊢ D ⟨j, hj⟩) :
    iprop((src.view.loc (c : Thread nD τ) ↦[S]{q} fs) ∗ (∃ d, owns (c : Thread nD τ) dst fullShare d)
        ∗ Transfers.Batch (countersEmb (U := Pipeline.UD sig nD τ)) (c : Thread nD τ) (.dma sem) () N D j u)
      ⊢ iprop((iprop((src.view.loc (c : Thread nD τ) ↦[S \ src.view.set]{q} fs)
            ∗ Transfers.Batch (countersEmb (U := Pipeline.UD sig nD τ)) (c : Thread nD τ) (.dma sem) () N D (j + 1) u)
          -∗ wp frame (wpE (defs₀ (F := F)) Variants.none (c : Thread nD τ) none) Set.univ (k ⟨⟩) Q)
        -∗ wp frame (wpE (defs₀ (F := F)) Variants.none (c : Thread nD τ) none) Set.univ
            (.op (.enqueueDma src' (.here dst') (.dma sem') hsrc hdst hsem) k) Q) := by
  subst hs hd hm
  iintro ⟨Hs, ⟨%d, Hd⟩, HB⟩ Hk
  unfold owns
  icases Hd with ⟨%fd, -, Hd⟩
  ihave Hs' := (pointsTo_split_subset hS).1 $$ Hs
  icases Hs' with ⟨Hs, Hr⟩
  iapply (Transfers.wp_dmaBatch (countersEmb (U := Pipeline.UD sig nD τ)) Variants.none (c : Thread nD τ) none (src := src') (dst := dst')
    () N (show View.amount _ (SemLoc.dma sem') = N from hN) subset_rfl (D := D) (j := j) (u := u) (q := q) (fs := fs) (fd := fd) hj hu ?hD) $$ [Hs Hd HB]
  case hD =>
    refine .trans ?_ hD
    unfold owns
    iintro ⟨H1, H2⟩
    isplitl [H1]
    · iexists _
      isplitr
      swap
      · iexact H1
      ipureintro
      exact View.read_write_univ ..
    iexact H2
  · isplitl [Hs]; · iexact Hs
    isplitl [Hd]; · iexact Hd
    iexact HB
  iintro HB
  iapply Hk
  isplitl [Hr]; · iexact Hr
  iexact HB

/-- A wait on a batch for one of its transfers. -/
theorem wp_wait (c : Dev nD) {sp sp' : Space} {s s' : Shape} {e e' : EltTy} {α : Type}
    {srcw : Memref sig .tc sp' s' e'} {dstw : Memref sig .tc sp s e} {sem' sem : DmaSem sig} (hm : sem' = sem)
    {hsrc : srcw.view.WordExact} {hdst : dstw.view.WordExact}
    {k : PUnit → Prog (TpuEff nD τ sig (Elt F) Λ₀ .tc) α} {Q : α → sProp 𝕄}
    {n : ℕ} {D : Fin n → sProp 𝕄} {j u : ℕ} (N : ℕ) (hN : dstw.view.dmaCredit = N) (hu : u + 1 ≤ j) :
    iprop(Transfers.Batch (countersEmb (U := Pipeline.UD sig nD τ)) (c : Thread nD τ) (.dma sem) () N D j (u * N)
        ∗ (∃ W, owes (c : Thread nD τ) 0 W))
      ⊢ iprop((iprop(Transfers.Batch (countersEmb (U := Pipeline.UD sig nD τ)) (c : Thread nD τ) (.dma sem) () N D j ((u + 1) * N)
            ∗ (∃ W, owes (c : Thread nD τ) 0 W))
          -∗ wp frame (wpE (defs₀ (F := F)) Variants.none (c : Thread nD τ) none) Set.univ (k ⟨⟩) Q)
        -∗ wp frame (wpE (defs₀ (F := F)) Variants.none (c : Thread nD τ) none) Set.univ
            (.op (.waitDma2 sem' srcw dstw hsrc hdst) k) Q) := by
  subst hm
  iintro ⟨HB, ⟨%W, HW⟩⟩ Hk
  iapply (Transfers.wp_waitBatchMul (countersEmb (U := Pipeline.UD sig nD τ)) Variants.none (c : Thread nD τ) none
    () (N := N) 1 (by rw [hN, one_mul]) (D := D) (j := j) (u := u * N)
    (by rw [one_mul, ← Nat.succ_mul, Nat.mul_comm N j]; exact Nat.mul_le_mul_right N hu)) $$ [HB HW]
  · isplitl [HB]; · iexact HB
    iexact HW
  rw [show u * N + 1 * N = (u + 1) * N by rw [Nat.add_mul]]
  iintro ⟨HB, HW⟩
  iapply Hk
  isplitl [HB]; · iexact HB
  iexists _; iexact HW

/-! ## Reading a slot -/

/-- What a load of a whole slot reads, from the slot's two-axis reading. -/
abbrev unsq {V : Type} (d : S656x128.Idx → V) : S1x1x656x128.Idx → V :=
  fun i => d ((Shape.reshapeEquiv squeezes_S1x1x656x128_S656x128.numel_eq).symm i)
abbrev unsqX {V : Type} (d : S16x512.Idx → V) : S1x1x16x512.Idx → V :=
  fun i => d ((Shape.reshapeEquiv squeezes_S1x1x16x512_S16x512.numel_eq).symm i)

/-- A load of a rectangle owned through its squeezed slice. -/
theorem wp_loadSq (c : Dev nD) {α : Type} {cs : CoreSpace} {s s' : Shape} {e : EltTy} (m : Memref sig .tc cs s e) (r : Rect s) (hr : ∀ a, r.stride a = 1)
    (hq : r.shape.Squeezes s') {hl : m.view.LoadsAt r.toLoadRect}
    {d : s'.Idx → Elt F e} {k : (r.shape.Idx → Elt F e) → Prog (TpuEff nD τ sig (Elt F) Λ₀ .tc) α} {Q : α → sProp 𝕄} :
    (owns (c : Thread nD τ) ((m.slice r hr).squeeze s' hq) fullShare d)
      ⊢ iprop((owns (c : Thread nD τ) ((m.slice r hr).squeeze s' hq) fullShare d
          -∗ wp frame (wpE (defs₀ (F := F)) Variants.none (c : Thread nD τ) none) Set.univ (k (fun i => d ((Shape.reshapeEquiv hq.numel_eq).symm i))) Q)
        -∗ wp frame (wpE (defs₀ (F := F)) Variants.none (c : Thread nD τ) none) Set.univ (.op (.load m r.toLoadRect hl) k) Q) := by
  unfold owns
  iintro ⟨%f, %hf, H⟩ Hk
  have hset : ((m.slice r hr).squeeze s' hq).view.set = (m.access r).set := View.set_reshape ..
  rw [hset]
  have hv : (m.access r).read (Elt F) f = fun i => d ((Shape.reshapeEquiv hq.numel_eq).symm i) := by
    subst hf; funext i
    show View.read _ _ _ _ = View.read _ ((m.access r).reshape s' hq.numel_eq) _ _
    rw [View.read_apply, View.read_apply]
    simp
  iapply (wp_load_rect Variants.none (c : Thread nD τ) none Set.univ (m := m) (r := r) (f := f) (S := (m.access r).set) subset_rfl) $$ [H]
  · iexact H
  iintro H
  rw [hv]
  iapply Hk
  iexists f
  isplitr; · ipureintro; exact hf
  iexact H

theorem wp_loadKv (c : Dev nD) {α : Type} {off : Fin 4 → ℕ} {inb} {hl} {r : Fin 4} {t : Fin 32} (h : off = ![r.val, t.val, 0, 0])
    {d : S656x128.Idx → Elt F .i8} {k : (S1x1x656x128.Idx → Elt F .i8) → Prog (TpuEff nD τ sig (Elt F) Λ₀ .tc) α} {Q : α → sProp 𝕄} :
    (owns (c : Thread nD τ) (kvSlot r t) fullShare d)
      ⊢ iprop((owns (c : Thread nD τ) (kvSlot r t) fullShare d
          -∗ wp frame (wpE (defs₀ (F := F)) Variants.none (c : Thread nD τ) none) Set.univ (k (unsq d)) Q)
        -∗ wp frame (wpE (defs₀ (F := F)) Variants.none (c : Thread nD τ) none) Set.univ
            (.op (.load (Memref.whole cc0_scratch0) (Rect.unit (s := S4x32x656x128) off S1x1x656x128.size inb).toLoadRect hl) k) Q) := by
  subst h
  exact wp_loadSq c (Memref.whole cc0_scratch0) _ _ _

theorem wp_loadX (c : Dev nD) {α : Type} {off : Fin 4 → ℕ} {inb} {hl} {r : Fin 4} {t : Fin 32} (h : off = ![r.val, t.val, 0, 0])
    {d : S16x512.Idx → Elt F .bf16} {k : (S1x1x16x512.Idx → Elt F .bf16) → Prog (TpuEff nD τ sig (Elt F) Λ₀ .tc) α} {Q : α → sProp 𝕄} :
    (owns (c : Thread nD τ) (xSlot r t) fullShare d)
      ⊢ iprop((owns (c : Thread nD τ) (xSlot r t) fullShare d
          -∗ wp frame (wpE (defs₀ (F := F)) Variants.none (c : Thread nD τ) none) Set.univ (k (unsqX d)) Q)
        -∗ wp frame (wpE (defs₀ (F := F)) Variants.none (c : Thread nD τ) none) Set.univ
            (.op (.load (Memref.whole cc0_scratch1) (Rect.unit (s := S4x32x16x512) off S1x1x16x512.size inb).toLoadRect hl) k) Q) := by
  subst h
  exact wp_loadSq c (Memref.whole cc0_scratch1) _ _ _

/-! ## Conjunctions over an initial or a final segment -/

theorem from_split {n : ℕ} (Φ : Fin n → sProp 𝕄) {j : ℕ} (hj : j < n) :
    BI.bigSep (Finset.univ.filter fun t : Fin n => j ≤ t.val) Φ
      = iprop(Φ ⟨j, hj⟩ ∗ BI.bigSep (Finset.univ.filter fun t : Fin n => j + 1 ≤ t.val) Φ) := by
  rw [show (Finset.univ.filter fun t : Fin n => j ≤ t.val) = insert ⟨j, hj⟩ (Finset.univ.filter fun t : Fin n => j + 1 ≤ t.val) by
    ext t; simp only [Finset.mem_filter, Finset.mem_univ, true_and, Finset.mem_insert, Fin.ext_iff]; omega]
  rw [BI.bigSep_insert (by simp)]; rfl
theorem upto_split {n : ℕ} (Φ : Fin n → sProp 𝕄) {j : ℕ} (hj : j < n) :
    BI.bigSep (Finset.univ.filter fun t : Fin n => t.val < j + 1) Φ
      = iprop(Φ ⟨j, hj⟩ ∗ BI.bigSep (Finset.univ.filter fun t : Fin n => t.val < j) Φ) := by
  rw [show (Finset.univ.filter fun t : Fin n => t.val < j + 1) = insert ⟨j, hj⟩ (Finset.univ.filter fun t : Fin n => t.val < j) by
    ext t; simp only [Finset.mem_filter, Finset.mem_univ, true_and, Finset.mem_insert, Fin.ext_iff]; omega]
  rw [BI.bigSep_insert (by simp)]; rfl
theorem from_zero {n : ℕ} : (Finset.univ.filter fun t : Fin n => 0 ≤ t.val) = Finset.univ := by
  ext; simp
theorem from_all {n : ℕ} : (Finset.univ.filter fun t : Fin n => n ≤ t.val) = ∅ := by
  ext t; simp
theorem upto_zero {n : ℕ} : (Finset.univ.filter fun t : Fin n => t.val < 0) = ∅ := by
  ext; simp
theorem upto_all {n : ℕ} : (Finset.univ.filter fun t : Fin n => t.val < n) = Finset.univ := by
  ext t; simp

end Cert.KernelIdeal.Hand

end
-- ==== Proof.Rings.lean ====
/-
  The input rings: what a ring cell holds while idle, while its copies are being issued, in flight,
  and once they have landed; and the issue, wait and collect steps over them.
-/
module

public import proofs.«01_k».proof.Proof.Slots

@[expose] public section

noncomputable section

namespace Cert.KernelIdeal.Hand

open Cert.KernelIdeal Cert.KernelIdeal.Gen Cert.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

/-- The share of a source array that the copies into slot `t` of ring entry `r` read through. -/
def tok (r : Fin 4) (t : Fin 32) : PosShare TreeShare :=
  Transfers.dealOf (Transfers.dealOf fullShare Finset.univ r) Finset.univ t

/-- The column at which the half row in position `p` starts. -/
def offAt (T : ℕ → BitVec 32) (p : ℕ) : ℕ := if p % 2 = 0 then 0 else wo (T (p / 2))
theorem offAt_even {T : ℕ → BitVec 32} {n : ℕ} : offAt T (2 * n) = 0 := by
  unfold offAt; rw [if_pos (by omega)]
theorem offAt_odd {T : ℕ → BitVec 32} {n : ℕ} : offAt T (2 * n + 1) = wo (T n) := by
  unfold offAt; rw [if_neg (by omega), show (2 * n + 1) / 2 = n by omega]

theorem big_sep2 {I : Type} (s : Finset I) (Φ Ψ : I → sProp 𝕄) : iprop(BI.bigSep s Φ ∗ BI.bigSep s Ψ) ⊢ BI.bigSep s (fun i => iprop(Φ i ∗ Ψ i)) :=
  Entails.of_eq (BI.bigSep_sep s Φ Ψ).symm
theorem big_sep2' {I : Type} (s : Finset I) (Φ Ψ : I → sProp 𝕄) : BI.bigSep s (fun i => iprop(Φ i ∗ Ψ i)) ⊢ iprop(BI.bigSep s Φ ∗ BI.bigSep s Ψ) :=
  Entails.of_eq (BI.bigSep_sep s Φ Ψ)

/-! ## The kv ring -/

section kv
variable (kvt : Buf (Elt F) ((c : Thread nD τ).loc main_v0)) (T : ℕ → BitVec 32)

abbrev kvN : ℕ := (kvSlot 0 0).view.dmaCredit
theorem kvN_pos : 0 < kvN := by decide
theorem kvN_slot (r : Fin 4) (t : Fin 32) : (kvSlot r t).view.dmaCredit = kvN := rfl

/-- The source of the copy in position `p`, and what it reads. -/
abbrev kvSrc (p : ℕ) : Memref sig .tc .hbm S656x128 .i8 := kvRow (rowAt T p) (offAt T p)
def kvVal (p : ℕ) : S656x128.Idx → Elt F .i8 := (kvSrc T p).view.read (Elt F) kvt

/-- The share of the source array kept for one slot. -/
def kvLeaf (r : Fin 4) (t : Fin 32) : sProp 𝕄 := (c : Thread nD τ).loc main_v0 ↦[Finset.univ]{tok r t} kvt
/-- A slot that no copy is filling. -/
def kvFree (r : Fin 4) (t : Fin 32) : sProp 𝕄 := iprop(∃ d : S656x128.Idx → Elt F .i8, owns (c : Thread nD τ) (kvSlot r t) fullShare d)
/-- What a copy of step `i` delivers. -/
def kvD (r : Fin 4) (i : ℕ) (t : Fin 32) : sProp 𝕄 :=
  iprop(owns (c : Thread nD τ) (kvSlot r t) fullShare (kvVal c kvt T (32 * i + t.val))
    ∗ ((kvSrc T (32 * i + t.val)).view.loc (c : Thread nD τ) ↦[(kvSrc T (32 * i + t.val)).view.set]{tok r t} kvt))
/-- What of the source share no copy took. -/
def kvRest (r : Fin 4) (i : ℕ) (t : Fin 32) : sProp 𝕄 :=
  (kvSrc T (32 * i + t.val)).view.loc (c : Thread nD τ) ↦[Finset.univ \ (kvSrc T (32 * i + t.val)).view.set]{tok r t} kvt

instance (r : Fin 4) (i : ℕ) (t : Fin 32) : Storable (upEmb : UEmb _ 𝕄) (kvD c kvt T r i t) := by
  unfold kvD; infer_instance

abbrev kvBatch (r : Fin 4) (i j u : ℕ) : sProp 𝕄 :=
  Transfers.Batch (countersEmb (U := Pipeline.UD sig nD τ)) (c : Thread nD τ) (.dma (kvSem r)) () kvN (kvD c kvt T r i) j u

def kvPre (r : Fin 4) (t : Fin 32) : sProp 𝕄 := iprop(kvFree (F := F) c r t ∗ kvLeaf c kvt r t)

/-- The ring entry at rest. -/
def kvIdle (r : Fin 4) : sProp 𝕄 :=
  iprop(semVal ((c : Thread nD τ), SemLoc.dma (kvSem r)) 0 ∗ BI.bigSep Finset.univ (kvPre c kvt r))
/-- Step `i`'s copies being issued, `n` of them done. -/
def kvIss (r : Fin 4) (i n : ℕ) : sProp 𝕄 :=
  iprop(kvBatch c kvt T r i n 0 ∗ BI.bigSep (Finset.univ.filter fun t : Fin 32 => n ≤ t.val) (kvPre c kvt r)
    ∗ BI.bigSep (Finset.univ.filter fun t : Fin 32 => t.val < n) (kvRest c kvt T r i))
/-- Step `i`'s copies all issued, `u` of them waited for. -/
def kvFly (r : Fin 4) (i u : ℕ) : sProp 𝕄 :=
  iprop(kvBatch c kvt T r i 32 (u * kvN) ∗ BI.bigSep Finset.univ (kvRest c kvt T r i))
/-- A slot whose copy has landed. -/
def kvGot (r : Fin 4) (i : ℕ) (t : Fin 32) : sProp 𝕄 :=
  iprop(owns (c : Thread nD τ) (kvSlot r t) fullShare (kvVal c kvt T (32 * i + t.val)) ∗ kvLeaf c kvt r t)
/-- Step `i`'s copies landed. -/
def kvLand (r : Fin 4) (i : ℕ) : sProp 𝕄 :=
  iprop(semVal ((c : Thread nD τ), SemLoc.dma (kvSem r)) 0 ∗ BI.bigSep Finset.univ (kvGot c kvt T r i))

theorem kvIss_zero (r : Fin 4) (i : ℕ) : (kvIdle c kvt r : sProp 𝕄) ⊢ |={Set.univ}=> kvIss c kvt T r i 0 := by
  unfold kvIdle kvIss
  rw [from_zero, upto_zero, BI.bigSep_empty]
  iintro ⟨Hs, Hp⟩
  imod (Transfers.batch_alloc' (Lvl := ℕ) (countersEmb (U := Pipeline.UD sig nD τ)) (c : Thread nD τ) () kvN (kvD c kvt T r i)
    (sm := SemLoc.dma (kvSem r)) (E := Set.univ)) $$ Hs with HB
  imodintro
  isplitl [HB]; · iexact HB
  isplitl [Hp]; · iexact Hp
  iempintro

theorem kvIss_all (r : Fin 4) (i : ℕ) : (kvIss c kvt T r i 32 : sProp 𝕄) ⊢ kvFly c kvt T r i 0 := by
  unfold kvFly kvIss
  rw [from_all, upto_all, Nat.zero_mul]
  iintro ⟨Hs, -, Hp⟩
  isplitl [Hs]; · iexact Hs
  iexact Hp

/-- One more copy issued. -/
theorem wp_kvIssue {α : Type} {r : Fin 4} {i n : ℕ} (hn : n < 32)
    {src' : Memref sig .tc .hbm S656x128 .i8} {dst' : Memref sig .tc .vmem S656x128 .i8} {sem' : DmaSem sig}
    (hs : src' = kvSrc T (32 * i + n)) (hd : dst' = kvSlot r ⟨n, hn⟩) (hm : sem' = kvSem r)
    {hsrc : src'.view.WordExact} {hdst : dst'.view.WordExact}
    {hsem : DmaTarget.Typed (nD := nD) (τ := τ) Space.hbm (SemLoc.dma sem') (.here (p := .tc) dst')}
    {k : PUnit → Prog (TpuEff nD τ sig (Elt F) Λ₀ .tc) α} {Q : α → sProp 𝕄} :
    (kvIss c kvt T r i n)
      ⊢ iprop((kvIss c kvt T r i (n + 1)
          -∗ wp frame (wpE (defs₀ (F := F)) Variants.none (c : Thread nD τ) none) Set.univ (k ⟨⟩) Q)
        -∗ wp frame (wpE (defs₀ (F := F)) Variants.none (c : Thread nD τ) none) Set.univ
            (.op (.enqueueDma src' (.here dst') (.dma sem') hsrc hdst hsem) k) Q) := by
  unfold kvIss
  rw [from_split (kvPre c kvt r) hn, upto_split (kvRest c kvt T r i) hn]
  conv_lhs => unfold kvPre
  iintro ⟨HB, ⟨⟨Hf, Hl⟩, Hp⟩, Hr⟩ Hk
  iapply (wp_copy c hs hd hm (q := tok r ⟨n, hn⟩) (fs := kvt) (S := Finset.univ) (D := kvD c kvt T r i) (j := n) (u := 0) kvN (kvN_slot r ⟨n, hn⟩)
    (Finset.subset_univ _) hn (Nat.zero_le _) .rfl) $$ [HB Hf Hl]
  · isplitl [Hl]; · unfold kvLeaf; iexact Hl
    isplitl [Hf]; · unfold kvFree; iexact Hf
    iexact HB
  iintro ⟨Hs, HB⟩
  iapply Hk
  isplitl [HB]; · iexact HB
  isplitl [Hp]; · unfold kvPre; iexact Hp
  isplitl [Hs]; · unfold kvRest; iexact Hs
  iexact Hr

/-- One more copy waited for. -/
theorem wp_kvWait {α : Type} {r : Fin 4} {i u : ℕ} (hu : u < 32) {sp' : Space} {s' : Shape} {e' : EltTy}
    {srcw : Memref sig .tc sp' s' e'} {sem' : DmaSem sig} (hm : sem' = kvSem r) (hu' : u < 32)
    {dstw : Memref sig .tc .vmem S656x128 .i8} (hd : dstw = kvSlot r ⟨u, hu'⟩)
    {hsrc : srcw.view.WordExact} {hdst : dstw.view.WordExact}
    {k : PUnit → Prog (TpuEff nD τ sig (Elt F) Λ₀ .tc) α} {Q : α → sProp 𝕄} :
    iprop(kvFly c kvt T r i u ∗ (∃ W, owes (c : Thread nD τ) 0 W))
      ⊢ iprop((iprop(kvFly c kvt T r i (u + 1) ∗ (∃ W, owes (c : Thread nD τ) 0 W))
          -∗ wp frame (wpE (defs₀ (F := F)) Variants.none (c : Thread nD τ) none) Set.univ (k ⟨⟩) Q)
        -∗ wp frame (wpE (defs₀ (F := F)) Variants.none (c : Thread nD τ) none) Set.univ
            (.op (.waitDma2 sem' srcw dstw hsrc hdst) k) Q) := by
  unfold kvFly
  iintro ⟨⟨HB, Hr⟩, HW⟩ Hk
  iapply (wp_wait c hm kvN (by rw [hd]) (D := kvD c kvt T r i) (j := 32) (u := u) hu) $$ [HB HW]
  · isplitl [HB]; · iexact HB
    iexact HW
  iintro ⟨HB, HW⟩
  iapply Hk
  isplitr [HW]
  · isplitl [HB]; · iexact HB
    iexact Hr
  iexact HW

theorem kvGot_join (r : Fin 4) (i : ℕ) (t : Fin 32) : iprop(kvD c kvt T r i t ∗ kvRest c kvt T r i t) ⊢ (kvGot c kvt T r i t : sProp 𝕄) := by
  unfold kvD kvRest kvGot kvLeaf
  iintro ⟨⟨Ho, Hs⟩, Hr⟩
  isplitl [Ho]; · iexact Ho
  iapply (pointsTo_split_subset (Finset.subset_univ _)).2 $$ [Hs Hr]
  isplitl [Hs]; · iexact Hs
  iexact Hr

/-- All waited for: the copies have landed. -/
theorem kvFly_all (r : Fin 4) (i : ℕ) : (kvFly c kvt T r i 32 : sProp 𝕄) ⊢ |={Set.univ}=> kvLand c kvt T r i := by
  unfold kvFly kvLand
  rw [Nat.mul_comm]
  iintro ⟨HB, Hr⟩
  imod (Transfers.batch_collect' (countersEmb (U := Pipeline.UD sig nD τ)) (c : Thread nD τ) kvN_pos (D := kvD c kvt T r i)) $$ HB with ⟨HD, Hs⟩
  imodintro
  isplitl [Hs]; · iexact Hs
  iapply (show iprop(BI.bigSep Finset.univ (kvD c kvt T r i) ∗ BI.bigSep Finset.univ (kvRest c kvt T r i)) ⊢ BI.bigSep Finset.univ (kvGot c kvt T r i) from by
    exact (big_sep2 _ _ _).trans (BI.bigSep_mono fun t _ => kvGot_join c kvt T r i t)) $$ [HD Hr]
  isplitl [HD]; · iexact HD
  iexact Hr

theorem kvGot_pre (r : Fin 4) (i : ℕ) (t : Fin 32) : (kvGot c kvt T r i t : sProp 𝕄) ⊢ kvPre c kvt r t := by
  unfold kvGot kvPre kvFree
  iintro ⟨Ho, Hl⟩
  isplitl [Ho]
  · iexists _; iexact Ho
  iexact Hl

/-- Landed copies may be overwritten. -/
theorem kvLand_idle (r : Fin 4) (i : ℕ) : (kvLand c kvt T r i : sProp 𝕄) ⊢ kvIdle c kvt r := by
  unfold kvLand kvIdle
  iintro ⟨Hs, Hg⟩
  isplitl [Hs]; · iexact Hs
  iapply (show BI.bigSep Finset.univ (kvGot c kvt T r i) ⊢ BI.bigSep Finset.univ (kvPre c kvt r) from
    BI.bigSep_mono fun t _ => kvGot_pre c kvt T r i t) $$ Hg

end kv

/-! ## The x ring -/

section x
variable (x3 : Buf (Elt F) ((c : Thread nD τ).loc main_v1)) (T : ℕ → BitVec 32)

abbrev xN : ℕ := (xSlot 0 0).view.dmaCredit
theorem xN_pos : 0 < xN := by decide
theorem xN_slot (r : Fin 4) (t : Fin 32) : (xSlot r t).view.dmaCredit = xN := rfl

/-- The source of the copy in position `p`, and what it reads. -/
abbrev xSrc (p : ℕ) : Memref sig .tc .hbm S16x512 .bf16 := xRow (rowAt T p)
def xVal (p : ℕ) : S16x512.Idx → Elt F .bf16 := (xSrc T p).view.read (Elt F) x3

/-- The share of the source array kept for one slot. -/
def xLeaf (r : Fin 4) (t : Fin 32) : sProp 𝕄 := (c : Thread nD τ).loc main_v1 ↦[Finset.univ]{tok r t} x3
/-- A slot that no copy is filling. -/
def xFree (r : Fin 4) (t : Fin 32) : sProp 𝕄 := iprop(∃ d : S16x512.Idx → Elt F .bf16, owns (c : Thread nD τ) (xSlot r t) fullShare d)
/-- What a copy of step `i` delivers. -/
def xD (r : Fin 4) (i : ℕ) (t : Fin 32) : sProp 𝕄 :=
  iprop(owns (c : Thread nD τ) (xSlot r t) fullShare (xVal c x3 T (32 * i + t.val))
    ∗ ((xSrc T (32 * i + t.val)).view.loc (c : Thread nD τ) ↦[(xSrc T (32 * i + t.val)).view.set]{tok r t} x3))
/-- What of the source share no copy took. -/
def xRest (r : Fin 4) (i : ℕ) (t : Fin 32) : sProp 𝕄 :=
  (xSrc T (32 * i + t.val)).view.loc (c : Thread nD τ) ↦[Finset.univ \ (xSrc T (32 * i + t.val)).view.set]{tok r t} x3

instance (r : Fin 4) (i : ℕ) (t : Fin 32) : Storable (upEmb : UEmb _ 𝕄) (xD c x3 T r i t) := by
  unfold xD; infer_instance

abbrev xBatch (r : Fin 4) (i j u : ℕ) : sProp 𝕄 :=
  Transfers.Batch (countersEmb (U := Pipeline.UD sig nD τ)) (c : Thread nD τ) (.dma (xSem r)) () xN (xD c x3 T r i) j u

def xPre (r : Fin 4) (t : Fin 32) : sProp 𝕄 := iprop(xFree (F := F) c r t ∗ xLeaf c x3 r t)

/-- The ring entry at rest. -/
def xIdle (r : Fin 4) : sProp 𝕄 :=
  iprop(semVal ((c : Thread nD τ), SemLoc.dma (xSem r)) 0 ∗ BI.bigSep Finset.univ (xPre c x3 r))
/-- Step `i`'s copies being issued, `n` of them done. -/
def xIss (r : Fin 4) (i n : ℕ) : sProp 𝕄 :=
  iprop(xBatch c x3 T r i n 0 ∗ BI.bigSep (Finset.univ.filter fun t : Fin 32 => n ≤ t.val) (xPre c x3 r)
    ∗ BI.bigSep (Finset.univ.filter fun t : Fin 32 => t.val < n) (xRest c x3 T r i))
/-- Step `i`'s copies all issued, `u` of them waited for. -/
def xFly (r : Fin 4) (i u : ℕ) : sProp 𝕄 :=
  iprop(xBatch c x3 T r i 32 (u * xN) ∗ BI.bigSep Finset.univ (xRest c x3 T r i))
/-- A slot whose copy has landed. -/
def xGot (r : Fin 4) (i : ℕ) (t : Fin 32) : sProp 𝕄 :=
  iprop(owns (c : Thread nD τ) (xSlot r t) fullShare (xVal c x3 T (32 * i + t.val)) ∗ xLeaf c x3 r t)
/-- Step `i`'s copies landed. -/
def xLand (r : Fin 4) (i : ℕ) : sProp 𝕄 :=
  iprop(semVal ((c : Thread nD τ), SemLoc.dma (xSem r)) 0 ∗ BI.bigSep Finset.univ (xGot c x3 T r i))

theorem xIss_zero (r : Fin 4) (i : ℕ) : (xIdle c x3 r : sProp 𝕄) ⊢ |={Set.univ}=> xIss c x3 T r i 0 := by
  unfold xIdle xIss
  rw [from_zero, upto_zero, BI.bigSep_empty]
  iintro ⟨Hs, Hp⟩
  imod (Transfers.batch_alloc' (Lvl := ℕ) (countersEmb (U := Pipeline.UD sig nD τ)) (c : Thread nD τ) () xN (xD c x3 T r i)
    (sm := SemLoc.dma (xSem r)) (E := Set.univ)) $$ Hs with HB
  imodintro
  isplitl [HB]; · iexact HB
  isplitl [Hp]; · iexact Hp
  iempintro

theorem xIss_all (r : Fin 4) (i : ℕ) : (xIss c x3 T r i 32 : sProp 𝕄) ⊢ xFly c x3 T r i 0 := by
  unfold xFly xIss
  rw [from_all, upto_all, Nat.zero_mul]
  iintro ⟨Hs, -, Hp⟩
  isplitl [Hs]; · iexact Hs
  iexact Hp

/-- One more copy issued. -/
theorem wp_xIssue {α : Type} {r : Fin 4} {i n : ℕ} (hn : n < 32)
    {src' : Memref sig .tc .hbm S16x512 .bf16} {dst' : Memref sig .tc .vmem S16x512 .bf16} {sem' : DmaSem sig}
    (hs : src' = xSrc T (32 * i + n)) (hd : dst' = xSlot r ⟨n, hn⟩) (hm : sem' = xSem r)
    {hsrc : src'.view.WordExact} {hdst : dst'.view.WordExact}
    {hsem : DmaTarget.Typed (nD := nD) (τ := τ) Space.hbm (SemLoc.dma sem') (.here (p := .tc) dst')}
    {k : PUnit → Prog (TpuEff nD τ sig (Elt F) Λ₀ .tc) α} {Q : α → sProp 𝕄} :
    (xIss c x3 T r i n)
      ⊢ iprop((xIss c x3 T r i (n + 1)
          -∗ wp frame (wpE (defs₀ (F := F)) Variants.none (c : Thread nD τ) none) Set.univ (k ⟨⟩) Q)
        -∗ wp frame (wpE (defs₀ (F := F)) Variants.none (c : Thread nD τ) none) Set.univ
            (.op (.enqueueDma src' (.here dst') (.dma sem') hsrc hdst hsem) k) Q) := by
  unfold xIss
  rw [from_split (xPre c x3 r) hn, upto_split (xRest c x3 T r i) hn]
  conv_lhs => unfold xPre
  iintro ⟨HB, ⟨⟨Hf, Hl⟩, Hp⟩, Hr⟩ Hk
  iapply (wp_copy c hs hd hm (q := tok r ⟨n, hn⟩) (fs := x3) (S := Finset.univ) (D := xD c x3 T r i) (j := n) (u := 0) xN (xN_slot r ⟨n, hn⟩)
    (Finset.subset_univ _) hn (Nat.zero_le _) .rfl) $$ [HB Hf Hl]
  · isplitl [Hl]; · unfold xLeaf; iexact Hl
    isplitl [Hf]; · unfold xFree; iexact Hf
    iexact HB
  iintro ⟨Hs, HB⟩
  iapply Hk
  isplitl [HB]; · iexact HB
  isplitl [Hp]; · unfold xPre; iexact Hp
  isplitl [Hs]; · unfold xRest; iexact Hs
  iexact Hr

/-- One more copy waited for. -/
theorem wp_xWait {α : Type} {r : Fin 4} {i u : ℕ} (hu : u < 32) {sp' : Space} {s' : Shape} {e' : EltTy}
    {srcw : Memref sig .tc sp' s' e'} {sem' : DmaSem sig} (hm : sem' = xSem r) (hu' : u < 32)
    {dstw : Memref sig .tc .vmem S16x512 .bf16} (hd : dstw = xSlot r ⟨u, hu'⟩)
    {hsrc : srcw.view.WordExact} {hdst : dstw.view.WordExact}
    {k : PUnit → Prog (TpuEff nD τ sig (Elt F) Λ₀ .tc) α} {Q : α → sProp 𝕄} :
    iprop(xFly c x3 T r i u ∗ (∃ W, owes (c : Thread nD τ) 0 W))
      ⊢ iprop((iprop(xFly c x3 T r i (u + 1) ∗ (∃ W, owes (c : Thread nD τ) 0 W))
          -∗ wp frame (wpE (defs₀ (F := F)) Variants.none (c : Thread nD τ) none) Set.univ (k ⟨⟩) Q)
        -∗ wp frame (wpE (defs₀ (F := F)) Variants.none (c : Thread nD τ) none) Set.univ
            (.op (.waitDma2 sem' srcw dstw hsrc hdst) k) Q) := by
  unfold xFly
  iintro ⟨⟨HB, Hr⟩, HW⟩ Hk
  iapply (wp_wait c hm xN (by rw [hd]) (D := xD c x3 T r i) (j := 32) (u := u) hu) $$ [HB HW]
  · isplitl [HB]; · iexact HB
    iexact HW
  iintro ⟨HB, HW⟩
  iapply Hk
  isplitr [HW]
  · isplitl [HB]; · iexact HB
    iexact Hr
  iexact HW

theorem xGot_join (r : Fin 4) (i : ℕ) (t : Fin 32) : iprop(xD c x3 T r i t ∗ xRest c x3 T r i t) ⊢ (xGot c x3 T r i t : sProp 𝕄) := by
  unfold xD xRest xGot xLeaf
  iintro ⟨⟨Ho, Hs⟩, Hr⟩
  isplitl [Ho]; · iexact Ho
  iapply (pointsTo_split_subset (Finset.subset_univ _)).2 $$ [Hs Hr]
  isplitl [Hs]; · iexact Hs
  iexact Hr

/-- All waited for: the copies have landed. -/
theorem xFly_all (r : Fin 4) (i : ℕ) : (xFly c x3 T r i 32 : sProp 𝕄) ⊢ |={Set.univ}=> xLand c x3 T r i := by
  unfold xFly xLand
  rw [Nat.mul_comm]
  iintro ⟨HB, Hr⟩
  imod (Transfers.batch_collect' (countersEmb (U := Pipeline.UD sig nD τ)) (c : Thread nD τ) xN_pos (D := xD c x3 T r i)) $$ HB with ⟨HD, Hs⟩
  imodintro
  isplitl [Hs]; · iexact Hs
  iapply (show iprop(BI.bigSep Finset.univ (xD c x3 T r i) ∗ BI.bigSep Finset.univ (xRest c x3 T r i)) ⊢ BI.bigSep Finset.univ (xGot c x3 T r i) from by
    exact (big_sep2 _ _ _).trans (BI.bigSep_mono fun t _ => xGot_join c x3 T r i t)) $$ [HD Hr]
  isplitl [HD]; · iexact HD
  iexact Hr

theorem xGot_pre (r : Fin 4) (i : ℕ) (t : Fin 32) : (xGot c x3 T r i t : sProp 𝕄) ⊢ xPre c x3 r t := by
  unfold xGot xPre xFree
  iintro ⟨Ho, Hl⟩
  isplitl [Ho]
  · iexists _; iexact Ho
  iexact Hl

/-- Landed copies may be overwritten. -/
theorem xLand_idle (r : Fin 4) (i : ℕ) : (xLand c x3 T r i : sProp 𝕄) ⊢ xIdle c x3 r := by
  unfold xLand xIdle
  iintro ⟨Hs, Hg⟩
  isplitl [Hs]; · iexact Hs
  iapply (show BI.bigSep Finset.univ (xGot c x3 T r i) ⊢ BI.bigSep Finset.univ (xPre c x3 r) from
    BI.bigSep_mono fun t _ => xGot_pre c x3 T r i t) $$ Hg

end x

end Cert.KernelIdeal.Hand

end
-- ==== Proof.Issue.lean ====
/-
  The loops that start and wait for a step's input copies.
-/
module

public import proofs.«01_k».proof.Proof.Rings

@[expose] public section

noncomputable section

namespace Cert.KernelIdeal.Hand

open Cert.KernelIdeal Cert.KernelIdeal.Gen Cert.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords)

/-! ## The slot table's words -/

/-- The one index of a vector at position `σ`. -/
def idx1 {n : ℕ} (σ : ℕ) (h : σ < n) : (⟨1, ![n]⟩ : Shape).Idx := fun a => ⟨σ, by
  have : a = 0 := Subsingleton.elim _ _
  subst this; exact h⟩

/-- The word at position `σ` of the slot table. -/
def cellN (f : Buf (Elt F) ((c : Thread nD τ).loc cc0_scratch8)) (σ : ℕ) : BitVec 32 :=
  if h : σ < 2680 then f (idx1 σ h) else 0#32

/-- The word at position `σ` of the length table. -/
def lenN (f : Buf (Elt F) ((c : Thread nD τ).loc main_arg5)) (σ : ℕ) : BitVec 32 :=
  if h : σ < 2600 then f (idx1 σ h) else 0#32

theorem wp_word {α : Type} {off : Fin 1 → ℕ} {inb} {σ : ℕ} (h : off = ![σ]) {h1 hp} {q : PosShare TreeShare}
    {f : Buf (Elt F) ((c : Thread nD τ).loc cc0_scratch8)} {k : BitVec 32 → Prog (TpuEff nD τ sig (Elt F) Λ₀ .tc) α} {Q : α → sProp 𝕄} :
    ((c : Thread nD τ).loc cc0_scratch8 ↦{q} f)
      ⊢ iprop((((c : Thread nD τ).loc cc0_scratch8 ↦{q} f) -∗ wp frame (wpE (defs₀ (F := F)) Variants.none (c : Thread nD τ) none) Set.univ (k (cellN c f σ)) (Q))
        -∗ wp frame (wpE (defs₀ (F := F)) Variants.none (c : Thread nD τ) none) Set.univ ((smemLoad (Memref.whole cc0_scratch8) (Rect.unit (s := S2680) off S1.size inb) h1 hp) >>= k) (Q)) := by
  subst h
  have hσ : σ < 2680 := by have := inb 0; simp [Shape.ofList] at this; omega
  iintro H Hk
  iapply (wp_smemLoadElt Variants.none (c : Thread nD τ) none Set.univ (m := Memref.whole cc0_scratch8) (f := f) (S := Finset.univ) (q := q)
    (r := Rect.unit (s := S2680) ![σ] S1.size inb) (hw := View.loads_smem_one hp h1) (k := fun v => (Prog.ret v).bind k) (Finset.subset_univ _)) $$ [H]
  · iexact H
  iintro H
  rw [ret_bind']
  have hv : ∀ x, ((Memref.whole cc0_scratch8).access (Rect.unit (s := S2680) ![σ] S1.size inb)).read (Elt F) f x = cellN c f σ := by
    intro x
    rw [View.read_apply]
    unfold cellN
    rw [dif_pos hσ]
    show f _ = f _
    congr 1
    funext a
    have ha : a = (0 : Fin 1) := Subsingleton.elim (α := Fin 1) a 0
    subst ha
    apply Fin.ext
    have hx : (x 0).val = 0 := by have := (x 0).isLt; exact Nat.lt_one_iff.1 this
    show σ + 1 * (x 0).val = σ
    omega
  rw [hv]
  iapply Hk
  iexact H

theorem wp_len {α : Type} {off : Fin 1 → ℕ} {inb} {σ : ℕ} (h : off = ![σ]) {h1 hp} {q : PosShare TreeShare}
    {f : Buf (Elt F) ((c : Thread nD τ).loc main_arg5)} {k : BitVec 32 → Prog (TpuEff nD τ sig (Elt F) Λ₀ .tc) α} {Q : α → sProp 𝕄} :
    ((c : Thread nD τ).loc main_arg5 ↦{q} f)
      ⊢ iprop((((c : Thread nD τ).loc main_arg5 ↦{q} f) -∗ wp frame (wpE (defs₀ (F := F)) Variants.none (c : Thread nD τ) none) Set.univ (k (lenN c f σ)) (Q))
        -∗ wp frame (wpE (defs₀ (F := F)) Variants.none (c : Thread nD τ) none) Set.univ ((smemLoad (Memref.whole main_arg5) (Rect.unit (s := S2600) off S1.size inb) h1 hp) >>= k) (Q)) := by
  subst h
  have hσ : σ < 2600 := by have := inb 0; simp [Shape.ofList] at this; omega
  iintro H Hk
  iapply (wp_smemLoadElt Variants.none (c : Thread nD τ) none Set.univ (m := Memref.whole main_arg5) (f := f) (S := Finset.univ) (q := q)
    (r := Rect.unit (s := S2600) ![σ] S1.size inb) (hw := View.loads_smem_one hp h1) (k := fun v => (Prog.ret v).bind k) (Finset.subset_univ _)) $$ [H]
  · iexact H
  iintro H
  rw [ret_bind']
  have hv : ∀ x, ((Memref.whole main_arg5).access (Rect.unit (s := S2600) ![σ] S1.size inb)).read (Elt F) f x = lenN c f σ := by
    intro x
    rw [View.read_apply]
    unfold lenN
    rw [dif_pos hσ]
    show f _ = f _
    congr 1
    funext a
    have ha : a = (0 : Fin 1) := Subsingleton.elim (α := Fin 1) a 0
    subst ha
    apply Fin.ext
    have hx : (x 0).val = 0 := by have := (x 0).isLt; exact Nat.lt_one_iff.1 this
    show σ + 1 * (x 0).val = σ
    omega
  rw [hv]
  iapply Hk
  iexact H

/-- A check that holds is passed. -/
theorem wp_check {α : Type} {P : Prop} {inst : Decidable P} (h : P) {k : PLift P → Prog (TpuEff nD τ sig (Elt F) Λ₀ .tc) α} {Q : α → sProp 𝕄} :
    wp frame (wpE (defs₀ (F := F)) Variants.none (c : Thread nD τ) none) Set.univ (k ⟨h⟩) (Q) ⊢ (wp frame (wpE (defs₀ (F := F)) Variants.none (c : Thread nD τ) none) Set.univ (.op (TpuEff.assume P inst) k) (Q) : sProp 𝕄) :=
  wp_assume Variants.none (c : Thread nD τ) none Set.univ h

section
variable (kvt : Buf (Elt F) ((c : Thread nD τ).loc main_v0)) (x3 : Buf (Elt F) ((c : Thread nD τ).loc main_v1))
  (f8 : Buf (Elt F) ((c : Thread nD τ).loc cc0_scratch8))
variable {v0 v1 : BitVec 32} {N K : ℕ} (H : Built' v0 v1 N K)

theorem kvSrc_a {off : Fin 3 → ℕ} {inb} {T : ℕ → BitVec 32} {σ p : ℕ} (h : off = ![wa (T σ), 0, 0]) (ha : wa (T σ) < 2600) (hp : p = 2 * σ) :
    ((Memref.whole main_v0).slice (Rect.unit (s := S2600x656x256) off S1x656x128.size inb) (fun _ => rfl)).squeeze
      S656x128 squeezes_S1x656x128_S656x128 = kvSrc T p := by
  subst hp; rw [kvSrc, rowAt_even, offAt_even]; exact kvRow_eq inb h ha (by omega)
theorem kvSrc_b {off : Fin 3 → ℕ} {inb} {T : ℕ → BitVec 32} {σ p : ℕ} (h : off = ![wb (T σ), 0, wo (T σ)]) (hb : wb (T σ) < 2600) (hp : p = 2 * σ + 1) :
    ((Memref.whole main_v0).slice (Rect.unit (s := S2600x656x256) off S1x656x128.size inb) (fun _ => rfl)).squeeze
      S656x128 squeezes_S1x656x128_S656x128 = kvSrc T p := by
  subst hp; rw [kvSrc, rowAt_odd, offAt_odd]; exact kvRow_eq inb h hb (by have := wo_le (T σ); omega)
theorem xSrc_a {off : Fin 3 → ℕ} {inb} {T : ℕ → BitVec 32} {σ p : ℕ} (h : off = ![wa (T σ), 0, 0]) (ha : wa (T σ) < 2600) (hp : p = 2 * σ) :
    ((Memref.whole main_v1).slice (Rect.unit (s := S2600x16x512) off S1x16x512.size inb) (fun _ => rfl)).squeeze
      S16x512 squeezes_S1x16x512_S16x512 = xSrc T p := by
  subst hp; rw [xSrc, rowAt_even]; exact xRow_eq inb h ha
theorem xSrc_b {off : Fin 3 → ℕ} {inb} {T : ℕ → BitVec 32} {σ p : ℕ} (h : off = ![wb (T σ), 0, 0]) (hb : wb (T σ) < 2600) (hp : p = 2 * σ + 1) :
    ((Memref.whole main_v1).slice (Rect.unit (s := S2600x16x512) off S1x16x512.size inb) (fun _ => rfl)).squeeze
      S16x512 squeezes_S1x16x512_S16x512 = xSrc T p := by
  subst hp; rw [xSrc, rowAt_odd]; exact xRow_eq inb h hb

/-- Every slot of the steps names rows of the problem. -/
def RowsOK (K : ℕ) : Prop := ∀ σ, σ < 16 * K → wa (cellN c f8 σ) < 2600 ∧ wb (cellN c f8 σ) < 2600

/-- Both rings of a step while `n` of the step's copies are issued. -/
def InIss (r : Fin 4) (s n : ℕ) : sProp 𝕄 :=
  iprop(((c : Thread nD τ).loc cc0_scratch8 ↦{fullShare} f8) ∗ kvIss c kvt (cellN c f8) r s n ∗ xIss c x3 (cellN c f8) r s n)
/-- Both rings of a step while `n` of the step's copies are waited for. -/
def InFly (r : Fin 4) (s n : ℕ) : sProp 𝕄 :=
  iprop(((c : Thread nD τ).loc cc0_scratch8 ↦{fullShare} f8) ∗ kvFly c kvt (cellN c f8) r s n ∗ xFly c x3 (cellN c f8) r s n ∗ (∃ W, owes (c : Thread nD τ) 0 W))

include H in
theorem t4_step (tb : RowsOK c f8 K) (t3 : Fin k0_t3_loop.trips) (arg21 : BitVec 32) (h1 : k0_cond1 v0 v1 t3 = 1#1)
    (z0 z1 z2 : BitVec 32) (r : Fin 4) (hr : r.val = t3.val) (t4 : Fin k0_t4_loop.trips) (u : Unit) :
    InIss c kvt x3 f8 r t3.val (2 * t4.val) ⊢ wp frame (wpE (defs₀ (F := F)) Variants.none (c : Thread nD τ) none) Set.univ (k0_t4_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 z0 z1 z2 v0 v1 t3 arg21 h1 t4 u) (fun _ => InIss c kvt x3 f8 r t3.val (2 * (t4.val + 1))) := by
  have ht4 : t4.val < 16 := t4.isLt.trans_eq trips4
  have ht3 : t3.val < K := (cond1_iff H t3).1 h1
  obtain ⟨ha, hb⟩ := tb (t3.val * 16 + t4.val) (by omega)
  unfold k0_t4_body
  rw [k0_part1_eq_skeleton]
  unfold k0_part1_skel
  simp only [bind_assoc, Prog.bind_lift, Prog.bind_ret, Prog.pure_eq_ret]
  unfold InIss
  iintro ⟨HT, Hkv, Hx⟩
  iapply (wp_word c (off5_eq t3 t4)) $$ HT
  iintro HT
  iapply (wp_check c (chk4_ok ha hb))
  iapply (wp_kvIssue c kvt (cellN c f8) (n := 2 * t4.val) (by omega) (kvSrc_a (off8_eq _) ha (by omega))
    (kvSlot_eq _ (by rw [off7_eq t3 t4, hr])) (kvSem_eq _ (by rw [off6_eq t3, hr]))) $$ Hkv
  iintro Hkv
  iapply (wp_kvIssue c kvt (cellN c f8) (n := 2 * t4.val + 1) (by omega) (kvSrc_b (off10_eq _) hb (by omega))
    (kvSlot_eq _ (by rw [off9_eq t3 t4, hr])) (kvSem_eq _ (by rw [off6_eq t3, hr]))) $$ Hkv
  iintro Hkv
  iapply (wp_xIssue c x3 (cellN c f8) (n := 2 * t4.val) (by omega) (xSrc_a (off12_eq _) ha (by omega))
    (xSlot_eq _ (by rw [off11_eq t3 t4, hr])) (xSem_eq _ (by rw [off6_eq t3, hr]))) $$ Hx
  iintro Hx
  iapply (wp_xIssue c x3 (cellN c f8) (n := 2 * t4.val + 1) (by omega) (xSrc_b (off14_eq _) hb (by omega))
    (xSlot_eq _ (by rw [off13_eq t3 t4, hr])) (xSem_eq _ (by rw [off6_eq t3, hr]))) $$ Hx
  iintro Hx
  iapply (le_wp_ret _ _)
  isplitl [HT]; · iexact HT
  isplitl [Hkv]; · iexact Hkv
  iexact Hx

include H in
theorem t10_step (tb : RowsOK c f8 K) (hw3 : k0_chk3 v0 v1) (t6 : Fin (k0_t6_loop v0 v1).trips) (h5 : k0_cond5 v0 v1 t6 = 1#1)
    (v175 : BitVec 32) (r : Fin 4) (hr : r.val = (t6.val + 3) % 4) (t10 : Fin k0_t10_loop.trips) (u : BitVec 32) :
    InIss c kvt x3 f8 r (t6.val + 3) (2 * t10.val) ⊢ wp frame (wpE (defs₀ (F := F)) Variants.none (c : Thread nD τ) none) Set.univ (k0_t10_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t6 h5 v175 t10 u) (fun _ => InIss c kvt x3 f8 r (t6.val + 3) (2 * (t10.val + 1))) := by
  have ht4 : t10.val < 16 := t10.isLt.trans_eq trips10
  have ht3 : t6.val + 3 < K := (cond5_iff H t6).1 h5
  obtain ⟨ha, hb⟩ := tb ((t6.val + 3) * 16 + t10.val) (by omega)
  unfold k0_t10_body
  rw [k0_part16_eq_skeleton]
  unfold k0_part16_skel
  simp only [bind_assoc, Prog.bind_lift, Prog.bind_ret, Prog.pure_eq_ret]
  unfold InIss
  iintro ⟨HT, Hkv, Hx⟩
  iapply (wp_word c (off72_eq H t6 t10)) $$ HT
  iintro HT
  iapply (wp_check c (chk8_ok ha hb t6))
  iapply (wp_kvIssue c kvt (cellN c f8) (n := 2 * t10.val) (by omega) (kvSrc_a (off75_eq _) ha (by omega))
    (kvSlot_eq _ (by rw [off74_eq H t6 t10, hr])) (kvSem_eq _ (by rw [off73_eq H t6, hr]))) $$ Hkv
  iintro Hkv
  iapply (wp_kvIssue c kvt (cellN c f8) (n := 2 * t10.val + 1) (by omega) (kvSrc_b (off77_eq _) hb (by omega))
    (kvSlot_eq _ (by rw [off76_eq H t6 t10, hr])) (kvSem_eq _ (by rw [off73_eq H t6, hr]))) $$ Hkv
  iintro Hkv
  iapply (wp_xIssue c x3 (cellN c f8) (n := 2 * t10.val) (by omega) (xSrc_a (off79_eq _) ha (by omega))
    (xSlot_eq _ (by rw [off78_eq H t6 t10, hr])) (xSem_eq _ (by rw [off73_eq H t6, hr]))) $$ Hx
  iintro Hx
  iapply (wp_xIssue c x3 (cellN c f8) (n := 2 * t10.val + 1) (by omega) (xSrc_b (off81_eq _) hb (by omega))
    (xSlot_eq _ (by rw [off80_eq H t6 t10, hr])) (xSem_eq _ (by rw [off73_eq H t6, hr]))) $$ Hx
  iintro Hx
  iapply (le_wp_ret _ _)
  isplitl [HT]; · iexact HT
  isplitl [Hkv]; · iexact Hkv
  iexact Hx

include H in
theorem t7_step (tb : RowsOK c f8 K) (hw3 : k0_chk3 v0 v1) (t6 : Fin (k0_t6_loop v0 v1).trips)
    (v175 : BitVec 32) (r : Fin 4) (hr : r.val = t6.val % 4) (t7 : Fin k0_t7_loop.trips) (u : BitVec 32) :
    InFly c kvt x3 f8 r t6.val (2 * t7.val) ⊢ wp frame (wpE (defs₀ (F := F)) Variants.none (c : Thread nD τ) none) Set.univ (k0_t7_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t6 v175 t7 u) (fun _ => InFly c kvt x3 f8 r t6.val (2 * (t7.val + 1))) := by
  have ht4 : t7.val < 16 := t7.isLt.trans_eq trips7
  have ht3 : t6.val < K := t6.isLt.trans_eq (trips6 H)
  obtain ⟨ha, hb⟩ := tb (t6.val * 16 + t7.val) (by omega)
  unfold k0_t7_body
  rw [k0_part4_eq_skeleton]
  unfold k0_part4_skel
  simp only [bind_assoc, Prog.bind_lift, Prog.bind_ret, Prog.pure_eq_ret]
  unfold InFly
  iintro ⟨HT, Hkv, Hx, HW⟩
  iapply (wp_word c (off34_eq H t6 t7)) $$ HT
  iintro HT
  iapply (wp_check c (chk5_ok ha hb))
  iapply (wp_kvWait c kvt (cellN c f8) (u := 2 * t7.val) (by omega) (kvSem_eq _ (by rw [off35_eq H t6, hr])) (by omega)
    (kvSlot_eq _ (by rw [off36_eq H t6 t7, hr]))) $$ [Hkv HW]
  · isplitl [Hkv]; · iexact Hkv
    iexact HW
  iintro ⟨Hkv, HW⟩
  iapply (wp_kvWait c kvt (cellN c f8) (u := 2 * t7.val + 1) (by omega) (kvSem_eq _ (by rw [off35_eq H t6, hr])) (by omega)
    (kvSlot_eq _ (by rw [off38_eq H t6 t7, hr]))) $$ [Hkv HW]
  · isplitl [Hkv]; · iexact Hkv
    iexact HW
  iintro ⟨Hkv, HW⟩
  iapply (wp_xWait c x3 (cellN c f8) (u := 2 * t7.val) (by omega) (xSem_eq _ (by rw [off35_eq H t6, hr])) (by omega)
    (xSlot_eq _ (by rw [off40_eq H t6 t7, hr]))) $$ [Hx HW]
  · isplitl [Hx]; · iexact Hx
    iexact HW
  iintro ⟨Hx, HW⟩
  iapply (wp_xWait c x3 (cellN c f8) (u := 2 * t7.val + 1) (by omega) (xSem_eq _ (by rw [off35_eq H t6, hr])) (by omega)
    (xSlot_eq _ (by rw [off42_eq H t6 t7, hr]))) $$ [Hx HW]
  · isplitl [Hx]; · iexact Hx
    iexact HW
  iintro ⟨Hx, HW⟩
  iapply (le_wp_ret _ _)
  isplitl [HT]; · iexact HT
  isplitl [Hkv]; · iexact Hkv
  isplitl [Hx]; · iexact Hx
  iexact HW
end

end Cert.KernelIdeal.Hand

end
-- ==== Proof.OutRing.lean ====
/-
  The output ring: the copies of a step's rows out of the ring, the rows not yet started and the
  rows that have arrived.
-/
module

public import proofs.«01_k».proof.Proof.Rings

@[expose] public section

noncomputable section

namespace Cert.KernelIdeal.Hand

open Cert.KernelIdeal Cert.KernelIdeal.Gen Cert.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)
variable {long : ℕ → Prop} {T : ℕ → BitVec 32} {N : ℕ} (h : Table long T N) (Gp : ℕ → S16x512.Idx → Elt F .bf16)

abbrev oN : ℕ := (outRow 0).view.dmaCredit
theorem oN_pos : 0 < oN := by decide
theorem oN_row (a : ℕ) : (outRow a).view.dmaCredit = oN := rfl

/-- How many of the first `m` halves of step `s` compute a row. -/
def cnt (T : ℕ → BitVec 32) (s : ℕ) : ℕ → ℕ
  | 0 => 0
  | m + 1 => cnt T s m + if en T (32 * s + m) then 1 else 0

theorem cnt_succ_pos {s m : ℕ} (he : en T (32 * s + m)) : cnt T s (m + 1) = cnt T s m + 1 := by
  rw [cnt, if_pos he]
theorem cnt_succ_neg {s m : ℕ} (he : ¬ en T (32 * s + m)) : cnt T s (m + 1) = cnt T s m := by
  rw [cnt, if_neg he]; rfl
theorem cnt_le {s : ℕ} {m m' : ℕ} (hm : m ≤ m') : cnt T s m ≤ cnt T s m' := by
  induction m' with
  | zero => rw [Nat.le_zero.mp hm]
  | succ k ih =>
    rcases Nat.lt_or_ge k m with hk | hk
    · rw [show m = k + 1 by omega]
    · exact (ih hk).trans (by rw [cnt]; omega)
theorem cnt_lt' {s m m' : ℕ} (hm : m < m') (he : en T (32 * s + m)) : cnt T s m < cnt T s m' := by
  have := cnt_le (T := T) (s := s) (show m + 1 ≤ m' from hm)
  rw [cnt_succ_pos he] at this
  omega
theorem cnt_lt {s m : ℕ} (hm : m < 32) (he : en T (32 * s + m)) : cnt T s m < cnt T s 32 := cnt_lt' hm he

open Classical in
/-- The half that computes the `j`-th row of step `s`. -/
def nthEn (T : ℕ → BitVec 32) (s j : ℕ) : ℕ := if hx : ∃ m, en T (32 * s + m) ∧ cnt T s m = j then hx.choose else 0
theorem nthEn_cnt {s m : ℕ} (he : en T (32 * s + m)) : nthEn T s (cnt T s m) = m := by
  have hx : ∃ m', en T (32 * s + m') ∧ cnt T s m' = cnt T s m := ⟨m, he, rfl⟩
  unfold nthEn
  rw [dif_pos hx]
  obtain ⟨h1, h2⟩ := hx.choose_spec
  rcases Nat.lt_trichotomy hx.choose m with hl | hl | hl
  · have := cnt_lt' hl h1; omega
  · exact hl
  · have := cnt_lt' hl he; omega

/-- An output slot that no copy is reading. -/
def oFree (r : Fin 2) (t : Fin 32) : sProp 𝕄 := iprop(∃ d : S16x512.Idx → Elt F .bf16, owns (c : Thread nD τ) (oSlot r t) fullShare d)
/-- An output slot holding its position's row. -/
def oHeld (r : Fin 2) (s : ℕ) (t : Fin 32) : sProp 𝕄 := owns (c : Thread nD τ) (oSlot r t) fullShare (Gp (32 * s + t.val))
/-- A slot whose half computes no row. -/
def oKept (T : ℕ → BitVec 32) (r : Fin 2) (s : ℕ) (t : Fin 32) : sProp 𝕄 := if en T (32 * s + t.val) then iprop(emp) else oFree (F := F) c r t
/-- What the copy of a row delivers. -/
def oDel (T : ℕ → BitVec 32) (r : Fin 2) (s : ℕ) (t : Fin 32) : sProp 𝕄 :=
  iprop(owns (c : Thread nD τ) (outRow (rowAt T (32 * s + t.val))) fullShare (Gp (32 * s + t.val)) ∗ oFree (F := F) c r t)
/-- The same, by the order of issue. -/
def oD (T : ℕ → BitVec 32) (r : Fin 2) (s : ℕ) (j : Fin (cnt T s 32)) : sProp 𝕄 :=
  oDel c Gp T r s ⟨nthEn T s j.val % 32, Nat.mod_lt _ (by omega)⟩
instance (T : ℕ → BitVec 32) (r : Fin 2) (s : ℕ) (j : Fin (cnt T s 32)) : Storable (upEmb : UEmb _ 𝕄) (oD c Gp T r s j) := by
  unfold oD oDel oFree; infer_instance

abbrev oBatch (T : ℕ → BitVec 32) (r : Fin 2) (s j u : ℕ) : sProp 𝕄 :=
  Transfers.Batch (countersEmb (U := Pipeline.UD sig nD τ)) (c : Thread nD τ) (.dma (oSem r)) () oN (oD c Gp T r s) j u

/-- A row of the result at some contents. -/
def rowAny (b : Fin 2600) : sProp 𝕄 := iprop(∃ d : S16x512.Idx → Elt F .bf16, owns (c : Thread nD τ) (outRow b.val) fullShare d)
/-- A row of the result, computed. -/
def rowGot (b : Fin 2600) : sProp 𝕄 := owns (c : Thread nD τ) (outRow b.val) fullShare (Gp (h.pos b))
/-- The rows computed at position `p` or later, not yet started. -/
def rowsTodo (p : ℕ) : sProp 𝕄 := BI.bigSep (Finset.univ.filter fun b : Fin 2600 => p ≤ h.pos b) (rowAny (F := F) c)
/-- The rows computed before position `p`. -/
def rowsDone (p : ℕ) : sProp 𝕄 := BI.bigSep (Finset.univ.filter fun b : Fin 2600 => h.pos b < p) (rowGot c h Gp)

def oIdle (r : Fin 2) : sProp 𝕄 :=
  iprop(semVal ((c : Thread nD τ), SemLoc.dma (oSem r)) 0 ∗ BI.bigSep Finset.univ (oFree (F := F) c r))
def oFull (r : Fin 2) (s : ℕ) : sProp 𝕄 :=
  iprop(semVal ((c : Thread nD τ), SemLoc.dma (oSem r)) 0 ∗ BI.bigSep Finset.univ (oHeld c Gp r s))
def oIss (r : Fin 2) (s m : ℕ) : sProp 𝕄 :=
  iprop(oBatch c Gp T r s (cnt T s m) 0 ∗ BI.bigSep (Finset.univ.filter fun t : Fin 32 => m ≤ t.val) (oHeld c Gp r s)
    ∗ BI.bigSep (Finset.univ.filter fun t : Fin 32 => t.val < m) (oKept (F := F) c T r s) ∗ rowsTodo (F := F) c h (32 * s + m))
def oFly (T : ℕ → BitVec 32) (r : Fin 2) (s u : ℕ) : sProp 𝕄 :=
  iprop(oBatch c Gp T r s (cnt T s 32) (cnt T s u * oN) ∗ BI.bigSep Finset.univ (oKept (F := F) c T r s))

theorem oFull_iss (r : Fin 2) (s : ℕ) :
    iprop(oFull c Gp r s ∗ rowsTodo (F := F) c h (32 * s)) ⊢ (|={Set.univ}=> oIss c h Gp r s 0 : sProp 𝕄) := by
  unfold oFull oIss
  rw [from_zero, upto_zero, BI.bigSep_empty]
  iintro ⟨⟨Hs, Hp⟩, Ht⟩
  imod (Transfers.batch_alloc' (Lvl := ℕ) (countersEmb (U := Pipeline.UD sig nD τ)) (c : Thread nD τ) () oN (oD c Gp T r s)
    (sm := SemLoc.dma (oSem r)) (E := Set.univ)) $$ Hs with HB
  imodintro
  isplitl [HB]; · iexact HB
  isplitl [Hp]; · iexact Hp
  isplitr [Ht]
  · iempintro
  iexact Ht

theorem oIss_fly (r : Fin 2) (s : ℕ) : (oIss c h Gp r s 32 : sProp 𝕄) ⊢ iprop(oFly c Gp T r s 0 ∗ rowsTodo (F := F) c h (32 * (s + 1))) := by
  unfold oFly oIss
  rw [from_all, upto_all, show cnt T s 0 * oN = 0 by simp [cnt], show 32 * s + 32 = 32 * (s + 1) by omega]
  iintro ⟨Hs, -, Hp, Ht⟩
  isplitr [Ht]
  · isplitl [Hs]; · iexact Hs
    iexact Hp
  iexact Ht

theorem todo_step {p : ℕ} (hp : p < 32 * stepsOf N) (he : en T p) :
    rowsTodo (F := F) c h p = iprop(rowAny (F := F) c ⟨rowAt T p, h.rowAt_lt hp⟩ ∗ rowsTodo (F := F) c h (p + 1)) := by
  unfold rowsTodo
  rw [show (Finset.univ.filter fun b : Fin 2600 => p ≤ h.pos b)
      = insert ⟨rowAt T p, h.rowAt_lt hp⟩ (Finset.univ.filter fun b : Fin 2600 => p + 1 ≤ h.pos b) by
    ext b
    have := h.pos_eq_iff hp he b
    simp only [Finset.mem_filter, Finset.mem_univ, true_and, Finset.mem_insert, ← this]; omega]
  rw [BI.bigSep_insert (by
    have := h.pos_rowAt hp he
    simp only [Finset.mem_filter, Finset.mem_univ, true_and]; omega)]
  rfl
theorem todo_skip {p : ℕ} (he : ¬ en T p) : rowsTodo (F := F) c h p = rowsTodo (F := F) c h (p + 1) := by
  unfold rowsTodo
  congr 1
  ext b
  have : h.pos b ≠ p := fun e => he (e ▸ h.en_pos b)
  simp only [Finset.mem_filter, Finset.mem_univ, true_and]; omega
theorem done_step {p : ℕ} (hp : p < 32 * stepsOf N) (he : en T p) :
    rowsDone c h Gp (p + 1) = iprop(owns (c : Thread nD τ) (outRow (rowAt T p)) fullShare (Gp p) ∗ rowsDone c h Gp p) := by
  unfold rowsDone
  rw [show (Finset.univ.filter fun b : Fin 2600 => h.pos b < p + 1)
      = insert ⟨rowAt T p, h.rowAt_lt hp⟩ (Finset.univ.filter fun b : Fin 2600 => h.pos b < p) by
    ext b
    have := h.pos_eq_iff hp he b
    simp only [Finset.mem_filter, Finset.mem_univ, true_and, Finset.mem_insert, ← this]; omega]
  rw [BI.bigSep_insert (by
    have := h.pos_rowAt hp he
    simp only [Finset.mem_filter, Finset.mem_univ, true_and]; omega)]
  unfold rowGot
  rw [h.pos_rowAt hp he]
  rfl
theorem done_skip {p : ℕ} (he : ¬ en T p) : rowsDone c h Gp (p + 1) = rowsDone c h Gp p := by
  unfold rowsDone
  congr 1
  ext b
  have : h.pos b ≠ p := fun e => he (e ▸ h.en_pos b)
  simp only [Finset.mem_filter, Finset.mem_univ, true_and]; omega

theorem oD_cnt (r : Fin 2) (s : ℕ) {m : ℕ} (hm : m < 32) (he : en T (32 * s + m)) (hj : cnt T s m < cnt T s 32) :
    oD c Gp T r s ⟨cnt T s m, hj⟩ = oDel c Gp T r s ⟨m, hm⟩ := by
  unfold oD
  congr 2
  show nthEn T s (cnt T s m) % 32 = m
  rw [nthEn_cnt he, Nat.mod_eq_of_lt hm]

/-- A row's copy out issued. -/
theorem wp_oIssue {α : Type} {r : Fin 2} {s m : ℕ} (hm : m < 32) (hs : s < stepsOf N) (he : en T (32 * s + m))
    {src' : Memref sig .tc .vmem S16x512 .bf16} {dst' : Memref sig .tc .hbm S16x512 .bf16} {sem' : DmaSem sig}
    (hsr : src' = oSlot r ⟨m, hm⟩) (hd : dst' = outRow (rowAt T (32 * s + m))) (hse : sem' = oSem r)
    {hsrc : src'.view.WordExact} {hdst : dst'.view.WordExact}
    {hsem : DmaTarget.Typed (nD := nD) (τ := τ) Space.vmem (SemLoc.dma sem') (.here (p := .tc) dst')}
    {k : PUnit → Prog (TpuEff nD τ sig (Elt F) Λ₀ .tc) α} {Q : α → sProp 𝕄} :
    (oIss c h Gp r s m)
      ⊢ iprop((oIss c h Gp r s (m + 1) -∗ wp frame (wpE (defs₀ (F := F)) Variants.none (c : Thread nD τ) none) Set.univ (k ⟨⟩) (Q))
        -∗ wp frame (wpE (defs₀ (F := F)) Variants.none (c : Thread nD τ) none) Set.univ (.op (.enqueueDma src' (.here dst') (.dma sem') hsrc hdst hsem) k) (Q)) := by
  unfold oIss
  rw [from_split (oHeld c Gp r s) hm, upto_split (oKept (F := F) c T r s) hm, todo_step c h (p := 32 * s + m) (by omega) he, cnt_succ_pos he]
  unfold oKept
  rw [if_pos he]
  iintro ⟨HB, ⟨Hh, Hp⟩, Hk', ⟨Ha, Ht⟩⟩ Hk
  unfold oHeld rowAny
  unfold owns
  icases Hh with ⟨%fs, %hfs, Hh⟩
  iapply (wp_copy c hsr hd hse (q := fullShare) (fs := fs) (S := (oSlot r ⟨m, hm⟩).view.set) (D := oD c Gp T r s) (j := cnt T s m) (u := 0) oN
    (oN_row _) subset_rfl (cnt_lt hm he) (Nat.zero_le _) ?hD) $$ [HB Hh Ha]
  case hD =>
    rw [oD_cnt c Gp r s hm he]
    unfold oDel oFree
    rw [hfs]
    iintro ⟨H1, H2⟩
    isplitl [H1]; · iexact H1
    iexists _
    unfold owns
    iexists fs
    isplitr; · ipureintro; rfl
    iexact H2
  · isplitl [Hh]; · iexact Hh
    isplitl [Ha]
    · unfold owns; iexact Ha
    iexact HB
  iintro ⟨-, HB⟩
  iapply Hk
  isplitl [HB]; · iexact HB
  isplitl [Hp]; · iexact Hp
  isplitl [Hk']
  · isplitr; · iempintro
    iexact Hk'
  iexact Ht

/-- A half that computes no row is passed over. -/
theorem oIss_skip {r : Fin 2} {s m : ℕ} (hm : m < 32) (he : ¬ en T (32 * s + m)) : (oIss c h Gp r s m : sProp 𝕄) ⊢ oIss c h Gp r s (m + 1) := by
  unfold oIss
  rw [from_split (oHeld c Gp r s) hm, upto_split (oKept (F := F) c T r s) hm, todo_skip c h (p := 32 * s + m) he, cnt_succ_neg he]
  conv_rhs => unfold oKept
  rw [if_neg he]
  iintro ⟨HB, ⟨Hh, Hp⟩, Hk', Ht⟩
  isplitl [HB]; · iexact HB
  isplitl [Hp]; · iexact Hp
  isplitl [Hk' Hh]
  · isplitl [Hh]
    · unfold oHeld oFree
      iexists _; iexact Hh
    unfold oKept
    iexact Hk'
  iexact Ht

/-- A row's copy waited for. -/
theorem wp_oWait {α : Type} {r : Fin 2} {s u : ℕ} (hu : u < 32) (he : en T (32 * s + u)) {sp' : Space} {s' : Shape} {e' : EltTy} {a : ℕ}
    {srcw : Memref sig .tc sp' s' e'} {dstw : Memref sig .tc .hbm S16x512 .bf16} {sem' : DmaSem sig} (hse : sem' = oSem r) (hd : dstw = outRow a)
    {hsrc : srcw.view.WordExact} {hdst : dstw.view.WordExact}
    {k : PUnit → Prog (TpuEff nD τ sig (Elt F) Λ₀ .tc) α} {Q : α → sProp 𝕄} :
    iprop(oFly c Gp T r s u ∗ (∃ W, owes (c : Thread nD τ) 0 W))
      ⊢ iprop((iprop(oFly c Gp T r s (u + 1) ∗ (∃ W, owes (c : Thread nD τ) 0 W)) -∗ wp frame (wpE (defs₀ (F := F)) Variants.none (c : Thread nD τ) none) Set.univ (k ⟨⟩) (Q))
        -∗ wp frame (wpE (defs₀ (F := F)) Variants.none (c : Thread nD τ) none) Set.univ (.op (.waitDma2 sem' srcw dstw hsrc hdst) k) (Q)) := by
  unfold oFly
  iintro ⟨⟨HB, Hr⟩, HW⟩ Hk
  iapply (wp_wait c hse oN (by rw [hd]) (D := oD c Gp T r s) (j := cnt T s 32) (u := cnt T s u) (cnt_lt hu he)) $$ [HB HW]
  · isplitl [HB]; · iexact HB
    iexact HW
  iintro ⟨HB, HW⟩
  iapply Hk
  rw [cnt_succ_pos he]
  isplitr [HW]
  · isplitl [HB]; · iexact HB
    iexact Hr
  iexact HW

theorem oFly_skip {r : Fin 2} {s u : ℕ} (he : ¬ en T (32 * s + u)) : (oFly c Gp T r s u : sProp 𝕄) = oFly c Gp T r s (u + 1) := by
  unfold oFly
  rw [cnt_succ_neg he]

/-- The deliveries in the order of issue are the deliveries of the halves that compute a row. -/
theorem oD_slots (r : Fin 2) (s : ℕ) : ∀ m, m ≤ 32 →
    BI.bigSep (Finset.univ.filter fun j : Fin (cnt T s 32) => j.val < cnt T s m) (oD c Gp T r s)
      = BI.bigSep (Finset.univ.filter fun t : Fin 32 => t.val < m) (fun t => if en T (32 * s + t.val) then oDel c Gp T r s t else iprop(emp)) := by
  intro m
  induction m with
  | zero => intro _; rw [show cnt T s 0 = 0 by simp [cnt], upto_zero, upto_zero, BI.bigSep_empty, BI.bigSep_empty]
  | succ m ih =>
    intro hm
    rw [upto_split _ (show m < 32 by omega), ← ih (by omega)]
    by_cases he : en T (32 * s + m)
    · rw [cnt_succ_pos he, upto_split _ (cnt_lt (by omega) he), oD_cnt c Gp r s (by omega) he]
      simp only [if_pos he]
    · rw [cnt_succ_neg he]
      simp only [if_neg he]
      exact (equiv_iff.mp Idealize.SL.BI.emp_sep).symm

theorem done_join (s : ℕ) (hs : s < stepsOf N) : ∀ m, m ≤ 32 →
    iprop(BI.bigSep (Finset.univ.filter fun t : Fin 32 => t.val < m)
        (fun t => if en T (32 * s + t.val) then owns (c : Thread nD τ) (outRow (rowAt T (32 * s + t.val))) fullShare (Gp (32 * s + t.val)) else iprop(emp))
      ∗ rowsDone c h Gp (32 * s)) ⊢ (rowsDone c h Gp (32 * s + m) : sProp 𝕄) := by
  intro m
  induction m with
  | zero =>
    intro _
    rw [upto_zero, BI.bigSep_empty]
    iintro ⟨-, H⟩
    iexact H
  | succ m ih =>
    intro hm
    rw [upto_split _ (show m < 32 by omega)]
    by_cases he : en T (32 * s + m)
    · rw [show 32 * s + (m + 1) = (32 * s + m) + 1 by omega, done_step c h Gp (p := 32 * s + m) (by omega) he]
      simp only [if_pos he]
      iintro ⟨⟨H1, H2⟩, H3⟩
      isplitl [H1]; · iexact H1
      iapply (ih (by omega)) $$ [H2 H3]
      isplitl [H2]; · iexact H2
      iexact H3
    · rw [show 32 * s + (m + 1) = (32 * s + m) + 1 by omega, done_skip c h Gp (p := 32 * s + m) he]
      simp only [if_neg he]
      iintro ⟨⟨H1, H2⟩, H3⟩
      iapply (ih (by omega)) $$ [H2 H3]
      isplitl [H2]; · iexact H2
      iexact H3

theorem oSlot_back (r : Fin 2) (s : ℕ) (t : Fin 32) :
    iprop((if en T (32 * s + t.val) then oDel c Gp T r s t else iprop(emp)) ∗ oKept (F := F) c T r s t)
      ⊢ (iprop((if en T (32 * s + t.val) then owns (c : Thread nD τ) (outRow (rowAt T (32 * s + t.val))) fullShare (Gp (32 * s + t.val)) else iprop(emp))
        ∗ oFree (F := F) c r t) : sProp 𝕄) := by
  unfold oKept oDel
  by_cases he : en T (32 * s + t.val)
  · simp only [if_pos he]
    iintro ⟨⟨H1, H2⟩, -⟩
    isplitl [H1]; · iexact H1
    iexact H2
  · simp only [if_neg he]
    exact .rfl

theorem oSlots_back (r : Fin 2) (s : ℕ) :
    (BI.bigSep Finset.univ fun t : Fin 32 => iprop((if en T (32 * s + t.val) then oDel c Gp T r s t else iprop(emp)) ∗ oKept (F := F) c T r s t))
      ⊢ (iprop(BI.bigSep Finset.univ (fun t : Fin 32 => if en T (32 * s + t.val) then owns (c : Thread nD τ) (outRow (rowAt T (32 * s + t.val))) fullShare (Gp (32 * s + t.val)) else iprop(emp))
        ∗ BI.bigSep Finset.univ (oFree (F := F) c r)) : sProp 𝕄) :=
  (BI.bigSep_mono fun t _ => oSlot_back c Gp (T := T) r s t).trans (big_sep2' _ _ _)

/-- All of a step's copies out waited for: the ring entry is at rest and the step's rows have arrived. -/
theorem oFly_all (r : Fin 2) (s : ℕ) (hs : s < stepsOf N) :
    iprop(oFly c Gp T r s 32 ∗ rowsDone c h Gp (32 * s)) ⊢ (|={Set.univ}=> iprop(oIdle (F := F) c r ∗ rowsDone c h Gp (32 * (s + 1))) : sProp 𝕄) := by
  unfold oFly oIdle
  rw [Nat.mul_comm (cnt T s 32) oN]
  iintro ⟨⟨HB, Hk⟩, Hd⟩
  imod (Transfers.batch_collect' (countersEmb (U := Pipeline.UD sig nD τ)) (c : Thread nD τ) oN_pos (D := oD c Gp T r s)) $$ HB with ⟨HD, Hs⟩
  imodintro
  ihave HD := (show BI.bigSep Finset.univ (oD c Gp T r s) ⊢ BI.bigSep Finset.univ (fun t : Fin 32 => if en T (32 * s + t.val) then oDel c Gp T r s t else iprop(emp)) from by
    have := oD_slots c Gp (T := T) r s 32 le_rfl
    rw [upto_all, upto_all] at this
    exact Entails.of_eq this) $$ HD
  ihave H := (big_sep2 _ _ _) $$ [HD Hk]
  · isplitl [HD]; · iexact HD
    iexact Hk
  ihave H := (oSlots_back c Gp (T := T) r s) $$ H
  icases H with ⟨Hr, Hf⟩
  isplitl [Hs Hf]
  · isplitl [Hs]; · iexact Hs
    iexact Hf
  rw [show 32 * (s + 1) = 32 * s + 32 by omega]
  iapply (done_join c h Gp s hs 32 le_rfl) $$ [Hr Hd]
  rw [upto_all]
  isplitl [Hr]; · iexact Hr
  iexact Hd

end Cert.KernelIdeal.Hand

end
-- ==== Proof.Loads.lean ====
/-
  The loads and stores of one slot's computation.
-/
module

public import Idealize.ShloMosaic.Lib.ValueLayout
public import proofs.«01_k».proof.Proof.Issue
public import proofs.«01_k».proof.Proof.OutRing

@[expose] public section

noncomputable section

namespace Cert.KernelIdeal.Hand

open Cert.KernelIdeal Cert.KernelIdeal.Gen Cert.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (c : Dev nD)

/-! ## The rows of the prepared buffers -/

/-- The 8 packed query rows of problem row `a`. -/
def qRow (f : S21024x128.Idx → Elt F .f32) (a : ℕ) : S8x128.Idx → Elt F .f32 :=
  fun x => f (ix2 (⟨(2628 * (x 0).val + a % 2600) % 21024, Nat.mod_lt _ (by omega)⟩ : Fin 21024) (x 1))
/-- The packed new rope row of problem row `a`. -/
def krRow (f : S2600x128.Idx → Elt F .f32) (a : ℕ) : S1x128.Idx → Elt F .f32 :=
  fun x => f (ix2 (⟨a % 2600, Nat.mod_lt _ (by omega)⟩ : Fin 2600) (x 1))
/-- Column block `j` of the new latent row of problem row `a`. -/
def kvnRow (f : S4x2600x128.Idx → Elt F .bf16) (j : Fin 4) (a : ℕ) : S1x1x128.Idx → Elt F .bf16 :=
  fun x => f (ix3 j (⟨a % 2600, Nat.mod_lt _ (by omega)⟩ : Fin 2600) (x 2))

theorem wp_loadQ {α : Type} {off : Fin 2 → ℕ} {a : ℕ} (h : off = ![a, 0]) (ha : a < 2600) {inb hl}
    {f : Buf (Elt F) ((c : Thread nD τ).loc cc0_scratch4)} {k : (S8x128.Idx → Elt F .f32) → Prog (TpuEff nD τ sig (Elt F) Λ₀ .tc) α} {Q : α → sProp 𝕄} :
    ((c : Thread nD τ).loc cc0_scratch4 ↦{fullShare} f)
      ⊢ iprop((((c : Thread nD τ).loc cc0_scratch4 ↦{fullShare} f) -∗ wp frame (wpE (defs₀ (F := F)) Variants.none (c : Thread nD τ) none) Set.univ (k (qRow f a)) (Q))
        -∗ wp frame (wpE (defs₀ (F := F)) Variants.none (c : Thread nD τ) none) Set.univ (.op (.load (Memref.whole cc0_scratch4) (⟨off, S8x128.size, ![2628, 1], inb⟩ : LoadRect S21024x128) hl) k) (Q)) := by
  subst h
  have hv : (Memref.whole cc0_scratch4).view.readAt (Elt F) (⟨![a, 0], S8x128.size, ![2628, 1], inb⟩ : LoadRect S21024x128) f = qRow f a := by
    funext x
    unfold qRow
    show f _ = f _
    congr 1
    funext b
    have h0 : (x 0).val < 8 := (x 0).isLt
    match b with
    | 0 =>
      apply Fin.ext
      show a + 2628 * (x 0).val = (2628 * (x 0).val + a % 2600) % 21024
      rw [Nat.mod_eq_of_lt ha, Nat.mod_eq_of_lt (by omega)]; omega
    | 1 =>
      apply Fin.ext
      show 0 + 1 * (x 1).val = (x 1).val
      omega
  iintro H Hk
  iapply (wp_load Variants.none (c : Thread nD τ) none Set.univ (m := Memref.whole cc0_scratch4) (f := f) (S := Finset.univ) (q := fullShare)
    (Finset.subset_univ _)) $$ [H]
  · iexact H
  iintro H
  rw [hv]
  iapply Hk
  iexact H

theorem wp_loadKr {α : Type} {off : Fin 2 → ℕ} {a : ℕ} (h : off = ![a, 0]) (ha : a < 2600) {inb hl}
    {f : Buf (Elt F) ((c : Thread nD τ).loc cc0_scratch5)} {k : (S1x128.Idx → Elt F .f32) → Prog (TpuEff nD τ sig (Elt F) Λ₀ .tc) α} {Q : α → sProp 𝕄} :
    ((c : Thread nD τ).loc cc0_scratch5 ↦{fullShare} f)
      ⊢ iprop((((c : Thread nD τ).loc cc0_scratch5 ↦{fullShare} f) -∗ wp frame (wpE (defs₀ (F := F)) Variants.none (c : Thread nD τ) none) Set.univ (k (krRow f a)) (Q))
        -∗ wp frame (wpE (defs₀ (F := F)) Variants.none (c : Thread nD τ) none) Set.univ (.op (.load (Memref.whole cc0_scratch5) (Rect.unit (s := S2600x128) off S1x128.size inb).toLoadRect hl) k) (Q)) := by
  subst h
  have hv : (Memref.whole cc0_scratch5).view.readAt (Elt F) (Rect.unit (s := S2600x128) ![a, 0] S1x128.size inb).toLoadRect f = krRow f a := by
    funext x
    unfold krRow
    show f _ = f _
    congr 1
    funext b
    have h0 : (x 0).val < 1 := (x 0).isLt
    match b with
    | 0 =>
      apply Fin.ext
      show a + 1 * (x 0).val = a % 2600
      rw [Nat.mod_eq_of_lt ha]; omega
    | 1 =>
      apply Fin.ext
      show 0 + 1 * (x 1).val = (x 1).val
      omega
  iintro H Hk
  iapply (wp_load Variants.none (c : Thread nD τ) none Set.univ (m := Memref.whole cc0_scratch5) (f := f) (S := Finset.univ) (q := fullShare)
    (Finset.subset_univ _)) $$ [H]
  · iexact H
  iintro H
  rw [hv]
  iapply Hk
  iexact H

theorem wp_loadKvn {α : Type} {off : Fin 3 → ℕ} {a : ℕ} {j : Fin 4} (h : off = ![j.val, a, 0]) (ha : a < 2600) {inb hl}
    {f : Buf (Elt F) ((c : Thread nD τ).loc cc0_scratch6)} {k : (S1x1x128.Idx → Elt F .bf16) → Prog (TpuEff nD τ sig (Elt F) Λ₀ .tc) α} {Q : α → sProp 𝕄} :
    ((c : Thread nD τ).loc cc0_scratch6 ↦{fullShare} f)
      ⊢ iprop((((c : Thread nD τ).loc cc0_scratch6 ↦{fullShare} f) -∗ wp frame (wpE (defs₀ (F := F)) Variants.none (c : Thread nD τ) none) Set.univ (k (kvnRow f j a)) (Q))
        -∗ wp frame (wpE (defs₀ (F := F)) Variants.none (c : Thread nD τ) none) Set.univ (.op (.load (Memref.whole cc0_scratch6) (Rect.unit (s := S4x2600x128) off S1x1x128.size inb).toLoadRect hl) k) (Q)) := by
  subst h
  have hv : (Memref.whole cc0_scratch6).view.readAt (Elt F) (Rect.unit (s := S4x2600x128) ![j.val, a, 0] S1x1x128.size inb).toLoadRect f = kvnRow f j a := by
    funext x
    unfold kvnRow
    show f _ = f _
    congr 1
    funext b
    have h0 : (x 0).val < 1 := (x 0).isLt
    have h1 : (x 1).val < 1 := (x 1).isLt
    match b with
    | 0 =>
      apply Fin.ext
      show j.val + 1 * (x 0).val = j.val
      omega
    | 1 =>
      apply Fin.ext
      show a + 1 * (x 1).val = a % 2600
      rw [Nat.mod_eq_of_lt ha]; omega
    | 2 =>
      apply Fin.ext
      show 0 + 1 * (x 2).val = (x 2).val
      omega
  iintro H Hk
  iapply (wp_load Variants.none (c : Thread nD τ) none Set.univ (m := Memref.whole cc0_scratch6) (f := f) (S := Finset.univ) (q := fullShare)
    (Finset.subset_univ _)) $$ [H]
  · iexact H
  iintro H
  rw [hv]
  iapply Hk
  iexact H

/-! ## The output ring -/

/-- The block with column block `j` replaced. -/
def putCol {V : Type} (d : S16x512.Idx → V) (j : ℕ) (w : S1x1x16x128.Idx → V) : S16x512.Idx → V :=
  fun x => if (x 1).val / 128 = j then w (ix4 (0 : Fin 1) (0 : Fin 1) (x 0) (⟨(x 1).val % 128, Nat.mod_lt _ (by omega)⟩ : Fin 128)) else d x

theorem oSlot_emb (r : Fin 2) (t : Fin 32) (x : S16x512.Idx) :
    (oSlot r t).view.emb x = (ix4 r t (x 0) (x 1) : S2x32x16x512.Idx) := by
  obtain ⟨y, z, rfl⟩ : ∃ (y : Fin 16) (z : Fin 512), x = ix2 y z := ⟨x 0, x 1, by funext a; match a with | 0 => rfl | 1 => rfl⟩
  show (Rect.unit (s := S2x32x16x512) ![r.val, t.val, 0, 0] S1x1x16x512.size (oSlot_inb r t)).emb (Shape.reshapeEquiv _ (ix2 y z)) = _
  rw [reshapeEquiv_ix2_11ab]
  funext a
  apply Fin.ext
  match a with
  | 0 => show r.val + 1 * 0 = r.val; omega
  | 1 => show t.val + 1 * 0 = t.val; omega
  | 2 => show 0 + 1 * y.val = y.val; omega
  | 3 => show 0 + 1 * z.val = z.val; omega

theorem col_emb (r : Fin 2) (t : Fin 32) {o : ℕ} (inb) (w : S1x1x16x128.Idx) (a : Fin 4) :
    ((((Memref.whole cc0_scratch7).access (Rect.unit (s := S2x32x16x512) ![r.val, t.val, 0, o] S1x1x16x128.size inb)).emb w : S2x32x16x512.Idx) a).val
      = ![r.val, t.val, (w 2).val, o + (w 3).val] a := by
  have h0 : (w 0).val < 1 := (w 0).isLt
  have h1 : (w 1).val < 1 := (w 1).isLt
  match a with
  | 0 => show r.val + 1 * (w 0).val = r.val; omega
  | 1 => show t.val + 1 * (w 1).val = t.val; omega
  | 2 => show 0 + 1 * (w 2).val = (w 2).val; omega
  | 3 => show o + 1 * (w 3).val = o + (w 3).val; omega

theorem col_sub (r : Fin 2) (t : Fin 32) {o : ℕ} (inb) :
    ((Memref.whole cc0_scratch7).access (Rect.unit (s := S2x32x16x512) ![r.val, t.val, 0, o] S1x1x16x128.size inb)).set ⊆ (oSlot r t).view.set := by
  intro i hi
  obtain ⟨w, -, rfl⟩ := Finset.mem_map.1 hi
  have h3 : o + (w 3).val < 512 := by
    have := inb 3; have hw : (w 3).val < 128 := (w 3).isLt
    have : o + 128 ≤ 512 := this
    omega
  have : ((Memref.whole cc0_scratch7).access (Rect.unit (s := S2x32x16x512) ![r.val, t.val, 0, o] S1x1x16x128.size inb)).emb w
      = (oSlot r t).view.emb (ix2 (w 2) (⟨o + (w 3).val, h3⟩ : Fin 512)) := by
    rw [oSlot_emb]
    funext a
    apply Fin.ext
    refine (col_emb r t inb w a).trans ?_
    match a with
    | 0 => rfl
    | 1 => rfl
    | 2 => rfl
    | 3 => rfl
  rw [this]
  exact View.emb_mem_set _ _

/-- A load of a column block of an output slot, whatever it holds. -/
theorem wp_loadCol {α : Type} {off : Fin 4 → ℕ} {r : Fin 2} {t : Fin 32} {o : ℕ} (h : off = ![r.val, t.val, 0, o]) {inb hl}
    {d : S16x512.Idx → Elt F .bf16} {k : (S1x1x16x128.Idx → Elt F .bf16) → Prog (TpuEff nD τ sig (Elt F) Λ₀ .tc) α} {Q : α → sProp 𝕄} {p : Prog (TpuEff nD τ sig (Elt F) Λ₀ .tc) α}
    (hk : ∀ v, k v = p) :
    (owns (c : Thread nD τ) (oSlot r t) fullShare d)
      ⊢ iprop((owns (c : Thread nD τ) (oSlot r t) fullShare d -∗ wp frame (wpE (defs₀ (F := F)) Variants.none (c : Thread nD τ) none) Set.univ (p) (Q))
        -∗ wp frame (wpE (defs₀ (F := F)) Variants.none (c : Thread nD τ) none) Set.univ (.op (.load (Memref.whole cc0_scratch7) (Rect.unit (s := S2x32x16x512) off S1x1x16x128.size inb).toLoadRect hl) k) (Q)) := by
  subst h
  unfold owns
  iintro ⟨%f, %hf, H⟩ Hk
  iapply (wp_load_rect Variants.none (c : Thread nD τ) none Set.univ (m := Memref.whole cc0_scratch7)
    (r := Rect.unit (s := S2x32x16x512) ![r.val, t.val, 0, o] S1x1x16x128.size inb) (f := f) (S := (oSlot r t).view.set) (col_sub r t inb)) $$ [H]
  · iexact H
  iintro H
  rw [hk]
  iapply Hk
  iexists f
  isplitr; · ipureintro; exact hf
  iexact H

/-- A store of a column block of an output slot. -/
theorem wp_storeCol {α : Type} {off : Fin 4 → ℕ} {r : Fin 2} {t : Fin 32} {j : ℕ} (h : off = ![r.val, t.val, 0, 128 * j]) (hj : j < 4) {inb hx hm}
    {d : S16x512.Idx → Elt F .bf16} {w : S1x1x16x128.Idx → Elt F .bf16} {k : PUnit → Prog (TpuEff nD τ sig (Elt F) Λ₀ .tc) α} {Q : α → sProp 𝕄} :
    (owns (c : Thread nD τ) (oSlot r t) fullShare d)
      ⊢ iprop((owns (c : Thread nD τ) (oSlot r t) fullShare (putCol d j w) -∗ wp frame (wpE (defs₀ (F := F)) Variants.none (c : Thread nD τ) none) Set.univ (k ⟨⟩) (Q))
        -∗ wp frame (wpE (defs₀ (F := F)) Variants.none (c : Thread nD τ) none) Set.univ (.op (.store (Memref.whole cc0_scratch7) (Rect.unit (s := S2x32x16x512) off S1x1x16x128.size inb) w Finset.univ hx hm) k) (Q)) := by
  subst h
  unfold owns
  iintro ⟨%f, %hf, H⟩ Hk
  iapply (wp_store Variants.none (c : Thread nD τ) none Set.univ (m := Memref.whole cc0_scratch7)
    (r := Rect.unit (s := S2x32x16x512) ![r.val, t.val, 0, 128 * j] S1x1x16x128.size inb) (f := f) (S := (oSlot r t).view.set)
    (by rw [View.setOn_univ]; exact col_sub r t inb)) $$ [H]
  · iexact H
  iintro H
  iapply Hk
  iexists _
  isplitr [H]
  rotate_left
  · iexact H
  ipureintro
  funext x
  have hx1 : (x 1).val < 512 := (x 1).isLt
  rw [View.read_apply]
  unfold putCol
  by_cases hc : (x 1).val / 128 = j
  · rw [if_pos hc]
    have he : (oSlot r t).view.emb x = ((Memref.whole cc0_scratch7).access (Rect.unit (s := S2x32x16x512) ![r.val, t.val, 0, 128 * j] S1x1x16x128.size inb)).emb
        (ix4 (0 : Fin 1) (0 : Fin 1) (x 0) (⟨(x 1).val % 128, Nat.mod_lt _ (by omega)⟩ : Fin 128)) := by
      rw [oSlot_emb]
      funext a
      apply Fin.ext
      refine Eq.trans ?_ (col_emb r t inb _ a).symm
      match a with
      | 0 => rfl
      | 1 => rfl
      | 2 => rfl
      | 3 => show (x 1).val = 128 * j + (x 1).val % 128; omega
    rw [he]
    rw [View.write_emb_of_mem _ _ (Finset.mem_univ _)]
    rfl
  · rw [if_neg hc, ← hf, View.read_apply, View.write_of_not_mem]
    rw [View.setOn_univ]
    intro hi
    obtain ⟨y, -, hy⟩ := Finset.mem_map.1 hi
    have h3 := col_emb r t inb y 3
    rw [hy, oSlot_emb] at h3
    have h3' : (x 1).val = 128 * j + (y 3).val := h3
    have : (y 3).val < 128 := (y 3).isLt
    omega

/-- The block of four column blocks. -/
def colBlock {V : Type} (w0 w1 w2 w3 : S1x1x16x128.Idx → V) : S16x512.Idx → V :=
  fun x => (match (x 1).val / 128 with | 0 => w0 | 1 => w1 | 2 => w2 | _ => w3)
    (ix4 (0 : Fin 1) (0 : Fin 1) (x 0) (⟨(x 1).val % 128, Nat.mod_lt _ (by omega)⟩ : Fin 128))

theorem putCol_all {V : Type} (d : S16x512.Idx → V) (w0 w1 w2 w3 : S1x1x16x128.Idx → V) :
    putCol (putCol (putCol (putCol d 0 w0) 1 w1) 2 w2) 3 w3 = colBlock w0 w1 w2 w3 := by
  funext x
  have hx1 : (x 1).val < 512 := (x 1).isLt
  unfold putCol colBlock
  have : (x 1).val / 128 = 0 ∨ (x 1).val / 128 = 1 ∨ (x 1).val / 128 = 2 ∨ (x 1).val / 128 = 3 := by omega
  rcases this with h | h | h | h <;> simp [h]

end Cert.KernelIdeal.Hand

end
-- ==== Proof.Flow.lean ====
/-
  The values one slot's computation goes through, as a chain of named definitions over what
  the computation reads.
-/
module

public import proofs.«01_k».proof.Proof.Loads

@[expose] public section

noncomputable section

namespace Cert.KernelIdeal.Hand

open Cert.KernelIdeal Cert.KernelIdeal.Gen Cert.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What the computation of one slot reads: the slot word, the two rows' lengths, the two
cache tiles, the two query blocks, and the rows of the prepared buffers for the two rows. -/
structure SlotIn (F : FTy → Type) [FloatOps F] where
  w : BitVec 32
  lA : BitVec 32
  lB : BitVec 32
  kA : S1x1x656x128.Idx → Elt F .i8
  kB : S1x1x656x128.Idx → Elt F .i8
  xA : S1x1x16x512.Idx → Elt F .bf16
  xB : S1x1x16x512.Idx → Elt F .bf16
  qA : S8x128.Idx → Elt F .f32
  qB : S8x128.Idx → Elt F .f32
  rA : S1x128.Idx → Elt F .f32
  rB : S1x128.Idx → Elt F .f32
  nA : Fin 4 → S1x1x128.Idx → Elt F .bf16
  nB : Fin 4 → S1x1x128.Idx → Elt F .bf16
  io : IVec S16x128 32

namespace SlotIn

variable (s : SlotIn F)

def d179 : BitVec 32 := Scalar.andi s.w 4095#32
def d181 : BitVec 32 := Scalar.andi (Scalar.shrsi s.w 12#32) 4095#32
def d183 : BitVec 1 := Scalar.cmpi .eq (Scalar.shrsi s.w 24#32) 2#32
def d186 : BitVec 32 := Scalar.minsi s.lA 128#32
def d190 : BitVec 32 := Scalar.select s.d183 (Scalar.subi s.lA 128#32) s.lB
def d197 : IVec S164x128 32 := k0_pay14 s.kA
def d204 : IVec S164x128 32 := k0_pay15 s.kB
def d210 : FVec F S16x512 .bf16 := k0_pay16 s.xA
def d216 : FVec F S16x512 .bf16 := k0_pay17 s.xB
def d221 : FVec F S16x128 .f32 := k0_pay18 s.qA
def d257 : FVec F S16x128 .f32 := k0_pay19 s.d210 s.qA s.rA (s.nA 0) (s.nA 1) (s.nA 2) (s.nA 3)
def d259 : FVec F S16x64 .bf16 := k0_pay20 s.d221
def d263 : FVec F S16x1 .f32 := k0_pay21 s.d257
def d268 : FVec F S16x128 .f32 := k0_pay22 s.qB
def d304 : FVec F S16x128 .f32 := k0_pay23 s.d216 s.qB s.rB (s.nB 0) (s.nB 1) (s.nB 2) (s.nB 3)
def d310 : FVec F S16x1 .f32 := k0_pay24 s.d304
def d317 : FVec F S32x256 .f32 := k0_pay25 s.d197 s.d204 s.d259 s.d268
def d326 : FVec F S32x256 .f32 := k0_pay26 s.d197 s.d204 s.d210 s.d216
def d335 : FVec F S32x256 .f32 := k0_pay27 s.d197 s.d204 s.d210 s.d216
def d344 : FVec F S32x256 .f32 := k0_pay28 s.d197 s.d204 s.d210 s.d216
def d353 : FVec F S32x256 .f32 := k0_pay29 s.d197 s.d204 s.d210 s.d216
def d354 : FVec F S16x128 .f32 := k0_pay30 s.d197 s.d204 s.d259 s.d268
def d355 : FVec F S16x128 .f32 := k0_pay31 s.d197 s.d204 s.d210 s.d216
def d357 : FVec F S1x128 .f32 := k0_pay32 (F := F) s.d197
def d396 : FVec F S16x128 .f32 := k0_pay33 s.io s.d186 s.d197 s.d335 s.d344 s.d353 s.d354 s.d355 s.d357
def d415 : FVec F S16x128 .f32 := k0_pay34 s.d204 s.d317 s.d326 s.d335
def d453 : FVec F S16x128 .f32 := k0_pay42 s.io s.d183 s.d190 s.d204 s.d263 s.d310 s.d344 s.d353 s.d396 s.d415
def d456 : FVec F S16x128 .f32 := k0_pay43 s.io s.d183 s.d190 s.d204 s.d263 s.d310 s.d344 s.d353 s.d396 s.d415
def d458 : FVec F S16x1 .f32 := k0_pay44 s.io s.d183 s.d190 s.d204 s.d263 s.d310 s.d344 s.d353 s.d396 s.d415
def d460 : FVec F S16x1 .f32 := k0_pay45 s.io s.d183 s.d190 s.d204 s.d263 s.d310 s.d344 s.d353 s.d396 s.d415
def d466 : FVec F S16x1 .f32 := k0_pay47 s.io s.d183 s.d190 s.d204 s.d263 s.d310 s.d344 s.d353 s.d396 s.d415
def d467 : FVec F S16x1 .f32 := k0_pay48 s.io s.d183 s.d190 s.d204 s.d263 s.d310 s.d344 s.d353 s.d396 s.d415
def d468 : FVec F S16x1 .f32 := k0_pay49 s.io s.d183 s.d190 s.d204 s.d263 s.d310 s.d344 s.d353 s.d396 s.d415
def d476 : FVec F S16x128 .bf16 := k0_pay52 s.d453 s.d468
def d479 : FVec F S16x128 .bf16 := k0_pay53 s.d183 s.d456 s.d466 s.d467
def d482 : FVec F S16x1 .f32 := k0_pay54 s.d458 s.d468
def d485 : FVec F S16x1 .f32 := k0_pay55 s.d183 s.d460 s.d466 s.d467
def d487 : FVec F S16x128 .bf16 := k0_pay57 s.d183 s.d456 s.d466 s.d467
def d514 : FVec F S32x128 .f32 := k0_pay58 s.d183 s.d197 s.d204 s.d453 s.d456 s.d466 s.d467 s.d468
def d520 : FVec F S16x128 .bf16 := k0_pay59 s.d197 s.d453 s.d468
def d524 : FVec F S16x128 .f32 := k0_pay60 (F := F) s.d204
def d541 : FVec F S32x128 .f32 := k0_pay61 s.d197 s.d204 s.d479 (k0_pay56 (F := F)) s.d487 s.d520 s.d524
def d568 : FVec F S32x128 .f32 := k0_pay62 s.d197 s.d204 s.d476 s.d479 (k0_pay56 (F := F)) s.d487
def d581 : FVec F S16x256 .bf16 := k0_pay63 s.d197 s.d204 s.d476 s.d487
def d582 : IVec S1x128 32 := k0_pay64 s.d204
def d595 : FVec F S32x128 .f32 := k0_pay65 s.d197 s.d204 s.d479 (k0_pay56 (F := F)) s.d581 s.d582
def d607 : FVec F S1x128 .f32 := k0_pay66 (s.nA 2)
def d611 : FVec F S1x128 .f32 := k0_pay67 (s.nA 3)
def d625 : FVec F S16x128 .f32 := k0_pay69 s.d541
def d628 : FVec F S16x128 .f32 := k0_pay70 s.d482 (s.nA 1)
def d667 : FVec F S1x128 .f32 := k0_pay74 (s.nB 0)
def d679 : FVec F S1x128 .f32 := k0_pay75 (s.nB 3)
def d711 : FVec F S16x128 .bf16 := k0_pay78 s.d485 s.d568 (s.nB 2)
def blkA0 : S1x1x16x128.Idx → Elt F .bf16 := k0_pay68 s.d482 s.d514 (s.nA 0)
def blkA1 : S1x1x16x128.Idx → Elt F .bf16 := k0_pay71 s.d625 s.d628
def blkA2 : S1x1x16x128.Idx → Elt F .bf16 := k0_pay72 s.d482 s.d568 s.d607
def blkA3 : S1x1x16x128.Idx → Elt F .bf16 := k0_pay73 s.d482 s.d595 s.d611
/-- The block written to the output slot of the first half. -/
def blkA : S16x512.Idx → Elt F .bf16 := colBlock s.blkA0 s.blkA1 s.blkA2 s.blkA3
def blkB0 : S1x1x16x128.Idx → Elt F .bf16 := k0_pay76 s.d485 s.d514 s.d667
def blkB1 : S1x1x16x128.Idx → Elt F .bf16 := k0_pay77 s.d485 s.d541 (s.nB 1)
def blkB2 : S1x1x16x128.Idx → Elt F .bf16 := k0_pay3 s.d711
def blkB3 : S1x1x16x128.Idx → Elt F .bf16 := k0_pay4 s.d485 s.d595 s.d679
/-- The block written to the output slot of the second half. -/
def blkB : S16x512.Idx → Elt F .bf16 := colBlock s.blkB0 s.blkB1 s.blkB2 s.blkB3

end SlotIn

section
variable (c : Dev nD)
  (kvt : Buf (Elt F) ((c : Thread nD τ).loc main_v0)) (x3 : Buf (Elt F) ((c : Thread nD τ).loc main_v1))
  (f8 : Buf (Elt F) ((c : Thread nD τ).loc cc0_scratch8)) (fl : Buf (Elt F) ((c : Thread nD τ).loc main_arg5))
  (f12 : Buf (Elt F) ((c : Thread nD τ).loc cc0_scratch4)) (f13 : Buf (Elt F) ((c : Thread nD τ).loc cc0_scratch5))
  (f14 : Buf (Elt F) ((c : Thread nD τ).loc cc0_scratch6)) (io : IVec S16x128 32)

/-- What the computation of slot `σ` reads. -/
def slotIn (σ : ℕ) : SlotIn F where
  w := cellN c f8 σ
  lA := lenN c fl (wa (cellN c f8 σ))
  lB := lenN c fl (wb (cellN c f8 σ))
  kA := unsq (kvVal c kvt (cellN c f8) (2 * σ))
  kB := unsq (kvVal c kvt (cellN c f8) (2 * σ + 1))
  xA := unsqX (xVal c x3 (cellN c f8) (2 * σ))
  xB := unsqX (xVal c x3 (cellN c f8) (2 * σ + 1))
  qA := qRow f12 (wa (cellN c f8 σ))
  qB := qRow f12 (wb (cellN c f8 σ))
  rA := krRow f13 (wa (cellN c f8 σ))
  rB := krRow f13 (wb (cellN c f8 σ))
  nA := fun j => kvnRow f14 j (wa (cellN c f8 σ))
  nB := fun j => kvnRow f14 j (wb (cellN c f8 σ))
  io := io

/-- The block computed at position `p`: two positions to a slot. -/
def blockAt (p : ℕ) : S16x512.Idx → Elt F .bf16 :=
  if p % 2 = 0 then (slotIn c kvt x3 f8 fl f12 f13 f14 io (p / 2)).blkA else (slotIn c kvt x3 f8 fl f12 f13 f14 io (p / 2)).blkB

theorem blockAt_even (σ : ℕ) : blockAt c kvt x3 f8 fl f12 f13 f14 io (2 * σ) = (slotIn c kvt x3 f8 fl f12 f13 f14 io σ).blkA := by
  unfold blockAt
  rw [if_pos (by omega), show 2 * σ / 2 = σ by omega]
theorem blockAt_odd (σ : ℕ) : blockAt c kvt x3 f8 fl f12 f13 f14 io (2 * σ + 1) = (slotIn c kvt x3 f8 fl f12 f13 f14 io σ).blkB := by
  unfold blockAt
  rw [if_neg (by omega), show (2 * σ + 1) / 2 = σ by omega]
end

end Cert.KernelIdeal.Hand

end
-- ==== Proof.Outs.lean ====
/-
  The loops that start a step's output copies and wait for them.
-/
module

public import proofs.«01_k».proof.Proof.Issue
public import proofs.«01_k».proof.Proof.OutRing

@[expose] public section

noncomputable section

namespace Cert.KernelIdeal.Hand

open Cert.KernelIdeal Cert.KernelIdeal.Gen Cert.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords)
variable (f8 : Buf (Elt F) ((c : Thread nD τ).loc cc0_scratch8)) (Gp : ℕ → S16x512.Idx → Elt F .bf16)
variable {v0 v1 : BitVec 32} {N K : ℕ} (H : Built' v0 v1 N K) {long : ℕ → Prop} (h : Table long (cellN c f8) N)

include h H in
/-- The two rows a slot names are rows of the problem. -/
theorem rowsOK : RowsOK c f8 K := fun σ hσ => ⟨h.wa_lt (by rw [← H.k]; exact hσ), h.wb_lt (by rw [← H.k]; exact hσ)⟩

/-- The output ring of a step while `n` of the step's halves are passed. -/
def OutIss (r : Fin 2) (s n : ℕ) : sProp 𝕄 :=
  iprop(((c : Thread nD τ).loc cc0_scratch8 ↦{fullShare} f8) ∗ oIss c h Gp r s n)
/-- The output ring of a step while `n` of the step's halves are waited for. -/
def OutFly (r : Fin 2) (s n : ℕ) : sProp 𝕄 :=
  iprop(((c : Thread nD τ).loc cc0_scratch8 ↦{fullShare} f8) ∗ oFly c Gp (cellN c f8) r s n ∗ (∃ W, owes (c : Thread nD τ) 0 W))

include H in
theorem t11_step (tb : RowsOK c f8 K) (hw3 : k0_chk3 v0 v1) (t6 : Fin (k0_t6_loop v0 v1).trips)
    (r : Fin 2) (hr : r.val = t6.val % 2) (t11 : Fin k0_t11_loop.trips) (u : BitVec 32) :
    OutIss c f8 Gp h r t6.val (2 * t11.val) ⊢ wp frame (wpE (defs₀ (F := F)) Variants.none (c : Thread nD τ) none) Set.univ (k0_t11_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t6 t11 u) (fun _ => OutIss c f8 Gp h r t6.val (2 * (t11.val + 1))) := by
  have ht4 : t11.val < 16 := t11.isLt.trans_eq trips11
  have ht3 : t6.val < K := t6.isLt.trans_eq (trips6 H)
  have hK := H.k
  have hKlo := H.lo
  obtain ⟨ha, hb⟩ := tb (t6.val * 16 + t11.val) (by omega)
  unfold k0_t11_body
  simp only [bind_assoc, Prog.bind_lift, Prog.bind_ret, Prog.pure_eq_ret]
  unfold OutIss
  iintro ⟨HT, Ho⟩
  iapply (wp_word c (off82_eq H t6 t11)) $$ HT
  iintro HT
  iapply (wp_check c (chk9_ok H ha hb t6 t11))
  by_cases hx6 : k0_cond6 (cellN c f8 (t6.val * 16 + t11.val)) = 1#1
  · rw [dif_pos hx6]
    try simp only [bind_assoc, Prog.bind_lift, Prog.bind_ret, Prog.pure_eq_ret]
    iapply (wp_oIssue c h Gp (s := t6.val) (m := 2 * t11.val) (by omega) (by omega) (by have := en_even (T := cellN c f8) (n := t6.val * 16 + t11.val); rw [show 32 * (t6.val) + (2 * t11.val) = 2 * (t6.val * 16 + t11.val) by omega]; exact this.2 ((cond6_iff _).1 hx6))
      (oSlot_eq _ (by rw [off85_eq H t6 t11, hr])) (by rw [show 32 * (t6.val) + (2 * t11.val) = 2 * (t6.val * 16 + t11.val) by omega, rowAt_even]; exact (outRow_eq _ (off84_eq (cellN c f8 (t6.val * 16 + t11.val))) ha)) (oSem_eq _ (by rw [off83_eq H t6, hr]))) $$ Ho
    iintro Ho
    by_cases hx7 : k0_cond7 (cellN c f8 (t6.val * 16 + t11.val)) = 1#1
    · rw [dif_pos hx7]
      try simp only [bind_assoc, Prog.bind_lift, Prog.bind_ret, Prog.pure_eq_ret]
      iapply (wp_oIssue c h Gp (s := t6.val) (m := 2 * t11.val + 1) (by omega) (by omega) (by have := en_odd (T := cellN c f8) (n := t6.val * 16 + t11.val); rw [show 32 * (t6.val) + (2 * t11.val + 1) = 2 * (t6.val * 16 + t11.val) + 1 by omega]; exact this.2 ((cond7_iff _).1 hx7))
        (oSlot_eq _ (by rw [off88_eq H t6 t11, hr])) (by rw [show 32 * (t6.val) + (2 * t11.val + 1) = 2 * (t6.val * 16 + t11.val) + 1 by omega, rowAt_odd]; exact (outRow_eq _ (off87_eq (cellN c f8 (t6.val * 16 + t11.val))) hb)) (oSem_eq _ (by rw [off86_eq H t6, hr]))) $$ Ho
      iintro Ho
      iapply (le_wp_ret _ _)
      isplitl [HT]; · iexact HT
      iexact Ho
    · rw [dif_neg hx7]
      try simp only [bind_assoc, Prog.bind_lift, Prog.bind_ret, Prog.pure_eq_ret]
      ihave Ho := (oIss_skip c h Gp (s := t6.val) (m := 2 * t11.val + 1) (by omega) (by have := en_odd (T := cellN c f8) (n := t6.val * 16 + t11.val); rw [show 32 * (t6.val) + (2 * t11.val + 1) = 2 * (t6.val * 16 + t11.val) + 1 by omega]; exact fun e => hx7 ((cond7_iff _).2 (this.1 e)))) $$ Ho
      iapply (le_wp_ret _ _)
      isplitl [HT]; · iexact HT
      iexact Ho
  · rw [dif_neg hx6]
    try simp only [bind_assoc, Prog.bind_lift, Prog.bind_ret, Prog.pure_eq_ret]
    ihave Ho := (oIss_skip c h Gp (s := t6.val) (m := 2 * t11.val) (by omega) (by have := en_even (T := cellN c f8) (n := t6.val * 16 + t11.val); rw [show 32 * (t6.val) + (2 * t11.val) = 2 * (t6.val * 16 + t11.val) by omega]; exact fun e => hx6 ((cond6_iff _).2 (this.1 e)))) $$ Ho
    by_cases hx7 : k0_cond7 (cellN c f8 (t6.val * 16 + t11.val)) = 1#1
    · rw [dif_pos hx7]
      try simp only [bind_assoc, Prog.bind_lift, Prog.bind_ret, Prog.pure_eq_ret]
      iapply (wp_oIssue c h Gp (s := t6.val) (m := 2 * t11.val + 1) (by omega) (by omega) (by have := en_odd (T := cellN c f8) (n := t6.val * 16 + t11.val); rw [show 32 * (t6.val) + (2 * t11.val + 1) = 2 * (t6.val * 16 + t11.val) + 1 by omega]; exact this.2 ((cond7_iff _).1 hx7))
        (oSlot_eq _ (by rw [off88_eq H t6 t11, hr])) (by rw [show 32 * (t6.val) + (2 * t11.val + 1) = 2 * (t6.val * 16 + t11.val) + 1 by omega, rowAt_odd]; exact (outRow_eq _ (off87_eq (cellN c f8 (t6.val * 16 + t11.val))) hb)) (oSem_eq _ (by rw [off86_eq H t6, hr]))) $$ Ho
      iintro Ho
      iapply (le_wp_ret _ _)
      isplitl [HT]; · iexact HT
      iexact Ho
    · rw [dif_neg hx7]
      try simp only [bind_assoc, Prog.bind_lift, Prog.bind_ret, Prog.pure_eq_ret]
      ihave Ho := (oIss_skip c h Gp (s := t6.val) (m := 2 * t11.val + 1) (by omega) (by have := en_odd (T := cellN c f8) (n := t6.val * 16 + t11.val); rw [show 32 * (t6.val) + (2 * t11.val + 1) = 2 * (t6.val * 16 + t11.val) + 1 by omega]; exact fun e => hx7 ((cond7_iff _).2 (this.1 e)))) $$ Ho
      iapply (le_wp_ret _ _)
      isplitl [HT]; · iexact HT
      iexact Ho

include H in
theorem t8_step (tb : RowsOK c f8 K) (hw3 : k0_chk3 v0 v1) (t6 : Fin (k0_t6_loop v0 v1).trips) (h2 : k0_cond2 v0 v1 t6 = 1#1)
    (r : Fin 2) (hr : r.val = t6.val % 2) (t8 : Fin k0_t8_loop.trips) (u : BitVec 32) :
    OutFly c f8 Gp r (t6.val - 2) (2 * t8.val) ⊢ wp frame (wpE (defs₀ (F := F)) Variants.none (c : Thread nD τ) none) Set.univ (k0_t8_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t6 h2 t8 u) (fun _ => OutFly c f8 Gp r (t6.val - 2) (2 * (t8.val + 1))) := by
  have ht4 : t8.val < 16 := t8.isLt.trans_eq trips8
  have ht3 : t6.val < K := t6.isLt.trans_eq (trips6 H)
  have h2' : 2 ≤ t6.val := (cond2_iff H t6).1 h2
  have hK := H.k
  have hKlo := H.lo
  obtain ⟨ha, hb⟩ := tb ((t6.val - 2) * 16 + t8.val) (by omega)
  unfold k0_t8_body
  simp only [bind_assoc, Prog.bind_lift, Prog.bind_ret, Prog.pure_eq_ret]
  unfold OutFly
  iintro ⟨HT, Ho, HW⟩
  iapply (wp_word c (off44_eq H t6 t8 h2')) $$ HT
  iintro HT
  iapply (wp_check c (chk6_ok H ha hb t6 t8))
  by_cases hx3 : k0_cond3 (cellN c f8 ((t6.val - 2) * 16 + t8.val)) = 1#1
  · rw [dif_pos hx3]
    try simp only [bind_assoc, Prog.bind_lift, Prog.bind_ret, Prog.pure_eq_ret]
    iapply (wp_oWait c Gp (s := (t6.val - 2)) (u := 2 * t8.val) (by omega) (by have := en_even (T := cellN c f8) (n := (t6.val - 2) * 16 + t8.val); rw [show 32 * ((t6.val - 2)) + (2 * t8.val) = 2 * ((t6.val - 2) * 16 + t8.val) by omega]; exact this.2 ((cond3_iff _).1 hx3)) (oSem_eq _ (by rw [off45_eq H t6, hr])) (outRow_eq _ (off46_eq (cellN c f8 ((t6.val - 2) * 16 + t8.val))) ha)) $$ [Ho HW]
    · isplitl [Ho]; · iexact Ho
      iexact HW
    iintro ⟨Ho, HW⟩
    by_cases hx4 : k0_cond4 (cellN c f8 ((t6.val - 2) * 16 + t8.val)) = 1#1
    · rw [dif_pos hx4]
      try simp only [bind_assoc, Prog.bind_lift, Prog.bind_ret, Prog.pure_eq_ret]
      iapply (wp_oWait c Gp (s := (t6.val - 2)) (u := 2 * t8.val + 1) (by omega) (by have := en_odd (T := cellN c f8) (n := (t6.val - 2) * 16 + t8.val); rw [show 32 * ((t6.val - 2)) + (2 * t8.val + 1) = 2 * ((t6.val - 2) * 16 + t8.val) + 1 by omega]; exact this.2 ((cond4_iff _).1 hx4)) (oSem_eq _ (by rw [off48_eq H t6, hr])) (outRow_eq _ (off49_eq (cellN c f8 ((t6.val - 2) * 16 + t8.val))) hb)) $$ [Ho HW]
      · isplitl [Ho]; · iexact Ho
        iexact HW
      iintro ⟨Ho, HW⟩
      iapply (le_wp_ret _ _)
      isplitl [HT]; · iexact HT
      isplitl [Ho]; · iexact Ho
      iexact HW
    · rw [dif_neg hx4]
      try simp only [bind_assoc, Prog.bind_lift, Prog.bind_ret, Prog.pure_eq_ret]
      ihave Ho := (Entails.of_eq (oFly_skip c Gp (r := r) (s := (t6.val - 2)) (u := 2 * t8.val + 1) (by have := en_odd (T := cellN c f8) (n := (t6.val - 2) * 16 + t8.val); rw [show 32 * ((t6.val - 2)) + (2 * t8.val + 1) = 2 * ((t6.val - 2) * 16 + t8.val) + 1 by omega]; exact fun e => hx4 ((cond4_iff _).2 (this.1 e))))) $$ Ho
      iapply (le_wp_ret _ _)
      isplitl [HT]; · iexact HT
      isplitl [Ho]; · iexact Ho
      iexact HW
  · rw [dif_neg hx3]
    try simp only [bind_assoc, Prog.bind_lift, Prog.bind_ret, Prog.pure_eq_ret]
    ihave Ho := (Entails.of_eq (oFly_skip c Gp (r := r) (s := (t6.val - 2)) (u := 2 * t8.val) (by have := en_even (T := cellN c f8) (n := (t6.val - 2) * 16 + t8.val); rw [show 32 * ((t6.val - 2)) + (2 * t8.val) = 2 * ((t6.val - 2) * 16 + t8.val) by omega]; exact fun e => hx3 ((cond3_iff _).2 (this.1 e))))) $$ Ho
    by_cases hx4 : k0_cond4 (cellN c f8 ((t6.val - 2) * 16 + t8.val)) = 1#1
    · rw [dif_pos hx4]
      try simp only [bind_assoc, Prog.bind_lift, Prog.bind_ret, Prog.pure_eq_ret]
      iapply (wp_oWait c Gp (s := (t6.val - 2)) (u := 2 * t8.val + 1) (by omega) (by have := en_odd (T := cellN c f8) (n := (t6.val - 2) * 16 + t8.val); rw [show 32 * ((t6.val - 2)) + (2 * t8.val + 1) = 2 * ((t6.val - 2) * 16 + t8.val) + 1 by omega]; exact this.2 ((cond4_iff _).1 hx4)) (oSem_eq _ (by rw [off48_eq H t6, hr])) (outRow_eq _ (off49_eq (cellN c f8 ((t6.val - 2) * 16 + t8.val))) hb)) $$ [Ho HW]
      · isplitl [Ho]; · iexact Ho
        iexact HW
      iintro ⟨Ho, HW⟩
      iapply (le_wp_ret _ _)
      isplitl [HT]; · iexact HT
      isplitl [Ho]; · iexact Ho
      iexact HW
    · rw [dif_neg hx4]
      try simp only [bind_assoc, Prog.bind_lift, Prog.bind_ret, Prog.pure_eq_ret]
      ihave Ho := (Entails.of_eq (oFly_skip c Gp (r := r) (s := (t6.val - 2)) (u := 2 * t8.val + 1) (by have := en_odd (T := cellN c f8) (n := (t6.val - 2) * 16 + t8.val); rw [show 32 * ((t6.val - 2)) + (2 * t8.val + 1) = 2 * ((t6.val - 2) * 16 + t8.val) + 1 by omega]; exact fun e => hx4 ((cond4_iff _).2 (this.1 e))))) $$ Ho
      iapply (le_wp_ret _ _)
      isplitl [HT]; · iexact HT
      isplitl [Ho]; · iexact Ho
      iexact HW

include H in
theorem t19_step (tb : RowsOK c f8 K) (hw3 : k0_chk3 v0 v1) (t18 : Fin k0_t18_loop.trips) (h14 : k0_cond14 v0 v1 t18 = 1#1)
    (r : Fin 2) (hr : r.val = (K - (2 - t18.val)) % 2) (t19 : Fin k0_t19_loop.trips) (u : Unit) :
    OutFly c f8 Gp r (K - (2 - t18.val)) (2 * t19.val) ⊢ wp frame (wpE (defs₀ (F := F)) Variants.none (c : Thread nD τ) none) Set.univ (k0_t19_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t18 h14 t19 u) (fun _ => OutFly c f8 Gp r (K - (2 - t18.val)) (2 * (t19.val + 1))) := by
  have ht4 : t19.val < 16 := t19.isLt.trans_eq trips19
  have ht3 : t18.val < 2 := t18.isLt.trans_eq trips18
  have hK := H.k
  have hKlo := H.lo
  obtain ⟨ha, hb⟩ := tb ((K - (2 - t18.val)) * 16 + t19.val) (by omega)
  unfold k0_t19_body
  simp only [bind_assoc, Prog.bind_lift, Prog.bind_ret, Prog.pure_eq_ret]
  unfold OutFly
  iintro ⟨HT, Ho, HW⟩
  iapply (wp_word c (off144_eq H t18 t19)) $$ HT
  iintro HT
  iapply (wp_check c (chk15_ok H ha hb t18 t19))
  by_cases hx15 : k0_cond15 (cellN c f8 ((K - (2 - t18.val)) * 16 + t19.val)) = 1#1
  · rw [dif_pos hx15]
    try simp only [bind_assoc, Prog.bind_lift, Prog.bind_ret, Prog.pure_eq_ret]
    iapply (wp_oWait c Gp (s := (K - (2 - t18.val))) (u := 2 * t19.val) (by omega) (by have := en_even (T := cellN c f8) (n := (K - (2 - t18.val)) * 16 + t19.val); rw [show 32 * ((K - (2 - t18.val))) + (2 * t19.val) = 2 * ((K - (2 - t18.val)) * 16 + t19.val) by omega]; exact this.2 ((cond15_iff _).1 hx15)) (oSem_eq _ (by rw [off145_eq H t18, hr])) (outRow_eq _ (off146_eq (cellN c f8 ((K - (2 - t18.val)) * 16 + t19.val))) ha)) $$ [Ho HW]
    · isplitl [Ho]; · iexact Ho
      iexact HW
    iintro ⟨Ho, HW⟩
    by_cases hx16 : k0_cond16 (cellN c f8 ((K - (2 - t18.val)) * 16 + t19.val)) = 1#1
    · rw [dif_pos hx16]
      try simp only [bind_assoc, Prog.bind_lift, Prog.bind_ret, Prog.pure_eq_ret]
      iapply (wp_oWait c Gp (s := (K - (2 - t18.val))) (u := 2 * t19.val + 1) (by omega) (by have := en_odd (T := cellN c f8) (n := (K - (2 - t18.val)) * 16 + t19.val); rw [show 32 * ((K - (2 - t18.val))) + (2 * t19.val + 1) = 2 * ((K - (2 - t18.val)) * 16 + t19.val) + 1 by omega]; exact this.2 ((cond16_iff _).1 hx16)) (oSem_eq _ (by rw [off148_eq H t18, hr])) (outRow_eq _ (off149_eq (cellN c f8 ((K - (2 - t18.val)) * 16 + t19.val))) hb)) $$ [Ho HW]
      · isplitl [Ho]; · iexact Ho
        iexact HW
      iintro ⟨Ho, HW⟩
      iapply (le_wp_ret _ _)
      isplitl [HT]; · iexact HT
      isplitl [Ho]; · iexact Ho
      iexact HW
    · rw [dif_neg hx16]
      try simp only [bind_assoc, Prog.bind_lift, Prog.bind_ret, Prog.pure_eq_ret]
      ihave Ho := (Entails.of_eq (oFly_skip c Gp (r := r) (s := (K - (2 - t18.val))) (u := 2 * t19.val + 1) (by have := en_odd (T := cellN c f8) (n := (K - (2 - t18.val)) * 16 + t19.val); rw [show 32 * ((K - (2 - t18.val))) + (2 * t19.val + 1) = 2 * ((K - (2 - t18.val)) * 16 + t19.val) + 1 by omega]; exact fun e => hx16 ((cond16_iff _).2 (this.1 e))))) $$ Ho
      iapply (le_wp_ret _ _)
      isplitl [HT]; · iexact HT
      isplitl [Ho]; · iexact Ho
      iexact HW
  · rw [dif_neg hx15]
    try simp only [bind_assoc, Prog.bind_lift, Prog.bind_ret, Prog.pure_eq_ret]
    ihave Ho := (Entails.of_eq (oFly_skip c Gp (r := r) (s := (K - (2 - t18.val))) (u := 2 * t19.val) (by have := en_even (T := cellN c f8) (n := (K - (2 - t18.val)) * 16 + t19.val); rw [show 32 * ((K - (2 - t18.val))) + (2 * t19.val) = 2 * ((K - (2 - t18.val)) * 16 + t19.val) by omega]; exact fun e => hx15 ((cond15_iff _).2 (this.1 e))))) $$ Ho
    by_cases hx16 : k0_cond16 (cellN c f8 ((K - (2 - t18.val)) * 16 + t19.val)) = 1#1
    · rw [dif_pos hx16]
      try simp only [bind_assoc, Prog.bind_lift, Prog.bind_ret, Prog.pure_eq_ret]
      iapply (wp_oWait c Gp (s := (K - (2 - t18.val))) (u := 2 * t19.val + 1) (by omega) (by have := en_odd (T := cellN c f8) (n := (K - (2 - t18.val)) * 16 + t19.val); rw [show 32 * ((K - (2 - t18.val))) + (2 * t19.val + 1) = 2 * ((K - (2 - t18.val)) * 16 + t19.val) + 1 by omega]; exact this.2 ((cond16_iff _).1 hx16)) (oSem_eq _ (by rw [off148_eq H t18, hr])) (outRow_eq _ (off149_eq (cellN c f8 ((K - (2 - t18.val)) * 16 + t19.val))) hb)) $$ [Ho HW]
      · isplitl [Ho]; · iexact Ho
        iexact HW
      iintro ⟨Ho, HW⟩
      iapply (le_wp_ret _ _)
      isplitl [HT]; · iexact HT
      isplitl [Ho]; · iexact Ho
      iexact HW
    · rw [dif_neg hx16]
      try simp only [bind_assoc, Prog.bind_lift, Prog.bind_ret, Prog.pure_eq_ret]
      ihave Ho := (Entails.of_eq (oFly_skip c Gp (r := r) (s := (K - (2 - t18.val))) (u := 2 * t19.val + 1) (by have := en_odd (T := cellN c f8) (n := (K - (2 - t18.val)) * 16 + t19.val); rw [show 32 * ((K - (2 - t18.val))) + (2 * t19.val + 1) = 2 * ((K - (2 - t18.val)) * 16 + t19.val) + 1 by omega]; exact fun e => hx16 ((cond16_iff _).2 (this.1 e))))) $$ Ho
      iapply (le_wp_ret _ _)
      isplitl [HT]; · iexact HT
      isplitl [Ho]; · iexact Ho
      iexact HW

end Cert.KernelIdeal.Hand

end
-- ==== Proof.Compute.lean ====
/-
  One slot's computation: it loads the two halves' cache tiles and query blocks and the prepared
  rows, and leaves the two output slots holding the slot's two blocks.
-/
module

public import proofs.«01_k».proof.Proof.Flow
public import proofs.«01_k».proof.Proof.Outs

@[expose] public section

noncomputable section

namespace Cert.KernelIdeal.Hand

open Cert.KernelIdeal Cert.KernelIdeal.Gen Cert.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords)

/-- Two members of a family taken out and put back. -/
theorem two_of {n : ℕ} (Φ : Fin n → sProp 𝕄) {a b : Fin n} (h : a ≠ b) :
    BI.bigSep Finset.univ Φ = iprop(Φ a ∗ Φ b ∗ BI.bigSep ((Finset.univ.erase a).erase b) Φ) := by
  have hb : b ∈ Finset.univ.erase a := Finset.mem_erase.2 ⟨h.symm, Finset.mem_univ _⟩
  conv => lhs; rw [← Finset.insert_erase (Finset.mem_univ a), BI.bigSep_insert (Finset.notMem_erase a _), ← Finset.insert_erase hb, BI.bigSep_insert (Finset.notMem_erase b _)]
  rfl

section
variable
  (kvt : Buf (Elt F) ((c : Thread nD τ).loc main_v0)) (x3 : Buf (Elt F) ((c : Thread nD τ).loc main_v1))
  (f8 : Buf (Elt F) ((c : Thread nD τ).loc cc0_scratch8)) (fl : Buf (Elt F) ((c : Thread nD τ).loc main_arg5))
  (f12 : Buf (Elt F) ((c : Thread nD τ).loc cc0_scratch4)) (f13 : Buf (Elt F) ((c : Thread nD τ).loc cc0_scratch5))
  (f14 : Buf (Elt F) ((c : Thread nD τ).loc cc0_scratch6)) (io : IVec S16x128 32) (q : PosShare TreeShare)

/-- The prepared buffers a slot's computation reads. -/
def Prepared : sProp 𝕄 :=
  iprop(((c : Thread nD τ).loc cc0_scratch4 ↦{fullShare} f12) ∗ ((c : Thread nD τ).loc cc0_scratch5 ↦{fullShare} f13)
    ∗ ((c : Thread nD τ).loc cc0_scratch6 ↦{fullShare} f14))

variable {v0 v1 : BitVec 32} {N K : ℕ} (H : Built' v0 v1 N K)

include H in
theorem part5_wp (hw3 : k0_chk3 v0 v1) (t6 : Fin (k0_t6_loop v0 v1).trips) (t9 : Fin k0_t9_loop.trips) (σ : ℕ) (hσ : σ = t6.val * 16 + t9.val) {α : Type} {Q : α → sProp 𝕄}
    (hw7 : k0_chk7 (cellN c f8 σ)) (a21 v160 z0 z1 : BitVec 32) (r : Fin 4) (hr : r.val = t6.val % 4) (ta tb : Fin 32) (hta : ta.val = 2 * t9.val + 0) (htb : tb.val = 2 * t9.val + 1)
    {k : (Σ' (arg23 : BitVec 32) (v178 : Elt F .i32) (k0_hw7 : k0_chk7 v178) (v179 : BitVec 32) (v181 : BitVec 32) (v183 : BitVec 1) (v186 : BitVec 32) (v190 : BitVec 32) (v197 : IVec S164x128 32) (v204 : IVec S164x128 32) (v210 : FVec F S16x512 .bf16), BitVec 32) → Prog (TpuEff nD τ sig (Elt F) Λ₀ .tc) α} :
    iprop(((c : Thread nD τ).loc cc0_scratch8 ↦{fullShare} f8) ∗ ((c : Thread nD τ).loc main_arg5 ↦{q} fl)
      ∗ owns (c : Thread nD τ) (kvSlot r ta) fullShare (kvVal c kvt (cellN c f8) (2 * σ)) ∗ owns (c : Thread nD τ) (kvSlot r tb) fullShare (kvVal c kvt (cellN c f8) (2 * σ + 1))
      ∗ owns (c : Thread nD τ) (xSlot r ta) fullShare (xVal c x3 (cellN c f8) (2 * σ)))
    ⊢ iprop((iprop(((c : Thread nD τ).loc cc0_scratch8 ↦{fullShare} f8) ∗ ((c : Thread nD τ).loc main_arg5 ↦{q} fl)
      ∗ owns (c : Thread nD τ) (kvSlot r ta) fullShare (kvVal c kvt (cellN c f8) (2 * σ)) ∗ owns (c : Thread nD τ) (kvSlot r tb) fullShare (kvVal c kvt (cellN c f8) (2 * σ + 1))
      ∗ owns (c : Thread nD τ) (xSlot r ta) fullShare (xVal c x3 (cellN c f8) (2 * σ)))
      -∗ wp frame (wpE (defs₀ (F := F)) Variants.none (c : Thread nD τ) none) Set.univ (k ⟨Scf.iv z0 z1 t9, cellN c f8 σ, hw7, (slotIn c kvt x3 f8 fl f12 f13 f14 io σ).d179, (slotIn c kvt x3 f8 fl f12 f13 f14 io σ).d181, (slotIn c kvt x3 f8 fl f12 f13 f14 io σ).d183, (slotIn c kvt x3 f8 fl f12 f13 f14 io σ).d186, (slotIn c kvt x3 f8 fl f12 f13 f14 io σ).d190, (slotIn c kvt x3 f8 fl f12 f13 f14 io σ).d197, (slotIn c kvt x3 f8 fl f12 f13 f14 io σ).d204, (slotIn c kvt x3 f8 fl f12 f13 f14 io σ).d210, Scalar.muli 2#32 (Scf.iv z0 z1 t9)⟩) (Q))
      -∗ wp frame (wpE (defs₀ (F := F)) Variants.none (c : Thread nD τ) none) Set.univ (k0_part5 (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t6 a21 v160 z0 z1 t9 >>= k) (Q)) := by
  subst hσ
  rw [k0_part5_eq_skeleton]
  unfold k0_part5_skel
  simp only [bind_assoc, Prog.bind_lift, Prog.bind_ret, Prog.bind_op, Prog.pure_eq_ret]
  simp only [SlotIn.d179, SlotIn.d181, SlotIn.d183, SlotIn.d186, SlotIn.d190, SlotIn.d197, SlotIn.d204, SlotIn.d210, slotIn]
  iintro ⟨HT, HL, Ha, Hb, Hx⟩ Hk
  iapply (wp_word c (off51_eq H t6 t9)) $$ HT
  iintro HT
  iapply (wp_check c hw7)
  iapply (wp_len c (off52_eq _)) $$ HL
  iintro HL
  iapply (wp_len c (off53_eq _)) $$ HL
  iintro HL
  iapply (wp_loadKv c (r := r) (t := ta) (by rw [show (0#32 : BitVec 32) = nat 0 from rfl, off54_eq H t6 t9 0 (by omega), hr, hta])) $$ Ha
  iintro Ha
  iapply (wp_loadKv c (r := r) (t := tb) (by rw [show (1#32 : BitVec 32) = nat 1 from rfl, off54_eq H t6 t9 1 (by omega), hr, htb])) $$ Hb
  iintro Hb
  iapply (wp_loadX c (r := r) (t := ta) (by rw [show (0#32 : BitVec 32) = nat 0 from rfl, off55_eq H t6 t9 0 (by omega), hr, hta])) $$ Hx
  iintro Hx
  iapply Hk
  isplitl [HT]; · iexact HT
  isplitl [HL]; · iexact HL
  isplitl [Ha]; · iexact Ha
  isplitl [Hb]; · iexact Hb
  iexact Hx

include H in
theorem part6_wp (hw3 : k0_chk3 v0 v1) (t6 : Fin (k0_t6_loop v0 v1).trips) (t9 : Fin k0_t9_loop.trips) (σ : ℕ) {α : Type} {Q : α → sProp 𝕄}
    (hw7 : k0_chk7 (cellN c f8 σ)) (ha : wa (cellN c f8 σ) < 2600) (v160 v211 : BitVec 32) (r : Fin 4) (hr : r.val = t6.val % 4) (tb : Fin 32) (htb : tb.val = 2 * t9.val + 1)
    {k : (Σ' (v216 : FVec F S16x512 .bf16) (v221 : FVec F S16x128 .f32), FVec F S16x128 .f32) → Prog (TpuEff nD τ sig (Elt F) Λ₀ .tc) α} :
    iprop(Prepared c f12 f13 f14 ∗ owns (c : Thread nD τ) (xSlot r tb) fullShare (xVal c x3 (cellN c f8) (2 * σ + 1)))
    ⊢ iprop((iprop(Prepared c f12 f13 f14 ∗ owns (c : Thread nD τ) (xSlot r tb) fullShare (xVal c x3 (cellN c f8) (2 * σ + 1)))
      -∗ wp frame (wpE (defs₀ (F := F)) Variants.none (c : Thread nD τ) none) Set.univ (k ⟨(slotIn c kvt x3 f8 fl f12 f13 f14 io σ).d216, (slotIn c kvt x3 f8 fl f12 f13 f14 io σ).d221, (slotIn c kvt x3 f8 fl f12 f13 f14 io σ).d257⟩) (Q))
      -∗ wp frame (wpE (defs₀ (F := F)) Variants.none (c : Thread nD τ) none) Set.univ (k0_part6 (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t6 v160 t9 (cellN c f8 σ) hw7 ((slotIn c kvt x3 f8 fl f12 f13 f14 io σ).d179) ((slotIn c kvt x3 f8 fl f12 f13 f14 io σ).d210) v211 >>= k) (Q)) := by
  rw [k0_part6_eq_skeleton]
  unfold k0_part6_skel
  simp only [bind_assoc, Prog.bind_lift, Prog.bind_ret, Prog.bind_op, Prog.pure_eq_ret]
  unfold Prepared
  iintro ⟨⟨H12, H13, H14⟩, Hx⟩ Hk
  iapply (wp_loadX c (r := r) (t := tb) (by rw [show (1#32 : BitVec 32) = nat 1 from rfl, off55_eq H t6 t9 1 (by omega), hr, htb])) $$ Hx
  iintro Hx
  iapply (wp_loadQ c (off56_eq _) ha) $$ H12
  iintro H12
  iapply (wp_loadKr c (off57_eq _) ha) $$ H13
  iintro H13
  iapply (wp_loadKvn c (j := 0) (off58_eq _) ha) $$ H14
  iintro H14
  iapply (wp_loadKvn c (j := 1) (off59_eq _) ha) $$ H14
  iintro H14
  iapply (wp_loadKvn c (j := 2) (off60_eq _) ha) $$ H14
  iintro H14
  iapply (wp_loadKvn c (j := 3) (off61_eq _) ha) $$ H14
  iintro H14
  iapply Hk
  isplitl [H12 H13 H14]
  · isplitl [H12]; · iexact H12
    isplitl [H13]; · iexact H13
    iexact H14
  iexact Hx

theorem part7_wp (σ : ℕ) {α : Type} {Q : α → sProp 𝕄}
    (hw7 : k0_chk7 (cellN c f8 σ)) (hb : wb (cellN c f8 σ) < 2600)
    {k : (Σ' (v259 : FVec F S16x64 .bf16) (v263 : FVec F S16x1 .f32) (v268 : FVec F S16x128 .f32), FVec F S16x128 .f32) → Prog (TpuEff nD τ sig (Elt F) Λ₀ .tc) α} :
    Prepared c f12 f13 f14
    ⊢ iprop((Prepared c f12 f13 f14
      -∗ wp frame (wpE (defs₀ (F := F)) Variants.none (c : Thread nD τ) none) Set.univ (k ⟨(slotIn c kvt x3 f8 fl f12 f13 f14 io σ).d259, (slotIn c kvt x3 f8 fl f12 f13 f14 io σ).d263, (slotIn c kvt x3 f8 fl f12 f13 f14 io σ).d268, (slotIn c kvt x3 f8 fl f12 f13 f14 io σ).d304⟩) (Q))
      -∗ wp frame (wpE (defs₀ (F := F)) Variants.none (c : Thread nD τ) none) Set.univ (k0_part7 (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (cellN c f8 σ) hw7 ((slotIn c kvt x3 f8 fl f12 f13 f14 io σ).d181) ((slotIn c kvt x3 f8 fl f12 f13 f14 io σ).d216) ((slotIn c kvt x3 f8 fl f12 f13 f14 io σ).d221) ((slotIn c kvt x3 f8 fl f12 f13 f14 io σ).d257) >>= k) (Q)) := by
  rw [k0_part7_eq_skeleton]
  unfold k0_part7_skel
  simp only [bind_assoc, Prog.bind_lift, Prog.bind_ret, Prog.bind_op, Prog.pure_eq_ret]
  unfold Prepared
  iintro ⟨H12, H13, H14⟩ Hk
  iapply (wp_loadQ c (off62_eq _) hb) $$ H12
  iintro H12
  iapply (wp_loadKr c (off63_eq _) hb) $$ H13
  iintro H13
  iapply (wp_loadKvn c (j := 0) (off64_eq _) hb) $$ H14
  iintro H14
  iapply (wp_loadKvn c (j := 1) (off65_eq _) hb) $$ H14
  iintro H14
  iapply (wp_loadKvn c (j := 2) (off66_eq _) hb) $$ H14
  iintro H14
  iapply (wp_loadKvn c (j := 3) (off67_eq _) hb) $$ H14
  iintro H14
  iapply Hk
  isplitl [H12]; · iexact H12
  isplitl [H13]; · iexact H13
  iexact H14

theorem part8_eq (σ : ℕ) {α : Type} (k : _ → Prog (TpuEff nD τ sig (Elt F) Λ₀ .tc) α) :
    (k0_part8 (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ((slotIn c kvt x3 f8 fl f12 f13 f14 io σ).d197) ((slotIn c kvt x3 f8 fl f12 f13 f14 io σ).d204) ((slotIn c kvt x3 f8 fl f12 f13 f14 io σ).d210) ((slotIn c kvt x3 f8 fl f12 f13 f14 io σ).d216) ((slotIn c kvt x3 f8 fl f12 f13 f14 io σ).d259) ((slotIn c kvt x3 f8 fl f12 f13 f14 io σ).d268) ((slotIn c kvt x3 f8 fl f12 f13 f14 io σ).d304) >>= k) = k ⟨(slotIn c kvt x3 f8 fl f12 f13 f14 io σ).d310, (slotIn c kvt x3 f8 fl f12 f13 f14 io σ).d317, (slotIn c kvt x3 f8 fl f12 f13 f14 io σ).d326, (slotIn c kvt x3 f8 fl f12 f13 f14 io σ).d335, (slotIn c kvt x3 f8 fl f12 f13 f14 io σ).d344, (slotIn c kvt x3 f8 fl f12 f13 f14 io σ).d353, (slotIn c kvt x3 f8 fl f12 f13 f14 io σ).d354, (slotIn c kvt x3 f8 fl f12 f13 f14 io σ).d355, (slotIn c kvt x3 f8 fl f12 f13 f14 io σ).d357⟩ := by
  rw [k0_part8_eq_skeleton]; rfl

theorem part9_eq (σ : ℕ) {α : Type} (k : _ → Prog (TpuEff nD τ sig (Elt F) Λ₀ .tc) α) :
    (k0_part9 (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 io ((slotIn c kvt x3 f8 fl f12 f13 f14 io σ).d186) ((slotIn c kvt x3 f8 fl f12 f13 f14 io σ).d197) ((slotIn c kvt x3 f8 fl f12 f13 f14 io σ).d204) ((slotIn c kvt x3 f8 fl f12 f13 f14 io σ).d317) ((slotIn c kvt x3 f8 fl f12 f13 f14 io σ).d326) ((slotIn c kvt x3 f8 fl f12 f13 f14 io σ).d335) ((slotIn c kvt x3 f8 fl f12 f13 f14 io σ).d344) ((slotIn c kvt x3 f8 fl f12 f13 f14 io σ).d353) ((slotIn c kvt x3 f8 fl f12 f13 f14 io σ).d354) ((slotIn c kvt x3 f8 fl f12 f13 f14 io σ).d355) ((slotIn c kvt x3 f8 fl f12 f13 f14 io σ).d357) >>= k) = k ⟨(slotIn c kvt x3 f8 fl f12 f13 f14 io σ).d396, (slotIn c kvt x3 f8 fl f12 f13 f14 io σ).d415⟩ := by
  rw [k0_part9_eq_skeleton]; rfl

theorem part10_eq (σ : ℕ) {α : Type} (k : _ → Prog (TpuEff nD τ sig (Elt F) Λ₀ .tc) α) :
    (k0_part10 (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 io ((slotIn c kvt x3 f8 fl f12 f13 f14 io σ).d183) ((slotIn c kvt x3 f8 fl f12 f13 f14 io σ).d190) ((slotIn c kvt x3 f8 fl f12 f13 f14 io σ).d204) ((slotIn c kvt x3 f8 fl f12 f13 f14 io σ).d263) ((slotIn c kvt x3 f8 fl f12 f13 f14 io σ).d310) ((slotIn c kvt x3 f8 fl f12 f13 f14 io σ).d344) ((slotIn c kvt x3 f8 fl f12 f13 f14 io σ).d353) ((slotIn c kvt x3 f8 fl f12 f13 f14 io σ).d396) ((slotIn c kvt x3 f8 fl f12 f13 f14 io σ).d415) >>= k) = k ⟨(slotIn c kvt x3 f8 fl f12 f13 f14 io σ).d453, (slotIn c kvt x3 f8 fl f12 f13 f14 io σ).d456, (slotIn c kvt x3 f8 fl f12 f13 f14 io σ).d458, (slotIn c kvt x3 f8 fl f12 f13 f14 io σ).d460, (slotIn c kvt x3 f8 fl f12 f13 f14 io σ).d466, (slotIn c kvt x3 f8 fl f12 f13 f14 io σ).d467, (slotIn c kvt x3 f8 fl f12 f13 f14 io σ).d468⟩ := by
  rw [k0_part10_eq_skeleton]; rfl

theorem part11_eq (σ : ℕ) {α : Type} (k : _ → Prog (TpuEff nD τ sig (Elt F) Λ₀ .tc) α) :
    (k0_part11 (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ((slotIn c kvt x3 f8 fl f12 f13 f14 io σ).d183) ((slotIn c kvt x3 f8 fl f12 f13 f14 io σ).d197) ((slotIn c kvt x3 f8 fl f12 f13 f14 io σ).d204) ((slotIn c kvt x3 f8 fl f12 f13 f14 io σ).d453) ((slotIn c kvt x3 f8 fl f12 f13 f14 io σ).d456) ((slotIn c kvt x3 f8 fl f12 f13 f14 io σ).d458) ((slotIn c kvt x3 f8 fl f12 f13 f14 io σ).d460) ((slotIn c kvt x3 f8 fl f12 f13 f14 io σ).d466) ((slotIn c kvt x3 f8 fl f12 f13 f14 io σ).d467) ((slotIn c kvt x3 f8 fl f12 f13 f14 io σ).d468) >>= k) = k ⟨(slotIn c kvt x3 f8 fl f12 f13 f14 io σ).d476, (slotIn c kvt x3 f8 fl f12 f13 f14 io σ).d479, (slotIn c kvt x3 f8 fl f12 f13 f14 io σ).d482, (slotIn c kvt x3 f8 fl f12 f13 f14 io σ).d485, (k0_pay56 (F := F)), (slotIn c kvt x3 f8 fl f12 f13 f14 io σ).d487, (slotIn c kvt x3 f8 fl f12 f13 f14 io σ).d514, (slotIn c kvt x3 f8 fl f12 f13 f14 io σ).d520, (slotIn c kvt x3 f8 fl f12 f13 f14 io σ).d524⟩ := by
  rw [k0_part11_eq_skeleton]; rfl

theorem part12_eq (σ : ℕ) {α : Type} (k : _ → Prog (TpuEff nD τ sig (Elt F) Λ₀ .tc) α) :
    (k0_part12 (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ((slotIn c kvt x3 f8 fl f12 f13 f14 io σ).d197) ((slotIn c kvt x3 f8 fl f12 f13 f14 io σ).d204) ((slotIn c kvt x3 f8 fl f12 f13 f14 io σ).d476) ((slotIn c kvt x3 f8 fl f12 f13 f14 io σ).d479) ((k0_pay56 (F := F))) ((slotIn c kvt x3 f8 fl f12 f13 f14 io σ).d487) ((slotIn c kvt x3 f8 fl f12 f13 f14 io σ).d520) ((slotIn c kvt x3 f8 fl f12 f13 f14 io σ).d524) >>= k) = k ⟨(slotIn c kvt x3 f8 fl f12 f13 f14 io σ).d541, (slotIn c kvt x3 f8 fl f12 f13 f14 io σ).d568, (slotIn c kvt x3 f8 fl f12 f13 f14 io σ).d581, (slotIn c kvt x3 f8 fl f12 f13 f14 io σ).d582⟩ := by
  rw [k0_part12_eq_skeleton]; rfl

include H in
theorem part13_wp (hw3 : k0_chk3 v0 v1) (t6 : Fin (k0_t6_loop v0 v1).trips) (t9 : Fin k0_t9_loop.trips) (σ : ℕ) {α : Type} {Q : α → sProp 𝕄}
    (hw7 : k0_chk7 (cellN c f8 σ)) (ha : wa (cellN c f8 σ) < 2600) (hb : wb (cellN c f8 σ) < 2600) (v161 v713 a23 : BitVec 32) (r : Fin 2) (hr : r.val = t6.val % 2) (t : Fin 32) (ht : t.val = 2 * t9.val + 0)
    (d : S16x512.Idx → Elt F .bf16)
    {k : (Σ' (v595 : FVec F S32x128 .f32) (v607 : FVec F S1x128 .f32) (v611 : FVec F S1x128 .f32) (v625 : FVec F S16x128 .f32), FVec F S16x128 .f32) → Prog (TpuEff nD τ sig (Elt F) Λ₀ .tc) α} :
    iprop(Prepared c f12 f13 f14 ∗ owns (c : Thread nD τ) (oSlot r t) fullShare d)
    ⊢ iprop((iprop(Prepared c f12 f13 f14 ∗ owns (c : Thread nD τ) (oSlot r t) fullShare (putCol d 0 (slotIn c kvt x3 f8 fl f12 f13 f14 io σ).blkA0))
      -∗ wp frame (wpE (defs₀ (F := F)) Variants.none (c : Thread nD τ) none) Set.univ (k ⟨(slotIn c kvt x3 f8 fl f12 f13 f14 io σ).d595, (slotIn c kvt x3 f8 fl f12 f13 f14 io σ).d607, (slotIn c kvt x3 f8 fl f12 f13 f14 io σ).d611, (slotIn c kvt x3 f8 fl f12 f13 f14 io σ).d625, (slotIn c kvt x3 f8 fl f12 f13 f14 io σ).d628⟩) (Q))
      -∗ wp frame (wpE (defs₀ (F := F)) Variants.none (c : Thread nD τ) none) Set.univ (k0_part13 (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t6 v161 t9 a23 (cellN c f8 σ) hw7 ((slotIn c kvt x3 f8 fl f12 f13 f14 io σ).d179) ((slotIn c kvt x3 f8 fl f12 f13 f14 io σ).d197) ((slotIn c kvt x3 f8 fl f12 f13 f14 io σ).d204) ((slotIn c kvt x3 f8 fl f12 f13 f14 io σ).d479) ((slotIn c kvt x3 f8 fl f12 f13 f14 io σ).d482) ((k0_pay56 (F := F))) ((slotIn c kvt x3 f8 fl f12 f13 f14 io σ).d514) ((slotIn c kvt x3 f8 fl f12 f13 f14 io σ).d541) ((slotIn c kvt x3 f8 fl f12 f13 f14 io σ).d581) ((slotIn c kvt x3 f8 fl f12 f13 f14 io σ).d582) >>= k) (Q)) := by
  rw [k0_part13_eq_skeleton]
  unfold k0_part13_skel
  simp only [bind_assoc, Prog.bind_lift, Prog.bind_ret, Prog.bind_op, Prog.pure_eq_ret]
  unfold Prepared
  iintro ⟨⟨H12, H13, H14⟩, Ho⟩ Hk
  iapply (wp_loadKvn c (j := 0) (off58_eq _) ha) $$ H14
  iintro H14
  iapply (wp_loadKvn c (j := 1) (off59_eq _) ha) $$ H14
  iintro H14
  iapply (wp_loadKvn c (j := 2) (off60_eq _) ha) $$ H14
  iintro H14
  iapply (wp_loadKvn c (j := 3) (off61_eq _) ha) $$ H14
  iintro H14
  iapply (wp_loadCol c (r := r) (t := t) (o := 128 * 0) (by rw [show (0#32 : BitVec 32) = nat 0 from rfl, off68_eq H t6 t9 0 (by omega), hr, ht]) (fun _ => rfl)) $$ Ho
  iintro Ho
  iapply (wp_storeCol c (r := r) (t := t) (j := 0) (by rw [show (0#32 : BitVec 32) = nat 0 from rfl, off68_eq H t6 t9 0 (by omega), hr, ht]) (by omega)) $$ Ho
  iintro Ho
  iapply Hk
  isplitl [H12 H13 H14]
  · isplitl [H12]; · iexact H12
    isplitl [H13]; · iexact H13
    iexact H14
  iexact Ho

include H in
theorem part14_wp (hw3 : k0_chk3 v0 v1) (t6 : Fin (k0_t6_loop v0 v1).trips) (t9 : Fin k0_t9_loop.trips) (σ : ℕ) {α : Type} {Q : α → sProp 𝕄}
    (hw7 : k0_chk7 (cellN c f8 σ)) (ha : wa (cellN c f8 σ) < 2600) (hb : wb (cellN c f8 σ) < 2600) (v161 v713 a23 : BitVec 32) (r : Fin 2) (hr : r.val = t6.val % 2) (t : Fin 32) (ht : t.val = 2 * t9.val + 0)
    (d : S16x512.Idx → Elt F .bf16)
    {k : (Σ' (v667 : FVec F S1x128 .f32), Vec F S1x1x128 .bf16) → Prog (TpuEff nD τ sig (Elt F) Λ₀ .tc) α} :
    iprop(Prepared c f12 f13 f14 ∗ owns (c : Thread nD τ) (oSlot r t) fullShare (putCol d 0 (slotIn c kvt x3 f8 fl f12 f13 f14 io σ).blkA0))
    ⊢ iprop((iprop(Prepared c f12 f13 f14 ∗ owns (c : Thread nD τ) (oSlot r t) fullShare (putCol (putCol (putCol (putCol d 0 (slotIn c kvt x3 f8 fl f12 f13 f14 io σ).blkA0) 1 (slotIn c kvt x3 f8 fl f12 f13 f14 io σ).blkA1) 2 (slotIn c kvt x3 f8 fl f12 f13 f14 io σ).blkA2) 3 (slotIn c kvt x3 f8 fl f12 f13 f14 io σ).blkA3))
      -∗ wp frame (wpE (defs₀ (F := F)) Variants.none (c : Thread nD τ) none) Set.univ (k ⟨(slotIn c kvt x3 f8 fl f12 f13 f14 io σ).d667, (slotIn c kvt x3 f8 fl f12 f13 f14 io σ).nB 1⟩) (Q))
      -∗ wp frame (wpE (defs₀ (F := F)) Variants.none (c : Thread nD τ) none) Set.univ (k0_part14 (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t6 v161 t9 a23 (cellN c f8 σ) hw7 ((slotIn c kvt x3 f8 fl f12 f13 f14 io σ).d181) ((slotIn c kvt x3 f8 fl f12 f13 f14 io σ).d482) ((slotIn c kvt x3 f8 fl f12 f13 f14 io σ).d568) ((slotIn c kvt x3 f8 fl f12 f13 f14 io σ).d595) ((slotIn c kvt x3 f8 fl f12 f13 f14 io σ).d607) ((slotIn c kvt x3 f8 fl f12 f13 f14 io σ).d611) ((slotIn c kvt x3 f8 fl f12 f13 f14 io σ).d625) ((slotIn c kvt x3 f8 fl f12 f13 f14 io σ).d628) >>= k) (Q)) := by
  rw [k0_part14_eq_skeleton]
  unfold k0_part14_skel
  simp only [bind_assoc, Prog.bind_lift, Prog.bind_ret, Prog.bind_op, Prog.pure_eq_ret]
  unfold Prepared
  iintro ⟨⟨H12, H13, H14⟩, Ho⟩ Hk
  iapply (wp_loadCol c (r := r) (t := t) (o := 128 * 1) (by rw [show (0#32 : BitVec 32) = nat 0 from rfl, off69_eq H t6 t9 0 (by omega), hr, ht]) (fun _ => rfl)) $$ Ho
  iintro Ho
  iapply (wp_storeCol c (r := r) (t := t) (j := 1) (by rw [show (0#32 : BitVec 32) = nat 0 from rfl, off69_eq H t6 t9 0 (by omega), hr, ht]) (by omega)) $$ Ho
  iintro Ho
  iapply (wp_loadCol c (r := r) (t := t) (o := 128 * 2) (by rw [show (0#32 : BitVec 32) = nat 0 from rfl, off70_eq H t6 t9 0 (by omega), hr, ht]) (fun _ => rfl)) $$ Ho
  iintro Ho
  iapply (wp_storeCol c (r := r) (t := t) (j := 2) (by rw [show (0#32 : BitVec 32) = nat 0 from rfl, off70_eq H t6 t9 0 (by omega), hr, ht]) (by omega)) $$ Ho
  iintro Ho
  iapply (wp_loadCol c (r := r) (t := t) (o := 128 * 3) (by rw [show (0#32 : BitVec 32) = nat 0 from rfl, off71_eq H t6 t9 0 (by omega), hr, ht]) (fun _ => rfl)) $$ Ho
  iintro Ho
  iapply (wp_storeCol c (r := r) (t := t) (j := 3) (by rw [show (0#32 : BitVec 32) = nat 0 from rfl, off71_eq H t6 t9 0 (by omega), hr, ht]) (by omega)) $$ Ho
  iintro Ho
  iapply (wp_loadKvn c (j := 0) (off64_eq _) hb) $$ H14
  iintro H14
  iapply (wp_loadKvn c (j := 1) (off65_eq _) hb) $$ H14
  iintro H14
  iapply Hk
  isplitl [H12 H13 H14]
  · isplitl [H12]; · iexact H12
    isplitl [H13]; · iexact H13
    iexact H14
  iexact Ho

include H in
theorem part15_wp (hw3 : k0_chk3 v0 v1) (t6 : Fin (k0_t6_loop v0 v1).trips) (t9 : Fin k0_t9_loop.trips) (σ : ℕ) {α : Type} {Q : α → sProp 𝕄}
    (hw7 : k0_chk7 (cellN c f8 σ)) (ha : wa (cellN c f8 σ) < 2600) (hb : wb (cellN c f8 σ) < 2600) (v161 v713 a23 : BitVec 32) (r : Fin 2) (hr : r.val = t6.val % 2) (t : Fin 32) (ht : t.val = 2 * t9.val + 1)
    (d : S16x512.Idx → Elt F .bf16)
    {k : (Σ' (v679 : FVec F S1x128 .f32) (v711 : FVec F S16x128 .bf16), BitVec 32) → Prog (TpuEff nD τ sig (Elt F) Λ₀ .tc) α} :
    iprop(Prepared c f12 f13 f14 ∗ owns (c : Thread nD τ) (oSlot r t) fullShare d)
    ⊢ iprop((iprop(Prepared c f12 f13 f14 ∗ owns (c : Thread nD τ) (oSlot r t) fullShare (putCol (putCol d 0 (slotIn c kvt x3 f8 fl f12 f13 f14 io σ).blkB0) 1 (slotIn c kvt x3 f8 fl f12 f13 f14 io σ).blkB1))
      -∗ wp frame (wpE (defs₀ (F := F)) Variants.none (c : Thread nD τ) none) Set.univ (k ⟨(slotIn c kvt x3 f8 fl f12 f13 f14 io σ).d679, (slotIn c kvt x3 f8 fl f12 f13 f14 io σ).d711, Scalar.addi (Scalar.muli 2#32 a23) 1#32⟩) (Q))
      -∗ wp frame (wpE (defs₀ (F := F)) Variants.none (c : Thread nD τ) none) Set.univ (k0_part15 (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t6 v161 t9 a23 (cellN c f8 σ) hw7 ((slotIn c kvt x3 f8 fl f12 f13 f14 io σ).d181) ((slotIn c kvt x3 f8 fl f12 f13 f14 io σ).d485) ((slotIn c kvt x3 f8 fl f12 f13 f14 io σ).d514) ((slotIn c kvt x3 f8 fl f12 f13 f14 io σ).d541) ((slotIn c kvt x3 f8 fl f12 f13 f14 io σ).d568) ((slotIn c kvt x3 f8 fl f12 f13 f14 io σ).d667) ((slotIn c kvt x3 f8 fl f12 f13 f14 io σ).nB 1) >>= k) (Q)) := by
  rw [k0_part15_eq_skeleton]
  unfold k0_part15_skel
  simp only [bind_assoc, Prog.bind_lift, Prog.bind_ret, Prog.bind_op, Prog.pure_eq_ret]
  unfold Prepared
  iintro ⟨⟨H12, H13, H14⟩, Ho⟩ Hk
  iapply (wp_loadKvn c (j := 2) (off66_eq _) hb) $$ H14
  iintro H14
  iapply (wp_loadKvn c (j := 3) (off67_eq _) hb) $$ H14
  iintro H14
  iapply (wp_loadCol c (r := r) (t := t) (o := 128 * 0) (by rw [show (1#32 : BitVec 32) = nat 1 from rfl, off68_eq H t6 t9 1 (by omega), hr, ht]) (fun _ => rfl)) $$ Ho
  iintro Ho
  iapply (wp_storeCol c (r := r) (t := t) (j := 0) (by rw [show (1#32 : BitVec 32) = nat 1 from rfl, off68_eq H t6 t9 1 (by omega), hr, ht]) (by omega)) $$ Ho
  iintro Ho
  iapply (wp_loadCol c (r := r) (t := t) (o := 128 * 1) (by rw [show (1#32 : BitVec 32) = nat 1 from rfl, off69_eq H t6 t9 1 (by omega), hr, ht]) (fun _ => rfl)) $$ Ho
  iintro Ho
  iapply (wp_storeCol c (r := r) (t := t) (j := 1) (by rw [show (1#32 : BitVec 32) = nat 1 from rfl, off69_eq H t6 t9 1 (by omega), hr, ht]) (by omega)) $$ Ho
  iintro Ho
  iapply Hk
  isplitl [H12 H13 H14]
  · isplitl [H12]; · iexact H12
    isplitl [H13]; · iexact H13
    iexact H14
  iexact Ho

end

end Cert.KernelIdeal.Hand

end
-- ==== Proof.Slot.lean ====
/-
  The loop over the slots of a step: it fills the step's 32 output slots.
-/
module

public import proofs.«01_k».proof.Proof.Compute

@[expose] public section

noncomputable section

namespace Cert.KernelIdeal.Hand

open Cert.KernelIdeal Cert.KernelIdeal.Gen Cert.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords)

section
variable
  (kvt : Buf (Elt F) ((c : Thread nD τ).loc main_v0)) (x3 : Buf (Elt F) ((c : Thread nD τ).loc main_v1))
  (f8 : Buf (Elt F) ((c : Thread nD τ).loc cc0_scratch8)) (fl : Buf (Elt F) ((c : Thread nD τ).loc main_arg5))
  (f12 : Buf (Elt F) ((c : Thread nD τ).loc cc0_scratch4)) (f13 : Buf (Elt F) ((c : Thread nD τ).loc cc0_scratch5))
  (f14 : Buf (Elt F) ((c : Thread nD τ).loc cc0_scratch6)) (io : IVec S16x128 32) (q : PosShare TreeShare)

/-- A step's computation after the output slots below `n` are filled. -/
def Comp (r : Fin 4) (r' : Fin 2) (s n : ℕ) : sProp 𝕄 :=
  iprop(((c : Thread nD τ).loc cc0_scratch8 ↦{fullShare} f8) ∗ ((c : Thread nD τ).loc main_arg5 ↦{q} fl) ∗ Prepared c f12 f13 f14
    ∗ kvLand c kvt (cellN c f8) r s ∗ xLand c x3 (cellN c f8) r s
    ∗ BI.bigSep (Finset.univ.filter fun t : Fin 32 => t.val < n) (oHeld c (blockAt c kvt x3 f8 fl f12 f13 f14 io) r' s)
    ∗ BI.bigSep (Finset.univ.filter fun t : Fin 32 => n ≤ t.val) (oFree (F := F) c r'))

variable {v0 v1 : BitVec 32} {N K : ℕ} (H : Built' v0 v1 N K)

include H in
theorem t9_step (tb : RowsOK c f8 K) (hw3 : k0_chk3 v0 v1) (t6 : Fin (k0_t6_loop v0 v1).trips) (a21 v160 v161 : BitVec 32)
    (r : Fin 4) (hr : r.val = t6.val % 4) (r' : Fin 2) (hr' : r'.val = t6.val % 2) (t9 : Fin k0_t9_loop.trips) (u : BitVec 32) :
    Comp c kvt x3 f8 fl f12 f13 f14 io q r r' t6.val (2 * t9.val) ⊢ wp frame (wpE (defs₀ (F := F)) Variants.none (c : Thread nD τ) none) Set.univ (k0_t9_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 io t6 a21 v160 v161 t9 u) (fun _ => Comp c kvt x3 f8 fl f12 f13 f14 io q r r' t6.val (2 * (t9.val + 1))) := by
  have h9 : t9.val < 16 := t9.isLt.trans_eq trips9
  have h6 : t6.val < K := t6.isLt.trans_eq (trips6 H)
  have hK := H.k
  have hKlo := H.lo
  obtain ⟨ha, hb⟩ := tb (t6.val * 16 + t9.val) (by omega)
  have hw7 := chk7_ok ha hb
  have l0 : 2 * t9.val < 32 := by omega
  have l1 : 2 * t9.val + 1 < 32 := by omega
  have e0 : 32 * t6.val + 2 * t9.val = 2 * (t6.val * 16 + t9.val) := by omega
  have e1 : 32 * t6.val + (2 * t9.val + 1) = 2 * (t6.val * 16 + t9.val) + 1 := by omega
  unfold k0_t9_body
  simp only [bind_assoc, Prog.bind_lift, Prog.bind_ret, Prog.bind_op, Prog.pure_eq_ret]
  unfold Comp kvLand xLand
  rw [two_of _ (a := (⟨2 * t9.val, by omega⟩ : Fin 32)) (b := ⟨2 * t9.val + 1, by omega⟩) (by simp [Fin.ext_iff]),
    two_of (xGot c x3 (cellN c f8) r t6.val) (a := (⟨2 * t9.val, by omega⟩ : Fin 32)) (b := ⟨2 * t9.val + 1, by omega⟩) (by simp [Fin.ext_iff]),
    from_split (oFree (F := F) c r') (j := 2 * t9.val) (by omega), from_split (oFree (F := F) c r') (j := 2 * t9.val + 1) (by omega),
    show 2 * (t9.val + 1) = (2 * t9.val + 1) + 1 by omega,
    upto_split (oHeld c (blockAt c kvt x3 f8 fl f12 f13 f14 io) r' t6.val) (j := 2 * t9.val + 1) (by omega), upto_split (oHeld c (blockAt c kvt x3 f8 fl f12 f13 f14 io) r' t6.val) (j := 2 * t9.val) (by omega)]
  unfold kvGot xGot oHeld oFree
  simp only [e0, e1, blockAt_even, blockAt_odd]
  iintro ⟨HT, HL, HP, ⟨Hks, ⟨Hka, Hkal⟩, ⟨Hkb, Hkbl⟩, Hkr⟩, ⟨Hxs, ⟨Hxa, Hxal⟩, ⟨Hxb, Hxbl⟩, Hxr⟩, Hheld, ⟨%da, Ha⟩, ⟨%db, Hb⟩, Hfree⟩
  iapply (part5_wp c i kvt x3 f8 fl f12 f13 f14 io q H hw3 t6 t9 _ rfl hw7 _ _ _ _ r hr ⟨2 * t9.val, by omega⟩ ⟨2 * t9.val + 1, by omega⟩ rfl rfl) $$ [HT HL Hka Hkb Hxa]
  · isplitl [HT]; · iexact HT
    isplitl [HL]; · iexact HL
    isplitl [Hka]; · iexact Hka
    isplitl [Hkb]; · iexact Hkb
    iexact Hxa
  iintro ⟨HT, HL, Hka, Hkb, Hxa⟩
  dsimp only
  iapply (part6_wp c i kvt x3 f8 fl f12 f13 f14 io H hw3 t6 t9 _ hw7 ha _ _ r hr ⟨2 * t9.val + 1, by omega⟩ rfl) $$ [HP Hxb]
  · isplitl [HP]; · iexact HP
    iexact Hxb
  iintro ⟨HP, Hxb⟩
  dsimp only
  iapply (part7_wp c i kvt x3 f8 fl f12 f13 f14 io _ hw7 hb) $$ HP
  iintro HP
  dsimp only
  rw [part8_eq c i kvt x3 f8 fl f12 f13 f14 io]
  dsimp only
  rw [part9_eq c i kvt x3 f8 fl f12 f13 f14 io]
  dsimp only
  rw [part10_eq c i kvt x3 f8 fl f12 f13 f14 io]
  dsimp only
  rw [part11_eq c i kvt x3 f8 fl f12 f13 f14 io]
  dsimp only
  rw [part12_eq c i kvt x3 f8 fl f12 f13 f14 io]
  dsimp only
  iapply (part13_wp c i kvt x3 f8 fl f12 f13 f14 io H hw3 t6 t9 _ hw7 ha hb _ 0#32 _ r' hr' ⟨2 * t9.val, by omega⟩ rfl da) $$ [HP Ha]
  · isplitl [HP]; · iexact HP
    iexact Ha
  iintro ⟨HP, Ha⟩
  dsimp only
  iapply (part14_wp c i kvt x3 f8 fl f12 f13 f14 io H hw3 t6 t9 _ hw7 ha hb _ 0#32 _ r' hr' ⟨2 * t9.val, by omega⟩ rfl da) $$ [HP Ha]
  · isplitl [HP]; · iexact HP
    iexact Ha
  iintro ⟨HP, Ha⟩
  dsimp only
  iapply (part15_wp c i kvt x3 f8 fl f12 f13 f14 io H hw3 t6 t9 _ hw7 ha hb _ 0#32 _ r' hr' ⟨2 * t9.val + 1, by omega⟩ rfl db) $$ [HP Hb]
  · isplitl [HP]; · iexact HP
    iexact Hb
  iintro ⟨HP, Hb⟩
  dsimp only
  iapply (wp_loadCol c (r := r') (t := ⟨2 * t9.val + 1, l1⟩) (o := 128 * 2) (by rw [show (1#32 : BitVec 32) = nat 1 from rfl, off70_eq H t6 t9 1 (by omega), hr']) (fun _ => rfl)) $$ Hb
  iintro Hb
  iapply (wp_storeCol c (r := r') (t := ⟨2 * t9.val + 1, l1⟩) (j := 2) (by rw [show (1#32 : BitVec 32) = nat 1 from rfl, off70_eq H t6 t9 1 (by omega), hr']) (by omega)) $$ Hb
  iintro Hb
  iapply (wp_loadCol c (r := r') (t := ⟨2 * t9.val + 1, l1⟩) (o := 128 * 3) (by rw [show (1#32 : BitVec 32) = nat 1 from rfl, off71_eq H t6 t9 1 (by omega), hr']) (fun _ => rfl)) $$ Hb
  iintro Hb
  iapply (wp_storeCol c (r := r') (t := ⟨2 * t9.val + 1, l1⟩) (j := 3) (by rw [show (1#32 : BitVec 32) = nat 1 from rfl, off71_eq H t6 t9 1 (by omega), hr']) (by omega)) $$ Hb
  iintro Hb
  iapply (le_wp_ret _ _)
  isplitl [HT]; · iexact HT
  isplitl [HL]; · iexact HL
  isplitl [HP]; · iexact HP
  isplitl [Hks Hka Hkal Hkb Hkbl Hkr]
  · isplitl [Hks]; · iexact Hks
    isplitl [Hka Hkal]
    · isplitl [Hka]; · iexact Hka
      iexact Hkal
    isplitl [Hkb Hkbl]
    · isplitl [Hkb]; · iexact Hkb
      iexact Hkbl
    iexact Hkr
  isplitl [Hxs Hxa Hxal Hxb Hxbl Hxr]
  · isplitl [Hxs]; · iexact Hxs
    isplitl [Hxa Hxal]
    · isplitl [Hxa]; · iexact Hxa
      iexact Hxal
    isplitl [Hxb Hxbl]
    · isplitl [Hxb]; · iexact Hxb
      iexact Hxbl
    iexact Hxr
  isplitl [Ha Hb Hheld]
  · isplitl [Hb]
    · ihave Hb := (Entails.of_eq (congrArg (owns (c : Thread nD τ) (oSlot r' ⟨2 * t9.val + 1, l1⟩) fullShare) (putCol_all db _ _ _ _))) $$ Hb
      iexact Hb
    isplitl [Ha]
    · ihave Ha := (Entails.of_eq (congrArg (owns (c : Thread nD τ) (oSlot r' ⟨2 * t9.val, l0⟩) fullShare) (putCol_all da _ _ _ _))) $$ Ha
      iexact Ha
    iexact Hheld
  iexact Hfree
end

end Cert.KernelIdeal.Hand

end
-- ==== Proof.Main.lean ====
/-
  The loop over the steps: each waits for its inputs and for the outputs of two steps before,
  computes, starts the inputs of three steps on and its own outputs.
-/
module

public import proofs.«01_k».proof.Proof.Slot

@[expose] public section

noncomputable section

namespace Cert.KernelIdeal.Hand

open Cert.KernelIdeal Cert.KernelIdeal.Gen Cert.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords)

def r4 (n : ℕ) : Fin 4 := ⟨n % 4, Nat.mod_lt _ (by omega)⟩
def r2 (n : ℕ) : Fin 2 := ⟨n % 2, Nat.mod_lt _ (by omega)⟩

theorem r4_add (n : ℕ) : r4 (n + 4) = r4 n := by unfold r4; apply Fin.ext; show (n + 4) % 4 = n % 4; omega
theorem r2_add (n : ℕ) : r2 (n + 2) = r2 n := by unfold r2; apply Fin.ext; show (n + 2) % 2 = n % 2; omega

section
variable
  (kvt : Buf (Elt F) ((c : Thread nD τ).loc main_v0)) (x3 : Buf (Elt F) ((c : Thread nD τ).loc main_v1))
  (f8 : Buf (Elt F) ((c : Thread nD τ).loc cc0_scratch8)) (fl : Buf (Elt F) ((c : Thread nD τ).loc main_arg5))
  (f12 : Buf (Elt F) ((c : Thread nD τ).loc cc0_scratch4)) (f13 : Buf (Elt F) ((c : Thread nD τ).loc cc0_scratch5))
  (f14 : Buf (Elt F) ((c : Thread nD τ).loc cc0_scratch6)) (io : IVec S16x128 32) (q : PosShare TreeShare)
variable {v0 v1 : BitVec 32} {N K : ℕ} (H : Built' v0 v1 N K) {long : ℕ → Prop} (h : Table long (cellN c f8) N)

/-- Step `j`'s input slots at rest. -/
def InRest (j : ℕ) : sProp 𝕄 := iprop(kvIdle c kvt (r4 j) ∗ xIdle c x3 (r4 j))
/-- Step `j`'s inputs on their way, if there is a step `j`. -/
def InAt (K j : ℕ) : sProp 𝕄 :=
  if j < K then iprop(kvFly c kvt (cellN c f8) (r4 j) j 0 ∗ xFly c x3 (cellN c f8) (r4 j) j 0) else InRest c kvt x3 j
/-- The output slots step `j` will fill: at rest, or the outputs of step `j - 2` on their way. -/
def OutAt (j : ℕ) : sProp 𝕄 :=
  if j < 2 then oIdle (F := F) c (r2 j) else oFly c (blockAt c kvt x3 f8 fl f12 f13 f14 io) (cellN c f8) (r2 j) (j - 2) 0

/-- The state before step `s`. -/
def Main (s : ℕ) : sProp 𝕄 :=
  iprop(((c : Thread nD τ).loc cc0_scratch8 ↦{fullShare} f8) ∗ ((c : Thread nD τ).loc main_arg5 ↦{q} fl) ∗ Prepared c f12 f13 f14
    ∗ (∃ W, owes (c : Thread nD τ) 0 W)
    ∗ InAt c kvt x3 f8 K s ∗ InAt c kvt x3 f8 K (s + 1) ∗ InAt c kvt x3 f8 K (s + 2) ∗ InRest c kvt x3 (s + 3)
    ∗ OutAt c kvt x3 f8 fl f12 f13 f14 io s ∗ OutAt c kvt x3 f8 fl f12 f13 f14 io (s + 1)
    ∗ rowsTodo (F := F) c h (32 * s) ∗ rowsDone c h (blockAt c kvt x3 f8 fl f12 f13 f14 io) (32 * (s - 2)))

include H in
theorem t7_all (tb : RowsOK c f8 K) (hw3 : k0_chk3 v0 v1) (t6 : Fin (k0_t6_loop v0 v1).trips) (a21 : BitVec 32)
    {α : Type} {k : BitVec 32 → Prog (TpuEff nD τ sig (Elt F) Λ₀ .tc) α} {Q : α → sProp 𝕄} :
    InFly c kvt x3 f8 (r4 t6.val) t6.val 0
      ⊢ iprop((∀ acc, InFly c kvt x3 f8 (r4 t6.val) t6.val 32 -∗ wp frame (wpE (defs₀ (F := F)) Variants.none (c : Thread nD τ) none) Set.univ (k acc) (Q))
        -∗ wp frame (wpE (defs₀ (F := F)) Variants.none (c : Thread nD τ) none) Set.univ (Scf.Loop.for k0_t7_loop k0_t7_ok 0#32 (k0_t7_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t6 a21) >>= k) (Q)) := by
  have := Scf.wp_for_bind frame (wpE (defs₀ (F := F)) Variants.none (c : Thread nD τ) none) Set.univ k0_t7_loop.lb k0_t7_loop.ub k0_t7_loop.st k0_t7_ok 0#32
    (k0_t7_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t6 a21) (fun n _ => InFly c kvt x3 f8 (r4 t6.val) t6.val (2 * n))
    (fun t u => t7_step c i kvt x3 f8 H tb hw3 t6 a21 (r4 t6.val) rfl t u) (kk := k) (Q := Q)
  exact this

include H in
theorem t10_all (tb : RowsOK c f8 K) (hw3 : k0_chk3 v0 v1) (t6 : Fin (k0_t6_loop v0 v1).trips) (h5 : k0_cond5 v0 v1 t6 = 1#1) (a21 : BitVec 32)
    {α : Type} {k : BitVec 32 → Prog (TpuEff nD τ sig (Elt F) Λ₀ .tc) α} {Q : α → sProp 𝕄} :
    InIss c kvt x3 f8 (r4 (t6.val + 3)) (t6.val + 3) 0
      ⊢ iprop((∀ acc, InIss c kvt x3 f8 (r4 (t6.val + 3)) (t6.val + 3) 32 -∗ wp frame (wpE (defs₀ (F := F)) Variants.none (c : Thread nD τ) none) Set.univ (k acc) (Q))
        -∗ wp frame (wpE (defs₀ (F := F)) Variants.none (c : Thread nD τ) none) Set.univ (Scf.Loop.for k0_t10_loop k0_t10_ok 0#32 (k0_t10_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t6 h5 a21) >>= k) (Q)) := by
  have := Scf.wp_for_bind frame (wpE (defs₀ (F := F)) Variants.none (c : Thread nD τ) none) Set.univ k0_t10_loop.lb k0_t10_loop.ub k0_t10_loop.st k0_t10_ok 0#32
    (k0_t10_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t6 h5 a21) (fun n _ => InIss c kvt x3 f8 (r4 (t6.val + 3)) (t6.val + 3) (2 * n))
    (fun t u => t10_step c i kvt x3 f8 H tb hw3 t6 h5 a21 (r4 (t6.val + 3)) rfl t u) (kk := k) (Q := Q)
  exact this

include H in
theorem t8_all (Gp : ℕ → S16x512.Idx → Elt F .bf16) (tb : RowsOK c f8 K) (hw3 : k0_chk3 v0 v1) (t6 : Fin (k0_t6_loop v0 v1).trips) (h2 : k0_cond2 v0 v1 t6 = 1#1)
    {α : Type} {k : BitVec 32 → Prog (TpuEff nD τ sig (Elt F) Λ₀ .tc) α} {Q : α → sProp 𝕄} :
    OutFly c f8 Gp (r2 t6.val) (t6.val - 2) 0
      ⊢ iprop((∀ acc, OutFly c f8 Gp (r2 t6.val) (t6.val - 2) 32 -∗ wp frame (wpE (defs₀ (F := F)) Variants.none (c : Thread nD τ) none) Set.univ (k acc) (Q))
        -∗ wp frame (wpE (defs₀ (F := F)) Variants.none (c : Thread nD τ) none) Set.univ (Scf.Loop.for k0_t8_loop (k0_t8_ok v0 v1 hw3 t6 h2) 0#32 (k0_t8_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t6 h2) >>= k) (Q)) := by
  have := Scf.wp_for_bind frame (wpE (defs₀ (F := F)) Variants.none (c : Thread nD τ) none) Set.univ k0_t8_loop.lb k0_t8_loop.ub k0_t8_loop.st (k0_t8_ok v0 v1 hw3 t6 h2) 0#32
    (k0_t8_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t6 h2) (fun n _ => OutFly c f8 Gp (r2 t6.val) (t6.val - 2) (2 * n))
    (fun t u => t8_step c i f8 Gp H tb hw3 t6 h2 (r2 t6.val) rfl t u) (kk := k) (Q := Q)
  exact this

include H in
theorem t9_all (tb : RowsOK c f8 K) (hw3 : k0_chk3 v0 v1) (t6 : Fin (k0_t6_loop v0 v1).trips) (a21 v160 v161 : BitVec 32)
    {α : Type} {k : BitVec 32 → Prog (TpuEff nD τ sig (Elt F) Λ₀ .tc) α} {Q : α → sProp 𝕄} :
    Comp c kvt x3 f8 fl f12 f13 f14 io q (r4 t6.val) (r2 t6.val) t6.val 0
      ⊢ iprop((∀ acc, Comp c kvt x3 f8 fl f12 f13 f14 io q (r4 t6.val) (r2 t6.val) t6.val 32 -∗ wp frame (wpE (defs₀ (F := F)) Variants.none (c : Thread nD τ) none) Set.univ (k acc) (Q))
        -∗ wp frame (wpE (defs₀ (F := F)) Variants.none (c : Thread nD τ) none) Set.univ (Scf.Loop.for k0_t9_loop k0_t9_ok 0#32 (k0_t9_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 io t6 a21 v160 v161) >>= k) (Q)) := by
  have := Scf.wp_for_bind frame (wpE (defs₀ (F := F)) Variants.none (c : Thread nD τ) none) Set.univ k0_t9_loop.lb k0_t9_loop.ub k0_t9_loop.st k0_t9_ok 0#32
    (k0_t9_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 io t6 a21 v160 v161) (fun n _ => Comp c kvt x3 f8 fl f12 f13 f14 io q (r4 t6.val) (r2 t6.val) t6.val (2 * n))
    (fun t u => t9_step c i kvt x3 f8 fl f12 f13 f14 io q H tb hw3 t6 a21 v160 v161 (r4 t6.val) rfl (r2 t6.val) rfl t u) (kk := k) (Q := Q)
  exact this

include H in
theorem t11_all (Gp : ℕ → S16x512.Idx → Elt F .bf16) (tb : RowsOK c f8 K) (hw3 : k0_chk3 v0 v1) (t6 : Fin (k0_t6_loop v0 v1).trips)
    {α : Type} {k : BitVec 32 → Prog (TpuEff nD τ sig (Elt F) Λ₀ .tc) α} {Q : α → sProp 𝕄} :
    OutIss c f8 Gp h (r2 t6.val) t6.val 0
      ⊢ iprop((∀ acc, OutIss c f8 Gp h (r2 t6.val) t6.val 32 -∗ wp frame (wpE (defs₀ (F := F)) Variants.none (c : Thread nD τ) none) Set.univ (k acc) (Q))
        -∗ wp frame (wpE (defs₀ (F := F)) Variants.none (c : Thread nD τ) none) Set.univ (Scf.Loop.for k0_t11_loop k0_t11_ok 0#32 (k0_t11_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t6) >>= k) (Q)) := by
  have := Scf.wp_for_bind frame (wpE (defs₀ (F := F)) Variants.none (c : Thread nD τ) none) Set.univ k0_t11_loop.lb k0_t11_loop.ub k0_t11_loop.st k0_t11_ok 0#32
    (k0_t11_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t6) (fun n _ => OutIss c f8 Gp h (r2 t6.val) t6.val (2 * n))
    (fun t u => t11_step c i f8 Gp H h tb hw3 t6 (r2 t6.val) rfl t u) (kk := k) (Q := Q)
  exact this

theorem t19_all (Gp : ℕ → S16x512.Idx → Elt F .bf16) (H : Built' v0 v1 N K) (tb : RowsOK c f8 K) (hw3 : k0_chk3 v0 v1) (t18 : Fin k0_t18_loop.trips) (h14 : k0_cond14 v0 v1 t18 = 1#1)
    {α : Type} {k : Unit → Prog (TpuEff nD τ sig (Elt F) Λ₀ .tc) α} {Q : α → sProp 𝕄} :
    OutFly c f8 Gp (r2 (K - (2 - t18.val))) (K - (2 - t18.val)) 0
      ⊢ iprop((∀ acc, OutFly c f8 Gp (r2 (K - (2 - t18.val))) (K - (2 - t18.val)) 32 -∗ wp frame (wpE (defs₀ (F := F)) Variants.none (c : Thread nD τ) none) Set.univ (k acc) (Q))
        -∗ wp frame (wpE (defs₀ (F := F)) Variants.none (c : Thread nD τ) none) Set.univ (Scf.Loop.for k0_t19_loop k0_t19_ok ⟨⟩ (k0_t19_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t18 h14) >>= k) (Q)) := by
  have := Scf.wp_for_bind frame (wpE (defs₀ (F := F)) Variants.none (c : Thread nD τ) none) Set.univ k0_t19_loop.lb k0_t19_loop.ub k0_t19_loop.st k0_t19_ok ()
    (k0_t19_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t18 h14) (fun n _ => OutFly c f8 Gp (r2 (K - (2 - t18.val))) (K - (2 - t18.val)) (2 * n))
    (fun t u => t19_step c i f8 Gp H tb hw3 t18 h14 (r2 (K - (2 - t18.val))) rfl t u) (kk := k) (Q := Q)
  exact this

/-- A step from the wait for the outputs on. -/
def Mid (s : ℕ) : sProp 𝕄 :=
  iprop(((c : Thread nD τ).loc cc0_scratch8 ↦{fullShare} f8) ∗ ((c : Thread nD τ).loc main_arg5 ↦{q} fl) ∗ Prepared c f12 f13 f14
    ∗ (∃ W, owes (c : Thread nD τ) 0 W)
    ∗ kvLand c kvt (cellN c f8) (r4 s) s ∗ xLand c x3 (cellN c f8) (r4 s) s ∗ InAt c kvt x3 f8 K (s + 1) ∗ InAt c kvt x3 f8 K (s + 2) ∗ InRest c kvt x3 (s + 3)
    ∗ oIdle (F := F) c (r2 s) ∗ OutAt c kvt x3 f8 fl f12 f13 f14 io (s + 1)
    ∗ rowsTodo (F := F) c h (32 * s) ∗ rowsDone c h (blockAt c kvt x3 f8 fl f12 f13 f14 io) (32 * (s + 1 - 2)))

theorem comp_open (s : ℕ) :
    iprop(((c : Thread nD τ).loc cc0_scratch8 ↦{fullShare} f8) ∗ ((c : Thread nD τ).loc main_arg5 ↦{q} fl) ∗ Prepared c f12 f13 f14
      ∗ kvLand c kvt (cellN c f8) (r4 s) s ∗ xLand c x3 (cellN c f8) (r4 s) s ∗ BI.bigSep Finset.univ (oFree (F := F) c (r2 s)))
      ⊢ (Comp c kvt x3 f8 fl f12 f13 f14 io q (r4 s) (r2 s) s 0 : sProp 𝕄) := by
  unfold Comp
  rw [from_zero, upto_zero, BI.bigSep_empty]
  iintro ⟨HT, HL, HP, Hk, Hx, Ho⟩
  isplitl [HT]; · iexact HT
  isplitl [HL]; · iexact HL
  isplitl [HP]; · iexact HP
  isplitl [Hk]; · iexact Hk
  isplitl [Hx]; · iexact Hx
  isplitr [Ho]; · iempintro
  iexact Ho

theorem comp_close (s : ℕ) :
    (Comp c kvt x3 f8 fl f12 f13 f14 io q (r4 s) (r2 s) s 32 : sProp 𝕄) ⊢
    iprop(((c : Thread nD τ).loc cc0_scratch8 ↦{fullShare} f8) ∗ ((c : Thread nD τ).loc main_arg5 ↦{q} fl) ∗ Prepared c f12 f13 f14
      ∗ InRest c kvt x3 s ∗ BI.bigSep Finset.univ (oHeld c (blockAt c kvt x3 f8 fl f12 f13 f14 io) (r2 s) s)) := by
  unfold Comp InRest
  rw [from_all, upto_all, BI.bigSep_empty]
  iintro ⟨HT, HL, HP, Hk, Hx, Ho, -⟩
  isplitl [HT]; · iexact HT
  isplitl [HL]; · iexact HL
  isplitl [HP]; · iexact HP
  isplitl [Hk Hx]
  · isplitl [Hk]
    · iapply (kvLand_idle c kvt (cellN c f8) (r4 s) s); iexact Hk
    · iapply (xLand_idle c x3 (cellN c f8) (r4 s) s); iexact Hx
  iexact Ho

include H in
theorem t6_tail (tb : RowsOK c f8 K) (hw3 : k0_chk3 v0 v1) (t6 : Fin (k0_t6_loop v0 v1).trips)
    (a21 v160 v161 : BitVec 32) :
    Mid (K := K) c kvt x3 f8 fl f12 f13 f14 io q h t6.val ⊢ wp frame (wpE (defs₀ (F := F)) Variants.none (c : Thread nD τ) none) Set.univ (Scf.Loop.for k0_t9_loop k0_t9_ok 0#32 (k0_t9_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 io t6 a21 v160 v161) >>= fun _ =>
      if k0_h5 : k0_cond5 v0 v1 t6 = 1#1 then
        (Scf.Loop.for k0_t10_loop k0_t10_ok 0#32 (k0_t10_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t6 k0_h5 (Scalar.addi a21 3#32)) >>= fun _ => Scf.Loop.for k0_t11_loop k0_t11_ok 0#32 (k0_t11_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t6) >>= fun _ => Prog.ret 0#32)
       else (Scf.Loop.for k0_t11_loop k0_t11_ok 0#32 (k0_t11_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t6) >>= fun _ => Prog.ret 0#32)) (fun _ => Main (K := K) c kvt x3 f8 fl f12 f13 f14 io q h (t6.val + 1)) := by
  have h6 : t6.val < K := t6.isLt.trans_eq (trips6 H)
  have hK := H.k
  have hOut : OutAt c kvt x3 f8 fl f12 f13 f14 io (t6.val + 2) = (oFly c (blockAt c kvt x3 f8 fl f12 f13 f14 io) (cellN c f8) (r2 t6.val) t6.val 0 : sProp 𝕄) := by
    unfold OutAt; rw [if_neg (by omega), r2_add, Nat.add_sub_cancel]
  have hRest : (InRest c kvt x3 (t6.val + 4) : sProp 𝕄) = InRest c kvt x3 t6.val := by unfold InRest; rw [r4_add]
  unfold Main Mid
  rw [show t6.val + 1 + 1 = t6.val + 2 by omega, show t6.val + 1 + 2 = t6.val + 3 by omega, show t6.val + 1 + 3 = t6.val + 4 by omega, hOut, hRest]
  unfold oIdle
  iintro ⟨HT, HL, HP, HW, Hk, Hx, Hi1, Hi2, Hi3, ⟨Hos, Hof⟩, Ho1, Htodo, Hdone⟩
  iapply (t9_all c i kvt x3 f8 fl f12 f13 f14 io q H tb hw3 t6 a21 v160 v161) $$ [HT HL HP Hk Hx Hof]
  · iapply (comp_open c kvt x3 f8 fl f12 f13 f14 io q t6.val)
    isplitl [HT]; · iexact HT
    isplitl [HL]; · iexact HL
    isplitl [HP]; · iexact HP
    isplitl [Hk]; · iexact Hk
    isplitl [Hx]; · iexact Hx
    iexact Hof
  iintro %acc HC
  ihave HC' := (comp_close c kvt x3 f8 fl f12 f13 f14 io q t6.val) $$ HC
  icases HC' with ⟨HT, HL, HP, Hi0, Hof⟩
  imod (oFull_iss c h (blockAt c kvt x3 f8 fl f12 f13 f14 io) (r2 t6.val) t6.val) $$ [Hos Hof Htodo] with Hoi
  · unfold oFull
    isplitr [Htodo]
    · isplitl [Hos]; · iexact Hos
      iexact Hof
    · iexact Htodo
  by_cases hx : k0_cond5 v0 v1 t6 = 1#1
  · rw [dif_pos hx]
    try simp only [bind_assoc, Prog.bind_lift, Prog.bind_ret, Prog.bind_op, Prog.pure_eq_ret]
    have hlt := (cond5_iff H t6).1 hx
    have hIn : InAt c kvt x3 f8 K (t6.val + 3) = (iprop(kvFly c kvt (cellN c f8) (r4 (t6.val + 3)) (t6.val + 3) 0 ∗ xFly c x3 (cellN c f8) (r4 (t6.val + 3)) (t6.val + 3) 0) : sProp 𝕄) := by
      unfold InAt; rw [if_pos hlt]
    rw [hIn]
    unfold InRest
    icases Hi3 with ⟨Hk, Hx⟩
    imod (kvIss_zero c kvt (cellN c f8) (r4 (t6.val + 3)) (t6.val + 3)) $$ Hk with Hk
    imod (xIss_zero c x3 (cellN c f8) (r4 (t6.val + 3)) (t6.val + 3)) $$ Hx with Hx
    iapply (t10_all c i kvt x3 f8 H tb hw3 t6 hx _) $$ [HT Hk Hx]
    · unfold InIss
      isplitl [HT]; · iexact HT
      isplitl [Hk]; · iexact Hk
      iexact Hx
    unfold InIss
    iintro %acc2 ⟨HT, Hk, Hx⟩
    ihave Hk := (kvIss_all c kvt (cellN c f8) (r4 (t6.val + 3)) (t6.val + 3)) $$ Hk
    ihave Hx := (xIss_all c x3 (cellN c f8) (r4 (t6.val + 3)) (t6.val + 3)) $$ Hx
    iapply (t11_all c i f8 H h (blockAt c kvt x3 f8 fl f12 f13 f14 io) tb hw3 t6) $$ [HT Hoi]
    · unfold OutIss
      isplitl [HT]; · iexact HT
      iexact Hoi
    unfold OutIss
    iintro %acc3 ⟨HT, Hoi⟩
    ihave Hof := (oIss_fly c h (blockAt c kvt x3 f8 fl f12 f13 f14 io) (r2 t6.val) t6.val) $$ Hoi
    icases Hof with ⟨Hof, Htodo⟩
    iapply (le_wp_ret _ _)
    isplitl [HT]; · iexact HT
    isplitl [HL]; · iexact HL
    isplitl [HP]; · iexact HP
    isplitl [HW]; · iexact HW
    isplitl [Hi1]; · iexact Hi1
    isplitl [Hi2]; · iexact Hi2
    isplitl [Hk Hx]
    · isplitl [Hk]; · iexact Hk
      iexact Hx
    isplitl [Hi0]; · iexact Hi0
    isplitl [Ho1]; · iexact Ho1
    isplitl [Hof]; · iexact Hof
    isplitl [Htodo]; · iexact Htodo
    iexact Hdone
  · rw [dif_neg hx]
    try simp only [bind_assoc, Prog.bind_lift, Prog.bind_ret, Prog.bind_op, Prog.pure_eq_ret]
    have hlt := fun e => hx ((cond5_iff H t6).2 e)
    have hIn : InAt c kvt x3 f8 K (t6.val + 3) = (InRest c kvt x3 (t6.val + 3) : sProp 𝕄) := by
      unfold InAt; rw [if_neg hlt]
    rw [hIn]
    iapply (t11_all c i f8 H h (blockAt c kvt x3 f8 fl f12 f13 f14 io) tb hw3 t6) $$ [HT Hoi]
    · unfold OutIss
      isplitl [HT]; · iexact HT
      iexact Hoi
    unfold OutIss
    iintro %acc3 ⟨HT, Hoi⟩
    ihave Hof := (oIss_fly c h (blockAt c kvt x3 f8 fl f12 f13 f14 io) (r2 t6.val) t6.val) $$ Hoi
    icases Hof with ⟨Hof, Htodo⟩
    iapply (le_wp_ret _ _)
    isplitl [HT]; · iexact HT
    isplitl [HL]; · iexact HL
    isplitl [HP]; · iexact HP
    isplitl [HW]; · iexact HW
    isplitl [Hi1]; · iexact Hi1
    isplitl [Hi2]; · iexact Hi2
    isplitl [Hi3]; · iexact Hi3
    isplitl [Hi0]; · iexact Hi0
    isplitl [Ho1]; · iexact Ho1
    isplitl [Hof]; · iexact Hof
    isplitl [Htodo]; · iexact Htodo
    iexact Hdone

include H in
theorem t6_step (tb : RowsOK c f8 K) (hw3 : k0_chk3 v0 v1) (t6 : Fin (k0_t6_loop v0 v1).trips) (u : BitVec 32) :
    Main (K := K) c kvt x3 f8 fl f12 f13 f14 io q h t6.val ⊢ wp frame (wpE (defs₀ (F := F)) Variants.none (c : Thread nD τ) none) Set.univ (k0_t6_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 io t6 u) (fun _ => Main (K := K) c kvt x3 f8 fl f12 f13 f14 io q h (t6.val + 1)) := by
  have h6 : t6.val < K := t6.isLt.trans_eq (trips6 H)
  have hK := H.k
  have hIn : InAt c kvt x3 f8 K t6.val = (iprop(kvFly c kvt (cellN c f8) (r4 t6.val) t6.val 0 ∗ xFly c x3 (cellN c f8) (r4 t6.val) t6.val 0) : sProp 𝕄) := by
    unfold InAt; rw [if_pos h6]
  unfold k0_t6_body
  simp only [bind_assoc, Prog.bind_lift, Prog.bind_ret, Prog.bind_op, Prog.pure_eq_ret]
  have hM : (Main (K := K) c kvt x3 f8 fl f12 f13 f14 io q h t6.val : sProp 𝕄) = iprop(((c : Thread nD τ).loc cc0_scratch8 ↦{fullShare} f8) ∗ ((c : Thread nD τ).loc main_arg5 ↦{q} fl) ∗ Prepared c f12 f13 f14
    ∗ (∃ W, owes (c : Thread nD τ) 0 W)
    ∗ (kvFly c kvt (cellN c f8) (r4 t6.val) t6.val 0 ∗ xFly c x3 (cellN c f8) (r4 t6.val) t6.val 0) ∗ InAt c kvt x3 f8 K (t6.val + 1) ∗ InAt c kvt x3 f8 K (t6.val + 2) ∗ InRest c kvt x3 (t6.val + 3)
    ∗ OutAt c kvt x3 f8 fl f12 f13 f14 io t6.val ∗ OutAt c kvt x3 f8 fl f12 f13 f14 io (t6.val + 1)
    ∗ rowsTodo (F := F) c h (32 * t6.val) ∗ rowsDone c h (blockAt c kvt x3 f8 fl f12 f13 f14 io) (32 * (t6.val - 2))) := by
    unfold Main; rw [hIn]
  rw [hM]
  iintro ⟨HT, HL, HP, HW, ⟨Hk, Hx⟩, Hi1, Hi2, Hi3, Ho0, Ho1, Htodo, Hdone⟩
  iapply (t7_all c i kvt x3 f8 H tb hw3 t6 _) $$ [HT Hk Hx HW]
  · unfold InFly
    isplitl [HT]; · iexact HT
    isplitl [Hk]; · iexact Hk
    isplitl [Hx]; · iexact Hx
    iexact HW
  unfold InFly
  iintro %acc ⟨HT, Hk, Hx, HW⟩
  imod (kvFly_all c kvt (cellN c f8) (r4 t6.val) t6.val) $$ Hk with Hk
  imod (xFly_all c x3 (cellN c f8) (r4 t6.val) t6.val) $$ Hx with Hx
  by_cases hx : k0_cond2 v0 v1 t6 = 1#1
  · rw [dif_pos hx]
    try simp only [bind_assoc, Prog.bind_lift, Prog.bind_ret, Prog.bind_op, Prog.pure_eq_ret]
    have hlt := (cond2_iff H t6).1 hx
    have hls : t6.val - 2 < stepsOf N := by omega
    have hOut : OutAt c kvt x3 f8 fl f12 f13 f14 io t6.val = (oFly c (blockAt c kvt x3 f8 fl f12 f13 f14 io) (cellN c f8) (r2 t6.val) (t6.val - 2) 0 : sProp 𝕄) := by
      unfold OutAt; rw [if_neg (Nat.not_lt.2 hlt)]
    ihave Ho0 := (Entails.of_eq hOut) $$ Ho0
    iapply (t8_all c i f8 H (blockAt c kvt x3 f8 fl f12 f13 f14 io) tb hw3 t6 hx) $$ [HT Ho0 HW]
    · unfold OutFly
      isplitl [HT]; · iexact HT
      isplitl [Ho0]; · iexact Ho0
      iexact HW
    unfold OutFly
    iintro %acc2 ⟨HT, Ho0, HW⟩
    imod (oFly_all c h (blockAt c kvt x3 f8 fl f12 f13 f14 io) (r2 t6.val) (t6.val - 2) hls) $$ [Ho0 Hdone] with ⟨Ho0, Hdone⟩
    · isplitl [Ho0]; · iexact Ho0
      iexact Hdone
    iapply (t6_tail c i kvt x3 f8 fl f12 f13 f14 io q H h tb hw3 t6 _ _ _)
    unfold Mid
    rw [show t6.val + 1 - 2 = t6.val - 2 + 1 by omega]
    isplitl [HT]; · iexact HT
    isplitl [HL]; · iexact HL
    isplitl [HP]; · iexact HP
    isplitl [HW]; · iexact HW
    isplitl [Hk]; · iexact Hk
    isplitl [Hx]; · iexact Hx
    isplitl [Hi1]; · iexact Hi1
    isplitl [Hi2]; · iexact Hi2
    isplitl [Hi3]; · iexact Hi3
    isplitl [Ho0]; · iexact Ho0
    isplitl [Ho1]; · iexact Ho1
    isplitl [Htodo]; · iexact Htodo
    iexact Hdone
  · rw [dif_neg hx]
    try simp only [bind_assoc, Prog.bind_lift, Prog.bind_ret, Prog.bind_op, Prog.pure_eq_ret]
    have hlt : ¬ 2 ≤ t6.val := fun e => hx ((cond2_iff H t6).2 e)
    have hOut : OutAt c kvt x3 f8 fl f12 f13 f14 io t6.val = (oIdle (F := F) c (r2 t6.val) : sProp 𝕄) := by
      unfold OutAt; rw [if_pos (by omega)]
    ihave Ho0 := (Entails.of_eq hOut) $$ Ho0
    iapply (t6_tail c i kvt x3 f8 fl f12 f13 f14 io q H h tb hw3 t6 _ _ _)
    unfold Mid
    rw [show t6.val + 1 - 2 = t6.val - 2 by omega]
    isplitl [HT]; · iexact HT
    isplitl [HL]; · iexact HL
    isplitl [HP]; · iexact HP
    isplitl [HW]; · iexact HW
    isplitl [Hk]; · iexact Hk
    isplitl [Hx]; · iexact Hx
    isplitl [Hi1]; · iexact Hi1
    isplitl [Hi2]; · iexact Hi2
    isplitl [Hi3]; · iexact Hi3
    isplitl [Ho0]; · iexact Ho0
    isplitl [Ho1]; · iexact Ho1
    isplitl [Htodo]; · iexact Htodo
    iexact Hdone
end

end Cert.KernelIdeal.Hand

end
-- ==== Proof.Drain.lean ====
/-
  The run of all steps and the waits for the last two steps' outputs.
-/
module

public import proofs.«01_k».proof.Proof.Main
public import Idealize.ShloMosaic.Lib.Pipeline.TableIdle

@[expose] public section

noncomputable section

namespace Cert.KernelIdeal.Hand

open Cert.KernelIdeal Cert.KernelIdeal.Gen Cert.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords)

section
variable
  (kvt : Buf (Elt F) ((c : Thread nD τ).loc main_v0)) (x3 : Buf (Elt F) ((c : Thread nD τ).loc main_v1))
  (f8 : Buf (Elt F) ((c : Thread nD τ).loc cc0_scratch8)) (fl : Buf (Elt F) ((c : Thread nD τ).loc main_arg5))
  (f12 : Buf (Elt F) ((c : Thread nD τ).loc cc0_scratch4)) (f13 : Buf (Elt F) ((c : Thread nD τ).loc cc0_scratch5))
  (f14 : Buf (Elt F) ((c : Thread nD τ).loc cc0_scratch6)) (io : IVec S16x128 32) (q : PosShare TreeShare)
variable {v0 v1 : BitVec 32} {N K : ℕ} (H : Built' v0 v1 N K) {long : ℕ → Prop} (h : Table long (cellN c f8) N)

/-- The last but `2 - j` steps' outputs, after `n` of the last two steps were waited for. -/
def OutEnd (Gp : ℕ → S16x512.Idx → Elt F .bf16) (K j n : ℕ) : sProp 𝕄 :=
  if n ≤ j then oFly c Gp (cellN c f8) (r2 (K - (2 - j))) (K - (2 - j)) 0 else oIdle (F := F) c (r2 (K - (2 - j)))

def Drain (Gp : ℕ → S16x512.Idx → Elt F .bf16) (K n : ℕ) : sProp 𝕄 :=
  iprop(((c : Thread nD τ).loc cc0_scratch8 ↦{fullShare} f8) ∗ (∃ W, owes (c : Thread nD τ) 0 W)
    ∗ OutEnd c f8 Gp K 0 n ∗ OutEnd c f8 Gp K 1 n ∗ rowsDone c h Gp (32 * (K - (2 - n))))

theorem t18_step (Gp : ℕ → S16x512.Idx → Elt F .bf16) (H : Built' v0 v1 N K) (tb : RowsOK c f8 K) (hw3 : k0_chk3 v0 v1) (t18 : Fin k0_t18_loop.trips) (u : Unit) :
    Drain c f8 h Gp K t18.val ⊢ wp frame (wpE (defs₀ (F := F)) Variants.none (c : Thread nD τ) none) Set.univ (k0_t18_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 t18 u) (fun _ => Drain c f8 h Gp K (t18.val + 1)) := by
  have ht : t18.val < 2 := t18.isLt.trans_eq trips18
  have hK := H.k
  have hlo := H.lo
  have hx := cond14_eq H t18
  unfold k0_t18_body
  simp only [bind_assoc, Prog.bind_lift, Prog.bind_ret, Prog.bind_op, Prog.pure_eq_ret]
  rw [dif_pos hx]
  try simp only [bind_assoc, Prog.bind_lift, Prog.bind_ret, Prog.bind_op, Prog.pure_eq_ret]
  have hls : K - (2 - t18.val) < stepsOf N := by omega
  have hn : K - (2 - (t18.val + 1)) = K - (2 - t18.val) + 1 := by omega
  have hcase : t18.val = 0 ∨ t18.val = 1 := by omega
  rcases hcase with h0 | h0
  · have e1 : (OutEnd c f8 Gp K 0 t18.val : sProp 𝕄) = oFly c Gp (cellN c f8) (r2 (K - (2 - t18.val))) (K - (2 - t18.val)) 0 := by
      unfold OutEnd; rw [if_pos (by omega), h0]
    have e2 : (OutEnd c f8 Gp K 0 (t18.val + 1) : sProp 𝕄) = oIdle (F := F) c (r2 (K - (2 - t18.val))) := by
      unfold OutEnd; rw [if_neg (by omega), h0]
    have e3 : (OutEnd c f8 Gp K 1 (t18.val + 1) : sProp 𝕄) = OutEnd c f8 Gp K 1 t18.val := by
      unfold OutEnd; rw [if_pos (by omega), if_pos (by omega)]
    unfold Drain
    rw [e1, e2, e3, hn]
    iintro ⟨HT, HW, Ho, Ho1, Hd⟩
    iapply (t19_all c i f8 Gp H tb hw3 t18 hx) $$ [HT Ho HW]
    · unfold OutFly
      isplitl [HT]; · iexact HT
      isplitl [Ho]; · iexact Ho
      iexact HW
    unfold OutFly
    iintro %acc ⟨HT, Ho, HW⟩
    imod (oFly_all c h Gp (r2 (K - (2 - t18.val))) (K - (2 - t18.val)) hls) $$ [Ho Hd] with ⟨Ho, Hd⟩
    · isplitl [Ho]; · iexact Ho
      iexact Hd
    iapply (le_wp_ret _ _)
    isplitl [HT]; · iexact HT
    isplitl [HW]; · iexact HW
    isplitl [Ho]; · iexact Ho
    isplitl [Ho1]; · iexact Ho1
    iexact Hd
  · have e1 : (OutEnd c f8 Gp K 1 t18.val : sProp 𝕄) = oFly c Gp (cellN c f8) (r2 (K - (2 - t18.val))) (K - (2 - t18.val)) 0 := by
      unfold OutEnd; rw [if_pos (by omega), h0]
    have e2 : (OutEnd c f8 Gp K 1 (t18.val + 1) : sProp 𝕄) = oIdle (F := F) c (r2 (K - (2 - t18.val))) := by
      unfold OutEnd; rw [if_neg (by omega), h0]
    have e3 : (OutEnd c f8 Gp K 0 (t18.val + 1) : sProp 𝕄) = OutEnd c f8 Gp K 0 t18.val := by
      unfold OutEnd; rw [if_neg (by omega), if_neg (by omega)]
    unfold Drain
    rw [e1, e2, e3, hn]
    iintro ⟨HT, HW, Ho1, Ho, Hd⟩
    iapply (t19_all c i f8 Gp H tb hw3 t18 hx) $$ [HT Ho HW]
    · unfold OutFly
      isplitl [HT]; · iexact HT
      isplitl [Ho]; · iexact Ho
      iexact HW
    unfold OutFly
    iintro %acc ⟨HT, Ho, HW⟩
    imod (oFly_all c h Gp (r2 (K - (2 - t18.val))) (K - (2 - t18.val)) hls) $$ [Ho Hd] with ⟨Ho, Hd⟩
    · isplitl [Ho]; · iexact Ho
      iexact Hd
    iapply (le_wp_ret _ _)
    isplitl [HT]; · iexact HT
    isplitl [HW]; · iexact HW
    isplitl [Ho1]; · iexact Ho1
    isplitl [Ho]; · iexact Ho
    iexact Hd

/-- Four and two consecutive steps take each ring slot once. -/
theorem four (Φ : Fin 4 → sProp 𝕄) (n : ℕ) :
    iprop(Φ (r4 n) ∗ Φ (r4 (n + 1)) ∗ Φ (r4 (n + 2)) ∗ Φ (r4 (n + 3))) ⊢ BI.bigSep Finset.univ Φ := by
  have e : BI.bigSep Finset.univ Φ = iprop(Φ 0 ∗ Φ 1 ∗ Φ 2 ∗ Φ 3) := BI.bigSep_eq_bigSepL_of_eq (S := (Finset.univ : Finset (Fin 4))) [0, 1, 2, 3] (by decide) (by decide) Φ
  rw [e]
  have hn : n % 4 = 0 ∨ n % 4 = 1 ∨ n % 4 = 2 ∨ n % 4 = 3 := by omega
  rcases hn with h | h | h | h
  · rw [show r4 n = 0 from Fin.ext (by show n % 4 = 0; omega), show r4 (n + 1) = 1 from Fin.ext (by show (n + 1) % 4 = 1; omega), show r4 (n + 2) = 2 from Fin.ext (by show (n + 2) % 4 = 2; omega), show r4 (n + 3) = 3 from Fin.ext (by show (n + 3) % 4 = 3; omega)]
  · rw [show r4 n = 1 from Fin.ext (by show n % 4 = 1; omega), show r4 (n + 1) = 2 from Fin.ext (by show (n + 1) % 4 = 2; omega), show r4 (n + 2) = 3 from Fin.ext (by show (n + 2) % 4 = 3; omega), show r4 (n + 3) = 0 from Fin.ext (by show (n + 3) % 4 = 0; omega)]
    iintro ⟨H1, H2, H3, H0⟩
    isplitl [H0]; · iexact H0
    isplitl [H1]; · iexact H1
    isplitl [H2]; · iexact H2
    iexact H3
  · rw [show r4 n = 2 from Fin.ext (by show n % 4 = 2; omega), show r4 (n + 1) = 3 from Fin.ext (by show (n + 1) % 4 = 3; omega), show r4 (n + 2) = 0 from Fin.ext (by show (n + 2) % 4 = 0; omega), show r4 (n + 3) = 1 from Fin.ext (by show (n + 3) % 4 = 1; omega)]
    iintro ⟨H2, H3, H0, H1⟩
    isplitl [H0]; · iexact H0
    isplitl [H1]; · iexact H1
    isplitl [H2]; · iexact H2
    iexact H3
  · rw [show r4 n = 3 from Fin.ext (by show n % 4 = 3; omega), show r4 (n + 1) = 0 from Fin.ext (by show (n + 1) % 4 = 0; omega), show r4 (n + 2) = 1 from Fin.ext (by show (n + 2) % 4 = 1; omega), show r4 (n + 3) = 2 from Fin.ext (by show (n + 3) % 4 = 2; omega)]
    iintro ⟨H3, H0, H1, H2⟩
    isplitl [H0]; · iexact H0
    isplitl [H1]; · iexact H1
    isplitl [H2]; · iexact H2
    iexact H3

theorem both (Φ : Fin 2 → sProp 𝕄) (n : ℕ) :
    iprop(Φ (r2 n) ∗ Φ (r2 (n + 1))) ⊢ BI.bigSep Finset.univ Φ := by
  have e : BI.bigSep Finset.univ Φ = iprop(Φ 0 ∗ Φ 1) := BI.bigSep_eq_bigSepL_of_eq (S := (Finset.univ : Finset (Fin 2))) [0, 1] (by decide) (by decide) Φ
  rw [e]
  have hn : n % 2 = 0 ∨ n % 2 = 1 := by omega
  rcases hn with h | h
  · rw [show r2 n = 0 from Fin.ext (by show n % 2 = 0; omega), show r2 (n + 1) = 1 from Fin.ext (by show (n + 1) % 2 = 1; omega)]
  · rw [show r2 n = 1 from Fin.ext (by show n % 2 = 1; omega), show r2 (n + 1) = 0 from Fin.ext (by show (n + 1) % 2 = 0; omega)]
    iintro ⟨H1, H0⟩
    isplitl [H0]; · iexact H0
    iexact H1

/-- The state behind the last wait. -/
def Finished (K : ℕ) : sProp 𝕄 :=
  iprop(((c : Thread nD τ).loc cc0_scratch8 ↦{fullShare} f8) ∗ ((c : Thread nD τ).loc main_arg5 ↦{q} fl) ∗ Prepared c f12 f13 f14
    ∗ (∃ W, owes (c : Thread nD τ) 0 W)
    ∗ BI.bigSep Finset.univ (fun r : Fin 4 => iprop(kvIdle c kvt r ∗ xIdle c x3 r))
    ∗ BI.bigSep Finset.univ (fun r : Fin 2 => oIdle (F := F) c r)
    ∗ rowsDone c h (blockAt c kvt x3 f8 fl f12 f13 f14 io) (32 * K))

theorem steps_wp (H : Built' v0 v1 N K) (tb : RowsOK c f8 K) (hw3 : k0_chk3 v0 v1) (v156 : BitVec 32) :
    Main (K := K) c kvt x3 f8 fl f12 f13 f14 io q h 0 ⊢ wp frame (wpE (defs₀ (F := F)) Variants.none (c : Thread nD τ) none) Set.univ (Scf.Loop.for (k0_t6_loop v0 v1) (k0_t6_ok v0 v1 hw3) 0#32 (k0_t6_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 io) >>= fun v157 =>
      Scf.Loop.for (k0_t12_loop v0 v1) (k0_t12_ok v0 v1 hw3) v157 (k0_t12_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 io v156) >>= fun _ =>
      Scf.Loop.for k0_t18_loop k0_t18_ok () (k0_t18_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3) >>= fun _ => Prog.ret PUnit.unit) (fun _ => Finished c kvt x3 f8 fl f12 f13 f14 io q h K) := by
  have hK := H.k
  have hlo := H.lo
  have e12 : (fun v157 => Scf.Loop.for (k0_t12_loop v0 v1) (k0_t12_ok v0 v1 hw3) v157 (k0_t12_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 io v156) >>= fun _ =>
      Scf.Loop.for k0_t18_loop k0_t18_ok () (k0_t18_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3) >>= fun _ => Prog.ret PUnit.unit) = (fun _ => Scf.Loop.for k0_t18_loop k0_t18_ok () (k0_t18_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3) >>= fun _ => Prog.ret PUnit.unit) :=
    funext fun v => Idealize.ShloMosaic.Scf.for_trips0_bind (k0_t12_loop v0 v1) (k0_t12_ok v0 v1 hw3) (trips12 H) v _ _
  rw [e12]
  have h6 := Scf.wp_for_bind frame (wpE (defs₀ (F := F)) Variants.none (c : Thread nD τ) none) Set.univ (k0_t6_loop v0 v1).lb (k0_t6_loop v0 v1).ub (k0_t6_loop v0 v1).st (k0_t6_ok v0 v1 hw3) 0#32
    (k0_t6_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3 io) (fun n _ => Main (K := K) c kvt x3 f8 fl f12 f13 f14 io q h n)
    (fun t u => t6_step c i kvt x3 f8 fl f12 f13 f14 io q H h tb hw3 t u)
    (kk := (fun _ => Scf.Loop.for k0_t18_loop k0_t18_ok () (k0_t18_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3) >>= fun _ => Prog.ret PUnit.unit))
    (Q := fun _ => Finished c kvt x3 f8 fl f12 f13 f14 io q h K)
  have h18 := Scf.wp_for_bind frame (wpE (defs₀ (F := F)) Variants.none (c : Thread nD τ) none) Set.univ k0_t18_loop.lb k0_t18_loop.ub k0_t18_loop.st k0_t18_ok ()
    (k0_t18_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v0 v1 hw3) (fun n _ => Drain c f8 h (blockAt c kvt x3 f8 fl f12 f13 f14 io) K n)
    (fun t u => t18_step c i f8 h (blockAt c kvt x3 f8 fl f12 f13 f14 io) H tb hw3 t u)
    (kk := fun _ => Prog.ret PUnit.unit)
    (Q := fun _ => Finished c kvt x3 f8 fl f12 f13 f14 io q h K)
  have e6 : Scf.trips (k0_t6_loop v0 v1).lb (k0_t6_loop v0 v1).ub (k0_t6_loop v0 v1).st = K := trips6 H
  have e18 : Scf.trips k0_t18_loop.lb k0_t18_loop.ub k0_t18_loop.st = 2 := trips18
  rw [e6] at h6
  rw [e18] at h18
  iintro HM
  iapply h6 $$ HM
  iintro %acc HM
  have i0 : (InAt c kvt x3 f8 K K : sProp 𝕄) = InRest c kvt x3 K := by unfold InAt; rw [if_neg (by omega)]
  have i1 : (InAt c kvt x3 f8 K (K + 1) : sProp 𝕄) = InRest c kvt x3 (K + 1) := by unfold InAt; rw [if_neg (by omega)]
  have i2 : (InAt c kvt x3 f8 K (K + 2) : sProp 𝕄) = InRest c kvt x3 (K + 2) := by unfold InAt; rw [if_neg (by omega)]
  have o0 : (OutAt c kvt x3 f8 fl f12 f13 f14 io K : sProp 𝕄) = OutEnd c f8 (blockAt c kvt x3 f8 fl f12 f13 f14 io) K 0 0 := by
    unfold OutAt OutEnd; rw [if_neg (by omega), if_pos (by omega), ← r2_add (K - (2 - 0)), show K - (2 - 0) + 2 = K by omega]
  have o1 : (OutAt c kvt x3 f8 fl f12 f13 f14 io (K + 1) : sProp 𝕄) = OutEnd c f8 (blockAt c kvt x3 f8 fl f12 f13 f14 io) K 1 0 := by
    unfold OutAt OutEnd; rw [if_neg (by omega), if_pos (by omega), ← r2_add (K - (2 - 1)), show K - (2 - 1) + 2 = K + 1 by omega, show K + 1 - 2 = K - (2 - 1) by omega]
  have z0 : (OutEnd c f8 (blockAt c kvt x3 f8 fl f12 f13 f14 io) K 0 2 : sProp 𝕄) = oIdle (F := F) c (r2 (K - 2)) := by
    unfold OutEnd; rw [if_neg (by omega)]
  have z1 : (OutEnd c f8 (blockAt c kvt x3 f8 fl f12 f13 f14 io) K 1 2 : sProp 𝕄) = oIdle (F := F) c (r2 (K - 2 + 1)) := by
    unfold OutEnd; rw [if_neg (by omega), show K - (2 - 1) = K - 2 + 1 by omega]
  have hM : (Main (K := K) c kvt x3 f8 fl f12 f13 f14 io q h K : sProp 𝕄) ⊢ iprop(((c : Thread nD τ).loc cc0_scratch8 ↦{fullShare} f8) ∗ ((c : Thread nD τ).loc main_arg5 ↦{q} fl) ∗ Prepared c f12 f13 f14
    ∗ (∃ W, owes (c : Thread nD τ) 0 W)
    ∗ InRest c kvt x3 K ∗ InRest c kvt x3 (K + 1) ∗ InRest c kvt x3 (K + 2) ∗ InRest c kvt x3 (K + 3)
    ∗ OutEnd c f8 (blockAt c kvt x3 f8 fl f12 f13 f14 io) K 0 0 ∗ OutEnd c f8 (blockAt c kvt x3 f8 fl f12 f13 f14 io) K 1 0
    ∗ rowsTodo (F := F) c h (32 * K) ∗ rowsDone c h (blockAt c kvt x3 f8 fl f12 f13 f14 io) (32 * (K - 2))) := by
    unfold Main; rw [i0, i1, i2, o0, o1]
  ihave HM := hM $$ HM
  icases HM with ⟨HT, HL, HP, HW, Hi0, Hi1, Hi2, Hi3, Ho0, Ho1, Htodo, Hdone⟩
  iapply h18 $$ [HT HW Ho0 Ho1 Hdone]
  · unfold Drain
    isplitl [HT]; · iexact HT
    isplitl [HW]; · iexact HW
    isplitl [Ho0]; · iexact Ho0
    isplitl [Ho1]; · iexact Ho1
    iexact Hdone
  unfold Drain
  rw [z0, z1, show K - (2 - 2) = K by omega]
  iintro %acc2 ⟨HT, HW, Ho0, Ho1, Hdone⟩
  iapply (le_wp_ret _ _)
  unfold Finished
  isplitl [HT]; · iexact HT
  isplitl [HL]; · iexact HL
  isplitl [HP]; · iexact HP
  isplitl [HW]; · iexact HW
  isplitl [Hi0 Hi1 Hi2 Hi3]
  · iapply (four (fun r : Fin 4 => iprop(kvIdle c kvt r ∗ xIdle c x3 r)) K)
    unfold InRest
    isplitl [Hi0]; · iexact Hi0
    isplitl [Hi1]; · iexact Hi1
    isplitl [Hi2]; · iexact Hi2
    iexact Hi3
  isplitl [Ho0 Ho1]
  · iapply (both (fun r : Fin 2 => oIdle (F := F) c r) (K - 2))
    isplitl [Ho0]; · iexact Ho0
    iexact Ho1
  iexact Hdone
end

end Cert.KernelIdeal.Hand

end
-- ==== Proof.Build.lean ====
/-
  The table building loop, the filling up with empty slots, and the first three steps' input copies.
-/
module

public import proofs.«01_k».proof.Proof.Drain

@[expose] public section

noncomputable section

namespace Cert.KernelIdeal.Hand

open Cert.KernelIdeal Cert.KernelIdeal.Gen Cert.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords)

/-- A store of one word of the slot table. -/
theorem wp_wordStore {α : Type} {off : Fin 1 → ℕ} {inb} {σ : ℕ} (h : off = ![σ]) {v : BitVec 32} {hx hm}
    {f : Buf (Elt F) ((c : Thread nD τ).loc cc0_scratch8)} {k : PUnit → Prog (TpuEff nD τ sig (Elt F) Λ₀ .tc) α} {Q : α → sProp 𝕄} :
    ((c : Thread nD τ).loc cc0_scratch8 ↦{fullShare} f)
      ⊢ iprop((∀ f', ⌜cellN c f' σ = v ∧ ∀ σ', σ' ≠ σ → cellN c f' σ' = cellN c f σ'⌝ -∗ ((c : Thread nD τ).loc cc0_scratch8 ↦{fullShare} f') -∗ wp frame (wpE (defs₀ (F := F)) Variants.none (c : Thread nD τ) none) Set.univ (k ⟨⟩) (Q))
        -∗ wp frame (wpE (defs₀ (F := F)) Variants.none (c : Thread nD τ) none) Set.univ (.op (.store (Memref.whole cc0_scratch8) (Rect.unit (s := S2680) off S1.size inb) (fun _ => v) Finset.univ hx hm) k) (Q)) := by
  subst h
  have hσ : σ < 2680 := by have := inb 0; simp [Shape.ofList] at this; omega
  iintro H Hk
  iapply (wp_store Variants.none (c : Thread nD τ) none Set.univ (m := Memref.whole cc0_scratch8)
    (r := Rect.unit (s := S2680) ![σ] S1.size inb) (f := f) (S := Finset.univ) (Finset.subset_univ _)) $$ [H]
  · iexact H
  iintro H
  ihave Hk := Hk $$ %_
  have hemb : ∀ x, ((Memref.whole cc0_scratch8).access (Rect.unit (s := S2680) ![σ] S1.size inb)).emb x = idx1 σ hσ := by
    intro x
    funext a
    have ha : a = (0 : Fin 1) := Subsingleton.elim (α := Fin 1) a 0
    subst ha
    apply Fin.ext
    have hx : (x 0).val = 0 := by have := (x 0).isLt; exact Nat.lt_one_iff.1 this
    show σ + 1 * (x 0).val = σ
    omega
  iapply Hk $$ [] [H]
  rotate_left
  · iexact H
  ipureintro
  refine ⟨?_, fun σ' hne => ?_⟩
  · unfold cellN
    rw [dif_pos hσ]
    have e := hemb (idx1 (n := 1) 0 (by decide))
    conv => lhs; rw [← e]
    rw [View.write_emb_of_mem _ _ (Finset.mem_univ _)]
    rfl
  · unfold cellN
    by_cases h' : σ' < 2680
    · rw [dif_pos h', dif_pos h']
      refine View.write_of_not_mem _ _ _ ?_
      intro hm
      rw [View.setOn_univ] at hm
      obtain ⟨x, -, hx⟩ := Finset.mem_map.1 hm
      rw [hemb] at hx
      have := congrArg (fun (z : (⟨1, ![2680]⟩ : Shape).Idx) => (z 0).val) hx
      exact hne this.symm
    · rw [dif_neg h', dif_neg h']

/-! ## The building loop in numbers -/

/-- The word the loop carries for the waiting row. -/
def pendW : Option ℕ → BitVec 32
  | none => 4294967295#32
  | some p => nat p

theorem pendW_sge {T : ℕ → BitVec 32} {long : ℕ → Prop} {j n : ℕ} {pend : Option ℕ} (h : Built long T j n pend) :
    Scalar.cmpi .sge (pendW pend) 0#32 = BitVec.ofBool pend.isSome := by
  cases pend with
  | none => decide
  | some p =>
    have := (h.hp p rfl).1
    have := h.hi
    rw [show (0#32 : BitVec 32) = nat 0 from rfl, pendW, cmpi_sge_nat (by omega) (by omega)]
    simp

/-- Whether row `b` is long. -/
def isLong (fl : Buf (Elt F) ((c : Thread nD τ).loc main_arg5)) (b : ℕ) : Prop := Scalar.cmpi .sgt (lenN c fl b) 128#32 = 1#1

theorem build_step {T T' : ℕ → BitVec 32} {long : ℕ → Prop} {j n : ℕ} {pend : Option ℕ} (h : Built long T j n pend) (hj : j < 2600)
    {lb : BitVec 1} (hl : long j ↔ lb = 1#1) (hT : ∀ σ < n, T' σ = T σ)
    (hw : T' n = Scalar.select lb (Scalar.ori (Scalar.ori (nat j) (Scalar.shli (nat j) 12#32)) 33554432#32)
      (Scalar.ori (Scalar.ori (pendW pend) (Scalar.shli (nat j) 12#32)) 16777216#32)) :
    ∃ n' pend', Built long T' (j + 1) n' pend'
      ∧ Scalar.addi (nat n) (Scalar.select (Scalar.ori lb (Scalar.cmpi .sge (pendW pend) 0#32)) 1#32 0#32) = nat n'
      ∧ Scalar.select lb (pendW pend) (Scalar.select (Scalar.cmpi .sge (pendW pend) 0#32) 4294967295#32 (nat j)) = pendW pend' := by
  rw [pendW_sge h]
  have hb : ∀ lb : BitVec 1, lb = 0#1 ∨ lb = 1#1 := by decide
  have o1 : Scalar.select (Scalar.ori (0#1) (BitVec.ofBool true)) 1#32 0#32 = 1#32 := by decide
  have o2 : Scalar.select (Scalar.ori (1#1) (BitVec.ofBool true)) 1#32 0#32 = 1#32 := by decide
  have o3 : Scalar.select (Scalar.ori (1#1) (BitVec.ofBool false)) 1#32 0#32 = 1#32 := by decide
  have o4 : Scalar.select (Scalar.ori (0#1) (BitVec.ofBool false)) 1#32 0#32 = 0#32 := by decide
  rcases hb lb with rfl | rfl
  · have hnl : ¬ long j := fun e => absurd (hl.1 e) (by decide)
    have hw' : T' n = Scalar.ori (Scalar.ori (pendW pend) (Scalar.shli (nat j) 12#32)) 16777216#32 := hw
    cases pend with
    | none => exact ⟨n, some j, h.stepWait hj hT hnl, by rw [Option.isSome_none, o4]; exact addi_nat n 0, rfl⟩
    | some p =>
      have := (h.hp p rfl).1
      refine ⟨n + 1, none, h.stepPair hj hT ?_ hnl, by rw [Option.isSome_some, o1]; exact addi_nat n 1, rfl⟩
      rw [hw', ← word_eq (a := p) (b := j) (k := 1) (by omega) (by omega) (by omega)]
      rfl
  · have hnl : long j := hl.2 rfl
    have hw' : T' n = Scalar.ori (Scalar.ori (nat j) (Scalar.shli (nat j) 12#32)) 33554432#32 := hw
    refine ⟨n + 1, pend, h.stepLong hj hT ?_ hnl, ?_, rfl⟩
    · rw [hw', ← word_eq (a := j) (b := j) (k := 2) (by omega) (by omega) (by omega)]
    · cases pend
      · rw [Option.isSome_none, o3]; exact addi_nat n 1
      · rw [Option.isSome_some, o2]; exact addi_nat n 1

section
variable
  (kvt : Buf (Elt F) ((c : Thread nD τ).loc main_v0)) (x3 : Buf (Elt F) ((c : Thread nD τ).loc main_v1))
  (fl : Buf (Elt F) ((c : Thread nD τ).loc main_arg5)) (q : PosShare TreeShare)

/-- The state of the building loop before row `j`. -/
def Making (j : ℕ) (acc : BitVec 32 × BitVec 32) : sProp 𝕄 :=
  iprop(∃ (f8 : Buf (Elt F) ((c : Thread nD τ).loc cc0_scratch8)) (n : ℕ) (pend : Option ℕ),
    ⌜Built (isLong c fl) (cellN c f8) j n pend ∧ acc = (nat n, pendW pend)⌝
      ∗ ((c : Thread nD τ).loc cc0_scratch8 ↦{fullShare} f8) ∗ ((c : Thread nD τ).loc main_arg5 ↦{q} fl))

theorem t1_step (t1 : Fin k0_t1_loop.trips) (acc : BitVec 32 × BitVec 32) :
    Making c fl q t1.val acc ⊢ wp frame (wpE (defs₀ (F := F)) Variants.none (c : Thread nD τ) none) Set.univ (k0_t1_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 0#32 4294967295#32 0#32 t1 acc) (fun acc' => Making c fl q (t1.val + 1) acc') := by
  have ht : t1.val < 2600 := t1.isLt.trans_eq trips1
  unfold Making
  iintro ⟨%f8, %n, %pend, %hb, HT, HL⟩
  obtain ⟨hb, rfl⟩ := hb
  have hn : n < 2600 := by have := hb.le; omega
  unfold k0_t1_body
  simp only [bind_assoc, Prog.bind_lift, Prog.bind_ret, Prog.bind_op, Prog.pure_eq_ret]
  iapply (wp_check c (chk1_ok hn))
  iapply (wp_len c (off1_eq t1)) $$ HL
  iintro HL
  have h2 : k0_off2 (nat n) = ![n] := by show ![(nat n).toNat] = _; rw [toNat_nat (by omega)]
  iapply (wp_word c h2) $$ HT
  iintro HT
  iapply (wp_wordStore c h2) $$ HT
  iintro %f8' %hf HT
  iapply (le_wp_ret _ _)
  obtain ⟨hf1, hf2⟩ := hf
  rw [iv01] at hf1
  obtain ⟨n', pend', h1, e1, e2⟩ := build_step hb ht (lb := Scalar.cmpi .sgt (lenN c fl t1.val) 128#32) Iff.rfl (fun σ hσ => hf2 σ (by omega)) hf1
  iexists f8', n', pend'
  isplitr [HT HL]
  · ipureintro
    refine ⟨h1, ?_⟩
    rw [iv01]
    exact Prod.ext e1 e2
  isplitl [HT]; · iexact HT
  iexact HL

/-- The state while `j` of the sixteen empty slots are written behind the `N` slots. -/
def Filling (N j : ℕ) : sProp 𝕄 :=
  iprop(∃ (f8 : Buf (Elt F) ((c : Thread nD τ).loc cc0_scratch8)),
    ⌜Built (isLong c fl) (cellN c f8) 2600 N none ∧ ∀ σ, N ≤ σ → σ < N + j → cellN c f8 σ = word 0 0 3⌝
      ∗ ((c : Thread nD τ).loc cc0_scratch8 ↦{fullShare} f8))

theorem t2_step {v0 v1 : BitVec 32} {N K : ℕ} (H : Built' v0 v1 N K) (hw3 : k0_chk3 v0 v1) (t2 : Fin k0_t2_loop.trips) (u : Unit) :
    Filling c fl N t2.val ⊢ wp frame (wpE (defs₀ (F := F)) Variants.none (c : Thread nD τ) none) Set.univ (k0_t2_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 0#32 4294967295#32 0#32 v0 v1 hw3 t2 u) (fun _ => Filling c fl N (t2.val + 1)) := by
  unfold Filling
  iintro ⟨%f8, %hb, HT⟩
  unfold k0_t2_body
  simp only [bind_assoc, Prog.bind_lift, Prog.bind_ret, Prog.bind_op, Prog.pure_eq_ret]
  iapply (wp_word c (off4_eq H t2)) $$ HT
  iintro HT
  iapply (wp_wordStore c (off4_eq H t2)) $$ HT
  iintro %f8' %hf HT
  iapply (le_wp_ret _ _)
  iexists f8'
  isplitr [HT]
  · ipureintro
    refine ⟨hb.1.congr fun σ hσ => hf.2 σ (by omega), fun σ h1 h2 => ?_⟩
    by_cases hc : σ = N + t2.val
    · subst hc; exact hf.1
    · rw [hf.2 σ hc]; exact hb.2 σ h1 (by omega)
  iexact HT

section
variable (f8 : Buf (Elt F) ((c : Thread nD τ).loc cc0_scratch8)) {v0 v1 : BitVec 32} {N K : ℕ}

theorem t4_all (H : Built' v0 v1 N K) (tb : RowsOK c f8 K) (t3 : Fin k0_t3_loop.trips) (arg21 : BitVec 32) (h1 : k0_cond1 v0 v1 t3 = 1#1)
    {α : Type} {k : Unit → Prog (TpuEff nD τ sig (Elt F) Λ₀ .tc) α} {Q : α → sProp 𝕄} :
    InIss c kvt x3 f8 (r4 t3.val) t3.val 0
      ⊢ iprop((∀ acc, InIss c kvt x3 f8 (r4 t3.val) t3.val 32 -∗ wp frame (wpE (defs₀ (F := F)) Variants.none (c : Thread nD τ) none) Set.univ (k acc) (Q))
        -∗ wp frame (wpE (defs₀ (F := F)) Variants.none (c : Thread nD τ) none) Set.univ (Scf.Loop.for k0_t4_loop k0_t4_ok ⟨⟩ (k0_t4_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 0#32 4294967295#32 0#32 v0 v1 t3 arg21 h1) >>= k) (Q)) := by
  have ht : t3.val < 3 := t3.isLt.trans_eq trips3
  have := Scf.wp_for_bind frame (wpE (defs₀ (F := F)) Variants.none (c : Thread nD τ) none) Set.univ k0_t4_loop.lb k0_t4_loop.ub k0_t4_loop.st k0_t4_ok ()
    (k0_t4_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 0#32 4294967295#32 0#32 v0 v1 t3 arg21 h1) (fun n _ => InIss c kvt x3 f8 (r4 t3.val) t3.val (2 * n))
    (fun t u => t4_step c i kvt x3 f8 H tb t3 arg21 h1 0#32 4294967295#32 0#32 (r4 t3.val) (by show t3.val % 4 = _; omega) t u) (kk := k) (Q := Q)
  exact this

/-- Step `j`'s inputs: started if `j < n`. -/
def St (K j n : ℕ) : sProp 𝕄 := if j < n then InAt c kvt x3 f8 K j else InRest c kvt x3 j

def Starting (K n : ℕ) : sProp 𝕄 :=
  iprop(((c : Thread nD τ).loc cc0_scratch8 ↦{fullShare} f8) ∗ St c kvt x3 f8 K 0 n ∗ St c kvt x3 f8 K 1 n ∗ St c kvt x3 f8 K 2 n)

theorem start_one (H : Built' v0 v1 N K) (tb : RowsOK c f8 K) (t3 : Fin k0_t3_loop.trips) (u : Unit) {Q : Unit → sProp 𝕄} :
    iprop(((c : Thread nD τ).loc cc0_scratch8 ↦{fullShare} f8) ∗ InRest c kvt x3 t3.val)
      ⊢ iprop(((((c : Thread nD τ).loc cc0_scratch8 ↦{fullShare} f8) ∗ InAt c kvt x3 f8 K t3.val) -∗ Q ()) -∗ wp frame (wpE (defs₀ (F := F)) Variants.none (c : Thread nD τ) none) Set.univ (k0_t3_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 0#32 4294967295#32 0#32 v0 v1 t3 u) (Q)) := by
  have ht : t3.val < 3 := t3.isLt.trans_eq trips3
  have hlo := H.lo
  have hx : k0_cond1 v0 v1 t3 = 1#1 := (cond1_iff H t3).2 (by omega)
  unfold k0_t3_body
  simp only [bind_assoc, Prog.bind_lift, Prog.bind_ret, Prog.bind_op, Prog.pure_eq_ret]
  rw [dif_pos hx]
  try simp only [bind_assoc, Prog.bind_lift, Prog.bind_ret, Prog.bind_op, Prog.pure_eq_ret]
  unfold InRest
  iintro ⟨HT, Hk, Hx⟩ HQ
  imod (kvIss_zero c kvt (cellN c f8) (r4 t3.val) t3.val) $$ Hk with Hk
  imod (xIss_zero c x3 (cellN c f8) (r4 t3.val) t3.val) $$ Hx with Hx
  iapply (t4_all c i kvt x3 f8 H tb t3 _ hx) $$ [HT Hk Hx]
  · unfold InIss
    isplitl [HT]; · iexact HT
    isplitl [Hk]; · iexact Hk
    iexact Hx
  unfold InIss
  iintro %acc ⟨HT, Hk, Hx⟩
  ihave Hk := (kvIss_all c kvt (cellN c f8) (r4 t3.val) t3.val) $$ Hk
  ihave Hx := (xIss_all c x3 (cellN c f8) (r4 t3.val) t3.val) $$ Hx
  iapply (le_wp_ret _ _)
  iapply HQ
  unfold InAt
  rw [if_pos (show t3.val < K by omega)]
  isplitl [HT]; · iexact HT
  isplitl [Hk]; · iexact Hk
  iexact Hx

theorem St_lo {j n : ℕ} (h : j < n) : (St c kvt x3 f8 K j n : sProp 𝕄) = InAt c kvt x3 f8 K j := if_pos h
theorem St_hi {j n : ℕ} (h : ¬ j < n) : (St c kvt x3 f8 K j n : sProp 𝕄) = InRest c kvt x3 j := if_neg h

theorem t3_step (H : Built' v0 v1 N K) (tb : RowsOK c f8 K) (t3 : Fin k0_t3_loop.trips) (u : Unit) :
    Starting c kvt x3 f8 K t3.val ⊢ wp frame (wpE (defs₀ (F := F)) Variants.none (c : Thread nD τ) none) Set.univ (k0_t3_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 0#32 4294967295#32 0#32 v0 v1 t3 u) (fun _ => Starting c kvt x3 f8 K (t3.val + 1)) := by
  have ht : t3.val < 3 := t3.isLt.trans_eq trips3
  have hs := start_one c i kvt x3 f8 H tb t3 u (Q := fun _ => Starting c kvt x3 f8 K (t3.val + 1))
  have hcase : t3.val = 0 ∨ t3.val = 1 ∨ t3.val = 2 := by omega
  unfold Starting at hs ⊢
  rcases hcase with h | h | h
  · rw [h] at hs ⊢
    rw [St_hi c kvt x3 f8 (j := 0) (n := 0) (by omega), St_hi c kvt x3 f8 (j := 1) (n := 0) (by omega), St_hi c kvt x3 f8 (j := 2) (n := 0) (by omega)]
    iintro ⟨HT, H0, H1, H2⟩
    iapply hs $$ [HT H0]
    · isplitl [HT]; · iexact HT
      iexact H0
    iintro ⟨HT, H0⟩
    rw [St_lo c kvt x3 f8 (j := 0) (n := 0 + 1) (by omega), St_hi c kvt x3 f8 (j := 1) (n := 0 + 1) (by omega), St_hi c kvt x3 f8 (j := 2) (n := 0 + 1) (by omega)]
    isplitl [HT]; · iexact HT
    isplitl [H0]; · iexact H0
    isplitl [H1]; · iexact H1
    iexact H2
  · rw [h] at hs ⊢
    rw [St_lo c kvt x3 f8 (j := 0) (n := 1) (by omega), St_hi c kvt x3 f8 (j := 1) (n := 1) (by omega), St_hi c kvt x3 f8 (j := 2) (n := 1) (by omega)]
    iintro ⟨HT, H0, H1, H2⟩
    iapply hs $$ [HT H1]
    · isplitl [HT]; · iexact HT
      iexact H1
    iintro ⟨HT, H1⟩
    rw [St_lo c kvt x3 f8 (j := 0) (n := 1 + 1) (by omega), St_lo c kvt x3 f8 (j := 1) (n := 1 + 1) (by omega), St_hi c kvt x3 f8 (j := 2) (n := 1 + 1) (by omega)]
    isplitl [HT]; · iexact HT
    isplitl [H0]; · iexact H0
    isplitl [H1]; · iexact H1
    iexact H2
  · rw [h] at hs ⊢
    rw [St_lo c kvt x3 f8 (j := 0) (n := 2) (by omega), St_lo c kvt x3 f8 (j := 1) (n := 2) (by omega), St_hi c kvt x3 f8 (j := 2) (n := 2) (by omega)]
    iintro ⟨HT, H0, H1, H2⟩
    iapply hs $$ [HT H2]
    · isplitl [HT]; · iexact HT
      iexact H2
    iintro ⟨HT, H2⟩
    rw [St_lo c kvt x3 f8 (j := 0) (n := 2 + 1) (by omega), St_lo c kvt x3 f8 (j := 1) (n := 2 + 1) (by omega), St_lo c kvt x3 f8 (j := 2) (n := 2 + 1) (by omega)]
    isplitl [HT]; · iexact HT
    isplitl [H0]; · iexact H0
    isplitl [H1]; · iexact H1
    iexact H2
end

theorem built_final {T T' : ℕ → BitVec 32} {long : ℕ → Prop} {n : ℕ} {pend : Option ℕ} (h : Built long T 2600 n pend)
    (hT : ∀ σ < n, T' σ = T σ) (hw : T' n = Scalar.ori (Scalar.ori (Scalar.maxsi (pendW pend) 0#32) 0#32) 0#32) :
    ∃ N K, Built' (nat n) (pendW pend) N K ∧ Built long T' 2600 N none := by
  have hge := h.ge
  have hle := h.le
  cases pend with
  | none =>
    simp only [Option.toList_none, List.length_nil] at hle hge
    refine ⟨n, stepsOf n, ⟨?_, rfl, by unfold stepsOf; omega, by unfold stepsOf; omega, by omega⟩, h.congr hT⟩
    rw [pendW_sge h]; exact addi_nat n 0
  | some p =>
    simp only [Option.toList_some, List.length_singleton] at hle hge
    have hp := (h.hp p rfl).1
    refine ⟨n + 1, stepsOf (n + 1), ⟨?_, rfl, by unfold stepsOf; omega, by unfold stepsOf; omega, by omega⟩, h.stepLast hT ?_⟩
    · rw [pendW_sge h]; exact addi_nat n 1
    · rw [hw, pendW, maxsi_nat_zero (by omega)]
      have := word_eq (a := p) (b := 0) (k := 0) (by omega) (by omega) (by omega)
      rw [← this]
      have e : Scalar.shli (nat 0) 12#32 = 0#32 := by decide
      rw [e]

theorem t1_all {α : Type} {k : BitVec 32 × BitVec 32 → Prog (TpuEff nD τ sig (Elt F) Λ₀ .tc) α} {Q : α → sProp 𝕄} :
    Making c fl q 0 (0#32, 4294967295#32)
      ⊢ iprop((∀ acc, Making c fl q 2600 acc -∗ wp frame (wpE (defs₀ (F := F)) Variants.none (c : Thread nD τ) none) Set.univ (k acc) (Q))
        -∗ wp frame (wpE (defs₀ (F := F)) Variants.none (c : Thread nD τ) none) Set.univ (Scf.Loop.for k0_t1_loop k0_t1_ok (0#32, 4294967295#32) (k0_t1_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 0#32 4294967295#32 0#32) >>= k) (Q)) := by
  have := Scf.wp_for_bind frame (wpE (defs₀ (F := F)) Variants.none (c : Thread nD τ) none) Set.univ k0_t1_loop.lb k0_t1_loop.ub k0_t1_loop.st k0_t1_ok ((0#32, 4294967295#32) : BitVec 32 × BitVec 32)
    (k0_t1_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 0#32 4294967295#32 0#32) (fun n acc => Making c fl q n acc)
    (fun t u => t1_step c i fl q t u) (kk := k) (Q := Q)
  have e1 : Scf.trips k0_t1_loop.lb k0_t1_loop.ub k0_t1_loop.st = 2600 := trips1
  rw [e1] at this
  exact this

theorem t2_all {v0 v1 : BitVec 32} {N K : ℕ} (H : Built' v0 v1 N K) (hw3 : k0_chk3 v0 v1) {α : Type} {k : Unit → Prog (TpuEff nD τ sig (Elt F) Λ₀ .tc) α} {Q : α → sProp 𝕄} :
    Filling c fl N 0
      ⊢ iprop((∀ acc, Filling c fl N 16 -∗ wp frame (wpE (defs₀ (F := F)) Variants.none (c : Thread nD τ) none) Set.univ (k acc) (Q))
        -∗ wp frame (wpE (defs₀ (F := F)) Variants.none (c : Thread nD τ) none) Set.univ (Scf.Loop.for k0_t2_loop k0_t2_ok () (k0_t2_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 0#32 4294967295#32 0#32 v0 v1 hw3) >>= k) (Q)) := by
  have := Scf.wp_for_bind frame (wpE (defs₀ (F := F)) Variants.none (c : Thread nD τ) none) Set.univ k0_t2_loop.lb k0_t2_loop.ub k0_t2_loop.st k0_t2_ok ()
    (k0_t2_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 0#32 4294967295#32 0#32 v0 v1 hw3) (fun n _ => Filling c fl N n)
    (fun t u => t2_step c i fl H hw3 t u) (kk := k) (Q := Q)
  have e1 : Scf.trips k0_t2_loop.lb k0_t2_loop.ub k0_t2_loop.st = 16 := trips2
  rw [e1] at this
  exact this

theorem t3_all {v0 v1 : BitVec 32} {N K : ℕ} (f8 : Buf (Elt F) ((c : Thread nD τ).loc cc0_scratch8)) (H : Built' v0 v1 N K) (tb : RowsOK c f8 K) {α : Type} {k : Unit → Prog (TpuEff nD τ sig (Elt F) Λ₀ .tc) α} {Q : α → sProp 𝕄} :
    Starting c kvt x3 f8 K 0
      ⊢ iprop((∀ acc, Starting c kvt x3 f8 K 3 -∗ wp frame (wpE (defs₀ (F := F)) Variants.none (c : Thread nD τ) none) Set.univ (k acc) (Q))
        -∗ wp frame (wpE (defs₀ (F := F)) Variants.none (c : Thread nD τ) none) Set.univ (Scf.Loop.for k0_t3_loop k0_t3_ok () (k0_t3_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 0#32 4294967295#32 0#32 v0 v1) >>= k) (Q)) := by
  have := Scf.wp_for_bind frame (wpE (defs₀ (F := F)) Variants.none (c : Thread nD τ) none) Set.univ k0_t3_loop.lb k0_t3_loop.ub k0_t3_loop.st k0_t3_ok ()
    (k0_t3_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 0#32 4294967295#32 0#32 v0 v1) (fun n _ => Starting c kvt x3 f8 K n)
    (fun t u => t3_step c i kvt x3 f8 H tb t u) (kk := k) (Q := Q)
  have e1 : Scf.trips k0_t3_loop.lb k0_t3_loop.ub k0_t3_loop.st = 3 := trips3
  rw [e1] at this
  exact this

theorem part31_wp {α : Type}
    {k : (Σ' (v25_0 : BitVec 32) (v25_1 : BitVec 32) (k0_hw3 : k0_chk3 v25_0 v25_1), BitVec 32) → Prog (TpuEff nD τ sig (Elt F) Λ₀ .tc) α} {Q : α → sProp 𝕄} :
    iprop((∃ f8 : Buf (Elt F) ((c : Thread nD τ).loc cc0_scratch8), ((c : Thread nD τ).loc cc0_scratch8 ↦{fullShare} f8)) ∗ ((c : Thread nD τ).loc main_arg5 ↦{q} fl)
      ∗ InRest c kvt x3 0 ∗ InRest c kvt x3 1 ∗ InRest c kvt x3 2)
      ⊢ iprop((∀ (v0 v1 : BitVec 32) (hw3 : k0_chk3 v0 v1) (v52 : BitVec 32) (N K : ℕ) (f8 : Buf (Elt F) ((c : Thread nD τ).loc cc0_scratch8)),
          ⌜Built' v0 v1 N K ∧ Table (isLong c fl) (cellN c f8) N⌝ -∗ ((c : Thread nD τ).loc main_arg5 ↦{q} fl)
            -∗ Starting c kvt x3 f8 K 3 -∗ wp frame (wpE (defs₀ (F := F)) Variants.none (c : Thread nD τ) none) Set.univ (k ⟨v0, v1, hw3, v52⟩) (Q))
        -∗ wp frame (wpE (defs₀ (F := F)) Variants.none (c : Thread nD τ) none) Set.univ (k0_part31 (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 0#32 4294967295#32 0#32 >>= k) (Q)) := by
  rw [k0_part31_eq_skeleton]
  unfold k0_part31_skel
  simp only [bind_assoc, Prog.bind_lift, Prog.bind_ret, Prog.bind_op, Prog.pure_eq_ret]
  iintro ⟨⟨%f, HT⟩, HL, Hr⟩ Hk
  iapply (t1_all c i fl q) $$ [HT HL]
  · unfold Making
    iexists f, 0, none
    isplitr [HT HL]
    · ipureintro; exact ⟨Built.zero _ _, rfl⟩
    isplitl [HT]; · iexact HT
    iexact HL
  unfold Making
  iintro %acc ⟨%f8, %n, %pend, %hb, HT, HL⟩
  obtain ⟨hb, rfl⟩ := hb
  have hn : n < 2601 := by have := hb.le; omega
  dsimp only
  have h3 : k0_off3 (nat n) = ![n] := by show ![(nat n).toNat] = _; rw [toNat_nat (by omega)]
  obtain ⟨N, K, H, -⟩ := built_final (T' := fun σ => if σ = n then Scalar.ori (Scalar.ori (Scalar.maxsi (pendW pend) 0#32) 0#32) 0#32 else cellN c f8 σ) hb
    (fun σ hσ => if_neg (by omega)) (if_pos rfl)
  iapply (wp_check c (chk3_ok H))
  iapply (wp_check c (chk2_ok hn))
  iapply (wp_word c h3) $$ HT
  iintro HT
  iapply (wp_wordStore c h3) $$ HT
  iintro %f8' %hf HT
  obtain ⟨N, K, H, hb2⟩ := built_final hb (fun σ hσ => hf.2 σ (by omega)) hf.1
  iapply (t2_all c i fl H (chk3_ok H)) $$ [HT]
  · unfold Filling
    iexists f8'
    isplitr [HT]
    · ipureintro; exact ⟨hb2, fun σ h1 h2 => by omega⟩
    iexact HT
  unfold Filling
  iintro %acc ⟨%f9, %hb3, HT⟩
  have tbl : Table (isLong c fl) (cellN c f9) N := hb3.1.table (fun _ _ => rfl) hb3.2
  iapply (t3_all c i kvt x3 f9 H (rowsOK c f9 H tbl)) $$ [HT Hr]
  · unfold Starting
    rw [St_hi c kvt x3 f9 (j := 0) (n := 0) (by omega), St_hi c kvt x3 f9 (j := 1) (n := 0) (by omega), St_hi c kvt x3 f9 (j := 2) (n := 0) (by omega)]
    isplitl [HT]; · iexact HT
    iexact Hr
  iintro %acc2 HS
  iapply Hk $$ %(nat n) %(pendW pend) %(chk3_ok H) %_ %N %K %f9 [] [HL] [HS]
  · ipureintro; exact ⟨H, tbl⟩
  · iexact HL
  · iexact HS
end

end Cert.KernelIdeal.Hand

end
-- ==== Proof.Prep.lean ====
/-
  The queries turned: the arrays the steps read their query rows and rope keys from, filled
  from the arrays as they were copied in, tile by tile, and what each cell then holds.
-/
module

public import proofs.«01_k».proof.Proof.Build
public import Idealize.ShloMosaic.Lib.Pipeline.Value

@[expose] public section

noncomputable section

namespace Cert.KernelIdeal.Hand

open Cert.KernelIdeal Cert.KernelIdeal.Gen Cert.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords)

/-! ## Cells by number -/

/-- A cell of a two-axis array, its coordinates wrapped into range. -/
def ix {n m : ℕ} (hn : 0 < n) (hm : 0 < m) (a b : ℕ) : (⟨2, ![n, m]⟩ : Shape).Idx
  | 0 => ⟨a % n, Nat.mod_lt _ hn⟩
  | 1 => ⟨b % m, Nat.mod_lt _ hm⟩

theorem ix_of {n m : ℕ} (hn : 0 < n) (hm : 0 < m) {a b : ℕ} (x : (⟨2, ![n, m]⟩ : Shape).Idx) (h0 : (x 0).val = a) (h1 : (x 1).val = b) :
    x = ix hn hm a b := by
  funext k
  match k with
  | 0 => apply Fin.ext; subst h0; exact (Nat.mod_eq_of_lt (x 0).isLt).symm
  | 1 => apply Fin.ext; subst h1; exact (Nat.mod_eq_of_lt (x 1).isLt).symm

abbrev qrIx (a b : ℕ) : S1024x2600.Idx := ix (n := 1024) (m := 2600) (by decide) (by decide) a b
abbrev krIx (a b : ℕ) : S64x2600.Idx := ix (n := 64) (m := 2600) (by decide) (by decide) a b
abbrev q12Ix (a b : ℕ) : S21024x128.Idx := ix (n := 21024) (m := 128) (by decide) (by decide) a b
abbrev k13Ix (a b : ℕ) : S2600x128.Idx := ix (n := 2600) (m := 128) (by decide) (by decide) a b

/-! ## The turned tiles -/

/-- What the query array holds for lane `k` of pair `h` of row `b`. -/
def qTgt (fq : S1024x2600.Idx → Elt F .bf16) (h b k : ℕ) : Elt F .f32 :=
  FloatOps.extf .f32 bitsLt_bf16_f32 (fq (qrIx (64 * h + k % 64 + 512 * (k / 64)) b))
/-- What the rope key array holds for lane `k` of row `b`. -/
def kTgt (fk : S64x2600.Idx → Elt F .bf16) (b k : ℕ) : Elt F .f32 :=
  if k < 64 then FloatOps.extf .f32 bitsLt_bf16_f32 (fk (krIx k b)) else Scalar.ofBits .f32 0x00000000#32

theorem turn_at {α : Type} {R : ℕ} (v w : (⟨2, ![64, R]⟩ : Shape).Idx → α)
    (hc : Shape.Concatenates [(⟨2, ![64, R]⟩ : Shape), ⟨2, ![64, R]⟩] ⟨2, ![128, R]⟩ 0)
    (j : (⟨2, ![128, R]⟩ : Shape).Idx) {a b : ℕ} (h0 : (j 0).val = a) (h1 : (j 1).val = b) (hR : 0 < R) :
    concatenate ⟨2, ![128, R]⟩ 0 [⟨⟨2, ![64, R]⟩, v⟩, ⟨⟨2, ![64, R]⟩, w⟩] hc j
      = if a < 64 then v (ix (by decide) hR a b) else w (ix (by decide) hR (a - 64) b) := by
  have hj0 : (j 0).val < 128 := (j 0).isLt
  have hj1 : (j 1).val < R := (j 1).isLt
  subst h0 h1
  split
  · rename_i hlt
    refine concatenate_apply_piece (t := ⟨2, ![128, R]⟩) 0 [⟨⟨2, ![64, R]⟩, v⟩, ⟨⟨2, ![64, R]⟩, w⟩] hc j 0 (by simp) _ v rfl rfl 0 rfl _ ?_ ?_
    · intro b hb
      match b with
      | 0 => exact absurd rfl hb
      | 1 => show _ % R = _; rw [Nat.mod_eq_of_lt hj1]; rfl
    · show 0 + _ % 64 = _; rw [Nat.mod_eq_of_lt hlt]; omega
  · rename_i hge
    refine concatenate_apply_piece (t := ⟨2, ![128, R]⟩) 0 [⟨⟨2, ![64, R]⟩, v⟩, ⟨⟨2, ![64, R]⟩, w⟩] hc j 1 (by simp) _ w rfl rfl 64 rfl _ ?_ ?_
    · intro b hb
      match b with
      | 0 => exact absurd rfl hb
      | 1 => show _ % R = _; rw [Nat.mod_eq_of_lt hj1]; rfl
    · show 64 + _ % 64 = _; rw [Nat.mod_eq_of_lt (by omega)]; omega

theorem transpose_at {α : Type} {R C : ℕ} (x : (⟨2, ![C, R]⟩ : Shape).Idx → α) (h : (⟨2, ![C, R]⟩ : Shape).Transposes [1, 0] ⟨2, ![R, C]⟩)
    (y : (⟨2, ![R, C]⟩ : Shape).Idx) : ∃ j : (⟨2, ![C, R]⟩ : Shape).Idx, transpose ⟨2, ![R, C]⟩ [1, 0] x h y = x j ∧ (j 0).val = (y 1).val ∧ (j 1).val = (y 0).val := by
  refine ⟨fun | 0 => ⟨(y 1).val, (y 1).isLt⟩ | 1 => ⟨(y 0).val, (y 0).isLt⟩, ?_, rfl, rfl⟩
  apply transpose_apply
  intro b
  match b with
  | 0 => rfl
  | 1 => rfl

/-- The raw tile read from row `o0`, column `o1`. -/
abbrev rawV {R : ℕ} (fq : S1024x2600.Idx → Elt F .bf16) (o0 o1 : ℕ) : (⟨2, ![64, R]⟩ : Shape).Idx → Elt F .bf16 :=
  fun x => fq (qrIx (o0 + (x 0).val) (o1 + (x 1).val))
abbrev rawK {R : ℕ} (fk : S64x2600.Idx → Elt F .bf16) (o1 : ℕ) : (⟨2, ![64, R]⟩ : Shape).Idx → Elt F .bf16 :=
  fun x => fk (krIx (0 + (x 0).val) (o1 + (x 1).val))

theorem pay7_at (fq : S1024x2600.Idx → Elt F .bf16) (h n : ℕ) (hh : h < 8) (hn : n + 128 ≤ 2600) (y : S128x128.Idx) :
    k0_pay7 (F := F) (rawV (R := 128) fq (64 * h) n) (rawV (R := 128) fq (512 + 64 * h) n) y = qTgt fq h (n + (y 0).val) (y 1).val := by
  have hy0 : (y 0).val < 128 := (y 0).isLt
  have hy1 : (y 1).val < 128 := (y 1).isLt
  unfold k0_pay7
  simp only [shapeCast_self]
  obtain ⟨j, e, j0, j1⟩ := transpose_at (R := 128) (C := 128) (extf .f32 (concatenate S128x128 0 [⟨S64x128, rawV (R := 128) fq (64 * h) n⟩, ⟨S64x128, rawV (R := 128) fq (512 + 64 * h) n⟩] concatenates_S64x128_S64x128_S128x128_d0) bitsLt_bf16_f32) transposes_S128x128_p1_0_S128x128 y
  refine e.trans ?_
  show FloatOps.extf .f32 bitsLt_bf16_f32 _ = _
  unfold qTgt
  congr 1
  refine (turn_at _ _ concatenates_S64x128_S64x128_S128x128_d0 j j0 j1 (by decide)).trans ?_
  split
  · show fq _ = fq _
    congr 1
    apply ix_of
    · show (64 * h + _ % 64) % 1024 = _
      omega
    · show (n + _ % 128) % 2600 = _
      omega
  · show fq _ = fq _
    congr 1
    apply ix_of
    · show (512 + 64 * h + _ % 64) % 1024 = _
      omega
    · show (n + _ % 128) % 2600 = _
      omega

theorem pay147_at (fq : S1024x2600.Idx → Elt F .bf16) (h n : ℕ) (hh : h < 8) (hn : n + 40 ≤ 2600) (y : S40x128.Idx) :
    k0_pay147 (F := F) (rawV (R := 40) fq (64 * h) n) (rawV (R := 40) fq (512 + 64 * h) n) y = qTgt fq h (n + (y 0).val) (y 1).val := by
  have hy0 : (y 0).val < 40 := (y 0).isLt
  have hy1 : (y 1).val < 128 := (y 1).isLt
  unfold k0_pay147
  simp only [shapeCast_self]
  obtain ⟨j, e, j0, j1⟩ := transpose_at (R := 40) (C := 128) (extf .f32 (concatenate S128x40 0 [⟨S64x40, rawV (R := 40) fq (64 * h) n⟩, ⟨S64x40, rawV (R := 40) fq (512 + 64 * h) n⟩] concatenates_S64x40_S64x40_S128x40_d0) bitsLt_bf16_f32) transposes_S128x40_p1_0_S40x128 y
  refine e.trans ?_
  show FloatOps.extf .f32 bitsLt_bf16_f32 _ = _
  unfold qTgt
  congr 1
  refine (turn_at _ _ concatenates_S64x40_S64x40_S128x40_d0 j j0 j1 (by decide)).trans ?_
  split
  · show fq _ = fq _
    congr 1
    apply ix_of
    · show (64 * h + _ % 64) % 1024 = _
      omega
    · show (n + _ % 40) % 2600 = _
      omega
  · show fq _ = fq _
    congr 1
    apply ix_of
    · show (512 + 64 * h + _ % 64) % 1024 = _
      omega
    · show (n + _ % 40) % 2600 = _
      omega

theorem pay146_at (fk : S64x2600.Idx → Elt F .bf16) (n : ℕ) (hn : n + 128 ≤ 2600) (y : S128x128.Idx) :
    k0_pay146 (F := F) (rawK (R := 128) fk n) y = kTgt fk (n + (y 0).val) (y 1).val := by
  have hy0 : (y 0).val < 128 := (y 0).isLt
  have hy1 : (y 1).val < 128 := (y 1).isLt
  unfold k0_pay146
  simp only [shapeCast_self]
  obtain ⟨j, e, j0, j1⟩ := transpose_at (R := 128) (C := 128) (concatenate S128x128 0 [⟨S64x128, extf .f32 (rawK (R := 128) fk n) bitsLt_bf16_f32⟩, ⟨S64x128, broadcast S64x128 (Scalar.ofBits .f32 0x00000000#32)⟩] concatenates_S64x128_S64x128_S128x128_d0) transposes_S128x128_p1_0_S128x128 y
  refine e.trans ?_
  refine (turn_at _ _ concatenates_S64x128_S64x128_S128x128_d0 j j0 j1 (by decide)).trans ?_
  unfold kTgt
  split
  · show FloatOps.extf .f32 bitsLt_bf16_f32 _ = FloatOps.extf .f32 bitsLt_bf16_f32 _
    congr 1
    show fk _ = fk _
    congr 1
    apply ix_of
    · show (0 + _ % 64) % 64 = _
      omega
    · show (n + _ % 128) % 2600 = _
      omega
  · rfl

theorem pay2_at (fk : S64x2600.Idx → Elt F .bf16) (n : ℕ) (hn : n + 40 ≤ 2600) (y : S40x128.Idx) :
    k0_pay2 (F := F) (rawK (R := 40) fk n) y = kTgt fk (n + (y 0).val) (y 1).val := by
  have hy0 : (y 0).val < 40 := (y 0).isLt
  have hy1 : (y 1).val < 128 := (y 1).isLt
  unfold k0_pay2
  simp only [shapeCast_self]
  obtain ⟨j, e, j0, j1⟩ := transpose_at (R := 40) (C := 128) (concatenate S128x40 0 [⟨S64x40, extf .f32 (rawK (R := 40) fk n) bitsLt_bf16_f32⟩, ⟨S64x40, broadcast S64x40 (Scalar.ofBits .f32 0x00000000#32)⟩] concatenates_S64x40_S64x40_S128x40_d0) transposes_S128x40_p1_0_S40x128 y
  refine e.trans ?_
  refine (turn_at _ _ concatenates_S64x40_S64x40_S128x40_d0 j j0 j1 (by decide)).trans ?_
  unfold kTgt
  split
  · show FloatOps.extf .f32 bitsLt_bf16_f32 _ = FloatOps.extf .f32 bitsLt_bf16_f32 _
    congr 1
    show fk _ = fk _
    congr 1
    apply ix_of
    · show (0 + _ % 64) % 64 = _
      omega
    · show (n + _ % 40) % 2600 = _
      omega
  · rfl

/-! ## The arrays as they fill -/

/-- The query array holds its target for every row below `n`, and for the next `R` rows for the pairs below `j`. -/
def QG (fq : S1024x2600.Idx → Elt F .bf16) (f12 : S21024x128.Idx → Elt F .f32) (n R j : ℕ) : Prop :=
  ∀ h b k, h < 8 → b < 2600 → k < 128 → (b < n ∨ (h < j ∧ b < n + R)) → f12 (q12Ix (2628 * h + b) k) = qTgt fq h b k
/-- The rope key array holds its target for every row below `n`. -/
def KG (fk : S64x2600.Idx → Elt F .bf16) (f13 : S2600x128.Idx → Elt F .f32) (n : ℕ) : Prop :=
  ∀ b k, b < 2600 → k < 128 → b < n → f13 (k13Ix b k) = kTgt fk b k

def QAt (fq : S1024x2600.Idx → Elt F .bf16) (n R j : ℕ) : sProp 𝕄 :=
  iprop(∃ f12 : Buf (Elt F) ((c : Thread nD τ).loc cc0_scratch4), ⌜QG fq f12 n R j⌝ ∗ ((c : Thread nD τ).loc cc0_scratch4 ↦{fullShare} f12))
def KAt (fk : S64x2600.Idx → Elt F .bf16) (n : ℕ) : sProp 𝕄 :=
  iprop(∃ f13 : Buf (Elt F) ((c : Thread nD τ).loc cc0_scratch5), ⌜KG fk f13 n⌝ ∗ ((c : Thread nD τ).loc cc0_scratch5 ↦{fullShare} f13))
/-- The raw arrays, as copied in. -/
def R10 (fq : S1024x2600.Idx → Elt F .bf16) : sProp 𝕄 := (c : Thread nD τ).loc cc0_scratch2 ↦{fullShare} fq
def R11 (fk : S64x2600.Idx → Elt F .bf16) : sProp 𝕄 := (c : Thread nD τ).loc cc0_scratch3 ↦{fullShare} fk

theorem QAt_next {fq : S1024x2600.Idx → Elt F .bf16} {n R R' m : ℕ} (h : n + R = m) : QAt c fq n R 8 ⊢ QAt c fq m R' 0 := by
  unfold QAt
  iintro ⟨%f, %hf, H⟩
  iexists f
  isplitr
  · ipureintro
    intro h b k hh hb hk hP
    exact hf h b k hh hb hk (by omega)
  iexact H
theorem QAt_switch {fq : S1024x2600.Idx → Elt F .bf16} {n R R' : ℕ} : QAt c fq n R 0 ⊢ QAt c fq n R' 0 := by
  unfold QAt
  iintro ⟨%f, %hf, H⟩
  iexists f
  isplitr
  · ipureintro
    intro h b k hh hb hk hP
    exact hf h b k hh hb hk (by omega)
  iexact H

theorem wp_loadRaw {α : Type} {off : Fin 2 → ℕ} {R : ℕ} {o0 o1 : ℕ} (h : off = ![o0, o1]) {inb hl}
    {fq : S1024x2600.Idx → Elt F .bf16} {k : ((⟨2, ![64, R]⟩ : Shape).Idx → Elt F .bf16) → Prog (TpuEff nD τ sig (Elt F) Λ₀ .tc) α} {Q : α → sProp 𝕄} :
    R10 c fq
      ⊢ iprop((R10 c fq -∗ wp frame (wpE (defs₀ (F := F)) Variants.none (c : Thread nD τ) none) Set.univ (k (rawV (R := R) fq o0 o1)) (Q))
        -∗ wp frame (wpE (defs₀ (F := F)) Variants.none (c : Thread nD τ) none) Set.univ (.op (.load (Memref.whole cc0_scratch2) (Rect.unit (s := S1024x2600) off (⟨2, ![64, R]⟩ : Shape).size inb).toLoadRect hl) k) (Q)) := by
  subst h
  have hv : (Memref.whole cc0_scratch2).view.readAt (Elt F) (Rect.unit (s := S1024x2600) ![o0, o1] (⟨2, ![64, R]⟩ : Shape).size inb).toLoadRect fq = rawV (R := R) fq o0 o1 := by
    funext x
    show fq _ = fq _
    congr 1
    apply ix_of
    · show o0 + 1 * (x 0).val = o0 + (x 0).val
      omega
    · show o1 + 1 * (x 1).val = o1 + (x 1).val
      omega
  unfold R10
  iintro H Hk
  iapply (wp_load Variants.none (c : Thread nD τ) none Set.univ (m := Memref.whole cc0_scratch2) (f := fq) (S := Finset.univ) (q := fullShare)
    (Finset.subset_univ _)) $$ [H]
  · iexact H
  rw [hv]
  iexact Hk

theorem wp_loadRawK {α : Type} {off : Fin 2 → ℕ} {R : ℕ} {o1 : ℕ} (h : off = ![0, o1]) {inb hl}
    {fk : S64x2600.Idx → Elt F .bf16} {k : ((⟨2, ![64, R]⟩ : Shape).Idx → Elt F .bf16) → Prog (TpuEff nD τ sig (Elt F) Λ₀ .tc) α} {Q : α → sProp 𝕄} :
    R11 c fk
      ⊢ iprop((R11 c fk -∗ wp frame (wpE (defs₀ (F := F)) Variants.none (c : Thread nD τ) none) Set.univ (k (rawK (R := R) fk o1)) (Q))
        -∗ wp frame (wpE (defs₀ (F := F)) Variants.none (c : Thread nD τ) none) Set.univ (.op (.load (Memref.whole cc0_scratch3) (Rect.unit (s := S64x2600) off (⟨2, ![64, R]⟩ : Shape).size inb).toLoadRect hl) k) (Q)) := by
  subst h
  have hv : (Memref.whole cc0_scratch3).view.readAt (Elt F) (Rect.unit (s := S64x2600) ![0, o1] (⟨2, ![64, R]⟩ : Shape).size inb).toLoadRect fk = rawK (R := R) fk o1 := by
    funext x
    show fk _ = fk _
    congr 1
    apply ix_of
    · show 0 + 1 * (x 0).val = 0 + (x 0).val
      omega
    · show o1 + 1 * (x 1).val = o1 + (x 1).val
      omega
  unfold R11
  iintro H Hk
  iapply (wp_load Variants.none (c : Thread nD τ) none Set.univ (m := Memref.whole cc0_scratch3) (f := fk) (S := Finset.univ) (q := fullShare)
    (Finset.subset_univ _)) $$ [H]
  · iexact H
  rw [hv]
  iexact Hk

theorem wp_loadQAny {α : Type} {r : LoadRect S21024x128} {hl}
    {fq : S1024x2600.Idx → Elt F .bf16} {n R j : ℕ} {k : (r.shape.Idx → Elt F .f32) → Prog (TpuEff nD τ sig (Elt F) Λ₀ .tc) α} {Q : α → sProp 𝕄} :
    QAt c fq n R j
      ⊢ iprop((∀ v, QAt c fq n R j -∗ wp frame (wpE (defs₀ (F := F)) Variants.none (c : Thread nD τ) none) Set.univ (k v) (Q))
        -∗ wp frame (wpE (defs₀ (F := F)) Variants.none (c : Thread nD τ) none) Set.univ (.op (.load (Memref.whole cc0_scratch4) r hl) k) (Q)) := by
  unfold QAt
  iintro ⟨%f, %hf, H⟩ Hk
  iapply (wp_load Variants.none (c : Thread nD τ) none Set.univ (m := Memref.whole cc0_scratch4) (f := f) (S := Finset.univ) (q := fullShare)
    (Finset.subset_univ _)) $$ [H]
  · iexact H
  iintro H
  iapply Hk $$ %_ [H]
  iexists f
  isplitr
  · ipureintro; exact hf
  iexact H

theorem wp_loadKAny {α : Type} {r : LoadRect S2600x128} {hl}
    {fk : S64x2600.Idx → Elt F .bf16} {n : ℕ} {k : (r.shape.Idx → Elt F .f32) → Prog (TpuEff nD τ sig (Elt F) Λ₀ .tc) α} {Q : α → sProp 𝕄} :
    KAt c fk n
      ⊢ iprop((∀ v, KAt c fk n -∗ wp frame (wpE (defs₀ (F := F)) Variants.none (c : Thread nD τ) none) Set.univ (k v) (Q))
        -∗ wp frame (wpE (defs₀ (F := F)) Variants.none (c : Thread nD τ) none) Set.univ (.op (.load (Memref.whole cc0_scratch5) r hl) k) (Q)) := by
  unfold KAt
  iintro ⟨%f, %hf, H⟩ Hk
  iapply (wp_load Variants.none (c : Thread nD τ) none Set.univ (m := Memref.whole cc0_scratch5) (f := f) (S := Finset.univ) (q := fullShare)
    (Finset.subset_univ _)) $$ [H]
  · iexact H
  iintro H
  iapply Hk $$ %_ [H]
  iexists f
  isplitr
  · ipureintro; exact hf
  iexact H

theorem wp_storeQ {α : Type} {off : Fin 2 → ℕ} {R : ℕ} {n j : ℕ} (h : off = ![2628 * j + n, 0]) {inb hx hm}
    {fq : S1024x2600.Idx → Elt F .bf16} {w : (⟨2, ![R, 128]⟩ : Shape).Idx → Elt F .f32} (hj : j < 8) (hn : n + R ≤ 2600)
    (hw : ∀ y, w y = qTgt fq j (n + (y 0).val) (y 1).val)
    {k : PUnit → Prog (TpuEff nD τ sig (Elt F) Λ₀ .tc) α} {Q : α → sProp 𝕄} :
    QAt c fq n R j
      ⊢ iprop((QAt c fq n R (j + 1) -∗ wp frame (wpE (defs₀ (F := F)) Variants.none (c : Thread nD τ) none) Set.univ (k ⟨⟩) (Q))
        -∗ wp frame (wpE (defs₀ (F := F)) Variants.none (c : Thread nD τ) none) Set.univ (.op (.store (Memref.whole cc0_scratch4) (Rect.unit (s := S21024x128) off (⟨2, ![R, 128]⟩ : Shape).size inb) w Finset.univ hx hm) k) (Q)) := by
  subst h
  unfold QAt
  iintro ⟨%f, %hf, H⟩ Hk
  iapply (wp_store Variants.none (c : Thread nD τ) none Set.univ (m := Memref.whole cc0_scratch4)
    (r := Rect.unit (s := S21024x128) ![2628 * j + n, 0] (⟨2, ![R, 128]⟩ : Shape).size inb) (f := f) (S := Finset.univ) (Finset.subset_univ _)) $$ [H]
  · iexact H
  iintro H
  iapply Hk
  iexists _
  isplitr
  swap
  · iexact H
  ipureintro
  have hemb : ∀ (y : (⟨2, ![R, 128]⟩ : Shape).Idx), ((Memref.whole cc0_scratch4).access (Rect.unit (s := S21024x128) ![2628 * j + n, 0] (⟨2, ![R, 128]⟩ : Shape).size inb)).emb y
      = q12Ix (2628 * j + n + (y 0).val) (y 1).val := by
    intro y
    apply ix_of
    · show 2628 * j + n + 1 * (y 0).val = _
      omega
    · show 0 + 1 * (y 1).val = _
      omega
  intro h b l hh hb hl hP
  by_cases hin : h = j ∧ n ≤ b ∧ b < n + R
  · obtain ⟨rfl, h1, h2⟩ := hin
    let y : (⟨2, ![R, 128]⟩ : Shape).Idx := fun | 0 => ⟨b - n, by show b - n < R; omega⟩ | 1 => ⟨l, hl⟩
    have e := hemb y
    have e' : q12Ix (2628 * h + n + (y 0).val) (y 1).val = q12Ix (2628 * h + b) l := by
      show q12Ix (2628 * h + n + (b - n)) l = _
      rw [show 2628 * h + n + (b - n) = 2628 * h + b by omega]
    rw [e'] at e
    conv => lhs; rw [← e]
    rw [View.write_emb_of_mem _ _ (Finset.mem_univ _)]
    have := hw y
    rw [show n + (y 0).val = b by show n + (b - n) = b; omega] at this
    exact this
  · rw [← hf h b l hh hb hl (by omega)]
    refine View.write_of_not_mem _ _ _ ?_
    intro hm
    rw [View.setOn_univ] at hm
    obtain ⟨y, -, hy⟩ := Finset.mem_map.1 hm
    rw [hemb] at hy
    have h0 := congrArg (fun (z : S21024x128.Idx) => (z 0).val) hy
    have hy0 : (y 0).val < R := (y 0).isLt
    have h0' : (2628 * j + n + (y 0).val) % 21024 = (2628 * h + b) % 21024 := h0
    omega

theorem wp_storeK {α : Type} {off : Fin 2 → ℕ} {R : ℕ} {n : ℕ} (h : off = ![n, 0]) {inb hx hm}
    {fk : S64x2600.Idx → Elt F .bf16} {w : (⟨2, ![R, 128]⟩ : Shape).Idx → Elt F .f32} (hn : n + R ≤ 2600)
    (hw : ∀ y, w y = kTgt fk (n + (y 0).val) (y 1).val)
    {k : PUnit → Prog (TpuEff nD τ sig (Elt F) Λ₀ .tc) α} {Q : α → sProp 𝕄} :
    KAt c fk n
      ⊢ iprop((KAt c fk (n + R) -∗ wp frame (wpE (defs₀ (F := F)) Variants.none (c : Thread nD τ) none) Set.univ (k ⟨⟩) (Q))
        -∗ wp frame (wpE (defs₀ (F := F)) Variants.none (c : Thread nD τ) none) Set.univ (.op (.store (Memref.whole cc0_scratch5) (Rect.unit (s := S2600x128) off (⟨2, ![R, 128]⟩ : Shape).size inb) w Finset.univ hx hm) k) (Q)) := by
  subst h
  unfold KAt
  iintro ⟨%f, %hf, H⟩ Hk
  iapply (wp_store Variants.none (c : Thread nD τ) none Set.univ (m := Memref.whole cc0_scratch5)
    (r := Rect.unit (s := S2600x128) ![n, 0] (⟨2, ![R, 128]⟩ : Shape).size inb) (f := f) (S := Finset.univ) (Finset.subset_univ _)) $$ [H]
  · iexact H
  iintro H
  iapply Hk
  iexists _
  isplitr
  swap
  · iexact H
  ipureintro
  have hemb : ∀ (y : (⟨2, ![R, 128]⟩ : Shape).Idx), ((Memref.whole cc0_scratch5).access (Rect.unit (s := S2600x128) ![n, 0] (⟨2, ![R, 128]⟩ : Shape).size inb)).emb y
      = k13Ix (n + (y 0).val) (y 1).val := by
    intro y
    apply ix_of
    · show n + 1 * (y 0).val = _
      omega
    · show 0 + 1 * (y 1).val = _
      omega
  intro b l hb hl hP
  by_cases hin : n ≤ b
  · let y : (⟨2, ![R, 128]⟩ : Shape).Idx := fun | 0 => ⟨b - n, by show b - n < R; omega⟩ | 1 => ⟨l, hl⟩
    have e := hemb y
    have e' : k13Ix (n + (y 0).val) (y 1).val = k13Ix b l := by
      show k13Ix (n + (b - n)) l = _
      rw [show n + (b - n) = b by omega]
    rw [e'] at e
    conv => lhs; rw [← e]
    rw [View.write_emb_of_mem _ _ (Finset.mem_univ _)]
    have := hw y
    rw [show n + (y 0).val = b by show n + (b - n) = b; omega] at this
    exact this
  · rw [← hf b l hb hl (by omega)]
    refine View.write_of_not_mem _ _ _ ?_
    intro hm
    rw [View.setOn_univ] at hm
    obtain ⟨y, -, hy⟩ := Finset.mem_map.1 hm
    rw [hemb] at hy
    have h0 := congrArg (fun (z : S2600x128.Idx) => (z 0).val) hy
    have hy0 : (y 0).val < R := (y 0).isLt
    have h0' : (n + (y 0).val) % 2600 = b % 2600 := h0
    omega

end Cert.KernelIdeal.Hand

end
-- ==== Proof.Turn.lean ====
/-
  The turning loop and its tail: every row's query lanes and rope lanes turned.
-/
module

public import proofs.«01_k».proof.Proof.Prep

@[expose] public section

noncomputable section

namespace Cert.KernelIdeal.Hand

open Cert.KernelIdeal Cert.KernelIdeal.Gen Cert.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords) (fq : S1024x2600.Idx → Elt F .bf16) (fk : S64x2600.Idx → Elt F .bf16)

theorem part2_wp {α : Type} (t : Fin k0_t5_loop.trips)
    {k : (Σ' (v161 : BitVec 32), Vec F S64x128 .bf16) → Prog (TpuEff nD τ sig (Elt F) Λ₀ .tc) α} {Q : α → sProp 𝕄} :
    iprop(R10 c fq ∗ QAt c fq (t.val * 128) 128 0)
      ⊢ iprop((∀ v161, R10 c fq -∗ QAt c fq (t.val * 128) 128 3 -∗ wp frame (wpE (defs₀ (F := F)) Variants.none (c : Thread nD τ) none) Set.univ (k ⟨v161, rawV (R := 128) fq 192 (t.val * 128)⟩) (Q))
        -∗ wp frame (wpE (defs₀ (F := F)) Variants.none (c : Thread nD τ) none) Set.univ (k0_part2 (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 0#32 1#32 t >>= k) (Q)) := by
  have ht : t.val < 20 := t.isLt.trans_eq trips5
  rw [k0_part2_eq_skeleton]
  unfold k0_part2_skel
  simp only [bind_assoc, Prog.bind_lift, Prog.bind_ret, Prog.bind_op, Prog.pure_eq_ret]
  iintro ⟨HR, HQ⟩ Hk
  iapply (wp_loadRaw (R := 128) c (off15_eq t)) $$ HR
  iintro HR
  iapply (wp_loadRaw (R := 128) c (off16_eq t)) $$ HR
  iintro HR
  iapply (wp_loadQAny c) $$ HQ
  iintro %_ HQ
  iapply (wp_storeQ (R := 128) (n := t.val * 128) (j := 0) c (off17_eq t 0 (by omega)) (by omega) (by omega) (pay7_at fq 0 (t.val * 128) (by omega) (by omega))) $$ HQ
  iintro HQ
  iapply (wp_loadRaw (R := 128) c (off18_eq t)) $$ HR
  iintro HR
  iapply (wp_loadRaw (R := 128) c (off19_eq t)) $$ HR
  iintro HR
  iapply (wp_loadQAny c) $$ HQ
  iintro %_ HQ
  iapply (wp_storeQ (R := 128) (n := t.val * 128) (j := 1) c (off17_eq t 2628 (by omega)) (by omega) (by omega) (pay7_at fq 1 (t.val * 128) (by omega) (by omega))) $$ HQ
  iintro HQ
  iapply (wp_loadRaw (R := 128) c (off20_eq t)) $$ HR
  iintro HR
  iapply (wp_loadRaw (R := 128) c (off21_eq t)) $$ HR
  iintro HR
  iapply (wp_loadQAny c) $$ HQ
  iintro %_ HQ
  iapply (wp_storeQ (R := 128) (n := t.val * 128) (j := 2) c (off17_eq t 5256 (by omega)) (by omega) (by omega) (pay7_at fq 2 (t.val * 128) (by omega) (by omega))) $$ HQ
  iintro HQ
  iapply (wp_loadRaw (R := 128) c (off22_eq t)) $$ HR
  iintro HR
  iapply Hk $$ %_ HR HQ

theorem part3_wp {α : Type} (t : Fin k0_t5_loop.trips) (v161 : BitVec 32)
    {k : (Σ' (v240 : FVec F S128x128 .f32), Vec F S128x128 .f32) → Prog (TpuEff nD τ sig (Elt F) Λ₀ .tc) α} {Q : α → sProp 𝕄} :
    iprop(R10 c fq ∗ QAt c fq (t.val * 128) 128 3)
      ⊢ iprop((∀ v243, R10 c fq -∗ QAt c fq (t.val * 128) 128 6 -∗ wp frame (wpE (defs₀ (F := F)) Variants.none (c : Thread nD τ) none) Set.univ (k ⟨k0_pay13 (rawV (R := 128) fq 384 (t.val * 128)) (rawV (R := 128) fq 896 (t.val * 128)), v243⟩) (Q))
        -∗ wp frame (wpE (defs₀ (F := F)) Variants.none (c : Thread nD τ) none) Set.univ (k0_part3 (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 t v161 (rawV (R := 128) fq 192 (t.val * 128)) >>= k) (Q)) := by
  have ht : t.val < 20 := t.isLt.trans_eq trips5
  rw [k0_part3_eq_skeleton]
  unfold k0_part3_skel
  simp only [bind_assoc, Prog.bind_lift, Prog.bind_ret, Prog.bind_op, Prog.pure_eq_ret]
  iintro ⟨HR, HQ⟩ Hk
  iapply (wp_loadRaw (R := 128) c (off23_eq t)) $$ HR
  iintro HR
  iapply (wp_loadQAny c) $$ HQ
  iintro %_ HQ
  iapply (wp_storeQ (R := 128) (n := t.val * 128) (j := 3) c (off17_eq t 7884 (by omega)) (by omega) (by omega) (pay7_at fq 3 (t.val * 128) (by omega) (by omega))) $$ HQ
  iintro HQ
  iapply (wp_loadRaw (R := 128) c (off24_eq t)) $$ HR
  iintro HR
  iapply (wp_loadRaw (R := 128) c (off25_eq t)) $$ HR
  iintro HR
  iapply (wp_loadQAny c) $$ HQ
  iintro %_ HQ
  iapply (wp_storeQ (R := 128) (n := t.val * 128) (j := 4) c (off17_eq t 10512 (by omega)) (by omega) (by omega) (pay7_at fq 4 (t.val * 128) (by omega) (by omega))) $$ HQ
  iintro HQ
  iapply (wp_loadRaw (R := 128) c (off26_eq t)) $$ HR
  iintro HR
  iapply (wp_loadRaw (R := 128) c (off27_eq t)) $$ HR
  iintro HR
  iapply (wp_loadQAny c) $$ HQ
  iintro %_ HQ
  iapply (wp_storeQ (R := 128) (n := t.val * 128) (j := 5) c (off17_eq t 13140 (by omega)) (by omega) (by omega) (pay7_at fq 5 (t.val * 128) (by omega) (by omega))) $$ HQ
  iintro HQ
  iapply (wp_loadRaw (R := 128) c (off28_eq t)) $$ HR
  iintro HR
  iapply (wp_loadRaw (R := 128) c (off29_eq t)) $$ HR
  iintro HR
  iapply (wp_loadQAny c) $$ HQ
  iintro %_ HQ
  iapply Hk $$ %_ HR HQ

/-- Every row below `m` turned. -/
def Turning (m : ℕ) : sProp 𝕄 := iprop(R10 c fq ∗ R11 c fk ∗ QAt c fq (m * 128) 128 0 ∗ KAt c fk (m * 128))

theorem t5_step (t : Fin k0_t5_loop.trips) (u : Unit) :
    Turning c fq fk t.val ⊢ wp frame (wpE (defs₀ (F := F)) Variants.none (c : Thread nD τ) none) Set.univ (k0_t5_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 0#32 1#32 t u) (fun _ => Turning c fq fk (t.val + 1)) := by
  have ht : t.val < 20 := t.isLt.trans_eq trips5
  unfold k0_t5_body Turning
  iintro ⟨HR, HR1, HQ, HK⟩
  iapply (part2_wp c i fq t) $$ [HR HQ]
  · isplitl [HR]; · iexact HR
    iexact HQ
  iintro %v161 HR HQ
  dsimp only
  iapply (part3_wp c i fq t v161) $$ [HR HQ]
  · isplitl [HR]; · iexact HR
    iexact HQ
  iintro %v243 HR HQ
  dsimp only
  simp only [bind_assoc, Prog.bind_lift, Prog.bind_ret, Prog.bind_op, Prog.pure_eq_ret]
  iapply (wp_storeQ (R := 128) (n := t.val * 128) (j := 6) c (off17_eq t 15768 (by omega)) (by omega) (by omega) (pay7_at fq 6 (t.val * 128) (by omega) (by omega))) $$ HQ
  iintro HQ
  iapply (wp_loadRaw (R := 128) c (off30_eq t)) $$ HR
  iintro HR
  iapply (wp_loadRaw (R := 128) c (off31_eq t)) $$ HR
  iintro HR
  iapply (wp_loadQAny c) $$ HQ
  iintro %_ HQ
  iapply (wp_storeQ (R := 128) (n := t.val * 128) (j := 7) c (off17_eq t 18396 (by omega)) (by omega) (by omega) (pay7_at fq 7 (t.val * 128) (by omega) (by omega))) $$ HQ
  iintro HQ
  iapply (wp_loadRawK (R := 128) c (off32_eq t)) $$ HR1
  iintro HR1
  iapply (wp_loadKAny c) $$ HK
  iintro %_ HK
  iapply (wp_storeK (R := 128) (n := t.val * 128) c (off33_eq t) (by omega) (pay146_at fk (t.val * 128) (by omega))) $$ HK
  iintro HK
  iapply (le_wp_ret _ _)
  isplitl [HR]; · iexact HR
  isplitl [HR1]; · iexact HR1
  isplitl [HQ]
  · iapply (QAt_next (R := 128) (n := t.val * 128) c (show t.val * 128 + 128 = (t.val + 1) * 128 by omega)) $$ HQ
  rw [show (t.val + 1) * 128 = t.val * 128 + 128 by omega]
  iexact HK

theorem t5_all {α : Type} {k : Unit → Prog (TpuEff nD τ sig (Elt F) Λ₀ .tc) α} {Q : α → sProp 𝕄} :
    Turning c fq fk 0
      ⊢ iprop((∀ acc, Turning c fq fk 20 -∗ wp frame (wpE (defs₀ (F := F)) Variants.none (c : Thread nD τ) none) Set.univ (k acc) (Q))
        -∗ wp frame (wpE (defs₀ (F := F)) Variants.none (c : Thread nD τ) none) Set.univ (Scf.Loop.for k0_t5_loop k0_t5_ok () (k0_t5_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 0#32 1#32) >>= k) (Q)) := by
  have := Scf.wp_for_bind frame (wpE (defs₀ (F := F)) Variants.none (c : Thread nD τ) none) Set.univ k0_t5_loop.lb k0_t5_loop.ub k0_t5_loop.st k0_t5_ok ()
    (k0_t5_body (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 0#32 1#32) (fun n _ => Turning c fq fk n)
    (fun t u => t5_step c i fq fk t u) (kk := k) (Q := Q)
  have e1 : Scf.trips k0_t5_loop.lb k0_t5_loop.ub k0_t5_loop.st = 20 := trips5
  rw [e1] at this
  exact this

/-- Nothing turned yet. -/
theorem turning_zero : iprop(R10 c fq ∗ R11 c fk ∗ (∃ f : Buf (Elt F) ((c : Thread nD τ).loc cc0_scratch4), (c : Thread nD τ).loc cc0_scratch4 ↦{fullShare} f)
    ∗ (∃ f : Buf (Elt F) ((c : Thread nD τ).loc cc0_scratch5), (c : Thread nD τ).loc cc0_scratch5 ↦{fullShare} f)) ⊢ Turning c fq fk 0 := by
  unfold Turning QAt KAt
  iintro ⟨HR, HR1, ⟨%f, HQ⟩, ⟨%f', HK⟩⟩
  isplitl [HR]; · iexact HR
  isplitl [HR1]; · iexact HR1
  isplitl [HQ]
  · iexists f
    isplitr
    · ipureintro
      intro h b k h1 h2 h3 hP
      omega
    iexact HQ
  iexists f'
  isplitr
  · ipureintro
    intro b k h1 h2 hP
    omega
  iexact HK

theorem part33_wp {α : Type}
    {k : FVec F S40x128 .f32 → Prog (TpuEff nD τ sig (Elt F) Λ₀ .tc) α} {Q : α → sProp 𝕄} :
    Turning c fq fk 0
      ⊢ iprop((R10 c fq -∗ R11 c fk -∗ QAt c fq 2560 40 3 -∗ KAt c fk 2560 -∗ wp frame (wpE (defs₀ (F := F)) Variants.none (c : Thread nD τ) none) Set.univ (k (k0_pay150 (rawV (R := 40) fq 192 2560) (rawV (R := 40) fq 704 2560))) (Q))
        -∗ wp frame (wpE (defs₀ (F := F)) Variants.none (c : Thread nD τ) none) Set.univ (k0_part33 (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 0#32 1#32 >>= k) (Q)) := by
  rw [k0_part33_eq_skeleton]
  unfold k0_part33_skel
  simp only [bind_assoc, Prog.bind_lift, Prog.bind_ret, Prog.bind_op, Prog.pure_eq_ret]
  iintro HT Hk
  iapply (t5_all c i fq fk) $$ HT
  iintro %_ HT
  unfold Turning
  icases HT with ⟨HR, HR1, HQ, HK⟩
  ihave HQ := (QAt_switch (R' := 40) c) $$ HQ
  iapply (wp_loadRaw (R := 40) (o0 := 0) (o1 := 2560) c rfl) $$ HR
  iintro HR
  iapply (wp_loadRaw (R := 40) (o0 := 512) (o1 := 2560) c rfl) $$ HR
  iintro HR
  iapply (wp_loadQAny c) $$ HQ
  iintro %_ HQ
  iapply (wp_storeQ (R := 40) (n := 2560) (j := 0) c rfl (by omega) (by omega) (pay147_at fq 0 (2560) (by omega) (by omega))) $$ HQ
  iintro HQ
  iapply (wp_loadRaw (R := 40) (o0 := 64) (o1 := 2560) c rfl) $$ HR
  iintro HR
  iapply (wp_loadRaw (R := 40) (o0 := 576) (o1 := 2560) c rfl) $$ HR
  iintro HR
  iapply (wp_loadQAny c) $$ HQ
  iintro %_ HQ
  iapply (wp_storeQ (R := 40) (n := 2560) (j := 1) c rfl (by omega) (by omega) (pay147_at fq 1 (2560) (by omega) (by omega))) $$ HQ
  iintro HQ
  iapply (wp_loadRaw (R := 40) (o0 := 128) (o1 := 2560) c rfl) $$ HR
  iintro HR
  iapply (wp_loadRaw (R := 40) (o0 := 640) (o1 := 2560) c rfl) $$ HR
  iintro HR
  iapply (wp_loadQAny c) $$ HQ
  iintro %_ HQ
  iapply (wp_storeQ (R := 40) (n := 2560) (j := 2) c rfl (by omega) (by omega) (pay147_at fq 2 (2560) (by omega) (by omega))) $$ HQ
  iintro HQ
  iapply (wp_loadRaw (R := 40) (o0 := 192) (o1 := 2560) c rfl) $$ HR
  iintro HR
  iapply (wp_loadRaw (R := 40) (o0 := 704) (o1 := 2560) c rfl) $$ HR
  iintro HR
  iapply (wp_loadQAny c) $$ HQ
  iintro %_ HQ
  iapply Hk $$ HR HR1 HQ HK

theorem part34_wp {α : Type}
    {k : FVec F S40x128 .f32 → Prog (TpuEff nD τ sig (Elt F) Λ₀ .tc) α} {Q : α → sProp 𝕄} :
    iprop(R10 c fq ∗ QAt c fq 2560 40 3)
      ⊢ iprop((R10 c fq -∗ QAt c fq 2560 40 7 -∗ wp frame (wpE (defs₀ (F := F)) Variants.none (c : Thread nD τ) none) Set.univ (k (k0_pay155 (rawV (R := 40) fq 448 2560) (rawV (R := 40) fq 960 2560))) (Q))
        -∗ wp frame (wpE (defs₀ (F := F)) Variants.none (c : Thread nD τ) none) Set.univ (k0_part34 (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay150 (rawV (R := 40) fq 192 2560) (rawV (R := 40) fq 704 2560)) >>= k) (Q)) := by
  rw [k0_part34_eq_skeleton]
  unfold k0_part34_skel
  simp only [bind_assoc, Prog.bind_lift, Prog.bind_ret, Prog.bind_op, Prog.pure_eq_ret]
  iintro ⟨HR, HQ⟩ Hk
  iapply (wp_storeQ (R := 40) (n := 2560) (j := 3) c rfl (by omega) (by omega) (pay147_at fq 3 (2560) (by omega) (by omega))) $$ HQ
  iintro HQ
  iapply (wp_loadRaw (R := 40) (o0 := 256) (o1 := 2560) c rfl) $$ HR
  iintro HR
  iapply (wp_loadRaw (R := 40) (o0 := 768) (o1 := 2560) c rfl) $$ HR
  iintro HR
  iapply (wp_loadQAny c) $$ HQ
  iintro %_ HQ
  iapply (wp_storeQ (R := 40) (n := 2560) (j := 4) c rfl (by omega) (by omega) (pay147_at fq 4 (2560) (by omega) (by omega))) $$ HQ
  iintro HQ
  iapply (wp_loadRaw (R := 40) (o0 := 320) (o1 := 2560) c rfl) $$ HR
  iintro HR
  iapply (wp_loadRaw (R := 40) (o0 := 832) (o1 := 2560) c rfl) $$ HR
  iintro HR
  iapply (wp_loadQAny c) $$ HQ
  iintro %_ HQ
  iapply (wp_storeQ (R := 40) (n := 2560) (j := 5) c rfl (by omega) (by omega) (pay147_at fq 5 (2560) (by omega) (by omega))) $$ HQ
  iintro HQ
  iapply (wp_loadRaw (R := 40) (o0 := 384) (o1 := 2560) c rfl) $$ HR
  iintro HR
  iapply (wp_loadRaw (R := 40) (o0 := 896) (o1 := 2560) c rfl) $$ HR
  iintro HR
  iapply (wp_loadQAny c) $$ HQ
  iintro %_ HQ
  iapply (wp_storeQ (R := 40) (n := 2560) (j := 6) c rfl (by omega) (by omega) (pay147_at fq 6 (2560) (by omega) (by omega))) $$ HQ
  iintro HQ
  iapply (wp_loadRaw (R := 40) (o0 := 448) (o1 := 2560) c rfl) $$ HR
  iintro HR
  iapply (wp_loadRaw (R := 40) (o0 := 960) (o1 := 2560) c rfl) $$ HR
  iintro HR
  iapply (wp_loadQAny c) $$ HQ
  iintro %_ HQ
  iapply Hk $$ HR HQ

/-- The last tile: the stores after the parts. -/
theorem tail_wp {α : Type} {inb1 hx1 hm1 inb2 hl2 r3 hl3 inb4 hx4 hm4}
    {k : PUnit → Prog (TpuEff nD τ sig (Elt F) Λ₀ .tc) α} {Q : α → sProp 𝕄} :
    iprop(R11 c fk ∗ QAt c fq 2560 40 7 ∗ KAt c fk 2560)
      ⊢ iprop((R11 c fk -∗ QAt c fq 2600 0 0 -∗ KAt c fk 2600 -∗ wp frame (wpE (defs₀ (F := F)) Variants.none (c : Thread nD τ) none) Set.univ (k ⟨⟩) (Q))
        -∗ wp frame (wpE (defs₀ (F := F)) Variants.none (c : Thread nD τ) none) Set.univ (.op (.store (Memref.whole cc0_scratch4) (Rect.unit (s := S21024x128) ![20956, 0] S40x128.size inb1) (k0_pay1 (k0_pay155 (rawV (R := 40) fq 448 2560) (rawV (R := 40) fq 960 2560))) Finset.univ hx1 hm1) fun _ =>
          .op (.load (Memref.whole cc0_scratch3) (Rect.unit (s := S64x2600) ![0, 2560] S64x40.size inb2).toLoadRect hl2) fun v143 =>
          .op (.load (Memref.whole cc0_scratch5) r3 hl3) fun _ =>
          .op (.store (Memref.whole cc0_scratch5) (Rect.unit (s := S2600x128) ![2560, 0] S40x128.size inb4) (k0_pay2 v143) Finset.univ hx4 hm4) k) (Q)) := by
  iintro ⟨HR1, HQ, HK⟩ Hk
  iapply (wp_storeQ (R := 40) (n := 2560) (j := 7) c rfl (by omega) (by omega) (pay147_at fq 7 (2560) (by omega) (by omega))) $$ HQ
  iintro HQ
  iapply (wp_loadRawK (R := 40) (o1 := 2560) c rfl) $$ HR1
  iintro HR1
  iapply (wp_loadKAny c) $$ HK
  iintro %_ HK
  iapply (wp_storeK (R := 40) (n := 2560) c rfl (by omega) (pay2_at fk 2560 (by omega))) $$ HK
  iintro HK
  ihave HQ := (QAt_next (R := 40) (R' := 0) (n := 2560) (m := 2600) c rfl) $$ HQ
  iapply Hk $$ HR1 HQ HK

end Cert.KernelIdeal.Hand

end
-- ==== Proof.Copies.lean ====
/-
  The six copies made once: the raw queries, the raw rope keys, and the new latents in four slabs.
-/
module

public import proofs.«01_k».proof.Proof.Turn

@[expose] public section

noncomputable section

namespace Cert.KernelIdeal.Hand

open Cert.KernelIdeal Cert.KernelIdeal.Gen Cert.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords)

/-! ## One copy alone on its cell -/

abbrev mSem (j : Fin 6) : DmaSem sig := ⟨10 + j.val, by have := j.isLt; show _ < 16; omega⟩
theorem mSem_eq {off : Fin 1 → ℕ} (inb) {r : Fin 6} (h : off = ![r.val]) :
    ((cc0_scratch12.slice (Rect.unit (s := S6) off S1.size inb)).squeeze S_ squeezes_S1_S_).sem = mSem r :=
  Fin.ext (congrArg (10 + ·) (cell_idx _ rfl inb h _))

theorem wp_one {sp sp' : Space} {s : Shape} {e : EltTy} {α : Type}
    {src' src : Memref sig .tc sp s e} {dst' dst : Memref sig .tc sp' s e} {sem' sem : DmaSem sig}
    (hs : src' = src) (hd : dst' = dst) (hm : sem' = sem)
    {hsrc : src'.view.WordExact} {hdst : dst'.view.WordExact}
    {hsem : DmaTarget.Typed (nD := nD) (τ := τ) sp (SemLoc.dma sem') (.here (p := .tc) dst')}
    {k : PUnit → Prog (TpuEff nD τ sig (Elt F) Λ₀ .tc) α} {Q : α → sProp 𝕄}
    {q : PosShare TreeShare} {fs : Buf (Elt F) (src.view.loc (c : Thread nD τ))}
    (N : ℕ) (hN : dst.view.dmaCredit = N) (hN0 : 0 < N) :
    iprop((src.view.loc (c : Thread nD τ) ↦[src.view.set]{q} fs) ∗ (∃ d, owns (c : Thread nD τ) dst fullShare d)
        ∗ semVal ((c : Thread nD τ), SemLoc.dma sem) 0)
      ⊢ iprop((Transfers.Flight (countersEmb (U := Pipeline.UD sig nD τ)) (c : Thread nD τ) (.dma sem) () N
            iprop(owns (c : Thread nD τ) dst fullShare (src.view.read (Elt F) fs) ∗ (src.view.loc (c : Thread nD τ) ↦[src.view.set]{q} fs))
          -∗ wp frame (wpE (defs₀ (F := F)) Variants.none (c : Thread nD τ) none) Set.univ (k ⟨⟩) Q)
        -∗ wp frame (wpE (defs₀ (F := F)) Variants.none (c : Thread nD τ) none) Set.univ
            (.op (.enqueueDma src' (.here dst') (.dma sem') hsrc hdst hsem) k) Q) := by
  subst hs hd hm
  iintro ⟨Hs, ⟨%d, Hd⟩, HB⟩ Hk
  unfold owns
  icases Hd with ⟨%fd, -, Hd⟩
  iapply (Transfers.wp_dmaLocal (countersEmb (U := Pipeline.UD sig nD τ)) Variants.none (c : Thread nD τ) none (src := src') (dst := dst')
    () N (show View.amount _ (SemLoc.dma sem') = N from hN) hN0 subset_rfl (q := q) (fs := fs) (fd := fd)) $$ [Hs Hd HB]
  · isplitl [Hs]; · iexact Hs
    isplitl [Hd]; · iexact Hd
    iexact HB
  iintro HF
  iapply Hk
  iapply (Transfers.Flight_mono (countersEmb (U := Pipeline.UD sig nD τ)) (c : Thread nD τ) ?hD) $$ HF
  case hD =>
    iintro ⟨H1, H2⟩
    isplitl [H1]
    · iexists _
      isplitr
      swap
      · iexact H1
      ipureintro
      exact View.read_write_univ ..
    iexact H2

theorem wp_oneWait {sp sp' : Space} {s s' : Shape} {e e' : EltTy} {α : Type}
    {srcw : Memref sig .tc sp' s' e'} {dstw : Memref sig .tc sp s e} {sem' sem : DmaSem sig} (hm : sem' = sem)
    {hsrc : srcw.view.WordExact} {hdst : dstw.view.WordExact}
    {k : PUnit → Prog (TpuEff nD τ sig (Elt F) Λ₀ .tc) α} {Q : α → sProp 𝕄}
    {D : sProp 𝕄} (N : ℕ) (hN : dstw.view.dmaCredit = N) :
    iprop(Transfers.Flight (countersEmb (U := Pipeline.UD sig nD τ)) (c : Thread nD τ) (.dma sem) () N D
        ∗ (∃ W, owes (c : Thread nD τ) 0 W))
      ⊢ iprop((iprop(D ∗ semVal ((c : Thread nD τ), SemLoc.dma sem) 0 ∗ (∃ W, owes (c : Thread nD τ) 0 W))
          -∗ wp frame (wpE (defs₀ (F := F)) Variants.none (c : Thread nD τ) none) Set.univ (k ⟨⟩) Q)
        -∗ wp frame (wpE (defs₀ (F := F)) Variants.none (c : Thread nD τ) none) Set.univ
            (.op (.waitDma2 sem' srcw dstw hsrc hdst) k) Q) := by
  subst hm
  iintro ⟨HB, ⟨%W, HW⟩⟩ Hk
  iapply (Transfers.wp_waitLocal (countersEmb (U := Pipeline.UD sig nD τ)) Variants.none (c : Thread nD τ) none () hN) $$ [HB HW]
  · isplitl [HB]; · iexact HB
    iexact HW
  iintro ⟨HD, HS, HW⟩
  iapply Hk
  isplitl [HD]; · iexact HD
  isplitl [HS]; · iexact HS
  iexists _; iexact HW

/-! ## The slabs -/

theorem slab_inb (j : Fin 4) : ∀ a, (![j.val, 0, 0] : Fin 3 → ℕ) a + S1x2600x128.size a ≤ S4x2600x128.size a := by
  have := j.isLt
  intro a; fin_cases a <;> simp [Shape.ofList] <;> omega
theorem col_inb (j : Fin 4) : ∀ a, (![0, 128 * j.val] : Fin 2 → ℕ) a + S2600x128.size a ≤ S2600x512.size a := by
  have := j.isLt
  intro a; fin_cases a <;> simp [Shape.ofList] <;> omega
abbrev slab (j : Fin 4) : Memref sig .tc .vmem S2600x128 .bf16 :=
  ((Memref.whole cc0_scratch6).slice (Rect.unit (s := S4x2600x128) ![j.val, 0, 0] S1x2600x128.size (slab_inb j)) (fun _ => rfl)).squeeze
    S2600x128 squeezes_S1x2600x128_S2600x128
abbrev colM (j : Fin 4) : Memref sig .tc .hbm S2600x128 .bf16 :=
  (Memref.whole main_v4).slice (Rect.unit (s := S2600x512) ![0, 128 * j.val] S2600x128.size (col_inb j)) (fun _ => rfl)

variable (fq : Buf (Elt F) ((c : Thread nD τ).loc main_v3)) (fk : Buf (Elt F) ((c : Thread nD τ).loc main_v6)) (fv : Buf (Elt F) ((c : Thread nD τ).loc main_v4))

def colShare (j : Fin 4) : PosShare TreeShare := Transfers.dealOf fullShare Finset.univ j
def colIn (j : Fin 4) : sProp 𝕄 := (colM j).view.loc (c : Thread nD τ) ↦[(colM j).view.set]{colShare j} fv
def colOut (j : Fin 4) : sProp 𝕄 := (colM j).view.loc (c : Thread nD τ) ↦[Finset.univ \ (colM j).view.set]{colShare j} fv

theorem cols_eq : ((c : Thread nD τ).loc main_v4 ↦{fullShare} fv : sProp 𝕄)
    = iprop((colIn c fv 0 ∗ colOut c fv 0) ∗ (colIn c fv 1 ∗ colOut c fv 1) ∗ (colIn c fv 2 ∗ colOut c fv 2) ∗ (colIn c fv 3 ∗ colOut c fv 3)) := by
  have e : ((c : Thread nD τ).loc main_v4 ↦{fullShare} fv : sProp 𝕄) = BI.bigSep (Finset.univ : Finset (Fin 4)) fun j => iprop(colIn c fv j ∗ colOut c fv j) := by
    rw [Transfers.pointsTo_deal (Finset.univ : Finset (Fin 4)) Finset.univ_nonempty]
    refine BI.bigSep_congr fun j _ => ?_
    exact BI.equiv_iff.mp ⟨(pointsTo_split_subset (Finset.subset_univ _)).1, (pointsTo_split_subset (Finset.subset_univ _)).2⟩
  rw [e, BI.bigSep_eq_bigSepL_of_eq (S := (Finset.univ : Finset (Fin 4))) [0, 1, 2, 3] (by decide) (by decide)]
  rfl

/-- A slab as it is read out of the source. -/
def slabGot (j : Fin 4) : sProp 𝕄 := owns (c : Thread nD τ) (slab j) fullShare ((colM j).view.read (Elt F) fv)

theorem slab_set (j : Fin 4) : (slab j).view.set = (Rect.unit (s := S4x2600x128) ![j.val, 0, 0] S1x2600x128.size (slab_inb j)).set := by
  show (((View.whole cc0_scratch6).slice _).reshape _ _).set = _
  rw [View.set_reshape, View.set_slice_whole]
theorem slab_disjoint (a b : Fin 4) (h : a ≠ b) : Disjoint (slab a).view.set (slab b).view.set := by
  rw [slab_set, slab_set]
  exact Ring.lead_disjoint (s := S4x2600x128) (NB := 4) (0 : Fin 3) 1 (fun j => ![j.val, 0, 0]) S1x2600x128.size slab_inb (fun j => (Nat.one_mul _).symm) rfl a b h
theorem slab_cover : Finset.biUnion (β := Idx ((c : Thread nD τ).loc cc0_scratch6)) Finset.univ (fun j : Fin 4 => (slab j).view.set) = Finset.univ := by
  rw [show (fun j : Fin 4 => ((slab j).view.set : Finset (Idx ((c : Thread nD τ).loc cc0_scratch6)))) = (fun j => (Rect.unit (s := S4x2600x128) ![j.val, 0, 0] S1x2600x128.size (slab_inb j)).set) from funext slab_set]
  exact Ring.lead_cover (s := S4x2600x128) (NB := 4) (0 : Fin 3) 1 (fun j => ![j.val, 0, 0]) S1x2600x128.size slab_inb (fun j => (Nat.one_mul _).symm)
    (by intro b a ha; fin_cases a <;> simp_all) rfl (by intro a ha; fin_cases a <;> simp_all [Shape.ofList]) rfl

abbrev slabAny (j : Fin 4) : sProp 𝕄 := iprop(∃ d : S2600x128.Idx → Elt F .bf16, owns (c : Thread nD τ) (slab j) fullShare d)

theorem own_any {sp : Space} {s : Shape} {e : EltTy} (m : Memref sig .tc sp s e) (f : Buf (Elt F) (m.view.loc (c : Thread nD τ))) :
    (m.view.loc (c : Thread nD τ) ↦[m.view.set]{fullShare} f : sProp 𝕄) ⊢ iprop(∃ d : s.Idx → Elt F e, owns (c : Thread nD τ) m fullShare d) := by
  iintro H
  iexists _
  unfold owns
  iexists f
  isplitr
  · ipureintro; rfl
  iexact H

theorem slabs_cut : iprop(∃ f : Buf (Elt F) ((c : Thread nD τ).loc cc0_scratch6), (c : Thread nD τ).loc cc0_scratch6 ↦{fullShare} f)
    ⊢ iprop(slabAny (F := F) c 0 ∗ slabAny (F := F) c 1 ∗ slabAny (F := F) c 2 ∗ slabAny (F := F) c 3) := by
  iintro ⟨%f, H⟩
  have e : ((c : Thread nD τ).loc cc0_scratch6 ↦{fullShare} f : sProp 𝕄) ⊢ BI.bigSep (Finset.univ : Finset (Fin 4)) (fun j => slabAny (F := F) c j) := by
    rw [Ring.pointsTo_blocks (fun j : Fin 4 => (slab j).view.set) slab_disjoint (slab_cover c) f]
    exact BI.bigSep_mono fun j _ => own_any c (slab j) f
  rw [BI.bigSep_eq_bigSepL_of_eq (S := (Finset.univ : Finset (Fin 4))) [0, 1, 2, 3] (by decide) (by decide)] at e
  have e' : ((c : Thread nD τ).loc cc0_scratch6 ↦{fullShare} f : sProp 𝕄) ⊢ iprop(slabAny (F := F) c 0 ∗ slabAny (F := F) c 1 ∗ slabAny (F := F) c 2 ∗ slabAny (F := F) c 3) := e
  iapply e'
  iexact H

/-- The new latents' array holds, slab by slab, the source's columns. -/
def VG (f14 : S4x2600x128.Idx → Elt F .bf16) : Prop := ∀ j : Fin 4, (slab j).view.read (Elt F) f14 = (colM j).view.read (Elt F) fv

theorem slabs_join : iprop(slabGot c fv 0 ∗ slabGot c fv 1 ∗ slabGot c fv 2 ∗ slabGot c fv 3)
    ⊢ iprop(∃ f14 : Buf (Elt F) ((c : Thread nD τ).loc cc0_scratch6), ⌜VG c fv f14⌝ ∗ ((c : Thread nD τ).loc cc0_scratch6 ↦{fullShare} f14)) := by
  have e : BI.bigSep (Finset.univ : Finset (Fin 4)) (fun j => slabGot c fv j) ⊢ iprop(∃ f14 : Buf (Elt F) ((c : Thread nD τ).loc cc0_scratch6), ⌜VG c fv f14⌝ ∗ ((c : Thread nD τ).loc cc0_scratch6 ↦{fullShare} f14)) := by
    have f₀ : Buf (Elt F) ((c : Thread nD τ).loc cc0_scratch6) := fun _ => (FloatOps.truncf .bf16 bitsLt_bf16_f32 (Scalar.ofBits .f32 0x00000000#32) : F .bf16)
    have : Nonempty (Buf (Elt F) ((c : Thread nD τ).loc cc0_scratch6)) := ⟨f₀⟩
    unfold slabGot owns
    iintro H
    ihave H := (BI.bigSep_exists_pi Finset.univ (fun (j : Fin 4) (f : Buf (Elt F) ((c : Thread nD τ).loc cc0_scratch6)) =>
      iprop(⌜(slab j).view.read (Elt F) f = (colM j).view.read (Elt F) fv⌝ ∗ ((slab j).view.loc (c : Thread nD τ) ↦[(slab j).view.set]{fullShare} f)))) $$ H
    icases H with ⟨%fs, H⟩
    ihave H := (BI.bigSep_pure_sep Finset.univ _ _) $$ H
    icases H with ⟨%hr, H⟩
    ihave H := (pointsTo_biUnion_join Finset.univ (fun j : Fin 4 => (slab j).view.set) fs f₀ (fun b _ b' _ h => slab_disjoint b b' h)) $$ H
    icases H with ⟨%g, %hg, H⟩
    rw [slab_cover c]
    iexists g
    isplitr
    · ipureintro
      intro j
      rw [← hr j (Finset.mem_univ _)]
      exact View.read_congr fun x hx => hg j (Finset.mem_univ _) x hx
    iexact H
  rw [BI.bigSep_eq_bigSepL_of_eq (S := (Finset.univ : Finset (Fin 4))) [0, 1, 2, 3] (by decide) (by decide)] at e
  exact e

/-! ## Whole buffers as owned memrefs -/

theorem whole_cut {b : Ref sig .tc} (q : PosShare TreeShare) (f : Buf (Elt F) ((c : Thread nD τ).loc b)) :
    ((c : Thread nD τ).loc b ↦{q} f : sProp 𝕄) ⊢ ((Memref.whole b).view.loc (c : Thread nD τ) ↦[(Memref.whole b).view.set]{q} f) := by
  rw [show (Memref.whole b).view.set = Finset.univ from View.set_whole b]
theorem whole_join {b : Ref sig .tc} (q : PosShare TreeShare) (f : Buf (Elt F) ((c : Thread nD τ).loc b)) :
    ((Memref.whole b).view.loc (c : Thread nD τ) ↦[(Memref.whole b).view.set]{q} f : sProp 𝕄) ⊢ ((c : Thread nD τ).loc b ↦{q} f) := by
  rw [show (Memref.whole b).view.set = Finset.univ from View.set_whole b]

theorem whole_own {b : Ref sig .tc} : iprop(∃ f : Buf (Elt F) ((c : Thread nD τ).loc b), (c : Thread nD τ).loc b ↦{fullShare} f : sProp 𝕄)
    ⊢ iprop(∃ d, owns (c : Thread nD τ) (Memref.whole b) fullShare d : sProp 𝕄) := by
  iintro ⟨%f, H⟩
  iexists _
  unfold owns
  iexists f
  isplitr
  · ipureintro; rfl
  iapply (whole_cut c fullShare f) $$ H
theorem whole_disown {b : Ref sig .tc} {d} : (owns (c : Thread nD τ) (Memref.whole b) fullShare d : sProp 𝕄) ⊢ ((c : Thread nD τ).loc b ↦{fullShare} d : sProp 𝕄) := by
  unfold owns
  iintro ⟨%f, %hf, H⟩
  have hf' : f = d := hf
  subst hf'
  iapply (whole_join c fullShare f) $$ H

/-! ## The starts and the waits -/

def fl0 : sProp 𝕄 := Transfers.Flight (countersEmb (U := Pipeline.UD sig nD τ)) (c : Thread nD τ) (.dma (mSem 0)) () (Memref.whole cc0_scratch2 : Memref sig .tc .vmem _ _).view.dmaCredit
  iprop(owns (c : Thread nD τ) (Memref.whole cc0_scratch2) fullShare ((Memref.whole main_v3).view.read (Elt F) fq) ∗ ((Memref.whole main_v3).view.loc (c : Thread nD τ) ↦[(Memref.whole main_v3).view.set]{fullShare} fq))
def fl1 : sProp 𝕄 := Transfers.Flight (countersEmb (U := Pipeline.UD sig nD τ)) (c : Thread nD τ) (.dma (mSem 1)) () (Memref.whole cc0_scratch3 : Memref sig .tc .vmem _ _).view.dmaCredit
  iprop(owns (c : Thread nD τ) (Memref.whole cc0_scratch3) fullShare ((Memref.whole main_v6).view.read (Elt F) fk) ∗ ((Memref.whole main_v6).view.loc (c : Thread nD τ) ↦[(Memref.whole main_v6).view.set]{fullShare} fk))
def flV (j : Fin 4) (s : Fin 6) : sProp 𝕄 := Transfers.Flight (countersEmb (U := Pipeline.UD sig nD τ)) (c : Thread nD τ) (.dma (mSem s)) () (slab j).view.dmaCredit
  iprop(slabGot c fv j ∗ colIn c fv j)
def sem0 (s : Fin 6) : sProp 𝕄 := semVal ((c : Thread nD τ), SemLoc.dma (mSem s)) 0

/-- All six under way. -/
def Away : sProp 𝕄 := iprop(fl0 c fq ∗ fl1 c fk ∗ (flV c fv 0 2 ∗ flV c fv 1 3 ∗ flV c fv 2 4 ∗ flV c fv 3 5)
  ∗ (colOut c fv 0 ∗ colOut c fv 1 ∗ colOut c fv 2 ∗ colOut c fv 3))
abbrev bufAny (b : Ref sig .tc) : sProp 𝕄 := iprop(∃ f : Buf (Elt F) ((c : Thread nD τ).loc b), (c : Thread nD τ).loc b ↦{fullShare} f)
def Sources : sProp 𝕄 := iprop(((c : Thread nD τ).loc main_v3 ↦{fullShare} fq) ∗ ((c : Thread nD τ).loc main_v6 ↦{fullShare} fk) ∗ ((c : Thread nD τ).loc main_v4 ↦{fullShare} fv))
def Sems6 : sProp 𝕄 := iprop(sem0 (F := F) c 0 ∗ sem0 (F := F) c 1 ∗ sem0 (F := F) c 2 ∗ sem0 (F := F) c 3 ∗ sem0 (F := F) c 4 ∗ sem0 (F := F) c 5)

theorem part30_wp {α : Type}
    {k : (Σ' (c0_i32_17 : BitVec 32) (c_m1_i32 : BitVec 32), BitVec 32) → Prog (TpuEff nD τ sig (Elt F) Λ₀ .tc) α} {Q : α → sProp 𝕄} :
    iprop(Sources c fq fk fv ∗ bufAny (F := F) c cc0_scratch2 ∗ bufAny (F := F) c cc0_scratch3 ∗ bufAny (F := F) c cc0_scratch6 ∗ Sems6 (F := F) c)
      ⊢ iprop((Away c fq fk fv -∗ wp frame (wpE (defs₀ (F := F)) Variants.none (c : Thread nD τ) none) Set.univ (k ⟨0#32, 4294967295#32, 0#32⟩) (Q)) -∗ wp frame (wpE (defs₀ (F := F)) Variants.none (c : Thread nD τ) none) Set.univ (k0_part30 (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 >>= k) (Q)) := by
  rw [k0_part30_eq_skeleton]
  unfold k0_part30_skel
  simp only [bind_assoc, Prog.bind_lift, Prog.bind_ret, Prog.bind_op, Prog.pure_eq_ret]
  unfold Sources Sems6
  iintro ⟨⟨H3, H6, H4⟩, HQ, HK, HV, HS0, HS1, HS2, HS3, HS4, HS5⟩ Hk
  ihave H4 := (Entails.of_eq (cols_eq c fv)) $$ H4
  icases H4 with ⟨⟨HI0, HO0⟩, ⟨HI1, HO1⟩, ⟨HI2, HO2⟩, ⟨HI3, HO3⟩⟩
  ihave HV := (slabs_cut c) $$ HV
  icases HV with ⟨HV0, HV1, HV2, HV3⟩
  ihave HQ := (whole_own c) $$ HQ
  ihave HK := (whole_own c) $$ HK
  ihave H3 := (whole_cut c fullShare fq) $$ H3
  ihave H6 := (whole_cut c fullShare fk) $$ H6
  iapply (wp_one (src := Memref.whole main_v3) (dst := Memref.whole cc0_scratch2) (q := fullShare) (fs := fq) c rfl rfl (mSem_eq _ (r := 0) rfl) _ rfl (by decide)) $$ [H3 HQ HS0]
  · isplitl [H3]; · iexact H3
    isplitl [HQ]; · iexact HQ
    unfold sem0; iexact HS0
  iintro HF0
  iapply (wp_one (src := Memref.whole main_v6) (dst := Memref.whole cc0_scratch3) (q := fullShare) (fs := fk) c rfl rfl (mSem_eq _ (r := 1) rfl) _ rfl (by decide)) $$ [H6 HK HS1]
  · isplitl [H6]; · iexact H6
    isplitl [HK]; · iexact HK
    unfold sem0; iexact HS1
  iintro HF1
  iapply (wp_one (src := colM 0) (dst := slab 0) (q := colShare 0) (fs := fv) c rfl rfl (mSem_eq _ (r := 2) rfl) _ rfl (by decide)) $$ [HI0 HV0 HS2]
  · isplitl [HI0]; · unfold colIn; iexact HI0
    isplitl [HV0]; · iexact HV0
    unfold sem0; iexact HS2
  iintro HF2
  iapply (wp_one (src := colM 1) (dst := slab 1) (q := colShare 1) (fs := fv) c rfl rfl (mSem_eq _ (r := 3) rfl) _ rfl (by decide)) $$ [HI1 HV1 HS3]
  · isplitl [HI1]; · unfold colIn; iexact HI1
    isplitl [HV1]; · iexact HV1
    unfold sem0; iexact HS3
  iintro HF3
  iapply (wp_one (src := colM 2) (dst := slab 2) (q := colShare 2) (fs := fv) c rfl rfl (mSem_eq _ (r := 4) rfl) _ rfl (by decide)) $$ [HI2 HV2 HS4]
  · isplitl [HI2]; · unfold colIn; iexact HI2
    isplitl [HV2]; · iexact HV2
    unfold sem0; iexact HS4
  iintro HF4
  iapply (wp_one (src := colM 3) (dst := slab 3) (q := colShare 3) (fs := fv) c rfl rfl (mSem_eq _ (r := 5) rfl) _ rfl (by decide)) $$ [HI3 HV3 HS5]
  · isplitl [HI3]; · unfold colIn; iexact HI3
    isplitl [HV3]; · iexact HV3
    unfold sem0; iexact HS5
  iintro HF5
  iapply Hk
  unfold Away fl0 fl1 flV colIn slabGot
  isplitl [HF0]; · iexact HF0
  isplitl [HF1]; · iexact HF1
  isplitl [HF2 HF3 HF4 HF5]
  · isplitl [HF2]; · iexact HF2
    isplitl [HF3]; · iexact HF3
    isplitl [HF4]; · iexact HF4
    iexact HF5
  isplitl [HO0]; · iexact HO0
  isplitl [HO1]; · iexact HO1
  isplitl [HO2]; · iexact HO2
  iexact HO3

theorem part32_wp {α : Type}
    {k : (Σ' (c0_i32_67 : BitVec 32), BitVec 32) → Prog (TpuEff nD τ sig (Elt F) Λ₀ .tc) α} {Q : α → sProp 𝕄} :
    iprop(Away c fq fk fv ∗ (∃ W, owes (c : Thread nD τ) 0 W))
      ⊢ iprop((∀ f14 : Buf (Elt F) ((c : Thread nD τ).loc cc0_scratch6), ⌜VG c fv f14⌝ -∗ Sources c fq fk fv -∗ R10 c fq -∗ R11 c fk -∗ ((c : Thread nD τ).loc cc0_scratch6 ↦{fullShare} f14) -∗ Sems6 (F := F) c
          -∗ (∃ W, owes (c : Thread nD τ) 0 W) -∗ wp frame (wpE (defs₀ (F := F)) Variants.none (c : Thread nD τ) none) Set.univ (k ⟨0#32, 1#32⟩) (Q)) -∗ wp frame (wpE (defs₀ (F := F)) Variants.none (c : Thread nD τ) none) Set.univ (k0_part32 (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 >>= k) (Q)) := by
  rw [k0_part32_eq_skeleton]
  unfold k0_part32_skel
  simp only [bind_assoc, Prog.bind_lift, Prog.bind_ret, Prog.bind_op, Prog.pure_eq_ret]
  unfold Away
  iintro ⟨⟨HF0, HF1, ⟨HF2, HF3, HF4, HF5⟩, HO0, HO1, HO2, HO3⟩, HW⟩ Hk
  iapply (wp_oneWait c (mSem_eq _ (r := 0) rfl) (Memref.whole cc0_scratch2 : Memref sig .tc .vmem _ _).view.dmaCredit rfl) $$ [HF0 HW]
  · isplitl [HF0]; · unfold fl0; iexact HF0
    iexact HW
  iintro ⟨⟨HQ, H3⟩, HS0, HW⟩
  iapply (wp_oneWait c (mSem_eq _ (r := 1) rfl) (Memref.whole cc0_scratch3 : Memref sig .tc .vmem _ _).view.dmaCredit rfl) $$ [HF1 HW]
  · isplitl [HF1]; · unfold fl1; iexact HF1
    iexact HW
  iintro ⟨⟨HK, H6⟩, HS1, HW⟩
  iapply (wp_oneWait c (mSem_eq _ (r := 2) rfl) (slab 0).view.dmaCredit rfl) $$ [HF2 HW]
  · isplitl [HF2]; · unfold flV; iexact HF2
    iexact HW
  iintro ⟨⟨HV0, HI0⟩, HS2, HW⟩
  iapply (wp_oneWait c (mSem_eq _ (r := 3) rfl) (slab 1).view.dmaCredit rfl) $$ [HF3 HW]
  · isplitl [HF3]; · unfold flV; iexact HF3
    iexact HW
  iintro ⟨⟨HV1, HI1⟩, HS3, HW⟩
  iapply (wp_oneWait c (mSem_eq _ (r := 4) rfl) (slab 2).view.dmaCredit rfl) $$ [HF4 HW]
  · isplitl [HF4]; · unfold flV; iexact HF4
    iexact HW
  iintro ⟨⟨HV2, HI2⟩, HS4, HW⟩
  iapply (wp_oneWait c (mSem_eq _ (r := 5) rfl) (slab 3).view.dmaCredit rfl) $$ [HF5 HW]
  · isplitl [HF5]; · unfold flV; iexact HF5
    iexact HW
  iintro ⟨⟨HV3, HI3⟩, HS5, HW⟩
  ihave HV := (slabs_join c fv) $$ [HV0 HV1 HV2 HV3]
  · isplitl [HV0]; · iexact HV0
    isplitl [HV1]; · iexact HV1
    isplitl [HV2]; · iexact HV2
    iexact HV3
  icases HV with ⟨%f14, %hv, HV⟩
  ihave HQ := (whole_disown c) $$ HQ
  ihave HK := (whole_disown c) $$ HK
  ihave H3 := (whole_join c fullShare fq) $$ H3
  ihave H6 := (whole_join c fullShare fk) $$ H6
  iapply Hk $$ %f14 [] [H3 H6 HI0 HI1 HI2 HI3 HO0 HO1 HO2 HO3] [HQ] [HK] [HV] [HS0 HS1 HS2 HS3 HS4 HS5] [HW]
  · ipureintro; exact hv
  · unfold Sources
    isplitl [H3]; · iexact H3
    isplitl [H6]; · iexact H6
    iapply (Entails.of_eq (cols_eq c fv).symm)
    isplitl [HI0 HO0]
    · isplitl [HI0]; · iexact HI0
      iexact HO0
    isplitl [HI1 HO1]
    · isplitl [HI1]; · iexact HI1
      iexact HO1
    isplitl [HI2 HO2]
    · isplitl [HI2]; · iexact HI2
      iexact HO2
    isplitl [HI3]; · iexact HI3
    iexact HO3
  · unfold R10; iexact HQ
  · unfold R11; iexact HK
  · iexact HV
  · unfold Sems6 sem0
    isplitl [HS0]; · iexact HS0
    isplitl [HS1]; · iexact HS1
    isplitl [HS2]; · iexact HS2
    isplitl [HS3]; · iexact HS3
    isplitl [HS4]; · iexact HS4
    iexact HS5
  · iexact HW

end Cert.KernelIdeal.Hand

end
-- ==== Proof.Ends.lean ====
/-
  The ends of the run: the slot arrays cut into their slots and joined again, the sources dealt out
  among the slots and collected, and the result cut into its rows and joined.
-/
module

public import proofs.«01_k».proof.Proof.Copies
public import proofs.«01_k».proof.Proof.Drain

@[expose] public section

noncomputable section

namespace Cert.KernelIdeal.Hand

open Cert.KernelIdeal Cert.KernelIdeal.Gen Cert.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

theorem sep3 {I : Type} (s : Finset I) (A B C : I → sProp 𝕄) :
    iprop(BI.bigSep s A ∗ BI.bigSep s B ∗ BI.bigSep s C) = BI.bigSep s (fun i => iprop(A i ∗ B i ∗ C i)) :=
  ((BI.bigSep_sep s A (fun i => iprop(B i ∗ C i))).trans (congrArg (fun X => iprop(BI.bigSep s A ∗ X)) (BI.bigSep_sep s B C))).symm

theorem disown_any {sp : Space} {s : Shape} {e : EltTy} (m : Memref sig .tc sp s e) :
    iprop(∃ d : s.Idx → Elt F e, owns (c : Thread nD τ) m fullShare d)
      ⊢ iprop(∃ f : Buf (Elt F) (m.view.loc (c : Thread nD τ)), (m.view.loc (c : Thread nD τ) ↦[m.view.set]{fullShare} f : sProp 𝕄)) := by
  unfold owns
  iintro ⟨%d, %f, -, H⟩
  iexists f
  iexact H

/-! ## kvSlot -/

theorem kvs_set (r : Fin 4) (t : Fin 32) : (kvSlot r t).view.set = (Rect.unit (s := S4x32x656x128) ![r.val, t.val, 0, 0] S1x1x656x128.size (kvSlot_inb r t)).set := by
  show (((View.whole cc0_scratch0).slice _).reshape _ _).set = _
  rw [View.set_reshape, View.set_slice_whole]
theorem kvs_mem (r : Fin 4) (t : Fin 32) (i : S4x32x656x128.Idx) :
    i ∈ (Rect.unit (s := S4x32x656x128) ![r.val, t.val, 0, 0] S1x1x656x128.size (kvSlot_inb r t)).set ↔ (i 0).val = r.val ∧ (i 1).val = t.val := by
  rw [Rect.mem_set_unit]
  constructor
  · intro h
    have h0 := h 0
    have h1 := h 1
    have e0 : S1x1x656x128.size 0 = 1 := rfl
    have e1 : S1x1x656x128.size 1 = 1 := rfl
    rw [e0] at h0
    rw [e1] at h1
    simp only [Matrix.cons_val_zero, Matrix.cons_val_one] at h0 h1
    omega
  · rintro ⟨h0, h1⟩ a
    have hi := (i a).isLt
    fin_cases a
    · show r.val ≤ (i 0).val ∧ (i 0).val < r.val + 1
      omega
    · show t.val ≤ (i 1).val ∧ (i 1).val < t.val + 1
      omega
    · exact ⟨Nat.zero_le _, by have : (i 2).val < S4x32x656x128.size 2 := hi; show (i 2).val < 0 + S4x32x656x128.size 2; omega⟩
    · exact ⟨Nat.zero_le _, by have : (i 3).val < S4x32x656x128.size 3 := hi; show (i 3).val < 0 + S4x32x656x128.size 3; omega⟩
def kvsI (a : Fin 4 × Fin 32) : Finset (Idx ((c : Thread nD τ).loc cc0_scratch0)) := (kvSlot a.1 a.2).view.set
theorem kvs_disjoint (a b : Fin 4 × Fin 32) (h : a ≠ b) : Disjoint (kvsI c a) (kvsI c b) := by
  unfold kvsI
  rw [kvs_set, kvs_set, Finset.disjoint_left]
  intro i hi hi'
  rw [kvs_mem] at hi hi'
  exact h (Prod.ext (Fin.ext (hi.1.symm.trans hi'.1)) (Fin.ext (hi.2.symm.trans hi'.2)))
theorem kvs_cover : Finset.univ.biUnion (kvsI c) = Finset.univ := by
  rw [show kvsI c = (fun a => (Rect.unit (s := S4x32x656x128) ![a.1.val, a.2.val, 0, 0] S1x1x656x128.size (kvSlot_inb a.1 a.2)).set) from funext fun a => kvs_set a.1 a.2]
  ext i
  simp only [Finset.mem_biUnion, Finset.mem_univ, true_and, iff_true]
  exact ⟨(⟨((i : S4x32x656x128.Idx) 0).val, ((i : S4x32x656x128.Idx) 0).isLt⟩, ⟨((i : S4x32x656x128.Idx) 1).val, ((i : S4x32x656x128.Idx) 1).isLt⟩), (kvs_mem _ _ i).2 ⟨rfl, rfl⟩⟩

theorem kvs_cut : bufAny (F := F) c cc0_scratch0 ⊢ BI.bigSep (Finset.univ : Finset (Fin 4)) (fun r => BI.bigSep (Finset.univ : Finset (Fin 32)) (fun t => kvFree (F := F) c r t)) := by
  iintro ⟨%f, H⟩
  have e : ((c : Thread nD τ).loc cc0_scratch0 ↦{fullShare} f : sProp 𝕄) ⊢ BI.bigSep (Finset.univ : Finset (Fin 4 × Fin 32)) (fun a => kvFree (F := F) c a.1 a.2) := by
    rw [Ring.pointsTo_blocks (kvsI c) (kvs_disjoint c) (kvs_cover c) f]
    exact BI.bigSep_mono fun a _ => own_any c (kvSlot a.1 a.2) f
  rw [BI.bigSep_univ_prod] at e
  iapply e $$ H
theorem kvs_join : BI.bigSep (Finset.univ : Finset (Fin 4)) (fun r => BI.bigSep (Finset.univ : Finset (Fin 32)) (fun t => kvFree (F := F) c r t)) ⊢ bufAny (F := F) c cc0_scratch0 := by
  have f₀ : Buf (Elt F) ((c : Thread nD τ).loc cc0_scratch0) := fun _ => (0#8 : BitVec 8)
  have e1 : BI.bigSep (Finset.univ : Finset (Fin 4 × Fin 32)) (fun a => kvFree (F := F) c a.1 a.2)
      ⊢ BI.bigSep (Finset.univ : Finset (Fin 4 × Fin 32)) (fun a => iprop(∃ f : Buf (Elt F) ((c : Thread nD τ).loc cc0_scratch0), ((c : Thread nD τ).loc cc0_scratch0 ↦[kvsI c a]{fullShare} f : sProp 𝕄))) :=
    BI.bigSep_mono fun a _ => disown_any c (kvSlot a.1 a.2)
  have e2 := Ring.pointsTo_blocks_join_exists (Ix := Unit) (Name := ℕ) (U := Pipeline.UD sig nD τ) (Lvl := ℕ) (ℓ := (c : Thread nD τ).loc cc0_scratch0) (q := fullShare) (kvsI c) (kvs_disjoint c) (kvs_cover c) f₀
  have e := e1.trans e2
  rw [BI.bigSep_univ_prod] at e
  exact e

/-! ## xSlot -/

theorem xs_set (r : Fin 4) (t : Fin 32) : (xSlot r t).view.set = (Rect.unit (s := S4x32x16x512) ![r.val, t.val, 0, 0] S1x1x16x512.size (xSlot_inb r t)).set := by
  show (((View.whole cc0_scratch1).slice _).reshape _ _).set = _
  rw [View.set_reshape, View.set_slice_whole]
theorem xs_mem (r : Fin 4) (t : Fin 32) (i : S4x32x16x512.Idx) :
    i ∈ (Rect.unit (s := S4x32x16x512) ![r.val, t.val, 0, 0] S1x1x16x512.size (xSlot_inb r t)).set ↔ (i 0).val = r.val ∧ (i 1).val = t.val := by
  rw [Rect.mem_set_unit]
  constructor
  · intro h
    have h0 := h 0
    have h1 := h 1
    have e0 : S1x1x16x512.size 0 = 1 := rfl
    have e1 : S1x1x16x512.size 1 = 1 := rfl
    rw [e0] at h0
    rw [e1] at h1
    simp only [Matrix.cons_val_zero, Matrix.cons_val_one] at h0 h1
    omega
  · rintro ⟨h0, h1⟩ a
    have hi := (i a).isLt
    fin_cases a
    · show r.val ≤ (i 0).val ∧ (i 0).val < r.val + 1
      omega
    · show t.val ≤ (i 1).val ∧ (i 1).val < t.val + 1
      omega
    · exact ⟨Nat.zero_le _, by have : (i 2).val < S4x32x16x512.size 2 := hi; show (i 2).val < 0 + S4x32x16x512.size 2; omega⟩
    · exact ⟨Nat.zero_le _, by have : (i 3).val < S4x32x16x512.size 3 := hi; show (i 3).val < 0 + S4x32x16x512.size 3; omega⟩
def xsI (a : Fin 4 × Fin 32) : Finset (Idx ((c : Thread nD τ).loc cc0_scratch1)) := (xSlot a.1 a.2).view.set
theorem xs_disjoint (a b : Fin 4 × Fin 32) (h : a ≠ b) : Disjoint (xsI c a) (xsI c b) := by
  unfold xsI
  rw [xs_set, xs_set, Finset.disjoint_left]
  intro i hi hi'
  rw [xs_mem] at hi hi'
  exact h (Prod.ext (Fin.ext (hi.1.symm.trans hi'.1)) (Fin.ext (hi.2.symm.trans hi'.2)))
theorem xs_cover : Finset.univ.biUnion (xsI c) = Finset.univ := by
  rw [show xsI c = (fun a => (Rect.unit (s := S4x32x16x512) ![a.1.val, a.2.val, 0, 0] S1x1x16x512.size (xSlot_inb a.1 a.2)).set) from funext fun a => xs_set a.1 a.2]
  ext i
  simp only [Finset.mem_biUnion, Finset.mem_univ, true_and, iff_true]
  exact ⟨(⟨((i : S4x32x16x512.Idx) 0).val, ((i : S4x32x16x512.Idx) 0).isLt⟩, ⟨((i : S4x32x16x512.Idx) 1).val, ((i : S4x32x16x512.Idx) 1).isLt⟩), (xs_mem _ _ i).2 ⟨rfl, rfl⟩⟩

theorem xs_cut : bufAny (F := F) c cc0_scratch1 ⊢ BI.bigSep (Finset.univ : Finset (Fin 4)) (fun r => BI.bigSep (Finset.univ : Finset (Fin 32)) (fun t => xFree (F := F) c r t)) := by
  iintro ⟨%f, H⟩
  have e : ((c : Thread nD τ).loc cc0_scratch1 ↦{fullShare} f : sProp 𝕄) ⊢ BI.bigSep (Finset.univ : Finset (Fin 4 × Fin 32)) (fun a => xFree (F := F) c a.1 a.2) := by
    rw [Ring.pointsTo_blocks (xsI c) (xs_disjoint c) (xs_cover c) f]
    exact BI.bigSep_mono fun a _ => own_any c (xSlot a.1 a.2) f
  rw [BI.bigSep_univ_prod] at e
  iapply e $$ H
theorem xs_join : BI.bigSep (Finset.univ : Finset (Fin 4)) (fun r => BI.bigSep (Finset.univ : Finset (Fin 32)) (fun t => xFree (F := F) c r t)) ⊢ bufAny (F := F) c cc0_scratch1 := by
  have f₀ : Buf (Elt F) ((c : Thread nD τ).loc cc0_scratch1) := fun _ => (FloatOps.truncf .bf16 bitsLt_bf16_f32 (Scalar.ofBits .f32 0x00000000#32) : F .bf16)
  have e1 : BI.bigSep (Finset.univ : Finset (Fin 4 × Fin 32)) (fun a => xFree (F := F) c a.1 a.2)
      ⊢ BI.bigSep (Finset.univ : Finset (Fin 4 × Fin 32)) (fun a => iprop(∃ f : Buf (Elt F) ((c : Thread nD τ).loc cc0_scratch1), ((c : Thread nD τ).loc cc0_scratch1 ↦[xsI c a]{fullShare} f : sProp 𝕄))) :=
    BI.bigSep_mono fun a _ => disown_any c (xSlot a.1 a.2)
  have e2 := Ring.pointsTo_blocks_join_exists (Ix := Unit) (Name := ℕ) (U := Pipeline.UD sig nD τ) (Lvl := ℕ) (ℓ := (c : Thread nD τ).loc cc0_scratch1) (q := fullShare) (xsI c) (xs_disjoint c) (xs_cover c) f₀
  have e := e1.trans e2
  rw [BI.bigSep_univ_prod] at e
  exact e

/-! ## oSlot -/

theorem os_set (r : Fin 2) (t : Fin 32) : (oSlot r t).view.set = (Rect.unit (s := S2x32x16x512) ![r.val, t.val, 0, 0] S1x1x16x512.size (oSlot_inb r t)).set := by
  show (((View.whole cc0_scratch7).slice _).reshape _ _).set = _
  rw [View.set_reshape, View.set_slice_whole]
theorem os_mem (r : Fin 2) (t : Fin 32) (i : S2x32x16x512.Idx) :
    i ∈ (Rect.unit (s := S2x32x16x512) ![r.val, t.val, 0, 0] S1x1x16x512.size (oSlot_inb r t)).set ↔ (i 0).val = r.val ∧ (i 1).val = t.val := by
  rw [Rect.mem_set_unit]
  constructor
  · intro h
    have h0 := h 0
    have h1 := h 1
    have e0 : S1x1x16x512.size 0 = 1 := rfl
    have e1 : S1x1x16x512.size 1 = 1 := rfl
    rw [e0] at h0
    rw [e1] at h1
    simp only [Matrix.cons_val_zero, Matrix.cons_val_one] at h0 h1
    omega
  · rintro ⟨h0, h1⟩ a
    have hi := (i a).isLt
    fin_cases a
    · show r.val ≤ (i 0).val ∧ (i 0).val < r.val + 1
      omega
    · show t.val ≤ (i 1).val ∧ (i 1).val < t.val + 1
      omega
    · exact ⟨Nat.zero_le _, by have : (i 2).val < S2x32x16x512.size 2 := hi; show (i 2).val < 0 + S2x32x16x512.size 2; omega⟩
    · exact ⟨Nat.zero_le _, by have : (i 3).val < S2x32x16x512.size 3 := hi; show (i 3).val < 0 + S2x32x16x512.size 3; omega⟩
def osI (a : Fin 2 × Fin 32) : Finset (Idx ((c : Thread nD τ).loc cc0_scratch7)) := (oSlot a.1 a.2).view.set
theorem os_disjoint (a b : Fin 2 × Fin 32) (h : a ≠ b) : Disjoint (osI c a) (osI c b) := by
  unfold osI
  rw [os_set, os_set, Finset.disjoint_left]
  intro i hi hi'
  rw [os_mem] at hi hi'
  exact h (Prod.ext (Fin.ext (hi.1.symm.trans hi'.1)) (Fin.ext (hi.2.symm.trans hi'.2)))
theorem os_cover : Finset.univ.biUnion (osI c) = Finset.univ := by
  rw [show osI c = (fun a => (Rect.unit (s := S2x32x16x512) ![a.1.val, a.2.val, 0, 0] S1x1x16x512.size (oSlot_inb a.1 a.2)).set) from funext fun a => os_set a.1 a.2]
  ext i
  simp only [Finset.mem_biUnion, Finset.mem_univ, true_and, iff_true]
  exact ⟨(⟨((i : S2x32x16x512.Idx) 0).val, ((i : S2x32x16x512.Idx) 0).isLt⟩, ⟨((i : S2x32x16x512.Idx) 1).val, ((i : S2x32x16x512.Idx) 1).isLt⟩), (os_mem _ _ i).2 ⟨rfl, rfl⟩⟩

theorem os_cut : bufAny (F := F) c cc0_scratch7 ⊢ BI.bigSep (Finset.univ : Finset (Fin 2)) (fun r => BI.bigSep (Finset.univ : Finset (Fin 32)) (fun t => oFree (F := F) c r t)) := by
  iintro ⟨%f, H⟩
  have e : ((c : Thread nD τ).loc cc0_scratch7 ↦{fullShare} f : sProp 𝕄) ⊢ BI.bigSep (Finset.univ : Finset (Fin 2 × Fin 32)) (fun a => oFree (F := F) c a.1 a.2) := by
    rw [Ring.pointsTo_blocks (osI c) (os_disjoint c) (os_cover c) f]
    exact BI.bigSep_mono fun a _ => own_any c (oSlot a.1 a.2) f
  rw [BI.bigSep_univ_prod] at e
  iapply e $$ H
theorem os_join : BI.bigSep (Finset.univ : Finset (Fin 2)) (fun r => BI.bigSep (Finset.univ : Finset (Fin 32)) (fun t => oFree (F := F) c r t)) ⊢ bufAny (F := F) c cc0_scratch7 := by
  have f₀ : Buf (Elt F) ((c : Thread nD τ).loc cc0_scratch7) := fun _ => (FloatOps.truncf .bf16 bitsLt_bf16_f32 (Scalar.ofBits .f32 0x00000000#32) : F .bf16)
  have e1 : BI.bigSep (Finset.univ : Finset (Fin 2 × Fin 32)) (fun a => oFree (F := F) c a.1 a.2)
      ⊢ BI.bigSep (Finset.univ : Finset (Fin 2 × Fin 32)) (fun a => iprop(∃ f : Buf (Elt F) ((c : Thread nD τ).loc cc0_scratch7), ((c : Thread nD τ).loc cc0_scratch7 ↦[osI c a]{fullShare} f : sProp 𝕄))) :=
    BI.bigSep_mono fun a _ => disown_any c (oSlot a.1 a.2)
  have e2 := Ring.pointsTo_blocks_join_exists (Ix := Unit) (Name := ℕ) (U := Pipeline.UD sig nD τ) (Lvl := ℕ) (ℓ := (c : Thread nD τ).loc cc0_scratch7) (q := fullShare) (osI c) (os_disjoint c) (os_cover c) f₀
  have e := e1.trans e2
  rw [BI.bigSep_univ_prod] at e
  exact e

/-! ## The rings -/

theorem kvr_deal (kvt : Buf (Elt F) ((c : Thread nD τ).loc main_v0)) : ((c : Thread nD τ).loc main_v0 ↦{fullShare} kvt : sProp 𝕄)
    = BI.bigSep (Finset.univ : Finset (Fin 4)) (fun r => BI.bigSep (Finset.univ : Finset (Fin 32)) (fun t => kvLeaf c kvt r t)) := by
  rw [Transfers.pointsTo_deal (Finset.univ : Finset (Fin 4)) Finset.univ_nonempty]
  refine BI.bigSep_congr fun r _ => ?_
  rw [Transfers.pointsTo_deal (Finset.univ : Finset (Fin 32)) Finset.univ_nonempty]
  rfl

theorem kvr_in (kvt : Buf (Elt F) ((c : Thread nD τ).loc main_v0)) :
    iprop(BI.bigSep (Finset.univ : Finset (Fin 4)) (fun r => semVal ((c : Thread nD τ), SemLoc.dma (kvSem r)) 0) ∗ bufAny (F := F) c cc0_scratch0 ∗ ((c : Thread nD τ).loc main_v0 ↦{fullShare} kvt))
      ⊢ BI.bigSep (Finset.univ : Finset (Fin 4)) (fun r => kvIdle c kvt r) := by
  iintro ⟨HS, HB, HV⟩
  ihave HB := (kvs_cut c) $$ HB
  ihave HV := (Entails.of_eq (kvr_deal c kvt)) $$ HV
  have e : iprop(BI.bigSep (Finset.univ : Finset (Fin 4)) (fun r => semVal ((c : Thread nD τ), SemLoc.dma (kvSem r)) 0)
      ∗ BI.bigSep (Finset.univ : Finset (Fin 4)) (fun r => BI.bigSep (Finset.univ : Finset (Fin 32)) (fun t => kvFree (F := F) c r t))
      ∗ BI.bigSep (Finset.univ : Finset (Fin 4)) (fun r => BI.bigSep (Finset.univ : Finset (Fin 32)) (fun t => kvLeaf c kvt r t)))
      = BI.bigSep (Finset.univ : Finset (Fin 4)) (fun r => kvIdle c kvt r) := by
    rw [sep3]
    refine BI.bigSep_congr fun r _ => ?_
    unfold kvIdle kvPre
    exact congrArg _ (BI.bigSep_sep _ _ _).symm
  iapply (Entails.of_eq e)
  isplitl [HS]; · iexact HS
  isplitl [HB]; · iexact HB
  iexact HV
theorem kvr_out (kvt : Buf (Elt F) ((c : Thread nD τ).loc main_v0)) :
    BI.bigSep (Finset.univ : Finset (Fin 4)) (fun r => kvIdle c kvt r)
      ⊢ iprop(BI.bigSep (Finset.univ : Finset (Fin 4)) (fun r => semVal ((c : Thread nD τ), SemLoc.dma (kvSem r)) 0) ∗ bufAny (F := F) c cc0_scratch0 ∗ ((c : Thread nD τ).loc main_v0 ↦{fullShare} kvt)) := by
  have e : iprop(BI.bigSep (Finset.univ : Finset (Fin 4)) (fun r => semVal ((c : Thread nD τ), SemLoc.dma (kvSem r)) 0)
      ∗ BI.bigSep (Finset.univ : Finset (Fin 4)) (fun r => BI.bigSep (Finset.univ : Finset (Fin 32)) (fun t => kvFree (F := F) c r t))
      ∗ BI.bigSep (Finset.univ : Finset (Fin 4)) (fun r => BI.bigSep (Finset.univ : Finset (Fin 32)) (fun t => kvLeaf c kvt r t)))
      = BI.bigSep (Finset.univ : Finset (Fin 4)) (fun r => kvIdle c kvt r) := by
    rw [sep3]
    refine BI.bigSep_congr fun r _ => ?_
    unfold kvIdle kvPre
    exact congrArg _ (BI.bigSep_sep _ _ _).symm
  iintro H
  ihave H := (Entails.of_eq e.symm) $$ H
  icases H with ⟨HS, HB, HV⟩
  isplitl [HS]; · iexact HS
  isplitl [HB]; · iapply (kvs_join c) $$ HB
  iapply (Entails.of_eq (kvr_deal c kvt).symm) $$ HV

theorem xr_deal (x3 : Buf (Elt F) ((c : Thread nD τ).loc main_v1)) : ((c : Thread nD τ).loc main_v1 ↦{fullShare} x3 : sProp 𝕄)
    = BI.bigSep (Finset.univ : Finset (Fin 4)) (fun r => BI.bigSep (Finset.univ : Finset (Fin 32)) (fun t => xLeaf c x3 r t)) := by
  rw [Transfers.pointsTo_deal (Finset.univ : Finset (Fin 4)) Finset.univ_nonempty]
  refine BI.bigSep_congr fun r _ => ?_
  rw [Transfers.pointsTo_deal (Finset.univ : Finset (Fin 32)) Finset.univ_nonempty]
  rfl

theorem xr_in (x3 : Buf (Elt F) ((c : Thread nD τ).loc main_v1)) :
    iprop(BI.bigSep (Finset.univ : Finset (Fin 4)) (fun r => semVal ((c : Thread nD τ), SemLoc.dma (xSem r)) 0) ∗ bufAny (F := F) c cc0_scratch1 ∗ ((c : Thread nD τ).loc main_v1 ↦{fullShare} x3))
      ⊢ BI.bigSep (Finset.univ : Finset (Fin 4)) (fun r => xIdle c x3 r) := by
  iintro ⟨HS, HB, HV⟩
  ihave HB := (xs_cut c) $$ HB
  ihave HV := (Entails.of_eq (xr_deal c x3)) $$ HV
  have e : iprop(BI.bigSep (Finset.univ : Finset (Fin 4)) (fun r => semVal ((c : Thread nD τ), SemLoc.dma (xSem r)) 0)
      ∗ BI.bigSep (Finset.univ : Finset (Fin 4)) (fun r => BI.bigSep (Finset.univ : Finset (Fin 32)) (fun t => xFree (F := F) c r t))
      ∗ BI.bigSep (Finset.univ : Finset (Fin 4)) (fun r => BI.bigSep (Finset.univ : Finset (Fin 32)) (fun t => xLeaf c x3 r t)))
      = BI.bigSep (Finset.univ : Finset (Fin 4)) (fun r => xIdle c x3 r) := by
    rw [sep3]
    refine BI.bigSep_congr fun r _ => ?_
    unfold xIdle xPre
    exact congrArg _ (BI.bigSep_sep _ _ _).symm
  iapply (Entails.of_eq e)
  isplitl [HS]; · iexact HS
  isplitl [HB]; · iexact HB
  iexact HV
theorem xr_out (x3 : Buf (Elt F) ((c : Thread nD τ).loc main_v1)) :
    BI.bigSep (Finset.univ : Finset (Fin 4)) (fun r => xIdle c x3 r)
      ⊢ iprop(BI.bigSep (Finset.univ : Finset (Fin 4)) (fun r => semVal ((c : Thread nD τ), SemLoc.dma (xSem r)) 0) ∗ bufAny (F := F) c cc0_scratch1 ∗ ((c : Thread nD τ).loc main_v1 ↦{fullShare} x3)) := by
  have e : iprop(BI.bigSep (Finset.univ : Finset (Fin 4)) (fun r => semVal ((c : Thread nD τ), SemLoc.dma (xSem r)) 0)
      ∗ BI.bigSep (Finset.univ : Finset (Fin 4)) (fun r => BI.bigSep (Finset.univ : Finset (Fin 32)) (fun t => xFree (F := F) c r t))
      ∗ BI.bigSep (Finset.univ : Finset (Fin 4)) (fun r => BI.bigSep (Finset.univ : Finset (Fin 32)) (fun t => xLeaf c x3 r t)))
      = BI.bigSep (Finset.univ : Finset (Fin 4)) (fun r => xIdle c x3 r) := by
    rw [sep3]
    refine BI.bigSep_congr fun r _ => ?_
    unfold xIdle xPre
    exact congrArg _ (BI.bigSep_sep _ _ _).symm
  iintro H
  ihave H := (Entails.of_eq e.symm) $$ H
  icases H with ⟨HS, HB, HV⟩
  isplitl [HS]; · iexact HS
  isplitl [HB]; · iapply (xs_join c) $$ HB
  iapply (Entails.of_eq (xr_deal c x3).symm) $$ HV

theorem or_eq : iprop(BI.bigSep (Finset.univ : Finset (Fin 2)) (fun r => semVal ((c : Thread nD τ), SemLoc.dma (oSem r)) 0)
      ∗ BI.bigSep (Finset.univ : Finset (Fin 2)) (fun r => BI.bigSep (Finset.univ : Finset (Fin 32)) (fun t => oFree (F := F) c r t)))
      = BI.bigSep (Finset.univ : Finset (Fin 2)) (fun r => oIdle (F := F) c r) := by
  exact (BI.bigSep_sep _ _ _).symm

/-! ## The rows of the result -/

theorem row_set (b : Fin 2600) : (outRow b.val).view.set = (Rect.unit (s := S2600x16x512) ![b.val % 2600, 0, 0] S1x16x512.size (xRow_inb b.val)).set := by
  show (((View.whole main_v7).slice _).reshape _ _).set = _
  rw [View.set_reshape, View.set_slice_whole]
theorem row_mem (b : Fin 2600) (i : S2600x16x512.Idx) :
    i ∈ (Rect.unit (s := S2600x16x512) ![b.val % 2600, 0, 0] S1x16x512.size (xRow_inb b.val)).set ↔ (i 0).val = b.val := by
  have hb := b.isLt
  rw [Rect.mem_set_unit]
  constructor
  · intro h
    have h0 := h 0
    have e0 : S1x16x512.size 0 = 1 := rfl
    rw [e0] at h0
    simp only [Matrix.cons_val_zero, Nat.mod_eq_of_lt hb] at h0
    omega
  · intro h0 a
    have hi := (i a).isLt
    fin_cases a
    · show b.val % 2600 ≤ (i 0).val ∧ (i 0).val < b.val % 2600 + 1
      rw [Nat.mod_eq_of_lt hb]; omega
    · exact ⟨Nat.zero_le _, by have : (i 1).val < S2600x16x512.size 1 := hi; show (i 1).val < 0 + S2600x16x512.size 1; omega⟩
    · exact ⟨Nat.zero_le _, by have : (i 2).val < S2600x16x512.size 2 := hi; show (i 2).val < 0 + S2600x16x512.size 2; omega⟩
def rowI (b : Fin 2600) : Finset (Idx ((c : Thread nD τ).loc main_v7)) := (outRow b.val).view.set
theorem row_disjoint (a b : Fin 2600) (h : a ≠ b) : Disjoint (rowI c a) (rowI c b) := by
  unfold rowI
  rw [row_set, row_set, Finset.disjoint_left]
  intro i hi hi'
  rw [row_mem] at hi hi'
  exact h (Fin.ext (hi.symm.trans hi'))
theorem row_cover : Finset.univ.biUnion (rowI c) = Finset.univ := by
  rw [show rowI c = (fun b => (Rect.unit (s := S2600x16x512) ![b.val % 2600, 0, 0] S1x16x512.size (xRow_inb b.val)).set) from funext fun b => row_set b]
  ext i
  simp only [Finset.mem_biUnion, Finset.mem_univ, true_and, iff_true]
  exact ⟨⟨((i : S2600x16x512.Idx) 0).val, ((i : S2600x16x512.Idx) 0).isLt⟩, (row_mem _ i).2 rfl⟩

theorem rows_cut (f : Buf (Elt F) ((c : Thread nD τ).loc main_v7)) :
    ((c : Thread nD τ).loc main_v7 ↦{fullShare} f : sProp 𝕄) ⊢ BI.bigSep (Finset.univ : Finset (Fin 2600)) (fun b => rowAny (F := F) c b) := by
  rw [Ring.pointsTo_blocks (rowI c) (row_disjoint c) (row_cover c) f]
  exact BI.bigSep_mono fun b _ => own_any c (outRow b.val) f

theorem row_owned (b : Fin 2600) (g : S16x512.Idx → Elt F .bf16) : (owns (c : Thread nD τ) (outRow b.val) fullShare g : sProp 𝕄)
    ⊢ iprop(∃ f : Buf (Elt F) ((c : Thread nD τ).loc main_v7), ⌜(outRow b.val).view.read (Elt F) f = g⌝ ∗ ((c : Thread nD τ).loc main_v7 ↦[rowI c b]{fullShare} f : sProp 𝕄)) := by
  unfold owns
  iintro ⟨%f, %h, H⟩
  iexists f
  isplitr
  · ipureintro; exact h
  iexact H
theorem rows_join' (G : Fin 2600 → S16x512.Idx → Elt F .bf16) :
    BI.bigSep (Finset.univ : Finset (Fin 2600)) (fun b : Fin 2600 => iprop(∃ f : Buf (Elt F) ((c : Thread nD τ).loc main_v7), ⌜(outRow b.val).view.read (Elt F) f = G b⌝ ∗ ((c : Thread nD τ).loc main_v7 ↦[rowI c b]{fullShare} f : sProp 𝕄)))
      ⊢ iprop(∃ W : Buf (Elt F) ((c : Thread nD τ).loc main_v7), ⌜∀ b : Fin 2600, (outRow b.val).view.read (Elt F) W = G b⌝ ∗ ((c : Thread nD τ).loc main_v7 ↦{fullShare} W)) := by
  have f₀ : Buf (Elt F) ((c : Thread nD τ).loc main_v7) := fun _ => (FloatOps.truncf .bf16 bitsLt_bf16_f32 (Scalar.ofBits .f32 0x00000000#32) : F .bf16)
  have : Nonempty (Buf (Elt F) ((c : Thread nD τ).loc main_v7)) := ⟨f₀⟩
  iintro H
  ihave H := (BI.bigSep_exists_pi Finset.univ (fun (b : Fin 2600) (f : Buf (Elt F) ((c : Thread nD τ).loc main_v7)) =>
    iprop(⌜(outRow b.val).view.read (Elt F) f = G b⌝ ∗ ((c : Thread nD τ).loc main_v7 ↦[rowI c b]{fullShare} f : sProp 𝕄)))) $$ H
  icases H with ⟨%fs, H⟩
  ihave H := (BI.bigSep_pure_sep Finset.univ _ _) $$ H
  icases H with ⟨%hr, H⟩
  ihave H := (pointsTo_biUnion_join Finset.univ (rowI c) fs f₀ (fun b _ b' _ h => row_disjoint c b b' h)) $$ H
  icases H with ⟨%g, %hg, H⟩
  rw [row_cover c]
  iexists g
  isplitr
  · ipureintro
    intro b
    rw [← hr b (Finset.mem_univ _)]
    exact View.read_congr fun x hx => hg b (Finset.mem_univ _) x hx
  iexact H

/-- Rows held at given contents are the result held at contents that agree with them. -/
theorem rows_join (G : Fin 2600 → S16x512.Idx → Elt F .bf16) :
    BI.bigSep (Finset.univ : Finset (Fin 2600)) (fun b => (owns (c : Thread nD τ) (outRow b.val) fullShare (G b) : sProp 𝕄))
      ⊢ iprop(∃ W : Buf (Elt F) ((c : Thread nD τ).loc main_v7), ⌜∀ b : Fin 2600, (outRow b.val).view.read (Elt F) W = G b⌝ ∗ ((c : Thread nD τ).loc main_v7 ↦{fullShare} W)) := by
  exact (BI.bigSep_mono fun b _ => row_owned c b (G b)).trans (rows_join' c G)

section
variable {long : ℕ → Prop} {T : ℕ → BitVec 32} {N : ℕ} (h : Table long T N) (Gp : ℕ → S16x512.Idx → Elt F .bf16)
theorem todo_all : rowsTodo (F := F) c h 0 = BI.bigSep (Finset.univ : Finset (Fin 2600)) (fun b => rowAny (F := F) c b) := by
  unfold rowsTodo
  rw [Finset.filter_true_of_mem fun b _ => Nat.zero_le _]
theorem done_none : rowsDone c h Gp 0 = iprop(emp) := by
  unfold rowsDone
  rw [Finset.filter_false_of_mem fun b _ => by omega, BI.bigSep_empty]
  rfl
theorem done_all {K : ℕ} (hK : K = stepsOf N) : rowsDone c h Gp (32 * K) = BI.bigSep (Finset.univ : Finset (Fin 2600)) (fun b => (owns (c : Thread nD τ) (outRow b.val) fullShare (Gp (h.pos b)) : sProp 𝕄)) := by
  unfold rowsDone
  rw [Finset.filter_true_of_mem fun b _ => by have := h.pos_lt b; rw [hK]; exact this]
  rfl
end

end Cert.KernelIdeal.Hand

end
-- ==== Proof.Whole.lean ====
/-
  The kernel's body as a whole: from the arrays and buffers it is given to the same ones back, the
  result at the rows its steps compute.
-/
module

public import proofs.«01_k».proof.Proof.Ends

@[expose] public section

noncomputable section

namespace Cert.KernelIdeal.Hand

open Cert.KernelIdeal Cert.KernelIdeal.Gen Cert.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords)

section
variable
  (kvt : Buf (Elt F) ((c : Thread nD τ).loc main_v0)) (x3 : Buf (Elt F) ((c : Thread nD τ).loc main_v1))
  (fl : Buf (Elt F) ((c : Thread nD τ).loc main_arg5)) (q : PosShare TreeShare)
  (fq : Buf (Elt F) ((c : Thread nD τ).loc main_v3)) (fk : Buf (Elt F) ((c : Thread nD τ).loc main_v6)) (fv : Buf (Elt F) ((c : Thread nD τ).loc main_v4))

/-- The column numbers. -/
abbrev cols : IVec S16x128 32 := iota .tc S16x128 32 [1] iota_S16x128_d1_w32

/-- What the result holds: each row the block of the position that computes it. -/
def OutOK (W : Buf (Elt F) ((c : Thread nD τ).loc main_v7)) : Prop :=
  ∃ (v0 v1 : BitVec 32) (N K : ℕ) (f8 : Buf (Elt F) ((c : Thread nD τ).loc cc0_scratch8))
    (f12 : Buf (Elt F) ((c : Thread nD τ).loc cc0_scratch4)) (f13 : Buf (Elt F) ((c : Thread nD τ).loc cc0_scratch5))
    (f14 : Buf (Elt F) ((c : Thread nD τ).loc cc0_scratch6)) (h : Table (isLong c fl) (cellN c f8) N),
    Built' v0 v1 N K ∧ QG fq f12 2600 0 0 ∧ KG fk f13 2600 ∧ VG c fv f14
      ∧ ∀ b : Fin 2600, (outRow b.val).view.read (Elt F) W = blockAt c kvt x3 f8 fl f12 f13 f14 cols (h.pos b)

/-- The ten cells of the rings. -/
def Sems10 : sProp 𝕄 :=
  iprop(BI.bigSep (Finset.univ : Finset (Fin 4)) (fun r => semVal ((c : Thread nD τ), SemLoc.dma (kvSem r)) 0)
    ∗ BI.bigSep (Finset.univ : Finset (Fin 4)) (fun r => semVal ((c : Thread nD τ), SemLoc.dma (xSem r)) 0)
    ∗ BI.bigSep (Finset.univ : Finset (Fin 2)) (fun r => semVal ((c : Thread nD τ), SemLoc.dma (oSem r)) 0))
/-- The nine scratch buffers. -/
def Scratch : sProp 𝕄 :=
  iprop(bufAny (F := F) c cc0_scratch0 ∗ bufAny (F := F) c cc0_scratch1 ∗ bufAny (F := F) c cc0_scratch2 ∗ bufAny (F := F) c cc0_scratch3 ∗ bufAny (F := F) c cc0_scratch4
    ∗ bufAny (F := F) c cc0_scratch5 ∗ bufAny (F := F) c cc0_scratch6 ∗ bufAny (F := F) c cc0_scratch7 ∗ bufAny (F := F) c cc0_scratch8)
/-- All but the result. -/
def Held : sProp 𝕄 :=
  iprop(Scratch (F := F) c ∗ Sems10 (F := F) c ∗ Sems6 (F := F) c ∗ ((c : Thread nD τ).loc main_arg5 ↦{q} fl)
    ∗ ((c : Thread nD τ).loc main_v0 ↦{fullShare} kvt) ∗ ((c : Thread nD τ).loc main_v1 ↦{fullShare} x3) ∗ Sources c fq fk fv ∗ (∃ W, owes (c : Thread nD τ) 0 W))

/-- The rings at rest. -/
def Rest4 : sProp 𝕄 := iprop(InRest c kvt x3 0 ∗ InRest c kvt x3 1 ∗ InRest c kvt x3 2 ∗ InRest c kvt x3 3)

theorem rest4_eq : BI.bigSep (Finset.univ : Finset (Fin 4)) (fun r => iprop(kvIdle c kvt r ∗ xIdle c x3 r)) = Rest4 c kvt x3 := by
  rw [BI.bigSep_eq_bigSepL_of_eq (S := (Finset.univ : Finset (Fin 4))) [0, 1, 2, 3] (by decide) (by decide)]
  rfl
theorem rest2_eq : BI.bigSep (Finset.univ : Finset (Fin 2)) (fun r => oIdle (F := F) c r) = iprop(oIdle (F := F) c (r2 0) ∗ oIdle (F := F) c (r2 1)) := by
  rw [BI.bigSep_eq_bigSepL_of_eq (S := (Finset.univ : Finset (Fin 2))) [0, 1] (by decide) (by decide)]
  rfl

theorem rings_open : iprop(bufAny (F := F) c cc0_scratch0 ∗ bufAny (F := F) c cc0_scratch1 ∗ bufAny (F := F) c cc0_scratch7 ∗ Sems10 (F := F) c
      ∗ ((c : Thread nD τ).loc main_v0 ↦{fullShare} kvt) ∗ ((c : Thread nD τ).loc main_v1 ↦{fullShare} x3))
    ⊢ iprop(Rest4 c kvt x3 ∗ BI.bigSep (Finset.univ : Finset (Fin 2)) (fun r => oIdle (F := F) c r)) := by
  unfold Sems10
  iintro ⟨H0, H1, H7, ⟨HS, HS', HS''⟩, Hk, Hx⟩
  ihave HA := (kvr_in c kvt) $$ [H0 HS Hk]
  · isplitl [HS]; · iexact HS
    isplitl [H0]; · iexact H0
    iexact Hk
  ihave HB := (xr_in c x3) $$ [H1 HS' Hx]
  · isplitl [HS']; · iexact HS'
    isplitl [H1]; · iexact H1
    iexact Hx
  isplitl [HA HB]
  · iapply (Entails.of_eq (rest4_eq c kvt x3))
    iapply (big_sep2 (F := F) _ _ _)
    isplitl [HA]; · iexact HA
    iexact HB
  iapply (Entails.of_eq (or_eq (F := F) c))
  isplitl [HS'']; · iexact HS''
  iapply (os_cut c) $$ H7

theorem rings_close : iprop(BI.bigSep (Finset.univ : Finset (Fin 4)) (fun r => iprop(kvIdle c kvt r ∗ xIdle c x3 r)) ∗ BI.bigSep (Finset.univ : Finset (Fin 2)) (fun r => oIdle (F := F) c r))
    ⊢ iprop(bufAny (F := F) c cc0_scratch0 ∗ bufAny (F := F) c cc0_scratch1 ∗ bufAny (F := F) c cc0_scratch7 ∗ Sems10 (F := F) c
      ∗ ((c : Thread nD τ).loc main_v0 ↦{fullShare} kvt) ∗ ((c : Thread nD τ).loc main_v1 ↦{fullShare} x3)) := by
  unfold Sems10
  iintro ⟨HA, HB⟩
  ihave HA := (big_sep2' (F := F) _ _ _) $$ HA
  icases HA with ⟨HA, HX⟩
  ihave HA := (kvr_out c kvt) $$ HA
  icases HA with ⟨HS, H0, Hk⟩
  ihave HX := (xr_out c x3) $$ HX
  icases HX with ⟨HS', H1, Hx⟩
  ihave HB := (Entails.of_eq (or_eq (F := F) c).symm) $$ HB
  icases HB with ⟨HS'', H7⟩
  ihave H7 := (os_join c) $$ H7
  isplitl [H0]; · iexact H0
  isplitl [H1]; · iexact H1
  isplitl [H7]; · iexact H7
  isplitl [HS HS' HS'']
  · isplitl [HS]; · iexact HS
    isplitl [HS']; · iexact HS'
    iexact HS''
  isplitl [Hk]; · iexact Hk
  iexact Hx

theorem main_zero {v0 v1 : BitVec 32} {N K : ℕ} (H : Built' v0 v1 N K)
    (f8 : Buf (Elt F) ((c : Thread nD τ).loc cc0_scratch8))
    (f12 : Buf (Elt F) ((c : Thread nD τ).loc cc0_scratch4)) (f13 : Buf (Elt F) ((c : Thread nD τ).loc cc0_scratch5))
    (f14 : Buf (Elt F) ((c : Thread nD τ).loc cc0_scratch6)) (h : Table (isLong c fl) (cellN c f8) N) (f7 : Buf (Elt F) ((c : Thread nD τ).loc main_v7)) :
    iprop(Starting c kvt x3 f8 K 3 ∗ ((c : Thread nD τ).loc main_arg5 ↦{q} fl) ∗ Prepared c f12 f13 f14 ∗ (∃ W, owes (c : Thread nD τ) 0 W)
      ∗ InRest c kvt x3 3 ∗ BI.bigSep (Finset.univ : Finset (Fin 2)) (fun r => oIdle (F := F) c r) ∗ ((c : Thread nD τ).loc main_v7 ↦{fullShare} f7))
      ⊢ Main (K := K) c kvt x3 f8 fl f12 f13 f14 cols q h 0 := by
  unfold Starting Main
  rw [St_lo c kvt x3 f8 (by omega), St_lo c kvt x3 f8 (by omega), St_lo c kvt x3 f8 (by omega), rest2_eq, show 32 * 0 = 0 from rfl, todo_all, done_none]
  iintro ⟨⟨H8, HI0, HI1, HI2⟩, HL, HP, HW, HI3, ⟨HO0, HO1⟩, HR⟩
  isplitl [H8]; · iexact H8
  isplitl [HL]; · iexact HL
  isplitl [HP]; · iexact HP
  isplitl [HW]; · iexact HW
  isplitl [HI0]; · iexact HI0
  isplitl [HI1]; · iexact HI1
  isplitl [HI2]; · iexact HI2
  isplitl [HI3]; · iexact HI3
  isplitl [HO0]
  · unfold OutAt; rw [if_pos (by omega)]; iexact HO0
  isplitl [HO1]
  · unfold OutAt; rw [if_pos (by omega)]; iexact HO1
  isplitl [HR]; · iapply (rows_cut c f7) $$ HR
  iempintro

/-- The body, from everything it is given to everything back. -/
theorem body_wp : iprop(Held c kvt x3 fl q fq fk fv ∗ bufAny (F := F) c main_v7)
    ⊢ wp frame (wpE (defs₀ (F := F)) Variants.none (c : Thread nD τ) none) Set.univ (cc0_mla_decode (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12) (fun _ =>
      iprop(Held c kvt x3 fl q fq fk fv ∗ ∃ W : Buf (Elt F) ((c : Thread nD τ).loc main_v7), ⌜OutOK c kvt x3 fl fq fk fv W⌝ ∗ ((c : Thread nD τ).loc main_v7 ↦{fullShare} W))) := by
  rw [cc0_mla_decode_eq_skeleton]
  unfold cc0_mla_decode_skel
  simp only [bind_assoc, Prog.bind_lift, Prog.bind_ret, Prog.bind_op, Prog.pure_eq_ret]
  conv_lhs => unfold Held Scratch
  iintro ⟨⟨⟨H0, H1, H2, H3, H4, H5, H6, H7, H8⟩, HS, HM, HL, Hk, Hx, Hsrc, HW⟩, ⟨%f7, Ho⟩⟩
  ihave HR := (rings_open c kvt x3) $$ [H0 H1 H7 HS Hk Hx]
  · isplitl [H0]; · iexact H0
    isplitl [H1]; · iexact H1
    isplitl [H7]; · iexact H7
    isplitl [HS]; · iexact HS
    isplitl [Hk]; · iexact Hk
    iexact Hx
  unfold Rest4
  icases HR with ⟨⟨HI0, HI1, HI2, HI3⟩, HO⟩
  iapply (part30_wp c i fq fk fv) $$ [Hsrc H2 H3 H6 HM]
  · isplitl [Hsrc]; · iexact Hsrc
    isplitl [H2]; · iexact H2
    isplitl [H3]; · iexact H3
    isplitl [H6]; · iexact H6
    iexact HM
  iintro HA
  dsimp only
  iapply (part31_wp c i kvt x3 fl q) $$ [H8 HL HI0 HI1 HI2]
  · isplitl [H8]; · iexact H8
    isplitl [HL]; · iexact HL
    isplitl [HI0]; · iexact HI0
    isplitl [HI1]; · iexact HI1
    iexact HI2
  iintro %v0 %v1 %hw3 %v52 %N %K %f8 %hB HL HSt
  dsimp only
  iapply (part32_wp c i fq fk fv) $$ [HA HW]
  · isplitl [HA]; · iexact HA
    iexact HW
  iintro %f14 %hV Hsrc H10 H11 H6 HM HW
  dsimp only
  ihave HT := (turning_zero c fq fk) $$ [H10 H11 H4 H5]
  · isplitl [H10]; · iexact H10
    isplitl [H11]; · iexact H11
    isplitl [H4]; · iexact H4
    iexact H5
  iapply (part33_wp c i fq fk) $$ HT
  iintro H10 H11 HQ HK
  iapply (part34_wp c i fq) $$ [H10 HQ]
  · isplitl [H10]; · iexact H10
    iexact HQ
  iintro H10 HQ
  iapply (tail_wp c fq fk) $$ [H11 HQ HK]
  · isplitl [H11]; · iexact H11
    isplitl [HQ]; · iexact HQ
    iexact HK
  iintro H11 HQ HK
  unfold QAt KAt
  icases HQ with ⟨%f12, %hQ, HQ⟩
  icases HK with ⟨%f13, %hK, HK⟩
  ihave HMain := (main_zero c kvt x3 fl q hB.1 f8 f12 f13 f14 hB.2 f7) $$ [HSt HL HQ HK H6 HW HI3 HO Ho]
  · isplitl [HSt]; · iexact HSt
    isplitl [HL]; · iexact HL
    isplitl [HQ HK H6]
    · unfold Prepared
      isplitl [HQ]; · iexact HQ
      isplitl [HK]; · iexact HK
      iexact H6
    isplitl [HW]; · iexact HW
    isplitl [HI3]; · iexact HI3
    isplitl [HO]; · iexact HO
    iexact Ho
  iapply (wp_wand frame (wpE (defs₀ (F := F)) Variants.none (c : Thread nD τ) none) Set.univ) $$ [HMain]
  · iapply (steps_wp c i kvt x3 f8 fl f12 f13 f14 cols q hB.2 hB.1 (rowsOK c f8 hB.1 hB.2) hw3 _) $$ HMain
  iintro %_ HF
  unfold Finished
  rw [done_all c hB.2 _ hB.1.k]
  icases HF with ⟨H8, HL, HP, HW, HI, HO, HR⟩
  unfold Prepared
  icases HP with ⟨H4, H5, H6⟩
  ihave HR := (rows_join c _) $$ HR
  icases HR with ⟨%W, %hW, HR⟩
  ihave HB := (rings_close c kvt x3) $$ [HI HO]
  · isplitl [HI]; · iexact HI
    iexact HO
  icases HB with ⟨H0, H1, H7, HS, Hk, Hx⟩
  isplitr [HR]
  · unfold Held Scratch R10 R11
    isplitl [H0 H1 H10 H11 H4 H5 H6 H7 H8]
    · isplitl [H0]; · iexact H0
      isplitl [H1]; · iexact H1
      isplitl [H10]; · iexists _; iexact H10
      isplitl [H11]; · iexists _; iexact H11
      isplitl [H4]; · iexists _; iexact H4
      isplitl [H5]; · iexists _; iexact H5
      isplitl [H6]; · iexists _; iexact H6
      isplitl [H7]; · iexact H7
      iexists _; iexact H8
    isplitl [HS]; · iexact HS
    isplitl [HM]; · iexact HM
    isplitl [HL]; · iexact HL
    isplitl [Hk]; · iexact Hk
    isplitl [Hx]; · iexact Hx
    isplitl [Hsrc]; · iexact Hsrc
    iexact HW
  iexists W
  isplitr
  · ipureintro
    exact ⟨v0, v1, N, K, f8, f12, f13, f14, hB.2, hB.1, hQ, hK, hV, hW⟩
  iexact HR

end

end Cert.KernelIdeal.Hand

end
-- ==== Proof.Launch.lean ====
/-
  The kernel's launch: the host operations before it, its region entered and left, and what every
  final state holds: the arguments as they were, the counters at zero, the result at the rows the
  body's steps compute.
-/
module

public import proofs.«01_k».proof.Proof.Whole
public import Idealize.ShloMosaic.Lib.Pipeline.FrameValue

@[expose] public section

noncomputable section

namespace Cert.KernelIdeal.Hand

open Cert.KernelIdeal Cert.KernelIdeal.Gen Cert.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Up to the region -/

/-- A core's buffers when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem ok_any (pf : pre0.Contents (Elt F)) : ok0 pf := by unfold ok0; trivial

/-- The table's contents, read off the one device. -/
def tab : pre0.Contents (Elt F)
  | 0 => V m (0 : Dev nD) main_arg5
  | ⟨_ + 1, h⟩ => absurd h (Nat.not_lt.2 (Nat.le_add_left _ _))
def adm : (p : Fin 1) → (pcfgs (F := F) p).Adm := fun _ => ⟨tab m, ok_any (F := F) (tab m)⟩

theorem V_pre (c : Dev nD) (k : Fin pre0.K) : V m c (pre0.ref k) = (adm m 0).1 k := by
  obtain rfl : c = 0 := Subsingleton.elim (α := Fin 1) _ _
  match k with
  | 0 => rfl

/-! ## The cells and buffers -/

abbrev cell (k : Fin 16) : DmaSem sig := ⟨k.val, by have := k.isLt; show _ < 16; omega⟩
abbrev osem0 : Fin 16 → SemLoc sig := fun k => SemLoc.dma (cell k)
theorem ownSemFacts0 : Pipeline.OwnSemFacts spec0 osem0 := by decide
abbrev H0 : Finset (Ref sig .tc) := {main_v0, main_v1, main_v3, main_v4, main_v6}
abbrev R0 : Finset (Ref sig .tc) := {main_v7}
theorem H0_sub : H0 ⊆ Pipeline.restRefsP sig pre0 spec0 := by decide
theorem R0_sub : R0 ⊆ Pipeline.restRefsP sig pre0 spec0 \ H0 := by decide

theorem sems_eq (c : Dev nD) : (Pipeline.ownSems0 (Ix := Unit) (Name := ℕ) (U := Pipeline.UD sig nD τ) (Lvl := ℕ) (Val := Elt F) (τ := τ) osem0 c : sProp 𝕄)
    = iprop(semVal ((c : Thread nD τ), SemLoc.dma (cell 0)) 0 ∗ semVal ((c : Thread nD τ), SemLoc.dma (cell 1)) 0 ∗ semVal ((c : Thread nD τ), SemLoc.dma (cell 2)) 0 ∗ semVal ((c : Thread nD τ), SemLoc.dma (cell 3)) 0 ∗ semVal ((c : Thread nD τ), SemLoc.dma (cell 4)) 0 ∗ semVal ((c : Thread nD τ), SemLoc.dma (cell 5)) 0 ∗ semVal ((c : Thread nD τ), SemLoc.dma (cell 6)) 0 ∗ semVal ((c : Thread nD τ), SemLoc.dma (cell 7)) 0 ∗ semVal ((c : Thread nD τ), SemLoc.dma (cell 8)) 0 ∗ semVal ((c : Thread nD τ), SemLoc.dma (cell 9)) 0 ∗ semVal ((c : Thread nD τ), SemLoc.dma (cell 10)) 0 ∗ semVal ((c : Thread nD τ), SemLoc.dma (cell 11)) 0 ∗ semVal ((c : Thread nD τ), SemLoc.dma (cell 12)) 0 ∗ semVal ((c : Thread nD τ), SemLoc.dma (cell 13)) 0 ∗ semVal ((c : Thread nD τ), SemLoc.dma (cell 14)) 0 ∗ semVal ((c : Thread nD τ), SemLoc.dma (cell 15)) 0) :=
  Pipeline.ownSems0_eq_of_list c osem0 [0, 1, 2, 3, 4, 5, 6, 7, 8, 9, 10, 11, 12, 13, 14, 15] (by decide) (by decide)

theorem sems10_eq (c : Dev nD) : (Sems10 (F := F) c : sProp 𝕄)
    = iprop((semVal ((c : Thread nD τ), SemLoc.dma (cell 0)) 0 ∗ semVal ((c : Thread nD τ), SemLoc.dma (cell 1)) 0 ∗ semVal ((c : Thread nD τ), SemLoc.dma (cell 2)) 0 ∗ semVal ((c : Thread nD τ), SemLoc.dma (cell 3)) 0)
      ∗ (semVal ((c : Thread nD τ), SemLoc.dma (cell 4)) 0 ∗ semVal ((c : Thread nD τ), SemLoc.dma (cell 5)) 0 ∗ semVal ((c : Thread nD τ), SemLoc.dma (cell 6)) 0 ∗ semVal ((c : Thread nD τ), SemLoc.dma (cell 7)) 0)
      ∗ (semVal ((c : Thread nD τ), SemLoc.dma (cell 8)) 0 ∗ semVal ((c : Thread nD τ), SemLoc.dma (cell 9)) 0)) := by
  unfold Sems10
  rw [BI.bigSep_eq_bigSepL_of_eq (S := (Finset.univ : Finset (Fin 4))) [0, 1, 2, 3] (by decide) (by decide),
    BI.bigSep_eq_bigSepL_of_eq (S := (Finset.univ : Finset (Fin 4))) [0, 1, 2, 3] (by decide) (by decide),
    BI.bigSep_eq_bigSepL_of_eq (S := (Finset.univ : Finset (Fin 2))) [0, 1] (by decide) (by decide)]
  rfl

theorem sems_in (c : Dev nD) : (Pipeline.ownSems0 (Ix := Unit) (Name := ℕ) (U := Pipeline.UD sig nD τ) (Lvl := ℕ) (Val := Elt F) (τ := τ) osem0 c : sProp 𝕄)
    ⊢ iprop(Sems10 (F := F) c ∗ Sems6 (F := F) c) := by
  rw [sems_eq, sems10_eq]
  iintro ⟨K0, K1, K2, K3, K4, K5, K6, K7, K8, K9, K10, K11, K12, K13, K14, K15⟩
  isplitl [K0 K1 K2 K3 K4 K5 K6 K7 K8 K9]
  · isplitl [K0 K1 K2 K3]
    · isplitl [K0]; · iexact K0
      isplitl [K1]; · iexact K1
      isplitl [K2]; · iexact K2
      iexact K3
    isplitl [K4 K5 K6 K7]
    · isplitl [K4]; · iexact K4
      isplitl [K5]; · iexact K5
      isplitl [K6]; · iexact K6
      iexact K7
    isplitl [K8]; · iexact K8
    iexact K9
  unfold Sems6 sem0
  isplitl [K10]; · iexact K10
  isplitl [K11]; · iexact K11
  isplitl [K12]; · iexact K12
  isplitl [K13]; · iexact K13
  isplitl [K14]; · iexact K14
  iexact K15

theorem sems_out (c : Dev nD) : iprop(Sems10 (F := F) c ∗ Sems6 (F := F) c)
    ⊢ (Pipeline.ownSems0 (Ix := Unit) (Name := ℕ) (U := Pipeline.UD sig nD τ) (Lvl := ℕ) (Val := Elt F) (τ := τ) osem0 c : sProp 𝕄) := by
  rw [sems_eq, sems10_eq]
  unfold Sems6 sem0
  iintro ⟨⟨⟨K0, K1, K2, K3⟩, ⟨K4, K5, K6, K7⟩, K8, K9⟩, K10, K11, K12, K13, K14, K15⟩
  isplitl [K0]; · iexact K0
  isplitl [K1]; · iexact K1
  isplitl [K2]; · iexact K2
  isplitl [K3]; · iexact K3
  isplitl [K4]; · iexact K4
  isplitl [K5]; · iexact K5
  isplitl [K6]; · iexact K6
  isplitl [K7]; · iexact K7
  isplitl [K8]; · iexact K8
  isplitl [K9]; · iexact K9
  isplitl [K10]; · iexact K10
  isplitl [K11]; · iexact K11
  isplitl [K12]; · iexact K12
  isplitl [K13]; · iexact K13
  isplitl [K14]; · iexact K14
  iexact K15

theorem bufs_eq (c : Dev nD) (W : (b : Ref sig .tc) → Buf (Elt F) ((c : Thread nD τ).loc b)) :
    (BI.bigSep H0 (fun b => ((c : Thread nD τ).loc b) ↦{fullShare} W b) : sProp 𝕄)
      = iprop(((c : Thread nD τ).loc main_v0 ↦{fullShare} W main_v0) ∗ ((c : Thread nD τ).loc main_v1 ↦{fullShare} W main_v1)
        ∗ ((c : Thread nD τ).loc main_v3 ↦{fullShare} W main_v3) ∗ ((c : Thread nD τ).loc main_v4 ↦{fullShare} W main_v4)
        ∗ ((c : Thread nD τ).loc main_v6 ↦{fullShare} W main_v6)) := by
  rw [BI.bigSep_eq_bigSepL_of_eq [main_v0, main_v1, main_v3, main_v4, main_v6] (by decide) (by decide)]; rfl

theorem res_eq (c : Dev nD) (W : (b : Ref sig .tc) → Buf (Elt F) ((c : Thread nD τ).loc b)) :
    (Pipeline.routed R0 c W : sProp 𝕄) = iprop((c : Thread nD τ).loc main_v7 ↦{fullShare} W main_v7) := by
  unfold Pipeline.routed
  rw [BI.bigSep_eq_bigSepL_of_eq [main_v7] (by decide) (by decide)]; rfl

theorem table_eq (c : Dev nD) :
    (Pipeline.ΦT pre0 (adm m 0).1 c : sProp 𝕄) = iprop((c : Thread nD τ).loc main_arg5 ↦{fullShare.right} V m c main_arg5) := by
  unfold Pipeline.ΦT Pipeline.prefHeld
  rw [BI.bigSep_eq_bigSepL_of_eq (S := (Finset.univ : Finset (Fin pre0.K))) [0] (by decide) (by decide)]
  obtain rfl : c = 0 := Subsingleton.elim (α := Fin 1) _ _
  rfl

/-! ## The invariant's two ends -/

/-- The result's rows, over what the region finds. -/
def PG (c : Dev nD) (W : (b : Ref sig .tc) → Buf (Elt F) ((c : Thread nD τ).loc b)) : Prop :=
  OutOK c (V m c main_v0) (V m c main_v1) (V m c main_arg5) (V m c main_v3) (V m c main_v6) (V m c main_v4) (W main_v7)

def Φ0 (c : Dev nD) : sProp 𝕄 :=
  iprop(Pipeline.ΦDRG osem0 spec0 H0 R0 (V m) (V m) c ∗ Pipeline.ΦT pre0 (adm m 0).1 c)
def Φ1 (c : Dev nD) : sProp 𝕄 :=
  iprop(Pipeline.ΦD osem0 spec0 H0 (V m) c ∗ Pipeline.routedSat R0 c (PG m c))

theorem enter (c : Dev nD) : iprop(Φ0 m c ∗ (∃ W, owes (c : Thread nD τ) 0 W))
    ⊢ iprop((Held c (V m c main_v0) (V m c main_v1) (V m c main_arg5) fullShare.right (V m c main_v3) (V m c main_v6) (V m c main_v4) ∗ bufAny (F := F) c main_v7)
      ∗ (∃ r, prngReg c r)) := by
  unfold Φ0
  rw [Pipeline.ΦDRG_eq, scopedRest0_eq, bufs_eq, res_eq, table_eq]
  iintro ⟨⟨⟨HS, Hg, HK, ⟨H0, H1, H3, H4, H6⟩, H7⟩, HT⟩, HW⟩
  ihave HK := (sems_in c) $$ HK
  icases HK with ⟨HK, HK'⟩
  isplitr [Hg]
  · isplitr [H7]
    · unfold Held Scratch Sources
      isplitl [HS]; · iexact HS
      isplitl [HK]; · iexact HK
      isplitl [HK']; · iexact HK'
      isplitl [HT]; · iexact HT
      isplitl [H0]; · iexact H0
      isplitl [H1]; · iexact H1
      isplitl [H3 H4 H6]
      · isplitl [H3]; · iexact H3
        isplitl [H6]; · iexact H6
        iexact H4
      iexact HW
    iexists _; iexact H7
  iexact Hg

/-- One buffer at given contents, the rest as they were. -/
def upd (c : Dev nD) (W : Buf (Elt F) ((c : Thread nD τ).loc main_v7)) : (b : Ref sig .tc) → Buf (Elt F) ((c : Thread nD τ).loc b) :=
  fun b => if h : b = main_v7 then h ▸ W else V m c b

theorem upd_self (c : Dev nD) (W) : upd m c W main_v7 = W := by unfold upd; rw [dif_pos rfl]

theorem leave (c : Dev nD) :
    iprop((Held c (V m c main_v0) (V m c main_v1) (V m c main_arg5) fullShare.right (V m c main_v3) (V m c main_v6) (V m c main_v4)
        ∗ ∃ W : Buf (Elt F) ((c : Thread nD τ).loc main_v7), ⌜OutOK c (V m c main_v0) (V m c main_v1) (V m c main_arg5) (V m c main_v3) (V m c main_v6) (V m c main_v4) W⌝ ∗ ((c : Thread nD τ).loc main_v7 ↦{fullShare} W))
      ∗ (∃ r, prngReg c r)) ⊢ iprop(Φ1 m c ∗ (∃ W, owes (c : Thread nD τ) 0 W)) := by
  unfold Φ1 Pipeline.routedSat Held Scratch Sources
  rw [Pipeline.ΦD_eq, scopedRest0_eq, bufs_eq]
  iintro ⟨⟨⟨HS, HK, HK', HT, H0, H1, ⟨H3, H6, H4⟩, HW⟩, ⟨%W, %hW, H7⟩⟩, Hg⟩
  ihave HK := (sems_out c) $$ [HK HK']
  · isplitl [HK]; · iexact HK
    iexact HK'
  isplitr [HW]
  · isplitr [H7]
    · isplitl [HS]; · iexact HS
      isplitl [Hg]; · iexact Hg
      isplitl [HK]; · iexact HK
      isplitl [H0]; · iexact H0
      isplitl [H1]; · iexact H1
      isplitl [H3]; · iexact H3
      isplitl [H4]; · iexact H4
      iexact H6
    iexists (upd m c W)
    isplitr
    · ipureintro; unfold PG; rw [upd_self]; exact hW
    rw [res_eq, upd_self]; iexact H7
  iexact HW

/-! ## The region's step -/

abbrev cfgA : Cfg sig Λ₀ := Pipeline.pin (pcfgs (F := F)) (adm m) 0

/-- The region's proof data: no window, the invariant before the one step and after it. -/
def rdat (c : Dev nD) : Pipeline.RDat τ (Elt F) Unit ℕ (Pipeline.UD sig nD τ) ℕ (cfgA m) c where
  A w := V m c (Pipeline.arrRef spec0 w)
  after _ _ _ _ := True
  Φ t := if t.val = 0 then Φ0 m c else Φ1 m c
  q _ := fullShare
  owed _ := 0

theorem Φ_first (c : Dev nD) (t : Fin ((cfgA m).N + 1)) (h : t.val = 0) : (rdat m c).Φ t = Φ0 m c := by
  unfold rdat; exact if_pos h
theorem Φ_later (c : Dev nD) (t : Fin ((cfgA m).N + 1)) (h : t.val ≠ 0) : (rdat m c).Φ t = Φ1 m c := by
  unfold rdat; exact if_neg h

theorem bigSep_none (f : Fin 0 → sProp 𝕄) : (BI.bigSep Finset.univ f : sProp 𝕄) = BI.emp := by
  rw [Finset.univ_eq_empty, BI.bigSep_empty]

theorem sound_body (c : Dev nD) (i : grid0.Coords) :
    iprop(Φ0 m c ∗ (∃ W, owes (c : Thread nD τ) 0 W)) ⊢ wp frame (wpE (defs₀ (F := F)) Variants.none (c : Thread nD τ) none) Set.univ (cc0_mla_decode (F := F) i (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12) (fun _ => iprop(Φ1 m c ∗ (∃ W, owes (c : Thread nD τ) 0 W))) := by
  iintro H
  ihave H := (enter m c) $$ H
  icases H with ⟨H, Hg⟩
  ihave H := (body_wp c i _ _ _ _ _ _ _) $$ H
  iapply (wp_wand frame (wpE (defs₀ (F := F)) Variants.none (c : Thread nD τ) none) Set.univ) $$ H
  iintro %_ H
  iapply (leave m c)
  isplitl [H]; · iexact H
  iexact Hg

theorem body_obligation (c : Dev nD) : (rdat m c).BodyObligation (defs₀ (F := F)) Variants.none () Set.univ := by
  intro t Y _
  have ht : t.val = 0 := by have h1 := N_0; have h2 : t.val < grid0.N := t.isLt; omega
  rw [Φ_first m c _ ht, Φ_later m c t.succ (Nat.succ_ne_zero t.val)]
  rw [show (BI.bigSep Finset.univ fun w => owns (c : Thread nD τ) (((cfgA m).win w).stage ((cfgA m).slots t w)) fullShare (Y w) : sProp 𝕄) = BI.emp from bigSep_none _]
  rw [show (BI.bigSep Finset.univ fun w => iprop(∃ X, ⌜(rdat m c).after w t (Y w) X⌝ ∗ owns (c : Thread nD τ) (((cfgA m).win w).stage ((cfgA m).slots t w)) fullShare X) : sProp 𝕄) = BI.emp from bigSep_none _]
  unfold Pipeline.RDat.owesAt Pipeline.owesWithin
  rw [show (rdat m c).owed t.castSucc = 0 from rfl, show (rdat m c).owed t.succ = 0 from rfl]
  have hrow : defs₀ (F := F) .tc (cfgA m).body ((cfgA m).bodyArgs t ((cfgA m).slots t)) = cc0_mla_decode (F := F) (grid0.coords t) (Memref.whole main_arg5) (Memref.isWhole_whole _) (Memref.whole main_v0) (Memref.isWhole_whole _) (Memref.whole main_v1) (Memref.isWhole_whole _) (Memref.whole main_v3) (Memref.isWhole_whole _) (Memref.whole main_v4) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 := by
    unfold defs₀; rw [Defs.onTc_tc]
  rw [hrow]
  iintro ⟨HΦ, ⟨%W, -, HW⟩, -⟩
  ihave H := (sound_body m c (grid0.coords t)) $$ [HΦ HW]
  · isplitl [HΦ]; · iexact HΦ
    iexists W; iexact HW
  iapply (wp_wand frame (wpE (defs₀ (F := F)) Variants.none (c : Thread nD τ) none) Set.univ) $$ H
  iintro %_ ⟨HΦ, ⟨%W', HW'⟩⟩
  isplitl [HΦ]; · iexact HΦ
  isplitl [HW']
  · iexists W'; isplitr; · ipureintro; exact fun _ _ => Or.inl trivial
    iexact HW'
  iempintro

/-! ## The run -/

set_option backward.isDefEq.respectTransparency.types false in
/-- Every weakly fair execution ends, and where it ends every buffer but the result is as the region found
    it, the result's rows are the steps' blocks, and every counter is zero. -/
theorem run_main : θ_run defs (onTc (τ := τ) (main (F := F))) ⟨m, fun _ => 0, ρ⟩ (fun r =>
    (∀ c : Dev nD, (∀ b ∈ Pipeline.restRefs sig spec0 \ R0, r.2.mem ((c : Thread nD τ).loc b) = V m c b)
      ∧ OutOK c (V m c main_v0) (V m c main_v1) (V m c main_arg5) (V m c main_v3) (V m c main_v6) (V m c main_v4) (r.2.mem ((c : Thread nD τ).loc main_v7)))
    ∧ r.2.sem = fun _ => 0) :=
  Pipeline.RDat.θ_run_frameP_dmaRSat_shared (Q' := _) pcfgs (adm m) (0 : Fin 1) launch0.to₀ osem0 defs₀ Variants.none (rdat m) ownSemFacts0 H0 R0 H0_sub R0_sub m ρ main
    (hbody := body_obligation m) (hq := fun _ w => w.elim0) (howed := fun _ _ => rfl) (V := V m) (hmain := hmain m Variants.none)
    (hA := fun _ w => w.elim0) (hpf := V_pre m) (PG := PG m)
    (hin := fun c => Entails.of_eq (Φ_first m c 0 rfl).symm)
    (hout := fun c => Entails.of_eq (Φ_later m c _ (by rw [Fin.val_last]; have h1 : grid0.N = 1 := N_0; show grid0.N ≠ 0; omega)))
    (hQ' := fun r h => ⟨fun c => ⟨(h.1.1 c).2, by
      obtain ⟨W, hW, hr⟩ := h.1.2 c
      rw [hr main_v7 (Finset.mem_singleton_self _)]; exact hW⟩, h.2⟩)

/-- The frame: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 main_arg0 (Finset.mem_sdiff.mpr ⟨Pipeline.mem_restRefs_of main_arg0 (by decide) (by decide), by decide⟩)).trans (V_main_arg0 m c),
      ((h.1 c).1 main_arg1 (Finset.mem_sdiff.mpr ⟨Pipeline.mem_restRefs_of main_arg1 (by decide) (by decide), by decide⟩)).trans (V_main_arg1 m c),
      ((h.1 c).1 main_arg2 (Finset.mem_sdiff.mpr ⟨Pipeline.mem_restRefs_of main_arg2 (by decide) (by decide), by decide⟩)).trans (V_main_arg2 m c),
      ((h.1 c).1 main_arg3 (Finset.mem_sdiff.mpr ⟨Pipeline.mem_restRefs_of main_arg3 (by decide) (by decide), by decide⟩)).trans (V_main_arg3 m c),
      ((h.1 c).1 main_arg4 (Finset.mem_sdiff.mpr ⟨Pipeline.mem_restRefs_of main_arg4 (by decide) (by decide), by decide⟩)).trans (V_main_arg4 m c),
      ((h.1 c).1 main_arg5 (Finset.mem_sdiff.mpr ⟨Pipeline.mem_restRefs_of main_arg5 (by decide) (by decide), by decide⟩)).trans (V_main_arg5 m c)⟩, h.2⟩) (run_main m ρ)

end Cert.KernelIdeal.Hand

end
-- ==== Proof.Same.lean ====
/-
  The printed kernel and its ideal reading are one text, so that what is proved of the one at any values
  holds of the other.
-/
module

public import proofs.«01_k».proof.Proof.Gen.Kernel
public import proofs.«01_k».proof.Proof.Launch

@[expose] public section

noncomputable section

namespace Cert.Same

open Idealize.ShloMosaic Idealize.ShloMosaic.TcCoe Idealize.SL.Sem

variable {F : FTy → Type} [FloatOps F]

theorem same_main : @Cert.Kernel.main F _ Cert.Kernel.Gen.facts = @Cert.KernelIdeal.main F _ Cert.KernelIdeal.Gen.facts := rfl

theorem same_defs : @Cert.Kernel.defs F _ Cert.Kernel.Gen.facts = @Cert.KernelIdeal.defs F _ Cert.KernelIdeal.Gen.facts := rfl

set_option maxHeartbeats 4000000 in
/-- The kernel's frame: its arguments end as they were, every counter at zero. -/
theorem frame (m : (ℓ : Loc Cert.Kernel.nD Cert.Kernel.τ Cert.Kernel.sig) → Buf (Elt F) ℓ) (g : Dev Cert.Kernel.nD → PrngReg) :
    θ_run (@Cert.Kernel.defs F _ Cert.Kernel.Gen.facts) (onTc (τ := Cert.Kernel.τ) (@Cert.Kernel.main F _ Cert.Kernel.Gen.facts)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0) :=
  Cert.KernelIdeal.Hand.frame (F := F) m g

end Cert.Same

end
-- ==== Proof.RowMath.lean ====
/-
  Softmax attention of one query row over the extended reals: the weights' total is not zero, masked keys drop out,
  a row may be cut into two halves, and a product by the reciprocal of the total is the quotient.
-/
module

public import Idealize.ShloMosaic.Lib.Pointwise
public import Idealize.ShloMosaic.Lib.IdealHost
public import Mathlib.Data.EReal.Inv
public import Mathlib.Analysis.SpecialFunctions.Exp

@[expose] public section

set_option maxRecDepth 16384

noncomputable section

namespace Cert.Row

open Idealize.ShloMosaic

/-- A number that is neither infinity. -/
def Fin' (x : EReal) : Prop := x ≠ ⊥ ∧ x ≠ ⊤

theorem Fin'.coe (r : ℝ) : Fin' (r : EReal) := ⟨EReal.coe_ne_bot r, EReal.coe_ne_top r⟩
theorem Fin'.ex {x : EReal} (h : Fin' x) : ∃ r : ℝ, x = r := ⟨x.toReal, (EReal.coe_toReal h.2 h.1).symm⟩
theorem Fin'.add {x y : EReal} (hx : Fin' x) (hy : Fin' y) : Fin' (x + y) := by
  obtain ⟨a, rfl⟩ := hx.ex; obtain ⟨b, rfl⟩ := hy.ex
  rw [← EReal.coe_add]; exact Fin'.coe _
theorem Fin'.mul {x y : EReal} (hx : Fin' x) (hy : Fin' y) : Fin' (x * y) := by
  obtain ⟨a, rfl⟩ := hx.ex; obtain ⟨b, rfl⟩ := hy.ex
  rw [← EReal.coe_mul]; exact Fin'.coe _
theorem Fin'.sum {n : ℕ} {f : Fin n → EReal} (h : ∀ i, Fin' (f i)) : Fin' (∑ i, f i) := by
  induction n with
  | zero => rw [Fin.sum_univ_zero]; exact Fin'.coe 0
  | succ n ih => rw [Fin.sum_univ_succ]; exact (h 0).add (ih fun i => h i.succ)

/-- A finite factor goes inside a sum of finite numbers. -/
theorem sum_mul_fin {n : ℕ} {f : Fin n → EReal} {c : EReal} (h : ∀ i, Fin' (f i)) (hc : Fin' c) : (∑ i, f i) * c = ∑ i, f i * c := by
  induction n with
  | zero => rw [Fin.sum_univ_zero, Fin.sum_univ_zero, zero_mul]
  | succ n ih =>
    rw [Fin.sum_univ_succ, Fin.sum_univ_succ, ← ih fun i => h i.succ]
    obtain ⟨a, ha⟩ := (h 0).ex
    obtain ⟨b, hb⟩ := (Fin'.sum fun i => h (Fin.succ i)).ex
    obtain ⟨r, rfl⟩ := hc.ex
    rw [ha, hb, ← EReal.coe_add, ← EReal.coe_mul, ← EReal.coe_mul, ← EReal.coe_mul, ← EReal.coe_add, add_mul]

section attn
variable {ι : Type} [Fintype ι]

/-- The largest of the scores. -/
def mx (s : ι → EReal) (sn : EReal) : EReal := max (Finset.univ.fold max ⊥ s) sn
/-- The sum of the weights. -/
def tot (s : ι → EReal) (sn : EReal) : EReal := ∑ k, Ideal.exp (s k - mx s sn) + Ideal.exp (sn - mx s sn)
/-- One output number: the weighted mean of the column `L` and the new token's `n`. -/
def att (s : ι → EReal) (sn : EReal) (L : ι → EReal) (n : EReal) : EReal :=
  ∑ k, Ideal.div (Ideal.exp (s k - mx s sn)) (tot s sn) * L k + Ideal.div (Ideal.exp (sn - mx s sn)) (tot s sn) * n

theorem exp_nonneg (x : EReal) : 0 ≤ Ideal.exp x := by
  induction x using EReal.rec with
  | bot => exact le_of_eq (by rfl)
  | top => exact le_top
  | coe r => exact EReal.coe_nonneg.mpr (Real.exp_nonneg r)
theorem exp_bot : Ideal.exp (⊥ : EReal) = 0 := by rfl
theorem exp_zero' : Ideal.exp (0 : EReal) = 1 := by
  show ((Real.exp 0 : ℝ) : EReal) = 1
  rw [Real.exp_zero]; rfl

theorem fold_eq_sup (s : ι → EReal) : Finset.univ.fold max ⊥ s = Finset.univ.sup s := rfl

/-- The total is not zero: the largest score's weight is one. -/
theorem tot_ne_zero {s : ι → EReal} {sn : EReal} (hs : ∀ k, s k ≠ ⊤) (hn : Fin' sn) : tot s sn ≠ 0 := by
  have h1 : 1 ≤ tot s sn := by
    have hself : ∀ x : EReal, Fin' x → x - x = 0 := by
      intro x hx; obtain ⟨r, rfl⟩ := hx.ex
      rw [← EReal.coe_sub, sub_self]; rfl
    unfold tot
    rcases le_total (Finset.univ.fold max ⊥ s) sn with h | h
    · have hm : mx s sn = sn := max_eq_right h
      rw [hm, hself sn hn, exp_zero']
      exact le_add_of_nonneg_left (Finset.sum_nonneg fun k _ => exp_nonneg _)
    · have hm : mx s sn = Finset.univ.fold max ⊥ s := max_eq_left h
      rw [hm, fold_eq_sup]
      have hne : (Finset.univ : Finset ι).Nonempty := by
        rw [Finset.nonempty_iff_ne_empty]
        intro he
        rw [fold_eq_sup, he, Finset.sup_empty] at h
        exact hn.1 (le_bot_iff.mp h)
      obtain ⟨k, -, hk⟩ := Finset.exists_mem_eq_sup (Finset.univ : Finset ι) hne s
      have hfin : Fin' (s k) := by
        refine ⟨?_, hs k⟩
        intro hb
        rw [fold_eq_sup, hk, hb] at h
        exact hn.1 (le_bot_iff.mp h)
      rw [hk]
      have : (1 : EReal) ≤ ∑ j, Ideal.exp (s j - s k) := by
        rw [← exp_zero', ← hself (s k) hfin]
        exact Finset.single_le_sum (f := fun j => Ideal.exp (s j - s k)) (fun j _ => exp_nonneg _) (Finset.mem_univ k)
      exact le_add_of_le_of_nonneg this (exp_nonneg _)
  intro h0
  rw [h0] at h1
  exact absurd h1 (by norm_num)

/-- With products by the reciprocal of the total, and the factors of each latent applied one after the other. -/
theorem att_recip {s : ι → EReal} {sn : EReal} (hs : ∀ k, s k ≠ ⊤) (hn : Fin' sn) (C S : ι → EReal) (n : EReal) {M T : EReal}
    (hM : M = mx s sn) (hT : T = tot s sn) :
    ∑ k, Ideal.exp (s k - M) * Ideal.div 1 T * S k * C k + Ideal.exp (sn - M) * Ideal.div 1 T * n = att s sn (fun k => C k * S k) n := by
  subst hM hT
  unfold att
  rw [Ideal.mul_one_div (tot_ne_zero hs hn)]
  congr 1
  refine Finset.sum_congr rfl fun k _ => ?_
  rw [Ideal.mul_one_div (tot_ne_zero hs hn), mul_assoc, mul_comm (S k)]

end attn

/-- The bits of minus infinity. -/
theorem ofBits_bot : Ideal.ofBits .f32 0xFF800000#32 = ⊥ := by
  simp [Ideal.ofBits, Ideal.ieee]

theorem bot_sub' (x : EReal) : (⊥ : EReal) - x = ⊥ := EReal.bot_sub x

/-- The largest of two halves. -/
theorem fold_halves (s : Fin 256 → EReal) : Finset.univ.fold max ⊥ s
    = max (Finset.univ.fold max ⊥ fun k : Fin 128 => s ⟨k, by omega⟩) (Finset.univ.fold max ⊥ fun k : Fin 128 => s ⟨128 + k, by omega⟩) := by
  apply le_antisymm
  · rw [fold_eq_sup]
    refine Finset.sup_le fun k _ => ?_
    by_cases h : k.val < 128
    · refine le_trans ?_ (le_max_left _ _)
      exact Finset.le_sup (f := fun k : Fin 128 => s ⟨k, by omega⟩) (Finset.mem_univ (⟨k, h⟩ : Fin 128))
    · refine le_trans ?_ (le_max_right _ _)
      have := Finset.le_sup (f := fun k : Fin 128 => s ⟨128 + k, by omega⟩) (Finset.mem_univ (⟨k - 128, by omega⟩ : Fin 128))
      have e : (⟨128 + (k.val - 128), by omega⟩ : Fin 256) = k := Fin.ext (by show 128 + (k.val - 128) = k.val; omega)
      simp only [e] at this
      exact this
  · refine max_le ?_ ?_
    · exact Finset.sup_le fun k _ => Finset.le_sup (f := s) (Finset.mem_univ _)
    · exact Finset.sup_le fun k _ => Finset.le_sup (f := s) (Finset.mem_univ _)

theorem sum_halves (f : Fin 256 → EReal) : ∑ k, f k = ∑ k : Fin 128, f ⟨k, by omega⟩ + ∑ k : Fin 128, f ⟨128 + k, by omega⟩ :=
  Fin.sum_univ_two_halves 128 128 rfl f

theorem fold_bot {ι : Type} [Fintype ι] {s : ι → EReal} (h : ∀ k, s k = ⊥) : Finset.univ.fold max ⊥ s = ⊥ := by
  rw [fold_eq_sup]; exact le_bot_iff.mp (Finset.sup_le fun k _ => le_of_eq (h k))

/-- A row none of whose keys lies in the second half. -/
theorem att_short {s : Fin 256 → EReal} {sn : EReal} (hs : ∀ k, s k ≠ ⊤) (hn : Fin' sn) (L : Fin 256 → EReal) (n : EReal) (h : ∀ k : Fin 128, s ⟨128 + k, by omega⟩ = ⊥) :
    att s sn L n = att (fun k : Fin 128 => s ⟨k, by omega⟩) sn (fun k : Fin 128 => L ⟨k, by omega⟩) n := by
  have hm : mx s sn = mx (fun k : Fin 128 => s ⟨k, by omega⟩) sn := by
    unfold mx
    rw [fold_halves, fold_bot h, max_eq_left (bot_le : (⊥ : EReal) ≤ _)]
  have ht : tot s sn = tot (fun k : Fin 128 => s ⟨k, by omega⟩) sn := by
    unfold tot
    rw [hm, sum_halves, show (∑ k : Fin 128, Ideal.exp (s ⟨128 + k, by omega⟩ - mx (fun k : Fin 128 => s ⟨k, by omega⟩) sn)) = 0 from
      Finset.sum_eq_zero fun k _ => by rw [h k, bot_sub', exp_bot], add_zero]
  unfold att
  rw [hm, ht, sum_halves, show (∑ k : Fin 128, Ideal.div (Ideal.exp (s ⟨128 + k, by omega⟩ - mx (fun k : Fin 128 => s ⟨k, by omega⟩) sn))
      (tot (fun k : Fin 128 => s ⟨k, by omega⟩) sn) * L ⟨128 + k, by omega⟩) = 0 from
    Finset.sum_eq_zero fun k _ => by rw [h k, bot_sub', exp_bot, Ideal.zero_div (tot_ne_zero (fun k => hs _) hn), zero_mul], add_zero]

/-- A sum over 512 columns is the sum of its four column blocks. -/
theorem sum_four (f : Fin 512 → EReal) : ∑ i, f i = ∑ l : Fin 128, f ⟨l, by omega⟩ + ∑ l : Fin 128, f ⟨128 + l, by omega⟩
    + ∑ l : Fin 128, f ⟨256 + l, by omega⟩ + ∑ l : Fin 128, f ⟨384 + l, by omega⟩ := by
  rw [Fin.sum_univ_two_halves 256 256 rfl f, Fin.sum_univ_two_halves 128 128 rfl (fun i : Fin 256 => f ⟨i, by omega⟩),
    Fin.sum_univ_two_halves 128 128 rfl (fun i : Fin 256 => f ⟨256 + i, by omega⟩), ← add_assoc]
  rfl

/-- The score: a block's scale applied to the block's dot product is the scale applied to each code. -/
theorem score_eq {x c : Fin 512 → EReal} {s : Fin 4 → EReal} (hx : ∀ i, Fin' (x i)) (hc : ∀ i, Fin' (c i)) (hs : ∀ g, Fin' (s g)) (r : EReal) :
    r + (∑ l : Fin 128, x ⟨l, by omega⟩ * c ⟨l, by omega⟩) * s 0 + (∑ l : Fin 128, x ⟨128 + l, by omega⟩ * c ⟨128 + l, by omega⟩) * s 1
      + (∑ l : Fin 128, x ⟨256 + l, by omega⟩ * c ⟨256 + l, by omega⟩) * s 2 + (∑ l : Fin 128, x ⟨384 + l, by omega⟩ * c ⟨384 + l, by omega⟩) * s 3
    = ∑ i : Fin 512, x i * (c i * s ⟨i / 128, by omega⟩) + r := by
  rw [sum_mul_fin (fun l => (hx _).mul (hc _)) (hs 0), sum_mul_fin (fun l => (hx _).mul (hc _)) (hs 1),
    sum_mul_fin (fun l => (hx _).mul (hc _)) (hs 2), sum_mul_fin (fun l => (hx _).mul (hc _)) (hs 3), sum_four]
  have e0 : ∀ l : Fin 128, (⟨l.val / 128, by omega⟩ : Fin 4) = 0 := fun l => Fin.ext (by show l.val / 128 = 0; omega)
  have e1 : ∀ l : Fin 128, (⟨(128 + l.val) / 128, by omega⟩ : Fin 4) = 1 := fun l => Fin.ext (by show (128 + l.val) / 128 = 1; omega)
  have e2 : ∀ l : Fin 128, (⟨(256 + l.val) / 128, by omega⟩ : Fin 4) = 2 := fun l => Fin.ext (by show (256 + l.val) / 128 = 2; omega)
  have e3 : ∀ l : Fin 128, (⟨(384 + l.val) / 128, by omega⟩ : Fin 4) = 3 := fun l => Fin.ext (by show (384 + l.val) / 128 = 3; omega)
  simp only [e0, e1, e2, e3, mul_assoc]
  rw [add_assoc, add_assoc, add_assoc, add_comm r, ← add_assoc, ← add_assoc]

/-- The new token's score: lane by lane, and padded with zeros past lane 64. -/
theorem new_eq {x n : Fin 512 → EReal} {q k : Fin 64 → EReal} {q' k' : Fin 128 → EReal} (hq : ∀ e : Fin 64, q' ⟨e, by omega⟩ = q e)
    (hk : ∀ e : Fin 64, k' ⟨e, by omega⟩ = k e) (hk' : ∀ e : Fin 64, k' ⟨64 + e, by omega⟩ = 0) :
    ∑ l : Fin 128, (q' l * k' l + x ⟨l, by omega⟩ * n ⟨l, by omega⟩ + x ⟨128 + l, by omega⟩ * n ⟨128 + l, by omega⟩
      + x ⟨256 + l, by omega⟩ * n ⟨256 + l, by omega⟩ + x ⟨384 + l, by omega⟩ * n ⟨384 + l, by omega⟩)
    = ∑ i : Fin 512, x i * n i + ∑ e : Fin 64, q e * k e := by
  rw [Finset.sum_add_distrib, Finset.sum_add_distrib, Finset.sum_add_distrib, Finset.sum_add_distrib, sum_four,
    Fin.sum_univ_two_halves 64 64 rfl (fun l : Fin 128 => q' l * k' l)]
  simp only [hq, hk, hk', mul_zero, Finset.sum_const_zero, add_zero]
  rw [add_assoc, add_assoc, add_assoc, add_comm, ← add_assoc, ← add_assoc]

end Cert.Row

end
-- ==== Proof.Bytes.lean ====
/-
  The words the cache's bytes spell: a scale from four, a rope number from two.
-/
module

public import Idealize.ShloMosaic.Lib.Pointwise
public import Idealize.ShloMosaic.Lib.BitcastConvert
public import Idealize.ShloMosaic.Lib.StableHlo
public import proofs.«01_k».proof.Proof.RowMath

@[expose] public section

noncomputable section

namespace Cert.Row

open Idealize.ShloMosaic

abbrev Cache : Shape := ⟨3, ![2600, 256, 656]⟩

theorem sS : (⟨3, ![2600, 256, 4]⟩ : Shape).SplitsWords 32 ⟨4, ![2600, 256, 4, 4]⟩ 8 := by decide
theorem sR : (⟨3, ![2600, 256, 64]⟩ : Shape).SplitsWords 16 ⟨4, ![2600, 256, 64, 2]⟩ 8 := by decide

/-- The scale bytes, four to a word, and the rope bytes, two to a word. -/
def bS (a : Cache.Idx → BitVec 8) : IVec ⟨4, ![2600, 256, 4, 4]⟩ 8 := fun i => a (ix3 (i 0) (i 1)
  (⟨512 + ((i 2).val * 4 + (i 3).val), by have h2 : (i 2).val < 4 := (i 2).isLt; have h3 : (i 3).val < 4 := (i 3).isLt; omega⟩ : Fin 656))
def bR (a : Cache.Idx → BitVec 8) : IVec ⟨4, ![2600, 256, 64, 2]⟩ 8 := fun i => a (ix3 (i 0) (i 1)
  (⟨528 + ((i 2).val * 2 + (i 3).val), by have h2 : (i 2).val < 64 := (i 2).isLt; have h3 : (i 3).val < 2 := (i 3).isLt; omega⟩ : Fin 656))

/-- The word of block `g`'s scale of key `k` of row `b`; the word of rope number `e`. -/
def wS (a : Cache.Idx → BitVec 8) (b : Fin 2600) (k : Fin 256) (g : Fin 4) : BitVec 32 := Host.bitcastConvertWiden ⟨3, ![2600, 256, 4]⟩ 32 (bS a) sS (ix3 b k g)
def wR (a : Cache.Idx → BitVec 8) (b : Fin 2600) (k : Fin 256) (e : Fin 64) : BitVec 16 := Host.bitcastConvertWiden ⟨3, ![2600, 256, 64]⟩ 16 (bR a) sR (ix3 b k e)

theorem wS_bit (a : Cache.Idx → BitVec 8) (b : Fin 2600) (k : Fin 256) (g : Fin 4) (q : ℕ) (hq : q < 32) (p : Fin 656) (hp : p.val = 512 + (4 * g + q / 8)) :
    (wS a b k g).getLsbD q = (a (ix3 b k p)).getLsbD (q % 8) := by
  unfold wS
  rw [Host.bitcastConvertWiden_getLsbD _ _ _ _ _ q hq]
  congr 1
  show a (ix3 b k _) = a (ix3 b k _)
  congr 2
  exact Fin.ext (by show 512 + (g.val * 4 + q / 8) = p.val; omega)
theorem wR_bit (a : Cache.Idx → BitVec 8) (b : Fin 2600) (k : Fin 256) (e : Fin 64) (q : ℕ) (hq : q < 16) (p : Fin 656) (hp : p.val = 528 + (2 * e + q / 8)) :
    (wR a b k e).getLsbD q = (a (ix3 b k p)).getLsbD (q % 8) := by
  unfold wR
  rw [Host.bitcastConvertWiden_getLsbD _ _ _ _ _ q hq]
  congr 1
  show a (ix3 b k _) = a (ix3 b k _)
  congr 2
  exact Fin.ext (by show 528 + (e.val * 2 + q / 8) = p.val; omega)

/-- The constant the scores are multiplied by. -/
def cS : EReal := Ideal.ofBits .f32 0x3D93CD3A#32

/-- Number `j` of the latent of key `k` of row `b`: its code times its block's scale. -/
def lat (a : Cache.Idx → BitVec 8) (b : Fin 2600) (k : Fin 256) (j : Fin 512) : EReal :=
  Ideal.ofBits .fp8e4m3 (a (ix3 b k (⟨j, by omega⟩ : Fin 656))) * Ideal.ofBits .f32 (wS a b k ⟨j / 128, by omega⟩)

section
variable (x : (⟨4, ![2600, 1, 16, 512]⟩ : Shape).Idx → EReal) (q : (⟨4, ![2600, 1, 16, 64]⟩ : Shape).Idx → EReal) (n : (⟨3, ![2600, 1, 512]⟩ : Shape).Idx → EReal)
  (r : (⟨3, ![2600, 1, 64]⟩ : Shape).Idx → EReal) (a : Cache.Idx → BitVec 8) (len : (⟨1, ![2600]⟩ : Shape).Idx → BitVec 32)

/-- The score of key `k`, before the mask. -/
def raw (b : Fin 2600) (h : Fin 16) (k : Fin 256) : EReal :=
  (∑ i : Fin 512, x (ix4 b 0 h i) * lat a b k i + ∑ e : Fin 64, q (ix4 b 0 h e) * Ideal.ofBits .bf16 (wR a b k e)) * cS
/-- The masked score of key `k`. -/
def spScore (b : Fin 2600) (h : Fin 16) (k : Fin 256) : EReal := Scalar.select (IntOp.cmpi .slt (BitVec.ofNat 32 k) (len (ix1 b))) (raw x q a b h k) ⊥
/-- The new token's score. -/
def spNew (b : Fin 2600) (h : Fin 16) : EReal := (∑ i : Fin 512, x (ix4 b 0 h i) * n (ix3 b 0 i) + ∑ e : Fin 64, q (ix4 b 0 h e) * r (ix3 b 0 e)) * cS
/-- The result at row `b`, head `h`, column `j`. -/
def spec (b : Fin 2600) (h : Fin 16) (j : Fin 512) : EReal := att (spScore x q a len b h) (spNew x q n r b h) (fun k => lat a b k j) (n (ix3 b 0 j))

/-- What the precondition gives: the new numbers are finite, and so is every stored number a row's length admits. -/
structure Fins : Prop where
  x : ∀ i, Fin' (x i)
  q : ∀ i, Fin' (q i)
  n : ∀ i, Fin' (n i)
  r : ∀ i, Fin' (r i)
  code : ∀ b k, IntOp.cmpi .slt (BitVec.ofNat 32 k.val) (len (ix1 b)) = 1#1 → ∀ j : Fin 512, Fin' (Ideal.ofBits .fp8e4m3 (a (ix3 b k (⟨j, by omega⟩ : Fin 656))))
  scale : ∀ b k, IntOp.cmpi .slt (BitVec.ofNat 32 k.val) (len (ix1 b)) = 1#1 → ∀ g, Fin' (Ideal.ofBits .f32 (wS a b k g))
  rope : ∀ b k, IntOp.cmpi .slt (BitVec.ofNat 32 k.val) (len (ix1 b)) = 1#1 → ∀ e, Fin' (Ideal.ofBits .bf16 (wR a b k e))
end

end Cert.Row

end
-- ==== Proof.PreFin.lean ====
/-
  The precondition read back: which numbers it says are finite.
-/
module

public import proofs.«01_k».proof.Pre_finite_inputs
public import proofs.«01_k».proof.Proof.Bytes
public import Idealize.ShloMosaic.Lib.ReduceAll
public import Idealize.ShloMosaic.Lib.Affine

@[expose] public section

set_option maxRecDepth 16384

noncomputable section

namespace Cert.Pre_finite_inputs

open Cert.Row
open Idealize.ShloMosaic

theorem facts : Facts := by
  constructor <;> first
    | decide
    | simp [Shape.ReducesTo]

variable [Facts]

instance : Subsingleton S_.Idx := ⟨fun i j => funext fun a => a.elim0⟩

theorem fin_lt {x t : EReal} (ht : t = ⊤) (h : Ideal.cmp .olt (max x (-x)) t = 1#1) : Fin' x := by
  subst ht
  have hl : max x (-x) < ⊤ := by
    by_contra hc
    simp [Ideal.cmp, hc] at h
  rw [max_lt_iff] at hl
  refine ⟨fun hb => ?_, hl.1.ne⟩
  rw [hb, EReal.neg_bot] at hl
  exact lt_irrefl _ hl.2
theorem inf32 : Ideal.ofBits .f32 0x7F800000#32 = ⊤ := by simp [Ideal.ofBits, Ideal.ieee]
theorem inf16 : Ideal.ofBits .bf16 0x7F80#16 = ⊤ := by simp [Ideal.ofBits, Ideal.ieee]
theorem or_of {p q : BitVec 1} (h : IntOp.ori p q = 1#1) (hp : p ≠ 1#1) : q = 1#1 := by revert p q; decide
theorem sge_ne {x y : BitVec 32} (h : IntOp.cmpi .slt x y = 1#1) : IntOp.cmpi .sge x y ≠ 1#1 := by
  unfold IntOp.cmpi at *
  dsimp only at *
  rw [BitVec.sle_eq_not_slt]
  revert h
  cases x.slt y <;> decide
theorem fin_code {b : BitVec 8} (h1 : b ≠ 127#8) (h2 : b ≠ 255#8) : Fin' (Ideal.ofBits .fp8e4m3 b) := by
  show Fin' (Ideal.e4m3fn b)
  unfold Ideal.e4m3fn
  have hn : ¬ ((b.extractLsb' 3 4).toNat = 15 ∧ (b.extractLsb' 0 3).toNat = 7) := by
    revert b
    decide
  dsimp only
  rw [if_neg hn]
  split
  · exact Fin'.coe _
  · exact Fin'.coe _
theorem ne_of {b d : BitVec 8} (h : IntOp.cmpi .ne b d = 1#1) : b ≠ d := by
  rintro rfl
  simp [IntOp.cmpi] at h
theorem codeLen (a5 : IVec S2600 32) (b : Fin 2600) (k : Fin 256) (j : Fin 512) : cmpi .sge (iotaInDim S2600x256x512 32 1)
    (broadcastInDim S2600x256x512 ![0, 1, 2] Facts.bcast_S2600x1x1_S2600x256x512_0_1_2 (broadcastInDim S2600x1x1 ![0] Facts.bcast_S2600_S2600x1x1_0 a5)) (ix3 b k j)
    = IntOp.cmpi .sge (BitVec.ofNat 32 k) (a5 (ix1 b)) := by
  pointwise
theorem scaleLen (a5 : IVec S2600 32) (b : Fin 2600) (k : Fin 256) (j : Fin 4) : cmpi .sge (iotaInDim S2600x256x4 32 1)
    (broadcastInDim S2600x256x4 ![0, 1, 2] Facts.bcast_S2600x1x1_S2600x256x4_0_1_2 (broadcastInDim S2600x1x1 ![0] Facts.bcast_S2600_S2600x1x1_0 a5)) (ix3 b k j)
    = IntOp.cmpi .sge (BitVec.ofNat 32 k) (a5 (ix1 b)) := by
  pointwise
theorem ropeLen (a5 : IVec S2600 32) (b : Fin 2600) (k : Fin 256) (j : Fin 64) : cmpi .sge (iotaInDim S2600x256x64 32 1)
    (broadcastInDim S2600x256x64 ![0, 1, 2] Facts.bcast_S2600x1x1_S2600x256x64_0_1_2 (broadcastInDim S2600x1x1 ![0] Facts.bcast_S2600_S2600x1x1_0 a5)) (ix3 b k j)
    = IntOp.cmpi .sge (BitVec.ofNat 32 k) (a5 (ix1 b)) := by
  pointwise
theorem codeAt (a4 : IVec S2600x256x656 8) (b : Fin 2600) (k : Fin 256) (j : Fin 512) :
    extractStridedSlice S2600x256x512 ![0, 0, 0] a4 Facts.slices_S2600x256x656_S2600x256x512_0_0_0 (ix3 b k j) = a4 (ix3 b k (⟨j, by omega⟩ : Fin 656)) := by
  pointwise
theorem scaleAt (a4 : IVec S2600x256x656 8) (b : Fin 2600) (k : Fin 256) (g : Fin 4) :
    bitcastToFloat (F := Ideal) .f32 (Host.bitcastConvertWiden S2600x256x4 32 (shapeCast S2600x256x4x4 (extractStridedSlice S2600x256x16 ![0, 0, 512] a4 Facts.slices_S2600x256x656_S2600x256x16_0_0_512)
      Facts.shapeCasts_S2600x256x16_S2600x256x4x4) Facts.splits_S2600x256x4_w32_S2600x256x4x4_w8) (ix3 b k g) = Ideal.ofBits .f32 (wS a4 b k g) := by
  unfold wS
  refine congrArg (fun z => Ideal.ofBits .f32 (Host.bitcastConvertWiden S2600x256x4 32 z Facts.splits_S2600x256x4_w32_S2600x256x4x4_w8 (ix3 b k g))) (funext fun i => ?_)
  rw [eq_ix4 i]
  unfold bS
  pointwise
theorem ropeAt (a4 : IVec S2600x256x656 8) (b : Fin 2600) (k : Fin 256) (g : Fin 64) :
    bitcastToFloat (F := Ideal) .bf16 (Host.bitcastConvertWiden S2600x256x64 16 (shapeCast S2600x256x64x2 (extractStridedSlice S2600x256x128 ![0, 0, 528] a4 Facts.slices_S2600x256x656_S2600x256x128_0_0_528)
      Facts.shapeCasts_S2600x256x128_S2600x256x64x2) Facts.splits_S2600x256x64_w16_S2600x256x64x2_w8) (ix3 b k g) = Ideal.ofBits .bf16 (wR a4 b k g) := by
  unfold wR
  refine congrArg (fun z => Ideal.ofBits .bf16 (Host.bitcastConvertWiden S2600x256x64 16 z Facts.splits_S2600x256x64_w16_S2600x256x64x2_w8 (ix3 b k g))) (funext fun i => ?_)
  rw [eq_ix4 i]
  unfold bR
  pointwise
theorem conj {a b : IVec S_ 1} {j : S_.Idx} (h : andi a b j = 1#1) : a j = 1#1 ∧ b j = 1#1 := IntOp.andi_eq_one.1 h

theorem fins (a0 : FVec Ideal S2600x1x16x512 .bf16) (a1 : FVec Ideal S2600x1x16x64 .bf16) (a2 : FVec Ideal S2600x1x512 .bf16) (a3 : FVec Ideal S2600x1x64 .bf16)
    (a4 : IVec S2600x256x656 8) (a5 : IVec S2600 32) (hP : fn (F := Ideal) a0 a1 a2 a3 a4 a5 = fun _ => 1#1) : Fins a0 a1 a2 a3 a4 a5 := by
  have e := congrFun hP (fun a => a.elim0)
  unfold fn fn_part1 fn_part2 fn_part3 at e
  dsimp only at e
  obtain ⟨e, eR⟩ := conj e
  obtain ⟨e, eS⟩ := conj e
  obtain ⟨e, eC⟩ := conj e
  obtain ⟨e, e3⟩ := conj e
  obtain ⟨e, e2⟩ := conj e
  obtain ⟨e0, e1⟩ := conj e
  refine ⟨fun i => ?_, fun i => ?_, fun i => ?_, fun i => ?_, fun b k hk j => ?_, fun b k hk g => ?_, fun b k hk e => ?_⟩
  · exact fin_lt inf16 (Host.reduce_andi_all _ _ _ _ _ e0 i)
  · exact fin_lt inf16 (Host.reduce_andi_all _ _ _ _ _ e1 i)
  · exact fin_lt inf16 (Host.reduce_andi_all _ _ _ _ _ e2 i)
  · exact fin_lt inf16 (Host.reduce_andi_all _ _ _ _ _ e3 i)
  · have h := Host.reduce_andi_all _ _ _ _ _ eC (ix3 b k j)
    have h' := or_of h (by rw [codeLen]; exact sge_ne hk)
    obtain ⟨h1, h2⟩ := IntOp.andi_eq_one.1 h'
    have hc := codeAt a4 b k j
    exact fin_code (hc ▸ ne_of h1) (hc ▸ ne_of h2)
  · have h := Host.reduce_andi_all _ _ _ _ _ eS (ix3 b k g)
    have h' := or_of h (by rw [scaleLen]; exact sge_ne hk)
    rw [← scaleAt]
    exact fin_lt inf32 h'
  · have h := Host.reduce_andi_all _ _ _ _ _ eR (ix3 b k e)
    have h' := or_of h (by rw [ropeLen]; exact sge_ne hk)
    rw [← ropeAt]
    exact fin_lt inf16 h'

end Cert.Pre_finite_inputs

end
-- ==== Proof.KernBits.lean ====
/-
  The bytes of a cache tile as the kernel reads them: packed into words, and the words read again as codes, scales and rope numbers.
-/
module

public import proofs.«01_k».proof.Proof.Flow
public import proofs.«01_k».proof.Proof.RowMath
public import Idealize.ShloMosaic.Lib.Pointwise
public import Idealize.ShloMosaic.Lib.BitcastFour
public import Idealize.ShloMosaic.Lib.BitcastConvert

@[expose] public section

set_option maxRecDepth 16384

noncomputable section

namespace Cert.KernelIdeal.Hand

open Cert.KernelIdeal Cert.KernelIdeal.Gen Cert.Row
open Idealize.ShloMosaic Idealize.ShloMosaic.TcCoe

/-- A bit of a reread block: rank two. -/
theorem bitcast_bit {v w R r n : Nat} (x : (⟨2, ![R, n]⟩ : Shape).Idx → BitVec v)
    (h : (⟨2, ![R, n]⟩ : Shape).Bitcasts v ⟨2, ![r, n]⟩ w) (a : Fin r) (l : Fin n) (q : Nat) (hq : q < w) (hv : 0 < v) (p : Fin R)
    (hp : p.val = (a.val * w + q) / v) :
    (bitcast ⟨2, ![r, n]⟩ w x h (ix2 a l)).getLsbD q = (x (ix2 p l)).getLsbD ((a.val * w + q) % v) := by
  rw [bitcast_getLsbD x h _ q hq hv]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- Code `j` of lane `l`: a byte of word row `j / 4`. -/
def cb (w : IVec S164x128 32) (j : Fin 512) (l : Fin 128) : BitVec 8 := (w (ix2 (⟨j / 4, by omega⟩ : Fin 164) l)).extractLsb' (8 * (j % 4)) 8
def cd (w : IVec S164x128 32) (j : Fin 512) (l : Fin 128) : EReal := Ideal.ofBits .fp8e4m3 (cb w j l)
/-- The scale of block `g`. -/
def sc (w : IVec S164x128 32) (g : Fin 4) (l : Fin 128) : EReal := Ideal.ofBits .f32 (w (ix2 (⟨128 + g, by omega⟩ : Fin 164) l))
/-- The rope number `e`. -/
def rb (w : IVec S164x128 32) (e : Fin 64) (l : Fin 128) : BitVec 16 := (w (ix2 (⟨132 + e / 2, by omega⟩ : Fin 164) l)).extractLsb' (16 * (e % 2)) 16
def rp (w : IVec S164x128 32) (e : Fin 64) (l : Fin 128) : EReal := Ideal.ofBits .bf16 (rb w e l)

theorem slice_at (w : IVec S164x128 32) (o : ℕ) (hs : S164x128.Slices ![o, 0] S32x128) (p : Fin 32) (l : Fin 128) (p' : Fin 164) (hp : p'.val = o + p) :
    extractStridedSlice S32x128 ![o, 0] w hs (ix2 p l) = w (ix2 p' l) := by
  unfold extractStridedSlice
  congr 1
  funext a
  match a with
  | ⟨0, _⟩ => exact Fin.ext hp.symm
  | ⟨1, _⟩ => exact Fin.ext (Nat.zero_add _)

theorem code_at (w : IVec S164x128 32) (o : ℕ) (hs : S164x128.Slices ![o, 0] S32x128) (hb : S32x128.Bitcasts 32 S128x128 8) (i l : Fin 128)
    (j : Fin 512) (hj : j.val = 4 * o + i) :
    bitcast S128x128 8 (extractStridedSlice S32x128 ![o, 0] w hs) hb (ix2 i l) = cb w j l := by
  apply BitVec.eq_of_getLsbD_eq
  intro q hq
  rw [bitcast_bit _ hb i l q hq (by decide) (⟨i / 4, by omega⟩ : Fin 32) (by show i.val / 4 = (i.val * 8 + q) / 32; omega),
    slice_at w o hs _ l (⟨j / 4, by omega⟩ : Fin 164) (by show j.val / 4 = o + i.val / 4; omega)]
  unfold cb
  rw [BitVec.getLsbD_extractLsb', show (i.val * 8 + q) % 32 = 8 * (j.val % 4) + q by omega]
  simp [hq]

theorem rope_at (w : IVec S164x128 32) (hs : S164x128.Slices ![132, 0] S32x128) (hb : S32x128.Bitcasts 32 S64x128 16) (e : Fin 64) (l : Fin 128) :
    bitcast S64x128 16 (extractStridedSlice S32x128 ![132, 0] w hs) hb (ix2 e l) = rb w e l := by
  apply BitVec.eq_of_getLsbD_eq
  intro q hq
  rw [bitcast_bit _ hb e l q hq (by decide) (⟨e / 2, by omega⟩ : Fin 32) (by show e.val / 2 = (e.val * 16 + q) / 32; omega),
    slice_at w 132 hs _ l (⟨132 + e / 2, by omega⟩ : Fin 164) rfl]
  unfold rb
  rw [BitVec.getLsbD_extractLsb', show (e.val * 16 + q) % 32 = 16 * (e.val % 2) + q by omega]
  simp [hq]

/-- A word of the tile: four of its bytes. -/
theorem word_bit (k : Vec Ideal S1x1x656x128 .i8) (r : Fin 164) (l : Fin 128) (q : ℕ) (hq : q < 32) (p : Fin 656) (hp : p.val = 4 * r + q / 8) :
    (k0_pay14 k (ix2 r l)).getLsbD q = ((k (ix4 0 0 p l) : BitVec 8)).getLsbD (q % 8) := by
  unfold k0_pay14
  refine (bitcast_8_32_getLsbD_ix2 _ _ r l q hq p hp).trans ?_
  pointwise

theorem pay15_eq (k : Vec Ideal S1x1x656x128 .i8) : k0_pay15 k = k0_pay14 k := rfl

theorem cb_at (k : Vec Ideal S1x1x656x128 .i8) (j : Fin 512) (l : Fin 128) : cb (k0_pay14 k) j l = k (ix4 0 0 (⟨j, by omega⟩ : Fin 656) l) := by
  apply BitVec.eq_of_getLsbD_eq
  intro q hq
  unfold cb
  rw [BitVec.getLsbD_extractLsb', word_bit k _ l _ (by omega) (⟨j, by omega⟩ : Fin 656) (by show j.val = 4 * (j.val / 4) + (8 * (j.val % 4) + q) / 8; omega)]
  simp only [hq, decide_true, Bool.true_and]
  congr 1
  omega

theorem rb_bit (k : Vec Ideal S1x1x656x128 .i8) (e : Fin 64) (l : Fin 128) (q : ℕ) (hq : q < 16) :
    (rb (k0_pay14 k) e l).getLsbD q = ((k (ix4 0 0 (⟨528 + 2 * e + q / 8, by omega⟩ : Fin 656) l) : BitVec 8)).getLsbD (q % 8) := by
  unfold rb
  rw [BitVec.getLsbD_extractLsb', word_bit k _ l _ (by omega) (⟨528 + 2 * e + q / 8, by omega⟩ : Fin 656)
    (by show 528 + 2 * e.val + q / 8 = 4 * (132 + e.val / 2) + (16 * (e.val % 2) + q) / 8; omega)]
  simp only [hq, decide_true, Bool.true_and]
  congr 1
  omega

end Cert.KernelIdeal.Hand

end
-- ==== Proof.KernVal.lean ====
/-
  What one slot of the kernel computes, read at an index.
-/
module

public import proofs.«01_k».proof.Proof.KernBits

@[expose] public section

set_option maxRecDepth 16384

noncomputable section

namespace Cert.KernelIdeal.Hand

open Cert.KernelIdeal Cert.KernelIdeal.Gen Cert.Row
open Idealize.ShloMosaic Idealize.ShloMosaic.TcCoe

/-- The constant the scores are multiplied by. -/
def cS : EReal := Ideal.ofBits .f32 0x3D93CD3A#32

/-- A score as the kernel forms it: the rope product, then block by block the product with the codes times the block's scale. -/
def kscore (w : IVec S164x128 32) (x : Fin 512 → EReal) (q : Fin 64 → EReal) (l : Fin 128) : EReal :=
  (∑ e : Fin 64, q e * rp w e l + (∑ i : Fin 128, x ⟨i, by omega⟩ * cd w ⟨i, by omega⟩ l) * sc w 0 l
    + (∑ i : Fin 128, x ⟨128 + i, by omega⟩ * cd w ⟨128 + i, by omega⟩ l) * sc w 1 l
    + (∑ i : Fin 128, x ⟨256 + i, by omega⟩ * cd w ⟨256 + i, by omega⟩ l) * sc w 2 l
    + (∑ i : Fin 128, x ⟨384 + i, by omega⟩ * cd w ⟨384 + i, by omega⟩ l) * sc w 3 l) * cS

/-- The query of head `h`, from the eight packed rows. -/
def q16 (q : S8x128.Idx → EReal) (h : Fin 16) (l : Fin 128) : EReal :=
  if hh : h.val < 8 then q (ix2 (⟨h, hh⟩ : Fin 8) l) else q (ix2 (⟨h - 8, by omega⟩ : Fin 8) (⟨(l + 128 - 64) % 128, by omega⟩ : Fin 128))

/-- The new token's score. -/
def knew (x : Fin 512 → EReal) (q r : Fin 128 → EReal) (n : Fin 4 → Fin 128 → EReal) : EReal :=
  (∑ l : Fin 128, (q l * r l + x ⟨l, by omega⟩ * n 0 l + x ⟨128 + l, by omega⟩ * n 1 l + x ⟨256 + l, by omega⟩ * n 2 l + x ⟨384 + l, by omega⟩ * n 3 l)) * cS

theorem code0 (w : IVec S164x128 32) (hs : S164x128.Slices ![0, 0] S32x128) (hb : S32x128.Bitcasts 32 S128x128 8) (i l : Fin 128) :
    Ideal.ofBits .fp8e4m3 (bitcast S128x128 8 (extractStridedSlice S32x128 ![0, 0] w hs) hb (ix2 i l)) = cd w ⟨i, by omega⟩ l :=
  congrArg _ (code_at w 0 hs hb i l ⟨i, by omega⟩ (by show i.val = 4 * 0 + i.val; omega))
theorem code1 (w : IVec S164x128 32) (hs : S164x128.Slices ![32, 0] S32x128) (hb : S32x128.Bitcasts 32 S128x128 8) (i l : Fin 128) :
    Ideal.ofBits .fp8e4m3 (bitcast S128x128 8 (extractStridedSlice S32x128 ![32, 0] w hs) hb (ix2 i l)) = cd w ⟨128 + i, by omega⟩ l :=
  congrArg _ (code_at w 32 hs hb i l ⟨128 + i, by omega⟩ rfl)
theorem code2 (w : IVec S164x128 32) (hs : S164x128.Slices ![64, 0] S32x128) (hb : S32x128.Bitcasts 32 S128x128 8) (i l : Fin 128) :
    Ideal.ofBits .fp8e4m3 (bitcast S128x128 8 (extractStridedSlice S32x128 ![64, 0] w hs) hb (ix2 i l)) = cd w ⟨256 + i, by omega⟩ l :=
  congrArg _ (code_at w 64 hs hb i l ⟨256 + i, by omega⟩ rfl)
theorem code3 (w : IVec S164x128 32) (hs : S164x128.Slices ![96, 0] S32x128) (hb : S32x128.Bitcasts 32 S128x128 8) (i l : Fin 128) :
    Ideal.ofBits .fp8e4m3 (bitcast S128x128 8 (extractStridedSlice S32x128 ![96, 0] w hs) hb (ix2 i l)) = cd w ⟨384 + i, by omega⟩ l :=
  congrArg _ (code_at w 96 hs hb i l ⟨384 + i, by omega⟩ rfl)
theorem rope0 (w : IVec S164x128 32) (hs : S164x128.Slices ![132, 0] S32x128) (hb : S32x128.Bitcasts 32 S64x128 16) (e : Fin 64) (l : Fin 128) :
    Ideal.ofBits .bf16 (bitcast S64x128 16 (extractStridedSlice S32x128 ![132, 0] w hs) hb (ix2 e l)) = rp w e l :=
  congrArg _ (rope_at w hs hb e l)

namespace SlotIn
variable (s : SlotIn Ideal)

/-- The masked scores of the two halves. -/
def sA (h : Fin 16) (l : Fin 128) : EReal :=
  Scalar.select (IntOp.cmpi .slt (s.io (ix2 h l)) s.d186) (kscore s.d197 (fun i => s.xA (ix4 0 0 h i)) (fun e => q16 s.qA h ⟨e, by omega⟩) l) ⊥
def sB (h : Fin 16) (l : Fin 128) : EReal :=
  Scalar.select (IntOp.cmpi .slt (s.io (ix2 h l)) s.d190) (kscore s.d204 (fun i => s.xB (ix4 0 0 h i)) (fun e => q16 s.qB h ⟨e, by omega⟩) l) ⊥
def tA (h : Fin 16) : EReal := knew (fun i => s.xA (ix4 0 0 h i)) (q16 s.qA h) (fun l => s.rA (ix2 0 l)) (fun j l => s.nA j (ix3 0 0 l))
def tB (h : Fin 16) : EReal := knew (fun i => s.xB (ix4 0 0 h i)) (q16 s.qB h) (fun l => s.rB (ix2 0 l)) (fun j l => s.nB j (ix3 0 0 l))

theorem d396_at (h : Fin 16) (l : Fin 128) : s.d396 (ix2 h l) = s.sA h l := by
  unfold sA kscore
  pointwise [SlotIn.d396, k0_pay33, SlotIn.d335, SlotIn.d344, SlotIn.d353, SlotIn.d354, SlotIn.d355, SlotIn.d357, k0_pay27, k0_pay28, k0_pay29, k0_pay30, k0_pay31, k0_pay32, k0_pay25, k0_pay26,
    SlotIn.d259, k0_pay20, SlotIn.d221, k0_pay18, SlotIn.d210, k0_pay16]
  simp only [code0, code1, code2, code3, rope0, Row.ofBits_bot]
  rfl
theorem pay35_at (h : Fin 16) (l : Fin 128) : k0_pay35 s.io s.d190 s.d204 s.d344 s.d353 s.d415 (ix2 h l) = s.sB h l := by
  unfold sB kscore
  pointwise [k0_pay35, SlotIn.d415, k0_pay34, SlotIn.d317, SlotIn.d326, SlotIn.d335, SlotIn.d344, SlotIn.d353, k0_pay27, k0_pay28, k0_pay29, k0_pay30, k0_pay31, k0_pay32, k0_pay25, k0_pay26,
    SlotIn.d268, k0_pay22, SlotIn.d216, k0_pay17]
  simp only [code0, code1, code2, code3, rope0, Row.ofBits_bot]
  rfl
theorem d263_at (h : Fin 16) : s.d263 (ix2 h 0) = s.tA h := by
  unfold tA knew q16
  pointwise [SlotIn.d263, k0_pay21, SlotIn.d257, k0_pay19, k0_pay18, SlotIn.d210, k0_pay16]
  rfl
theorem d310_at (h : Fin 16) : s.d310 (ix2 h 0) = s.tB h := by
  unfold tB knew q16
  pointwise [SlotIn.d310, k0_pay24, SlotIn.d304, k0_pay23, k0_pay22, SlotIn.d216, k0_pay17]
  rfl

/-- The largest score the halves are shifted by. -/
def mA (h : Fin 16) : EReal := max (Finset.univ.fold max ⊥ (s.sA h)) (s.tA h)
def tB' (h : Fin 16) : EReal := Scalar.select s.d183 ⊥ (s.tB h)
def mB (h : Fin 16) : EReal := max (Finset.univ.fold max ⊥ (s.sB h)) (s.tB' h)
def MA (h : Fin 16) : EReal := Scalar.select s.d183 (max (s.mA h) (s.mB h)) (s.mA h)
def MB (h : Fin 16) : EReal := Scalar.select s.d183 (max (s.mA h) (s.mB h)) (s.mB h)

theorem pay36_at (h : Fin 16) : k0_pay36 s.d183 s.d310 (ix2 h 0) = s.tB' h := by
  unfold tB'
  pointwise [k0_pay36]
  simp only [d310_at, Row.ofBits_bot]
theorem pay37_at (h : Fin 16) : k0_pay37 s.d263 s.d396 (ix2 h 0) = s.mA h := by
  unfold mA
  pointwise [k0_pay37]
  simp only [d263_at, d396_at, Row.ofBits_bot]
theorem pay38_at (h : Fin 16) : k0_pay38 s.io s.d183 s.d190 s.d204 s.d310 s.d344 s.d353 s.d415 (ix2 h 0) = s.mB h := by
  unfold mB
  pointwise [k0_pay38]
  simp only [pay36_at, pay35_at, Row.ofBits_bot]
end SlotIn
end Cert.KernelIdeal.Hand

end
-- ==== Proof.KernOut.lean ====
/-
  The two blocks of rows one slot of the kernel stores, read at an index: each row of attention.
-/
module

public import proofs.«01_k».proof.Proof.KernVal

@[expose] public section

set_option maxRecDepth 16384

noncomputable section

namespace Cert.KernelIdeal.Hand

open Cert.KernelIdeal Cert.KernelIdeal.Gen Cert.Row
open Idealize.ShloMosaic Idealize.ShloMosaic.TcCoe

namespace SlotIn
variable (s : SlotIn Ideal)

/-- The weights before they are divided by their total, and the two totals. -/
def eA (h : Fin 16) (l : Fin 128) : EReal := Ideal.exp (s.sA h l - s.MA h)
def eB (h : Fin 16) (l : Fin 128) : EReal := Ideal.exp (s.sB h l - s.MB h)
def fA (h : Fin 16) : EReal := Ideal.exp (s.tA h - s.MA h)
def fB (h : Fin 16) : EReal := Ideal.exp (s.tB' h - s.MB h)
def uA (h : Fin 16) : EReal := ∑ l, s.eA h l + s.fA h
def uB (h : Fin 16) : EReal := ∑ l, s.eB h l + s.fB h
def TA (h : Fin 16) : EReal := Scalar.select s.d183 (s.uA h + s.uB h) (s.uA h)
def TB (h : Fin 16) : EReal := Scalar.select s.d183 (s.uA h + s.uB h) (s.uB h)

theorem d453_at (h : Fin 16) (l : Fin 128) : s.d453 (ix2 h l) = s.eA h l := by
  unfold eA MA
  pointwise [SlotIn.d453, k0_pay42, k0_pay40, k0_pay39]
  simp only [pay38_at, pay37_at, d396_at]
theorem d456_at (h : Fin 16) (l : Fin 128) : s.d456 (ix2 h l) = s.eB h l := by
  unfold eB MB
  pointwise [SlotIn.d456, k0_pay43, k0_pay41, k0_pay39]
  simp only [pay38_at, pay37_at, pay35_at]
theorem d458_at (h : Fin 16) : s.d458 (ix2 h 0) = s.fA h := by
  unfold fA MA
  pointwise [SlotIn.d458, k0_pay44, k0_pay40, k0_pay39]
  simp only [pay38_at, pay37_at, d263_at]
theorem d460_at (h : Fin 16) : s.d460 (ix2 h 0) = s.fB h := by
  unfold fB MB
  pointwise [SlotIn.d460, k0_pay45, k0_pay41, k0_pay39]
  simp only [pay38_at, pay37_at, pay36_at]
theorem pay42_at (h : Fin 16) (l : Fin 128) : k0_pay42 s.io s.d183 s.d190 s.d204 s.d263 s.d310 s.d344 s.d353 s.d396 s.d415 (ix2 h l) = s.eA h l := s.d453_at h l
theorem pay43_at (h : Fin 16) (l : Fin 128) : k0_pay43 s.io s.d183 s.d190 s.d204 s.d263 s.d310 s.d344 s.d353 s.d396 s.d415 (ix2 h l) = s.eB h l := s.d456_at h l
theorem pay44_at (h : Fin 16) : k0_pay44 s.io s.d183 s.d190 s.d204 s.d263 s.d310 s.d344 s.d353 s.d396 s.d415 (ix2 h 0) = s.fA h := s.d458_at h
theorem pay45_at (h : Fin 16) : k0_pay45 s.io s.d183 s.d190 s.d204 s.d263 s.d310 s.d344 s.d353 s.d396 s.d415 (ix2 h 0) = s.fB h := s.d460_at h
theorem pay46_at (h : Fin 16) : k0_pay46 s.io s.d183 s.d190 s.d204 s.d263 s.d310 s.d344 s.d353 s.d396 s.d415 (ix2 h 0) = s.uA h := by
  unfold uA
  pointwise [k0_pay46]
  simp only [pay42_at, pay44_at]
theorem d466_at (h : Fin 16) : s.d466 (ix2 h 0) = s.uB h := by
  unfold uB
  pointwise [SlotIn.d466, k0_pay47]
  simp only [pay43_at, pay45_at]
theorem d467_at (h : Fin 16) : s.d467 (ix2 h 0) = s.uA h + s.uB h := by
  rw [← s.d466_at h]
  pointwise [SlotIn.d467, k0_pay48]
  simp only [pay46_at]
  rfl
theorem d468_at (h : Fin 16) : s.d468 (ix2 h 0) = s.TA h := by
  unfold TA
  rw [← s.d467_at h]
  pointwise [SlotIn.d468, k0_pay49]
  simp only [pay46_at]
  rfl

theorem blkA0_at (h : Fin 16) (l : Fin 128) : s.blkA0 (ix4 0 0 h l) = (∑ x, s.eA h x * Ideal.div 1 (s.TA h) * sc s.d197 0 x * cd s.d197 ⟨l, by omega⟩ x
      + ∑ x, Scalar.select s.d183 (s.eB h x * Ideal.div 1 (s.TB h) * sc s.d204 0 x * cd s.d204 ⟨l, by omega⟩ x) 0)
    + s.fA h * Ideal.div 1 (s.TA h) * s.nA 0 (ix3 0 0 l) := by
  pointwise [SlotIn.blkA0, k0_pay68, SlotIn.d514, k0_pay58, SlotIn.d476, SlotIn.d479, SlotIn.d487, SlotIn.d482, SlotIn.d485, k0_pay52, k0_pay57, k0_pay56, k0_pay53, k0_pay50, k0_pay51, k0_pay54, k0_pay55]
  simp only [code0, code1, code2, code3, d453_at, d456_at, d458_at, d460_at, d466_at, d467_at, d468_at]
  rfl
theorem blkA1_at (h : Fin 16) (l : Fin 128) : s.blkA1 (ix4 0 0 h l) = (∑ x, s.eA h x * Ideal.div 1 (s.TA h) * sc s.d197 1 x * cd s.d197 ⟨128 + l, by omega⟩ x
      + ∑ x, Scalar.select s.d183 (s.eB h x * Ideal.div 1 (s.TB h) * sc s.d204 1 x * cd s.d204 ⟨128 + l, by omega⟩ x) 0)
    + s.fA h * Ideal.div 1 (s.TA h) * s.nA 1 (ix3 0 0 l) := by
  pointwise [SlotIn.blkA1, k0_pay71, SlotIn.d625, k0_pay69, SlotIn.d628, k0_pay70, SlotIn.d541, k0_pay61, SlotIn.d520, k0_pay59, SlotIn.d524, k0_pay60, SlotIn.d476, SlotIn.d479, SlotIn.d487, SlotIn.d482, SlotIn.d485, k0_pay52, k0_pay57, k0_pay56, k0_pay53, k0_pay50, k0_pay51, k0_pay54, k0_pay55]
  simp only [code0, code1, code2, code3, d453_at, d456_at, d458_at, d460_at, d466_at, d467_at, d468_at]
  rfl
theorem blkA2_at (h : Fin 16) (l : Fin 128) : s.blkA2 (ix4 0 0 h l) = (∑ x, s.eA h x * Ideal.div 1 (s.TA h) * sc s.d197 2 x * cd s.d197 ⟨256 + l, by omega⟩ x
      + ∑ x, Scalar.select s.d183 (s.eB h x * Ideal.div 1 (s.TB h) * sc s.d204 2 x * cd s.d204 ⟨256 + l, by omega⟩ x) 0)
    + s.fA h * Ideal.div 1 (s.TA h) * s.nA 2 (ix3 0 0 l) := by
  pointwise [SlotIn.blkA2, k0_pay72, SlotIn.d568, k0_pay62, SlotIn.d607, k0_pay66, SlotIn.d476, SlotIn.d479, SlotIn.d487, SlotIn.d482, SlotIn.d485, k0_pay52, k0_pay57, k0_pay56, k0_pay53, k0_pay50, k0_pay51, k0_pay54, k0_pay55]
  simp only [code0, code1, code2, code3, d453_at, d456_at, d458_at, d460_at, d466_at, d467_at, d468_at]
  rfl
theorem blkA3_at (h : Fin 16) (l : Fin 128) : s.blkA3 (ix4 0 0 h l) = (∑ x, s.eA h x * Ideal.div 1 (s.TA h) * sc s.d197 3 x * cd s.d197 ⟨384 + l, by omega⟩ x
      + ∑ x, Scalar.select s.d183 (s.eB h x * Ideal.div 1 (s.TB h) * sc s.d204 3 x * cd s.d204 ⟨384 + l, by omega⟩ x) 0)
    + s.fA h * Ideal.div 1 (s.TA h) * s.nA 3 (ix3 0 0 l) := by
  pointwise [SlotIn.blkA3, k0_pay73, SlotIn.d595, k0_pay65, SlotIn.d611, k0_pay67, SlotIn.d581, k0_pay63, SlotIn.d582, k0_pay64, SlotIn.d476, SlotIn.d479, SlotIn.d487, SlotIn.d482, SlotIn.d485, k0_pay52, k0_pay57, k0_pay56, k0_pay53, k0_pay50, k0_pay51, k0_pay54, k0_pay55]
  simp only [code0, code1, code2, code3, d453_at, d456_at, d458_at, d460_at, d466_at, d467_at, d468_at]
  rfl
theorem blkB0_at (h : Fin 16) (l : Fin 128) : s.blkB0 (ix4 0 0 h l) = ∑ x, s.eB h x * Ideal.div 1 (s.TB h) * sc s.d204 0 x * cd s.d204 ⟨l, by omega⟩ x
    + s.fB h * Ideal.div 1 (s.TB h) * s.nB 0 (ix3 0 0 l) := by
  pointwise [SlotIn.blkB0, k0_pay76, SlotIn.d514, k0_pay58, SlotIn.d667, k0_pay74, SlotIn.d476, SlotIn.d479, SlotIn.d487, SlotIn.d482, SlotIn.d485, k0_pay52, k0_pay57, k0_pay56, k0_pay53, k0_pay50, k0_pay51, k0_pay54, k0_pay55]
  simp only [code0, code1, code2, code3, d453_at, d456_at, d458_at, d460_at, d466_at, d467_at, d468_at, zero_mul, Finset.sum_const_zero, zero_add]
  rfl
theorem blkB1_at (h : Fin 16) (l : Fin 128) : s.blkB1 (ix4 0 0 h l) = ∑ x, s.eB h x * Ideal.div 1 (s.TB h) * sc s.d204 1 x * cd s.d204 ⟨128 + l, by omega⟩ x
    + s.fB h * Ideal.div 1 (s.TB h) * s.nB 1 (ix3 0 0 l) := by
  pointwise [SlotIn.blkB1, k0_pay77, SlotIn.d541, k0_pay61, SlotIn.d520, k0_pay59, SlotIn.d524, k0_pay60, SlotIn.d476, SlotIn.d479, SlotIn.d487, SlotIn.d482, SlotIn.d485, k0_pay52, k0_pay57, k0_pay56, k0_pay53, k0_pay50, k0_pay51, k0_pay54, k0_pay55]
  simp only [code0, code1, code2, code3, d453_at, d456_at, d458_at, d460_at, d466_at, d467_at, d468_at, zero_mul, Finset.sum_const_zero, zero_add]
  rfl
theorem blkB2_at (h : Fin 16) (l : Fin 128) : s.blkB2 (ix4 0 0 h l) = ∑ x, s.eB h x * Ideal.div 1 (s.TB h) * sc s.d204 2 x * cd s.d204 ⟨256 + l, by omega⟩ x
    + s.fB h * Ideal.div 1 (s.TB h) * s.nB 2 (ix3 0 0 l) := by
  pointwise [SlotIn.blkB2, k0_pay3, SlotIn.d711, k0_pay78, SlotIn.d568, k0_pay62, SlotIn.d476, SlotIn.d479, SlotIn.d487, SlotIn.d482, SlotIn.d485, k0_pay52, k0_pay57, k0_pay56, k0_pay53, k0_pay50, k0_pay51, k0_pay54, k0_pay55]
  simp only [code0, code1, code2, code3, d453_at, d456_at, d458_at, d460_at, d466_at, d467_at, d468_at, zero_mul, Finset.sum_const_zero, zero_add]
  rfl
theorem blkB3_at (h : Fin 16) (l : Fin 128) : s.blkB3 (ix4 0 0 h l) = ∑ x, s.eB h x * Ideal.div 1 (s.TB h) * sc s.d204 3 x * cd s.d204 ⟨384 + l, by omega⟩ x
    + s.fB h * Ideal.div 1 (s.TB h) * s.nB 3 (ix3 0 0 l) := by
  pointwise [SlotIn.blkB3, k0_pay4, SlotIn.d595, k0_pay65, SlotIn.d679, k0_pay75, SlotIn.d581, k0_pay63, SlotIn.d582, k0_pay64, SlotIn.d476, SlotIn.d479, SlotIn.d487, SlotIn.d482, SlotIn.d485, k0_pay52, k0_pay57, k0_pay56, k0_pay53, k0_pay50, k0_pay51, k0_pay54, k0_pay55]
  simp only [code0, code1, code2, code3, d453_at, d456_at, d458_at, d460_at, d466_at, d467_at, d468_at, zero_mul, Finset.sum_const_zero, zero_add]
  rfl

/-- A column of a row, and a lane of a column block. -/
def cg (j : Fin 512) : Fin 4 := ⟨j / 128, by omega⟩
def cl (j : Fin 512) : Fin 128 := ⟨j % 128, by omega⟩

theorem col_cases {P : Fin 512 → Prop} (h0 : ∀ l : Fin 128, P ⟨l, by omega⟩) (h1 : ∀ l : Fin 128, P ⟨128 + l, by omega⟩)
    (h2 : ∀ l : Fin 128, P ⟨256 + l, by omega⟩) (h3 : ∀ l : Fin 128, P ⟨384 + l, by omega⟩) (j : Fin 512) : P j := by
  have hj : j.val < 128 ∨ (128 ≤ j.val ∧ j.val < 256) ∨ (256 ≤ j.val ∧ j.val < 384) ∨ 384 ≤ j.val := by omega
  rcases hj with h | h | h | h
  · exact h0 ⟨j, h⟩
  · have e : (⟨128 + (j.val - 128), by omega⟩ : Fin 512) = j := Fin.ext (by show 128 + (j.val - 128) = j.val; omega)
    exact e ▸ h1 ⟨j - 128, by omega⟩
  · have e : (⟨256 + (j.val - 256), by omega⟩ : Fin 512) = j := Fin.ext (by show 256 + (j.val - 256) = j.val; omega)
    exact e ▸ h2 ⟨j - 256, by omega⟩
  · have e : (⟨384 + (j.val - 384), by omega⟩ : Fin 512) = j := Fin.ext (by show 384 + (j.val - 384) = j.val; omega)
    exact e ▸ h3 ⟨j - 384, by omega⟩

theorem colBlock_0 {V : Type} (w0 w1 w2 w3 : S1x1x16x128.Idx → V) (h : Fin 16) (l : Fin 128) : colBlock w0 w1 w2 w3 (ix2 h ⟨l, by omega⟩) = w0 (ix4 0 0 h l) := by
  unfold colBlock
  have e : l.val / 128 = 0 := by omega
  have e' : l.val % 128 = l.val := by omega
  simp [ix2, e, e']
  rfl
theorem colBlock_1 {V : Type} (w0 w1 w2 w3 : S1x1x16x128.Idx → V) (h : Fin 16) (l : Fin 128) : colBlock w0 w1 w2 w3 (ix2 h ⟨128 + l, by omega⟩) = w1 (ix4 0 0 h l) := by
  unfold colBlock
  have e : (128 + l.val) / 128 = 1 := by omega
  have e' : (128 + l.val) % 128 = l.val := by omega
  simp [ix2, e, e']
  rfl
theorem colBlock_2 {V : Type} (w0 w1 w2 w3 : S1x1x16x128.Idx → V) (h : Fin 16) (l : Fin 128) : colBlock w0 w1 w2 w3 (ix2 h ⟨256 + l, by omega⟩) = w2 (ix4 0 0 h l) := by
  unfold colBlock
  have e : (256 + l.val) / 128 = 2 := by omega
  have e' : (256 + l.val) % 128 = l.val := by omega
  simp [ix2, e, e']
  rfl
theorem colBlock_3 {V : Type} (w0 w1 w2 w3 : S1x1x16x128.Idx → V) (h : Fin 16) (l : Fin 128) : colBlock w0 w1 w2 w3 (ix2 h ⟨384 + l, by omega⟩) = w3 (ix4 0 0 h l) := by
  unfold colBlock
  have e : (384 + l.val) / 128 = 3 := by omega
  have e' : (384 + l.val) % 128 = l.val := by omega
  simp [ix2, e, e']
  rfl

theorem cg0 (l : Fin 128) : cg ⟨l, by omega⟩ = 0 := Fin.ext (by show l.val / 128 = 0; omega)
theorem cg1 (l : Fin 128) : cg ⟨128 + l, by omega⟩ = 1 := Fin.ext (by show (128 + l.val) / 128 = 1; omega)
theorem cg2 (l : Fin 128) : cg ⟨256 + l, by omega⟩ = 2 := Fin.ext (by show (256 + l.val) / 128 = 2; omega)
theorem cg3 (l : Fin 128) : cg ⟨384 + l, by omega⟩ = 3 := Fin.ext (by show (384 + l.val) / 128 = 3; omega)
theorem cl0 (l : Fin 128) : cl ⟨l, by omega⟩ = l := Fin.ext (by show l.val % 128 = l.val; omega)
theorem cl1 (l : Fin 128) : cl ⟨128 + l, by omega⟩ = l := Fin.ext (by show (128 + l.val) % 128 = l.val; omega)
theorem cl2 (l : Fin 128) : cl ⟨256 + l, by omega⟩ = l := Fin.ext (by show (256 + l.val) % 128 = l.val; omega)
theorem cl3 (l : Fin 128) : cl ⟨384 + l, by omega⟩ = l := Fin.ext (by show (384 + l.val) % 128 = l.val; omega)

theorem blkA_at (h : Fin 16) (j : Fin 512) : s.blkA (ix2 h j) = (∑ x, s.eA h x * Ideal.div 1 (s.TA h) * sc s.d197 (cg j) x * cd s.d197 j x
      + ∑ x, Scalar.select s.d183 (s.eB h x * Ideal.div 1 (s.TB h) * sc s.d204 (cg j) x * cd s.d204 j x) 0)
    + s.fA h * Ideal.div 1 (s.TA h) * s.nA (cg j) (ix3 0 0 (cl j)) := by
  unfold blkA
  revert j
  refine col_cases (fun l => ?_) (fun l => ?_) (fun l => ?_) (fun l => ?_)
  · rw [colBlock_0, blkA0_at, cg0, cl0]
  · rw [colBlock_1, blkA1_at, cg1, cl1]
  · rw [colBlock_2, blkA2_at, cg2, cl2]
  · rw [colBlock_3, blkA3_at, cg3, cl3]
theorem blkB_at (h : Fin 16) (j : Fin 512) : s.blkB (ix2 h j) = ∑ x, s.eB h x * Ideal.div 1 (s.TB h) * sc s.d204 (cg j) x * cd s.d204 j x
    + s.fB h * Ideal.div 1 (s.TB h) * s.nB (cg j) (ix3 0 0 (cl j)) := by
  unfold blkB
  revert j
  refine col_cases (fun l => ?_) (fun l => ?_) (fun l => ?_) (fun l => ?_)
  · rw [colBlock_0, blkB0_at, cg0, cl0]
  · rw [colBlock_1, blkB1_at, cg1, cl1]
  · rw [colBlock_2, blkB2_at, cg2, cl2]
  · rw [colBlock_3, blkB3_at, cg3, cl3]

theorem sel0 {α : Type} {c : BitVec 1} (hc : c = 0#1) (a b : α) : Scalar.select c a b = b := by subst hc; rfl
theorem sel1 {α : Type} {c : BitVec 1} (hc : c = 1#1) (a b : α) : Scalar.select c a b = a := by subst hc; rfl

/-- The first row of a slot of two short rows. -/
theorem blkA_short (hd : s.d183 = 0#1) (h : Fin 16) (hs : ∀ k, s.sA h k ≠ ⊤) (hn : Fin' (s.tA h)) (j : Fin 512) :
    s.blkA (ix2 h j) = att (s.sA h) (s.tA h) (fun k => cd s.d197 j k * sc s.d197 (cg j) k) (s.nA (cg j) (ix3 0 0 (cl j))) := by
  rw [blkA_at]
  simp only [sel0 hd, Finset.sum_const_zero, add_zero]
  have hM : s.MA h = mx (s.sA h) (s.tA h) := sel0 hd _ _
  refine att_recip hs hn (fun k => cd s.d197 j k) (fun k => sc s.d197 (cg j) k) _ hM ?_
  unfold TA uA eA fA tot
  rw [sel0 hd, hM]
/-- The second row of a slot of two short rows. -/
theorem blkB_short (hd : s.d183 = 0#1) (h : Fin 16) (hs : ∀ k, s.sB h k ≠ ⊤) (hn : Fin' (s.tB h)) (j : Fin 512) :
    s.blkB (ix2 h j) = att (s.sB h) (s.tB h) (fun k => cd s.d204 j k * sc s.d204 (cg j) k) (s.nB (cg j) (ix3 0 0 (cl j))) := by
  rw [blkB_at]
  have ht : s.tB' h = s.tB h := sel0 hd _ _
  have hM : s.MB h = mx (s.sB h) (s.tB h) := by
    unfold MB mB mx
    rw [sel0 hd, ht]
  unfold fB
  rw [ht]
  refine att_recip hs hn (fun k => cd s.d204 j k) (fun k => sc s.d204 (cg j) k) _ hM ?_
  unfold TB uB eB fB tot
  rw [sel0 hd, hM, ht]

/-- Two lists of 128 one after the other. -/
def cat (f g : Fin 128 → EReal) (k : Fin 256) : EReal := if hk : k.val < 128 then f ⟨k, hk⟩ else g ⟨k - 128, by omega⟩
theorem cat_lo (f g : Fin 128 → EReal) (k : Fin 128) : cat f g ⟨k, by omega⟩ = f k := dif_pos k.isLt
theorem cat_hi (f g : Fin 128 → EReal) (k : Fin 128) : cat f g ⟨128 + k, by omega⟩ = g k := by
  unfold cat
  rw [dif_neg (by show ¬ 128 + k.val < 128; omega)]
  congr 1
  exact Fin.ext (by show 128 + k.val - 128 = k.val; omega)

/-- The row of a slot that holds one long row. -/
theorem blkA_long (hd : s.d183 = 1#1) (h : Fin 16) (hs : ∀ k, s.sA h k ≠ ⊤) (hs' : ∀ k, s.sB h k ≠ ⊤) (hn : Fin' (s.tA h)) (j : Fin 512) :
    s.blkA (ix2 h j) = att (cat (s.sA h) (s.sB h)) (s.tA h) (cat (fun k => cd s.d197 j k * sc s.d197 (cg j) k) (fun k => cd s.d204 j k * sc s.d204 (cg j) k))
      (s.nA (cg j) (ix3 0 0 (cl j))) := by
  have ht : s.tB' h = ⊥ := sel1 hd _ _
  have hm : max (s.mA h) (s.mB h) = mx (cat (s.sA h) (s.sB h)) (s.tA h) := by
    unfold mA mB mx
    rw [ht, fold_halves]
    simp only [cat_lo, cat_hi]
    rw [max_eq_left (bot_le : (⊥ : EReal) ≤ _), max_right_comm]
  have hMA : s.MA h = mx (cat (s.sA h) (s.sB h)) (s.tA h) := (sel1 hd _ _).trans hm
  have hMB : s.MB h = mx (cat (s.sA h) (s.sB h)) (s.tA h) := (sel1 hd _ _).trans hm
  have hT : s.uA h + s.uB h = tot (cat (s.sA h) (s.sB h)) (s.tA h) := by
    unfold uA uB eA eB fA fB tot
    rw [hMA, hMB, ht, bot_sub', exp_bot, add_zero, sum_halves]
    simp only [cat_lo, cat_hi]
    rw [add_right_comm]
  have hTA : s.TA h = tot (cat (s.sA h) (s.sB h)) (s.tA h) := (sel1 hd _ _).trans hT
  have hTB : s.TB h = tot (cat (s.sA h) (s.sB h)) (s.tA h) := (sel1 hd _ _).trans hT
  have hs'' : ∀ k, cat (s.sA h) (s.sB h) k ≠ ⊤ := by
    intro k
    unfold cat
    split
    · exact hs _
    · exact hs' _
  have key := att_recip hs'' hn (cat (cd s.d197 j) (cd s.d204 j)) (cat (sc s.d197 (cg j)) (sc s.d204 (cg j))) (s.nA (cg j) (ix3 0 0 (cl j))) rfl rfl
  have hL : (fun k => cat (cd s.d197 j) (cd s.d204 j) k * cat (sc s.d197 (cg j)) (sc s.d204 (cg j)) k)
      = cat (fun k => cd s.d197 j k * sc s.d197 (cg j) k) (fun k => cd s.d204 j k * sc s.d204 (cg j) k) := by
    funext k
    unfold cat
    split <;> rfl
  rw [hL, sum_halves] at key
  simp only [cat_lo, cat_hi] at key
  rw [← key, blkA_at]
  simp only [sel1 hd]
  unfold eA eB fA
  rw [hMA, hMB, hTA, hTB]

end SlotIn
end Cert.KernelIdeal.Hand

end
-- ==== Proof.KIn.lean ====
/-
  What a slot reads, in terms of the kernel's arguments.
-/
module

public import proofs.«01_k».proof.Proof.Launch
public import proofs.«01_k».proof.Proof.KernOut
public import proofs.«01_k».proof.Proof.Bytes
public import Idealize.ShloMosaic.Lib.StableHlo.ReadAt

@[expose] public section

set_option maxRecDepth 16384

noncomputable section

namespace Cert.KernelIdeal.Hand

open Cert.KernelIdeal Cert.KernelIdeal.Gen Cert.Row Cert.Mla
open Idealize.ShloMosaic Idealize.ShloMosaic.TcCoe

variable (m : (ℓ : Loc nD τ sig) → Buf (Elt Ideal) ℓ) (c : Dev nD)

/-- The arguments, on one device. -/
abbrev a0 : S2600x1x16x512.Idx → EReal := m ((c : Thread nD τ).loc main_arg0)
abbrev a1 : S2600x1x16x64.Idx → EReal := m ((c : Thread nD τ).loc main_arg1)
abbrev a2 : S2600x1x512.Idx → EReal := m ((c : Thread nD τ).loc main_arg2)
abbrev a3 : S2600x1x64.Idx → EReal := m ((c : Thread nD τ).loc main_arg3)
abbrev a4 : S2600x256x656.Idx → BitVec 8 := m ((c : Thread nD τ).loc main_arg4)
abbrev a5 : S2600.Idx → BitVec 32 := m ((c : Thread nD τ).loc main_arg5)

theorem V0_at (b : Fin 2600) (p : Fin 656) (k : Fin 256) : (V m c main_v0 : S2600x656x256.Idx → BitVec 8) (ix3 b p k) = a4 m c (ix3 b k p) := by
  unfold a4
  simp only [V]
  after_reads_at
theorem V1_at (b : Fin 2600) (h : Fin 16) (i : Fin 512) : (V m c main_v1 : S2600x16x512.Idx → EReal) (ix3 b h i) = a0 m c (ix4 b 0 h i) := by
  unfold a0
  simp only [V]
  after_reads_at
theorem V3_at (h : Fin 16) (e : Fin 64) (b : Fin 2600) : (V m c main_v3 : S1024x2600.Idx → EReal) (ix2 (⟨64 * h + e, by omega⟩ : Fin 1024) b) = a1 m c (ix4 b 0 h e) := by
  unfold a1
  simp only [V]
  after_reads_at
theorem V4_at (b : Fin 2600) (i : Fin 512) : (V m c main_v4 : S2600x512.Idx → EReal) (ix2 b i) = a2 m c (ix3 b 0 i) := by
  unfold a2
  simp only [V]
  after_reads_at
theorem V6_at (e : Fin 64) (b : Fin 2600) : (V m c main_v6 : S64x2600.Idx → EReal) (ix2 e b) = a3 m c (ix3 b 0 e) := by
  unfold a3
  simp only [V]
  after_reads_at

end Cert.KernelIdeal.Hand

end
-- ==== Proof.KRead.lean ====
/-
  What the kernel's windows read, cell by cell.
-/
module

public import proofs.«01_k».proof.Proof.Whole
public import proofs.«01_k».proof.Proof.KernOut
public import Idealize.ShloMosaic.Lib.ValueLayout

@[expose] public section

set_option maxRecDepth 16384

noncomputable section

namespace Cert.KernelIdeal.Hand

open Cert.KernelIdeal Cert.KernelIdeal.Gen Cert.Mla
open Idealize.ShloMosaic Idealize.ShloMosaic.TcCoe
open Idealize.ShloMosaic.ValueIdx (reshapeEquiv_ix2_1ab reshapeEquiv_ix2_11ab)

variable {V : EltTy → Type}

theorem xRow_emb (a : ℕ) (h : Fin 16) (j : Fin 512) (b : Fin 2600) (hb : b.val = a % 2600) :
    (xRow a).view.emb (ix2 h j) = (ix3 b h j : S2600x16x512.Idx) := by
  show (Rect.unit (s := S2600x16x512) ![a % 2600, 0, 0] S1x16x512.size (xRow_inb a)).emb (Shape.reshapeEquiv _ (ValueIdx.ix2 h j)) = _
  rw [reshapeEquiv_ix2_1ab]
  funext t
  apply Fin.ext
  match t with
  | 0 => show a % 2600 + 1 * 0 = b.val; omega
  | 1 => show 0 + 1 * h.val = h.val; omega
  | 2 => show 0 + 1 * j.val = j.val; omega

theorem outRow_emb (a : ℕ) (h : Fin 16) (j : Fin 512) (b : Fin 2600) (hb : b.val = a % 2600) :
    (outRow a).view.emb (ix2 h j) = (ix3 b h j : S2600x16x512.Idx) := by
  show (Rect.unit (s := S2600x16x512) ![a % 2600, 0, 0] S1x16x512.size (xRow_inb a)).emb (Shape.reshapeEquiv _ (ValueIdx.ix2 h j)) = _
  rw [reshapeEquiv_ix2_1ab]
  funext t
  apply Fin.ext
  match t with
  | 0 => show a % 2600 + 1 * 0 = b.val; omega
  | 1 => show 0 + 1 * h.val = h.val; omega
  | 2 => show 0 + 1 * j.val = j.val; omega

theorem kvRow_emb (a o : ℕ) (p : Fin 656) (l : Fin 128) (b : Fin 2600) (k : Fin 256) (hb : b.val = a % 2600) (hk : k.val = o % 129 + l.val) :
    (kvRow a o).view.emb (ix2 p l) = (ix3 b p k : S2600x656x256.Idx) := by
  show (Rect.unit (s := S2600x656x256) ![a % 2600, 0, o % 129] S1x656x128.size (kvRow_inb a o)).emb (Shape.reshapeEquiv _ (ValueIdx.ix2 p l)) = _
  rw [reshapeEquiv_ix2_1ab]
  funext t
  apply Fin.ext
  match t with
  | 0 => show a % 2600 + 1 * 0 = b.val; omega
  | 1 => show 0 + 1 * p.val = p.val; omega
  | 2 => show o % 129 + 1 * l.val = k.val; omega

theorem slab_emb (j : Fin 4) (b : Fin 2600) (l : Fin 128) : (slab j).view.emb (ix2 b l) = (ix3 j b l : S4x2600x128.Idx) := by
  show (Rect.unit (s := S4x2600x128) ![j.val, 0, 0] S1x2600x128.size (slab_inb j)).emb (Shape.reshapeEquiv _ (ValueIdx.ix2 b l)) = _
  rw [reshapeEquiv_ix2_1ab]
  funext t
  apply Fin.ext
  match t with
  | 0 => show j.val + 1 * 0 = j.val; omega
  | 1 => show 0 + 1 * b.val = b.val; omega
  | 2 => show 0 + 1 * l.val = l.val; omega

theorem colM_emb (j : Fin 4) (b : Fin 2600) (l : Fin 128) : (colM j).view.emb (ix2 b l) = (ix2 b (⟨128 * j + l, by omega⟩ : Fin 512) : S2600x512.Idx) := by
  show (Rect.unit (s := S2600x512) ![0, 128 * j.val] S2600x128.size (col_inb j)).emb (ix2 b l) = _
  funext t
  apply Fin.ext
  match t with
  | 0 => show 0 + 1 * b.val = b.val; omega
  | 1 => show 128 * j.val + 1 * l.val = 128 * j.val + l.val; omega

variable (c : Dev nD)

theorem unsq_at {V : Type} (d : S656x128.Idx → V) (p : Fin 656) (l : Fin 128) : unsq d (ix4 0 0 p l) = d (ix2 p l) := by
  show d _ = d _
  congr 1
  rw [Equiv.symm_apply_eq]
  exact (reshapeEquiv_ix2_11ab _ p l).symm
theorem unsqX_at {V : Type} (d : S16x512.Idx → V) (h : Fin 16) (j : Fin 512) : unsqX d (ix4 0 0 h j) = d (ix2 h j) := by
  show d _ = d _
  congr 1
  rw [Equiv.symm_apply_eq]
  exact (reshapeEquiv_ix2_11ab _ h j).symm

theorem kvVal_at (kvt : S2600x656x256.Idx → BitVec 8) (T : ℕ → BitVec 32) (q : ℕ) (p : Fin 656) (l : Fin 128) (b : Fin 2600) (k : Fin 256)
    (hb : rowAt T q = b.val) (hk : k.val = offAt T q + l.val) (ho : offAt T q < 129) :
    unsq (kvVal (F := Ideal) c kvt T q) (ix4 0 0 p l) = kvt (ix3 b p k) := by
  rw [unsq_at]
  show kvt ((kvRow (rowAt T q) (offAt T q)).view.emb (ix2 p l)) = _
  rw [kvRow_emb _ _ p l b k (by rw [hb, Nat.mod_eq_of_lt b.isLt]) (by rw [Nat.mod_eq_of_lt ho]; exact hk)]

theorem xVal_at (x3 : S2600x16x512.Idx → EReal) (T : ℕ → BitVec 32) (q : ℕ) (h : Fin 16) (j : Fin 512) (b : Fin 2600) (hb : rowAt T q = b.val) :
    unsqX (xVal (F := Ideal) c x3 T q) (ix4 0 0 h j) = x3 (ix3 b h j) := by
  rw [unsqX_at]
  show x3 ((xRow (rowAt T q)).view.emb (ix2 h j)) = _
  rw [xRow_emb _ h j b (by rw [hb, Nat.mod_eq_of_lt b.isLt])]

theorem outRow_at (W : S2600x16x512.Idx → EReal) (b : Fin 2600) (h : Fin 16) (j : Fin 512) :
    (outRow b.val).view.read (Elt Ideal) W (ix2 h j) = W (ix3 b h j) := by
  show W ((outRow b.val).view.emb (ix2 h j)) = _
  rw [outRow_emb _ h j b (Nat.mod_eq_of_lt b.isLt).symm]

/-- The new latent of row `b`. -/
theorem kvn_at (fv : S2600x512.Idx → EReal) (f14 : S4x2600x128.Idx → EReal) (hV : VG (F := Ideal) c fv f14) (b : Fin 2600) (j : Fin 4) (l : Fin 128) (a : ℕ) (ha : a = b.val) :
    kvnRow (F := Ideal) f14 j a (ix3 0 0 l) = fv (ix2 b (⟨128 * j + l, by omega⟩ : Fin 512)) := by
  subst ha
  have e := congrFun (hV j) (ix2 b l)
  have e1 : f14 ((slab j).view.emb (ix2 b l)) = fv ((colM j).view.emb (ix2 b l)) := e
  rw [slab_emb, colM_emb] at e1
  rw [← e1]
  show f14 _ = f14 _
  congr 1
  funext t
  apply Fin.ext
  match t with
  | 0 => rfl
  | 1 => exact Nat.mod_eq_of_lt b.isLt
  | 2 => rfl

/-- The query of row `b`. -/
theorem q16_at (fq : S1024x2600.Idx → EReal) (f12 : S21024x128.Idx → EReal) (hQ : QG (F := Ideal) fq f12 2600 0 0) (b : Fin 2600) (h : Fin 16) (e : Fin 64) (a : ℕ) (ha : a = b.val) :
    q16 (qRow (F := Ideal) f12 a) h ⟨e, by omega⟩ = fq (ix2 (⟨64 * h + e, by omega⟩ : Fin 1024) b) := by
  subst ha
  have key : ∀ (g k : ℕ) (hg : g < 8) (hk : k < 128) (hr : 64 * g + k % 64 + 512 * (k / 64) = 64 * h + e),
      qRow (F := Ideal) f12 b.val (ix2 (⟨g, hg⟩ : Fin 8) (⟨k, hk⟩ : Fin 128)) = fq (ix2 (⟨64 * h + e, by omega⟩ : Fin 1024) b) := by
    intro g k hg hk hr
    have e1 := hQ g b.val k hg b.isLt hk (Or.inl b.isLt)
    have e2 : qRow (F := Ideal) f12 b.val (ix2 (⟨g, hg⟩ : Fin 8) (⟨k, hk⟩ : Fin 128)) = f12 (q12Ix (2628 * g + b.val) k) := by
      show f12 _ = f12 _
      congr 1
      refine ix_of _ _ _ ?_ rfl
      show (2628 * g + b.val % 2600) % 21024 = _
      rw [Nat.mod_eq_of_lt b.isLt, Nat.mod_eq_of_lt (by have := b.isLt; omega)]
    rw [e2, e1]
    show fq _ = fq _
    congr 1
    symm
    exact ix_of _ _ _ hr.symm rfl
  unfold q16
  split
  · next hh => exact key h.val e.val hh (by omega) (by have := e.isLt; omega)
  · next hh => exact key (h.val - 8) ((e.val + 128 - 64) % 128) (by omega) (by omega) (by have := e.isLt; omega)

/-- The new rope key of row `b`. -/
theorem kr_lo (fk : S64x2600.Idx → EReal) (f13 : S2600x128.Idx → EReal) (hK : KG (F := Ideal) fk f13 2600) (b : Fin 2600) (e : Fin 64) (a : ℕ) (ha : a = b.val) :
    krRow (F := Ideal) f13 a (ix2 0 (⟨e, by omega⟩ : Fin 128)) = fk (ix2 e b) := by
  subst ha
  have e1 := hK b.val e.val b.isLt (by omega) b.isLt
  have e2 : krRow (F := Ideal) f13 b.val (ix2 0 (⟨e, by omega⟩ : Fin 128)) = f13 (k13Ix b.val e.val) := by
    show f13 _ = f13 _
    congr 1
    exact ix_of _ _ _ (Nat.mod_eq_of_lt b.isLt) rfl
  rw [e2, e1]
  unfold kTgt
  rw [if_pos e.isLt]
  show fk _ = fk _
  congr 1
  symm
  exact ix_of _ _ _ rfl rfl
theorem kr_hi (fk : S64x2600.Idx → EReal) (f13 : S2600x128.Idx → EReal) (hK : KG (F := Ideal) fk f13 2600) (b : Fin 2600) (e : Fin 64) (a : ℕ) (ha : a = b.val) :
    krRow (F := Ideal) f13 a (ix2 0 (⟨64 + e, by omega⟩ : Fin 128)) = 0 := by
  subst ha
  have e1 := hK b.val (64 + e.val) b.isLt (by omega) b.isLt
  have e2 : krRow (F := Ideal) f13 b.val (ix2 0 (⟨64 + e, by omega⟩ : Fin 128)) = f13 (k13Ix b.val (64 + e.val)) := by
    show f13 _ = f13 _
    congr 1
    exact ix_of _ _ _ (Nat.mod_eq_of_lt b.isLt) rfl
  rw [e2, e1]
  unfold kTgt
  rw [if_neg (by omega)]
  exact Ideal.ofBits_zero .f32

theorem len_at (fl : S2600.Idx → BitVec 32) (b : Fin 2600) (a : ℕ) (ha : a = b.val) : lenN (F := Ideal) c fl a = fl (ix1 b) := by
  subst ha
  unfold lenN
  rw [dif_pos b.isLt]
  congr 1
  funext t
  match t with
  | 0 => rfl

theorem cols_at (h : Fin 16) (l : Fin 128) : cols (ix2 h l) = BitVec.ofNat 32 l.val := by
  pointwise [cols]

end Cert.KernelIdeal.Hand

end
-- ==== Proof.KHalf.lean ====
/-
  One half of a slot against the mathematics: its masked scores, its new score and its stored latent, from the bytes it reads.
-/
module

public import proofs.«01_k».proof.Proof.KernOut
public import proofs.«01_k».proof.Proof.Bytes
public import Idealize.ShloMosaic.Lib.WordArith

@[expose] public section

set_option maxRecDepth 16384

noncomputable section

namespace Cert.KernelIdeal.Hand

open Cert.KernelIdeal Cert.KernelIdeal.Gen
open Cert.Row hiding cS
open Idealize.ShloMosaic Idealize.ShloMosaic.TcCoe

theorem cS_fin : Fin' cS := by
  unfold cS
  have h : ∃ r : ℝ, Ideal.ofBits .f32 0x3D93CD3A#32 = (r : EReal) := by
    simp only [Ideal.ofBits, Ideal.ieee]
    exact ⟨_, by rw [if_neg (by decide), if_neg (by decide)]⟩
  obtain ⟨r, hr⟩ := h
  rw [hr]
  exact Fin'.coe r

theorem sel_t {α : Type} {c : BitVec 1} (h : c = 1#1) (u v : α) : Scalar.select c u v = u := if_pos h
theorem sel_f {α : Type} {c : BitVec 1} (h : ¬ c = 1#1) (u v : α) : Scalar.select c u v = v := if_neg h

section
variable {x : (⟨4, ![2600, 1, 16, 512]⟩ : Shape).Idx → EReal} {q : (⟨4, ![2600, 1, 16, 64]⟩ : Shape).Idx → EReal} {n : (⟨3, ![2600, 1, 512]⟩ : Shape).Idx → EReal}
  {r : (⟨3, ![2600, 1, 64]⟩ : Shape).Idx → EReal} {a : Cache.Idx → BitVec 8} {len : (⟨1, ![2600]⟩ : Shape).Idx → BitVec 32}
  {k : S1x1x656x128.Idx → BitVec 8} {b : Fin 2600} {l : Fin 128} {K : Fin 256}

theorem cd_half (hk : ∀ p, k (ix4 0 0 p l) = a (ix3 b K p)) (j : Fin 512) :
    cd (k0_pay14 (F := Ideal) k) j l = Ideal.ofBits .fp8e4m3 (a (ix3 b K (⟨j, by omega⟩ : Fin 656))) := by
  unfold cd; rw [cb_at, hk]

theorem sc_half (hk : ∀ p, k (ix4 0 0 p l) = a (ix3 b K p)) (g : Fin 4) : sc (k0_pay14 (F := Ideal) k) g l = Ideal.ofBits .f32 (wS a b K g) := by
  unfold sc
  congr 1
  apply BitVec.eq_of_getLsbD_eq
  intro i hi
  rw [word_bit k _ l i hi (⟨512 + (4 * g + i / 8), by omega⟩ : Fin 656) (by show 512 + (4 * g.val + i / 8) = 4 * (128 + g.val) + i / 8; omega), hk,
    wS_bit a b K g i hi (⟨512 + (4 * g + i / 8), by omega⟩ : Fin 656) rfl]

theorem rp_half (hk : ∀ p, k (ix4 0 0 p l) = a (ix3 b K p)) (e : Fin 64) : rp (k0_pay14 (F := Ideal) k) e l = Ideal.ofBits .bf16 (wR a b K e) := by
  unfold rp
  congr 1
  apply BitVec.eq_of_getLsbD_eq
  intro i hi
  rw [rb_bit k e l i hi, hk, wR_bit a b K e i hi (⟨528 + 2 * e + i / 8, by omega⟩ : Fin 656) (by show 528 + 2 * e.val + i / 8 = 528 + (2 * e.val + i / 8); omega)]

/-- The latent the kernel multiplies by. -/
theorem lat_half (hk : ∀ p, k (ix4 0 0 p l) = a (ix3 b K p)) (j : Fin 512) :
    cd (k0_pay14 (F := Ideal) k) j l * sc (k0_pay14 (F := Ideal) k) (SlotIn.cg j) l = lat a b K j := by
  rw [cd_half hk, sc_half hk]; rfl

variable (hF : Fins x q n r a len)
include hF

theorem kscore_half (hk : ∀ p, k (ix4 0 0 p l) = a (ix3 b K p)) {h : Fin 16} {X : Fin 512 → EReal} {Q : Fin 64 → EReal} (hX : ∀ i, X i = x (ix4 b 0 h i))
    (hQ : ∀ e, Q e = q (ix4 b 0 h e)) (hl : IntOp.cmpi .slt (BitVec.ofNat 32 K.val) (len (ix1 b)) = 1#1) :
    kscore (k0_pay14 (F := Ideal) k) X Q l = raw x q a b h K := by
  obtain rfl : X = fun i => x (ix4 b 0 h i) := funext hX
  obtain rfl : Q = fun e => q (ix4 b 0 h e) := funext hQ
  unfold kscore raw
  rw [score_eq (x := fun i => x (ix4 b 0 h i)) (c := fun i => cd (k0_pay14 (F := Ideal) k) i l) (s := fun g => sc (k0_pay14 (F := Ideal) k) g l)
    (fun i => hF.x _) (fun i => by rw [cd_half hk]; exact hF.code b K hl i) (fun g => by rw [sc_half hk]; exact hF.scale b K hl g)]
  congr 1
  congr 1
  · exact Finset.sum_congr rfl fun i _ => congrArg (x (ix4 b 0 h i) * ·) (lat_half hk i)
  · exact Finset.sum_congr rfl fun e _ => congrArg (q (ix4 b 0 h e) * ·) (rp_half hk e)

theorem score_half (hk : ∀ p, k (ix4 0 0 p l) = a (ix3 b K p)) {h : Fin 16} {X : Fin 512 → EReal} {Q : Fin 64 → EReal} (hX : ∀ i, X i = x (ix4 b 0 h i))
    (hQ : ∀ e, Q e = q (ix4 b 0 h e)) {mk : BitVec 1} (hm : mk = IntOp.cmpi .slt (BitVec.ofNat 32 K.val) (len (ix1 b))) :
    Scalar.select mk (kscore (k0_pay14 (F := Ideal) k) X Q l) ⊥ = spScore x q a len b h K := by
  subst hm
  unfold spScore
  by_cases hl : IntOp.cmpi .slt (BitVec.ofNat 32 K.val) (len (ix1 b)) = 1#1
  · rw [kscore_half hF hk hX hQ hl]
  · rw [sel_f hl, sel_f hl]

omit hF in
theorem knew_half {h : Fin 16} {X : Fin 512 → EReal} {Q R : Fin 128 → EReal} {N : Fin 4 → Fin 128 → EReal} (hX : ∀ i, X i = x (ix4 b 0 h i))
    (hQ : ∀ e : Fin 64, Q ⟨e, by omega⟩ = q (ix4 b 0 h e)) (hR : ∀ e : Fin 64, R ⟨e, by omega⟩ = r (ix3 b 0 e)) (hR' : ∀ e : Fin 64, R ⟨64 + e, by omega⟩ = 0)
    (hN : ∀ (g : Fin 4) (l : Fin 128), N g l = n (ix3 b 0 (⟨128 * g + l, by omega⟩ : Fin 512))) :
    knew X Q R N = spNew x q n r b h := by
  obtain rfl : X = fun i => x (ix4 b 0 h i) := funext hX
  unfold knew spNew
  rw [← new_eq (x := fun i => x (ix4 b 0 h i)) (n := fun i => n (ix3 b 0 i)) (q' := Q) (k' := R) hQ hR hR']
  congr 1
  refine Finset.sum_congr rfl fun l _ => ?_
  simp only [hN]
  congr 4 <;> congr 3 <;> exact Fin.ext (by simp)

theorem spNew_fin (h : Fin 16) : Fin' (spNew x q n r b h) :=
  ((Fin'.sum fun i => (hF.x _).mul (hF.n _)).add (Fin'.sum fun e => (hF.q _).mul (hF.r _))).mul cS_fin

theorem spScore_top (h : Fin 16) (K : Fin 256) : spScore x q a len b h K ≠ ⊤ := by
  unfold spScore
  by_cases hl : IntOp.cmpi .slt (BitVec.ofNat 32 K.val) (len (ix1 b)) = 1#1
  · rw [sel_t hl]
    exact (((Fin'.sum fun i => (hF.x _).mul ((hF.code b K hl i).mul (hF.scale b K hl _))).add
      (Fin'.sum fun e => (hF.q _).mul (hF.rope b K hl e))).mul cS_fin).2
  · rw [sel_f hl]; exact bot_ne_top
end

/-! ## Masks -/

theorem slt_iff (u v : BitVec 32) : IntOp.cmpi .slt u v = 1#1 ↔ u.toInt < v.toInt := by
  unfold IntOp.cmpi
  rw [WordArith.ofBool_eq_one_iff, BitVec.slt_iff_toInt_lt]

theorem toInt_small (k : ℕ) (hk : k < 256) : (BitVec.ofNat 32 k).toInt = k := by
  rw [BitVec.toInt_eq_toNat_of_lt (by rw [BitVec.toNat_ofNat]; omega), BitVec.toNat_ofNat, Nat.mod_eq_of_lt (by omega)]

theorem bit_eq {u v : BitVec 1} (h : u = 1#1 ↔ v = 1#1) : u = v := by
  revert u v; decide

theorem mask_min (l : Fin 128) (L : BitVec 32) :
    IntOp.cmpi .slt (BitVec.ofNat 32 l.val) (Scalar.minsi L 128#32) = IntOp.cmpi .slt (BitVec.ofNat 32 l.val) L := by
  apply bit_eq
  rw [slt_iff, slt_iff, toInt_small l.val (by omega)]
  have h128 : (128#32 : BitVec 32).toInt = 128 := by decide
  have : (Scalar.minsi L 128#32).toInt = min L.toInt 128 := by
    unfold Scalar.minsi IntOp.minsi
    by_cases hL : L.slt 128#32 = true
    · rw [if_pos hL]
      rw [BitVec.slt_iff_toInt_lt, h128] at hL
      omega
    · rw [if_neg hL]
      rw [BitVec.slt_iff_toInt_lt, h128] at hL
      omega
  rw [this]
  omega

theorem long_iff (L : BitVec 32) : Scalar.cmpi .sgt L 128#32 = 1#1 ↔ 128 < L.toInt := by
  have h128 : (128#32 : BitVec 32).toInt = 128 := by decide
  unfold Scalar.cmpi IntOp.cmpi
  rw [WordArith.ofBool_eq_one_iff, BitVec.slt_iff_toInt_lt, h128]

theorem mask_short (l : Fin 128) (L : BitVec 32) (h : ¬ Scalar.cmpi .sgt L 128#32 = 1#1) :
    ¬ IntOp.cmpi .slt (BitVec.ofNat 32 (128 + l.val)) L = 1#1 := by
  rw [long_iff] at h
  rw [slt_iff, toInt_small _ (by omega)]
  push_cast
  omega

theorem mask_sub (l : Fin 128) (L : BitVec 32) (h : Scalar.cmpi .sgt L 128#32 = 1#1) :
    IntOp.cmpi .slt (BitVec.ofNat 32 l.val) (Scalar.subi L 128#32) = IntOp.cmpi .slt (BitVec.ofNat 32 (128 + l.val)) L := by
  rw [long_iff] at h
  apply bit_eq
  rw [slt_iff, slt_iff, toInt_small l.val (by omega), toInt_small _ (by omega)]
  have : (Scalar.subi L 128#32).toInt = L.toInt - 128 := by
    show (L - 128#32).toInt = _
    have h1 := @BitVec.toInt_lt 32 L
    rw [BitVec.toInt_sub, show (128#32 : BitVec 32).toInt = 128 by decide, Int.bmod_eq_of_le (by omega) (by omega)]
  rw [this]
  push_cast
  omega

end Cert.KernelIdeal.Hand

end
-- ==== Proof.KSpec.lean ====
/-
  Every row of the kernel's result against the mathematics.
-/
module

public import proofs.«01_k».proof.Proof.KRead
public import proofs.«01_k».proof.Proof.KHalf

@[expose] public section

set_option maxRecDepth 16384

noncomputable section

namespace Cert.KernelIdeal.Hand

open Cert.KernelIdeal Cert.KernelIdeal.Gen Cert.Mla
open Cert.Row hiding cS
open Idealize.ShloMosaic Idealize.ShloMosaic.TcCoe

/-- What the kernel's arrays hold, in terms of the arguments. -/
structure Given (kvt : S2600x656x256.Idx → BitVec 8) (x3 : S2600x16x512.Idx → EReal) (fq : S1024x2600.Idx → EReal) (fk : S64x2600.Idx → EReal) (fv : S2600x512.Idx → EReal)
    (x : (⟨4, ![2600, 1, 16, 512]⟩ : Shape).Idx → EReal) (q : (⟨4, ![2600, 1, 16, 64]⟩ : Shape).Idx → EReal) (n : (⟨3, ![2600, 1, 512]⟩ : Shape).Idx → EReal)
    (r : (⟨3, ![2600, 1, 64]⟩ : Shape).Idx → EReal) (a : Cache.Idx → BitVec 8) : Prop where
  kv : ∀ (b : Fin 2600) (p : Fin 656) (k : Fin 256), kvt (ix3 b p k) = a (ix3 b k p)
  x : ∀ (b : Fin 2600) (h : Fin 16) (i : Fin 512), x3 (ix3 b h i) = x (ix4 b 0 h i)
  q : ∀ (h : Fin 16) (e : Fin 64) (b : Fin 2600), fq (ix2 (⟨64 * h + e, by omega⟩ : Fin 1024) b) = q (ix4 b 0 h e)
  k : ∀ (e : Fin 64) (b : Fin 2600), fk (ix2 e b) = r (ix3 b 0 e)
  v : ∀ (b : Fin 2600) (i : Fin 512), fv (ix2 b i) = n (ix3 b 0 i)

section
variable {c : Dev nD} {kvt : S2600x656x256.Idx → BitVec 8} {x3 : S2600x16x512.Idx → EReal} {fq : S1024x2600.Idx → EReal} {fk : S64x2600.Idx → EReal} {fv : S2600x512.Idx → EReal}
  {x : (⟨4, ![2600, 1, 16, 512]⟩ : Shape).Idx → EReal} {q : (⟨4, ![2600, 1, 16, 64]⟩ : Shape).Idx → EReal} {n : (⟨3, ![2600, 1, 512]⟩ : Shape).Idx → EReal}
  {r : (⟨3, ![2600, 1, 64]⟩ : Shape).Idx → EReal} {a : Cache.Idx → BitVec 8} {fl : S2600.Idx → BitVec 32}
  {f8 : S2680.Idx → BitVec 32} {f12 : S21024x128.Idx → EReal} {f13 : S2600x128.Idx → EReal} {f14 : S4x2600x128.Idx → EReal}
  (G : Given kvt x3 fq fk fv x q n r a) (hF : Fins x q n r a fl)
  (hQ : QG (F := Ideal) fq f12 2600 0 0) (hK : KG (F := Ideal) fk f13 2600) (hV : VG (F := Ideal) c fv f14)
  {σ : ℕ} {b : Fin 2600}

variable (c kvt x3 fl f8 f12 f13 f14 σ) in
/-- The slot's inputs. -/
abbrev slot : SlotIn Ideal := slotIn (F := Ideal) c kvt x3 f8 fl f12 f13 f14 cols σ

local notation "T" => cellN (F := Ideal) c f8

theorem d204_eq : (slot c kvt x3 fl f8 f12 f13 f14 σ).d204 = k0_pay14 (F := Ideal) (slot c kvt x3 fl f8 f12 f13 f14 σ).kB := pay15_eq _

include G in
/-- The bytes of the first half: keys from `0`. -/
theorem kA_at (ha : wa (T σ) = b.val) (l : Fin 128) (p : Fin 656) :
    (slot c kvt x3 fl f8 f12 f13 f14 σ).kA (ix4 0 0 p l) = a (ix3 b (⟨l, by omega⟩ : Fin 256) p) := by
  show unsq (kvVal (F := Ideal) c kvt T (2 * σ)) (ix4 0 0 p l) = _
  exact (kvVal_at c kvt T (2 * σ) p l b ⟨l, by omega⟩ (by rw [rowAt_even]; exact ha) (by rw [offAt_even]; show l.val = 0 + l.val; omega)
    (by rw [offAt_even]; omega)).trans (G.kv b p _)

include G in
/-- The bytes of the second half: keys from its offset. -/
theorem kB_at (hb : wb (T σ) = b.val) {o : ℕ} (ho : wo (T σ) = o) (ho' : o ≤ 128) (l : Fin 128) (p : Fin 656) :
    (slot c kvt x3 fl f8 f12 f13 f14 σ).kB (ix4 0 0 p l) = a (ix3 b (⟨o + l, by omega⟩ : Fin 256) p) :=
  (kvVal_at c kvt T (2 * σ + 1) p l b ⟨o + l, by omega⟩ (by rw [rowAt_odd]; exact hb) (by rw [offAt_odd, ho])
    (by rw [offAt_odd, ho]; omega)).trans (G.kv b p _)

include G in
theorem xA_at (ha : wa (T σ) = b.val) (h : Fin 16) (i : Fin 512) : (slot c kvt x3 fl f8 f12 f13 f14 σ).xA (ix4 0 0 h i) = x (ix4 b 0 h i) := by
  show unsqX (xVal (F := Ideal) c x3 T (2 * σ)) (ix4 0 0 h i) = _
  exact (xVal_at c x3 T (2 * σ) h i b (by rw [rowAt_even]; exact ha)).trans (G.x b h i)
include G in
theorem xB_at (hb : wb (T σ) = b.val) (h : Fin 16) (i : Fin 512) : (slot c kvt x3 fl f8 f12 f13 f14 σ).xB (ix4 0 0 h i) = x (ix4 b 0 h i) := by
  show unsqX (xVal (F := Ideal) c x3 T (2 * σ + 1)) (ix4 0 0 h i) = _
  exact (xVal_at c x3 T (2 * σ + 1) h i b (by rw [rowAt_odd]; exact hb)).trans (G.x b h i)
include G hQ in
theorem qA_at (ha : wa (T σ) = b.val) (h : Fin 16) (e : Fin 64) : q16 (slot c kvt x3 fl f8 f12 f13 f14 σ).qA h ⟨e, by omega⟩ = q (ix4 b 0 h e) :=
  (q16_at fq f12 hQ b h e _ ha).trans (G.q h e b)
include G hQ in
theorem qB_at (hb : wb (T σ) = b.val) (h : Fin 16) (e : Fin 64) : q16 (slot c kvt x3 fl f8 f12 f13 f14 σ).qB h ⟨e, by omega⟩ = q (ix4 b 0 h e) :=
  (q16_at fq f12 hQ b h e _ hb).trans (G.q h e b)
include G hV in
theorem nA_at (ha : wa (T σ) = b.val) (g : Fin 4) (l : Fin 128) :
    (slot c kvt x3 fl f8 f12 f13 f14 σ).nA g (ix3 0 0 l) = n (ix3 b 0 (⟨128 * g + l, by omega⟩ : Fin 512)) :=
  (kvn_at c fv f14 hV b g l _ ha).trans (G.v b _)
include G hV in
theorem nB_at (hb : wb (T σ) = b.val) (g : Fin 4) (l : Fin 128) :
    (slot c kvt x3 fl f8 f12 f13 f14 σ).nB g (ix3 0 0 l) = n (ix3 b 0 (⟨128 * g + l, by omega⟩ : Fin 512)) :=
  (kvn_at c fv f14 hV b g l _ hb).trans (G.v b _)

include G hQ hK hV in
theorem tA_eq (ha : wa (T σ) = b.val) (h : Fin 16) : (slot c kvt x3 fl f8 f12 f13 f14 σ).tA h = spNew x q n r b h :=
  knew_half (xA_at G ha h) (qA_at G hQ ha h) (fun e => (kr_lo fk f13 hK b e _ ha).trans (G.k e b)) (fun e => kr_hi fk f13 hK b e _ ha) (nA_at G hV ha)
include G hQ hK hV in
theorem tB_eq (hb : wb (T σ) = b.val) (h : Fin 16) : (slot c kvt x3 fl f8 f12 f13 f14 σ).tB h = spNew x q n r b h :=
  knew_half (xB_at G hb h) (qB_at G hQ hb h) (fun e => (kr_lo fk f13 hK b e _ hb).trans (G.k e b)) (fun e => kr_hi fk f13 hK b e _ hb) (nB_at G hV hb)

include G hF hQ in
theorem sA_eq (ha : wa (T σ) = b.val) (h : Fin 16) :
    (slot c kvt x3 fl f8 f12 f13 f14 σ).sA h = fun l : Fin 128 => spScore x q a fl b h ⟨l, by omega⟩ := by
  funext l
  refine score_half hF (kA_at G ha l) (xA_at G ha h) (qA_at G hQ ha h) ?_
  show IntOp.cmpi .slt (cols (ix2 h l)) (Scalar.minsi (lenN (F := Ideal) c fl (wa (T σ))) 128#32) = _
  rw [cols_at, len_at c fl b _ ha, mask_min]

include G hF hQ in
/-- The second half of a slot that holds a second row. -/
theorem sB_eq (hb : wb (T σ) = b.val) (ho : wo (T σ) = 0) (hd : (slot c kvt x3 fl f8 f12 f13 f14 σ).d183 = 0#1)
    (hs : ¬ Scalar.cmpi .sgt (fl (ix1 b)) 128#32 = 1#1) (h : Fin 16) :
    (slot c kvt x3 fl f8 f12 f13 f14 σ).sB h = fun l : Fin 128 => spScore x q a fl b h ⟨l, by omega⟩ := by
  funext l
  unfold SlotIn.sB
  rw [d204_eq]
  refine score_half hF (K := ⟨l, by omega⟩) (fun p => (kB_at G hb ho (by omega) l p).trans (by congr 2; exact Fin.ext (Nat.zero_add _))) (xB_at G hb h) (qB_at G hQ hb h) ?_
  show IntOp.cmpi .slt (cols (ix2 h l)) (Scalar.select (slot c kvt x3 fl f8 f12 f13 f14 σ).d183 _ (lenN (F := Ideal) c fl (wb (T σ)))) = _
  rw [sel_f (by rw [hd]; decide), cols_at, len_at c fl b _ hb]

include G hF hQ in
/-- The second half of a slot that holds one long row. -/
theorem sB_long (ha : wa (T σ) = b.val) (hb : wb (T σ) = b.val) (ho : wo (T σ) = 128) (hd : (slot c kvt x3 fl f8 f12 f13 f14 σ).d183 = 1#1)
    (hl : Scalar.cmpi .sgt (fl (ix1 b)) 128#32 = 1#1) (h : Fin 16) :
    (slot c kvt x3 fl f8 f12 f13 f14 σ).sB h = fun l : Fin 128 => spScore x q a fl b h ⟨128 + l, by omega⟩ := by
  funext l
  unfold SlotIn.sB
  rw [d204_eq]
  refine score_half hF (kB_at G hb ho (by omega) l) (xB_at G hb h) (qB_at G hQ hb h) ?_
  show IntOp.cmpi .slt (cols (ix2 h l)) (Scalar.select (slot c kvt x3 fl f8 f12 f13 f14 σ).d183 (Scalar.subi (lenN (F := Ideal) c fl (wa (T σ))) 128#32) _) = _
  rw [sel_t hd, cols_at, len_at c fl b _ ha, mask_sub l _ hl]

omit G hF hQ hK hV in
theorem col_back (j : Fin 512) : (⟨128 * (SlotIn.cg j).val + (SlotIn.cl j).val, by have := (SlotIn.cg j).isLt; have := (SlotIn.cl j).isLt; omega⟩ : Fin 512) = j :=
  Fin.ext (by show 128 * (j.val / 128) + j.val % 128 = j.val; omega)

include hF in
/-- A row no longer than one half: the keys past it carry no weight. -/
theorem spec_short (hs : ¬ Scalar.cmpi .sgt (fl (ix1 b)) 128#32 = 1#1) (h : Fin 16) (j : Fin 512) :
    spec x q n r a fl b h j = att (fun l : Fin 128 => spScore x q a fl b h ⟨l, by omega⟩) (spNew x q n r b h) (fun l : Fin 128 => lat a b ⟨l, by omega⟩ j) (n (ix3 b 0 j)) := by
  unfold spec
  exact att_short (spScore_top hF h) (spNew_fin hF h) _ _ fun k => sel_f (mask_short k _ hs) _ _

include G hF hQ hK hV in
theorem rowA_short (ha : wa (T σ) = b.val) (hd : (slot c kvt x3 fl f8 f12 f13 f14 σ).d183 = 0#1)
    (hs : ¬ Scalar.cmpi .sgt (fl (ix1 b)) 128#32 = 1#1) (h : Fin 16) (j : Fin 512) :
    (slot c kvt x3 fl f8 f12 f13 f14 σ).blkA (ix2 h j) = spec x q n r a fl b h j := by
  have e1 := sA_eq (c := c) (f8 := f8) (f12 := f12) (f13 := f13) (f14 := f14) (σ := σ) G hF hQ ha h
  have e2 := tA_eq (c := c) (f8 := f8) (f12 := f12) (f13 := f13) (f14 := f14) (fl := fl) (σ := σ) G hQ hK hV ha h
  rw [SlotIn.blkA_short _ hd h (fun k => by rw [e1]; exact spScore_top hF h _) (by rw [e2]; exact spNew_fin hF h), e1, e2, spec_short hF hs,
    nA_at G hV ha, col_back]
  congr 1
  funext l
  exact lat_half (kA_at G ha l) j

include G hF hQ hK hV in
theorem rowB_short (hb : wb (T σ) = b.val) (ho : wo (T σ) = 0) (hd : (slot c kvt x3 fl f8 f12 f13 f14 σ).d183 = 0#1)
    (hs : ¬ Scalar.cmpi .sgt (fl (ix1 b)) 128#32 = 1#1) (h : Fin 16) (j : Fin 512) :
    (slot c kvt x3 fl f8 f12 f13 f14 σ).blkB (ix2 h j) = spec x q n r a fl b h j := by
  have e1 := sB_eq (c := c) (f8 := f8) (f12 := f12) (f13 := f13) (f14 := f14) (σ := σ) G hF hQ hb ho hd hs h
  have e2 := tB_eq (c := c) (f8 := f8) (f12 := f12) (f13 := f13) (f14 := f14) (fl := fl) (σ := σ) G hQ hK hV hb h
  rw [SlotIn.blkB_short _ hd h (fun k => by rw [e1]; exact spScore_top hF h _) (by rw [e2]; exact spNew_fin hF h), e1, e2, spec_short hF hs,
    nB_at G hV hb, col_back]
  congr 1
  funext l
  rw [d204_eq]
  exact lat_half (K := ⟨l, by omega⟩) (fun p => (kB_at G hb ho (by omega) l p).trans (by congr 2; exact Fin.ext (Nat.zero_add _))) j

omit G hF hQ hK hV in
theorem cat_split (f : Fin 256 → EReal) : SlotIn.cat (fun l : Fin 128 => f ⟨l, by omega⟩) (fun l : Fin 128 => f ⟨128 + l, by omega⟩) = f := by
  funext k
  unfold SlotIn.cat
  split
  · rfl
  · next hk => exact congrArg f (Fin.ext (by show 128 + (k.val - 128) = k.val; omega))

include G hF hQ hK hV in
theorem rowA_long (ha : wa (T σ) = b.val) (hb : wb (T σ) = b.val) (ho : wo (T σ) = 128) (hd : (slot c kvt x3 fl f8 f12 f13 f14 σ).d183 = 1#1)
    (hl : Scalar.cmpi .sgt (fl (ix1 b)) 128#32 = 1#1) (h : Fin 16) (j : Fin 512) :
    (slot c kvt x3 fl f8 f12 f13 f14 σ).blkA (ix2 h j) = spec x q n r a fl b h j := by
  have e1 := sA_eq (c := c) (f8 := f8) (f12 := f12) (f13 := f13) (f14 := f14) (σ := σ) G hF hQ ha h
  have e1' := sB_long (c := c) (f8 := f8) (f12 := f12) (f13 := f13) (f14 := f14) (σ := σ) G hF hQ ha hb ho hd hl h
  have e2 := tA_eq (c := c) (f8 := f8) (f12 := f12) (f13 := f13) (f14 := f14) (fl := fl) (σ := σ) G hQ hK hV ha h
  have eA : (fun k => cd (slot c kvt x3 fl f8 f12 f13 f14 σ).d197 j k * sc (slot c kvt x3 fl f8 f12 f13 f14 σ).d197 (SlotIn.cg j) k)
      = fun l : Fin 128 => lat a b ⟨l, by omega⟩ j := funext fun l => lat_half (kA_at G ha l) j
  have eB : (fun k => cd (slot c kvt x3 fl f8 f12 f13 f14 σ).d204 j k * sc (slot c kvt x3 fl f8 f12 f13 f14 σ).d204 (SlotIn.cg j) k)
      = fun l : Fin 128 => lat a b ⟨128 + l, by omega⟩ j := funext fun l => by rw [d204_eq]; exact lat_half (kB_at G hb ho (by omega) l) j
  rw [SlotIn.blkA_long _ hd h (fun k => by rw [e1]; exact spScore_top hF h _) (fun k => by rw [e1']; exact spScore_top hF h _) (by rw [e2]; exact spNew_fin hF h), e1, e1', e2,
    nA_at G hV ha, col_back, eA, eB, cat_split (spScore x q a fl b h), cat_split (fun k => lat a b k j)]
  rfl

omit G hF hQ hK hV in
theorem kind_d183 {A B k : ℕ} (hw : T σ = word A B k) (hA : A < 4096) (hB : B < 4096) (hk : k < 4) :
    (slot c kvt x3 fl f8 f12 f13 f14 σ).d183 = if k = 2 then 1#1 else 0#1 := by
  show Scalar.cmpi .eq (Scalar.shrsi (T σ) 24#32) 2#32 = _
  rw [hw, kind_word hA hB hk, show Scalar.cmpi .eq (nat k) 2#32 = _ from cmpi_eq_nat (b := 2) (by omega) (by omega)]
  by_cases h : k = 2 <;> simp [h]

include G hF in
/-- The result. -/
theorem out_spec {W : S2600x16x512.Idx → EReal} (hW : OutOK (F := Ideal) c kvt x3 fl fq fk fv W) (b : Fin 2600) (h : Fin 16) (j : Fin 512) :
    W (ix3 b h j) = spec x q n r a fl b h j := by
  obtain ⟨v0, v1, N, K, f8, f12, f13, f14, t, -, hQ, hK, hV, hrow⟩ := hW
  rw [← outRow_at W b h j, hrow b]
  have hlen : ∀ y : ℕ, y = b.val → (isLong (F := Ideal) c fl y ↔ Scalar.cmpi .sgt (fl (ix1 b)) 128#32 = 1#1) := by
    intro y hy
    unfold isLong
    rw [len_at c fl b y hy]
  have hp := (t.surj b.val b.isLt).choose_spec
  have hp1 : t.pos b < 2 * N := hp.1
  have hp2 := t.en_pos b
  have hp3 := t.rowAt_pos b
  generalize t.pos b = p at hp1 hp2 hp3
  obtain ⟨σ, hσ⟩ : ∃ σ, p = 2 * σ ∨ p = 2 * σ + 1 := ⟨p / 2, by omega⟩
  obtain ⟨A, B, k, hw, hA, hB, hk⟩ := t.slot σ (by omega)
  have hk4 : k < 4 := by omega
  have hwa : wa (cellN (F := Ideal) c f8 σ) = A := by rw [hw, wa_word (by omega) (by omega) hk4]
  have hwb : wb (cellN (F := Ideal) c f8 σ) = B := by rw [hw, wb_word (by omega) (by omega) hk4]
  have hwo : wo (cellN (F := Ideal) c f8 σ) = if k = 2 then 128 else 0 := by rw [hw, wo_word (by omega) (by omega) hk4]
  have hd := kind_d183 (kvt := kvt) (x3 := x3) (fl := fl) (f12 := f12) (f13 := f13) (f14 := f14) hw (by omega) (by omega) hk4
  rcases hσ with rfl | rfl
  · rw [rowAt_even] at hp3
    rw [blockAt_even]
    have hAb : A = b.val := by omega
    rcases hk with ⟨h1, -, h2⟩ | ⟨h1, -, h2, -⟩ | ⟨h1, h3, h2⟩
    · rw [if_neg (by omega)] at hd
      exact rowA_short G hF hQ hK hV hp3 hd (by rwa [← hlen A hAb]) h j
    · rw [if_neg (by omega)] at hd
      exact rowA_short G hF hQ hK hV hp3 hd (by rwa [← hlen A hAb]) h j
    · rw [if_pos h1] at hd hwo
      exact rowA_long G hF hQ hK hV hp3 (by omega) hwo hd (by rwa [← hlen A hAb]) h j
  · rw [rowAt_odd] at hp3
    rw [en_odd, hw, enB_word (by omega) (by omega) hk4] at hp2
    rw [blockAt_odd]
    have hBb : B = b.val := by omega
    rcases hk with ⟨h1, -, h2⟩ | ⟨h1, -, -, h2⟩ | ⟨h1, h3, h2⟩
    · omega
    · rw [if_neg (by omega)] at hd hwo
      exact rowB_short G hF hQ hK hV hp3 hwo hd (by rwa [← hlen B hBb]) h j
    · omega
end

end Cert.KernelIdeal.Hand

end
-- ==== Proof.RefVal.lean ====
/-
  What the reference computes, read at an index: the masked softmax row of `Cert.Row.att`.
-/
module

public import proofs.«01_k».proof.Proof.RowMath
public import proofs.«01_k».proof.Proof.Gen.ReferenceIdeal.Value
public import Idealize.ShloMosaic.Lib.Pointwise
public import Idealize.ShloMosaic.Lib.StableHlo.ReadAt

@[expose] public section

set_option maxRecDepth 16384

noncomputable section

namespace Cert.ReferenceIdeal.RefVal

open Cert.ReferenceIdeal Cert.ReferenceIdeal.Gen
open Idealize.ShloMosaic Idealize.ShloMosaic.TcCoe

/-! ## The payload in stages -/

section stages
variable (v11 : FVec Ideal S2600x256x512 .bf16) (v16 : Vec Ideal S2600x1x512 .bf16) (v24 : FVec Ideal S2600x16x256 .f32) (v29 : FVec Ideal S2600x16x1 .f32)
  (v30 : IVec S2600x16x256 32) (v31 : Vec Ideal S2600 .i32)

def masked : FVec Ideal S2600x16x256 .f32 :=
  select (cmpi .slt v30 (broadcastTo S2600x16x256 (shapeCast S2600x1x1 v31 shapeCasts_S2600_S2600x1x1) broadcasts_S2600x1x1_S2600x16x256)) v24
    (broadcast S2600x16x256 (Scalar.ofBits .f32 0xFF800000#32))
def top (s : FVec Ideal S2600x16x256 .f32) : FVec Ideal S2600x16x1 .f32 :=
  maximumf (shapeCast S2600x16x1 (multiReduction .maximumf [2] S2600x16 s 0xFF800000#32 reduces_S2600x16x256_S2600x16 (.inl rfl) rfl) shapeCasts_S2600x16_S2600x16x1) v29
def wgt (s : FVec Ideal S2600x16x256 .f32) (t : FVec Ideal S2600x16x1 .f32) : FVec Ideal S2600x16x256 .f32 :=
  exp (subf s (broadcastTo S2600x16x256 t broadcasts_S2600x16x1_S2600x16x256))
def wgtN (t : FVec Ideal S2600x16x1 .f32) : FVec Ideal S2600x16x1 .f32 := exp (subf v29 t)
def total (e : FVec Ideal S2600x16x256 .f32) (en : FVec Ideal S2600x16x1 .f32) : FVec Ideal S2600x16x1 .f32 :=
  addf (shapeCast S2600x16x1 (multiReduction .add [2] S2600x16 e 0x00000000#32 reduces_S2600x16x256_S2600x16 (.inl rfl) rfl) shapeCasts_S2600x16_S2600x16x1) en
end stages

theorem out_at' (v11 : FVec Ideal S2600x256x512 .bf16) (v16 : Vec Ideal S2600x1x512 .bf16) (v24 : FVec Ideal S2600x16x256 .f32) (v29 : FVec Ideal S2600x16x1 .f32)
  (v30 : IVec S2600x16x256 32) (v31 : Vec Ideal S2600 .i32) (e : FVec Ideal S2600x16x256 .f32) (en t : FVec Ideal S2600x16x1 .f32)
  (he : e = wgt (masked v24 v30 v31) (top v29 (masked v24 v30 v31))) (hen : en = wgtN v29 (top v29 (masked v24 v30 v31))) (ht : t = total e en)
  (b : Fin 2600) (h : Fin 16) (j : Fin 512) :
    k0_pay1 (F := Ideal) v11 v16 v24 v29 v30 v31 (ix3 b h j) =
      (∑ k : Fin 256, Ideal.div (e (ix3 b h k)) (t (ix3 b h 0)) * v11 (ix3 b k j)) + Ideal.div (en (ix3 b h 0)) (t (ix3 b h 0)) * v16 (ix3 b 0 j) := by
  have e1 : k0_pay1 (F := Ideal) v11 v16 v24 v29 v30 v31 =
    (truncf .bf16 (addf
        (matmul (φ₁ := .bf16) (φ₂ := .bf16) dot_S2600x16x256_S2600x256x512_S2600x16x512_2_1_1_2_0_0 none (truncf .bf16 (divf e (broadcastTo S2600x16x256 t broadcasts_S2600x16x1_S2600x16x256)) bitsLt_bf16_f32) v11 (constant S2600x16x512 .f32 0x00000000#32))
        (matmul (φ₁ := .bf16) (φ₂ := .bf16) dot_S2600x16x1_S2600x1x512_S2600x16x512_2_1_1_2_0_0 none (truncf .bf16 (divf en t) bitsLt_bf16_f32) (v16 : FVec Ideal S2600x1x512 .bf16) (constant S2600x16x512 .f32 0x00000000#32))) bitsLt_bf16_f32 : FVec Ideal S2600x16x512 .bf16) := by
    subst he hen ht
    rfl
  rw [e1]
  clear e1 he hen ht
  pointwise
  rw [Fin.sum_univ_one (f := fun x : Fin 1 => Ideal.div (en (ix3 b h x)) (t (ix3 b h x)) * v16 (ix3 b x j))]
theorem masked_at (v24 : FVec Ideal S2600x16x256 .f32) (io : IVec S2600x16x256 32) (v31 : Vec Ideal S2600 .i32) (b : Fin 2600) (h : Fin 16) (k : Fin 256) :
    masked v24 io v31 (ix3 b h k) = Scalar.select (IntOp.cmpi .slt (io (ix3 b h k)) (v31 (ix1 b))) (v24 (ix3 b h k)) ⊥ := by
  pointwise [masked]
  rw [Row.ofBits_bot]
theorem iota_at (b : Fin 2600) (h : Fin 16) (k : Fin 256) : iota .tc S2600x16x256 32 [2] iota_S2600x16x256_d2_w32 (ix3 b h k) = BitVec.ofNat 32 k := by
  pointwise
theorem cast_at (r : FVec Ideal S2600x16 .f32) (b : Fin 2600) (h : Fin 16) :
    shapeCast S2600x16x1 r shapeCasts_S2600x16_S2600x16x1 (ix3 b h 0) = r (ix2 b h) := by
  pointwise
theorem fold_at (s : FVec Ideal S2600x16x256 .f32) (b : Fin 2600) (h : Fin 16) :
    multiReduction .maximumf [2] S2600x16 s 0xFF800000#32 reduces_S2600x16x256_S2600x16 (.inl rfl) rfl (ix2 b h)
      = Finset.univ.fold max (Ideal.ofBits .f32 0xFF800000#32) (fun k : Fin 256 => s (ix3 b h k)) := by
  pointwise
theorem max_at (r v : FVec Ideal S2600x16x1 .f32) (i : S2600x16x1.Idx) : maximumf r v i = max (r i) (v i) := rfl
theorem top_at (v29 : FVec Ideal S2600x16x1 .f32) (s : FVec Ideal S2600x16x256 .f32) (b : Fin 2600) (h : Fin 16) :
    top v29 s (ix3 b h 0) = Row.mx (fun k : Fin 256 => s (ix3 b h k)) (v29 (ix3 b h 0)) := by
  unfold top Row.mx
  rw [max_at, cast_at, fold_at, Row.ofBits_bot]
theorem wgt_at (s : FVec Ideal S2600x16x256 .f32) (t : FVec Ideal S2600x16x1 .f32) (b : Fin 2600) (h : Fin 16) (k : Fin 256) :
   wgt s t (ix3 b h k) = Ideal.exp (s (ix3 b h k) - t (ix3 b h 0)) := by
  pointwise [wgt]
theorem wgtN_at (s t : FVec Ideal S2600x16x1 .f32) (b : Fin 2600) (h : Fin 16) :
   wgtN s t (ix3 b h 0) = Ideal.exp (s (ix3 b h 0) - t (ix3 b h 0)) := by
  pointwise [wgtN]
theorem total_at (e : FVec Ideal S2600x16x256 .f32) (en : FVec Ideal S2600x16x1 .f32) (b : Fin 2600) (h : Fin 16) :
   total e en (ix3 b h 0) = ∑ k : Fin 256, e (ix3 b h k) + en (ix3 b h 0) := by
  pointwise [total]
theorem lat_at (x0 : Vec Ideal S2600x256x512 .i8) (x1 : Vec Ideal S2600x256x4 .f32) (b : Fin 2600) (k : Fin 256) (j : Fin 512) :
    k0_pay2 x0 x1 (ix3 b k j) = Ideal.ofBits .fp8e4m3 (x0 (ix3 b k j)) * x1 (ix3 b k ⟨j / 128, by omega⟩) := by
  pointwise [k0_pay2]
theorem score_at (x0 : Vec Ideal S2600x256x512 .i8) (x1 : Vec Ideal S2600x256x4 .f32) (x2 : Vec Ideal S2600x256x64 .bf16) (x3 : Vec Ideal S2600x16x512 .bf16) (x4 : Vec Ideal S2600x16x64 .bf16)
   (b : Fin 2600) (h : Fin 16) (k : Fin 256) : k0_pay5 x0 x1 x3 x4 x2 (ix3 b h k) =
    (∑ j : Fin 512, x3 (ix3 b h j) * (Ideal.ofBits .fp8e4m3 (x0 (ix3 b k j)) * x1 (ix3 b k ⟨j / 128, by omega⟩)) + ∑ e : Fin 64, x4 (ix3 b h e) * x2 (ix3 b k e)) * Ideal.ofBits .f32 0x3D93CD3A#32 := by
  pointwise [k0_pay5, k0_pay2, k0_pay3, k0_pay4]
theorem new_at (x3 : Vec Ideal S2600x16x512 .bf16) (x4 : Vec Ideal S2600x16x64 .bf16) (x5 : Vec Ideal S2600x1x512 .bf16) (x6 : Vec Ideal S2600x1x64 .bf16)
   (b : Fin 2600) (h : Fin 16) : k0_pay6 x3 x4 x5 x6 (ix3 b h 0) =
    (∑ j : Fin 512, x3 (ix3 b h j) * x5 (ix3 b 0 j) + ∑ e : Fin 64, x4 (ix3 b h e) * x6 (ix3 b 0 e)) * Ideal.ofBits .f32 0x3D93CD3A#32 := by
  pointwise [k0_pay6, k0_pay3, k0_pay4]
theorem att_at (v11 : FVec Ideal S2600x256x512 .bf16) (v16 : Vec Ideal S2600x1x512 .bf16) (v24 : FVec Ideal S2600x16x256 .f32) (v29 : FVec Ideal S2600x16x1 .f32)
    (v30 : IVec S2600x16x256 32) (v31 : Vec Ideal S2600 .i32) (b : Fin 2600) (h : Fin 16) (j : Fin 512) :
    k0_pay1 (F := Ideal) v11 v16 v24 v29 v30 v31 (ix3 b h j)
      = Row.att (fun k : Fin 256 => masked v24 v30 v31 (ix3 b h k)) (v29 (ix3 b h 0)) (fun k => v11 (ix3 b k j)) (v16 (ix3 b 0 j)) := by
  rw [out_at' _ _ _ _ _ _ _ _ _ rfl rfl rfl, total_at]
  unfold Row.att Row.tot
  simp only [wgt_at, wgtN_at, top_at]

/-- One output number of the reference. -/
theorem out_at (x0 : Vec Ideal S2600x256x512 .i8) (x1 : Vec Ideal S2600x256x4 .f32) (x2 : Vec Ideal S2600x256x64 .bf16) (x3 : Vec Ideal S2600x16x512 .bf16)
    (x4 : Vec Ideal S2600x16x64 .bf16) (x5 : Vec Ideal S2600x1x512 .bf16) (x6 : Vec Ideal S2600x1x64 .bf16) (x7 : Vec Ideal S2600 .i32) (b : Fin 2600) (h : Fin 16) (j : Fin 512) :
    k0_pay1 (F := Ideal) (k0_pay2 x0 x1) x5 (k0_pay5 x0 x1 x3 x4 x2) (k0_pay6 x3 x4 x5 x6) (iota .tc S2600x16x256 32 [2] iota_S2600x16x256_d2_w32) x7 (ix3 b h j)
      = Row.att (fun k : Fin 256 => Scalar.select (IntOp.cmpi .slt (BitVec.ofNat 32 k) (x7 (ix1 b)))
          ((∑ i : Fin 512, x3 (ix3 b h i) * (Ideal.ofBits .fp8e4m3 (x0 (ix3 b k i)) * x1 (ix3 b k ⟨i / 128, by omega⟩)) + ∑ e : Fin 64, x4 (ix3 b h e) * x2 (ix3 b k e))
            * Ideal.ofBits .f32 0x3D93CD3A#32) ⊥)
        ((∑ i : Fin 512, x3 (ix3 b h i) * x5 (ix3 b 0 i) + ∑ e : Fin 64, x4 (ix3 b h e) * x6 (ix3 b 0 e)) * Ideal.ofBits .f32 0x3D93CD3A#32)
        (fun k => Ideal.ofBits .fp8e4m3 (x0 (ix3 b k j)) * x1 (ix3 b k ⟨j / 128, by omega⟩)) (x5 (ix3 b 0 j)) := by
  rw [att_at]
  refine congr (congr (congrArg₂ Row.att (funext fun k => ?_) ?_) (funext fun k => ?_)) rfl
  · rw [masked_at, iota_at, score_at]
  · rw [new_at]
  · rw [lat_at]

end Cert.ReferenceIdeal.RefVal
-- ==== Proof.RefArr.lean ====
/-
  The reference's result array at an index, as attention over its arguments.
-/
module

public import proofs.«01_k».proof.Proof.RefVal
public import proofs.«01_k».proof.Proof.Bytes
public import proofs.«01_k».proof.Proof.Gen.ReferenceIdeal.Value
public import Idealize.ShloMosaic.Lib.Pipeline.ValueKit
public import Idealize.ShloMosaic.Lib.StableHlo.ReadAt

@[expose] public section

set_option maxRecDepth 16384

noncomputable section

namespace Cert.ReferenceIdeal.RefVal

open Cert.ReferenceIdeal Cert.ReferenceIdeal.Gen Cert.Row
open Idealize.ShloMosaic Idealize.ShloMosaic.TcCoe Idealize.ShloMosaic.Pipeline

variable (m : (ℓ : Loc nD τ sig) → Buf (Elt Ideal) ℓ)

theorem i0 : ∀ t : Fin cfg0.N, win0_0.index t = ![0, 0, 0] := (by decide +kernel : ∀ t : Fin grid0.N, _)
theorem i1 : ∀ t : Fin cfg0.N, win0_1.index t = ![0, 0, 0] := (by decide +kernel : ∀ t : Fin grid0.N, _)
theorem i2 : ∀ t : Fin cfg0.N, win0_2.index t = ![0, 0, 0] := (by decide +kernel : ∀ t : Fin grid0.N, _)
theorem i3 : ∀ t : Fin cfg0.N, win0_3.index t = ![0, 0, 0] := (by decide +kernel : ∀ t : Fin grid0.N, _)
theorem i4 : ∀ t : Fin cfg0.N, win0_4.index t = ![0, 0, 0] := (by decide +kernel : ∀ t : Fin grid0.N, _)
theorem i5 : ∀ t : Fin cfg0.N, win0_5.index t = ![0, 0, 0] := (by decide +kernel : ∀ t : Fin grid0.N, _)
theorem i6 : ∀ t : Fin cfg0.N, win0_6.index t = ![0, 0, 0] := (by decide +kernel : ∀ t : Fin grid0.N, _)
theorem i7 : ∀ t : Fin cfg0.N, win0_7.index t = ![0] := (by decide +kernel : ∀ t : Fin grid0.N, _)
theorem i8 : ∀ t : Fin cfg0.N, win0_8.index t = ![0, 0, 0] := (by decide +kernel : ∀ t : Fin grid0.N, _)

theorem iblk0_eq (c : Dev nD) (t : Fin cfg0.N) : iblk m c 0 t = V m c main_v6 := by
  funext y
  show ((cfg0.win 0).blk t).view.read (Elt Ideal) (V m c (Pipeline.arrRef spec0 0)) y = _
  show V m c main_v6 (((cfg0.win 0).blk t).view.emb y) = V m c main_v6 y
  congr 1
  blk_ext [i0 t]
theorem iblk1_eq (c : Dev nD) (t : Fin cfg0.N) : iblk m c 1 t = V m c main_v2 := by
  funext y
  show ((cfg0.win 1).blk t).view.read (Elt Ideal) (V m c (Pipeline.arrRef spec0 1)) y = _
  show V m c main_v2 (((cfg0.win 1).blk t).view.emb y) = V m c main_v2 y
  congr 1
  blk_ext [i1 t]
theorem iblk2_eq (c : Dev nD) (t : Fin cfg0.N) : iblk m c 2 t = V m c main_v5 := by
  funext y
  show ((cfg0.win 2).blk t).view.read (Elt Ideal) (V m c (Pipeline.arrRef spec0 2)) y = _
  show V m c main_v5 (((cfg0.win 2).blk t).view.emb y) = V m c main_v5 y
  congr 1
  blk_ext [i2 t]
theorem iblk3_eq (c : Dev nD) (t : Fin cfg0.N) : iblk m c 3 t = V m c main_v7 := by
  funext y
  show ((cfg0.win 3).blk t).view.read (Elt Ideal) (V m c (Pipeline.arrRef spec0 3)) y = _
  show V m c main_v7 (((cfg0.win 3).blk t).view.emb y) = V m c main_v7 y
  congr 1
  blk_ext [i3 t]
theorem iblk4_eq (c : Dev nD) (t : Fin cfg0.N) : iblk m c 4 t = V m c main_v8 := by
  funext y
  show ((cfg0.win 4).blk t).view.read (Elt Ideal) (V m c (Pipeline.arrRef spec0 4)) y = _
  show V m c main_v8 (((cfg0.win 4).blk t).view.emb y) = V m c main_v8 y
  congr 1
  blk_ext [i4 t]
theorem iblk5_eq (c : Dev nD) (t : Fin cfg0.N) : iblk m c 5 t = V m c main_arg2 := by
  funext y
  show ((cfg0.win 5).blk t).view.read (Elt Ideal) (V m c (Pipeline.arrRef spec0 5)) y = _
  show V m c main_arg2 (((cfg0.win 5).blk t).view.emb y) = V m c main_arg2 y
  congr 1
  blk_ext [i5 t]
theorem iblk6_eq (c : Dev nD) (t : Fin cfg0.N) : iblk m c 6 t = V m c main_arg3 := by
  funext y
  show ((cfg0.win 6).blk t).view.read (Elt Ideal) (V m c (Pipeline.arrRef spec0 6)) y = _
  show V m c main_arg3 (((cfg0.win 6).blk t).view.emb y) = V m c main_arg3 y
  congr 1
  blk_ext [i6 t]
theorem iblk7_eq (c : Dev nD) (t : Fin cfg0.N) : iblk m c 7 t = V m c main_arg5 := by
  funext y
  show ((cfg0.win 7).blk t).view.read (Elt Ideal) (V m c (Pipeline.arrRef spec0 7)) y = _
  show V m c main_arg5 (((cfg0.win 7).blk t).view.emb y) = V m c main_arg5 y
  congr 1
  blk_ext [i7 t]

theorem arr_at (c : Dev nD) (b : Fin 2600) (h : Fin 16) (j : Fin 512) :
    ((dats m 0 c).arrAt 8 cfg0.N : S2600x16x512.Idx → EReal) (ix3 b h j)
    = k0_pay1 (F := Ideal) (k0_pay2 (V m c main_v6) (V m c main_v2)) (V m c main_arg2) (k0_pay5 (V m c main_v6) (V m c main_v2) (V m c main_v7) (V m c main_v8) (V m c main_v5))
      (k0_pay6 (V m c main_v7) (V m c main_v8) (V m c main_arg2) (V m c main_arg3)) (iota .tc S2600x16x256 32 [2] iota_S2600x16x256_d2_w32) (V m c main_arg5) (ix3 b h j) := by
  refine congrFun ((dats m 0 c).arrAt_eq_of_covers 8 (fun i => k0_pay1 (F := Ideal) (k0_pay2 (V m c main_v6) (V m c main_v2)) (V m c main_arg2) (k0_pay5 (V m c main_v6) (V m c main_v2) (V m c main_v7) (V m c main_v8) (V m c main_v5))
      (k0_pay6 (V m c main_v7) (V m c main_v8) (V m c main_arg2) (V m c main_arg3)) (iota .tc S2600x16x256 32 [2] iota_S2600x16x256_d2_w32) (V m c main_arg5) i) (by decide +kernel) fun t hf y => ?_) _
  rw [after0_8]
  rw [iblk0_eq, iblk1_eq, iblk2_eq, iblk3_eq, iblk4_eq, iblk5_eq, iblk6_eq, iblk7_eq]
  frame_out [out0_8]
  suffices hP : ∀ P : S2600x16x512.Idx → Elt Ideal .bf16, P ((cfg0.win 8).xinj (cfg0.grid.coords t) y) = P (((cfg0.win 8).blk t).view.emb y) from
    hP (k0_pay1 (F := Ideal) (k0_pay2 (V m c main_v6) (V m c main_v2)) (V m c main_arg2) (k0_pay5 (V m c main_v6) (V m c main_v2) (V m c main_v7) (V m c main_v8) (V m c main_v5))
      (k0_pay6 (V m c main_v7) (V m c main_v8) (V m c main_arg2) (V m c main_arg3)) (iota .tc S2600x16x256 32 [2] iota_S2600x16x256_d2_w32) (V m c main_arg5))
  intro P
  congr 1
  blk_ext [i8 t]

/-- The arguments, on one device. -/
abbrev a0 (c : Dev nD) : S2600x1x16x512.Idx → EReal := m ((c : Thread nD τ).loc main_arg0)
abbrev a1 (c : Dev nD) : S2600x1x16x64.Idx → EReal := m ((c : Thread nD τ).loc main_arg1)
abbrev a2 (c : Dev nD) : S2600x1x512.Idx → EReal := m ((c : Thread nD τ).loc main_arg2)
abbrev a3 (c : Dev nD) : S2600x1x64.Idx → EReal := m ((c : Thread nD τ).loc main_arg3)
abbrev a4 (c : Dev nD) : S2600x256x656.Idx → BitVec 8 := m ((c : Thread nD τ).loc main_arg4)
abbrev a5 (c : Dev nD) : S2600.Idx → BitVec 32 := m ((c : Thread nD τ).loc main_arg5)

theorem V7 (c : Dev nD) (b : Fin 2600) (h : Fin 16) (i : Fin 512) : (V m c main_v7 : S2600x16x512.Idx → EReal) (ix3 b h i) = a0 m c (ix4 b 0 h i) := by
  unfold a0
  simp only [V]
  after_reads_at
theorem V8 (c : Dev nD) (b : Fin 2600) (h : Fin 16) (i : Fin 64) : (V m c main_v8 : S2600x16x64.Idx → EReal) (ix3 b h i) = a1 m c (ix4 b 0 h i) := by
  unfold a1
  simp only [V]
  after_reads_at
theorem V6 (c : Dev nD) (b : Fin 2600) (k : Fin 256) (i : Fin 512) : (V m c main_v6 : S2600x256x512.Idx → BitVec 8) (ix3 b k i) = a4 m c (ix3 b k ⟨i, by omega⟩) := by
  unfold a4
  simp only [V]
  after_reads_at

theorem V2 (c : Dev nD) (b : Fin 2600) (k : Fin 256) (g : Fin 4) : (V m c main_v2 : S2600x256x4.Idx → EReal) (ix3 b k g) = Ideal.ofBits .f32 (wS (a4 m c) b k g) := by
  unfold wS bS a4
  simp only [V]
  after_reads_at
  rfl
theorem V5 (c : Dev nD) (b : Fin 2600) (k : Fin 256) (e : Fin 64) : (V m c main_v5 : S2600x256x64.Idx → EReal) (ix3 b k e) = Ideal.ofBits .bf16 (wR (a4 m c) b k e) := by
  unfold wR bR a4
  simp only [V]
  after_reads_at
  rfl

theorem spec_of (x0 : Vec Ideal S2600x256x512 .i8) (x1 : Vec Ideal S2600x256x4 .f32) (x2 : Vec Ideal S2600x256x64 .bf16) (x3 : Vec Ideal S2600x16x512 .bf16) (x4 : Vec Ideal S2600x16x64 .bf16)
    (x5 : Vec Ideal S2600x1x512 .bf16) (x6 : Vec Ideal S2600x1x64 .bf16) (x7 : Vec Ideal S2600 .i32) (x : S2600x1x16x512.Idx → EReal) (q : S2600x1x16x64.Idx → EReal) (a : Cache.Idx → BitVec 8)
    (h0 : ∀ b k (i : Fin 512), (x0 (ix3 b k i) : BitVec 8) = a (ix3 b k (⟨i, by omega⟩ : Fin 656))) (h1 : ∀ b k g, (x1 (ix3 b k g) : EReal) = Ideal.ofBits .f32 (wS a b k g))
    (h2 : ∀ b k e, (x2 (ix3 b k e) : EReal) = Ideal.ofBits .bf16 (wR a b k e)) (h3 : ∀ b h i, (x3 (ix3 b h i) : EReal) = x (ix4 b 0 h i)) (h4 : ∀ b h i, (x4 (ix3 b h i) : EReal) = q (ix4 b 0 h i))
    (b : Fin 2600) (h : Fin 16) (j : Fin 512) :
    k0_pay1 (F := Ideal) (k0_pay2 x0 x1) x5 (k0_pay5 x0 x1 x3 x4 x2) (k0_pay6 x3 x4 x5 x6) (iota .tc S2600x16x256 32 [2] iota_S2600x16x256_d2_w32) x7 (ix3 b h j)
    = spec x q x5 x6 a x7 b h j := by
  rw [out_at]
  unfold spec spScore spNew raw lat cS
  simp only [h0, h1, h2, h3, h4]

/-- The reference's result. -/
theorem ref_at (c : Dev nD) (b : Fin 2600) (h : Fin 16) (j : Fin 512) :
    ((dats m 0 c).arrAt 8 cfg0.N : S2600x16x512.Idx → EReal) (ix3 b h j) = spec (a0 m c) (a1 m c) (a2 m c) (a3 m c) (a4 m c) (a5 m c) b h j := by
  refine (arr_at m c b h j).trans ?_
  rw [V_main_arg2, V_main_arg3, V_main_arg5]
  exact spec_of _ _ _ _ _ _ _ _ (a0 m c) (a1 m c) (a4 m c) (V6 m c) (V2 m c) (V5 m c) (V7 m c) (V8 m c) b h j

end Cert.ReferenceIdeal.RefVal

end
-- ==== Proof.Alg.lean ====
/-
  The kernel and the reference end with the same result: each is the stated mathematics, element by element.
-/
module

public import proofs.«01_k».proof.Defs
public import proofs.«01_k».proof.Proof.Gen.KernelIdeal
public import proofs.«01_k».proof.Proof.Gen.ReferenceIdeal
public import proofs.«01_k».proof.Proof.KIn
public import proofs.«01_k».proof.Proof.KSpec
public import proofs.«01_k».proof.Proof.PreFin
public import proofs.«01_k».proof.Proof.RefArr
public import proofs.«01_k».proof.Proof.Gen.ReferenceIdeal.Value

@[expose] public section

set_option maxRecDepth 16384

noncomputable section

namespace Cert.Alg

open Idealize.ShloMosaic Idealize.ShloMosaic.TcCoe Idealize.SL.Sem
open Cert.Row

/-- The result, on one device. -/
def out (m : (ℓ : Loc Cert.KernelIdeal.nD Cert.KernelIdeal.τ Cert.KernelIdeal.sig) → Buf (Elt Ideal) ℓ) (c : Dev Cert.KernelIdeal.nD) :
    Cert.KernelIdeal.S2600x16x512.Idx → EReal :=
  fun i => spec (KernelIdeal.Hand.a0 m c) (KernelIdeal.Hand.a1 m c) (KernelIdeal.Hand.a2 m c) (KernelIdeal.Hand.a3 m c) (KernelIdeal.Hand.a4 m c) (KernelIdeal.Hand.a5 m c)
    (i 0) (i 1) (i 2)

theorem ext3 {f g : Cert.KernelIdeal.S2600x16x512.Idx → EReal} (h : ∀ (b : Fin 2600) (t : Fin 16) (j : Fin 512), f (ix3 b t j) = g (ix3 b t j)) : f = g := by
  funext i
  have e : i = ix3 (i 0) (i 1) (i 2) := by
    funext a
    match a with
    | 0 => rfl
    | 1 => rfl
    | 2 => rfl
  rw [e]
  exact h _ _ _

/-- The kernel's arrays, from its arguments. -/
theorem given (m : (ℓ : Loc Cert.KernelIdeal.nD Cert.KernelIdeal.τ Cert.KernelIdeal.sig) → Buf (Elt Ideal) ℓ) (c : Dev Cert.KernelIdeal.nD) :
    KernelIdeal.Hand.Given (KernelIdeal.Hand.V m c KernelIdeal.main_v0) (KernelIdeal.Hand.V m c KernelIdeal.main_v1) (KernelIdeal.Hand.V m c KernelIdeal.main_v3)
      (KernelIdeal.Hand.V m c KernelIdeal.main_v6) (KernelIdeal.Hand.V m c KernelIdeal.main_v4)
      (KernelIdeal.Hand.a0 m c) (KernelIdeal.Hand.a1 m c) (KernelIdeal.Hand.a2 m c) (KernelIdeal.Hand.a3 m c) (KernelIdeal.Hand.a4 m c) where
  kv := KernelIdeal.Hand.V0_at m c
  x := KernelIdeal.Hand.V1_at m c
  q := KernelIdeal.Hand.V3_at m c
  k := KernelIdeal.Hand.V6_at m c
  v := KernelIdeal.Hand.V4_at m c

theorem kernel_out (m : (ℓ : Loc Cert.KernelIdeal.nD Cert.KernelIdeal.τ Cert.KernelIdeal.sig) → Buf (Elt Ideal) ℓ) (c : Dev Cert.KernelIdeal.nD)
    (hF : Fins (KernelIdeal.Hand.a0 m c) (KernelIdeal.Hand.a1 m c) (KernelIdeal.Hand.a2 m c) (KernelIdeal.Hand.a3 m c) (KernelIdeal.Hand.a4 m c) (KernelIdeal.Hand.a5 m c))
    {W : Cert.KernelIdeal.S2600x16x512.Idx → EReal}
    (hW : KernelIdeal.Hand.OutOK (F := Ideal) c (KernelIdeal.Hand.V m c KernelIdeal.main_v0) (KernelIdeal.Hand.V m c KernelIdeal.main_v1) (KernelIdeal.Hand.V m c KernelIdeal.main_arg5)
      (KernelIdeal.Hand.V m c KernelIdeal.main_v3) (KernelIdeal.Hand.V m c KernelIdeal.main_v6) (KernelIdeal.Hand.V m c KernelIdeal.main_v4) W) :
    W = out m c := by
  rw [KernelIdeal.Hand.V_main_arg5 m c] at hW
  exact ext3 fun b t j => KernelIdeal.Hand.out_spec (given m c) hF hW b t j

theorem algebraic : @Cert.algebraic_KernelIdeal_ReferenceIdeal_pre_finite_inputs Cert.KernelIdeal.Gen.facts Cert.ReferenceIdeal.Gen.facts Cert.Pre_finite_inputs.facts := by
  intro m g m' g' hP hArg
  have hF : ∀ c, Fins (KernelIdeal.Hand.a0 m c) (KernelIdeal.Hand.a1 m c) (KernelIdeal.Hand.a2 m c) (KernelIdeal.Hand.a3 m c) (KernelIdeal.Hand.a4 m c) (KernelIdeal.Hand.a5 m c) :=
    fun c => @Cert.Pre_finite_inputs.fins Cert.Pre_finite_inputs.facts _ _ _ _ _ _ (hP c)
  refine ⟨out m, ?_, ?_⟩
  · refine (θ_run _ _ _).mono (fun r h c => ⟨kernel_out m c (hF c) (h.1 c).2, ?_⟩) (KernelIdeal.Hand.run_main m g)
    exact ⟨((h.1 c).1 Cert.KernelIdeal.main_arg0 (Finset.mem_sdiff.mpr ⟨Pipeline.mem_restRefs_of Cert.KernelIdeal.main_arg0 (by decide) (by decide), by decide⟩)).trans (KernelIdeal.Hand.V_main_arg0 m c),
      ((h.1 c).1 Cert.KernelIdeal.main_arg1 (Finset.mem_sdiff.mpr ⟨Pipeline.mem_restRefs_of Cert.KernelIdeal.main_arg1 (by decide) (by decide), by decide⟩)).trans (KernelIdeal.Hand.V_main_arg1 m c),
      ((h.1 c).1 Cert.KernelIdeal.main_arg2 (Finset.mem_sdiff.mpr ⟨Pipeline.mem_restRefs_of Cert.KernelIdeal.main_arg2 (by decide) (by decide), by decide⟩)).trans (KernelIdeal.Hand.V_main_arg2 m c),
      ((h.1 c).1 Cert.KernelIdeal.main_arg3 (Finset.mem_sdiff.mpr ⟨Pipeline.mem_restRefs_of Cert.KernelIdeal.main_arg3 (by decide) (by decide), by decide⟩)).trans (KernelIdeal.Hand.V_main_arg3 m c),
      ((h.1 c).1 Cert.KernelIdeal.main_arg4 (Finset.mem_sdiff.mpr ⟨Pipeline.mem_restRefs_of Cert.KernelIdeal.main_arg4 (by decide) (by decide), by decide⟩)).trans (KernelIdeal.Hand.V_main_arg4 m c),
      ((h.1 c).1 Cert.KernelIdeal.main_arg5 (Finset.mem_sdiff.mpr ⟨Pipeline.mem_restRefs_of Cert.KernelIdeal.main_arg5 (by decide) (by decide), by decide⟩)).trans (KernelIdeal.Hand.V_main_arg5 m c)⟩
  · refine (θ_run _ _ _).mono (fun r h c => ⟨(h c).1.trans ?_, (h c).2⟩) (Cert.ReferenceIdeal.Value.run_blocks m' g')
    obtain ⟨h0, h1, h2, h3, h4, h5⟩ := hArg c
    refine ext3 fun b t j => (Cert.ReferenceIdeal.RefVal.ref_at m' c b t j).trans ?_
    have e0 : Cert.ReferenceIdeal.RefVal.a0 m' c = KernelIdeal.Hand.a0 m c := h0
    have e1 : Cert.ReferenceIdeal.RefVal.a1 m' c = KernelIdeal.Hand.a1 m c := h1
    have e2 : Cert.ReferenceIdeal.RefVal.a2 m' c = KernelIdeal.Hand.a2 m c := h2
    have e3 : Cert.ReferenceIdeal.RefVal.a3 m' c = KernelIdeal.Hand.a3 m c := h3
    have e4 : Cert.ReferenceIdeal.RefVal.a4 m' c = KernelIdeal.Hand.a4 m c := h4
    have e5 : Cert.ReferenceIdeal.RefVal.a5 m' c = KernelIdeal.Hand.a5 m c := h5
    show spec (Cert.ReferenceIdeal.RefVal.a0 m' c) (Cert.ReferenceIdeal.RefVal.a1 m' c) (Cert.ReferenceIdeal.RefVal.a2 m' c) (Cert.ReferenceIdeal.RefVal.a3 m' c)
        (Cert.ReferenceIdeal.RefVal.a4 m' c) (Cert.ReferenceIdeal.RefVal.a5 m' c) b t j
      = spec (KernelIdeal.Hand.a0 m c) (KernelIdeal.Hand.a1 m c) (KernelIdeal.Hand.a2 m c) (KernelIdeal.Hand.a3 m c) (KernelIdeal.Hand.a4 m c) (KernelIdeal.Hand.a5 m c) b t j
    rw [e0, e1, e2, e3, e4, e5]

end Cert.Alg

end
-- ==== Proof.lean ====
/-
  The certificate: each program runs to the end and leaves its arguments and its counters as they were, the kernel's ideal
  reading is its own text, and the kernel and the reference end with the same result.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Frame
public import proofs.«01_k».proof.Proof.Gen.ReferenceIdeal.Value
public import proofs.«01_k».proof.Proof.Launch
public import proofs.«01_k».proof.Proof.Same
public import proofs.«01_k».proof.Proof.PreFin
public import proofs.«01_k».proof.Proof.Alg
public import Idealize.ShloMosaic.Adequacy
public import Idealize.ShloMosaic.Init

@[expose] public section

noncomputable section

namespace Cert.Proof

open Idealize.ShloMosaic Idealize.ShloMosaic.TcCoe

theorem claim : Cert.Claim :=
  ⟨Cert.Kernel.Gen.facts, Cert.KernelIdeal.Gen.facts, Cert.ReferenceIdeal.Gen.facts, Cert.Pre_finite_inputs.facts,
    fun m g _ => Cert.Same.frame m g,
    fun m g _ => Cert.KernelIdeal.Hand.frame m g,
    fun m g _ => Cert.KernelIdeal.Hand.frame m g,
    fun m g _ => Cert.ReferenceIdeal.Gen.frame m g,
    fun m g _ => Cert.ReferenceIdeal.Gen.frame m g,
    trivial,
    Cert.Alg.algebraic⟩

end Cert.Proof

end
